-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_5) = v0 c
          ∧ r.2.mem ((c.tc : Thread Cert.ReferenceIdeal.nD Cert.ReferenceIdeal.τ).loc Cert.ReferenceIdeal.main_v8_6) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)) (v3 : (c : Dev Cert.Kernel13Ideal.nD) → Buf (Elt Ideal) ((c.tc : Thread Cert.Kernel13Ideal.nD Cert.Kernel13Ideal.τ).loc Cert.Kernel13Ideal.main_v2_3)) (v4 : (c : Dev Cert.Kernel13Ideal.nD) → Buf (Elt Ideal) ((c.tc : Thread Cert.Kernel13Ideal.nD Cert.Kernel13Ideal.τ).loc Cert.Kernel13Ideal.main_v2_4)) (v5 : (c : Dev Cert.Kernel13Ideal.nD) → Buf (Elt Ideal) ((c.tc : Thread Cert.Kernel13Ideal.nD Cert.Kernel13Ideal.τ).loc Cert.Kernel13Ideal.main_v2_5)) (v6 : (c : Dev Cert.Kernel13Ideal.nD) → Buf (Elt Ideal) ((c.tc : Thread Cert.Kernel13Ideal.nD Cert.Kernel13Ideal.τ).loc Cert.Kernel13Ideal.main_v2_6)) (v7 : (c : Dev Cert.Kernel13Ideal.nD) → Buf (Elt Ideal) ((c.tc : Thread Cert.Kernel13Ideal.nD Cert.Kernel13Ideal.τ).loc Cert.Kernel13Ideal.main_v2_7)) (v8 : (c : Dev Cert.Kernel13Ideal.nD) → Buf (Elt Ideal) ((c.tc : Thread Cert.Kernel13Ideal.nD Cert.Kernel13Ideal.τ).loc Cert.Kernel13Ideal.main_v2_8)) (v9 : (c : Dev Cert.Kernel13Ideal.nD) → Buf (Elt Ideal) ((c.tc : Thread Cert.Kernel13Ideal.nD Cert.Kernel13Ideal.τ).loc Cert.Kernel13Ideal.main_v2_9)) (v10 : (c : Dev Cert.Kernel13Ideal.nD) → Buf (Elt Ideal) ((c.tc : Thread Cert.Kernel13Ideal.nD Cert.Kernel13Ideal.τ).loc Cert.Kernel13Ideal.main_v2_10)) (v11 : (c : Dev Cert.Kernel13Ideal.nD) → Buf (Elt Ideal) ((c.tc : Thread Cert.Kernel13Ideal.nD Cert.Kernel13Ideal.τ).loc Cert.Kernel13Ideal.main_v2_11)) (v12 : (c : Dev Cert.Kernel13Ideal.nD) → Buf (Elt Ideal) ((c.tc : Thread Cert.Kernel13Ideal.nD Cert.Kernel13Ideal.τ).loc Cert.Kernel13Ideal.main_v2_12)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_v2_3) = v3 c
          ∧ r.2.mem ((c.tc : Thread Cert.Kernel13Ideal.nD Cert.Kernel13Ideal.τ).loc Cert.Kernel13Ideal.main_v2_4) = v4 c
          ∧ r.2.mem ((c.tc : Thread Cert.Kernel13Ideal.nD Cert.Kernel13Ideal.τ).loc Cert.Kernel13Ideal.main_v2_5) = v5 c
          ∧ r.2.mem ((c.tc : Thread Cert.Kernel13Ideal.nD Cert.Kernel13Ideal.τ).loc Cert.Kernel13Ideal.main_v2_6) = v6 c
          ∧ r.2.mem ((c.tc : Thread Cert.Kernel13Ideal.nD Cert.Kernel13Ideal.τ).loc Cert.Kernel13Ideal.main_v2_7) = v7 c
          ∧ r.2.mem ((c.tc : Thread Cert.Kernel13Ideal.nD Cert.Kernel13Ideal.τ).loc Cert.Kernel13Ideal.main_v2_8) = v8 c
          ∧ r.2.mem ((c.tc : Thread Cert.Kernel13Ideal.nD Cert.Kernel13Ideal.τ).loc Cert.Kernel13Ideal.main_v2_9) = v9 c
          ∧ r.2.mem ((c.tc : Thread Cert.Kernel13Ideal.nD Cert.Kernel13Ideal.τ).loc Cert.Kernel13Ideal.main_v2_10) = v10 c
          ∧ r.2.mem ((c.tc : Thread Cert.Kernel13Ideal.nD Cert.Kernel13Ideal.τ).loc Cert.Kernel13Ideal.main_v2_11) = v11 c
          ∧ r.2.mem ((c.tc : Thread Cert.Kernel13Ideal.nD Cert.Kernel13Ideal.τ).loc Cert.Kernel13Ideal.main_v2_12) = v12 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v2) = v1 c
          ∧ r.2.mem ((c.tc : Thread Cert.Reference13Ideal.nD Cert.Reference13Ideal.τ).loc Cert.Reference13Ideal.main_v3) = v2 c
          ∧ r.2.mem ((c.tc : Thread Cert.Reference13Ideal.nD Cert.Reference13Ideal.τ).loc Cert.Reference13Ideal.main_v4) = v3 c
          ∧ r.2.mem ((c.tc : Thread Cert.Reference13Ideal.nD Cert.Reference13Ideal.τ).loc Cert.Reference13Ideal.main_v5) = v4 c
          ∧ r.2.mem ((c.tc : Thread Cert.Reference13Ideal.nD Cert.Reference13Ideal.τ).loc Cert.Reference13Ideal.main_v6) = v5 c
          ∧ r.2.mem ((c.tc : Thread Cert.Reference13Ideal.nD Cert.Reference13Ideal.τ).loc Cert.Reference13Ideal.main_v7) = v6 c
          ∧ r.2.mem ((c.tc : Thread Cert.Reference13Ideal.nD Cert.Reference13Ideal.τ).loc Cert.Reference13Ideal.main_v8) = v7 c
          ∧ r.2.mem ((c.tc : Thread Cert.Reference13Ideal.nD Cert.Reference13Ideal.τ).loc Cert.Reference13Ideal.main_v9) = v8 c
          ∧ r.2.mem ((c.tc : Thread Cert.Reference13Ideal.nD Cert.Reference13Ideal.τ).loc Cert.Reference13Ideal.main_v10) = v9 c
          ∧ r.2.mem ((c.tc : Thread Cert.Reference13Ideal.nD Cert.Reference13Ideal.τ).loc Cert.Reference13Ideal.main_v11) = v10 c
          ∧ r.2.mem ((c.tc : Thread Cert.Reference13Ideal.nD Cert.Reference13Ideal.τ).loc Cert.Reference13Ideal.main_v12) = v11 c
          ∧ r.2.mem ((c.tc : Thread Cert.Reference13Ideal.nD Cert.Reference13Ideal.τ).loc Cert.Reference13Ideal.main_v13) = v12 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S1x1024 .f32) (main_arg3 : FVec F S8192x1024 .f32) (main_arg4 : FVec F S1x1024 .f32) : IVec S8192x1024 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Kernel.lean ====
abbrev S8192x1024 : Shape := ⟨2, ![8192, 1024]⟩
abbrev S1x1024 : Shape := ⟨2, ![1, 1024]⟩
abbrev S256x1024 : Shape := ⟨2, ![256, 1024]⟩
abbrev S8x1024 : Shape := ⟨2, ![8, 1024]⟩

abbrev nBuf : Space → Nat
  | .hbm => 11
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S8x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | .local _ .vmem, ⟨23, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_2 : BitVec 32 := 0#32
  let c32_i32 : BitVec 32 := 32#32
  let v5 : BitVec 32 := Scalar.addi c0_i32_2 c32_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg8 : BitVec 32 := Scf.iv c0_i32_2 c1_i32 k0_t1
  let c8_i32 : BitVec 32 := 8#32
  let v12 : BitVec 32 := Scalar.muli arg8 c8_i32
  v12
def k0_off1 (k0_t1 : Fin k0_t1_loop.trips) : Fin 2 → Nat :=
  let c0_i32_2 : BitVec 32 := 0#32
  let c1_i32 : BitVec 32 := 1#32
  let arg8 : BitVec 32 := Scf.iv c0_i32_2 c1_i32 k0_t1
  let c8_i32 : BitVec 32 := 8#32
  let v12 : BitVec 32 := Scalar.muli arg8 c8_i32
  let v13 : BitVec 32 := v12
  let v14 : Index := Scalar.indexCast v13
  let c0_10 : Index := 0#32
  ![v14.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

@[reducible] def k1_t1_loop : Scf.Loop 32 :=
  let c0_i32_2 : BitVec 32 := 0#32
  let c32_i32 : BitVec 32 := 32#32
  let v5 : BitVec 32 := Scalar.addi c0_i32_2 c32_i32
  let c1_i32 : BitVec 32 := 1#32
  ⟨c0_i32_2, v5, c1_i32⟩
def k1_mult1 (k1_t1 : Fin k1_t1_loop.trips) : BitVec 32 :=
  let c31_i32 : BitVec 32 := 31#32
  let c0_i32_2 : BitVec 32 := 0#32
  let c1_i32 : BitVec 32 := 1#32
  let arg9 : BitVec 32 := Scf.iv c0_i32_2 c1_i32 k1_t1
  let v12 : BitVec 32 := Scalar.subi c31_i32 arg9
  let c8_i32 : BitVec 32 := 8#32
  let v13 : BitVec 32 := Scalar.muli v12 c8_i32
  v13
def k1_off1 (k1_t1 : Fin k1_t1_loop.trips) : Fin 2 → Nat :=
  let c31_i32 : BitVec 32 := 31#32
  let c0_i32_2 : BitVec 32 := 0#32
  let c1_i32 : BitVec 32 := 1#32
  let arg9 : BitVec 32 := Scf.iv c0_i32_2 c1_i32 k1_t1
  let v12 : BitVec 32 := Scalar.subi c31_i32 arg9
  let c8_i32 : BitVec 32 := 8#32
  let v13 : BitVec 32 := Scalar.muli v12 c8_i32
  let v14 : BitVec 32 := v13
  let v15 : Index := Scalar.indexCast v14
  let c0_10 : Index := 0#32
  ![v15.toNat, 0]
def cc1_transform_0 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S_, .i32⟩
  | .hbm, ⟨11, _⟩ => ⟨S8192x1024, .f32⟩
  | .hbm, ⟨12, _⟩ => ⟨S8192x1024, .f32⟩
  | .hbm, ⟨13, _⟩ => ⟨S_, .i32⟩
  | .hbm, ⟨14, _⟩ => ⟨S1024, .f32⟩
  | .hbm, ⟨15, _⟩ => ⟨S8192x1024, .f32⟩
  | .hbm, ⟨16, _⟩ => ⟨S8192x1024, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S1x1024, .f32⟩
  | .hbm, ⟨21, _⟩ => ⟨S1024, .f32⟩
  | .hbm, ⟨22, _⟩ => ⟨S_, .i32⟩
  | .hbm, ⟨23, _⟩ => ⟨S1x1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S_, .i32⟩
  | .hbm, ⟨29, _⟩ => ⟨S8192x1024, .f32⟩
  | .hbm, ⟨30, _⟩ => ⟨S1x1024, .f32⟩
  | .hbm, ⟨31, _⟩ => ⟨S_, .i32⟩
  | .hbm, ⟨32, _⟩ => ⟨S8192x1024, .f32⟩
  | .hbm, ⟨33, _⟩ => ⟨S_, .i32⟩
  | .hbm, ⟨34, _⟩ => ⟨S_, .i32⟩
  | .hbm, ⟨35, _⟩ => ⟨S1x1024, .f32⟩
  | .hbm, ⟨36, _⟩ => ⟨S_, .f32⟩
  | .hbm, ⟨37, _⟩ => ⟨S1024, .f32⟩
  | .hbm, ⟨38, _⟩ => ⟨S_, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S_, .i32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .i32⟩
  | .hbm, ⟨47, _⟩ => ⟨S1024, .f32⟩
  | .hbm, ⟨48, _⟩ => ⟨S8192x1024, .f32⟩
  | .hbm, ⟨49, _⟩ => ⟨S8192x1024, .f32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x1024, .f32⟩
  | .hbm, ⟨58, _⟩ => ⟨S1024, .f32⟩
  | .hbm, ⟨59, _⟩ => ⟨S_, .i32⟩
  | .hbm, ⟨60, _⟩ => ⟨S1x1024, .f32⟩
  | .hbm, ⟨61, _⟩ => ⟨S1024, .f32⟩
  | .hbm, ⟨62, _⟩ => ⟨S_, .i32⟩
  | .hbm, ⟨63, _⟩ => ⟨S1x1024, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S1024, .f32⟩
  | .hbm, ⟨68, _⟩ => ⟨S1x1024, .f32⟩
  | .hbm, ⟨69, _⟩ => ⟨S_, .i32⟩
  | .hbm, ⟨70, _⟩ => ⟨S8192x1024, .f32⟩
  | .hbm, ⟨71, _⟩ => ⟨S1x1024, .f32⟩
  | .hbm, ⟨72, _⟩ => ⟨S_, .i32⟩
  | .hbm, ⟨73, _⟩ => ⟨S8192x1024, .f32⟩
  | .hbm, ⟨74, _⟩ => ⟨S_, .i32⟩
  | .hbm, ⟨75, _⟩ => ⟨S_, .i32⟩
  | .hbm, ⟨76, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_c : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_while0c_c_10 : Ref sig .tc := ⟨.hbm, 17, rfl⟩
abbrev main_while0c_v10 : Ref sig .tc := ⟨.hbm, 18, rfl⟩
abbrev main_while0b_call0_c : Ref sig .tc := ⟨.hbm, 19, rfl⟩
abbrev main_while0b_call0_v0 : Ref sig .tc := ⟨.hbm, 20, rfl⟩
abbrev main_while0b_v10 : Ref sig .tc := ⟨.hbm, 21, rfl⟩
abbrev main_while0b_call1_c : Ref sig .tc := ⟨.hbm, 22, rfl⟩
abbrev main_while0b_call1_v0 : Ref sig .tc := ⟨.hbm, 23, rfl⟩
abbrev main_while0b_v11 : Ref sig .tc := ⟨.hbm, 24, rfl⟩
abbrev main_while0b_v12 : Ref sig .tc := ⟨.hbm, 25, rfl⟩
abbrev main_while0b_v13 : Ref sig .tc := ⟨.hbm, 26, rfl⟩
abbrev main_while0b_call2_v0 : Ref sig .tc := ⟨.hbm, 27, rfl⟩
abbrev main_while0b_call2_c : Ref sig .tc := ⟨.hbm, 28, rfl⟩
abbrev main_while0b_v14 : Ref sig .tc := ⟨.hbm, 29, rfl⟩
abbrev main_while0b_call3_v0 : Ref sig .tc := ⟨.hbm, 30, rfl⟩
abbrev main_while0b_call3_c : Ref sig .tc := ⟨.hbm, 31, rfl⟩
abbrev main_while0b_v15 : Ref sig .tc := ⟨.hbm, 32, rfl⟩
abbrev main_while0b_c_10 : Ref sig .tc := ⟨.hbm, 33, rfl⟩
abbrev main_while0b_v16 : Ref sig .tc := ⟨.hbm, 34, rfl⟩
abbrev main_v4 : Ref sig .tc := ⟨.hbm, 35, rfl⟩
abbrev main_cst_1 : Ref sig .tc := ⟨.hbm, 36, rfl⟩
abbrev main_v5 : Ref sig .tc := ⟨.hbm, 37, rfl⟩
abbrev main_cst_2 : Ref sig .tc := ⟨.hbm, 38, rfl⟩
abbrev main_v6 : Ref sig .tc := ⟨.hbm, 39, rfl⟩
abbrev main_cst_3 : Ref sig .tc := ⟨.hbm, 40, rfl⟩
abbrev main_v7 : Ref sig .tc := ⟨.hbm, 41, rfl⟩
abbrev main_c_4 : Ref sig .tc := ⟨.hbm, 42, rfl⟩
abbrev main_v8_0 : Ref sig .tc := ⟨.hbm, 43, rfl⟩
abbrev main_v8_1 : Ref sig .tc := ⟨.hbm, 44, rfl⟩
abbrev main_v8_2 : Ref sig .tc := ⟨.hbm, 45, rfl⟩
abbrev main_v8_3 : Ref sig .tc := ⟨.hbm, 46, rfl⟩
abbrev main_v8_4 : Ref sig .tc := ⟨.hbm, 47, rfl⟩
abbrev main_v8_5 : Ref sig .tc := ⟨.hbm, 48, rfl⟩
abbrev main_v8_6 : Ref sig .tc := ⟨.hbm, 49, rfl⟩
abbrev main_while1c_c_11 : Ref sig .tc := ⟨.hbm, 50, rfl⟩
abbrev main_while1c_v10 : Ref sig .tc := ⟨.hbm, 51, rfl⟩
abbrev main_while1b_c_11 : Ref sig .tc := ⟨.hbm, 52, rfl⟩
abbrev main_while1b_v10 : Ref sig .tc := ⟨.hbm, 53, rfl⟩
abbrev main_while1b_c_12 : Ref sig .tc := ⟨.hbm, 54, rfl⟩
abbrev main_while1b_v11 : Ref sig .tc := ⟨.hbm, 55, rfl⟩
abbrev main_while1b_call4_c : Ref sig .tc := ⟨.hbm, 56, rfl⟩
abbrev main_while1b_call4_v0 : Ref sig .tc := ⟨.hbm, 57, rfl⟩
abbrev main_while1b_v12 : Ref sig .tc := ⟨.hbm, 58, rfl⟩
abbrev main_while1b_call5_c : Ref sig .tc := ⟨.hbm, 59, rfl⟩
abbrev main_while1b_call5_v0 : Ref sig .tc := ⟨.hbm, 60, rfl⟩
abbrev main_while1b_v13 : Ref sig .tc := ⟨.hbm, 61, rfl⟩
abbrev main_while1b_call6_c : Ref sig .tc := ⟨.hbm, 62, rfl⟩
abbrev main_while1b_call6_v0 : Ref sig .tc := ⟨.hbm, 63, rfl⟩
abbrev main_while1b_v14 : Ref sig .tc := ⟨.hbm, 64, rfl⟩
abbrev main_while1b_v15 : Ref sig .tc := ⟨.hbm, 65, rfl⟩
abbrev main_while1b_v16 : Ref sig .tc := ⟨.hbm, 66, rfl⟩
abbrev main_while1b_v17 : Ref sig .tc := ⟨.hbm, 67, rfl⟩
abbrev main_while1b_call7_v0 : Ref sig .tc := ⟨.hbm, 68, rfl⟩
abbrev main_while1b_call7_c : Ref sig .tc := ⟨.hbm, 69, rfl⟩
abbrev main_while1b_v18 : Ref sig .tc := ⟨.hbm, 70, rfl⟩
abbrev main_while1b_call8_v0 : Ref sig .tc := ⟨.hbm, 71, rfl⟩
abbrev main_while1b_call8_c : Ref sig .tc := ⟨.hbm, 72, rfl⟩
abbrev main_while1b_v19 : Ref sig .tc := ⟨.hbm, 73, rfl⟩
abbrev main_while1b_c_13 : Ref sig .tc := ⟨.hbm, 74, rfl⟩
abbrev main_while1b_v20 : Ref sig .tc := ⟨.hbm, 75, rfl⟩
abbrev main_v9 : Ref sig .tc := ⟨.hbm, 76, rfl⟩

abbrev nD : Nat := 1
abbrev τ : Topo := Topo.v7x

variable {F : FTy → Type} [FloatOps F]

abbrev main_while0_count : Scf.Loop 32 := ⟨0#32, 8192#32, 1#32⟩

abbrev main_while1_count : Scf.Loop 32 := ⟨0#32, 8192#32, 1#32⟩
-- ==== Kernel2.lean ====
abbrev S4096x1024 : Shape := ⟨2, ![4096, 1024]⟩
abbrev S8192x1024 : Shape := ⟨2, ![8192, 1024]⟩
abbrev S8192x4096 : Shape := ⟨2, ![8192, 4096]⟩
abbrev S512x4096 : Shape := ⟨2, ![512, 4096]⟩
abbrev S2x512x1024 : Shape := ⟨3, ![2, 512, 1024]⟩
abbrev S2 : Shape := ⟨1, ![2]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩

abbrev nBuf : Space → Nat
  | .hbm => 5
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S4096x1024, .bf16⟩
  | .hbm, ⟨3, _⟩ => ⟨S8192x1024, .bf16⟩
  | .hbm, ⟨4, _⟩ => ⟨S8192x4096, .f32⟩
  | .local _ .vmem, ⟨0, _⟩ => ⟨S4096x1024, .bf16⟩
  | .local _ .vmem, ⟨1, _⟩ => ⟨S512x4096, .f32⟩
  | .local _ .vmem, ⟨2, _⟩ => ⟨S512x4096, .f32⟩
  | .local _ .vmem, ⟨3, _⟩ => ⟨S2x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

def k0_mult1 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_23 : BitVec 32 := 1#32
  let v45 : BitVec 32 := Scalar.remsi v1 c1_i32_23
  let c0_i32_24 : BitVec 32 := 0#32
  let v46 : BitVec 32 := Scalar.subi v45 c0_i32_24
  let c1024_i32 : BitVec 32 := 1024#32
  let v47 : BitVec 32 := Scalar.muli v46 c1024_i32
  v47
def k0_cond2 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_23 : BitVec 32 := 1#32
  let v45 : BitVec 32 := Scalar.remsi v1 c1_i32_23
  let c0_i32_25 : BitVec 32 := 0#32
  let v49 : BitVec 1 := Scalar.cmpi .sge v45 c0_i32_25
  let c1_i32_26 : BitVec 32 := 1#32
  let v50 : BitVec 1 := Scalar.cmpi .slt v45 c1_i32_26
  let v51 : BitVec 1 := Scalar.andi v49 v50
  let v52 : BitVec 32 := Scalar.extui v51
  let c0_i32_27 : BitVec 32 := 0#32
  let v53 : BitVec 1 := Scalar.cmpi .ne v52 c0_i32_27
  v53

def k0_mult2 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_17 : BitVec 32 := 0#32
  let v29 : BitVec 1 := Scalar.cmpi .sgt v1 c0_i32_17
  let v30 : BitVec 32 := Scalar.extui v29
  let c0_i32_18 : BitVec 32 := 0#32
  let v31 : BitVec 1 := Scalar.cmpi .slt v1 c0_i32_18
  let v32 : BitVec 32 := Scalar.extui v31
  let v33 : BitVec 32 := Scalar.subi v30 v32
  let c1_i32_16 : BitVec 32 := 1#32
  let c0_i32_19 : BitVec 32 := 0#32
  let v34 : BitVec 1 := Scalar.cmpi .sgt c1_i32_16 c0_i32_19
  let v35 : BitVec 32 := Scalar.extui v34
  let c0_i32_20 : BitVec 32 := 0#32
  let v36 : BitVec 1 := Scalar.cmpi .slt c1_i32_16 c0_i32_20
  let v37 : BitVec 32 := Scalar.extui v36
  let v38 : BitVec 32 := Scalar.subi v35 v37
  let v39 : BitVec 1 := Scalar.cmpi .ne v33 v38
  let v40 : BitVec 32 := Scalar.remsi v1 c1_i32_16
  let c0_i32_21 : BitVec 32 := 0#32
  let v41 : BitVec 1 := Scalar.cmpi .ne v40 c0_i32_21
  let v42 : BitVec 1 := Scalar.andi v39 v41
  let v28 : BitVec 32 := Scalar.divsi v1 c1_i32_16
  let c1_i32_22 : BitVec 32 := 1#32
  let v43 : BitVec 32 := Scalar.subi v28 c1_i32_22
  let v44 : BitVec 32 := Scalar.select v42 v43 v28
  let c512_i32 : BitVec 32 := 512#32
  let v54 : BitVec 32 := Scalar.muli v44 c512_i32
  v54
def k0_off1 (i : grid0.Coords) : Fin 1 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_28 : BitVec 32 := 0#32
  let c0_i32_29 : BitVec 32 := 0#32
  ![v2.toNat, 0, 0]
def k0_off3 (i : grid0.Coords) : Fin 2 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_17 : BitVec 32 := 0#32
  let v29 : BitVec 1 := Scalar.cmpi .sgt v1 c0_i32_17
  let v30 : BitVec 32 := Scalar.extui v29
  let c0_i32_18 : BitVec 32 := 0#32
  let v31 : BitVec 1 := Scalar.cmpi .slt v1 c0_i32_18
  let v32 : BitVec 32 := Scalar.extui v31
  let v33 : BitVec 32 := Scalar.subi v30 v32
  let c1_i32_16 : BitVec 32 := 1#32
  let c0_i32_19 : BitVec 32 := 0#32
  let v34 : BitVec 1 := Scalar.cmpi .sgt c1_i32_16 c0_i32_19
  let v35 : BitVec 32 := Scalar.extui v34
  let c0_i32_20 : BitVec 32 := 0#32
  let v36 : BitVec 1 := Scalar.cmpi .slt c1_i32_16 c0_i32_20
  let v37 : BitVec 32 := Scalar.extui v36
  let v38 : BitVec 32 := Scalar.subi v35 v37
  let v39 : BitVec 1 := Scalar.cmpi .ne v33 v38
  let v40 : BitVec 32 := Scalar.remsi v1 c1_i32_16
  let c0_i32_21 : BitVec 32 := 0#32
  let v41 : BitVec 1 := Scalar.cmpi .ne v40 c0_i32_21
  let v42 : BitVec 1 := Scalar.andi v39 v41
  let v28 : BitVec 32 := Scalar.divsi v1 c1_i32_16
  let c1_i32_22 : BitVec 32 := 1#32
  let v43 : BitVec 32 := Scalar.subi v28 c1_i32_22
  let v44 : BitVec 32 := Scalar.select v42 v43 v28
  let c512_i32 : BitVec 32 := 512#32
  let v54 : BitVec 32 := Scalar.muli v44 c512_i32
  let v55 : BitVec 32 := v54
  let c1_i32_23 : BitVec 32 := 1#32
  let v45 : BitVec 32 := Scalar.remsi v1 c1_i32_23
  let c0_i32_24 : BitVec 32 := 0#32
  let v46 : BitVec 32 := Scalar.subi v45 c0_i32_24
  let c1024_i32 : BitVec 32 := 1024#32
  let v47 : BitVec 32 := Scalar.muli v46 c1024_i32
  let v48 : BitVec 32 := v47
  ![v55.toNat, v48.toNat]
def k0_cond3 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_1 : BitVec 32 := 1#32
  let v6 : BitVec 32 := Scalar.addi v1 c1_i32_1
  let c16_i32 : BitVec 32 := 16#32
  let v7 : BitVec 1 := Scalar.cmpi .slt v6 c16_i32
  let v8 : BitVec 32 := Scalar.extui v7
  let c0_i32_2 : BitVec 32 := 0#32
  let v9 : BitVec 1 := Scalar.cmpi .ne v8 c0_i32_2
  v9

def k0_mult3 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c1_i32_25 : BitVec 32 := 1#32
  let v47 : BitVec 32 := Scalar.remsi v28 c1_i32_25
  let c0_i32_26 : BitVec 32 := 0#32
  let v48 : BitVec 32 := Scalar.subi v47 c0_i32_26
  let c1024_i32 : BitVec 32 := 1024#32
  let v49 : BitVec 32 := Scalar.muli v48 c1024_i32
  v49
def k0_cond4 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c1_i32_25 : BitVec 32 := 1#32
  let v47 : BitVec 32 := Scalar.remsi v28 c1_i32_25
  let c0_i32_27 : BitVec 32 := 0#32
  let v51 : BitVec 1 := Scalar.cmpi .sge v47 c0_i32_27
  let c1_i32_28 : BitVec 32 := 1#32
  let v52 : BitVec 1 := Scalar.cmpi .slt v47 c1_i32_28
  let v53 : BitVec 1 := Scalar.andi v51 v52
  let v54 : BitVec 32 := Scalar.extui v53
  let c0_i32_29 : BitVec 32 := 0#32
  let v55 : BitVec 1 := Scalar.cmpi .ne v54 c0_i32_29
  v55

def k0_mult4 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c0_i32_19 : BitVec 32 := 0#32
  let v31 : BitVec 1 := Scalar.cmpi .sgt v28 c0_i32_19
  let v32 : BitVec 32 := Scalar.extui v31
  let c0_i32_20 : BitVec 32 := 0#32
  let v33 : BitVec 1 := Scalar.cmpi .slt v28 c0_i32_20
  let v34 : BitVec 32 := Scalar.extui v33
  let v35 : BitVec 32 := Scalar.subi v32 v34
  let c1_i32_18 : BitVec 32 := 1#32
  let c0_i32_21 : BitVec 32 := 0#32
  let v36 : BitVec 1 := Scalar.cmpi .sgt c1_i32_18 c0_i32_21
  let v37 : BitVec 32 := Scalar.extui v36
  let c0_i32_22 : BitVec 32 := 0#32
  let v38 : BitVec 1 := Scalar.cmpi .slt c1_i32_18 c0_i32_22
  let v39 : BitVec 32 := Scalar.extui v38
  let v40 : BitVec 32 := Scalar.subi v37 v39
  let v41 : BitVec 1 := Scalar.cmpi .ne v35 v40
  let v42 : BitVec 32 := Scalar.remsi v28 c1_i32_18
  let c0_i32_23 : BitVec 32 := 0#32
  let v43 : BitVec 1 := Scalar.cmpi .ne v42 c0_i32_23
  let v44 : BitVec 1 := Scalar.andi v41 v43
  let v30 : BitVec 32 := Scalar.divsi v28 c1_i32_18
  let c1_i32_24 : BitVec 32 := 1#32
  let v45 : BitVec 32 := Scalar.subi v30 c1_i32_24
  let v46 : BitVec 32 := Scalar.select v44 v45 v30
  let c512_i32 : BitVec 32 := 512#32
  let v56 : BitVec 32 := Scalar.muli v46 c512_i32
  v56
def k0_off4 (i : grid0.Coords) : Fin 1 → Nat :=
  let c1_i32_17 : BitVec 32 := 1#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_17 v2
  ![v29.toNat]
def k0_off5 (i : grid0.Coords) : Fin 3 → Nat :=
  let c1_i32_17 : BitVec 32 := 1#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_17 v2
  let c0_i32_30 : BitVec 32 := 0#32
  let c0_i32_31 : BitVec 32 := 0#32
  ![v29.toNat, 0, 0]
def k0_off6 (i : grid0.Coords) : Fin 2 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c0_i32_19 : BitVec 32 := 0#32
  let v31 : BitVec 1 := Scalar.cmpi .sgt v28 c0_i32_19
  let v32 : BitVec 32 := Scalar.extui v31
  let c0_i32_20 : BitVec 32 := 0#32
  let v33 : BitVec 1 := Scalar.cmpi .slt v28 c0_i32_20
  let v34 : BitVec 32 := Scalar.extui v33
  let v35 : BitVec 32 := Scalar.subi v32 v34
  let c1_i32_18 : BitVec 32 := 1#32
  let c0_i32_21 : BitVec 32 := 0#32
  let v36 : BitVec 1 := Scalar.cmpi .sgt c1_i32_18 c0_i32_21
  let v37 : BitVec 32 := Scalar.extui v36
  let c0_i32_22 : BitVec 32 := 0#32
  let v38 : BitVec 1 := Scalar.cmpi .slt c1_i32_18 c0_i32_22
  let v39 : BitVec 32 := Scalar.extui v38
  let v40 : BitVec 32 := Scalar.subi v37 v39
  let v41 : BitVec 1 := Scalar.cmpi .ne v35 v40
  let v42 : BitVec 32 := Scalar.remsi v28 c1_i32_18
  let c0_i32_23 : BitVec 32 := 0#32
  let v43 : BitVec 1 := Scalar.cmpi .ne v42 c0_i32_23
  let v44 : BitVec 1 := Scalar.andi v41 v43
  let v30 : BitVec 32 := Scalar.divsi v28 c1_i32_18
  let c1_i32_24 : BitVec 32 := 1#32
  let v45 : BitVec 32 := Scalar.subi v30 c1_i32_24
  let v46 : BitVec 32 := Scalar.select v44 v45 v30
  let c512_i32 : BitVec 32 := 512#32
  let v56 : BitVec 32 := Scalar.muli v46 c512_i32
  let v57 : BitVec 32 := v56
  let c1_i32_25 : BitVec 32 := 1#32
  let v47 : BitVec 32 := Scalar.remsi v28 c1_i32_25
  let c0_i32_26 : BitVec 32 := 0#32
  let v48 : BitVec 32 := Scalar.subi v47 c0_i32_26
  let c1024_i32 : BitVec 32 := 1024#32
  let v49 : BitVec 32 := Scalar.muli v48 c1024_i32
  let v50 : BitVec 32 := v49
  ![v57.toNat, v50.toNat]
def k0_off7 (i : grid0.Coords) : Fin 1 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_3 : BitVec 32 := 0#32
  let c0_i32_4 : BitVec 32 := 0#32
  ![v2.toNat, 0, 0]
def k0_off9 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v20 : Index := Scalar.indexCast v2
  let c0_10 : Index := 0#32
  let c0_11 : Index := 0#32
  ![v20.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== Reference2Ideal.lean ====
abbrev S4096x1024 : Shape := ⟨2, ![4096, 1024]⟩
abbrev S8192x1024 : Shape := ⟨2, ![8192, 1024]⟩
abbrev S_ : Shape := ⟨0, ![]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .hbm, ⟨2, _⟩ => ⟨S_, .f32⟩
  | .hbm, ⟨3, _⟩ => ⟨S8192x4096, .f32⟩
  | .hbm, ⟨4, _⟩ => ⟨S8192x1024, .f32⟩
  | .hbm, ⟨5, _⟩ => ⟨S8192x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S512x4096 : Shape := ⟨2, ![512, 4096]⟩
abbrev S4096x512 : Shape := ⟨2, ![4096, 512]⟩
abbrev S2x512x512 : Shape := ⟨3, ![2, 512, 512]⟩
abbrev S2 : Shape := ⟨1, ![2]⟩
abbrev S1 : Shape := ⟨1, ![1]⟩
abbrev S_ : Shape := ⟨0, ![]⟩
abbrev S1x512x512 : Shape := ⟨3, ![1, 512, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S4096x512, .f32⟩
  | .local _ .vmem, ⟨4, _⟩ => ⟨S2x512x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c16_i32_16 : BitVec 32 := 16#32
  let c0_i32_19 : BitVec 32 := 0#32
  let v35 : BitVec 1 := Scalar.cmpi .sgt c16_i32_16 c0_i32_19
  let v36 : BitVec 32 := Scalar.extui v35
  let c0_i32_20 : BitVec 32 := 0#32
  let v37 : BitVec 1 := Scalar.cmpi .slt c16_i32_16 c0_i32_20
  let v38 : BitVec 32 := Scalar.extui v37
  let v39 : BitVec 32 := Scalar.subi v36 v38
  let v40 : BitVec 1 := Scalar.cmpi .ne v34 v39
  let v41 : BitVec 32 := Scalar.remsi v1 c16_i32_16
  let c0_i32_21 : BitVec 32 := 0#32
  let v42 : BitVec 1 := Scalar.cmpi .ne v41 c0_i32_21
  let v43 : BitVec 1 := Scalar.andi v40 v42
  let v29 : BitVec 32 := Scalar.divsi v1 c16_i32_16
  let c1_i32_22 : BitVec 32 := 1#32
  let v44 : BitVec 32 := Scalar.subi v29 c1_i32_22
  let v45 : BitVec 32 := Scalar.select v43 v44 v29
  let c0_i32_23 : BitVec 32 := 0#32
  let v46 : BitVec 32 := Scalar.subi v45 c0_i32_23
  let c512_i32 : BitVec 32 := 512#32
  let v47 : BitVec 32 := Scalar.muli v46 c512_i32
  v47
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c16_i32_16 : BitVec 32 := 16#32
  let c0_i32_19 : BitVec 32 := 0#32
  let v35 : BitVec 1 := Scalar.cmpi .sgt c16_i32_16 c0_i32_19
  let v36 : BitVec 32 := Scalar.extui v35
  let c0_i32_20 : BitVec 32 := 0#32
  let v37 : BitVec 1 := Scalar.cmpi .slt c16_i32_16 c0_i32_20
  let v38 : BitVec 32 := Scalar.extui v37
  let v39 : BitVec 32 := Scalar.subi v36 v38
  let v40 : BitVec 1 := Scalar.cmpi .ne v34 v39
  let v41 : BitVec 32 := Scalar.remsi v1 c16_i32_16
  let c0_i32_21 : BitVec 32 := 0#32
  let v42 : BitVec 1 := Scalar.cmpi .ne v41 c0_i32_21
  let v43 : BitVec 1 := Scalar.andi v40 v42
  let v29 : BitVec 32 := Scalar.divsi v1 c16_i32_16
  let c1_i32_22 : BitVec 32 := 1#32
  let v44 : BitVec 32 := Scalar.subi v29 c1_i32_22
  let v45 : BitVec 32 := Scalar.select v43 v44 v29
  let c0_i32_24 : BitVec 32 := 0#32
  let v49 : BitVec 1 := Scalar.cmpi .sge v45 c0_i32_24
  let c2_i32_25 : BitVec 32 := 2#32
  let v50 : BitVec 1 := Scalar.cmpi .slt v45 c2_i32_25
  let v51 : BitVec 1 := Scalar.andi v49 v50
  let v52 : BitVec 32 := Scalar.extui v51
  let c0_i32_26 : BitVec 32 := 0#32
  let v53 : BitVec 1 := Scalar.cmpi .ne v52 c0_i32_26
  v53

def k0_mult2 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_15 : BitVec 32 := 16#32
  let v28 : BitVec 32 := Scalar.remsi v1 c16_i32_15
  let c512_i32_27 : BitVec 32 := 512#32
  let v54 : BitVec 32 := Scalar.muli v28 c512_i32_27
  v54
def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_28 : BitVec 32 := 0#32
  let c0_i32_29 : BitVec 32 := 0#32
  ![v2.toNat, 0, 0]
def k0_off3 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_15 : BitVec 32 := 16#32
  let v28 : BitVec 32 := Scalar.remsi v1 c16_i32_15
  let c512_i32_27 : BitVec 32 := 512#32
  let v54 : BitVec 32 := Scalar.muli v28 c512_i32_27
  let v55 : BitVec 32 := v54
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c16_i32_16 : BitVec 32 := 16#32
  let c0_i32_19 : BitVec 32 := 0#32
  let v35 : BitVec 1 := Scalar.cmpi .sgt c16_i32_16 c0_i32_19
  let v36 : BitVec 32 := Scalar.extui v35
  let c0_i32_20 : BitVec 32 := 0#32
  let v37 : BitVec 1 := Scalar.cmpi .slt c16_i32_16 c0_i32_20
  let v38 : BitVec 32 := Scalar.extui v37
  let v39 : BitVec 32 := Scalar.subi v36 v38
  let v40 : BitVec 1 := Scalar.cmpi .ne v34 v39
  let v41 : BitVec 32 := Scalar.remsi v1 c16_i32_16
  let c0_i32_21 : BitVec 32 := 0#32
  let v42 : BitVec 1 := Scalar.cmpi .ne v41 c0_i32_21
  let v43 : BitVec 1 := Scalar.andi v40 v42
  let v29 : BitVec 32 := Scalar.divsi v1 c16_i32_16
  let c1_i32_22 : BitVec 32 := 1#32
  let v44 : BitVec 32 := Scalar.subi v29 c1_i32_22
  let v45 : BitVec 32 := Scalar.select v43 v44 v29
  let c0_i32_23 : BitVec 32 := 0#32
  let v46 : BitVec 32 := Scalar.subi v45 c0_i32_23
  let c512_i32 : BitVec 32 := 512#32
  let v47 : BitVec 32 := Scalar.muli v46 c512_i32
  let v48 : BitVec 32 := v47
  ![v55.toNat, v48.toNat]
def k0_cond3 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c32_i32 : BitVec 32 := 32#32
  let v7 : BitVec 1 := Scalar.cmpi .slt v6 c32_i32
  let v8 : BitVec 32 := Scalar.extui v7
  let c0_i32_1 : BitVec 32 := 0#32
  let v9 : BitVec 1 := Scalar.cmpi .ne v8 c0_i32_1
  v9

def k0_mult3 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c16_i32_18 : BitVec 32 := 16#32
  let c0_i32_21 : BitVec 32 := 0#32
  let v37 : BitVec 1 := Scalar.cmpi .sgt c16_i32_18 c0_i32_21
  let v38 : BitVec 32 := Scalar.extui v37
  let c0_i32_22 : BitVec 32 := 0#32
  let v39 : BitVec 1 := Scalar.cmpi .slt c16_i32_18 c0_i32_22
  let v40 : BitVec 32 := Scalar.extui v39
  let v41 : BitVec 32 := Scalar.subi v38 v40
  let v42 : BitVec 1 := Scalar.cmpi .ne v36 v41
  let v43 : BitVec 32 := Scalar.remsi v28 c16_i32_18
  let c0_i32_23 : BitVec 32 := 0#32
  let v44 : BitVec 1 := Scalar.cmpi .ne v43 c0_i32_23
  let v45 : BitVec 1 := Scalar.andi v42 v44
  let v31 : BitVec 32 := Scalar.divsi v28 c16_i32_18
  let c1_i32_24 : BitVec 32 := 1#32
  let v46 : BitVec 32 := Scalar.subi v31 c1_i32_24
  let v47 : BitVec 32 := Scalar.select v45 v46 v31
  let c0_i32_25 : BitVec 32 := 0#32
  let v48 : BitVec 32 := Scalar.subi v47 c0_i32_25
  let c512_i32 : BitVec 32 := 512#32
  let v49 : BitVec 32 := Scalar.muli v48 c512_i32
  v49
def k0_cond4 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c16_i32_18 : BitVec 32 := 16#32
  let c0_i32_21 : BitVec 32 := 0#32
  let v37 : BitVec 1 := Scalar.cmpi .sgt c16_i32_18 c0_i32_21
  let v38 : BitVec 32 := Scalar.extui v37
  let c0_i32_22 : BitVec 32 := 0#32
  let v39 : BitVec 1 := Scalar.cmpi .slt c16_i32_18 c0_i32_22
  let v40 : BitVec 32 := Scalar.extui v39
  let v41 : BitVec 32 := Scalar.subi v38 v40
  let v42 : BitVec 1 := Scalar.cmpi .ne v36 v41
  let v43 : BitVec 32 := Scalar.remsi v28 c16_i32_18
  let c0_i32_23 : BitVec 32 := 0#32
  let v44 : BitVec 1 := Scalar.cmpi .ne v43 c0_i32_23
  let v45 : BitVec 1 := Scalar.andi v42 v44
  let v31 : BitVec 32 := Scalar.divsi v28 c16_i32_18
  let c1_i32_24 : BitVec 32 := 1#32
  let v46 : BitVec 32 := Scalar.subi v31 c1_i32_24
  let v47 : BitVec 32 := Scalar.select v45 v46 v31
  let c0_i32_26 : BitVec 32 := 0#32
  let v51 : BitVec 1 := Scalar.cmpi .sge v47 c0_i32_26
  let c2_i32_27 : BitVec 32 := 2#32
  let v52 : BitVec 1 := Scalar.cmpi .slt v47 c2_i32_27
  let v53 : BitVec 1 := Scalar.andi v51 v52
  let v54 : BitVec 32 := Scalar.extui v53
  let c0_i32_28 : BitVec 32 := 0#32
  let v55 : BitVec 1 := Scalar.cmpi .ne v54 c0_i32_28
  v55

def k0_mult4 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c16_i32_17 : BitVec 32 := 16#32
  let v30 : BitVec 32 := Scalar.remsi v28 c16_i32_17
  let c512_i32_29 : BitVec 32 := 512#32
  let v56 : BitVec 32 := Scalar.muli v30 c512_i32_29
  v56
def k0_off4 (i : grid0.Coords) : Fin 1 → Nat :=
  let c1_i32_16 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off5 (i : grid0.Coords) : Fin 3 → Nat :=
  let c1_i32_16 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_30 : BitVec 32 := 0#32
  let c0_i32_31 : BitVec 32 := 0#32
  ![v29.toNat, 0, 0]
def k0_off6 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c16_i32_17 : BitVec 32 := 16#32
  let v30 : BitVec 32 := Scalar.remsi v28 c16_i32_17
  let c512_i32_29 : BitVec 32 := 512#32
  let v56 : BitVec 32 := Scalar.muli v30 c512_i32_29
  let v57 : BitVec 32 := v56
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c16_i32_18 : BitVec 32 := 16#32
  let c0_i32_21 : BitVec 32 := 0#32
  let v37 : BitVec 1 := Scalar.cmpi .sgt c16_i32_18 c0_i32_21
  let v38 : BitVec 32 := Scalar.extui v37
  let c0_i32_22 : BitVec 32 := 0#32
  let v39 : BitVec 1 := Scalar.cmpi .slt c16_i32_18 c0_i32_22
  let v40 : BitVec 32 := Scalar.extui v39
  let v41 : BitVec 32 := Scalar.subi v38 v40
  let v42 : BitVec 1 := Scalar.cmpi .ne v36 v41
  let v43 : BitVec 32 := Scalar.remsi v28 c16_i32_18
  let c0_i32_23 : BitVec 32 := 0#32
  let v44 : BitVec 1 := Scalar.cmpi .ne v43 c0_i32_23
  let v45 : BitVec 1 := Scalar.andi v42 v44
  let v31 : BitVec 32 := Scalar.divsi v28 c16_i32_18
  let c1_i32_24 : BitVec 32 := 1#32
  let v46 : BitVec 32 := Scalar.subi v31 c1_i32_24
  let v47 : BitVec 32 := Scalar.select v45 v46 v31
  let c0_i32_25 : BitVec 32 := 0#32
  let v48 : BitVec 32 := Scalar.subi v47 c0_i32_25
  let c512_i32 : BitVec 32 := 512#32
  let v49 : BitVec 32 := Scalar.muli v48 c512_i32
  let v50 : BitVec 32 := v49
  ![v57.toNat, v50.toNat]
def k0_off7 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_2 : BitVec 32 := 0#32
  let c0_i32_3 : BitVec 32 := 0#32
  ![v2.toNat, 0, 0]
def k0_off9 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v22 : Index := Scalar.indexCast v2
  let c0_11 : Index := 0#32
  let c0_12 : Index := 0#32
  ![v22.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S1024x15360 : Shape := ⟨2, ![1024, 15360]⟩
abbrev S8192x1024 : Shape := ⟨2, ![8192, 1024]⟩
abbrev S8192x2048 : Shape := ⟨2, ![8192, 2048]⟩
abbrev S1024x1024 : Shape := ⟨2, ![1024, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩

abbrev nBuf : Space → Nat
  | .hbm => 29
  | .vmem => 5
  | .smem => 0
  | _ => 0

abbrev bufTy : (tb : Table) → Fin (tcTables nBuf tb) → BufTy
  | .hbm, ⟨0, _⟩ => ⟨S1024x15360, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1024x15360, .bf16⟩
  | .hbm, ⟨15, _⟩ => ⟨S8192x1024, .bf16⟩
  | .hbm, ⟨16, _⟩ => ⟨S8192x1024, .bf16⟩
  | .hbm, ⟨17, _⟩ => ⟨S8192x2048, .bf16⟩
  | .hbm, ⟨18, _⟩ => ⟨S8192x2048, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x1024, .bf16⟩
  | .hbm, ⟨26, _⟩ => ⟨S8192x1024, .bf16⟩
  | .hbm, ⟨27, _⟩ => ⟨S8192x1024, .bf16⟩
  | .hbm, ⟨28, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S2x1024x1024, .bf16⟩
  | _, _ => ⟨S1024x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 15], ![false, false]⟩

def k0_cond1 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

def k0_mult1 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c0_i32_23 : BitVec 32 := 0#32
  let v46 : BitVec 32 := Scalar.subi v45 c0_i32_23
  let c1024_i32 : BitVec 32 := 1024#32
  let v47 : BitVec 32 := Scalar.muli v46 c1024_i32
  v47
def k0_mult2 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c1_i32_26 : BitVec 32 := 1#32
  let v52 : BitVec 32 := Scalar.subi v45 c1_i32_26
  let c1024_i32_27 : BitVec 32 := 1024#32
  let v53 : BitVec 32 := Scalar.muli v52 c1024_i32_27
  v53
def k0_mult3 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c2_i32_30 : BitVec 32 := 2#32
  let v58 : BitVec 32 := Scalar.subi v45 c2_i32_30
  let c1024_i32_31 : BitVec 32 := 1024#32
  let v59 : BitVec 32 := Scalar.muli v58 c1024_i32_31
  v59
def k0_mult4 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c4_i32_33 : BitVec 32 := 4#32
  let v64 : BitVec 32 := Scalar.subi v45 c4_i32_33
  let c1024_i32_34 : BitVec 32 := 1024#32
  let v65 : BitVec 32 := Scalar.muli v64 c1024_i32_34
  v65
def k0_mult5 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c6_i32_36 : BitVec 32 := 6#32
  let v70 : BitVec 32 := Scalar.subi v45 c6_i32_36
  let c1024_i32_37 : BitVec 32 := 1024#32
  let v71 : BitVec 32 := Scalar.muli v70 c1024_i32_37
  v71
def k0_mult6 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c7_i32_39 : BitVec 32 := 7#32
  let v76 : BitVec 32 := Scalar.subi v45 c7_i32_39
  let c1024_i32_40 : BitVec 32 := 1024#32
  let v77 : BitVec 32 := Scalar.muli v76 c1024_i32_40
  v77
def k0_mult7 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c8_i32_42 : BitVec 32 := 8#32
  let v82 : BitVec 32 := Scalar.subi v45 c8_i32_42
  let c1024_i32_43 : BitVec 32 := 1024#32
  let v83 : BitVec 32 := Scalar.muli v82 c1024_i32_43
  v83
def k0_mult8 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c9_i32_45 : BitVec 32 := 9#32
  let v88 : BitVec 32 := Scalar.subi v45 c9_i32_45
  let c1024_i32_46 : BitVec 32 := 1024#32
  let v89 : BitVec 32 := Scalar.muli v88 c1024_i32_46
  v89
def k0_mult9 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c10_i32_48 : BitVec 32 := 10#32
  let v94 : BitVec 32 := Scalar.subi v45 c10_i32_48
  let c1024_i32_49 : BitVec 32 := 1024#32
  let v95 : BitVec 32 := Scalar.muli v94 c1024_i32_49
  v95
def k0_mult10 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c11_i32_51 : BitVec 32 := 11#32
  let v100 : BitVec 32 := Scalar.subi v45 c11_i32_51
  let c1024_i32_52 : BitVec 32 := 1024#32
  let v101 : BitVec 32 := Scalar.muli v100 c1024_i32_52
  v101
def k0_mult11 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c12_i32_54 : BitVec 32 := 12#32
  let v106 : BitVec 32 := Scalar.subi v45 c12_i32_54
  let c1024_i32_55 : BitVec 32 := 1024#32
  let v107 : BitVec 32 := Scalar.muli v106 c1024_i32_55
  v107
def k0_mult12 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c13_i32_57 : BitVec 32 := 13#32
  let v112 : BitVec 32 := Scalar.subi v45 c13_i32_57
  let c1024_i32_58 : BitVec 32 := 1024#32
  let v113 : BitVec 32 := Scalar.muli v112 c1024_i32_58
  v113
def k0_mult13 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c14_i32_60 : BitVec 32 := 14#32
  let v118 : BitVec 32 := Scalar.subi v45 c14_i32_60
  let c1024_i32_61 : BitVec 32 := 1024#32
  let v119 : BitVec 32 := Scalar.muli v118 c1024_i32_61
  v119
def k0_cond2 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c0_i32_24 : BitVec 32 := 0#32
  let v49 : BitVec 1 := Scalar.cmpi .sge v45 c0_i32_24
  let c1_i32_25 : BitVec 32 := 1#32
  let v50 : BitVec 1 := Scalar.cmpi .slt v45 c1_i32_25
  let v51 : BitVec 1 := Scalar.andi v49 v50
  let v124 : BitVec 32 := Scalar.extui v51
  let c0_i32_64 : BitVec 32 := 0#32
  let v125 : BitVec 1 := Scalar.cmpi .ne v124 c0_i32_64
  v125

def k0_mult14 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  v150
def k0_off1 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off3 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  let v151 : BitVec 32 := v150
  let c15_i32_22 : BitVec 32 := 15#32
  let v45 : BitVec 32 := Scalar.remsi v1 c15_i32_22
  let c0_i32_23 : BitVec 32 := 0#32
  let v46 : BitVec 32 := Scalar.subi v45 c0_i32_23
  let c1024_i32 : BitVec 32 := 1024#32
  let v47 : BitVec 32 := Scalar.muli v46 c1024_i32
  let v48 : BitVec 32 := v47
  ![v151.toNat, v48.toNat]
def k0_cond3 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c1_i32_28 : BitVec 32 := 1#32
  let v55 : BitVec 1 := Scalar.cmpi .sge v45 c1_i32_28
  let c2_i32_29 : BitVec 32 := 2#32
  let v56 : BitVec 1 := Scalar.cmpi .slt v45 c2_i32_29
  let v57 : BitVec 1 := Scalar.andi v55 v56
  let v126 : BitVec 32 := Scalar.extui v57
  let c0_i32_65 : BitVec 32 := 0#32
  let v127 : BitVec 1 := Scalar.cmpi .ne v126 c0_i32_65
  v127

def k0_mult15 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  v150
def k0_off4 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off5 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off6 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  let v151 : BitVec 32 := v150
  let c15_i32_22 : BitVec 32 := 15#32
  let v45 : BitVec 32 := Scalar.remsi v1 c15_i32_22
  let c1_i32_26 : BitVec 32 := 1#32
  let v52 : BitVec 32 := Scalar.subi v45 c1_i32_26
  let c1024_i32_27 : BitVec 32 := 1024#32
  let v53 : BitVec 32 := Scalar.muli v52 c1024_i32_27
  let v54 : BitVec 32 := v53
  ![v151.toNat, v54.toNat]
def k0_cond4 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c2_i32_32 : BitVec 32 := 2#32
  let v61 : BitVec 1 := Scalar.cmpi .sge v45 c2_i32_32
  let c4_i32 : BitVec 32 := 4#32
  let v62 : BitVec 1 := Scalar.cmpi .slt v45 c4_i32
  let v63 : BitVec 1 := Scalar.andi v61 v62
  let v128 : BitVec 32 := Scalar.extui v63
  let c0_i32_66 : BitVec 32 := 0#32
  let v129 : BitVec 1 := Scalar.cmpi .ne v128 c0_i32_66
  v129

def k0_mult16 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  v150
def k0_off7 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off9 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  let v151 : BitVec 32 := v150
  let c15_i32_22 : BitVec 32 := 15#32
  let v45 : BitVec 32 := Scalar.remsi v1 c15_i32_22
  let c2_i32_30 : BitVec 32 := 2#32
  let v58 : BitVec 32 := Scalar.subi v45 c2_i32_30
  let c1024_i32_31 : BitVec 32 := 1024#32
  let v59 : BitVec 32 := Scalar.muli v58 c1024_i32_31
  let v60 : BitVec 32 := v59
  ![v151.toNat, v60.toNat]
def k0_cond5 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c4_i32_35 : BitVec 32 := 4#32
  let v67 : BitVec 1 := Scalar.cmpi .sge v45 c4_i32_35
  let c6_i32 : BitVec 32 := 6#32
  let v68 : BitVec 1 := Scalar.cmpi .slt v45 c6_i32
  let v69 : BitVec 1 := Scalar.andi v67 v68
  let v130 : BitVec 32 := Scalar.extui v69
  let c0_i32_67 : BitVec 32 := 0#32
  let v131 : BitVec 1 := Scalar.cmpi .ne v130 c0_i32_67
  v131

def k0_mult17 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  v150
def k0_off10 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off11 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off12 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  let v151 : BitVec 32 := v150
  let c15_i32_22 : BitVec 32 := 15#32
  let v45 : BitVec 32 := Scalar.remsi v1 c15_i32_22
  let c4_i32_33 : BitVec 32 := 4#32
  let v64 : BitVec 32 := Scalar.subi v45 c4_i32_33
  let c1024_i32_34 : BitVec 32 := 1024#32
  let v65 : BitVec 32 := Scalar.muli v64 c1024_i32_34
  let v66 : BitVec 32 := v65
  ![v151.toNat, v66.toNat]
def k0_cond6 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c6_i32_38 : BitVec 32 := 6#32
  let v73 : BitVec 1 := Scalar.cmpi .sge v45 c6_i32_38
  let c7_i32 : BitVec 32 := 7#32
  let v74 : BitVec 1 := Scalar.cmpi .slt v45 c7_i32
  let v75 : BitVec 1 := Scalar.andi v73 v74
  let v132 : BitVec 32 := Scalar.extui v75
  let c0_i32_68 : BitVec 32 := 0#32
  let v133 : BitVec 1 := Scalar.cmpi .ne v132 c0_i32_68
  v133

def k0_mult18 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  v150
def k0_off13 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off14 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off15 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  let v151 : BitVec 32 := v150
  let c15_i32_22 : BitVec 32 := 15#32
  let v45 : BitVec 32 := Scalar.remsi v1 c15_i32_22
  let c6_i32_36 : BitVec 32 := 6#32
  let v70 : BitVec 32 := Scalar.subi v45 c6_i32_36
  let c1024_i32_37 : BitVec 32 := 1024#32
  let v71 : BitVec 32 := Scalar.muli v70 c1024_i32_37
  let v72 : BitVec 32 := v71
  ![v151.toNat, v72.toNat]
def k0_cond7 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c7_i32_41 : BitVec 32 := 7#32
  let v79 : BitVec 1 := Scalar.cmpi .sge v45 c7_i32_41
  let c8_i32 : BitVec 32 := 8#32
  let v80 : BitVec 1 := Scalar.cmpi .slt v45 c8_i32
  let v81 : BitVec 1 := Scalar.andi v79 v80
  let v134 : BitVec 32 := Scalar.extui v81
  let c0_i32_69 : BitVec 32 := 0#32
  let v135 : BitVec 1 := Scalar.cmpi .ne v134 c0_i32_69
  v135

def k0_mult19 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  v150
def k0_off16 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off17 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off18 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  let v151 : BitVec 32 := v150
  let c15_i32_22 : BitVec 32 := 15#32
  let v45 : BitVec 32 := Scalar.remsi v1 c15_i32_22
  let c7_i32_39 : BitVec 32 := 7#32
  let v76 : BitVec 32 := Scalar.subi v45 c7_i32_39
  let c1024_i32_40 : BitVec 32 := 1024#32
  let v77 : BitVec 32 := Scalar.muli v76 c1024_i32_40
  let v78 : BitVec 32 := v77
  ![v151.toNat, v78.toNat]
def k0_cond8 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c8_i32_44 : BitVec 32 := 8#32
  let v85 : BitVec 1 := Scalar.cmpi .sge v45 c8_i32_44
  let c9_i32 : BitVec 32 := 9#32
  let v86 : BitVec 1 := Scalar.cmpi .slt v45 c9_i32
  let v87 : BitVec 1 := Scalar.andi v85 v86
  let v136 : BitVec 32 := Scalar.extui v87
  let c0_i32_70 : BitVec 32 := 0#32
  let v137 : BitVec 1 := Scalar.cmpi .ne v136 c0_i32_70
  v137

def k0_mult20 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  v150
def k0_off19 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off20 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off21 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  let v151 : BitVec 32 := v150
  let c15_i32_22 : BitVec 32 := 15#32
  let v45 : BitVec 32 := Scalar.remsi v1 c15_i32_22
  let c8_i32_42 : BitVec 32 := 8#32
  let v82 : BitVec 32 := Scalar.subi v45 c8_i32_42
  let c1024_i32_43 : BitVec 32 := 1024#32
  let v83 : BitVec 32 := Scalar.muli v82 c1024_i32_43
  let v84 : BitVec 32 := v83
  ![v151.toNat, v84.toNat]
def k0_cond9 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c9_i32_47 : BitVec 32 := 9#32
  let v91 : BitVec 1 := Scalar.cmpi .sge v45 c9_i32_47
  let c10_i32 : BitVec 32 := 10#32
  let v92 : BitVec 1 := Scalar.cmpi .slt v45 c10_i32
  let v93 : BitVec 1 := Scalar.andi v91 v92
  let v138 : BitVec 32 := Scalar.extui v93
  let c0_i32_71 : BitVec 32 := 0#32
  let v139 : BitVec 1 := Scalar.cmpi .ne v138 c0_i32_71
  v139

def k0_mult21 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  v150
def k0_off22 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off23 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off24 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  let v151 : BitVec 32 := v150
  let c15_i32_22 : BitVec 32 := 15#32
  let v45 : BitVec 32 := Scalar.remsi v1 c15_i32_22
  let c9_i32_45 : BitVec 32 := 9#32
  let v88 : BitVec 32 := Scalar.subi v45 c9_i32_45
  let c1024_i32_46 : BitVec 32 := 1024#32
  let v89 : BitVec 32 := Scalar.muli v88 c1024_i32_46
  let v90 : BitVec 32 := v89
  ![v151.toNat, v90.toNat]
def k0_cond10 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c10_i32_50 : BitVec 32 := 10#32
  let v97 : BitVec 1 := Scalar.cmpi .sge v45 c10_i32_50
  let c11_i32 : BitVec 32 := 11#32
  let v98 : BitVec 1 := Scalar.cmpi .slt v45 c11_i32
  let v99 : BitVec 1 := Scalar.andi v97 v98
  let v140 : BitVec 32 := Scalar.extui v99
  let c0_i32_72 : BitVec 32 := 0#32
  let v141 : BitVec 1 := Scalar.cmpi .ne v140 c0_i32_72
  v141

def k0_mult22 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  v150
def k0_off25 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off26 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off27 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  let v151 : BitVec 32 := v150
  let c15_i32_22 : BitVec 32 := 15#32
  let v45 : BitVec 32 := Scalar.remsi v1 c15_i32_22
  let c10_i32_48 : BitVec 32 := 10#32
  let v94 : BitVec 32 := Scalar.subi v45 c10_i32_48
  let c1024_i32_49 : BitVec 32 := 1024#32
  let v95 : BitVec 32 := Scalar.muli v94 c1024_i32_49
  let v96 : BitVec 32 := v95
  ![v151.toNat, v96.toNat]
def k0_cond11 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c11_i32_53 : BitVec 32 := 11#32
  let v103 : BitVec 1 := Scalar.cmpi .sge v45 c11_i32_53
  let c12_i32 : BitVec 32 := 12#32
  let v104 : BitVec 1 := Scalar.cmpi .slt v45 c12_i32
  let v105 : BitVec 1 := Scalar.andi v103 v104
  let v142 : BitVec 32 := Scalar.extui v105
  let c0_i32_73 : BitVec 32 := 0#32
  let v143 : BitVec 1 := Scalar.cmpi .ne v142 c0_i32_73
  v143

def k0_mult23 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  v150
def k0_off28 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off29 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off30 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  let v151 : BitVec 32 := v150
  let c15_i32_22 : BitVec 32 := 15#32
  let v45 : BitVec 32 := Scalar.remsi v1 c15_i32_22
  let c11_i32_51 : BitVec 32 := 11#32
  let v100 : BitVec 32 := Scalar.subi v45 c11_i32_51
  let c1024_i32_52 : BitVec 32 := 1024#32
  let v101 : BitVec 32 := Scalar.muli v100 c1024_i32_52
  let v102 : BitVec 32 := v101
  ![v151.toNat, v102.toNat]
def k0_cond12 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c12_i32_56 : BitVec 32 := 12#32
  let v109 : BitVec 1 := Scalar.cmpi .sge v45 c12_i32_56
  let c13_i32 : BitVec 32 := 13#32
  let v110 : BitVec 1 := Scalar.cmpi .slt v45 c13_i32
  let v111 : BitVec 1 := Scalar.andi v109 v110
  let v144 : BitVec 32 := Scalar.extui v111
  let c0_i32_74 : BitVec 32 := 0#32
  let v145 : BitVec 1 := Scalar.cmpi .ne v144 c0_i32_74
  v145

def k0_mult24 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  v150
def k0_off31 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off32 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off33 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  let v151 : BitVec 32 := v150
  let c15_i32_22 : BitVec 32 := 15#32
  let v45 : BitVec 32 := Scalar.remsi v1 c15_i32_22
  let c12_i32_54 : BitVec 32 := 12#32
  let v106 : BitVec 32 := Scalar.subi v45 c12_i32_54
  let c1024_i32_55 : BitVec 32 := 1024#32
  let v107 : BitVec 32 := Scalar.muli v106 c1024_i32_55
  let v108 : BitVec 32 := v107
  ![v151.toNat, v108.toNat]
def k0_cond13 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c13_i32_59 : BitVec 32 := 13#32
  let v115 : BitVec 1 := Scalar.cmpi .sge v45 c13_i32_59
  let c14_i32 : BitVec 32 := 14#32
  let v116 : BitVec 1 := Scalar.cmpi .slt v45 c14_i32
  let v117 : BitVec 1 := Scalar.andi v115 v116
  let v146 : BitVec 32 := Scalar.extui v117
  let c0_i32_75 : BitVec 32 := 0#32
  let v147 : BitVec 1 := Scalar.cmpi .ne v146 c0_i32_75
  v147

def k0_mult25 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  v150
def k0_off34 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off35 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off36 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  let v151 : BitVec 32 := v150
  let c15_i32_22 : BitVec 32 := 15#32
  let v45 : BitVec 32 := Scalar.remsi v1 c15_i32_22
  let c13_i32_57 : BitVec 32 := 13#32
  let v112 : BitVec 32 := Scalar.subi v45 c13_i32_57
  let c1024_i32_58 : BitVec 32 := 1024#32
  let v113 : BitVec 32 := Scalar.muli v112 c1024_i32_58
  let v114 : BitVec 32 := v113
  ![v151.toNat, v114.toNat]
def k0_cond14 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c15_i32_22 : BitVec 32 := 15#32
  let v45 : BitVec 32 := Scalar.remsi v1 c15_i32_22
  let c14_i32_62 : BitVec 32 := 14#32
  let v121 : BitVec 1 := Scalar.cmpi .sge v45 c14_i32_62
  let c15_i32_63 : BitVec 32 := 15#32
  let v122 : BitVec 1 := Scalar.cmpi .slt v45 c15_i32_63
  let v123 : BitVec 1 := Scalar.andi v121 v122
  let v148 : BitVec 32 := Scalar.extui v123
  let c0_i32_76 : BitVec 32 := 0#32
  let v149 : BitVec 1 := Scalar.cmpi .ne v148 c0_i32_76
  v149

def k0_mult26 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  v150
def k0_off37 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off38 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off39 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c15_i32_15 : BitVec 32 := 15#32
  let c0_i32_18 : BitVec 32 := 0#32
  let v34 : BitVec 1 := Scalar.cmpi .sgt c15_i32_15 c0_i32_18
  let v35 : BitVec 32 := Scalar.extui v34
  let c0_i32_19 : BitVec 32 := 0#32
  let v36 : BitVec 1 := Scalar.cmpi .slt c15_i32_15 c0_i32_19
  let v37 : BitVec 32 := Scalar.extui v36
  let v38 : BitVec 32 := Scalar.subi v35 v37
  let v39 : BitVec 1 := Scalar.cmpi .ne v33 v38
  let v40 : BitVec 32 := Scalar.remsi v1 c15_i32_15
  let c0_i32_20 : BitVec 32 := 0#32
  let v41 : BitVec 1 := Scalar.cmpi .ne v40 c0_i32_20
  let v42 : BitVec 1 := Scalar.andi v39 v41
  let v28 : BitVec 32 := Scalar.divsi v1 c15_i32_15
  let c1_i32_21 : BitVec 32 := 1#32
  let v43 : BitVec 32 := Scalar.subi v28 c1_i32_21
  let v44 : BitVec 32 := Scalar.select v42 v43 v28
  let c1024_i32_77 : BitVec 32 := 1024#32
  let v150 : BitVec 32 := Scalar.muli v44 c1024_i32_77
  let v151 : BitVec 32 := v150
  let c15_i32_22 : BitVec 32 := 15#32
  let v45 : BitVec 32 := Scalar.remsi v1 c15_i32_22
  let c14_i32_60 : BitVec 32 := 14#32
  let v118 : BitVec 32 := Scalar.subi v45 c14_i32_60
  let c1024_i32_61 : BitVec 32 := 1024#32
  let v119 : BitVec 32 := Scalar.muli v118 c1024_i32_61
  let v120 : BitVec 32 := v119
  ![v151.toNat, v120.toNat]
def k0_cond15 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32 : BitVec 32 := 1#32
  let v6 : BitVec 32 := Scalar.addi v1 c1_i32
  let c120_i32 : BitVec 32 := 120#32
  let v7 : BitVec 1 := Scalar.cmpi .slt v6 c120_i32
  let v8 : BitVec 32 := Scalar.extui v7
  let c0_i32_1 : BitVec 32 := 0#32
  let v9 : BitVec 1 := Scalar.cmpi .ne v8 c0_i32_1
  v9

def k0_mult27 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c0_i32_25 : BitVec 32 := 0#32
  let v48 : BitVec 32 := Scalar.subi v47 c0_i32_25
  let c1024_i32 : BitVec 32 := 1024#32
  let v49 : BitVec 32 := Scalar.muli v48 c1024_i32
  v49
def k0_mult28 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c1_i32_28 : BitVec 32 := 1#32
  let v54 : BitVec 32 := Scalar.subi v47 c1_i32_28
  let c1024_i32_29 : BitVec 32 := 1024#32
  let v55 : BitVec 32 := Scalar.muli v54 c1024_i32_29
  v55
def k0_mult29 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c2_i32_32 : BitVec 32 := 2#32
  let v60 : BitVec 32 := Scalar.subi v47 c2_i32_32
  let c1024_i32_33 : BitVec 32 := 1024#32
  let v61 : BitVec 32 := Scalar.muli v60 c1024_i32_33
  v61
def k0_mult30 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c4_i32_35 : BitVec 32 := 4#32
  let v66 : BitVec 32 := Scalar.subi v47 c4_i32_35
  let c1024_i32_36 : BitVec 32 := 1024#32
  let v67 : BitVec 32 := Scalar.muli v66 c1024_i32_36
  v67
def k0_mult31 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c6_i32_38 : BitVec 32 := 6#32
  let v72 : BitVec 32 := Scalar.subi v47 c6_i32_38
  let c1024_i32_39 : BitVec 32 := 1024#32
  let v73 : BitVec 32 := Scalar.muli v72 c1024_i32_39
  v73
def k0_mult32 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c7_i32_41 : BitVec 32 := 7#32
  let v78 : BitVec 32 := Scalar.subi v47 c7_i32_41
  let c1024_i32_42 : BitVec 32 := 1024#32
  let v79 : BitVec 32 := Scalar.muli v78 c1024_i32_42
  v79
def k0_mult33 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c8_i32_44 : BitVec 32 := 8#32
  let v84 : BitVec 32 := Scalar.subi v47 c8_i32_44
  let c1024_i32_45 : BitVec 32 := 1024#32
  let v85 : BitVec 32 := Scalar.muli v84 c1024_i32_45
  v85
def k0_mult34 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c9_i32_47 : BitVec 32 := 9#32
  let v90 : BitVec 32 := Scalar.subi v47 c9_i32_47
  let c1024_i32_48 : BitVec 32 := 1024#32
  let v91 : BitVec 32 := Scalar.muli v90 c1024_i32_48
  v91
def k0_mult35 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c10_i32_50 : BitVec 32 := 10#32
  let v96 : BitVec 32 := Scalar.subi v47 c10_i32_50
  let c1024_i32_51 : BitVec 32 := 1024#32
  let v97 : BitVec 32 := Scalar.muli v96 c1024_i32_51
  v97
def k0_mult36 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c11_i32_53 : BitVec 32 := 11#32
  let v102 : BitVec 32 := Scalar.subi v47 c11_i32_53
  let c1024_i32_54 : BitVec 32 := 1024#32
  let v103 : BitVec 32 := Scalar.muli v102 c1024_i32_54
  v103
def k0_mult37 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c12_i32_56 : BitVec 32 := 12#32
  let v108 : BitVec 32 := Scalar.subi v47 c12_i32_56
  let c1024_i32_57 : BitVec 32 := 1024#32
  let v109 : BitVec 32 := Scalar.muli v108 c1024_i32_57
  v109
def k0_mult38 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c13_i32_59 : BitVec 32 := 13#32
  let v114 : BitVec 32 := Scalar.subi v47 c13_i32_59
  let c1024_i32_60 : BitVec 32 := 1024#32
  let v115 : BitVec 32 := Scalar.muli v114 c1024_i32_60
  v115
def k0_mult39 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c14_i32_62 : BitVec 32 := 14#32
  let v120 : BitVec 32 := Scalar.subi v47 c14_i32_62
  let c1024_i32_63 : BitVec 32 := 1024#32
  let v121 : BitVec 32 := Scalar.muli v120 c1024_i32_63
  v121
def k0_cond16 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c0_i32_26 : BitVec 32 := 0#32
  let v51 : BitVec 1 := Scalar.cmpi .sge v47 c0_i32_26
  let c1_i32_27 : BitVec 32 := 1#32
  let v52 : BitVec 1 := Scalar.cmpi .slt v47 c1_i32_27
  let v53 : BitVec 1 := Scalar.andi v51 v52
  let v126 : BitVec 32 := Scalar.extui v53
  let c0_i32_66 : BitVec 32 := 0#32
  let v127 : BitVec 1 := Scalar.cmpi .ne v126 c0_i32_66
  v127

def k0_mult40 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  v152
def k0_off40 (i : grid0.Coords) : Fin 1 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off41 (i : grid0.Coords) : Fin 3 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off42 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  let v153 : BitVec 32 := v152
  let c15_i32_24 : BitVec 32 := 15#32
  let v47 : BitVec 32 := Scalar.remsi v28 c15_i32_24
  let c0_i32_25 : BitVec 32 := 0#32
  let v48 : BitVec 32 := Scalar.subi v47 c0_i32_25
  let c1024_i32 : BitVec 32 := 1024#32
  let v49 : BitVec 32 := Scalar.muli v48 c1024_i32
  let v50 : BitVec 32 := v49
  ![v153.toNat, v50.toNat]
def k0_cond17 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c1_i32_30 : BitVec 32 := 1#32
  let v57 : BitVec 1 := Scalar.cmpi .sge v47 c1_i32_30
  let c2_i32_31 : BitVec 32 := 2#32
  let v58 : BitVec 1 := Scalar.cmpi .slt v47 c2_i32_31
  let v59 : BitVec 1 := Scalar.andi v57 v58
  let v128 : BitVec 32 := Scalar.extui v59
  let c0_i32_67 : BitVec 32 := 0#32
  let v129 : BitVec 1 := Scalar.cmpi .ne v128 c0_i32_67
  v129

def k0_mult41 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  v152
def k0_off43 (i : grid0.Coords) : Fin 1 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off44 (i : grid0.Coords) : Fin 3 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off45 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  let v153 : BitVec 32 := v152
  let c15_i32_24 : BitVec 32 := 15#32
  let v47 : BitVec 32 := Scalar.remsi v28 c15_i32_24
  let c1_i32_28 : BitVec 32 := 1#32
  let v54 : BitVec 32 := Scalar.subi v47 c1_i32_28
  let c1024_i32_29 : BitVec 32 := 1024#32
  let v55 : BitVec 32 := Scalar.muli v54 c1024_i32_29
  let v56 : BitVec 32 := v55
  ![v153.toNat, v56.toNat]
def k0_cond18 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c2_i32_34 : BitVec 32 := 2#32
  let v63 : BitVec 1 := Scalar.cmpi .sge v47 c2_i32_34
  let c4_i32 : BitVec 32 := 4#32
  let v64 : BitVec 1 := Scalar.cmpi .slt v47 c4_i32
  let v65 : BitVec 1 := Scalar.andi v63 v64
  let v130 : BitVec 32 := Scalar.extui v65
  let c0_i32_68 : BitVec 32 := 0#32
  let v131 : BitVec 1 := Scalar.cmpi .ne v130 c0_i32_68
  v131

def k0_mult42 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  v152
def k0_off46 (i : grid0.Coords) : Fin 1 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off47 (i : grid0.Coords) : Fin 3 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off48 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  let v153 : BitVec 32 := v152
  let c15_i32_24 : BitVec 32 := 15#32
  let v47 : BitVec 32 := Scalar.remsi v28 c15_i32_24
  let c2_i32_32 : BitVec 32 := 2#32
  let v60 : BitVec 32 := Scalar.subi v47 c2_i32_32
  let c1024_i32_33 : BitVec 32 := 1024#32
  let v61 : BitVec 32 := Scalar.muli v60 c1024_i32_33
  let v62 : BitVec 32 := v61
  ![v153.toNat, v62.toNat]
def k0_cond19 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c4_i32_37 : BitVec 32 := 4#32
  let v69 : BitVec 1 := Scalar.cmpi .sge v47 c4_i32_37
  let c6_i32 : BitVec 32 := 6#32
  let v70 : BitVec 1 := Scalar.cmpi .slt v47 c6_i32
  let v71 : BitVec 1 := Scalar.andi v69 v70
  let v132 : BitVec 32 := Scalar.extui v71
  let c0_i32_69 : BitVec 32 := 0#32
  let v133 : BitVec 1 := Scalar.cmpi .ne v132 c0_i32_69
  v133

def k0_mult43 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  v152
def k0_off49 (i : grid0.Coords) : Fin 1 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off50 (i : grid0.Coords) : Fin 3 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off51 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  let v153 : BitVec 32 := v152
  let c15_i32_24 : BitVec 32 := 15#32
  let v47 : BitVec 32 := Scalar.remsi v28 c15_i32_24
  let c4_i32_35 : BitVec 32 := 4#32
  let v66 : BitVec 32 := Scalar.subi v47 c4_i32_35
  let c1024_i32_36 : BitVec 32 := 1024#32
  let v67 : BitVec 32 := Scalar.muli v66 c1024_i32_36
  let v68 : BitVec 32 := v67
  ![v153.toNat, v68.toNat]
def k0_cond20 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c6_i32_40 : BitVec 32 := 6#32
  let v75 : BitVec 1 := Scalar.cmpi .sge v47 c6_i32_40
  let c7_i32 : BitVec 32 := 7#32
  let v76 : BitVec 1 := Scalar.cmpi .slt v47 c7_i32
  let v77 : BitVec 1 := Scalar.andi v75 v76
  let v134 : BitVec 32 := Scalar.extui v77
  let c0_i32_70 : BitVec 32 := 0#32
  let v135 : BitVec 1 := Scalar.cmpi .ne v134 c0_i32_70
  v135

def k0_mult44 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  v152
def k0_off52 (i : grid0.Coords) : Fin 1 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off53 (i : grid0.Coords) : Fin 3 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off54 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  let v153 : BitVec 32 := v152
  let c15_i32_24 : BitVec 32 := 15#32
  let v47 : BitVec 32 := Scalar.remsi v28 c15_i32_24
  let c6_i32_38 : BitVec 32 := 6#32
  let v72 : BitVec 32 := Scalar.subi v47 c6_i32_38
  let c1024_i32_39 : BitVec 32 := 1024#32
  let v73 : BitVec 32 := Scalar.muli v72 c1024_i32_39
  let v74 : BitVec 32 := v73
  ![v153.toNat, v74.toNat]
def k0_cond21 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c7_i32_43 : BitVec 32 := 7#32
  let v81 : BitVec 1 := Scalar.cmpi .sge v47 c7_i32_43
  let c8_i32 : BitVec 32 := 8#32
  let v82 : BitVec 1 := Scalar.cmpi .slt v47 c8_i32
  let v83 : BitVec 1 := Scalar.andi v81 v82
  let v136 : BitVec 32 := Scalar.extui v83
  let c0_i32_71 : BitVec 32 := 0#32
  let v137 : BitVec 1 := Scalar.cmpi .ne v136 c0_i32_71
  v137

def k0_mult45 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  v152
def k0_off55 (i : grid0.Coords) : Fin 1 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off56 (i : grid0.Coords) : Fin 3 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off57 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  let v153 : BitVec 32 := v152
  let c15_i32_24 : BitVec 32 := 15#32
  let v47 : BitVec 32 := Scalar.remsi v28 c15_i32_24
  let c7_i32_41 : BitVec 32 := 7#32
  let v78 : BitVec 32 := Scalar.subi v47 c7_i32_41
  let c1024_i32_42 : BitVec 32 := 1024#32
  let v79 : BitVec 32 := Scalar.muli v78 c1024_i32_42
  let v80 : BitVec 32 := v79
  ![v153.toNat, v80.toNat]
def k0_cond22 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c8_i32_46 : BitVec 32 := 8#32
  let v87 : BitVec 1 := Scalar.cmpi .sge v47 c8_i32_46
  let c9_i32 : BitVec 32 := 9#32
  let v88 : BitVec 1 := Scalar.cmpi .slt v47 c9_i32
  let v89 : BitVec 1 := Scalar.andi v87 v88
  let v138 : BitVec 32 := Scalar.extui v89
  let c0_i32_72 : BitVec 32 := 0#32
  let v139 : BitVec 1 := Scalar.cmpi .ne v138 c0_i32_72
  v139

def k0_mult46 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  v152
def k0_off58 (i : grid0.Coords) : Fin 1 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off59 (i : grid0.Coords) : Fin 3 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off60 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  let v153 : BitVec 32 := v152
  let c15_i32_24 : BitVec 32 := 15#32
  let v47 : BitVec 32 := Scalar.remsi v28 c15_i32_24
  let c8_i32_44 : BitVec 32 := 8#32
  let v84 : BitVec 32 := Scalar.subi v47 c8_i32_44
  let c1024_i32_45 : BitVec 32 := 1024#32
  let v85 : BitVec 32 := Scalar.muli v84 c1024_i32_45
  let v86 : BitVec 32 := v85
  ![v153.toNat, v86.toNat]
def k0_cond23 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c9_i32_49 : BitVec 32 := 9#32
  let v93 : BitVec 1 := Scalar.cmpi .sge v47 c9_i32_49
  let c10_i32 : BitVec 32 := 10#32
  let v94 : BitVec 1 := Scalar.cmpi .slt v47 c10_i32
  let v95 : BitVec 1 := Scalar.andi v93 v94
  let v140 : BitVec 32 := Scalar.extui v95
  let c0_i32_73 : BitVec 32 := 0#32
  let v141 : BitVec 1 := Scalar.cmpi .ne v140 c0_i32_73
  v141

def k0_mult47 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  v152
def k0_off61 (i : grid0.Coords) : Fin 1 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off62 (i : grid0.Coords) : Fin 3 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off63 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  let v153 : BitVec 32 := v152
  let c15_i32_24 : BitVec 32 := 15#32
  let v47 : BitVec 32 := Scalar.remsi v28 c15_i32_24
  let c9_i32_47 : BitVec 32 := 9#32
  let v90 : BitVec 32 := Scalar.subi v47 c9_i32_47
  let c1024_i32_48 : BitVec 32 := 1024#32
  let v91 : BitVec 32 := Scalar.muli v90 c1024_i32_48
  let v92 : BitVec 32 := v91
  ![v153.toNat, v92.toNat]
def k0_cond24 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c10_i32_52 : BitVec 32 := 10#32
  let v99 : BitVec 1 := Scalar.cmpi .sge v47 c10_i32_52
  let c11_i32 : BitVec 32 := 11#32
  let v100 : BitVec 1 := Scalar.cmpi .slt v47 c11_i32
  let v101 : BitVec 1 := Scalar.andi v99 v100
  let v142 : BitVec 32 := Scalar.extui v101
  let c0_i32_74 : BitVec 32 := 0#32
  let v143 : BitVec 1 := Scalar.cmpi .ne v142 c0_i32_74
  v143

def k0_mult48 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  v152
def k0_off64 (i : grid0.Coords) : Fin 1 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off65 (i : grid0.Coords) : Fin 3 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off66 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  let v153 : BitVec 32 := v152
  let c15_i32_24 : BitVec 32 := 15#32
  let v47 : BitVec 32 := Scalar.remsi v28 c15_i32_24
  let c10_i32_50 : BitVec 32 := 10#32
  let v96 : BitVec 32 := Scalar.subi v47 c10_i32_50
  let c1024_i32_51 : BitVec 32 := 1024#32
  let v97 : BitVec 32 := Scalar.muli v96 c1024_i32_51
  let v98 : BitVec 32 := v97
  ![v153.toNat, v98.toNat]
def k0_cond25 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c11_i32_55 : BitVec 32 := 11#32
  let v105 : BitVec 1 := Scalar.cmpi .sge v47 c11_i32_55
  let c12_i32 : BitVec 32 := 12#32
  let v106 : BitVec 1 := Scalar.cmpi .slt v47 c12_i32
  let v107 : BitVec 1 := Scalar.andi v105 v106
  let v144 : BitVec 32 := Scalar.extui v107
  let c0_i32_75 : BitVec 32 := 0#32
  let v145 : BitVec 1 := Scalar.cmpi .ne v144 c0_i32_75
  v145

def k0_mult49 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  v152
def k0_off67 (i : grid0.Coords) : Fin 1 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off68 (i : grid0.Coords) : Fin 3 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off69 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  let v153 : BitVec 32 := v152
  let c15_i32_24 : BitVec 32 := 15#32
  let v47 : BitVec 32 := Scalar.remsi v28 c15_i32_24
  let c11_i32_53 : BitVec 32 := 11#32
  let v102 : BitVec 32 := Scalar.subi v47 c11_i32_53
  let c1024_i32_54 : BitVec 32 := 1024#32
  let v103 : BitVec 32 := Scalar.muli v102 c1024_i32_54
  let v104 : BitVec 32 := v103
  ![v153.toNat, v104.toNat]
def k0_cond26 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c12_i32_58 : BitVec 32 := 12#32
  let v111 : BitVec 1 := Scalar.cmpi .sge v47 c12_i32_58
  let c13_i32 : BitVec 32 := 13#32
  let v112 : BitVec 1 := Scalar.cmpi .slt v47 c13_i32
  let v113 : BitVec 1 := Scalar.andi v111 v112
  let v146 : BitVec 32 := Scalar.extui v113
  let c0_i32_76 : BitVec 32 := 0#32
  let v147 : BitVec 1 := Scalar.cmpi .ne v146 c0_i32_76
  v147

def k0_mult50 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  v152
def k0_off70 (i : grid0.Coords) : Fin 1 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off71 (i : grid0.Coords) : Fin 3 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off72 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  let v153 : BitVec 32 := v152
  let c15_i32_24 : BitVec 32 := 15#32
  let v47 : BitVec 32 := Scalar.remsi v28 c15_i32_24
  let c12_i32_56 : BitVec 32 := 12#32
  let v108 : BitVec 32 := Scalar.subi v47 c12_i32_56
  let c1024_i32_57 : BitVec 32 := 1024#32
  let v109 : BitVec 32 := Scalar.muli v108 c1024_i32_57
  let v110 : BitVec 32 := v109
  ![v153.toNat, v110.toNat]
def k0_cond27 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c13_i32_61 : BitVec 32 := 13#32
  let v117 : BitVec 1 := Scalar.cmpi .sge v47 c13_i32_61
  let c14_i32 : BitVec 32 := 14#32
  let v118 : BitVec 1 := Scalar.cmpi .slt v47 c14_i32
  let v119 : BitVec 1 := Scalar.andi v117 v118
  let v148 : BitVec 32 := Scalar.extui v119
  let c0_i32_77 : BitVec 32 := 0#32
  let v149 : BitVec 1 := Scalar.cmpi .ne v148 c0_i32_77
  v149

def k0_mult51 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  v152
def k0_off73 (i : grid0.Coords) : Fin 1 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off74 (i : grid0.Coords) : Fin 3 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off75 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  let v153 : BitVec 32 := v152
  let c15_i32_24 : BitVec 32 := 15#32
  let v47 : BitVec 32 := Scalar.remsi v28 c15_i32_24
  let c13_i32_59 : BitVec 32 := 13#32
  let v114 : BitVec 32 := Scalar.subi v47 c13_i32_59
  let c1024_i32_60 : BitVec 32 := 1024#32
  let v115 : BitVec 32 := Scalar.muli v114 c1024_i32_60
  let v116 : BitVec 32 := v115
  ![v153.toNat, v116.toNat]
def k0_cond28 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c15_i32_24 : BitVec 32 := 15#32
  let v47 : BitVec 32 := Scalar.remsi v28 c15_i32_24
  let c14_i32_64 : BitVec 32 := 14#32
  let v123 : BitVec 1 := Scalar.cmpi .sge v47 c14_i32_64
  let c15_i32_65 : BitVec 32 := 15#32
  let v124 : BitVec 1 := Scalar.cmpi .slt v47 c15_i32_65
  let v125 : BitVec 1 := Scalar.andi v123 v124
  let v150 : BitVec 32 := Scalar.extui v125
  let c0_i32_78 : BitVec 32 := 0#32
  let v151 : BitVec 1 := Scalar.cmpi .ne v150 c0_i32_78
  v151

def k0_mult52 (i : grid0.Coords) : BitVec 32 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  v152
def k0_off76 (i : grid0.Coords) : Fin 1 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off77 (i : grid0.Coords) : Fin 3 → Nat :=
  let c1_i32_16 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off78 (i : grid0.Coords) : Fin 2 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c15_i32_17 : BitVec 32 := 15#32
  let c0_i32_20 : BitVec 32 := 0#32
  let v36 : BitVec 1 := Scalar.cmpi .sgt c15_i32_17 c0_i32_20
  let v37 : BitVec 32 := Scalar.extui v36
  let c0_i32_21 : BitVec 32 := 0#32
  let v38 : BitVec 1 := Scalar.cmpi .slt c15_i32_17 c0_i32_21
  let v39 : BitVec 32 := Scalar.extui v38
  let v40 : BitVec 32 := Scalar.subi v37 v39
  let v41 : BitVec 1 := Scalar.cmpi .ne v35 v40
  let v42 : BitVec 32 := Scalar.remsi v28 c15_i32_17
  let c0_i32_22 : BitVec 32 := 0#32
  let v43 : BitVec 1 := Scalar.cmpi .ne v42 c0_i32_22
  let v44 : BitVec 1 := Scalar.andi v41 v43
  let v30 : BitVec 32 := Scalar.divsi v28 c15_i32_17
  let c1_i32_23 : BitVec 32 := 1#32
  let v45 : BitVec 32 := Scalar.subi v30 c1_i32_23
  let v46 : BitVec 32 := Scalar.select v44 v45 v30
  let c1024_i32_79 : BitVec 32 := 1024#32
  let v152 : BitVec 32 := Scalar.muli v46 c1024_i32_79
  let v153 : BitVec 32 := v152
  let c15_i32_24 : BitVec 32 := 15#32
  let v47 : BitVec 32 := Scalar.remsi v28 c15_i32_24
  let c14_i32_62 : BitVec 32 := 14#32
  let v120 : BitVec 32 := Scalar.subi v47 c14_i32_62
  let c1024_i32_63 : BitVec 32 := 1024#32
  let v121 : BitVec 32 := Scalar.muli v120 c1024_i32_63
  let v122 : BitVec 32 := v121
  ![v153.toNat, v122.toNat]
def k0_off79 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off80 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_2 : BitVec 32 := 0#32
  let c0_i32_3 : BitVec 32 := 0#32
  ![v2.toNat, 0, 0]
def k0_off81 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v20 : Index := Scalar.indexCast v2
  let c0_9 : Index := 0#32
  let c0_10 : Index := 0#32
  ![v20.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== Reference4Ideal.lean ====
abbrev S1024x15360 : Shape := ⟨2, ![1024, 15360]⟩
abbrev S8192x1024 : Shape := ⟨2, ![8192, 1024]⟩
abbrev S8192x2048 : Shape := ⟨2, ![8192, 2048]⟩
abbrev S_ : Shape := ⟨0, ![]⟩
abbrev S8192x15360 : Shape := ⟨2, ![8192, 15360]⟩

abbrev nBuf : Space → Nat
  | .hbm => 32
  | .vmem => 0
  | .smem => 0
  | _ => 0

abbrev bufTy : (tb : Table) → Fin (tcTables nBuf tb) → BufTy
  | .hbm, ⟨0, _⟩ => ⟨S1024x15360, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x15360, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x2048, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x15360, .f32⟩
  | .hbm, ⟨31, _⟩ => ⟨S8192x1024, .f32⟩
  | _, _ => ⟨S1024x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]
-- ==== Kernel5.lean ====
abbrev S8192x1024 : Shape := ⟨2, ![8192, 1024]⟩
abbrev S8192x2048 : Shape := ⟨2, ![8192, 2048]⟩
abbrev S1024x15360 : Shape := ⟨2, ![1024, 15360]⟩
abbrev S1024x1024 : Shape := ⟨2, ![1024, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩

abbrev nBuf : Space → Nat
  | .hbm => 29
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x2048, .bf16⟩
  | .hbm, ⟨18, _⟩ => ⟨S8192x2048, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8192x1024, .bf16⟩
  | .hbm, ⟨26, _⟩ => ⟨S8192x1024, .bf16⟩
  | .hbm, ⟨27, _⟩ => ⟨S8192x1024, .bf16⟩
  | .hbm, ⟨28, _⟩ => ⟨S1024x15360, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S2x1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![15, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

def k0_mult1 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c0_i32_23 : BitVec 32 := 0#32
  let v46 : BitVec 32 := Scalar.subi v45 c0_i32_23
  let c1024_i32 : BitVec 32 := 1024#32
  let v47 : BitVec 32 := Scalar.muli v46 c1024_i32
  v47
def k0_mult2 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c1_i32_26 : BitVec 32 := 1#32
  let v52 : BitVec 32 := Scalar.subi v45 c1_i32_26
  let c1024_i32_27 : BitVec 32 := 1024#32
  let v53 : BitVec 32 := Scalar.muli v52 c1024_i32_27
  v53
def k0_mult3 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c2_i32_30 : BitVec 32 := 2#32
  let v58 : BitVec 32 := Scalar.subi v45 c2_i32_30
  let c1024_i32_31 : BitVec 32 := 1024#32
  let v59 : BitVec 32 := Scalar.muli v58 c1024_i32_31
  v59
def k0_mult4 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c4_i32_33 : BitVec 32 := 4#32
  let v64 : BitVec 32 := Scalar.subi v45 c4_i32_33
  let c1024_i32_34 : BitVec 32 := 1024#32
  let v65 : BitVec 32 := Scalar.muli v64 c1024_i32_34
  v65
def k0_mult5 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c6_i32_36 : BitVec 32 := 6#32
  let v70 : BitVec 32 := Scalar.subi v45 c6_i32_36
  let c1024_i32_37 : BitVec 32 := 1024#32
  let v71 : BitVec 32 := Scalar.muli v70 c1024_i32_37
  v71
def k0_mult6 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c7_i32_39 : BitVec 32 := 7#32
  let v76 : BitVec 32 := Scalar.subi v45 c7_i32_39
  let c1024_i32_40 : BitVec 32 := 1024#32
  let v77 : BitVec 32 := Scalar.muli v76 c1024_i32_40
  v77
def k0_mult7 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c8_i32_43 : BitVec 32 := 8#32
  let v82 : BitVec 32 := Scalar.subi v45 c8_i32_43
  let c1024_i32_44 : BitVec 32 := 1024#32
  let v83 : BitVec 32 := Scalar.muli v82 c1024_i32_44
  v83
def k0_mult8 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c9_i32_46 : BitVec 32 := 9#32
  let v88 : BitVec 32 := Scalar.subi v45 c9_i32_46
  let c1024_i32_47 : BitVec 32 := 1024#32
  let v89 : BitVec 32 := Scalar.muli v88 c1024_i32_47
  v89
def k0_mult9 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c10_i32_49 : BitVec 32 := 10#32
  let v94 : BitVec 32 := Scalar.subi v45 c10_i32_49
  let c1024_i32_50 : BitVec 32 := 1024#32
  let v95 : BitVec 32 := Scalar.muli v94 c1024_i32_50
  v95
def k0_mult10 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c11_i32_52 : BitVec 32 := 11#32
  let v100 : BitVec 32 := Scalar.subi v45 c11_i32_52
  let c1024_i32_53 : BitVec 32 := 1024#32
  let v101 : BitVec 32 := Scalar.muli v100 c1024_i32_53
  v101
def k0_mult11 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c12_i32_55 : BitVec 32 := 12#32
  let v106 : BitVec 32 := Scalar.subi v45 c12_i32_55
  let c1024_i32_56 : BitVec 32 := 1024#32
  let v107 : BitVec 32 := Scalar.muli v106 c1024_i32_56
  v107
def k0_mult12 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c13_i32_58 : BitVec 32 := 13#32
  let v112 : BitVec 32 := Scalar.subi v45 c13_i32_58
  let c1024_i32_59 : BitVec 32 := 1024#32
  let v113 : BitVec 32 := Scalar.muli v112 c1024_i32_59
  v113
def k0_mult13 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c14_i32_61 : BitVec 32 := 14#32
  let v118 : BitVec 32 := Scalar.subi v45 c14_i32_61
  let c1024_i32_62 : BitVec 32 := 1024#32
  let v119 : BitVec 32 := Scalar.muli v118 c1024_i32_62
  v119
def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c0_i32_24 : BitVec 32 := 0#32
  let v49 : BitVec 1 := Scalar.cmpi .sge v45 c0_i32_24
  let c1_i32_25 : BitVec 32 := 1#32
  let v50 : BitVec 1 := Scalar.cmpi .slt v45 c1_i32_25
  let v51 : BitVec 1 := Scalar.andi v49 v50
  let v124 : BitVec 32 := Scalar.extui v51
  let c0_i32_64 : BitVec 32 := 0#32
  let v125 : BitVec 1 := Scalar.cmpi .ne v124 c0_i32_64
  v125

def k0_mult14 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  v150
def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off3 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  let v151 : BitVec 32 := v150
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c0_i32_23 : BitVec 32 := 0#32
  let v46 : BitVec 32 := Scalar.subi v45 c0_i32_23
  let c1024_i32 : BitVec 32 := 1024#32
  let v47 : BitVec 32 := Scalar.muli v46 c1024_i32
  let v48 : BitVec 32 := v47
  ![v151.toNat, v48.toNat]
def k0_cond3 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c1_i32_28 : BitVec 32 := 1#32
  let v55 : BitVec 1 := Scalar.cmpi .sge v45 c1_i32_28
  let c2_i32_29 : BitVec 32 := 2#32
  let v56 : BitVec 1 := Scalar.cmpi .slt v45 c2_i32_29
  let v57 : BitVec 1 := Scalar.andi v55 v56
  let v126 : BitVec 32 := Scalar.extui v57
  let c0_i32_65 : BitVec 32 := 0#32
  let v127 : BitVec 1 := Scalar.cmpi .ne v126 c0_i32_65
  v127

def k0_mult15 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  v150
def k0_off4 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off5 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off6 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  let v151 : BitVec 32 := v150
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c1_i32_26 : BitVec 32 := 1#32
  let v52 : BitVec 32 := Scalar.subi v45 c1_i32_26
  let c1024_i32_27 : BitVec 32 := 1024#32
  let v53 : BitVec 32 := Scalar.muli v52 c1024_i32_27
  let v54 : BitVec 32 := v53
  ![v151.toNat, v54.toNat]
def k0_cond4 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c2_i32_32 : BitVec 32 := 2#32
  let v61 : BitVec 1 := Scalar.cmpi .sge v45 c2_i32_32
  let c4_i32 : BitVec 32 := 4#32
  let v62 : BitVec 1 := Scalar.cmpi .slt v45 c4_i32
  let v63 : BitVec 1 := Scalar.andi v61 v62
  let v128 : BitVec 32 := Scalar.extui v63
  let c0_i32_66 : BitVec 32 := 0#32
  let v129 : BitVec 1 := Scalar.cmpi .ne v128 c0_i32_66
  v129

def k0_mult16 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  v150
def k0_off7 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off9 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  let v151 : BitVec 32 := v150
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c2_i32_30 : BitVec 32 := 2#32
  let v58 : BitVec 32 := Scalar.subi v45 c2_i32_30
  let c1024_i32_31 : BitVec 32 := 1024#32
  let v59 : BitVec 32 := Scalar.muli v58 c1024_i32_31
  let v60 : BitVec 32 := v59
  ![v151.toNat, v60.toNat]
def k0_cond5 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c4_i32_35 : BitVec 32 := 4#32
  let v67 : BitVec 1 := Scalar.cmpi .sge v45 c4_i32_35
  let c6_i32 : BitVec 32 := 6#32
  let v68 : BitVec 1 := Scalar.cmpi .slt v45 c6_i32
  let v69 : BitVec 1 := Scalar.andi v67 v68
  let v130 : BitVec 32 := Scalar.extui v69
  let c0_i32_67 : BitVec 32 := 0#32
  let v131 : BitVec 1 := Scalar.cmpi .ne v130 c0_i32_67
  v131

def k0_mult17 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  v150
def k0_off10 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off11 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off12 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  let v151 : BitVec 32 := v150
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c4_i32_33 : BitVec 32 := 4#32
  let v64 : BitVec 32 := Scalar.subi v45 c4_i32_33
  let c1024_i32_34 : BitVec 32 := 1024#32
  let v65 : BitVec 32 := Scalar.muli v64 c1024_i32_34
  let v66 : BitVec 32 := v65
  ![v151.toNat, v66.toNat]
def k0_cond6 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c6_i32_38 : BitVec 32 := 6#32
  let v73 : BitVec 1 := Scalar.cmpi .sge v45 c6_i32_38
  let c7_i32 : BitVec 32 := 7#32
  let v74 : BitVec 1 := Scalar.cmpi .slt v45 c7_i32
  let v75 : BitVec 1 := Scalar.andi v73 v74
  let v132 : BitVec 32 := Scalar.extui v75
  let c0_i32_68 : BitVec 32 := 0#32
  let v133 : BitVec 1 := Scalar.cmpi .ne v132 c0_i32_68
  v133

def k0_mult18 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  v150
def k0_off13 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off14 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off15 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  let v151 : BitVec 32 := v150
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c6_i32_36 : BitVec 32 := 6#32
  let v70 : BitVec 32 := Scalar.subi v45 c6_i32_36
  let c1024_i32_37 : BitVec 32 := 1024#32
  let v71 : BitVec 32 := Scalar.muli v70 c1024_i32_37
  let v72 : BitVec 32 := v71
  ![v151.toNat, v72.toNat]
def k0_cond7 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c7_i32_41 : BitVec 32 := 7#32
  let v79 : BitVec 1 := Scalar.cmpi .sge v45 c7_i32_41
  let c8_i32_42 : BitVec 32 := 8#32
  let v80 : BitVec 1 := Scalar.cmpi .slt v45 c8_i32_42
  let v81 : BitVec 1 := Scalar.andi v79 v80
  let v134 : BitVec 32 := Scalar.extui v81
  let c0_i32_69 : BitVec 32 := 0#32
  let v135 : BitVec 1 := Scalar.cmpi .ne v134 c0_i32_69
  v135

def k0_mult19 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  v150
def k0_off16 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off17 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off18 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  let v151 : BitVec 32 := v150
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c7_i32_39 : BitVec 32 := 7#32
  let v76 : BitVec 32 := Scalar.subi v45 c7_i32_39
  let c1024_i32_40 : BitVec 32 := 1024#32
  let v77 : BitVec 32 := Scalar.muli v76 c1024_i32_40
  let v78 : BitVec 32 := v77
  ![v151.toNat, v78.toNat]
def k0_cond8 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c8_i32_45 : BitVec 32 := 8#32
  let v85 : BitVec 1 := Scalar.cmpi .sge v45 c8_i32_45
  let c9_i32 : BitVec 32 := 9#32
  let v86 : BitVec 1 := Scalar.cmpi .slt v45 c9_i32
  let v87 : BitVec 1 := Scalar.andi v85 v86
  let v136 : BitVec 32 := Scalar.extui v87
  let c0_i32_70 : BitVec 32 := 0#32
  let v137 : BitVec 1 := Scalar.cmpi .ne v136 c0_i32_70
  v137

def k0_mult20 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  v150
def k0_off19 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off20 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off21 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  let v151 : BitVec 32 := v150
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c8_i32_43 : BitVec 32 := 8#32
  let v82 : BitVec 32 := Scalar.subi v45 c8_i32_43
  let c1024_i32_44 : BitVec 32 := 1024#32
  let v83 : BitVec 32 := Scalar.muli v82 c1024_i32_44
  let v84 : BitVec 32 := v83
  ![v151.toNat, v84.toNat]
def k0_cond9 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c9_i32_48 : BitVec 32 := 9#32
  let v91 : BitVec 1 := Scalar.cmpi .sge v45 c9_i32_48
  let c10_i32 : BitVec 32 := 10#32
  let v92 : BitVec 1 := Scalar.cmpi .slt v45 c10_i32
  let v93 : BitVec 1 := Scalar.andi v91 v92
  let v138 : BitVec 32 := Scalar.extui v93
  let c0_i32_71 : BitVec 32 := 0#32
  let v139 : BitVec 1 := Scalar.cmpi .ne v138 c0_i32_71
  v139

def k0_mult21 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  v150
def k0_off22 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off23 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off24 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  let v151 : BitVec 32 := v150
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c9_i32_46 : BitVec 32 := 9#32
  let v88 : BitVec 32 := Scalar.subi v45 c9_i32_46
  let c1024_i32_47 : BitVec 32 := 1024#32
  let v89 : BitVec 32 := Scalar.muli v88 c1024_i32_47
  let v90 : BitVec 32 := v89
  ![v151.toNat, v90.toNat]
def k0_cond10 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c10_i32_51 : BitVec 32 := 10#32
  let v97 : BitVec 1 := Scalar.cmpi .sge v45 c10_i32_51
  let c11_i32 : BitVec 32 := 11#32
  let v98 : BitVec 1 := Scalar.cmpi .slt v45 c11_i32
  let v99 : BitVec 1 := Scalar.andi v97 v98
  let v140 : BitVec 32 := Scalar.extui v99
  let c0_i32_72 : BitVec 32 := 0#32
  let v141 : BitVec 1 := Scalar.cmpi .ne v140 c0_i32_72
  v141

def k0_mult22 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  v150
def k0_off25 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off26 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off27 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  let v151 : BitVec 32 := v150
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c10_i32_49 : BitVec 32 := 10#32
  let v94 : BitVec 32 := Scalar.subi v45 c10_i32_49
  let c1024_i32_50 : BitVec 32 := 1024#32
  let v95 : BitVec 32 := Scalar.muli v94 c1024_i32_50
  let v96 : BitVec 32 := v95
  ![v151.toNat, v96.toNat]
def k0_cond11 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c11_i32_54 : BitVec 32 := 11#32
  let v103 : BitVec 1 := Scalar.cmpi .sge v45 c11_i32_54
  let c12_i32 : BitVec 32 := 12#32
  let v104 : BitVec 1 := Scalar.cmpi .slt v45 c12_i32
  let v105 : BitVec 1 := Scalar.andi v103 v104
  let v142 : BitVec 32 := Scalar.extui v105
  let c0_i32_73 : BitVec 32 := 0#32
  let v143 : BitVec 1 := Scalar.cmpi .ne v142 c0_i32_73
  v143

def k0_mult23 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  v150
def k0_off28 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off29 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off30 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  let v151 : BitVec 32 := v150
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c11_i32_52 : BitVec 32 := 11#32
  let v100 : BitVec 32 := Scalar.subi v45 c11_i32_52
  let c1024_i32_53 : BitVec 32 := 1024#32
  let v101 : BitVec 32 := Scalar.muli v100 c1024_i32_53
  let v102 : BitVec 32 := v101
  ![v151.toNat, v102.toNat]
def k0_cond12 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c12_i32_57 : BitVec 32 := 12#32
  let v109 : BitVec 1 := Scalar.cmpi .sge v45 c12_i32_57
  let c13_i32 : BitVec 32 := 13#32
  let v110 : BitVec 1 := Scalar.cmpi .slt v45 c13_i32
  let v111 : BitVec 1 := Scalar.andi v109 v110
  let v144 : BitVec 32 := Scalar.extui v111
  let c0_i32_74 : BitVec 32 := 0#32
  let v145 : BitVec 1 := Scalar.cmpi .ne v144 c0_i32_74
  v145

def k0_mult24 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  v150
def k0_off31 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off32 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off33 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  let v151 : BitVec 32 := v150
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c12_i32_55 : BitVec 32 := 12#32
  let v106 : BitVec 32 := Scalar.subi v45 c12_i32_55
  let c1024_i32_56 : BitVec 32 := 1024#32
  let v107 : BitVec 32 := Scalar.muli v106 c1024_i32_56
  let v108 : BitVec 32 := v107
  ![v151.toNat, v108.toNat]
def k0_cond13 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c13_i32_60 : BitVec 32 := 13#32
  let v115 : BitVec 1 := Scalar.cmpi .sge v45 c13_i32_60
  let c14_i32 : BitVec 32 := 14#32
  let v116 : BitVec 1 := Scalar.cmpi .slt v45 c14_i32
  let v117 : BitVec 1 := Scalar.andi v115 v116
  let v146 : BitVec 32 := Scalar.extui v117
  let c0_i32_75 : BitVec 32 := 0#32
  let v147 : BitVec 1 := Scalar.cmpi .ne v146 c0_i32_75
  v147

def k0_mult25 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  v150
def k0_off34 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off35 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off36 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  let v151 : BitVec 32 := v150
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c13_i32_58 : BitVec 32 := 13#32
  let v112 : BitVec 32 := Scalar.subi v45 c13_i32_58
  let c1024_i32_59 : BitVec 32 := 1024#32
  let v113 : BitVec 32 := Scalar.muli v112 c1024_i32_59
  let v114 : BitVec 32 := v113
  ![v151.toNat, v114.toNat]
def k0_cond14 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c14_i32_63 : BitVec 32 := 14#32
  let v121 : BitVec 1 := Scalar.cmpi .sge v45 c14_i32_63
  let c15_i32 : BitVec 32 := 15#32
  let v122 : BitVec 1 := Scalar.cmpi .slt v45 c15_i32
  let v123 : BitVec 1 := Scalar.andi v121 v122
  let v148 : BitVec 32 := Scalar.extui v123
  let c0_i32_76 : BitVec 32 := 0#32
  let v149 : BitVec 1 := Scalar.cmpi .ne v148 c0_i32_76
  v149

def k0_mult26 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  v150
def k0_off37 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off38 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_78 : BitVec 32 := 0#32
  let c0_i32_79 : BitVec 32 := 0#32
  ![v2.toNat, 0, 0]
def k0_off39 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_77 : BitVec 32 := 1024#32
  let v150 : BitVec 32 := Scalar.muli v28 c1024_i32_77
  let v151 : BitVec 32 := v150
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c14_i32_61 : BitVec 32 := 14#32
  let v118 : BitVec 32 := Scalar.subi v45 c14_i32_61
  let c1024_i32_62 : BitVec 32 := 1024#32
  let v119 : BitVec 32 := Scalar.muli v118 c1024_i32_62
  let v120 : BitVec 32 := v119
  ![v151.toNat, v120.toNat]
def k0_cond15 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32 : BitVec 32 := 1#32
  let v6 : BitVec 32 := Scalar.addi v1 c1_i32
  let c120_i32 : BitVec 32 := 120#32
  let v7 : BitVec 1 := Scalar.cmpi .slt v6 c120_i32
  let v8 : BitVec 32 := Scalar.extui v7
  let c0_i32_1 : BitVec 32 := 0#32
  let v9 : BitVec 1 := Scalar.cmpi .ne v8 c0_i32_1
  v9

def k0_mult27 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c0_i32_25 : BitVec 32 := 0#32
  let v48 : BitVec 32 := Scalar.subi v47 c0_i32_25
  let c1024_i32 : BitVec 32 := 1024#32
  let v49 : BitVec 32 := Scalar.muli v48 c1024_i32
  v49
def k0_mult28 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c1_i32_28 : BitVec 32 := 1#32
  let v54 : BitVec 32 := Scalar.subi v47 c1_i32_28
  let c1024_i32_29 : BitVec 32 := 1024#32
  let v55 : BitVec 32 := Scalar.muli v54 c1024_i32_29
  v55
def k0_mult29 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c2_i32_32 : BitVec 32 := 2#32
  let v60 : BitVec 32 := Scalar.subi v47 c2_i32_32
  let c1024_i32_33 : BitVec 32 := 1024#32
  let v61 : BitVec 32 := Scalar.muli v60 c1024_i32_33
  v61
def k0_mult30 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c4_i32_35 : BitVec 32 := 4#32
  let v66 : BitVec 32 := Scalar.subi v47 c4_i32_35
  let c1024_i32_36 : BitVec 32 := 1024#32
  let v67 : BitVec 32 := Scalar.muli v66 c1024_i32_36
  v67
def k0_mult31 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c6_i32_38 : BitVec 32 := 6#32
  let v72 : BitVec 32 := Scalar.subi v47 c6_i32_38
  let c1024_i32_39 : BitVec 32 := 1024#32
  let v73 : BitVec 32 := Scalar.muli v72 c1024_i32_39
  v73
def k0_mult32 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c7_i32_41 : BitVec 32 := 7#32
  let v78 : BitVec 32 := Scalar.subi v47 c7_i32_41
  let c1024_i32_42 : BitVec 32 := 1024#32
  let v79 : BitVec 32 := Scalar.muli v78 c1024_i32_42
  v79
def k0_mult33 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c8_i32_45 : BitVec 32 := 8#32
  let v84 : BitVec 32 := Scalar.subi v47 c8_i32_45
  let c1024_i32_46 : BitVec 32 := 1024#32
  let v85 : BitVec 32 := Scalar.muli v84 c1024_i32_46
  v85
def k0_mult34 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c9_i32_48 : BitVec 32 := 9#32
  let v90 : BitVec 32 := Scalar.subi v47 c9_i32_48
  let c1024_i32_49 : BitVec 32 := 1024#32
  let v91 : BitVec 32 := Scalar.muli v90 c1024_i32_49
  v91
def k0_mult35 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c10_i32_51 : BitVec 32 := 10#32
  let v96 : BitVec 32 := Scalar.subi v47 c10_i32_51
  let c1024_i32_52 : BitVec 32 := 1024#32
  let v97 : BitVec 32 := Scalar.muli v96 c1024_i32_52
  v97
def k0_mult36 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c11_i32_54 : BitVec 32 := 11#32
  let v102 : BitVec 32 := Scalar.subi v47 c11_i32_54
  let c1024_i32_55 : BitVec 32 := 1024#32
  let v103 : BitVec 32 := Scalar.muli v102 c1024_i32_55
  v103
def k0_mult37 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c12_i32_57 : BitVec 32 := 12#32
  let v108 : BitVec 32 := Scalar.subi v47 c12_i32_57
  let c1024_i32_58 : BitVec 32 := 1024#32
  let v109 : BitVec 32 := Scalar.muli v108 c1024_i32_58
  v109
def k0_mult38 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c13_i32_60 : BitVec 32 := 13#32
  let v114 : BitVec 32 := Scalar.subi v47 c13_i32_60
  let c1024_i32_61 : BitVec 32 := 1024#32
  let v115 : BitVec 32 := Scalar.muli v114 c1024_i32_61
  v115
def k0_mult39 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c14_i32_63 : BitVec 32 := 14#32
  let v120 : BitVec 32 := Scalar.subi v47 c14_i32_63
  let c1024_i32_64 : BitVec 32 := 1024#32
  let v121 : BitVec 32 := Scalar.muli v120 c1024_i32_64
  v121
def k0_cond16 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c0_i32_26 : BitVec 32 := 0#32
  let v51 : BitVec 1 := Scalar.cmpi .sge v47 c0_i32_26
  let c1_i32_27 : BitVec 32 := 1#32
  let v52 : BitVec 1 := Scalar.cmpi .slt v47 c1_i32_27
  let v53 : BitVec 1 := Scalar.andi v51 v52
  let v126 : BitVec 32 := Scalar.extui v53
  let c0_i32_66 : BitVec 32 := 0#32
  let v127 : BitVec 1 := Scalar.cmpi .ne v126 c0_i32_66
  v127

def k0_mult40 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  v152
def k0_off40 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off41 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off42 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  let v153 : BitVec 32 := v152
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c0_i32_25 : BitVec 32 := 0#32
  let v48 : BitVec 32 := Scalar.subi v47 c0_i32_25
  let c1024_i32 : BitVec 32 := 1024#32
  let v49 : BitVec 32 := Scalar.muli v48 c1024_i32
  let v50 : BitVec 32 := v49
  ![v153.toNat, v50.toNat]
def k0_cond17 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c1_i32_30 : BitVec 32 := 1#32
  let v57 : BitVec 1 := Scalar.cmpi .sge v47 c1_i32_30
  let c2_i32_31 : BitVec 32 := 2#32
  let v58 : BitVec 1 := Scalar.cmpi .slt v47 c2_i32_31
  let v59 : BitVec 1 := Scalar.andi v57 v58
  let v128 : BitVec 32 := Scalar.extui v59
  let c0_i32_67 : BitVec 32 := 0#32
  let v129 : BitVec 1 := Scalar.cmpi .ne v128 c0_i32_67
  v129

def k0_mult41 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  v152
def k0_off43 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off44 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off45 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  let v153 : BitVec 32 := v152
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c1_i32_28 : BitVec 32 := 1#32
  let v54 : BitVec 32 := Scalar.subi v47 c1_i32_28
  let c1024_i32_29 : BitVec 32 := 1024#32
  let v55 : BitVec 32 := Scalar.muli v54 c1024_i32_29
  let v56 : BitVec 32 := v55
  ![v153.toNat, v56.toNat]
def k0_cond18 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c2_i32_34 : BitVec 32 := 2#32
  let v63 : BitVec 1 := Scalar.cmpi .sge v47 c2_i32_34
  let c4_i32 : BitVec 32 := 4#32
  let v64 : BitVec 1 := Scalar.cmpi .slt v47 c4_i32
  let v65 : BitVec 1 := Scalar.andi v63 v64
  let v130 : BitVec 32 := Scalar.extui v65
  let c0_i32_68 : BitVec 32 := 0#32
  let v131 : BitVec 1 := Scalar.cmpi .ne v130 c0_i32_68
  v131

def k0_mult42 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  v152
def k0_off46 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off47 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off48 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  let v153 : BitVec 32 := v152
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c2_i32_32 : BitVec 32 := 2#32
  let v60 : BitVec 32 := Scalar.subi v47 c2_i32_32
  let c1024_i32_33 : BitVec 32 := 1024#32
  let v61 : BitVec 32 := Scalar.muli v60 c1024_i32_33
  let v62 : BitVec 32 := v61
  ![v153.toNat, v62.toNat]
def k0_cond19 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c4_i32_37 : BitVec 32 := 4#32
  let v69 : BitVec 1 := Scalar.cmpi .sge v47 c4_i32_37
  let c6_i32 : BitVec 32 := 6#32
  let v70 : BitVec 1 := Scalar.cmpi .slt v47 c6_i32
  let v71 : BitVec 1 := Scalar.andi v69 v70
  let v132 : BitVec 32 := Scalar.extui v71
  let c0_i32_69 : BitVec 32 := 0#32
  let v133 : BitVec 1 := Scalar.cmpi .ne v132 c0_i32_69
  v133

def k0_mult43 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  v152
def k0_off49 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off50 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off51 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  let v153 : BitVec 32 := v152
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c4_i32_35 : BitVec 32 := 4#32
  let v66 : BitVec 32 := Scalar.subi v47 c4_i32_35
  let c1024_i32_36 : BitVec 32 := 1024#32
  let v67 : BitVec 32 := Scalar.muli v66 c1024_i32_36
  let v68 : BitVec 32 := v67
  ![v153.toNat, v68.toNat]
def k0_cond20 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c6_i32_40 : BitVec 32 := 6#32
  let v75 : BitVec 1 := Scalar.cmpi .sge v47 c6_i32_40
  let c7_i32 : BitVec 32 := 7#32
  let v76 : BitVec 1 := Scalar.cmpi .slt v47 c7_i32
  let v77 : BitVec 1 := Scalar.andi v75 v76
  let v134 : BitVec 32 := Scalar.extui v77
  let c0_i32_70 : BitVec 32 := 0#32
  let v135 : BitVec 1 := Scalar.cmpi .ne v134 c0_i32_70
  v135

def k0_mult44 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  v152
def k0_off52 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off53 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off54 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  let v153 : BitVec 32 := v152
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c6_i32_38 : BitVec 32 := 6#32
  let v72 : BitVec 32 := Scalar.subi v47 c6_i32_38
  let c1024_i32_39 : BitVec 32 := 1024#32
  let v73 : BitVec 32 := Scalar.muli v72 c1024_i32_39
  let v74 : BitVec 32 := v73
  ![v153.toNat, v74.toNat]
def k0_cond21 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c7_i32_43 : BitVec 32 := 7#32
  let v81 : BitVec 1 := Scalar.cmpi .sge v47 c7_i32_43
  let c8_i32_44 : BitVec 32 := 8#32
  let v82 : BitVec 1 := Scalar.cmpi .slt v47 c8_i32_44
  let v83 : BitVec 1 := Scalar.andi v81 v82
  let v136 : BitVec 32 := Scalar.extui v83
  let c0_i32_71 : BitVec 32 := 0#32
  let v137 : BitVec 1 := Scalar.cmpi .ne v136 c0_i32_71
  v137

def k0_mult45 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  v152
def k0_off55 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off56 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off57 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  let v153 : BitVec 32 := v152
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c7_i32_41 : BitVec 32 := 7#32
  let v78 : BitVec 32 := Scalar.subi v47 c7_i32_41
  let c1024_i32_42 : BitVec 32 := 1024#32
  let v79 : BitVec 32 := Scalar.muli v78 c1024_i32_42
  let v80 : BitVec 32 := v79
  ![v153.toNat, v80.toNat]
def k0_cond22 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c8_i32_47 : BitVec 32 := 8#32
  let v87 : BitVec 1 := Scalar.cmpi .sge v47 c8_i32_47
  let c9_i32 : BitVec 32 := 9#32
  let v88 : BitVec 1 := Scalar.cmpi .slt v47 c9_i32
  let v89 : BitVec 1 := Scalar.andi v87 v88
  let v138 : BitVec 32 := Scalar.extui v89
  let c0_i32_72 : BitVec 32 := 0#32
  let v139 : BitVec 1 := Scalar.cmpi .ne v138 c0_i32_72
  v139

def k0_mult46 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  v152
def k0_off58 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off59 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off60 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  let v153 : BitVec 32 := v152
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c8_i32_45 : BitVec 32 := 8#32
  let v84 : BitVec 32 := Scalar.subi v47 c8_i32_45
  let c1024_i32_46 : BitVec 32 := 1024#32
  let v85 : BitVec 32 := Scalar.muli v84 c1024_i32_46
  let v86 : BitVec 32 := v85
  ![v153.toNat, v86.toNat]
def k0_cond23 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c9_i32_50 : BitVec 32 := 9#32
  let v93 : BitVec 1 := Scalar.cmpi .sge v47 c9_i32_50
  let c10_i32 : BitVec 32 := 10#32
  let v94 : BitVec 1 := Scalar.cmpi .slt v47 c10_i32
  let v95 : BitVec 1 := Scalar.andi v93 v94
  let v140 : BitVec 32 := Scalar.extui v95
  let c0_i32_73 : BitVec 32 := 0#32
  let v141 : BitVec 1 := Scalar.cmpi .ne v140 c0_i32_73
  v141

def k0_mult47 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  v152
def k0_off61 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off62 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off63 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  let v153 : BitVec 32 := v152
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c9_i32_48 : BitVec 32 := 9#32
  let v90 : BitVec 32 := Scalar.subi v47 c9_i32_48
  let c1024_i32_49 : BitVec 32 := 1024#32
  let v91 : BitVec 32 := Scalar.muli v90 c1024_i32_49
  let v92 : BitVec 32 := v91
  ![v153.toNat, v92.toNat]
def k0_cond24 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c10_i32_53 : BitVec 32 := 10#32
  let v99 : BitVec 1 := Scalar.cmpi .sge v47 c10_i32_53
  let c11_i32 : BitVec 32 := 11#32
  let v100 : BitVec 1 := Scalar.cmpi .slt v47 c11_i32
  let v101 : BitVec 1 := Scalar.andi v99 v100
  let v142 : BitVec 32 := Scalar.extui v101
  let c0_i32_74 : BitVec 32 := 0#32
  let v143 : BitVec 1 := Scalar.cmpi .ne v142 c0_i32_74
  v143

def k0_mult48 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  v152
def k0_off64 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off65 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off66 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  let v153 : BitVec 32 := v152
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c10_i32_51 : BitVec 32 := 10#32
  let v96 : BitVec 32 := Scalar.subi v47 c10_i32_51
  let c1024_i32_52 : BitVec 32 := 1024#32
  let v97 : BitVec 32 := Scalar.muli v96 c1024_i32_52
  let v98 : BitVec 32 := v97
  ![v153.toNat, v98.toNat]
def k0_cond25 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c11_i32_56 : BitVec 32 := 11#32
  let v105 : BitVec 1 := Scalar.cmpi .sge v47 c11_i32_56
  let c12_i32 : BitVec 32 := 12#32
  let v106 : BitVec 1 := Scalar.cmpi .slt v47 c12_i32
  let v107 : BitVec 1 := Scalar.andi v105 v106
  let v144 : BitVec 32 := Scalar.extui v107
  let c0_i32_75 : BitVec 32 := 0#32
  let v145 : BitVec 1 := Scalar.cmpi .ne v144 c0_i32_75
  v145

def k0_mult49 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  v152
def k0_off67 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off68 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off69 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  let v153 : BitVec 32 := v152
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c11_i32_54 : BitVec 32 := 11#32
  let v102 : BitVec 32 := Scalar.subi v47 c11_i32_54
  let c1024_i32_55 : BitVec 32 := 1024#32
  let v103 : BitVec 32 := Scalar.muli v102 c1024_i32_55
  let v104 : BitVec 32 := v103
  ![v153.toNat, v104.toNat]
def k0_cond26 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c12_i32_59 : BitVec 32 := 12#32
  let v111 : BitVec 1 := Scalar.cmpi .sge v47 c12_i32_59
  let c13_i32 : BitVec 32 := 13#32
  let v112 : BitVec 1 := Scalar.cmpi .slt v47 c13_i32
  let v113 : BitVec 1 := Scalar.andi v111 v112
  let v146 : BitVec 32 := Scalar.extui v113
  let c0_i32_76 : BitVec 32 := 0#32
  let v147 : BitVec 1 := Scalar.cmpi .ne v146 c0_i32_76
  v147

def k0_mult50 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  v152
def k0_off70 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off71 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off72 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  let v153 : BitVec 32 := v152
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c12_i32_57 : BitVec 32 := 12#32
  let v108 : BitVec 32 := Scalar.subi v47 c12_i32_57
  let c1024_i32_58 : BitVec 32 := 1024#32
  let v109 : BitVec 32 := Scalar.muli v108 c1024_i32_58
  let v110 : BitVec 32 := v109
  ![v153.toNat, v110.toNat]
def k0_cond27 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c13_i32_62 : BitVec 32 := 13#32
  let v117 : BitVec 1 := Scalar.cmpi .sge v47 c13_i32_62
  let c14_i32 : BitVec 32 := 14#32
  let v118 : BitVec 1 := Scalar.cmpi .slt v47 c14_i32
  let v119 : BitVec 1 := Scalar.andi v117 v118
  let v148 : BitVec 32 := Scalar.extui v119
  let c0_i32_77 : BitVec 32 := 0#32
  let v149 : BitVec 1 := Scalar.cmpi .ne v148 c0_i32_77
  v149

def k0_mult51 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  v152
def k0_off73 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off74 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off75 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  let v153 : BitVec 32 := v152
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c13_i32_60 : BitVec 32 := 13#32
  let v114 : BitVec 32 := Scalar.subi v47 c13_i32_60
  let c1024_i32_61 : BitVec 32 := 1024#32
  let v115 : BitVec 32 := Scalar.muli v114 c1024_i32_61
  let v116 : BitVec 32 := v115
  ![v153.toNat, v116.toNat]
def k0_cond28 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c14_i32_65 : BitVec 32 := 14#32
  let v123 : BitVec 1 := Scalar.cmpi .sge v47 c14_i32_65
  let c15_i32 : BitVec 32 := 15#32
  let v124 : BitVec 1 := Scalar.cmpi .slt v47 c15_i32
  let v125 : BitVec 1 := Scalar.andi v123 v124
  let v150 : BitVec 32 := Scalar.extui v125
  let c0_i32_78 : BitVec 32 := 0#32
  let v151 : BitVec 1 := Scalar.cmpi .ne v150 c0_i32_78
  v151

def k0_mult52 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  v152
def k0_off76 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off77 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_80 : BitVec 32 := 0#32
  let c0_i32_81 : BitVec 32 := 0#32
  ![v29.toNat, 0, 0]
def k0_off78 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_79 : BitVec 32 := 1024#32
  let v152 : BitVec 32 := Scalar.muli v30 c1024_i32_79
  let v153 : BitVec 32 := v152
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c14_i32_63 : BitVec 32 := 14#32
  let v120 : BitVec 32 := Scalar.subi v47 c14_i32_63
  let c1024_i32_64 : BitVec 32 := 1024#32
  let v121 : BitVec 32 := Scalar.muli v120 c1024_i32_64
  let v122 : BitVec 32 := v121
  ![v153.toNat, v122.toNat]
def k0_off79 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off80 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_2 : BitVec 32 := 0#32
  let c0_i32_3 : BitVec 32 := 0#32
  ![v2.toNat, 0, 0]
def k0_off81 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v22 : Index := Scalar.indexCast v2
  let c0_11 : Index := 0#32
  let c0_12 : Index := 0#32
  ![v22.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== Reference5Ideal.lean ====
abbrev S8192x1024 : Shape := ⟨2, ![8192, 1024]⟩
abbrev S8192x2048 : Shape := ⟨2, ![8192, 2048]⟩
abbrev S_ : Shape := ⟨0, ![]⟩
abbrev S1024x15360 : Shape := ⟨2, ![1024, 15360]⟩
abbrev S8192x15360 : Shape := ⟨2, ![8192, 15360]⟩
abbrev S15360x1024 : Shape := ⟨2, ![15360, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S1024x15360, .f32⟩
  | .hbm, ⟨16, _⟩ => ⟨S8192x15360, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x2048, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x15360, .f32⟩
  | .hbm, ⟨31, _⟩ => ⟨S15360x1024, .f32⟩
  | .hbm, ⟨32, _⟩ => ⟨S1024x15360, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== Kernel6.lean ====
abbrev S1024x4096 : Shape := ⟨2, ![1024, 4096]⟩
abbrev S8192x4096 : Shape := ⟨2, ![8192, 4096]⟩
abbrev S8192x1024 : Shape := ⟨2, ![8192, 1024]⟩
abbrev S1024x1024 : Shape := ⟨2, ![1024, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x4096, .f32⟩
  | .hbm, ⟨1, _⟩ => ⟨S8192x4096, .f32⟩
  | .hbm, ⟨2, _⟩ => ⟨S1024x4096, .bf16⟩
  | .hbm, ⟨3, _⟩ => ⟨S8192x4096, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S2x1024x1024, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_22 : BitVec 32 := 4#32
  let v45 : BitVec 32 := Scalar.remsi v1 c4_i32_22
  let c0_i32_23 : BitVec 32 := 0#32
  let v46 : BitVec 32 := Scalar.subi v45 c0_i32_23
  let c1024_i32 : BitVec 32 := 1024#32
  let v47 : BitVec 32 := Scalar.muli v46 c1024_i32
  v47
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_22 : BitVec 32 := 4#32
  let v45 : BitVec 32 := Scalar.remsi v1 c4_i32_22
  let c0_i32_24 : BitVec 32 := 0#32
  let v49 : BitVec 1 := Scalar.cmpi .sge v45 c0_i32_24
  let c4_i32_25 : BitVec 32 := 4#32
  let v50 : BitVec 1 := Scalar.cmpi .slt v45 c4_i32_25
  let v51 : BitVec 1 := Scalar.andi v49 v50
  let v52 : BitVec 32 := Scalar.extui v51
  let c0_i32_26 : BitVec 32 := 0#32
  let v53 : BitVec 1 := Scalar.cmpi .ne v52 c0_i32_26
  v53

def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c4_i32_15 : BitVec 32 := 4#32
  let c0_i32_18 : BitVec 32 := 0#32
  let v34 : BitVec 1 := Scalar.cmpi .sgt c4_i32_15 c0_i32_18
  let v35 : BitVec 32 := Scalar.extui v34
  let c0_i32_19 : BitVec 32 := 0#32
  let v36 : BitVec 1 := Scalar.cmpi .slt c4_i32_15 c0_i32_19
  let v37 : BitVec 32 := Scalar.extui v36
  let v38 : BitVec 32 := Scalar.subi v35 v37
  let v39 : BitVec 1 := Scalar.cmpi .ne v33 v38
  let v40 : BitVec 32 := Scalar.remsi v1 c4_i32_15
  let c0_i32_20 : BitVec 32 := 0#32
  let v41 : BitVec 1 := Scalar.cmpi .ne v40 c0_i32_20
  let v42 : BitVec 1 := Scalar.andi v39 v41
  let v28 : BitVec 32 := Scalar.divsi v1 c4_i32_15
  let c1_i32_21 : BitVec 32 := 1#32
  let v43 : BitVec 32 := Scalar.subi v28 c1_i32_21
  let v44 : BitVec 32 := Scalar.select v42 v43 v28
  let c1024_i32_27 : BitVec 32 := 1024#32
  let v54 : BitVec 32 := Scalar.muli v44 c1024_i32_27
  v54
def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_28 : BitVec 32 := 0#32
  let c0_i32_29 : BitVec 32 := 0#32
  ![v2.toNat, 0, 0]
def k0_off3 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_16 : BitVec 32 := 0#32
  let v29 : BitVec 1 := Scalar.cmpi .sgt v1 c0_i32_16
  let v30 : BitVec 32 := Scalar.extui v29
  let c0_i32_17 : BitVec 32 := 0#32
  let v31 : BitVec 1 := Scalar.cmpi .slt v1 c0_i32_17
  let v32 : BitVec 32 := Scalar.extui v31
  let v33 : BitVec 32 := Scalar.subi v30 v32
  let c4_i32_15 : BitVec 32 := 4#32
  let c0_i32_18 : BitVec 32 := 0#32
  let v34 : BitVec 1 := Scalar.cmpi .sgt c4_i32_15 c0_i32_18
  let v35 : BitVec 32 := Scalar.extui v34
  let c0_i32_19 : BitVec 32 := 0#32
  let v36 : BitVec 1 := Scalar.cmpi .slt c4_i32_15 c0_i32_19
  let v37 : BitVec 32 := Scalar.extui v36
  let v38 : BitVec 32 := Scalar.subi v35 v37
  let v39 : BitVec 1 := Scalar.cmpi .ne v33 v38
  let v40 : BitVec 32 := Scalar.remsi v1 c4_i32_15
  let c0_i32_20 : BitVec 32 := 0#32
  let v41 : BitVec 1 := Scalar.cmpi .ne v40 c0_i32_20
  let v42 : BitVec 1 := Scalar.andi v39 v41
  let v28 : BitVec 32 := Scalar.divsi v1 c4_i32_15
  let c1_i32_21 : BitVec 32 := 1#32
  let v43 : BitVec 32 := Scalar.subi v28 c1_i32_21
  let v44 : BitVec 32 := Scalar.select v42 v43 v28
  let c1024_i32_27 : BitVec 32 := 1024#32
  let v54 : BitVec 32 := Scalar.muli v44 c1024_i32_27
  let v55 : BitVec 32 := v54
  let c4_i32_22 : BitVec 32 := 4#32
  let v45 : BitVec 32 := Scalar.remsi v1 c4_i32_22
  let c0_i32_23 : BitVec 32 := 0#32
  let v46 : BitVec 32 := Scalar.subi v45 c0_i32_23
  let c1024_i32 : BitVec 32 := 1024#32
  let v47 : BitVec 32 := Scalar.muli v46 c1024_i32
  let v48 : BitVec 32 := v47
  ![v55.toNat, v48.toNat]
def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v6 : BitVec 32 := Scalar.addi v1 c1_i32
  let c32_i32 : BitVec 32 := 32#32
  let v7 : BitVec 1 := Scalar.cmpi .slt v6 c32_i32
  let v8 : BitVec 32 := Scalar.extui v7
  let c0_i32_1 : BitVec 32 := 0#32
  let v9 : BitVec 1 := Scalar.cmpi .ne v8 c0_i32_1
  v9

def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c4_i32_24 : BitVec 32 := 4#32
  let v47 : BitVec 32 := Scalar.remsi v28 c4_i32_24
  let c0_i32_25 : BitVec 32 := 0#32
  let v48 : BitVec 32 := Scalar.subi v47 c0_i32_25
  let c1024_i32 : BitVec 32 := 1024#32
  let v49 : BitVec 32 := Scalar.muli v48 c1024_i32
  v49
def k0_cond4 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c4_i32_24 : BitVec 32 := 4#32
  let v47 : BitVec 32 := Scalar.remsi v28 c4_i32_24
  let c0_i32_26 : BitVec 32 := 0#32
  let v51 : BitVec 1 := Scalar.cmpi .sge v47 c0_i32_26
  let c4_i32_27 : BitVec 32 := 4#32
  let v52 : BitVec 1 := Scalar.cmpi .slt v47 c4_i32_27
  let v53 : BitVec 1 := Scalar.andi v51 v52
  let v54 : BitVec 32 := Scalar.extui v53
  let c0_i32_28 : BitVec 32 := 0#32
  let v55 : BitVec 1 := Scalar.cmpi .ne v54 c0_i32_28
  v55

def k0_mult4 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c4_i32_17 : BitVec 32 := 4#32
  let c0_i32_20 : BitVec 32 := 0#32
  let v36 : BitVec 1 := Scalar.cmpi .sgt c4_i32_17 c0_i32_20
  let v37 : BitVec 32 := Scalar.extui v36
  let c0_i32_21 : BitVec 32 := 0#32
  let v38 : BitVec 1 := Scalar.cmpi .slt c4_i32_17 c0_i32_21
  let v39 : BitVec 32 := Scalar.extui v38
  let v40 : BitVec 32 := Scalar.subi v37 v39
  let v41 : BitVec 1 := Scalar.cmpi .ne v35 v40
  let v42 : BitVec 32 := Scalar.remsi v28 c4_i32_17
  let c0_i32_22 : BitVec 32 := 0#32
  let v43 : BitVec 1 := Scalar.cmpi .ne v42 c0_i32_22
  let v44 : BitVec 1 := Scalar.andi v41 v43
  let v30 : BitVec 32 := Scalar.divsi v28 c4_i32_17
  let c1_i32_23 : BitVec 32 := 1#32
  let v45 : BitVec 32 := Scalar.subi v30 c1_i32_23
  let v46 : BitVec 32 := Scalar.select v44 v45 v30
  let c1024_i32_29 : BitVec 32 := 1024#32
  let v56 : BitVec 32 := Scalar.muli v46 c1024_i32_29
  v56
def k0_off4 (i : grid0.Coords) : Fin 1 → Nat :=
  let c1_i32_16 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off5 (i : grid0.Coords) : Fin 3 → Nat :=
  let c1_i32_16 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_30 : BitVec 32 := 0#32
  let c0_i32_31 : BitVec 32 := 0#32
  ![v29.toNat, 0, 0]
def k0_off6 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_18 : BitVec 32 := 0#32
  let v31 : BitVec 1 := Scalar.cmpi .sgt v28 c0_i32_18
  let v32 : BitVec 32 := Scalar.extui v31
  let c0_i32_19 : BitVec 32 := 0#32
  let v33 : BitVec 1 := Scalar.cmpi .slt v28 c0_i32_19
  let v34 : BitVec 32 := Scalar.extui v33
  let v35 : BitVec 32 := Scalar.subi v32 v34
  let c4_i32_17 : BitVec 32 := 4#32
  let c0_i32_20 : BitVec 32 := 0#32
  let v36 : BitVec 1 := Scalar.cmpi .sgt c4_i32_17 c0_i32_20
  let v37 : BitVec 32 := Scalar.extui v36
  let c0_i32_21 : BitVec 32 := 0#32
  let v38 : BitVec 1 := Scalar.cmpi .slt c4_i32_17 c0_i32_21
  let v39 : BitVec 32 := Scalar.extui v38
  let v40 : BitVec 32 := Scalar.subi v37 v39
  let v41 : BitVec 1 := Scalar.cmpi .ne v35 v40
  let v42 : BitVec 32 := Scalar.remsi v28 c4_i32_17
  let c0_i32_22 : BitVec 32 := 0#32
  let v43 : BitVec 1 := Scalar.cmpi .ne v42 c0_i32_22
  let v44 : BitVec 1 := Scalar.andi v41 v43
  let v30 : BitVec 32 := Scalar.divsi v28 c4_i32_17
  let c1_i32_23 : BitVec 32 := 1#32
  let v45 : BitVec 32 := Scalar.subi v30 c1_i32_23
  let v46 : BitVec 32 := Scalar.select v44 v45 v30
  let c1024_i32_29 : BitVec 32 := 1024#32
  let v56 : BitVec 32 := Scalar.muli v46 c1024_i32_29
  let v57 : BitVec 32 := v56
  let c4_i32_24 : BitVec 32 := 4#32
  let v47 : BitVec 32 := Scalar.remsi v28 c4_i32_24
  let c0_i32_25 : BitVec 32 := 0#32
  let v48 : BitVec 32 := Scalar.subi v47 c0_i32_25
  let c1024_i32 : BitVec 32 := 1024#32
  let v49 : BitVec 32 := Scalar.muli v48 c1024_i32
  let v50 : BitVec 32 := v49
  ![v57.toNat, v50.toNat]
def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_2 : BitVec 32 := 0#32
  let c0_i32_3 : BitVec 32 := 0#32
  ![v2.toNat, 0, 0]
def k0_off9 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v20 : Index := Scalar.indexCast v2
  let c0_9 : Index := 0#32
  let c0_10 : Index := 0#32
  ![v20.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== Reference6Ideal.lean ====
abbrev S1024x4096 : Shape := ⟨2, ![1024, 4096]⟩
abbrev S8192x4096 : Shape := ⟨2, ![8192, 4096]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S8192x4096, .f32⟩
  | .hbm, ⟨2, _⟩ => ⟨S_, .f32⟩
  | .hbm, ⟨3, _⟩ => ⟨S8192x1024, .f32⟩
  | .hbm, ⟨4, _⟩ => ⟨S8192x4096, .f32⟩
  | .hbm, ⟨5, _⟩ => ⟨S8192x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S2x1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

def k0_mult1 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c0_i32_23 : BitVec 32 := 0#32
  let v46 : BitVec 32 := Scalar.subi v45 c0_i32_23
  let c1024_i32 : BitVec 32 := 1024#32
  let v47 : BitVec 32 := Scalar.muli v46 c1024_i32
  v47
def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c0_i32_24 : BitVec 32 := 0#32
  let v49 : BitVec 1 := Scalar.cmpi .sge v45 c0_i32_24
  let c4_i32 : BitVec 32 := 4#32
  let v50 : BitVec 1 := Scalar.cmpi .slt v45 c4_i32
  let v51 : BitVec 1 := Scalar.andi v49 v50
  let v52 : BitVec 32 := Scalar.extui v51
  let c0_i32_25 : BitVec 32 := 0#32
  let v53 : BitVec 1 := Scalar.cmpi .ne v52 c0_i32_25
  v53

def k0_mult2 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_26 : BitVec 32 := 1024#32
  let v54 : BitVec 32 := Scalar.muli v28 c1024_i32_26
  v54
def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_27 : BitVec 32 := 0#32
  let c0_i32_28 : BitVec 32 := 0#32
  ![v2.toNat, 0, 0]
def k0_off3 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_15 : BitVec 32 := 8#32
  let v28 : BitVec 32 := Scalar.remsi v1 c8_i32_15
  let c1024_i32_26 : BitVec 32 := 1024#32
  let v54 : BitVec 32 := Scalar.muli v28 c1024_i32_26
  let v55 : BitVec 32 := v54
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c8_i32_16 : BitVec 32 := 8#32
  let c0_i32_19 : BitVec 32 := 0#32
  let v35 : BitVec 1 := Scalar.cmpi .sgt c8_i32_16 c0_i32_19
  let v36 : BitVec 32 := Scalar.extui v35
  let c0_i32_20 : BitVec 32 := 0#32
  let v37 : BitVec 1 := Scalar.cmpi .slt c8_i32_16 c0_i32_20
  let v38 : BitVec 32 := Scalar.extui v37
  let v39 : BitVec 32 := Scalar.subi v36 v38
  let v40 : BitVec 1 := Scalar.cmpi .ne v34 v39
  let v41 : BitVec 32 := Scalar.remsi v1 c8_i32_16
  let c0_i32_21 : BitVec 32 := 0#32
  let v42 : BitVec 1 := Scalar.cmpi .ne v41 c0_i32_21
  let v43 : BitVec 1 := Scalar.andi v40 v42
  let v29 : BitVec 32 := Scalar.divsi v1 c8_i32_16
  let c1_i32_22 : BitVec 32 := 1#32
  let v44 : BitVec 32 := Scalar.subi v29 c1_i32_22
  let v45 : BitVec 32 := Scalar.select v43 v44 v29
  let c0_i32_23 : BitVec 32 := 0#32
  let v46 : BitVec 32 := Scalar.subi v45 c0_i32_23
  let c1024_i32 : BitVec 32 := 1024#32
  let v47 : BitVec 32 := Scalar.muli v46 c1024_i32
  let v48 : BitVec 32 := v47
  ![v55.toNat, v48.toNat]
def k0_cond3 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32 : BitVec 32 := 1#32
  let v6 : BitVec 32 := Scalar.addi v1 c1_i32
  let c32_i32 : BitVec 32 := 32#32
  let v7 : BitVec 1 := Scalar.cmpi .slt v6 c32_i32
  let v8 : BitVec 32 := Scalar.extui v7
  let c0_i32_1 : BitVec 32 := 0#32
  let v9 : BitVec 1 := Scalar.cmpi .ne v8 c0_i32_1
  v9

def k0_mult3 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c0_i32_25 : BitVec 32 := 0#32
  let v48 : BitVec 32 := Scalar.subi v47 c0_i32_25
  let c1024_i32 : BitVec 32 := 1024#32
  let v49 : BitVec 32 := Scalar.muli v48 c1024_i32
  v49
def k0_cond4 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c0_i32_26 : BitVec 32 := 0#32
  let v51 : BitVec 1 := Scalar.cmpi .sge v47 c0_i32_26
  let c4_i32 : BitVec 32 := 4#32
  let v52 : BitVec 1 := Scalar.cmpi .slt v47 c4_i32
  let v53 : BitVec 1 := Scalar.andi v51 v52
  let v54 : BitVec 32 := Scalar.extui v53
  let c0_i32_27 : BitVec 32 := 0#32
  let v55 : BitVec 1 := Scalar.cmpi .ne v54 c0_i32_27
  v55

def k0_mult4 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_28 : BitVec 32 := 1024#32
  let v56 : BitVec 32 := Scalar.muli v30 c1024_i32_28
  v56
def k0_off4 (i : grid0.Coords) : Fin 1 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off5 (i : grid0.Coords) : Fin 3 → Nat :=
  let c1_i32_16 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_29 : BitVec 32 := 0#32
  let c0_i32_30 : BitVec 32 := 0#32
  ![v29.toNat, 0, 0]
def k0_off6 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c8_i32_17 : BitVec 32 := 8#32
  let v30 : BitVec 32 := Scalar.remsi v28 c8_i32_17
  let c1024_i32_28 : BitVec 32 := 1024#32
  let v56 : BitVec 32 := Scalar.muli v30 c1024_i32_28
  let v57 : BitVec 32 := v56
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c8_i32_18 : BitVec 32 := 8#32
  let c0_i32_21 : BitVec 32 := 0#32
  let v37 : BitVec 1 := Scalar.cmpi .sgt c8_i32_18 c0_i32_21
  let v38 : BitVec 32 := Scalar.extui v37
  let c0_i32_22 : BitVec 32 := 0#32
  let v39 : BitVec 1 := Scalar.cmpi .slt c8_i32_18 c0_i32_22
  let v40 : BitVec 32 := Scalar.extui v39
  let v41 : BitVec 32 := Scalar.subi v38 v40
  let v42 : BitVec 1 := Scalar.cmpi .ne v36 v41
  let v43 : BitVec 32 := Scalar.remsi v28 c8_i32_18
  let c0_i32_23 : BitVec 32 := 0#32
  let v44 : BitVec 1 := Scalar.cmpi .ne v43 c0_i32_23
  let v45 : BitVec 1 := Scalar.andi v42 v44
  let v31 : BitVec 32 := Scalar.divsi v28 c8_i32_18
  let c1_i32_24 : BitVec 32 := 1#32
  let v46 : BitVec 32 := Scalar.subi v31 c1_i32_24
  let v47 : BitVec 32 := Scalar.select v45 v46 v31
  let c0_i32_25 : BitVec 32 := 0#32
  let v48 : BitVec 32 := Scalar.subi v47 c0_i32_25
  let c1024_i32 : BitVec 32 := 1024#32
  let v49 : BitVec 32 := Scalar.muli v48 c1024_i32
  let v50 : BitVec 32 := v49
  ![v57.toNat, v50.toNat]
def k0_off7 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_2 : BitVec 32 := 0#32
  let c0_i32_3 : BitVec 32 := 0#32
  ![v2.toNat, 0, 0]
def k0_off9 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v22 : Index := Scalar.indexCast v2
  let c0_11 : Index := 0#32
  let c0_12 : Index := 0#32
  ![v22.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== Reference7Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S1024x1024 : Shape := ⟨2, ![1024, 1024]⟩
abbrev S8192x1024 : Shape := ⟨2, ![8192, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩

abbrev nBuf : Space → Nat
  | .hbm => 5
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S1024x1024, .bf16⟩
  | .hbm, ⟨3, _⟩ => ⟨S8192x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .f32⟩
  | .local _ .vmem, ⟨2, _⟩ => ⟨S1024x1024, .f32⟩
  | .local _ .vmem, ⟨3, _⟩ => ⟨S2x1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

def k0_mult1 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_23 : BitVec 32 := 1#32
  let v45 : BitVec 32 := Scalar.remsi v1 c1_i32_23
  let c0_i32_24 : BitVec 32 := 0#32
  let v46 : BitVec 32 := Scalar.subi v45 c0_i32_24
  let c1024_i32 : BitVec 32 := 1024#32
  let v47 : BitVec 32 := Scalar.muli v46 c1024_i32
  v47
def k0_cond2 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_23 : BitVec 32 := 1#32
  let v45 : BitVec 32 := Scalar.remsi v1 c1_i32_23
  let c0_i32_25 : BitVec 32 := 0#32
  let v49 : BitVec 1 := Scalar.cmpi .sge v45 c0_i32_25
  let c1_i32_26 : BitVec 32 := 1#32
  let v50 : BitVec 1 := Scalar.cmpi .slt v45 c1_i32_26
  let v51 : BitVec 1 := Scalar.andi v49 v50
  let v52 : BitVec 32 := Scalar.extui v51
  let c0_i32_27 : BitVec 32 := 0#32
  let v53 : BitVec 1 := Scalar.cmpi .ne v52 c0_i32_27
  v53

def k0_mult2 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_17 : BitVec 32 := 0#32
  let v29 : BitVec 1 := Scalar.cmpi .sgt v1 c0_i32_17
  let v30 : BitVec 32 := Scalar.extui v29
  let c0_i32_18 : BitVec 32 := 0#32
  let v31 : BitVec 1 := Scalar.cmpi .slt v1 c0_i32_18
  let v32 : BitVec 32 := Scalar.extui v31
  let v33 : BitVec 32 := Scalar.subi v30 v32
  let c1_i32_16 : BitVec 32 := 1#32
  let c0_i32_19 : BitVec 32 := 0#32
  let v34 : BitVec 1 := Scalar.cmpi .sgt c1_i32_16 c0_i32_19
  let v35 : BitVec 32 := Scalar.extui v34
  let c0_i32_20 : BitVec 32 := 0#32
  let v36 : BitVec 1 := Scalar.cmpi .slt c1_i32_16 c0_i32_20
  let v37 : BitVec 32 := Scalar.extui v36
  let v38 : BitVec 32 := Scalar.subi v35 v37
  let v39 : BitVec 1 := Scalar.cmpi .ne v33 v38
  let v40 : BitVec 32 := Scalar.remsi v1 c1_i32_16
  let c0_i32_21 : BitVec 32 := 0#32
  let v41 : BitVec 1 := Scalar.cmpi .ne v40 c0_i32_21
  let v42 : BitVec 1 := Scalar.andi v39 v41
  let v28 : BitVec 32 := Scalar.divsi v1 c1_i32_16
  let c1_i32_22 : BitVec 32 := 1#32
  let v43 : BitVec 32 := Scalar.subi v28 c1_i32_22
  let v44 : BitVec 32 := Scalar.select v42 v43 v28
  let c1024_i32_28 : BitVec 32 := 1024#32
  let v54 : BitVec 32 := Scalar.muli v44 c1024_i32_28
  v54
def k0_off1 (i : grid0.Coords) : Fin 1 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_29 : BitVec 32 := 0#32
  let c0_i32_30 : BitVec 32 := 0#32
  ![v2.toNat, 0, 0]
def k0_off3 (i : grid0.Coords) : Fin 2 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_17 : BitVec 32 := 0#32
  let v29 : BitVec 1 := Scalar.cmpi .sgt v1 c0_i32_17
  let v30 : BitVec 32 := Scalar.extui v29
  let c0_i32_18 : BitVec 32 := 0#32
  let v31 : BitVec 1 := Scalar.cmpi .slt v1 c0_i32_18
  let v32 : BitVec 32 := Scalar.extui v31
  let v33 : BitVec 32 := Scalar.subi v30 v32
  let c1_i32_16 : BitVec 32 := 1#32
  let c0_i32_19 : BitVec 32 := 0#32
  let v34 : BitVec 1 := Scalar.cmpi .sgt c1_i32_16 c0_i32_19
  let v35 : BitVec 32 := Scalar.extui v34
  let c0_i32_20 : BitVec 32 := 0#32
  let v36 : BitVec 1 := Scalar.cmpi .slt c1_i32_16 c0_i32_20
  let v37 : BitVec 32 := Scalar.extui v36
  let v38 : BitVec 32 := Scalar.subi v35 v37
  let v39 : BitVec 1 := Scalar.cmpi .ne v33 v38
  let v40 : BitVec 32 := Scalar.remsi v1 c1_i32_16
  let c0_i32_21 : BitVec 32 := 0#32
  let v41 : BitVec 1 := Scalar.cmpi .ne v40 c0_i32_21
  let v42 : BitVec 1 := Scalar.andi v39 v41
  let v28 : BitVec 32 := Scalar.divsi v1 c1_i32_16
  let c1_i32_22 : BitVec 32 := 1#32
  let v43 : BitVec 32 := Scalar.subi v28 c1_i32_22
  let v44 : BitVec 32 := Scalar.select v42 v43 v28
  let c1024_i32_28 : BitVec 32 := 1024#32
  let v54 : BitVec 32 := Scalar.muli v44 c1024_i32_28
  let v55 : BitVec 32 := v54
  let c1_i32_23 : BitVec 32 := 1#32
  let v45 : BitVec 32 := Scalar.remsi v1 c1_i32_23
  let c0_i32_24 : BitVec 32 := 0#32
  let v46 : BitVec 32 := Scalar.subi v45 c0_i32_24
  let c1024_i32 : BitVec 32 := 1024#32
  let v47 : BitVec 32 := Scalar.muli v46 c1024_i32
  let v48 : BitVec 32 := v47
  ![v55.toNat, v48.toNat]
def k0_cond3 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_1 : BitVec 32 := 1#32
  let v6 : BitVec 32 := Scalar.addi v1 c1_i32_1
  let c8_i32 : BitVec 32 := 8#32
  let v7 : BitVec 1 := Scalar.cmpi .slt v6 c8_i32
  let v8 : BitVec 32 := Scalar.extui v7
  let c0_i32_2 : BitVec 32 := 0#32
  let v9 : BitVec 1 := Scalar.cmpi .ne v8 c0_i32_2
  v9

def k0_mult3 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c1_i32_25 : BitVec 32 := 1#32
  let v47 : BitVec 32 := Scalar.remsi v28 c1_i32_25
  let c0_i32_26 : BitVec 32 := 0#32
  let v48 : BitVec 32 := Scalar.subi v47 c0_i32_26
  let c1024_i32 : BitVec 32 := 1024#32
  let v49 : BitVec 32 := Scalar.muli v48 c1024_i32
  v49
def k0_cond4 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c1_i32_25 : BitVec 32 := 1#32
  let v47 : BitVec 32 := Scalar.remsi v28 c1_i32_25
  let c0_i32_27 : BitVec 32 := 0#32
  let v51 : BitVec 1 := Scalar.cmpi .sge v47 c0_i32_27
  let c1_i32_28 : BitVec 32 := 1#32
  let v52 : BitVec 1 := Scalar.cmpi .slt v47 c1_i32_28
  let v53 : BitVec 1 := Scalar.andi v51 v52
  let v54 : BitVec 32 := Scalar.extui v53
  let c0_i32_29 : BitVec 32 := 0#32
  let v55 : BitVec 1 := Scalar.cmpi .ne v54 c0_i32_29
  v55

def k0_mult4 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c0_i32_19 : BitVec 32 := 0#32
  let v31 : BitVec 1 := Scalar.cmpi .sgt v28 c0_i32_19
  let v32 : BitVec 32 := Scalar.extui v31
  let c0_i32_20 : BitVec 32 := 0#32
  let v33 : BitVec 1 := Scalar.cmpi .slt v28 c0_i32_20
  let v34 : BitVec 32 := Scalar.extui v33
  let v35 : BitVec 32 := Scalar.subi v32 v34
  let c1_i32_18 : BitVec 32 := 1#32
  let c0_i32_21 : BitVec 32 := 0#32
  let v36 : BitVec 1 := Scalar.cmpi .sgt c1_i32_18 c0_i32_21
  let v37 : BitVec 32 := Scalar.extui v36
  let c0_i32_22 : BitVec 32 := 0#32
  let v38 : BitVec 1 := Scalar.cmpi .slt c1_i32_18 c0_i32_22
  let v39 : BitVec 32 := Scalar.extui v38
  let v40 : BitVec 32 := Scalar.subi v37 v39
  let v41 : BitVec 1 := Scalar.cmpi .ne v35 v40
  let v42 : BitVec 32 := Scalar.remsi v28 c1_i32_18
  let c0_i32_23 : BitVec 32 := 0#32
  let v43 : BitVec 1 := Scalar.cmpi .ne v42 c0_i32_23
  let v44 : BitVec 1 := Scalar.andi v41 v43
  let v30 : BitVec 32 := Scalar.divsi v28 c1_i32_18
  let c1_i32_24 : BitVec 32 := 1#32
  let v45 : BitVec 32 := Scalar.subi v30 c1_i32_24
  let v46 : BitVec 32 := Scalar.select v44 v45 v30
  let c1024_i32_30 : BitVec 32 := 1024#32
  let v56 : BitVec 32 := Scalar.muli v46 c1024_i32_30
  v56
def k0_off4 (i : grid0.Coords) : Fin 1 → Nat :=
  let c1_i32_17 : BitVec 32 := 1#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_17 v2
  ![v29.toNat]
def k0_off5 (i : grid0.Coords) : Fin 3 → Nat :=
  let c1_i32_17 : BitVec 32 := 1#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_17 v2
  let c0_i32_31 : BitVec 32 := 0#32
  let c0_i32_32 : BitVec 32 := 0#32
  ![v29.toNat, 0, 0]
def k0_off6 (i : grid0.Coords) : Fin 2 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c0_i32_19 : BitVec 32 := 0#32
  let v31 : BitVec 1 := Scalar.cmpi .sgt v28 c0_i32_19
  let v32 : BitVec 32 := Scalar.extui v31
  let c0_i32_20 : BitVec 32 := 0#32
  let v33 : BitVec 1 := Scalar.cmpi .slt v28 c0_i32_20
  let v34 : BitVec 32 := Scalar.extui v33
  let v35 : BitVec 32 := Scalar.subi v32 v34
  let c1_i32_18 : BitVec 32 := 1#32
  let c0_i32_21 : BitVec 32 := 0#32
  let v36 : BitVec 1 := Scalar.cmpi .sgt c1_i32_18 c0_i32_21
  let v37 : BitVec 32 := Scalar.extui v36
  let c0_i32_22 : BitVec 32 := 0#32
  let v38 : BitVec 1 := Scalar.cmpi .slt c1_i32_18 c0_i32_22
  let v39 : BitVec 32 := Scalar.extui v38
  let v40 : BitVec 32 := Scalar.subi v37 v39
  let v41 : BitVec 1 := Scalar.cmpi .ne v35 v40
  let v42 : BitVec 32 := Scalar.remsi v28 c1_i32_18
  let c0_i32_23 : BitVec 32 := 0#32
  let v43 : BitVec 1 := Scalar.cmpi .ne v42 c0_i32_23
  let v44 : BitVec 1 := Scalar.andi v41 v43
  let v30 : BitVec 32 := Scalar.divsi v28 c1_i32_18
  let c1_i32_24 : BitVec 32 := 1#32
  let v45 : BitVec 32 := Scalar.subi v30 c1_i32_24
  let v46 : BitVec 32 := Scalar.select v44 v45 v30
  let c1024_i32_30 : BitVec 32 := 1024#32
  let v56 : BitVec 32 := Scalar.muli v46 c1024_i32_30
  let v57 : BitVec 32 := v56
  let c1_i32_25 : BitVec 32 := 1#32
  let v47 : BitVec 32 := Scalar.remsi v28 c1_i32_25
  let c0_i32_26 : BitVec 32 := 0#32
  let v48 : BitVec 32 := Scalar.subi v47 c0_i32_26
  let c1024_i32 : BitVec 32 := 1024#32
  let v49 : BitVec 32 := Scalar.muli v48 c1024_i32
  let v50 : BitVec 32 := v49
  ![v57.toNat, v50.toNat]
def k0_off7 (i : grid0.Coords) : Fin 1 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_3 : BitVec 32 := 0#32
  let c0_i32_4 : BitVec 32 := 0#32
  ![v2.toNat, 0, 0]
def k0_off9 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v20 : Index := Scalar.indexCast v2
  let c0_10 : Index := 0#32
  let c0_11 : Index := 0#32
  ![v20.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== Reference8Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩

abbrev nBuf : Space → Nat
  | .hbm => 5
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S2x1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

def k0_mult1 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_18 : BitVec 32 := 0#32
  let v30 : BitVec 1 := Scalar.cmpi .sgt v1 c0_i32_18
  let v31 : BitVec 32 := Scalar.extui v30
  let c0_i32_19 : BitVec 32 := 0#32
  let v32 : BitVec 1 := Scalar.cmpi .slt v1 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v1 c8_i32_17
  let c0_i32_22 : BitVec 32 := 0#32
  let v42 : BitVec 1 := Scalar.cmpi .ne v41 c0_i32_22
  let v43 : BitVec 1 := Scalar.andi v40 v42
  let v29 : BitVec 32 := Scalar.divsi v1 c8_i32_17
  let c1_i32_23 : BitVec 32 := 1#32
  let v44 : BitVec 32 := Scalar.subi v29 c1_i32_23
  let v45 : BitVec 32 := Scalar.select v43 v44 v29
  let c0_i32_24 : BitVec 32 := 0#32
  let v46 : BitVec 32 := Scalar.subi v45 c0_i32_24
  let c1024_i32 : BitVec 32 := 1024#32
  let v47 : BitVec 32 := Scalar.muli v46 c1024_i32
  v47
def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_18 : BitVec 32 := 0#32
  let v30 : BitVec 1 := Scalar.cmpi .sgt v1 c0_i32_18
  let v31 : BitVec 32 := Scalar.extui v30
  let c0_i32_19 : BitVec 32 := 0#32
  let v32 : BitVec 1 := Scalar.cmpi .slt v1 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v1 c8_i32_17
  let c0_i32_22 : BitVec 32 := 0#32
  let v42 : BitVec 1 := Scalar.cmpi .ne v41 c0_i32_22
  let v43 : BitVec 1 := Scalar.andi v40 v42
  let v29 : BitVec 32 := Scalar.divsi v1 c8_i32_17
  let c1_i32_23 : BitVec 32 := 1#32
  let v44 : BitVec 32 := Scalar.subi v29 c1_i32_23
  let v45 : BitVec 32 := Scalar.select v43 v44 v29
  let c0_i32_25 : BitVec 32 := 0#32
  let v49 : BitVec 1 := Scalar.cmpi .sge v45 c0_i32_25
  let c1_i32_26 : BitVec 32 := 1#32
  let v50 : BitVec 1 := Scalar.cmpi .slt v45 c1_i32_26
  let v51 : BitVec 1 := Scalar.andi v49 v50
  let v52 : BitVec 32 := Scalar.extui v51
  let c0_i32_27 : BitVec 32 := 0#32
  let v53 : BitVec 1 := Scalar.cmpi .ne v52 c0_i32_27
  v53

def k0_mult2 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_16 : BitVec 32 := 8#32
  let v28 : BitVec 32 := Scalar.remsi v1 c8_i32_16
  let c1024_i32_28 : BitVec 32 := 1024#32
  let v54 : BitVec 32 := Scalar.muli v28 c1024_i32_28
  v54
def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_29 : BitVec 32 := 0#32
  let c0_i32_30 : BitVec 32 := 0#32
  ![v2.toNat, 0, 0]
def k0_off3 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_16 : BitVec 32 := 8#32
  let v28 : BitVec 32 := Scalar.remsi v1 c8_i32_16
  let c1024_i32_28 : BitVec 32 := 1024#32
  let v54 : BitVec 32 := Scalar.muli v28 c1024_i32_28
  let v55 : BitVec 32 := v54
  let c0_i32_18 : BitVec 32 := 0#32
  let v30 : BitVec 1 := Scalar.cmpi .sgt v1 c0_i32_18
  let v31 : BitVec 32 := Scalar.extui v30
  let c0_i32_19 : BitVec 32 := 0#32
  let v32 : BitVec 1 := Scalar.cmpi .slt v1 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v1 c8_i32_17
  let c0_i32_22 : BitVec 32 := 0#32
  let v42 : BitVec 1 := Scalar.cmpi .ne v41 c0_i32_22
  let v43 : BitVec 1 := Scalar.andi v40 v42
  let v29 : BitVec 32 := Scalar.divsi v1 c8_i32_17
  let c1_i32_23 : BitVec 32 := 1#32
  let v44 : BitVec 32 := Scalar.subi v29 c1_i32_23
  let v45 : BitVec 32 := Scalar.select v43 v44 v29
  let c0_i32_24 : BitVec 32 := 0#32
  let v46 : BitVec 32 := Scalar.subi v45 c0_i32_24
  let c1024_i32 : BitVec 32 := 1024#32
  let v47 : BitVec 32 := Scalar.muli v46 c1024_i32
  let v48 : BitVec 32 := v47
  ![v55.toNat, v48.toNat]
def k0_cond3 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32 : BitVec 32 := 1#32
  let v6 : BitVec 32 := Scalar.addi v1 c1_i32
  let c8_i32_1 : BitVec 32 := 8#32
  let v7 : BitVec 1 := Scalar.cmpi .slt v6 c8_i32_1
  let v8 : BitVec 32 := Scalar.extui v7
  let c0_i32_2 : BitVec 32 := 0#32
  let v9 : BitVec 1 := Scalar.cmpi .ne v8 c0_i32_2
  v9

def k0_mult3 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c0_i32_20 : BitVec 32 := 0#32
  let v32 : BitVec 1 := Scalar.cmpi .sgt v28 c0_i32_20
  let v33 : BitVec 32 := Scalar.extui v32
  let c0_i32_21 : BitVec 32 := 0#32
  let v34 : BitVec 1 := Scalar.cmpi .slt v28 c0_i32_21
  let v35 : BitVec 32 := Scalar.extui v34
  let v36 : BitVec 32 := Scalar.subi v33 v35
  let c8_i32_19 : BitVec 32 := 8#32
  let c0_i32_22 : BitVec 32 := 0#32
  let v37 : BitVec 1 := Scalar.cmpi .sgt c8_i32_19 c0_i32_22
  let v38 : BitVec 32 := Scalar.extui v37
  let c0_i32_23 : BitVec 32 := 0#32
  let v39 : BitVec 1 := Scalar.cmpi .slt c8_i32_19 c0_i32_23
  let v40 : BitVec 32 := Scalar.extui v39
  let v41 : BitVec 32 := Scalar.subi v38 v40
  let v42 : BitVec 1 := Scalar.cmpi .ne v36 v41
  let v43 : BitVec 32 := Scalar.remsi v28 c8_i32_19
  let c0_i32_24 : BitVec 32 := 0#32
  let v44 : BitVec 1 := Scalar.cmpi .ne v43 c0_i32_24
  let v45 : BitVec 1 := Scalar.andi v42 v44
  let v31 : BitVec 32 := Scalar.divsi v28 c8_i32_19
  let c1_i32_25 : BitVec 32 := 1#32
  let v46 : BitVec 32 := Scalar.subi v31 c1_i32_25
  let v47 : BitVec 32 := Scalar.select v45 v46 v31
  let c0_i32_26 : BitVec 32 := 0#32
  let v48 : BitVec 32 := Scalar.subi v47 c0_i32_26
  let c1024_i32 : BitVec 32 := 1024#32
  let v49 : BitVec 32 := Scalar.muli v48 c1024_i32
  v49
def k0_cond4 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c0_i32_20 : BitVec 32 := 0#32
  let v32 : BitVec 1 := Scalar.cmpi .sgt v28 c0_i32_20
  let v33 : BitVec 32 := Scalar.extui v32
  let c0_i32_21 : BitVec 32 := 0#32
  let v34 : BitVec 1 := Scalar.cmpi .slt v28 c0_i32_21
  let v35 : BitVec 32 := Scalar.extui v34
  let v36 : BitVec 32 := Scalar.subi v33 v35
  let c8_i32_19 : BitVec 32 := 8#32
  let c0_i32_22 : BitVec 32 := 0#32
  let v37 : BitVec 1 := Scalar.cmpi .sgt c8_i32_19 c0_i32_22
  let v38 : BitVec 32 := Scalar.extui v37
  let c0_i32_23 : BitVec 32 := 0#32
  let v39 : BitVec 1 := Scalar.cmpi .slt c8_i32_19 c0_i32_23
  let v40 : BitVec 32 := Scalar.extui v39
  let v41 : BitVec 32 := Scalar.subi v38 v40
  let v42 : BitVec 1 := Scalar.cmpi .ne v36 v41
  let v43 : BitVec 32 := Scalar.remsi v28 c8_i32_19
  let c0_i32_24 : BitVec 32 := 0#32
  let v44 : BitVec 1 := Scalar.cmpi .ne v43 c0_i32_24
  let v45 : BitVec 1 := Scalar.andi v42 v44
  let v31 : BitVec 32 := Scalar.divsi v28 c8_i32_19
  let c1_i32_25 : BitVec 32 := 1#32
  let v46 : BitVec 32 := Scalar.subi v31 c1_i32_25
  let v47 : BitVec 32 := Scalar.select v45 v46 v31
  let c0_i32_27 : BitVec 32 := 0#32
  let v51 : BitVec 1 := Scalar.cmpi .sge v47 c0_i32_27
  let c1_i32_28 : BitVec 32 := 1#32
  let v52 : BitVec 1 := Scalar.cmpi .slt v47 c1_i32_28
  let v53 : BitVec 1 := Scalar.andi v51 v52
  let v54 : BitVec 32 := Scalar.extui v53
  let c0_i32_29 : BitVec 32 := 0#32
  let v55 : BitVec 1 := Scalar.cmpi .ne v54 c0_i32_29
  v55

def k0_mult4 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c8_i32_18 : BitVec 32 := 8#32
  let v30 : BitVec 32 := Scalar.remsi v28 c8_i32_18
  let c1024_i32_30 : BitVec 32 := 1024#32
  let v56 : BitVec 32 := Scalar.muli v30 c1024_i32_30
  v56
def k0_off4 (i : grid0.Coords) : Fin 1 → Nat :=
  let c1_i32_17 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_17 v2
  ![v29.toNat]
def k0_off5 (i : grid0.Coords) : Fin 3 → Nat :=
  let c1_i32_17 : BitVec 32 := 1#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_17 v2
  let c0_i32_31 : BitVec 32 := 0#32
  let c0_i32_32 : BitVec 32 := 0#32
  ![v29.toNat, 0, 0]
def k0_off6 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c8_i32_18 : BitVec 32 := 8#32
  let v30 : BitVec 32 := Scalar.remsi v28 c8_i32_18
  let c1024_i32_30 : BitVec 32 := 1024#32
  let v56 : BitVec 32 := Scalar.muli v30 c1024_i32_30
  let v57 : BitVec 32 := v56
  let c0_i32_20 : BitVec 32 := 0#32
  let v32 : BitVec 1 := Scalar.cmpi .sgt v28 c0_i32_20
  let v33 : BitVec 32 := Scalar.extui v32
  let c0_i32_21 : BitVec 32 := 0#32
  let v34 : BitVec 1 := Scalar.cmpi .slt v28 c0_i32_21
  let v35 : BitVec 32 := Scalar.extui v34
  let v36 : BitVec 32 := Scalar.subi v33 v35
  let c8_i32_19 : BitVec 32 := 8#32
  let c0_i32_22 : BitVec 32 := 0#32
  let v37 : BitVec 1 := Scalar.cmpi .sgt c8_i32_19 c0_i32_22
  let v38 : BitVec 32 := Scalar.extui v37
  let c0_i32_23 : BitVec 32 := 0#32
  let v39 : BitVec 1 := Scalar.cmpi .slt c8_i32_19 c0_i32_23
  let v40 : BitVec 32 := Scalar.extui v39
  let v41 : BitVec 32 := Scalar.subi v38 v40
  let v42 : BitVec 1 := Scalar.cmpi .ne v36 v41
  let v43 : BitVec 32 := Scalar.remsi v28 c8_i32_19
  let c0_i32_24 : BitVec 32 := 0#32
  let v44 : BitVec 1 := Scalar.cmpi .ne v43 c0_i32_24
  let v45 : BitVec 1 := Scalar.andi v42 v44
  let v31 : BitVec 32 := Scalar.divsi v28 c8_i32_19
  let c1_i32_25 : BitVec 32 := 1#32
  let v46 : BitVec 32 := Scalar.subi v31 c1_i32_25
  let v47 : BitVec 32 := Scalar.select v45 v46 v31
  let c0_i32_26 : BitVec 32 := 0#32
  let v48 : BitVec 32 := Scalar.subi v47 c0_i32_26
  let c1024_i32 : BitVec 32 := 1024#32
  let v49 : BitVec 32 := Scalar.muli v48 c1024_i32
  let v50 : BitVec 32 := v49
  ![v57.toNat, v50.toNat]
def k0_off7 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_3 : BitVec 32 := 0#32
  let c0_i32_4 : BitVec 32 := 0#32
  ![v2.toNat, 0, 0]
def k0_off9 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v2 : BitVec 32 := Scalar.remsi v1 c2_i32
  let v22 : Index := Scalar.indexCast v2
  let c0_12 : Index := 0#32
  let c0_13 : Index := 0#32
  ![v22.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S2048x1024 : Shape := ⟨2, ![2048, 1024]⟩
abbrev S8192x1024 : Shape := ⟨2, ![8192, 1024]⟩
abbrev S8192x2048 : Shape := ⟨2, ![8192, 2048]⟩
abbrev S1024x2048 : Shape := ⟨2, ![1024, 2048]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 5
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S2048x1024, .bf16⟩
  | .hbm, ⟨3, _⟩ => ⟨S8192x1024, .bf16⟩
  | .hbm, ⟨4, _⟩ => ⟨S8192x2048, .f32⟩
  | .local _ .vmem, ⟨0, _⟩ => ⟨S2048x1024, .bf16⟩
  | .local _ .vmem, ⟨1, _⟩ => ⟨S1024x2048, .f32⟩
  | .local _ .vmem, ⟨2, _⟩ => ⟨S1024x2048, .f32⟩
  | .local _ .vmem, ⟨3, _⟩ => ⟨S2x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

def k0_mult1 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_23 : BitVec 32 := 1#32
  let v45 : BitVec 32 := Scalar.remsi v1 c1_i32_23
  let c0_i32_24 : BitVec 32 := 0#32
  let v46 : BitVec 32 := Scalar.subi v45 c0_i32_24
  let c1024_i32 : BitVec 32 := 1024#32
  let v47 : BitVec 32 := Scalar.muli v46 c1024_i32
  v47
def k0_cond2 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_23 : BitVec 32 := 1#32
  let v45 : BitVec 32 := Scalar.remsi v1 c1_i32_23
  let c0_i32_25 : BitVec 32 := 0#32
  let v49 : BitVec 1 := Scalar.cmpi .sge v45 c0_i32_25
  let c1_i32_26 : BitVec 32 := 1#32
  let v50 : BitVec 1 := Scalar.cmpi .slt v45 c1_i32_26
  let v51 : BitVec 1 := Scalar.andi v49 v50
  let v52 : BitVec 32 := Scalar.extui v51
  let c0_i32_27 : BitVec 32 := 0#32
  let v53 : BitVec 1 := Scalar.cmpi .ne v52 c0_i32_27
  v53

def k0_mult2 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_17 : BitVec 32 := 0#32
  let v29 : BitVec 1 := Scalar.cmpi .sgt v1 c0_i32_17
  let v30 : BitVec 32 := Scalar.extui v29
  let c0_i32_18 : BitVec 32 := 0#32
  let v31 : BitVec 1 := Scalar.cmpi .slt v1 c0_i32_18
  let v32 : BitVec 32 := Scalar.extui v31
  let v33 : BitVec 32 := Scalar.subi v30 v32
  let c1_i32_16 : BitVec 32 := 1#32
  let c0_i32_19 : BitVec 32 := 0#32
  let v34 : BitVec 1 := Scalar.cmpi .sgt c1_i32_16 c0_i32_19
  let v35 : BitVec 32 := Scalar.extui v34
  let c0_i32_20 : BitVec 32 := 0#32
  let v36 : BitVec 1 := Scalar.cmpi .slt c1_i32_16 c0_i32_20
  let v37 : BitVec 32 := Scalar.extui v36
  let v38 : BitVec 32 := Scalar.subi v35 v37
  let v39 : BitVec 1 := Scalar.cmpi .ne v33 v38
  let v40 : BitVec 32 := Scalar.remsi v1 c1_i32_16
  let c0_i32_21 : BitVec 32 := 0#32
  let v41 : BitVec 1 := Scalar.cmpi .ne v40 c0_i32_21
  let v42 : BitVec 1 := Scalar.andi v39 v41
  let v28 : BitVec 32 := Scalar.divsi v1 c1_i32_16
  let c1_i32_22 : BitVec 32 := 1#32
  let v43 : BitVec 32 := Scalar.subi v28 c1_i32_22
  let v44 : BitVec 32 := Scalar.select v42 v43 v28
  let c1024_i32_28 : BitVec 32 := 1024#32
  let v54 : BitVec 32 := Scalar.muli v44 c1024_i32_28
  v54
def k0_off1 (i : grid0.Coords) : Fin 1 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_29 : BitVec 32 := 0#32
  let c0_i32_30 : BitVec 32 := 0#32
  ![v2.toNat, 0, 0]
def k0_off3 (i : grid0.Coords) : Fin 2 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c0_i32_17 : BitVec 32 := 0#32
  let v29 : BitVec 1 := Scalar.cmpi .sgt v1 c0_i32_17
  let v30 : BitVec 32 := Scalar.extui v29
  let c0_i32_18 : BitVec 32 := 0#32
  let v31 : BitVec 1 := Scalar.cmpi .slt v1 c0_i32_18
  let v32 : BitVec 32 := Scalar.extui v31
  let v33 : BitVec 32 := Scalar.subi v30 v32
  let c1_i32_16 : BitVec 32 := 1#32
  let c0_i32_19 : BitVec 32 := 0#32
  let v34 : BitVec 1 := Scalar.cmpi .sgt c1_i32_16 c0_i32_19
  let v35 : BitVec 32 := Scalar.extui v34
  let c0_i32_20 : BitVec 32 := 0#32
  let v36 : BitVec 1 := Scalar.cmpi .slt c1_i32_16 c0_i32_20
  let v37 : BitVec 32 := Scalar.extui v36
  let v38 : BitVec 32 := Scalar.subi v35 v37
  let v39 : BitVec 1 := Scalar.cmpi .ne v33 v38
  let v40 : BitVec 32 := Scalar.remsi v1 c1_i32_16
  let c0_i32_21 : BitVec 32 := 0#32
  let v41 : BitVec 1 := Scalar.cmpi .ne v40 c0_i32_21
  let v42 : BitVec 1 := Scalar.andi v39 v41
  let v28 : BitVec 32 := Scalar.divsi v1 c1_i32_16
  let c1_i32_22 : BitVec 32 := 1#32
  let v43 : BitVec 32 := Scalar.subi v28 c1_i32_22
  let v44 : BitVec 32 := Scalar.select v42 v43 v28
  let c1024_i32_28 : BitVec 32 := 1024#32
  let v54 : BitVec 32 := Scalar.muli v44 c1024_i32_28
  let v55 : BitVec 32 := v54
  let c1_i32_23 : BitVec 32 := 1#32
  let v45 : BitVec 32 := Scalar.remsi v1 c1_i32_23
  let c0_i32_24 : BitVec 32 := 0#32
  let v46 : BitVec 32 := Scalar.subi v45 c0_i32_24
  let c1024_i32 : BitVec 32 := 1024#32
  let v47 : BitVec 32 := Scalar.muli v46 c1024_i32
  let v48 : BitVec 32 := v47
  ![v55.toNat, v48.toNat]
def k0_cond3 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_1 : BitVec 32 := 1#32
  let v6 : BitVec 32 := Scalar.addi v1 c1_i32_1
  let c8_i32 : BitVec 32 := 8#32
  let v7 : BitVec 1 := Scalar.cmpi .slt v6 c8_i32
  let v8 : BitVec 32 := Scalar.extui v7
  let c0_i32_2 : BitVec 32 := 0#32
  let v9 : BitVec 1 := Scalar.cmpi .ne v8 c0_i32_2
  v9

def k0_mult3 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c1_i32_25 : BitVec 32 := 1#32
  let v47 : BitVec 32 := Scalar.remsi v28 c1_i32_25
  let c0_i32_26 : BitVec 32 := 0#32
  let v48 : BitVec 32 := Scalar.subi v47 c0_i32_26
  let c1024_i32 : BitVec 32 := 1024#32
  let v49 : BitVec 32 := Scalar.muli v48 c1024_i32
  v49
def k0_cond4 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c1_i32_25 : BitVec 32 := 1#32
  let v47 : BitVec 32 := Scalar.remsi v28 c1_i32_25
  let c0_i32_27 : BitVec 32 := 0#32
  let v51 : BitVec 1 := Scalar.cmpi .sge v47 c0_i32_27
  let c1_i32_28 : BitVec 32 := 1#32
  let v52 : BitVec 1 := Scalar.cmpi .slt v47 c1_i32_28
  let v53 : BitVec 1 := Scalar.andi v51 v52
  let v54 : BitVec 32 := Scalar.extui v53
  let c0_i32_29 : BitVec 32 := 0#32
  let v55 : BitVec 1 := Scalar.cmpi .ne v54 c0_i32_29
  v55

def k0_mult4 (i : grid0.Coords) : BitVec 32 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c0_i32_19 : BitVec 32 := 0#32
  let v31 : BitVec 1 := Scalar.cmpi .sgt v28 c0_i32_19
  let v32 : BitVec 32 := Scalar.extui v31
  let c0_i32_20 : BitVec 32 := 0#32
  let v33 : BitVec 1 := Scalar.cmpi .slt v28 c0_i32_20
  let v34 : BitVec 32 := Scalar.extui v33
  let v35 : BitVec 32 := Scalar.subi v32 v34
  let c1_i32_18 : BitVec 32 := 1#32
  let c0_i32_21 : BitVec 32 := 0#32
  let v36 : BitVec 1 := Scalar.cmpi .sgt c1_i32_18 c0_i32_21
  let v37 : BitVec 32 := Scalar.extui v36
  let c0_i32_22 : BitVec 32 := 0#32
  let v38 : BitVec 1 := Scalar.cmpi .slt c1_i32_18 c0_i32_22
  let v39 : BitVec 32 := Scalar.extui v38
  let v40 : BitVec 32 := Scalar.subi v37 v39
  let v41 : BitVec 1 := Scalar.cmpi .ne v35 v40
  let v42 : BitVec 32 := Scalar.remsi v28 c1_i32_18
  let c0_i32_23 : BitVec 32 := 0#32
  let v43 : BitVec 1 := Scalar.cmpi .ne v42 c0_i32_23
  let v44 : BitVec 1 := Scalar.andi v41 v43
  let v30 : BitVec 32 := Scalar.divsi v28 c1_i32_18
  let c1_i32_24 : BitVec 32 := 1#32
  let v45 : BitVec 32 := Scalar.subi v30 c1_i32_24
  let v46 : BitVec 32 := Scalar.select v44 v45 v30
  let c1024_i32_30 : BitVec 32 := 1024#32
  let v56 : BitVec 32 := Scalar.muli v46 c1024_i32_30
  v56
def k0_off4 (i : grid0.Coords) : Fin 1 → Nat :=
  let c1_i32_17 : BitVec 32 := 1#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_17 v2
  ![v29.toNat]
def k0_off5 (i : grid0.Coords) : Fin 3 → Nat :=
  let c1_i32_17 : BitVec 32 := 1#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_17 v2
  let c0_i32_31 : BitVec 32 := 0#32
  let c0_i32_32 : BitVec 32 := 0#32
  ![v29.toNat, 0, 0]
def k0_off6 (i : grid0.Coords) : Fin 2 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c1_i32_16 : BitVec 32 := 1#32
  let v28 : BitVec 32 := Scalar.addi v1 c1_i32_16
  let c0_i32_19 : BitVec 32 := 0#32
  let v31 : BitVec 1 := Scalar.cmpi .sgt v28 c0_i32_19
  let v32 : BitVec 32 := Scalar.extui v31
  let c0_i32_20 : BitVec 32 := 0#32
  let v33 : BitVec 1 := Scalar.cmpi .slt v28 c0_i32_20
  let v34 : BitVec 32 := Scalar.extui v33
  let v35 : BitVec 32 := Scalar.subi v32 v34
  let c1_i32_18 : BitVec 32 := 1#32
  let c0_i32_21 : BitVec 32 := 0#32
  let v36 : BitVec 1 := Scalar.cmpi .sgt c1_i32_18 c0_i32_21
  let v37 : BitVec 32 := Scalar.extui v36
  let c0_i32_22 : BitVec 32 := 0#32
  let v38 : BitVec 1 := Scalar.cmpi .slt c1_i32_18 c0_i32_22
  let v39 : BitVec 32 := Scalar.extui v38
  let v40 : BitVec 32 := Scalar.subi v37 v39
  let v41 : BitVec 1 := Scalar.cmpi .ne v35 v40
  let v42 : BitVec 32 := Scalar.remsi v28 c1_i32_18
  let c0_i32_23 : BitVec 32 := 0#32
  let v43 : BitVec 1 := Scalar.cmpi .ne v42 c0_i32_23
  let v44 : BitVec 1 := Scalar.andi v41 v43
  let v30 : BitVec 32 := Scalar.divsi v28 c1_i32_18
  let c1_i32_24 : BitVec 32 := 1#32
  let v45 : BitVec 32 := Scalar.subi v30 c1_i32_24
  let v46 : BitVec 32 := Scalar.select v44 v45 v30
  let c1024_i32_30 : BitVec 32 := 1024#32
  let v56 : BitVec 32 := Scalar.muli v46 c1024_i32_30
  let v57 : BitVec 32 := v56
  let c1_i32_25 : BitVec 32 := 1#32
  let v47 : BitVec 32 := Scalar.remsi v28 c1_i32_25
  let c0_i32_26 : BitVec 32 := 0#32
  let v48 : BitVec 32 := Scalar.subi v47 c0_i32_26
  let c1024_i32 : BitVec 32 := 1024#32
  let v49 : BitVec 32 := Scalar.muli v48 c1024_i32
  let v50 : BitVec 32 := v49
  ![v57.toNat, v50.toNat]
def k0_off7 (i : grid0.Coords) : Fin 1 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_3 : BitVec 32 := 0#32
  let c0_i32_4 : BitVec 32 := 0#32
  ![v2.toNat, 0, 0]
def k0_off9 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v20 : Index := Scalar.indexCast v2
  let c0_10 : Index := 0#32
  let c0_11 : Index := 0#32
  ![v20.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== Reference10Ideal.lean ====
abbrev S2048x1024 : Shape := ⟨2, ![2048, 1024]⟩
abbrev S8192x1024 : Shape := ⟨2, ![8192, 1024]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S_, .f32⟩
  | .hbm, ⟨3, _⟩ => ⟨S8192x2048, .f32⟩
  | .hbm, ⟨4, _⟩ => ⟨S8192x1024, .f32⟩
  | .hbm, ⟨5, _⟩ => ⟨S8192x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S8192x2048 : Shape := ⟨2, ![8192, 2048]⟩
abbrev S8192x1024 : Shape := ⟨2, ![8192, 1024]⟩
abbrev S2048x1024 : Shape := ⟨2, ![2048, 1024]⟩
abbrev S512x2048 : Shape := ⟨2, ![512, 2048]⟩
abbrev S2048x512 : Shape := ⟨2, ![2048, 512]⟩
abbrev S2x512x512 : Shape := ⟨3, ![2, 512, 512]⟩
abbrev S2 : Shape := ⟨1, ![2]⟩
abbrev S1 : Shape := ⟨1, ![1]⟩
abbrev S_ : Shape := ⟨0, ![]⟩
abbrev S1x512x512 : Shape := ⟨3, ![1, 512, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S2x512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .eq v1 c0_i32
  let v4 : BitVec 32 := Scalar.extui v3
  let c0_i32_0 : BitVec 32 := 0#32
  let v5 : BitVec 1 := Scalar.cmpi .ne v4 c0_i32_0
  v5

def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c16_i32_16 : BitVec 32 := 16#32
  let c0_i32_19 : BitVec 32 := 0#32
  let v35 : BitVec 1 := Scalar.cmpi .sgt c16_i32_16 c0_i32_19
  let v36 : BitVec 32 := Scalar.extui v35
  let c0_i32_20 : BitVec 32 := 0#32
  let v37 : BitVec 1 := Scalar.cmpi .slt c16_i32_16 c0_i32_20
  let v38 : BitVec 32 := Scalar.extui v37
  let v39 : BitVec 32 := Scalar.subi v36 v38
  let v40 : BitVec 1 := Scalar.cmpi .ne v34 v39
  let v41 : BitVec 32 := Scalar.remsi v1 c16_i32_16
  let c0_i32_21 : BitVec 32 := 0#32
  let v42 : BitVec 1 := Scalar.cmpi .ne v41 c0_i32_21
  let v43 : BitVec 1 := Scalar.andi v40 v42
  let v29 : BitVec 32 := Scalar.divsi v1 c16_i32_16
  let c1_i32_22 : BitVec 32 := 1#32
  let v44 : BitVec 32 := Scalar.subi v29 c1_i32_22
  let v45 : BitVec 32 := Scalar.select v43 v44 v29
  let c0_i32_23 : BitVec 32 := 0#32
  let v46 : BitVec 32 := Scalar.subi v45 c0_i32_23
  let c512_i32 : BitVec 32 := 512#32
  let v47 : BitVec 32 := Scalar.muli v46 c512_i32
  v47
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c16_i32_16 : BitVec 32 := 16#32
  let c0_i32_19 : BitVec 32 := 0#32
  let v35 : BitVec 1 := Scalar.cmpi .sgt c16_i32_16 c0_i32_19
  let v36 : BitVec 32 := Scalar.extui v35
  let c0_i32_20 : BitVec 32 := 0#32
  let v37 : BitVec 1 := Scalar.cmpi .slt c16_i32_16 c0_i32_20
  let v38 : BitVec 32 := Scalar.extui v37
  let v39 : BitVec 32 := Scalar.subi v36 v38
  let v40 : BitVec 1 := Scalar.cmpi .ne v34 v39
  let v41 : BitVec 32 := Scalar.remsi v1 c16_i32_16
  let c0_i32_21 : BitVec 32 := 0#32
  let v42 : BitVec 1 := Scalar.cmpi .ne v41 c0_i32_21
  let v43 : BitVec 1 := Scalar.andi v40 v42
  let v29 : BitVec 32 := Scalar.divsi v1 c16_i32_16
  let c1_i32_22 : BitVec 32 := 1#32
  let v44 : BitVec 32 := Scalar.subi v29 c1_i32_22
  let v45 : BitVec 32 := Scalar.select v43 v44 v29
  let c0_i32_24 : BitVec 32 := 0#32
  let v49 : BitVec 1 := Scalar.cmpi .sge v45 c0_i32_24
  let c2_i32_25 : BitVec 32 := 2#32
  let v50 : BitVec 1 := Scalar.cmpi .slt v45 c2_i32_25
  let v51 : BitVec 1 := Scalar.andi v49 v50
  let v52 : BitVec 32 := Scalar.extui v51
  let c0_i32_26 : BitVec 32 := 0#32
  let v53 : BitVec 1 := Scalar.cmpi .ne v52 c0_i32_26
  v53

def k0_mult2 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_15 : BitVec 32 := 16#32
  let v28 : BitVec 32 := Scalar.remsi v1 c16_i32_15
  let c512_i32_27 : BitVec 32 := 512#32
  let v54 : BitVec 32 := Scalar.muli v28 c512_i32_27
  v54
def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_28 : BitVec 32 := 0#32
  let c0_i32_29 : BitVec 32 := 0#32
  ![v2.toNat, 0, 0]
def k0_off3 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_15 : BitVec 32 := 16#32
  let v28 : BitVec 32 := Scalar.remsi v1 c16_i32_15
  let c512_i32_27 : BitVec 32 := 512#32
  let v54 : BitVec 32 := Scalar.muli v28 c512_i32_27
  let v55 : BitVec 32 := v54
  let c0_i32_17 : BitVec 32 := 0#32
  let v30 : BitVec 1 := Scalar.cmpi .sgt v1 c0_i32_17
  let v31 : BitVec 32 := Scalar.extui v30
  let c0_i32_18 : BitVec 32 := 0#32
  let v32 : BitVec 1 := Scalar.cmpi .slt v1 c0_i32_18
  let v33 : BitVec 32 := Scalar.extui v32
  let v34 : BitVec 32 := Scalar.subi v31 v33
  let c16_i32_16 : BitVec 32 := 16#32
  let c0_i32_19 : BitVec 32 := 0#32
  let v35 : BitVec 1 := Scalar.cmpi .sgt c16_i32_16 c0_i32_19
  let v36 : BitVec 32 := Scalar.extui v35
  let c0_i32_20 : BitVec 32 := 0#32
  let v37 : BitVec 1 := Scalar.cmpi .slt c16_i32_16 c0_i32_20
  let v38 : BitVec 32 := Scalar.extui v37
  let v39 : BitVec 32 := Scalar.subi v36 v38
  let v40 : BitVec 1 := Scalar.cmpi .ne v34 v39
  let v41 : BitVec 32 := Scalar.remsi v1 c16_i32_16
  let c0_i32_21 : BitVec 32 := 0#32
  let v42 : BitVec 1 := Scalar.cmpi .ne v41 c0_i32_21
  let v43 : BitVec 1 := Scalar.andi v40 v42
  let v29 : BitVec 32 := Scalar.divsi v1 c16_i32_16
  let c1_i32_22 : BitVec 32 := 1#32
  let v44 : BitVec 32 := Scalar.subi v29 c1_i32_22
  let v45 : BitVec 32 := Scalar.select v43 v44 v29
  let c0_i32_23 : BitVec 32 := 0#32
  let v46 : BitVec 32 := Scalar.subi v45 c0_i32_23
  let c512_i32 : BitVec 32 := 512#32
  let v47 : BitVec 32 := Scalar.muli v46 c512_i32
  let v48 : BitVec 32 := v47
  ![v55.toNat, v48.toNat]
def k0_cond3 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c32_i32 : BitVec 32 := 32#32
  let v7 : BitVec 1 := Scalar.cmpi .slt v6 c32_i32
  let v8 : BitVec 32 := Scalar.extui v7
  let c0_i32_1 : BitVec 32 := 0#32
  let v9 : BitVec 1 := Scalar.cmpi .ne v8 c0_i32_1
  v9

def k0_mult3 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c16_i32_18 : BitVec 32 := 16#32
  let c0_i32_21 : BitVec 32 := 0#32
  let v37 : BitVec 1 := Scalar.cmpi .sgt c16_i32_18 c0_i32_21
  let v38 : BitVec 32 := Scalar.extui v37
  let c0_i32_22 : BitVec 32 := 0#32
  let v39 : BitVec 1 := Scalar.cmpi .slt c16_i32_18 c0_i32_22
  let v40 : BitVec 32 := Scalar.extui v39
  let v41 : BitVec 32 := Scalar.subi v38 v40
  let v42 : BitVec 1 := Scalar.cmpi .ne v36 v41
  let v43 : BitVec 32 := Scalar.remsi v28 c16_i32_18
  let c0_i32_23 : BitVec 32 := 0#32
  let v44 : BitVec 1 := Scalar.cmpi .ne v43 c0_i32_23
  let v45 : BitVec 1 := Scalar.andi v42 v44
  let v31 : BitVec 32 := Scalar.divsi v28 c16_i32_18
  let c1_i32_24 : BitVec 32 := 1#32
  let v46 : BitVec 32 := Scalar.subi v31 c1_i32_24
  let v47 : BitVec 32 := Scalar.select v45 v46 v31
  let c0_i32_25 : BitVec 32 := 0#32
  let v48 : BitVec 32 := Scalar.subi v47 c0_i32_25
  let c512_i32 : BitVec 32 := 512#32
  let v49 : BitVec 32 := Scalar.muli v48 c512_i32
  v49
def k0_cond4 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c16_i32_18 : BitVec 32 := 16#32
  let c0_i32_21 : BitVec 32 := 0#32
  let v37 : BitVec 1 := Scalar.cmpi .sgt c16_i32_18 c0_i32_21
  let v38 : BitVec 32 := Scalar.extui v37
  let c0_i32_22 : BitVec 32 := 0#32
  let v39 : BitVec 1 := Scalar.cmpi .slt c16_i32_18 c0_i32_22
  let v40 : BitVec 32 := Scalar.extui v39
  let v41 : BitVec 32 := Scalar.subi v38 v40
  let v42 : BitVec 1 := Scalar.cmpi .ne v36 v41
  let v43 : BitVec 32 := Scalar.remsi v28 c16_i32_18
  let c0_i32_23 : BitVec 32 := 0#32
  let v44 : BitVec 1 := Scalar.cmpi .ne v43 c0_i32_23
  let v45 : BitVec 1 := Scalar.andi v42 v44
  let v31 : BitVec 32 := Scalar.divsi v28 c16_i32_18
  let c1_i32_24 : BitVec 32 := 1#32
  let v46 : BitVec 32 := Scalar.subi v31 c1_i32_24
  let v47 : BitVec 32 := Scalar.select v45 v46 v31
  let c0_i32_26 : BitVec 32 := 0#32
  let v51 : BitVec 1 := Scalar.cmpi .sge v47 c0_i32_26
  let c2_i32_27 : BitVec 32 := 2#32
  let v52 : BitVec 1 := Scalar.cmpi .slt v47 c2_i32_27
  let v53 : BitVec 1 := Scalar.andi v51 v52
  let v54 : BitVec 32 := Scalar.extui v53
  let c0_i32_28 : BitVec 32 := 0#32
  let v55 : BitVec 1 := Scalar.cmpi .ne v54 c0_i32_28
  v55

def k0_mult4 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c16_i32_17 : BitVec 32 := 16#32
  let v30 : BitVec 32 := Scalar.remsi v28 c16_i32_17
  let c512_i32_29 : BitVec 32 := 512#32
  let v56 : BitVec 32 := Scalar.muli v30 c512_i32_29
  v56
def k0_off4 (i : grid0.Coords) : Fin 1 → Nat :=
  let c1_i32_16 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  ![v29.toNat]
def k0_off5 (i : grid0.Coords) : Fin 3 → Nat :=
  let c1_i32_16 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : BitVec 32 := Scalar.subi c1_i32_16 v2
  let c0_i32_30 : BitVec 32 := 0#32
  let c0_i32_31 : BitVec 32 := 0#32
  ![v29.toNat, 0, 0]
def k0_off6 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_15 : BitVec 32 := 1#32
  let v28 : BitVec 32 := Scalar.addi v1 c1_i32_15
  let c16_i32_17 : BitVec 32 := 16#32
  let v30 : BitVec 32 := Scalar.remsi v28 c16_i32_17
  let c512_i32_29 : BitVec 32 := 512#32
  let v56 : BitVec 32 := Scalar.muli v30 c512_i32_29
  let v57 : BitVec 32 := v56
  let c0_i32_19 : BitVec 32 := 0#32
  let v32 : BitVec 1 := Scalar.cmpi .sgt v28 c0_i32_19
  let v33 : BitVec 32 := Scalar.extui v32
  let c0_i32_20 : BitVec 32 := 0#32
  let v34 : BitVec 1 := Scalar.cmpi .slt v28 c0_i32_20
  let v35 : BitVec 32 := Scalar.extui v34
  let v36 : BitVec 32 := Scalar.subi v33 v35
  let c16_i32_18 : BitVec 32 := 16#32
  let c0_i32_21 : BitVec 32 := 0#32
  let v37 : BitVec 1 := Scalar.cmpi .sgt c16_i32_18 c0_i32_21
  let v38 : BitVec 32 := Scalar.extui v37
  let c0_i32_22 : BitVec 32 := 0#32
  let v39 : BitVec 1 := Scalar.cmpi .slt c16_i32_18 c0_i32_22
  let v40 : BitVec 32 := Scalar.extui v39
  let v41 : BitVec 32 := Scalar.subi v38 v40
  let v42 : BitVec 1 := Scalar.cmpi .ne v36 v41
  let v43 : BitVec 32 := Scalar.remsi v28 c16_i32_18
  let c0_i32_23 : BitVec 32 := 0#32
  let v44 : BitVec 1 := Scalar.cmpi .ne v43 c0_i32_23
  let v45 : BitVec 1 := Scalar.andi v42 v44
  let v31 : BitVec 32 := Scalar.divsi v28 c16_i32_18
  let c1_i32_24 : BitVec 32 := 1#32
  let v46 : BitVec 32 := Scalar.subi v31 c1_i32_24
  let v47 : BitVec 32 := Scalar.select v45 v46 v31
  let c0_i32_25 : BitVec 32 := 0#32
  let v48 : BitVec 32 := Scalar.subi v47 c0_i32_25
  let c512_i32 : BitVec 32 := 512#32
  let v49 : BitVec 32 := Scalar.muli v48 c512_i32
  let v50 : BitVec 32 := v49
  ![v57.toNat, v50.toNat]
def k0_off7 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_2 : BitVec 32 := 0#32
  let c0_i32_3 : BitVec 32 := 0#32
  ![v2.toNat, 0, 0]
def k0_off9 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.remsi v1 c2_i32
  let v22 : Index := Scalar.indexCast v2
  let c0_11 : Index := 0#32
  let c0_12 : Index := 0#32
  ![v22.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== Reference11Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_0 : BitVec 32 := 2#32
  let v3 : BitVec 1 := Scalar.cmpi .sge v1 c2_i32_0
  let v4 : BitVec 32 := Scalar.extui v3
  let c0_i32 : BitVec 32 := 0#32
  let v5 : BitVec 1 := Scalar.cmpi .ne v4 c0_i32
  v5

def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_13 : BitVec 32 := 0#32
  let c0_i32_14 : BitVec 32 := 0#32
  ![v2.toNat, 0, 0]
def k0_off3 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v11 : Index := Scalar.indexCast v2
  let c0_4 : Index := 0#32
  let c0_5 : Index := 0#32
  ![v11.toNat, 0, 0]
def k0_mult1 (i : grid0.Coords) : BitVec 32 :=
  let arg1 : BitVec 32 := BitVec.ofNat 32 (i 1).val
  let c0_i32_6 : BitVec 32 := 0#32
  let v15 : BitVec 32 := Scalar.subi arg1 c0_i32_6
  let c1024_i32 : BitVec 32 := 1024#32
  let v16 : BitVec 32 := Scalar.muli v15 c1024_i32
  v16
def k0_cond2 (i : grid0.Coords) : BitVec 1 :=
  let arg1 : BitVec 32 := BitVec.ofNat 32 (i 1).val
  let c0_i32_7 : BitVec 32 := 0#32
  let v18 : BitVec 1 := Scalar.cmpi .sge arg1 c0_i32_7
  let c4_i32_8 : BitVec 32 := 4#32
  let v19 : BitVec 1 := Scalar.cmpi .slt arg1 c4_i32_8
  let v20 : BitVec 1 := Scalar.andi v18 v19
  let v21 : BitVec 32 := Scalar.extui v20
  let c0_i32_9 : BitVec 32 := 0#32
  let v22 : BitVec 1 := Scalar.cmpi .ne v21 c0_i32_9
  v22

def k0_mult2 (i : grid0.Coords) : BitVec 32 :=
  let arg0 : BitVec 32 := BitVec.ofNat 32 (i 0).val
  let c1024_i32_11 : BitVec 32 := 1024#32
  let v26 : BitVec 32 := Scalar.muli arg0 c1024_i32_11
  v26
def k0_off4 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off5 (i : grid0.Coords) : Fin 2 → Nat :=
  let arg0 : BitVec 32 := BitVec.ofNat 32 (i 0).val
  let c1024_i32_11 : BitVec 32 := 1024#32
  let v26 : BitVec 32 := Scalar.muli arg0 c1024_i32_11
  let v27 : BitVec 32 := v26
  let arg1 : BitVec 32 := BitVec.ofNat 32 (i 1).val
  let c0_i32_6 : BitVec 32 := 0#32
  let v15 : BitVec 32 := Scalar.subi arg1 c0_i32_6
  let c1024_i32 : BitVec 32 := 1024#32
  let v16 : BitVec 32 := Scalar.muli v15 c1024_i32
  let v17 : BitVec 32 := v16
  ![v27.toNat, v17.toNat]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_12 : BitVec 32 := 0#32
  let c0_i32_13 : BitVec 32 := 0#32
  ![v2.toNat, 0, 0]
def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c31_i32 : BitVec 32 := 31#32
  let v23 : BitVec 1 := Scalar.cmpi .eq v1 c31_i32
  let v24 : BitVec 32 := Scalar.extui v23
  let c0_i32_10 : BitVec 32 := 0#32
  let v25 : BitVec 1 := Scalar.cmpi .ne v24 c0_i32_10
  v25

def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_13 : BitVec 32 := 0#32
  let c0_i32_14 : BitVec 32 := 0#32
  ![v2.toNat, 0, 0]
def k0_off9 (i : grid0.Coords) : Fin 1 → Nat :=
  let c1_i32 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v31 : BitVec 32 := Scalar.subi c1_i32 v2
  ![v31.toNat]
def k0_off10 (i : grid0.Coords) : Fin 3 → Nat :=
  let c1_i32 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v31 : BitVec 32 := Scalar.subi c1_i32 v2
  let c0_i32_17 : BitVec 32 := 0#32
  let c0_i32_18 : BitVec 32 := 0#32
  ![v31.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]
-- ==== Reference12Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S8192x1024 : Shape := ⟨2, ![8192, 1024]⟩
abbrev S1024x15360 : Shape := ⟨2, ![1024, 15360]⟩
abbrev S8192x2048 : Shape := ⟨2, ![8192, 2048]⟩
abbrev S1024x1024 : Shape := ⟨2, ![1024, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩

abbrev nBuf : Space → Nat
  | .hbm => 17
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x15360, .f32⟩
  | .hbm, ⟨2, _⟩ => ⟨S8192x1024, .bf16⟩
  | .hbm, ⟨3, _⟩ => ⟨S1024x15360, .bf16⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v2_6 : Ref sig .tc := ⟨.hbm, 10, rfl⟩
abbrev main_v2_7 : Ref sig .tc := ⟨.hbm, 11, rfl⟩
abbrev main_v2_8 : Ref sig .tc := ⟨.hbm, 12, rfl⟩
abbrev main_v2_9 : Ref sig .tc := ⟨.hbm, 13, rfl⟩
abbrev main_v2_10 : Ref sig .tc := ⟨.hbm, 14, rfl⟩
abbrev main_v2_11 : Ref sig .tc := ⟨.hbm, 15, rfl⟩
abbrev main_v2_12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 15], ![false, false]⟩

def k0_cond1 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32_0 : BitVec 32 := 2#32
  let v3 : BitVec 1 := Scalar.cmpi .sge v1 c2_i32_0
  let v4 : BitVec 32 := Scalar.extui v3
  let c0_i32 : BitVec 32 := 0#32
  let v5 : BitVec 1 := Scalar.cmpi .ne v4 c0_i32
  v5

def k0_off1 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_62 : BitVec 32 := 0#32
  let c0_i32_63 : BitVec 32 := 0#32
  ![v2.toNat, 0, 0]
def k0_off3 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v11 : Index := Scalar.indexCast v2
  let c0_4 : Index := 0#32
  let c0_5 : Index := 0#32
  ![v11.toNat, 0, 0]
def k0_mult1 (i : grid0.Coords) : BitVec 32 :=
  let arg1 : BitVec 32 := BitVec.ofNat 32 (i 1).val
  let c0_i32_6 : BitVec 32 := 0#32
  let v15 : BitVec 32 := Scalar.subi arg1 c0_i32_6
  let c1024_i32 : BitVec 32 := 1024#32
  let v16 : BitVec 32 := Scalar.muli v15 c1024_i32
  v16
def k0_mult2 (i : grid0.Coords) : BitVec 32 :=
  let arg1 : BitVec 32 := BitVec.ofNat 32 (i 1).val
  let c1_i32_8 : BitVec 32 := 1#32
  let v21 : BitVec 32 := Scalar.subi arg1 c1_i32_8
  let c1024_i32_9 : BitVec 32 := 1024#32
  let v22 : BitVec 32 := Scalar.muli v21 c1024_i32_9
  v22
def k0_mult3 (i : grid0.Coords) : BitVec 32 :=
  let arg1 : BitVec 32 := BitVec.ofNat 32 (i 1).val
  let c2_i32_12 : BitVec 32 := 2#32
  let v27 : BitVec 32 := Scalar.subi arg1 c2_i32_12
  let c1024_i32_13 : BitVec 32 := 1024#32
  let v28 : BitVec 32 := Scalar.muli v27 c1024_i32_13
  v28
def k0_mult4 (i : grid0.Coords) : BitVec 32 :=
  let arg1 : BitVec 32 := BitVec.ofNat 32 (i 1).val
  let c4_i32_15 : BitVec 32 := 4#32
  let v33 : BitVec 32 := Scalar.subi arg1 c4_i32_15
  let c1024_i32_16 : BitVec 32 := 1024#32
  let v34 : BitVec 32 := Scalar.muli v33 c1024_i32_16
  v34
def k0_mult5 (i : grid0.Coords) : BitVec 32 :=
  let arg1 : BitVec 32 := BitVec.ofNat 32 (i 1).val
  let c6_i32_18 : BitVec 32 := 6#32
  let v39 : BitVec 32 := Scalar.subi arg1 c6_i32_18
  let c1024_i32_19 : BitVec 32 := 1024#32
  let v40 : BitVec 32 := Scalar.muli v39 c1024_i32_19
  v40
def k0_mult6 (i : grid0.Coords) : BitVec 32 :=
  let arg1 : BitVec 32 := BitVec.ofNat 32 (i 1).val
  let c7_i32_21 : BitVec 32 := 7#32
  let v45 : BitVec 32 := Scalar.subi arg1 c7_i32_21
  let c1024_i32_22 : BitVec 32 := 1024#32
  let v46 : BitVec 32 := Scalar.muli v45 c1024_i32_22
  v46
def k0_mult7 (i : grid0.Coords) : BitVec 32 :=
  let arg1 : BitVec 32 := BitVec.ofNat 32 (i 1).val
  let c8_i32_24 : BitVec 32 := 8#32
  let v51 : BitVec 32 := Scalar.subi arg1 c8_i32_24
  let c1024_i32_25 : BitVec 32 := 1024#32
  let v52 : BitVec 32 := Scalar.muli v51 c1024_i32_25
  v52
def k0_mult8 (i : grid0.Coords) : BitVec 32 :=
  let arg1 : BitVec 32 := BitVec.ofNat 32 (i 1).val
  let c9_i32_27 : BitVec 32 := 9#32
  let v57 : BitVec 32 := Scalar.subi arg1 c9_i32_27
  let c1024_i32_28 : BitVec 32 := 1024#32
  let v58 : BitVec 32 := Scalar.muli v57 c1024_i32_28
  v58
def k0_mult9 (i : grid0.Coords) : BitVec 32 :=
  let arg1 : BitVec 32 := BitVec.ofNat 32 (i 1).val
  let c10_i32_30 : BitVec 32 := 10#32
  let v63 : BitVec 32 := Scalar.subi arg1 c10_i32_30
  let c1024_i32_31 : BitVec 32 := 1024#32
  let v64 : BitVec 32 := Scalar.muli v63 c1024_i32_31
  v64
def k0_mult10 (i : grid0.Coords) : BitVec 32 :=
  let arg1 : BitVec 32 := BitVec.ofNat 32 (i 1).val
  let c11_i32_33 : BitVec 32 := 11#32
  let v69 : BitVec 32 := Scalar.subi arg1 c11_i32_33
  let c1024_i32_34 : BitVec 32 := 1024#32
  let v70 : BitVec 32 := Scalar.muli v69 c1024_i32_34
  v70
def k0_mult11 (i : grid0.Coords) : BitVec 32 :=
  let arg1 : BitVec 32 := BitVec.ofNat 32 (i 1).val
  let c12_i32_36 : BitVec 32 := 12#32
  let v75 : BitVec 32 := Scalar.subi arg1 c12_i32_36
  let c1024_i32_37 : BitVec 32 := 1024#32
  let v76 : BitVec 32 := Scalar.muli v75 c1024_i32_37
  v76
def k0_mult12 (i : grid0.Coords) : BitVec 32 :=
  let arg1 : BitVec 32 := BitVec.ofNat 32 (i 1).val
  let c13_i32_39 : BitVec 32 := 13#32
  let v81 : BitVec 32 := Scalar.subi arg1 c13_i32_39
  let c1024_i32_40 : BitVec 32 := 1024#32
  let v82 : BitVec 32 := Scalar.muli v81 c1024_i32_40
  v82
def k0_mult13 (i : grid0.Coords) : BitVec 32 :=
  let arg1 : BitVec 32 := BitVec.ofNat 32 (i 1).val
  let c14_i32_42 : BitVec 32 := 14#32
  let v87 : BitVec 32 := Scalar.subi arg1 c14_i32_42
  let c1024_i32_43 : BitVec 32 := 1024#32
  let v88 : BitVec 32 := Scalar.muli v87 c1024_i32_43
  v88
def k0_cond2 (i : grid0.Coords) : BitVec 1 :=
  let arg1 : BitVec 32 := BitVec.ofNat 32 (i 1).val
  let c0_i32_7 : BitVec 32 := 0#32
  let v18 : BitVec 1 := Scalar.cmpi .sge arg1 c0_i32_7
  let c1_i32 : BitVec 32 := 1#32
  let v19 : BitVec 1 := Scalar.cmpi .slt arg1 c1_i32
  let v20 : BitVec 1 := Scalar.andi v18 v19
  let v93 : BitVec 32 := Scalar.extui v20
  let c0_i32_46 : BitVec 32 := 0#32
  let v94 : BitVec 1 := Scalar.cmpi .ne v93 c0_i32_46
  v94

def k0_mult14 (i : grid0.Coords) : BitVec 32 :=
  let arg0 : BitVec 32 := BitVec.ofNat 32 (i 0).val
  let c1024_i32_60 : BitVec 32 := 1024#32
  let v122 : BitVec 32 := Scalar.muli arg0 c1024_i32_60
  v122
def k0_off4 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off5 (i : grid0.Coords) : Fin 2 → Nat :=
  let arg0 : BitVec 32 := BitVec.ofNat 32 (i 0).val
  let c1024_i32_60 : BitVec 32 := 1024#32
  let v122 : BitVec 32 := Scalar.muli arg0 c1024_i32_60
  let v123 : BitVec 32 := v122
  let arg1 : BitVec 32 := BitVec.ofNat 32 (i 1).val
  let c0_i32_6 : BitVec 32 := 0#32
  let v15 : BitVec 32 := Scalar.subi arg1 c0_i32_6
  let c1024_i32 : BitVec 32 := 1024#32
  let v16 : BitVec 32 := Scalar.muli v15 c1024_i32
  let v17 : BitVec 32 := v16
  ![v123.toNat, v17.toNat]
def k0_off6 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c0_i32_62 : BitVec 32 := 0#32
  ![v2.toNat, 0, 0]
def k0_cond3 (i : grid0.Coords) : BitVec 1 :=
  let arg1 : BitVec 32 := BitVec.ofNat 32 (i 1).val
  let c1_i32_10 : BitVec 32 := 1#32
  let v24 : BitVec 1 := Scalar.cmpi .sge arg1 c1_i32_10
  let c2_i32_11 : BitVec 32 := 2#32
  let v25 : BitVec 1 := Scalar.cmpi .slt arg1 c2_i32_11
  let v26 : BitVec 1 := Scalar.andi v24 v25
  let v95 : BitVec 32 := Scalar.extui v26
  let c0_i32_47 : BitVec 32 := 0#32
  let v96 : BitVec 1 := Scalar.cmpi .ne v95 c0_i32_47
  v96

def k0_mult15 (i : grid0.Coords) : BitVec 32 :=
  let arg0 : BitVec 32 := BitVec.ofNat 32 (i 0).val
  let c1024_i32_60 : BitVec 32 := 1024#32
  let v122 : BitVec 32 := Scalar.muli arg0 c1024_i32_60
  v122
def k0_off7 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 2 → Nat :=
  let arg0 : BitVec 32 := BitVec.ofNat 32 (i 0).val
  let c1024_i32_60 : BitVec 32 := 1024#32
  let v122 : BitVec 32 := Scalar.muli arg0 c1024_i32_60
  let v123 : BitVec 32 := v122
  let arg1 : BitVec 32 := BitVec.ofNat 32 (i 1).val
  let c1_i32_8 : BitVec 32 := 1#32
  let v21 : BitVec 32 := Scalar.subi arg1 c1_i32_8
  let c1024_i32_9 : BitVec 32 := 1024#32
  let v22 : BitVec 32 := Scalar.muli v21 c1024_i32_9
  let v23 : BitVec 32 := v22
  ![v123.toNat, v23.toNat]
def k0_off9 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c0_i32_62 : BitVec 32 := 0#32
  ![v2.toNat, 0, 0]
def k0_cond4 (i : grid0.Coords) : BitVec 1 :=
  let arg1 : BitVec 32 := BitVec.ofNat 32 (i 1).val
  let c2_i32_14 : BitVec 32 := 2#32
  let v30 : BitVec 1 := Scalar.cmpi .sge arg1 c2_i32_14
  let c4_i32 : BitVec 32 := 4#32
  let v31 : BitVec 1 := Scalar.cmpi .slt arg1 c4_i32
  let v32 : BitVec 1 := Scalar.andi v30 v31
  let v97 : BitVec 32 := Scalar.extui v32
  let c0_i32_48 : BitVec 32 := 0#32
  let v98 : BitVec 1 := Scalar.cmpi .ne v97 c0_i32_48
  v98

def k0_mult16 (i : grid0.Coords) : BitVec 32 :=
  let arg0 : BitVec 32 := BitVec.ofNat 32 (i 0).val
  let c1024_i32_60 : BitVec 32 := 1024#32
  let v122 : BitVec 32 := Scalar.muli arg0 c1024_i32_60
  v122
def k0_off10 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off11 (i : grid0.Coords) : Fin 2 → Nat :=
  let arg0 : BitVec 32 := BitVec.ofNat 32 (i 0).val
  let c1024_i32_60 : BitVec 32 := 1024#32
  let v122 : BitVec 32 := Scalar.muli arg0 c1024_i32_60
  let v123 : BitVec 32 := v122
  let arg1 : BitVec 32 := BitVec.ofNat 32 (i 1).val
  let c2_i32_12 : BitVec 32 := 2#32
  let v27 : BitVec 32 := Scalar.subi arg1 c2_i32_12
  let c1024_i32_13 : BitVec 32 := 1024#32
  let v28 : BitVec 32 := Scalar.muli v27 c1024_i32_13
  let v29 : BitVec 32 := v28
  ![v123.toNat, v29.toNat]
def k0_off12 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c0_i32_62 : BitVec 32 := 0#32
  ![v2.toNat, 0, 0]
def k0_cond5 (i : grid0.Coords) : BitVec 1 :=
  let arg1 : BitVec 32 := BitVec.ofNat 32 (i 1).val
  let c4_i32_17 : BitVec 32 := 4#32
  let v36 : BitVec 1 := Scalar.cmpi .sge arg1 c4_i32_17
  let c6_i32 : BitVec 32 := 6#32
  let v37 : BitVec 1 := Scalar.cmpi .slt arg1 c6_i32
  let v38 : BitVec 1 := Scalar.andi v36 v37
  let v99 : BitVec 32 := Scalar.extui v38
  let c0_i32_49 : BitVec 32 := 0#32
  let v100 : BitVec 1 := Scalar.cmpi .ne v99 c0_i32_49
  v100

def k0_mult17 (i : grid0.Coords) : BitVec 32 :=
  let arg0 : BitVec 32 := BitVec.ofNat 32 (i 0).val
  let c1024_i32_60 : BitVec 32 := 1024#32
  let v122 : BitVec 32 := Scalar.muli arg0 c1024_i32_60
  v122
def k0_off13 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off14 (i : grid0.Coords) : Fin 2 → Nat :=
  let arg0 : BitVec 32 := BitVec.ofNat 32 (i 0).val
  let c1024_i32_60 : BitVec 32 := 1024#32
  let v122 : BitVec 32 := Scalar.muli arg0 c1024_i32_60
  let v123 : BitVec 32 := v122
  let arg1 : BitVec 32 := BitVec.ofNat 32 (i 1).val
  let c4_i32_15 : BitVec 32 := 4#32
  let v33 : BitVec 32 := Scalar.subi arg1 c4_i32_15
  let c1024_i32_16 : BitVec 32 := 1024#32
  let v34 : BitVec 32 := Scalar.muli v33 c1024_i32_16
  let v35 : BitVec 32 := v34
  ![v123.toNat, v35.toNat]
def k0_off15 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c0_i32_62 : BitVec 32 := 0#32
  ![v2.toNat, 0, 0]
def k0_cond6 (i : grid0.Coords) : BitVec 1 :=
  let arg1 : BitVec 32 := BitVec.ofNat 32 (i 1).val
  let c6_i32_20 : BitVec 32 := 6#32
  let v42 : BitVec 1 := Scalar.cmpi .sge arg1 c6_i32_20
  let c7_i32 : BitVec 32 := 7#32
  let v43 : BitVec 1 := Scalar.cmpi .slt arg1 c7_i32
  let v44 : BitVec 1 := Scalar.andi v42 v43
  let v101 : BitVec 32 := Scalar.extui v44
  let c0_i32_50 : BitVec 32 := 0#32
  let v102 : BitVec 1 := Scalar.cmpi .ne v101 c0_i32_50
  v102

def k0_mult18 (i : grid0.Coords) : BitVec 32 :=
  let arg0 : BitVec 32 := BitVec.ofNat 32 (i 0).val
  let c1024_i32_60 : BitVec 32 := 1024#32
  let v122 : BitVec 32 := Scalar.muli arg0 c1024_i32_60
  v122
def k0_off16 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off17 (i : grid0.Coords) : Fin 2 → Nat :=
  let arg0 : BitVec 32 := BitVec.ofNat 32 (i 0).val
  let c1024_i32_60 : BitVec 32 := 1024#32
  let v122 : BitVec 32 := Scalar.muli arg0 c1024_i32_60
  let v123 : BitVec 32 := v122
  let arg1 : BitVec 32 := BitVec.ofNat 32 (i 1).val
  let c6_i32_18 : BitVec 32 := 6#32
  let v39 : BitVec 32 := Scalar.subi arg1 c6_i32_18
  let c1024_i32_19 : BitVec 32 := 1024#32
  let v40 : BitVec 32 := Scalar.muli v39 c1024_i32_19
  let v41 : BitVec 32 := v40
  ![v123.toNat, v41.toNat]
def k0_off18 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c0_i32_62 : BitVec 32 := 0#32
  ![v2.toNat, 0, 0]
def k0_cond7 (i : grid0.Coords) : BitVec 1 :=
  let arg1 : BitVec 32 := BitVec.ofNat 32 (i 1).val
  let c7_i32_23 : BitVec 32 := 7#32
  let v48 : BitVec 1 := Scalar.cmpi .sge arg1 c7_i32_23
  let c8_i32 : BitVec 32 := 8#32
  let v49 : BitVec 1 := Scalar.cmpi .slt arg1 c8_i32
  let v50 : BitVec 1 := Scalar.andi v48 v49
  let v103 : BitVec 32 := Scalar.extui v50
  let c0_i32_51 : BitVec 32 := 0#32
  let v104 : BitVec 1 := Scalar.cmpi .ne v103 c0_i32_51
  v104

def k0_mult19 (i : grid0.Coords) : BitVec 32 :=
  let arg0 : BitVec 32 := BitVec.ofNat 32 (i 0).val
  let c1024_i32_60 : BitVec 32 := 1024#32
  let v122 : BitVec 32 := Scalar.muli arg0 c1024_i32_60
  v122
def k0_off19 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off20 (i : grid0.Coords) : Fin 2 → Nat :=
  let arg0 : BitVec 32 := BitVec.ofNat 32 (i 0).val
  let c1024_i32_60 : BitVec 32 := 1024#32
  let v122 : BitVec 32 := Scalar.muli arg0 c1024_i32_60
  let v123 : BitVec 32 := v122
  let arg1 : BitVec 32 := BitVec.ofNat 32 (i 1).val
  let c7_i32_21 : BitVec 32 := 7#32
  let v45 : BitVec 32 := Scalar.subi arg1 c7_i32_21
  let c1024_i32_22 : BitVec 32 := 1024#32
  let v46 : BitVec 32 := Scalar.muli v45 c1024_i32_22
  let v47 : BitVec 32 := v46
  ![v123.toNat, v47.toNat]
def k0_off21 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c0_i32_62 : BitVec 32 := 0#32
  ![v2.toNat, 0, 0]
def k0_cond8 (i : grid0.Coords) : BitVec 1 :=
  let arg1 : BitVec 32 := BitVec.ofNat 32 (i 1).val
  let c8_i32_26 : BitVec 32 := 8#32
  let v54 : BitVec 1 := Scalar.cmpi .sge arg1 c8_i32_26
  let c9_i32 : BitVec 32 := 9#32
  let v55 : BitVec 1 := Scalar.cmpi .slt arg1 c9_i32
  let v56 : BitVec 1 := Scalar.andi v54 v55
  let v105 : BitVec 32 := Scalar.extui v56
  let c0_i32_52 : BitVec 32 := 0#32
  let v106 : BitVec 1 := Scalar.cmpi .ne v105 c0_i32_52
  v106

def k0_mult20 (i : grid0.Coords) : BitVec 32 :=
  let arg0 : BitVec 32 := BitVec.ofNat 32 (i 0).val
  let c1024_i32_60 : BitVec 32 := 1024#32
  let v122 : BitVec 32 := Scalar.muli arg0 c1024_i32_60
  v122
def k0_off22 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off23 (i : grid0.Coords) : Fin 2 → Nat :=
  let arg0 : BitVec 32 := BitVec.ofNat 32 (i 0).val
  let c1024_i32_60 : BitVec 32 := 1024#32
  let v122 : BitVec 32 := Scalar.muli arg0 c1024_i32_60
  let v123 : BitVec 32 := v122
  let arg1 : BitVec 32 := BitVec.ofNat 32 (i 1).val
  let c8_i32_24 : BitVec 32 := 8#32
  let v51 : BitVec 32 := Scalar.subi arg1 c8_i32_24
  let c1024_i32_25 : BitVec 32 := 1024#32
  let v52 : BitVec 32 := Scalar.muli v51 c1024_i32_25
  let v53 : BitVec 32 := v52
  ![v123.toNat, v53.toNat]
def k0_off24 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c0_i32_62 : BitVec 32 := 0#32
  ![v2.toNat, 0, 0]
def k0_cond9 (i : grid0.Coords) : BitVec 1 :=
  let arg1 : BitVec 32 := BitVec.ofNat 32 (i 1).val
  let c9_i32_29 : BitVec 32 := 9#32
  let v60 : BitVec 1 := Scalar.cmpi .sge arg1 c9_i32_29
  let c10_i32 : BitVec 32 := 10#32
  let v61 : BitVec 1 := Scalar.cmpi .slt arg1 c10_i32
  let v62 : BitVec 1 := Scalar.andi v60 v61
  let v107 : BitVec 32 := Scalar.extui v62
  let c0_i32_53 : BitVec 32 := 0#32
  let v108 : BitVec 1 := Scalar.cmpi .ne v107 c0_i32_53
  v108

def k0_mult21 (i : grid0.Coords) : BitVec 32 :=
  let arg0 : BitVec 32 := BitVec.ofNat 32 (i 0).val
  let c1024_i32_60 : BitVec 32 := 1024#32
  let v122 : BitVec 32 := Scalar.muli arg0 c1024_i32_60
  v122
def k0_off25 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off26 (i : grid0.Coords) : Fin 2 → Nat :=
  let arg0 : BitVec 32 := BitVec.ofNat 32 (i 0).val
  let c1024_i32_60 : BitVec 32 := 1024#32
  let v122 : BitVec 32 := Scalar.muli arg0 c1024_i32_60
  let v123 : BitVec 32 := v122
  let arg1 : BitVec 32 := BitVec.ofNat 32 (i 1).val
  let c9_i32_27 : BitVec 32 := 9#32
  let v57 : BitVec 32 := Scalar.subi arg1 c9_i32_27
  let c1024_i32_28 : BitVec 32 := 1024#32
  let v58 : BitVec 32 := Scalar.muli v57 c1024_i32_28
  let v59 : BitVec 32 := v58
  ![v123.toNat, v59.toNat]
def k0_off27 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c0_i32_62 : BitVec 32 := 0#32
  ![v2.toNat, 0, 0]
def k0_cond10 (i : grid0.Coords) : BitVec 1 :=
  let arg1 : BitVec 32 := BitVec.ofNat 32 (i 1).val
  let c10_i32_32 : BitVec 32 := 10#32
  let v66 : BitVec 1 := Scalar.cmpi .sge arg1 c10_i32_32
  let c11_i32 : BitVec 32 := 11#32
  let v67 : BitVec 1 := Scalar.cmpi .slt arg1 c11_i32
  let v68 : BitVec 1 := Scalar.andi v66 v67
  let v109 : BitVec 32 := Scalar.extui v68
  let c0_i32_54 : BitVec 32 := 0#32
  let v110 : BitVec 1 := Scalar.cmpi .ne v109 c0_i32_54
  v110

def k0_mult22 (i : grid0.Coords) : BitVec 32 :=
  let arg0 : BitVec 32 := BitVec.ofNat 32 (i 0).val
  let c1024_i32_60 : BitVec 32 := 1024#32
  let v122 : BitVec 32 := Scalar.muli arg0 c1024_i32_60
  v122
def k0_off28 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off29 (i : grid0.Coords) : Fin 2 → Nat :=
  let arg0 : BitVec 32 := BitVec.ofNat 32 (i 0).val
  let c1024_i32_60 : BitVec 32 := 1024#32
  let v122 : BitVec 32 := Scalar.muli arg0 c1024_i32_60
  let v123 : BitVec 32 := v122
  let arg1 : BitVec 32 := BitVec.ofNat 32 (i 1).val
  let c10_i32_30 : BitVec 32 := 10#32
  let v63 : BitVec 32 := Scalar.subi arg1 c10_i32_30
  let c1024_i32_31 : BitVec 32 := 1024#32
  let v64 : BitVec 32 := Scalar.muli v63 c1024_i32_31
  let v65 : BitVec 32 := v64
  ![v123.toNat, v65.toNat]
def k0_off30 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c0_i32_62 : BitVec 32 := 0#32
  ![v2.toNat, 0, 0]
def k0_cond11 (i : grid0.Coords) : BitVec 1 :=
  let arg1 : BitVec 32 := BitVec.ofNat 32 (i 1).val
  let c11_i32_35 : BitVec 32 := 11#32
  let v72 : BitVec 1 := Scalar.cmpi .sge arg1 c11_i32_35
  let c12_i32 : BitVec 32 := 12#32
  let v73 : BitVec 1 := Scalar.cmpi .slt arg1 c12_i32
  let v74 : BitVec 1 := Scalar.andi v72 v73
  let v111 : BitVec 32 := Scalar.extui v74
  let c0_i32_55 : BitVec 32 := 0#32
  let v112 : BitVec 1 := Scalar.cmpi .ne v111 c0_i32_55
  v112

def k0_mult23 (i : grid0.Coords) : BitVec 32 :=
  let arg0 : BitVec 32 := BitVec.ofNat 32 (i 0).val
  let c1024_i32_60 : BitVec 32 := 1024#32
  let v122 : BitVec 32 := Scalar.muli arg0 c1024_i32_60
  v122
def k0_off31 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off32 (i : grid0.Coords) : Fin 2 → Nat :=
  let arg0 : BitVec 32 := BitVec.ofNat 32 (i 0).val
  let c1024_i32_60 : BitVec 32 := 1024#32
  let v122 : BitVec 32 := Scalar.muli arg0 c1024_i32_60
  let v123 : BitVec 32 := v122
  let arg1 : BitVec 32 := BitVec.ofNat 32 (i 1).val
  let c11_i32_33 : BitVec 32 := 11#32
  let v69 : BitVec 32 := Scalar.subi arg1 c11_i32_33
  let c1024_i32_34 : BitVec 32 := 1024#32
  let v70 : BitVec 32 := Scalar.muli v69 c1024_i32_34
  let v71 : BitVec 32 := v70
  ![v123.toNat, v71.toNat]
def k0_off33 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c0_i32_62 : BitVec 32 := 0#32
  ![v2.toNat, 0, 0]
def k0_cond12 (i : grid0.Coords) : BitVec 1 :=
  let arg1 : BitVec 32 := BitVec.ofNat 32 (i 1).val
  let c12_i32_38 : BitVec 32 := 12#32
  let v78 : BitVec 1 := Scalar.cmpi .sge arg1 c12_i32_38
  let c13_i32 : BitVec 32 := 13#32
  let v79 : BitVec 1 := Scalar.cmpi .slt arg1 c13_i32
  let v80 : BitVec 1 := Scalar.andi v78 v79
  let v113 : BitVec 32 := Scalar.extui v80
  let c0_i32_56 : BitVec 32 := 0#32
  let v114 : BitVec 1 := Scalar.cmpi .ne v113 c0_i32_56
  v114

def k0_mult24 (i : grid0.Coords) : BitVec 32 :=
  let arg0 : BitVec 32 := BitVec.ofNat 32 (i 0).val
  let c1024_i32_60 : BitVec 32 := 1024#32
  let v122 : BitVec 32 := Scalar.muli arg0 c1024_i32_60
  v122
def k0_off34 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off35 (i : grid0.Coords) : Fin 2 → Nat :=
  let arg0 : BitVec 32 := BitVec.ofNat 32 (i 0).val
  let c1024_i32_60 : BitVec 32 := 1024#32
  let v122 : BitVec 32 := Scalar.muli arg0 c1024_i32_60
  let v123 : BitVec 32 := v122
  let arg1 : BitVec 32 := BitVec.ofNat 32 (i 1).val
  let c12_i32_36 : BitVec 32 := 12#32
  let v75 : BitVec 32 := Scalar.subi arg1 c12_i32_36
  let c1024_i32_37 : BitVec 32 := 1024#32
  let v76 : BitVec 32 := Scalar.muli v75 c1024_i32_37
  let v77 : BitVec 32 := v76
  ![v123.toNat, v77.toNat]
def k0_off36 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c0_i32_62 : BitVec 32 := 0#32
  ![v2.toNat, 0, 0]
def k0_cond13 (i : grid0.Coords) : BitVec 1 :=
  let arg1 : BitVec 32 := BitVec.ofNat 32 (i 1).val
  let c13_i32_41 : BitVec 32 := 13#32
  let v84 : BitVec 1 := Scalar.cmpi .sge arg1 c13_i32_41
  let c14_i32 : BitVec 32 := 14#32
  let v85 : BitVec 1 := Scalar.cmpi .slt arg1 c14_i32
  let v86 : BitVec 1 := Scalar.andi v84 v85
  let v115 : BitVec 32 := Scalar.extui v86
  let c0_i32_57 : BitVec 32 := 0#32
  let v116 : BitVec 1 := Scalar.cmpi .ne v115 c0_i32_57
  v116

def k0_mult25 (i : grid0.Coords) : BitVec 32 :=
  let arg0 : BitVec 32 := BitVec.ofNat 32 (i 0).val
  let c1024_i32_60 : BitVec 32 := 1024#32
  let v122 : BitVec 32 := Scalar.muli arg0 c1024_i32_60
  v122
def k0_off37 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off38 (i : grid0.Coords) : Fin 2 → Nat :=
  let arg0 : BitVec 32 := BitVec.ofNat 32 (i 0).val
  let c1024_i32_60 : BitVec 32 := 1024#32
  let v122 : BitVec 32 := Scalar.muli arg0 c1024_i32_60
  let v123 : BitVec 32 := v122
  let arg1 : BitVec 32 := BitVec.ofNat 32 (i 1).val
  let c13_i32_39 : BitVec 32 := 13#32
  let v81 : BitVec 32 := Scalar.subi arg1 c13_i32_39
  let c1024_i32_40 : BitVec 32 := 1024#32
  let v82 : BitVec 32 := Scalar.muli v81 c1024_i32_40
  let v83 : BitVec 32 := v82
  ![v123.toNat, v83.toNat]
def k0_off39 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c0_i32_62 : BitVec 32 := 0#32
  ![v2.toNat, 0, 0]
def k0_cond14 (i : grid0.Coords) : BitVec 1 :=
  let arg1 : BitVec 32 := BitVec.ofNat 32 (i 1).val
  let c14_i32_44 : BitVec 32 := 14#32
  let v90 : BitVec 1 := Scalar.cmpi .sge arg1 c14_i32_44
  let c15_i32_45 : BitVec 32 := 15#32
  let v91 : BitVec 1 := Scalar.cmpi .slt arg1 c15_i32_45
  let v92 : BitVec 1 := Scalar.andi v90 v91
  let v117 : BitVec 32 := Scalar.extui v92
  let c0_i32_58 : BitVec 32 := 0#32
  let v118 : BitVec 1 := Scalar.cmpi .ne v117 c0_i32_58
  v118

def k0_mult26 (i : grid0.Coords) : BitVec 32 :=
  let arg0 : BitVec 32 := BitVec.ofNat 32 (i 0).val
  let c1024_i32_60 : BitVec 32 := 1024#32
  let v122 : BitVec 32 := Scalar.muli arg0 c1024_i32_60
  v122
def k0_off40 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off41 (i : grid0.Coords) : Fin 2 → Nat :=
  let arg0 : BitVec 32 := BitVec.ofNat 32 (i 0).val
  let c1024_i32_60 : BitVec 32 := 1024#32
  let v122 : BitVec 32 := Scalar.muli arg0 c1024_i32_60
  let v123 : BitVec 32 := v122
  let arg1 : BitVec 32 := BitVec.ofNat 32 (i 1).val
  let c14_i32_42 : BitVec 32 := 14#32
  let v87 : BitVec 32 := Scalar.subi arg1 c14_i32_42
  let c1024_i32_43 : BitVec 32 := 1024#32
  let v88 : BitVec 32 := Scalar.muli v87 c1024_i32_43
  let v89 : BitVec 32 := v88
  ![v123.toNat, v89.toNat]
def k0_off42 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_61 : BitVec 32 := 0#32
  let c0_i32_62 : BitVec 32 := 0#32
  ![v2.toNat, 0, 0]
def k0_cond15 (i : grid0.Coords) : BitVec 1 :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c119_i32 : BitVec 32 := 119#32
  let v119 : BitVec 1 := Scalar.cmpi .eq v1 c119_i32
  let v120 : BitVec 32 := Scalar.extui v119
  let c0_i32_59 : BitVec 32 := 0#32
  let v121 : BitVec 1 := Scalar.cmpi .ne v120 c0_i32_59
  v121

def k0_off43 (i : grid0.Coords) : Fin 1 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off44 (i : grid0.Coords) : Fin 3 → Nat :=
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_62 : BitVec 32 := 0#32
  let c0_i32_63 : BitVec 32 := 0#32
  ![v2.toNat, 0, 0]
def k0_off45 (i : grid0.Coords) : Fin 1 → Nat :=
  let c1_i32_64 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v127 : BitVec 32 := Scalar.subi c1_i32_64 v2
  ![v127.toNat]
def k0_off46 (i : grid0.Coords) : Fin 3 → Nat :=
  let c1_i32_64 : BitVec 32 := 1#32
  let arg0 : BitVec 32 := BitVec.ofNat 32 (i 0).val
  let c15_i32 : BitVec 32 := 15#32
  let v0 : BitVec 32 := Scalar.muli arg0 c15_i32
  let arg1 : BitVec 32 := BitVec.ofNat 32 (i 1).val
  let v1 : BitVec 32 := Scalar.addi v0 arg1
  let c2_i32 : BitVec 32 := 2#32
  let v2 : BitVec 32 := Scalar.remsi v1 c2_i32
  let v127 : BitVec 32 := Scalar.subi c1_i32_64 v2
  let c0_i32_67 : BitVec 32 := 0#32
  let c0_i32_68 : BitVec 32 := 0#32
  ![v127.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]
-- ==== Reference13Ideal.lean ====
abbrev S8192x1024 : Shape := ⟨2, ![8192, 1024]⟩
abbrev S1024x15360 : Shape := ⟨2, ![1024, 15360]⟩
abbrev S8192x15360 : Shape := ⟨2, ![8192, 15360]⟩
abbrev S8192x2048 : Shape := ⟨2, ![8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x15360, .f32⟩
  | .hbm, ⟨2, _⟩ => ⟨S8192x15360, .f32⟩
  | .hbm, ⟨3, _⟩ => ⟨S8192x1024, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Kernel14.lean ====
abbrev S8192x4096 : Shape := ⟨2, ![8192, 4096]⟩
abbrev S4096x1024 : Shape := ⟨2, ![4096, 1024]⟩
abbrev S8192x1024 : Shape := ⟨2, ![8192, 1024]⟩
abbrev S512x4096 : Shape := ⟨2, ![512, 4096]⟩
abbrev S2x512x1024 : Shape := ⟨3, ![2, 512, 1024]⟩
abbrev S2 : Shape := ⟨1, ![2]⟩
abbrev S1 : Shape := ⟨1, ![1]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 5
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x4096, .bf16⟩
  | .hbm, ⟨3, _⟩ => ⟨S4096x1024, .bf16⟩
  | .hbm, ⟨4, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S2x512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32_0 : BitVec 32 := 2#32
  let v3 : BitVec 1 := Scalar.cmpi .sge v1 c2_i32_0
  let v4 : BitVec 32 := Scalar.extui v3
  let c0_i32 : BitVec 32 := 0#32
  let v5 : BitVec 1 := Scalar.cmpi .ne v4 c0_i32
  v5

def k0_off1 (i : grid0.Coords) : Fin 1 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_13 : BitVec 32 := 0#32
  let c0_i32_14 : BitVec 32 := 0#32
  ![v2.toNat, 0, 0]
def k0_off3 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v11 : Index := Scalar.indexCast v2
  let c0_4 : Index := 0#32
  let c0_5 : Index := 0#32
  ![v11.toNat, 0, 0]
def k0_mult1 (i : grid0.Coords) : BitVec 32 :=
  let arg1 : BitVec 32 := BitVec.ofNat 32 (i 1).val
  let c0_i32_6 : BitVec 32 := 0#32
  let v15 : BitVec 32 := Scalar.subi arg1 c0_i32_6
  let c1024_i32 : BitVec 32 := 1024#32
  let v16 : BitVec 32 := Scalar.muli v15 c1024_i32
  v16
def k0_cond2 (i : grid0.Coords) : BitVec 1 :=
  let arg1 : BitVec 32 := BitVec.ofNat 32 (i 1).val
  let c0_i32_7 : BitVec 32 := 0#32
  let v18 : BitVec 1 := Scalar.cmpi .sge arg1 c0_i32_7
  let c1_i32_8 : BitVec 32 := 1#32
  let v19 : BitVec 1 := Scalar.cmpi .slt arg1 c1_i32_8
  let v20 : BitVec 1 := Scalar.andi v18 v19
  let v21 : BitVec 32 := Scalar.extui v20
  let c0_i32_9 : BitVec 32 := 0#32
  let v22 : BitVec 1 := Scalar.cmpi .ne v21 c0_i32_9
  v22

def k0_mult2 (i : grid0.Coords) : BitVec 32 :=
  let arg0 : BitVec 32 := BitVec.ofNat 32 (i 0).val
  let c512_i32 : BitVec 32 := 512#32
  let v26 : BitVec 32 := Scalar.muli arg0 c512_i32
  v26
def k0_off4 (i : grid0.Coords) : Fin 1 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off5 (i : grid0.Coords) : Fin 2 → Nat :=
  let arg0 : BitVec 32 := BitVec.ofNat 32 (i 0).val
  let c512_i32 : BitVec 32 := 512#32
  let v26 : BitVec 32 := Scalar.muli arg0 c512_i32
  let v27 : BitVec 32 := v26
  let arg1 : BitVec 32 := BitVec.ofNat 32 (i 1).val
  let c0_i32_6 : BitVec 32 := 0#32
  let v15 : BitVec 32 := Scalar.subi arg1 c0_i32_6
  let c1024_i32 : BitVec 32 := 1024#32
  let v16 : BitVec 32 := Scalar.muli v15 c1024_i32
  let v17 : BitVec 32 := v16
  ![v27.toNat, v17.toNat]
def k0_off6 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_11 : BitVec 32 := 0#32
  let c0_i32_12 : BitVec 32 := 0#32
  ![v2.toNat, 0, 0]
def k0_cond3 (i : grid0.Coords) : BitVec 1 :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c15_i32 : BitVec 32 := 15#32
  let v23 : BitVec 1 := Scalar.cmpi .eq v1 c15_i32
  let v24 : BitVec 32 := Scalar.extui v23
  let c0_i32_10 : BitVec 32 := 0#32
  let v25 : BitVec 1 := Scalar.cmpi .ne v24 c0_i32_10
  v25

def k0_off7 (i : grid0.Coords) : Fin 1 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off8 (i : grid0.Coords) : Fin 3 → Nat :=
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_13 : BitVec 32 := 0#32
  let c0_i32_14 : BitVec 32 := 0#32
  ![v2.toNat, 0, 0]
def k0_off9 (i : grid0.Coords) : Fin 1 → Nat :=
  let c1_i32_15 : BitVec 32 := 1#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v31 : BitVec 32 := Scalar.subi c1_i32_15 v2
  ![v31.toNat]
def k0_off10 (i : grid0.Coords) : Fin 3 → Nat :=
  let c1_i32_15 : BitVec 32 := 1#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c2_i32 : BitVec 32 := 2#32
  let v2 : BitVec 32 := Scalar.remsi v1 c2_i32
  let v31 : BitVec 32 := Scalar.subi c1_i32_15 v2
  let c0_i32_18 : BitVec 32 := 0#32
  let c0_i32_19 : BitVec 32 := 0#32
  ![v31.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]
-- ==== Reference14Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Tiles.lean ====
/-
  Tiles of 256 rows as 32 groups of eight rows: a group of a tile, a tile put together from its groups, and what a list of
  stores of all the groups leaves in the tile, in whatever order they were stored.
-/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.ValueIdxCore
public import Idealize.ShloMosaic.Lib.Pipeline.Value

@[expose] public section

set_option maxRecDepth 16384

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- A tile of 256 rows, a group of eight rows, and one row. -/
abbrev Tile (F : FTy → Type) : Type := Vec F S256x1024 .f32
abbrev Oct (F : FTy → Type) : Type := Vec F S8x1024 .f32
abbrev Row (F : FTy → Type) : Type := Vec F S1x1024 .f32

/-- The row number of each element of a group. -/
abbrev rowNo : IVec S8x1024 32 := iota .tc S8x1024 32 [0] iota_S8x1024_d0_w32

/-- Group `g` of a tile: its rows `8 g` to `8 g + 7`. -/
def group (X : Tile F) (g : Fin 32) : Oct F := fun x =>
  X (ix2 ⟨8 * g.val + (x 0).val, by have := (x 0).isLt; have h : S8x1024.size 0 = 8 := rfl; omega⟩ (x 1))

/-- The tile whose groups are given. -/
def tileOf (f : Fin 32 → Oct F) : Tile F := fun y =>
  f ⟨(y 0).val / 8, by have := (y 0).isLt; have h : S256x1024.size 0 = 256 := rfl; omega⟩
    (ix2 ⟨(y 0).val % 8, Nat.mod_lt _ (by decide)⟩ (y 1))

theorem group_tileOf (f : Fin 32 → Oct F) (g : Fin 32) : group (tileOf f) g = f g := by
  funext x
  have hx : (x 0).val < 8 := (x 0).isLt
  unfold group tileOf
  dsimp only [ix2]
  congr 1
  · apply Fin.ext
    show (8 * g.val + (x 0).val) / 8 = g.val
    omega
  · funext a
    match a with
    | ⟨0, _⟩ => apply Fin.ext; show (8 * g.val + (x 0).val) % 8 = (x 0).val; omega
    | ⟨1, _⟩ => rfl

/-- A load through the rectangle of a group is the group. -/
theorem ld_group (X : Tile F) (g : Fin 32) (off : Fin 2 → ℕ) (inb : ∀ a, off a + S8x1024.size a ≤ S256x1024.size a) (h : off = ![8 * g.val, 0]) :
    View.ld X (Rect.unit (s := S256x1024) off S8x1024.size inb) = group X g := by
  subst h
  funext x
  apply congrArg X
  funext a
  match a with
  | ⟨0, _⟩ => apply Fin.ext; show 8 * g.val + 1 * (x 0).val = 8 * g.val + (x 0).val; omega
  | ⟨1, _⟩ => apply Fin.ext; show 0 + 1 * (x 1).val = (x 1).val; omega

/-- The first row of a group. -/
def topRow (C : Oct F) : Row F := fun x => C (ix2 ⟨0, by decide⟩ (x 1))

/-- A load of the first row of what a last store of the whole group left. -/
theorem readCov_topRow {κ : Kind} {sp : Space} (v : View sig κ sp S8x1024 .f32) (inb : ∀ a, (![0, 0] : Fin 2 → ℕ) a + S8x1024.size a ≤ S8x1024.size a)
    (inb' : ∀ a, (![0, 0] : Fin 2 → ℕ) a + S1x1024.size a ≤ S8x1024.size a) (w : Oct F) (L : List (View.Piece (Elt F) S8x1024 .f32)) :
    v.readCov (Val := Elt F) (⟨Rect.unit (s := S8x1024) ![0, 0] S8x1024.size inb, w⟩ :: L) (Rect.unit (s := S8x1024) ![0, 0] S1x1024.size inb').toLoadRect = topRow w := by
  have hz : (![0, 0] : Fin 2 → ℕ) = fun _ => 0 := by funext a; match a with | ⟨0, _⟩ => rfl | ⟨1, _⟩ => rfl
  have hcov : ∀ y, ∃ p ∈ (⟨Rect.unit (s := S8x1024) ![0, 0] S8x1024.size inb, w⟩ :: L : List (View.Piece (Elt F) S8x1024 .f32)), y ∈ p.1.set :=
    fun y => ⟨_, List.mem_cons_self .., View.mem_set_unit_zero (S := S8x1024) hz inb y⟩
  refine (View.readCov_eq_canon_ld v _ (Rect.unit (s := S8x1024) ![0, 0] S1x1024.size inb') hcov).trans ?_
  rw [View.canon_cons_unit_zero (S := S8x1024) hz]
  funext x
  have hx : (x 0).val < 1 := (x 0).isLt
  apply congrArg w
  funext a
  match a with
  | ⟨0, _⟩ => apply Fin.ext; show 0 + 1 * (x 0).val = 0; omega
  | ⟨1, _⟩ => apply Fin.ext; show 0 + 1 * (x 1).val = (x 1).val; omega

theorem zeros : (![0, 0] : Fin 2 → ℕ) = fun _ => 0 := by funext a; match a with | ⟨0, _⟩ => rfl | ⟨1, _⟩ => rfl

/-- What a last store of the whole block leaves. -/
theorem read_whole_store {κ : Kind} {sp : Space} {S : Shape} (v : View sig κ sp S .f32) {off : Fin S.rank → ℕ} (hz : off = fun _ => 0)
    (inb : ∀ a, off a + S.size a ≤ S.size a) (f : v.ty.Contents (Elt F)) (w : S.Idx → Elt F .f32) (L : List (View.Piece (Elt F) S .f32)) :
    v.read (Elt F) (v.writes (Elt F) f (⟨Rect.unit off S.size inb, w⟩ :: L)) = w := by
  have hcov : ∀ y, ∃ p ∈ (⟨Rect.unit off S.size inb, w⟩ :: L : List (View.Piece (Elt F) S .f32)), y ∈ p.1.set :=
    fun y => ⟨_, List.mem_cons_self .., View.mem_set_unit_zero hz inb y⟩
  exact (View.read_writes_eq_canon v f _ hcov).trans (View.canon_cons_unit_zero hz inb w L)

/-- The pieces of a tile stored group by group, the last first. -/
def pieces {n : ℕ} (off : Fin n → Fin 2 → ℕ) (inb : ∀ k a, off k a + S8x1024.size a ≤ S256x1024.size a) (f : Fin n → Oct F) : ℕ → List (View.Piece (Elt F) S256x1024 .f32)
  | 0 => []
  | k + 1 => if h : k < n then ⟨Rect.unit (s := S256x1024) (off ⟨k, h⟩) S8x1024.size (inb ⟨k, h⟩), f ⟨k, h⟩⟩ :: pieces off inb f k else pieces off inb f k

theorem mem_pieces {n : ℕ} (off : Fin n → Fin 2 → ℕ) (inb : ∀ k a, off k a + S8x1024.size a ≤ S256x1024.size a) (f : Fin n → Oct F) (p : View.Piece (Elt F) S256x1024 .f32) :
    ∀ k, k ≤ n → (p ∈ pieces off inb f k ↔ ∃ j : Fin n, j.val < k ∧ p = ⟨Rect.unit (s := S256x1024) (off j) S8x1024.size (inb j), f j⟩)
  | 0, _ => by simp [pieces]
  | k + 1, hk => by
    rw [pieces, dif_pos (show k < n from hk), List.mem_cons, mem_pieces off inb f p k (Nat.le_of_succ_le hk)]
    constructor
    · rintro (h | ⟨j, hj, h⟩)
      · exact ⟨⟨k, hk⟩, Nat.lt_succ_self k, h⟩
      · exact ⟨j, Nat.lt_succ_of_lt hj, h⟩
    · rintro ⟨j, hj, h⟩
      rcases Nat.lt_succ_iff_lt_or_eq.mp hj with hj | hj
      · exact .inr ⟨j, hj, h⟩
      · left; rw [h]; have : j = ⟨k, hk⟩ := Fin.ext hj
        rw [this]

section all
variable {n : ℕ} (off : Fin n → Fin 2 → ℕ) (inb : ∀ k a, off k a + S8x1024.size a ≤ S256x1024.size a) (f : Fin n → Oct F)
  (num : Fin n → Fin 32) (at_ : Fin 32 → Fin n) (hat : ∀ g, num (at_ g) = g) (hta : ∀ k, at_ (num k) = k) (hoff : ∀ k, off k = ![8 * (num k).val, 0])

include hat hoff in
/-- Every place of the tile is in some group's piece. -/
theorem pieces_cover (y : S256x1024.Idx) : ∃ p ∈ pieces off inb f n, y ∈ p.1.set := by
  have hy : (y 0).val < 256 := (y 0).isLt
  let g : Fin 32 := ⟨(y 0).val / 8, by omega⟩
  refine ⟨⟨Rect.unit (s := S256x1024) (off (at_ g)) S8x1024.size (inb (at_ g)), f (at_ g)⟩, (mem_pieces off inb f _ n (Nat.le_refl n)).mpr ⟨at_ g, (at_ g).isLt, rfl⟩, ?_⟩
  have ho := hoff (at_ g)
  rw [hat] at ho
  rw [Rect.mem_set_unit]
  intro a
  rw [ho]
  match a with
  | ⟨0, _⟩ =>
    show 8 * ((y 0).val / 8) ≤ (y 0).val ∧ (y 0).val < 8 * ((y 0).val / 8) + 8
    omega
  | ⟨1, _⟩ =>
    have h1 : (y 1).val < 1024 := (y 1).isLt
    show 0 ≤ (y 1).val ∧ (y 1).val < 0 + 1024
    omega

include hat hta hoff in
/-- All groups stored: the tile put together from them. -/
theorem canon_pieces : View.canon (pieces off inb f n) = tileOf (fun g => f (at_ g)) := by
  funext y
  refine View.canon_apply_of_pieces (tileOf fun g => f (at_ g)) _ (fun p hp x => ?_) y (pieces_cover off inb f num at_ hat hoff y)
  obtain ⟨j, -, rfl⟩ := (mem_pieces off inb f p n (Nat.le_refl n)).mp hp
  have h := ld_group (tileOf fun g => f (at_ g)) (num j) (off j) (inb j) (hoff j)
  rw [group_tileOf, hta] at h
  exact (congrFun h x).symm

include hat hta hoff in
/-- What the stores of all groups leave. -/
theorem read_pieces {κ : Kind} {sp : Space} (v : View sig κ sp S256x1024 .f32) (g : v.ty.Contents (Elt F)) :
    v.read (Elt F) (v.writes (Elt F) g (pieces off inb f n)) = tileOf (fun g => f (at_ g)) :=
  (View.read_writes_eq_canon v g _ (pieces_cover off inb f num at_ hat hoff)).trans (canon_pieces off inb f num at_ hat hta hoff)
end all

end Cert.Proof.Scan

end
-- ==== Proof.Fwd.lean ====
/-
  The forward region of the recurrence: what one trip of its loop over groups of eight rows yields and writes, the state
  before each trip in closed form, and the body's run at a first and at a later tile.
-/
module

public import proofs.«01_k».proof.Proof.Tiles
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Pipeline.Value

@[expose] public section

set_option maxRecDepth 16384

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of group `k` of a tile in the forward order. -/
abbrev rect0 (k : Fin k0_t1_loop.trips) : Rect S256x1024 := Rect.unit (s := S256x1024) (k0_off1 k) S8x1024.size (k0_off1_inb k)

/-- The number of trips, and the group each trip handles. -/
theorem trips0 : k0_t1_loop.trips = 32 := by decide
def num0 (k : Fin k0_t1_loop.trips) : Fin 32 := ⟨k.val, Nat.lt_of_lt_of_eq k.isLt trips0⟩
def at0 (g : Fin 32) : Fin k0_t1_loop.trips := ⟨g.val, Nat.lt_of_lt_of_eq g.isLt trips0.symm⟩
theorem num0_at0 (g : Fin 32) : num0 (at0 g) = g := rfl
theorem at0_num0 (k : Fin k0_t1_loop.trips) : at0 (num0 k) = k := rfl
theorem off0 (k : Fin k0_t1_loop.trips) : k0_off1 k = ![8 * (num0 k).val, 0] := k0_off1_eq k

section trip
variable (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x1024 .f32) (harg7 : arg7.IsWhole) (v3 : IVec S8x1024 32) (X_arg1 : BufTy.Contents (Elt F) arg1.view.ty) (X_arg2 : BufTy.Contents (Elt F) arg2.view.ty)

theorem trip0_R (k : Fin k0_t1_loop.trips) (acc : Oct F) :
    tripR_k0_t1 (F := F) 𝒱 c bd i arg1 harg1 arg2 harg2 arg3 harg3 arg4 harg4 arg5 harg5 arg6 harg6 arg7 harg7 v3 X_arg1 X_arg2 k acc
      = k0_pay2 (k0_pay6 v3 acc (arg1.view.readAt (Elt F) (rect0 k).toLoadRect X_arg1) (arg2.view.readAt (Elt F) (rect0 k).toLoadRect X_arg2)) := by
  unfold tripR_k0_t1 trip_k0_t1
  rfl

theorem trip0_L (k : Fin k0_t1_loop.trips) (acc : Oct F) :
    tripL_k0_t1 (F := F) 𝒱 c bd i arg1 harg1 arg2 harg2 arg3 harg3 arg4 harg4 arg5 harg5 arg6 harg6 arg7 harg7 v3 X_arg1 X_arg2 k acc
      = ([⟨rect0 k, k0_pay4 v3 acc (arg1.view.readAt (Elt F) (rect0 k).toLoadRect X_arg1) (arg2.view.readAt (Elt F) (rect0 k).toLoadRect X_arg2)⟩], [⟨rect0 k, k0_pay5 v3 acc (arg1.view.readAt (Elt F) (rect0 k).toLoadRect X_arg1) (arg2.view.readAt (Elt F) (rect0 k).toLoadRect X_arg2)⟩]) := by
  unfold tripL_k0_t1 trip_k0_t1
  rfl
end trip

/-! ## The state before each trip -/

/-- The carried rows before group `k`, from the carry `C` at the tile's entry: each group passes on its last state. -/
def chain0 (A B : Tile F) (C : Oct F) : ℕ → Oct F
  | 0 => C
  | k + 1 => if h : k < 32 then k0_pay2 (k0_pay6 rowNo (chain0 A B C k) (group A ⟨k, h⟩) (group B ⟨k, h⟩)) else chain0 A B C k

/-- The states of group `g`, and the states before them. -/
abbrev hOct0 (A B : Tile F) (C : Oct F) (g : Fin 32) : Oct F := k0_pay4 rowNo (chain0 A B C g.val) (group A g) (group B g)
abbrev pOct0 (A B : Tile F) (C : Oct F) (g : Fin 32) : Oct F := k0_pay5 rowNo (chain0 A B C g.val) (group A g) (group B g)

/-- The pieces stored before trip `k` of a tile whose groups are `f`. -/
abbrev pieces0 (f : Fin 32 → Oct F) : ℕ → List (View.Piece (Elt F) S256x1024 .f32) := pieces k0_off1 k0_off1_inb (fun k => f (num0 k))

/-- What the stores of all trips leave: the tile of the groups `f`. -/
theorem read_pieces0 {κ : Kind} {sp : Space} (v : View sig κ sp S256x1024 .f32) (g : v.ty.Contents (Elt F)) (f : Fin 32 → Oct F) :
    v.read (Elt F) (v.writes (Elt F) g (pieces0 f k0_t1_loop.trips)) = tileOf f :=
  (read_pieces k0_off1 k0_off1_inb (fun k => f (num0 k)) num0 at0 num0_at0 at0_num0 off0 v g).trans
    (congrArg tileOf (funext fun g => congrArg f (num0_at0 g)))

theorem st0_eq (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x1024 .f32) (harg7 : arg7.IsWhole)
    (A B : Tile F) (C : Oct F) : ∀ k, k ≤ k0_t1_loop.trips →
    st_k0_t1 (F := F) 𝒱 c bd i arg1 harg1 arg2 harg2 arg3 harg3 arg4 harg4 arg5 harg5 arg6 harg6 arg7 harg7 rowNo (harg1.unread A) (harg2.unread B) C k
      = (chain0 A B C k, pieces0 (hOct0 A B C) k, pieces0 (pOct0 A B C) k)
  | 0, _ => rfl
  | k + 1, hk => by
    have ih := st0_eq 𝒱 c bd i arg1 harg1 arg2 harg2 arg3 harg3 arg4 harg4 arg5 harg5 arg6 harg6 arg7 harg7 A B C k (Nat.le_of_succ_le hk)
    have h := st_k0_t1_succ (F := F) 𝒱 c bd i arg1 harg1 arg2 harg2 arg3 harg3 arg4 harg4 arg5 harg5 arg6 harg6 arg7 harg7 rowNo (harg1.unread A) (harg2.unread B) C ⟨k, hk⟩
    have e1 : ∀ X : Tile F, View.ld X (rect0 ⟨k, hk⟩) = group X ⟨k, Nat.lt_of_lt_of_eq hk trips0⟩ := fun X => ld_group X _ _ _ (off0 ⟨k, hk⟩)
    rw [trip0_R, trip0_L, View.readAt_eq_ld, View.readAt_eq_ld, harg1.read_unread, harg2.read_unread, e1, e1] at h
    rw [ih] at h
    rw [h]
    rw [chain0, pieces0, pieces0, pieces, pieces, dif_pos (show k < k0_t1_loop.trips from hk), dif_pos (show k < k0_t1_loop.trips from hk), dif_pos (show k < 32 from Nat.lt_of_lt_of_eq hk trips0)]
    rfl

/-! ## The body's run -/

/-- The first tile's condition, from the grid coordinates. -/
abbrev first0 (i : grid0.Coords) : Prop := (Scalar.cmpi .ne (Scalar.extui (Scalar.cmpi .eq (BitVec.ofNat 32 (i 0).val) 0#32)) 0#32) = 1#1

set_option maxHeartbeats 1000000 in
def run0A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x1024 .f32) (harg7 : arg7.IsWhole) (hc0 : first0 i)
    (x0 : Tile F) (x1 : Tile F) (x2 : Row F) :
    Σ' (L4 : List (View.Piece (Elt F) S256x1024 .f32)) (L5 : List (View.Piece (Elt F) S256x1024 .f32)) (L6 : List (View.Piece (Elt F) S1x1024 .f32)),
    { LS : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc0_lruscanf_fwd i arg1 harg1 arg2 harg2 arg3 harg3 arg4 harg4 arg5 harg5 arg6 harg6 arg7 harg7) K } := by
  refine ⟨?_, ?_, ?_, ?_, fun E K => ?run⟩
  case run =>
    simp only [cc0_lruscanf_fwd_eq_skeleton]; unfold cc0_lruscanf_fwd_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact HS0

set_option maxHeartbeats 1000000 in
def run0B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x1024 .f32) (harg7 : arg7.IsWhole) (hc0 : ¬first0 i)
    (x0 : Tile F) (x1 : Tile F) (x2 : Row F) (xs : Oct F) :
    Σ' (L4 : List (View.Piece (Elt F) S256x1024 .f32)) (L5 : List (View.Piece (Elt F) S256x1024 .f32)) (L6 : List (View.Piece (Elt F) S1x1024 .f32)),
    { LS : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (owns (c : Thread nD τ) arg7 fullShare xs)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc0_lruscanf_fwd i arg1 harg1 arg2 harg2 arg3 harg3 arg4 harg4 arg5 harg5 arg6 harg6 arg7 harg7) K } := by
  refine ⟨?_, ?_, ?_, ?_, fun E K => ?run⟩
  case run =>
    simp only [cc0_lruscanf_fwd_eq_skeleton]; unfold cc0_lruscanf_fwd_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    iexists _; iexact HS0

/-! ## What the runs write, in closed form -/

section closed
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x1024 .f32) (harg7 : arg7.IsWhole)

/-- The whole loop's state: its carried rows, and the two tiles' pieces. -/
theorem loop0 (x0 x1 : Tile F) (C : Oct F) :
    st_k0_t1 (F := F) Variants.none c none i arg1 harg1 arg2 harg2 arg3 harg3 arg4 harg4 arg5 harg5 arg6 harg6 arg7 harg7 rowNo (harg1.unread x0) (harg2.unread x1) C k0_t1_loop.trips
      = (chain0 x0 x1 C 32, pieces0 (hOct0 x0 x1 C) k0_t1_loop.trips, pieces0 (pOct0 x0 x1 C) k0_t1_loop.trips) := by
  rw [st0_eq _ _ _ _ _ _ _ _ _ _ _ _ _ _ _ _ _ _ _ _ _ _ (Nat.le_refl _)]
  rw [show chain0 x0 x1 C k0_t1_loop.trips = chain0 x0 x1 C 32 from congrArg _ trips0]

theorem run0B_L (hc0 : ¬first0 i) (x0 : Tile F) (x1 : Tile F) (x2 : Row F) (xs : Oct F) :
    (run0B c i arg1 harg1 arg2 harg2 arg3 harg3 arg4 harg4 arg5 harg5 arg6 harg6 arg7 harg7 hc0 x0 x1 x2 xs).1 = pieces0 (hOct0 x0 x1 xs) k0_t1_loop.trips
    ∧ (run0B c i arg1 harg1 arg2 harg2 arg3 harg3 arg4 harg4 arg5 harg5 arg6 harg6 arg7 harg7 hc0 x0 x1 x2 xs).2.1 = pieces0 (pOct0 x0 x1 xs) k0_t1_loop.trips
    ∧ (run0B c i arg1 harg1 arg2 harg2 arg3 harg3 arg4 harg4 arg5 harg5 arg6 harg6 arg7 harg7 hc0 x0 x1 x2 xs).2.2.1 = [⟨Rect.unit (s := S1x1024) ![0, 0] S1x1024.size inb_S1x1024_S1x1024_0_0, topRow (chain0 x0 x1 xs 32)⟩]
    ∧ ∃ L, (run0B c i arg1 harg1 arg2 harg2 arg3 harg3 arg4 harg4 arg5 harg5 arg6 harg6 arg7 harg7 hc0 x0 x1 x2 xs).2.2.2.1 = ⟨Rect.unit (s := S8x1024) ![0, 0] S8x1024.size inb_S8x1024_S8x1024_0_0, chain0 x0 x1 xs 32⟩ :: L := by
  have e := loop0 c i arg1 harg1 arg2 harg2 arg3 harg3 arg4 harg4 arg5 harg5 arg6 harg6 arg7 harg7 x0 x1 xs
  have e2 : View.readAt (Elt F) arg7.view (Rect.unit (s := S8x1024) ![0, 0] S8x1024.size inb_S8x1024_S8x1024_0_0).toLoadRect (harg7.unread xs) = xs := by
    rw [View.readAt_eq_ld, harg7.read_unread, View.ld_unit_zero (S := S8x1024) zeros]
  have e3 : ∀ C' : Oct F, k0_pay3 C' = C' := fun C' => by unfold k0_pay3; exact shapeCast_self ..
  unfold run0B
  dsimp only
  sl_unfold_run_names
  refine ⟨?_, ?_, ?_, ?_⟩
  · refine Eq.trans ?_ (congrArg (fun t => t.2.1) e)
    erw [e2]
  · refine Eq.trans ?_ (congrArg (fun t => t.2.2) e)
    erw [e2]
  · rw [readCov_topRow, e3]
    refine congrArg (fun w => [(⟨Rect.unit (s := S1x1024) ![0, 0] S1x1024.size inb_S1x1024_S1x1024_0_0, topRow w⟩ : View.Piece (Elt F) S1x1024 .f32)]) (Eq.trans ?_ (congrArg (fun t => t.1) e))
    erw [e2]
  · rw [e3]
    refine ⟨_, congrArg (fun w => (⟨Rect.unit (s := S8x1024) ![0, 0] S8x1024.size inb_S8x1024_S8x1024_0_0, w⟩ : View.Piece (Elt F) S8x1024 .f32) :: _) ?_⟩
    refine (Eq.trans ?_ (congrArg (fun t => t.1) e))
    erw [e2]

theorem run0A_L (hc0 : first0 i) (x0 : Tile F) (x1 : Tile F) (x2 : Row F) :
    (run0A c i arg1 harg1 arg2 harg2 arg3 harg3 arg4 harg4 arg5 harg5 arg6 harg6 arg7 harg7 hc0 x0 x1 x2).1 = pieces0 (hOct0 x0 x1 (k0_pay1 x2)) k0_t1_loop.trips
    ∧ (run0A c i arg1 harg1 arg2 harg2 arg3 harg3 arg4 harg4 arg5 harg5 arg6 harg6 arg7 harg7 hc0 x0 x1 x2).2.1 = pieces0 (pOct0 x0 x1 (k0_pay1 x2)) k0_t1_loop.trips
    ∧ (run0A c i arg1 harg1 arg2 harg2 arg3 harg3 arg4 harg4 arg5 harg5 arg6 harg6 arg7 harg7 hc0 x0 x1 x2).2.2.1 = [⟨Rect.unit (s := S1x1024) ![0, 0] S1x1024.size inb_S1x1024_S1x1024_0_0, topRow (chain0 x0 x1 (k0_pay1 x2) 32)⟩]
    ∧ ∃ L, (run0A c i arg1 harg1 arg2 harg2 arg3 harg3 arg4 harg4 arg5 harg5 arg6 harg6 arg7 harg7 hc0 x0 x1 x2).2.2.2.1 = ⟨Rect.unit (s := S8x1024) ![0, 0] S8x1024.size inb_S8x1024_S8x1024_0_0, chain0 x0 x1 (k0_pay1 x2) 32⟩ :: L := by
  have e := loop0 c i arg1 harg1 arg2 harg2 arg3 harg3 arg4 harg4 arg5 harg5 arg6 harg6 arg7 harg7 x0 x1 (k0_pay1 x2)
  have e1 : View.readAt (Elt F) arg3.view (Rect.unit (s := S1x1024) ![0, 0] S1x1024.size inb_S1x1024_S1x1024_0_0).toLoadRect (harg3.unread x2) = x2 := by
    rw [View.readAt_eq_ld, harg3.read_unread, View.ld_unit_zero (S := S1x1024) zeros]
  have e2 : arg7.view.readCov (Val := Elt F) [⟨Rect.unit (s := S8x1024) ![0, 0] S8x1024.size inb_S8x1024_S8x1024_0_0, k0_pay1 x2⟩] (Rect.unit (s := S8x1024) ![0, 0] S8x1024.size inb_S8x1024_S8x1024_0_0).toLoadRect = k0_pay1 x2 :=
    View.readCov_unit_zero (S := S8x1024) _ zeros _ _
  have e3 : ∀ C' : Oct F, k0_pay3 C' = C' := fun C' => by unfold k0_pay3; exact shapeCast_self ..
  unfold run0A
  dsimp only
  sl_unfold_run_names
  refine ⟨?_, ?_, ?_, ?_⟩
  · refine Eq.trans ?_ (congrArg (fun t => t.2.1) e)
    erw [e1, e2]
  · refine Eq.trans ?_ (congrArg (fun t => t.2.2) e)
    erw [e1, e2]
  · rw [readCov_topRow, e3]
    refine congrArg (fun w => [(⟨Rect.unit (s := S1x1024) ![0, 0] S1x1024.size inb_S1x1024_S1x1024_0_0, topRow w⟩ : View.Piece (Elt F) S1x1024 .f32)]) (Eq.trans ?_ (congrArg (fun t => t.1) e))
    erw [e1, e2]
  · rw [e3]
    refine ⟨_, congrArg (fun w => (⟨Rect.unit (s := S8x1024) ![0, 0] S8x1024.size inb_S8x1024_S8x1024_0_0, w⟩ : View.Piece (Elt F) S8x1024 .f32) :: _) ?_⟩
    refine (Eq.trans ?_ (congrArg (fun t => t.1) e))
    erw [e1, e2]
end closed

attribute [irreducible] run0A run0B chain0

end Cert.Proof.Scan

end
-- ==== Proof.RegFwd.lean ====
/-
  The forward region over any contents of the buffers: its body's results, its proof data, the body obligation at every tile, and
  the region as a segment of the whole program.
-/
module

public import proofs.«01_k».proof.Proof.Fwd
public import proofs.«01_k».proof.Proof.Gen.KernelIdeal.Regions
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Pipeline.Value

@[expose] public section

set_option maxRecDepth 16384

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- The body at a first tile, its results in closed form. -/
theorem body0A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x1024 .f32) (harg7 : arg7.IsWhole) (hc0 : first0 i)
    (x0 : Tile F) (x1 : Tile F) (x2 : Row F) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare (tileOf (hOct0 x0 x1 (k0_pay1 x2))) ∗ owns (c : Thread nD τ) arg5 fullShare (tileOf (pOct0 x0 x1 (k0_pay1 x2))) ∗ owns (c : Thread nD τ) arg6 fullShare (topRow (chain0 x0 x1 (k0_pay1 x2) 32)) ∗ owns (c : Thread nD τ) arg7 fullShare (chain0 x0 x1 (k0_pay1 x2) 32)) -∗ K ⟨⟩))
      ⊢ wp frame (wpE (defs₀ (F := F)) Variants.none c none) E (cc0_lruscanf_fwd i arg1 harg1 arg2 harg2 arg3 harg3 arg4 harg4 arg5 harg5 arg6 harg6 arg7 harg7) K := by
  obtain ⟨e1, e2, e3, L, e4⟩ := run0A_L c i arg1 harg1 arg2 harg2 arg3 harg3 arg4 harg4 arg5 harg5 arg6 harg6 arg7 harg7 hc0 x0 x1 x2
  generalize run0A c i arg1 harg1 arg2 harg2 arg3 harg3 arg4 harg4 arg5 harg5 arg6 harg6 arg7 harg7 hc0 x0 x1 x2 = R at e1 e2 e3 e4
  obtain ⟨L4, L5, L6, LS, hr⟩ := R
  dsimp only at e1 e2 e3 e4
  subst e1 e2 e3 e4
  have hr := hr E K
  iintro ⟨H0, H1, H2, H3, H4, H5, HS, Hk⟩
  iapply hr
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, ⟨%g3, H3⟩, ⟨%g4, H4⟩, ⟨%g5, H5⟩, ⟨%gs, HS⟩⟩
  iapply Hk
  isplitl [H0]; · iexact H0
  isplitl [H1]; · iexact H1
  isplitl [H2]; · iexact H2
  isplitl [H3]
  · unfold owns; iexists _; isplitr
    swap; · iexact H3
    ipureintro
    exact read_pieces0 _ _ _
  isplitl [H4]
  · unfold owns; iexists _; isplitr
    swap; · iexact H4
    ipureintro
    exact read_pieces0 _ _ _
  isplitl [H5]
  · unfold owns; iexists _; isplitr
    swap; · iexact H5
    ipureintro
    exact read_whole_store _ zeros _ _ _ _
  · unfold owns; iexists _; isplitr
    swap; · iexact HS
    ipureintro
    exact read_whole_store _ zeros _ _ _ _

set_option maxHeartbeats 400000 in
/-- The body at a later tile, its results in closed form. -/
theorem body0B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x1024 .f32) (harg7 : arg7.IsWhole) (hc0 : ¬first0 i)
    (x0 : Tile F) (x1 : Tile F) (x2 : Row F) (xs : Oct F) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare (tileOf (hOct0 x0 x1 xs)) ∗ owns (c : Thread nD τ) arg5 fullShare (tileOf (pOct0 x0 x1 xs)) ∗ owns (c : Thread nD τ) arg6 fullShare (topRow (chain0 x0 x1 xs 32)) ∗ owns (c : Thread nD τ) arg7 fullShare (chain0 x0 x1 xs 32)) -∗ K ⟨⟩))
      ⊢ wp frame (wpE (defs₀ (F := F)) Variants.none c none) E (cc0_lruscanf_fwd i arg1 harg1 arg2 harg2 arg3 harg3 arg4 harg4 arg5 harg5 arg6 harg6 arg7 harg7) K := by
  obtain ⟨e1, e2, e3, L, e4⟩ := run0B_L c i arg1 harg1 arg2 harg2 arg3 harg3 arg4 harg4 arg5 harg5 arg6 harg6 arg7 harg7 hc0 x0 x1 x2 xs
  generalize run0B c i arg1 harg1 arg2 harg2 arg3 harg3 arg4 harg4 arg5 harg5 arg6 harg6 arg7 harg7 hc0 x0 x1 x2 xs = R at e1 e2 e3 e4
  obtain ⟨L4, L5, L6, LS, hr⟩ := R
  dsimp only at e1 e2 e3 e4
  subst e1 e2 e3 e4
  have hr := hr E K
  iintro ⟨H0, H1, H2, H3, H4, H5, HS, Hk⟩
  iapply hr
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, ⟨%g3, H3⟩, ⟨%g4, H4⟩, ⟨%g5, H5⟩, ⟨%gs, HS⟩⟩
  iapply Hk
  isplitl [H0]; · iexact H0
  isplitl [H1]; · iexact H1
  isplitl [H2]; · iexact H2
  isplitl [H3]
  · unfold owns; iexists _; isplitr
    swap; · iexact H3
    ipureintro
    exact read_pieces0 _ _ _
  isplitl [H4]
  · unfold owns; iexists _; isplitr
    swap; · iexact H4
    ipureintro
    exact read_pieces0 _ _ _
  isplitl [H5]
  · unfold owns; iexists _; isplitr
    swap; · iexact H5
    ipureintro
    exact read_whole_store _ zeros _ _ _ _
  · unfold owns; iexists _; isplitr
    swap; · iexact HS
    ipureintro
    exact read_whole_store _ zeros _ _ _ _

/-! ## The first tile -/

theorem first0_iff : ∀ t : Fin cfg0.N, first0 (grid0.coords t) ↔ t.val = 0 := by decide +kernel

/-! ## The proof data -/

variable (V : (c : Dev nD) → (b : Ref sig .tc) → Buf (Elt F) ((c : Thread nD τ).loc b))

/-- Window `w`'s block at tile `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The carried rows on entry to tile `n`. -/
def entry0 (c : Dev nD) : ℕ → Oct F
  | 0 => k0_pay1 (iblk0 V c 2 ⟨0, by decide⟩)
  | n + 1 => if h : n < cfg0.N then chain0 (iblk0 V c 0 ⟨n, h⟩) (iblk0 V c 1 ⟨n, h⟩) (entry0 c n) 32 else entry0 c n

theorem entry0_succ (c : Dev nD) (t : Fin cfg0.N) : entry0 V c (t.val + 1) = chain0 (iblk0 V c 0 t) (iblk0 V c 1 t) (entry0 V c t.val) 32 := by
  rw [entry0, dif_pos t.isLt]

/-- The scratch that carries the rows from tile to tile. -/
abbrev scM0 : Memref sig .tc .vmem S8x1024 .f32 := Memref.whole cc0_scratch0

/-- The other scoped buffers no window of this region stages, each at some contents. -/
def others0 (c : Dev nD) : sProp 𝕄 :=
  bigSepL [cc1_stg0_0, cc1_stg0_1, cc1_stg1_0, cc1_stg1_1, cc1_stg2_0, cc1_stg2_1, cc1_stg3_0, cc1_stg4_0, cc1_stg4_1, cc1_stg5_0, cc1_stg5_1, cc1_stg6_0, cc1_scratch0] fun b => iprop(∃ f : Buf (Elt F) ((c : Thread nD τ).loc b), ((c : Thread nD τ).loc b) ↦{fullShare} f)

theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ others0 (F := F) c) := by
  rw [Pipeline.scopedRest_eq_of_list spec0 c [cc0_scratch0, cc1_stg0_0, cc1_stg0_1, cc1_stg1_0, cc1_stg1_1, cc1_stg2_0, cc1_stg2_1, cc1_stg3_0, cc1_stg4_0, cc1_stg4_1, cc1_stg5_0, cc1_stg5_1, cc1_stg6_0, cc1_scratch0] (by decide) (by decide)]
  simp only [scM0, owns_whole]
  rfl

/-- The invariant before tile `n`: the carried rows named from the second tile on. -/
def Phi0 (c : Dev nD) : ℕ → sProp 𝕄
  | 0 => iprop((∃ d, owns (c : Thread nD τ) scM0 fullShare d) ∗ others0 (F := F) c)
  | n + 1 => iprop(owns (c : Thread nD τ) scM0 fullShare (entry0 V c (n + 1)) ∗ others0 (F := F) c)

theorem Phi0_pos (c : Dev nD) (n : ℕ) (h : n ≠ 0) : Phi0 V c n = iprop(owns (c : Thread nD τ) scM0 fullShare (entry0 V c n) ∗ others0 (F := F) c) := by
  cases n with
  | zero => exact absurd rfl h
  | succ n => rfl

/-- The region's proof data: the arrays as the region finds them, each input's buffer at its block, the results in closed form. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => tileOf (hOct0 (iblk0 V c 0 t) (iblk0 V c 1 t) (entry0 V c t.val))
    | ⟨4, _⟩ => tileOf (pOct0 (iblk0 V c 0 t) (iblk0 V c 1 t) (entry0 V c t.val))
    | ⟨5, _⟩ => topRow (entry0 V c (t.val + 1))
  Φ t := Phi0 V c t.val
  q _ := fullShare
  owed _ := 0

theorem after0_0 (c : Dev nD) (t : Fin cfg0.N) : (dat0 V c).after 0 t = iblk0 V c 0 t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0 dat0; rfl) t d).trans
    (by unfold Dat.fetched Dat.blockOf iblk0 dat0; rfl)
theorem after0_1 (c : Dev nD) (t : Fin cfg0.N) : (dat0 V c).after 1 t = iblk0 V c 1 t := by dsimp only [dat0]
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0 dat0; rfl) t d).trans
    (by unfold Dat.fetched Dat.blockOf iblk0 dat0; rfl)
theorem after0_2 (c : Dev nD) (t : Fin cfg0.N) : (dat0 V c).after 2 t = iblk0 V c 2 t := by dsimp only [dat0]
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0 dat0; rfl) t d).trans
    (by unfold Dat.fetched Dat.blockOf iblk0 dat0; rfl)
theorem after0_3 (c : Dev nD) (t : Fin cfg0.N) : (dat0 V c).after 3 t = tileOf (hOct0 (iblk0 V c 0 t) (iblk0 V c 1 t) (entry0 V c t.val)) := by dsimp only [dat0]
theorem after0_4 (c : Dev nD) (t : Fin cfg0.N) : (dat0 V c).after 4 t = tileOf (pOct0 (iblk0 V c 0 t) (iblk0 V c 1 t) (entry0 V c t.val)) := by dsimp only [dat0]
theorem after0_5 (c : Dev nD) (t : Fin cfg0.N) : (dat0 V c).after 5 t = topRow (entry0 V c (t.val + 1)) := by dsimp only [dat0]

/-! ## The body obligation -/

/-- What the body is called with at tile `t`, and what it returns. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1600000 in
/-- The body at any tile. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    after0_0, after0_1, after0_2, after0_3, after0_4, after0_5]
  rw [show (dat0 V c).Φ t.succ = Phi0 V c (t.val + 1) from rfl, show (dat0 V c).Φ t.castSucc = Phi0 V c t.val from rfl, Phi0_pos V c _ (Nat.succ_ne_zero _), entry0_succ]
  by_cases hz : t.val = 0
  · have he : entry0 V c t.val = k0_pay1 (iblk0 V c 2 t) := by
      have ht : t = ⟨0, by decide⟩ := Fin.ext hz
      subst ht; rfl
    rw [he]
    rw [hz]; rw [show Phi0 V c 0 = iprop((∃ d, owns (c : Thread nD τ) scM0 fullShare d) ∗ others0 (F := F) c) from rfl]
    iintro ⟨⟨HS, Hg⟩, Ho, ⟨%d0, H0⟩, ⟨%d1, H1⟩, ⟨%d2, H2⟩, ⟨%d3, H3⟩, ⟨%d4, H4⟩, ⟨%d5, H5⟩⟩
    iapply (body0A c (grid0.coords t) _ _ _ _ _ _ _ _ _ _ _ _ _ _ ((first0_iff t).mpr hz) (iblk0 V c 0 t) (iblk0 V c 1 t) (iblk0 V c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Phi0_pos V c _ hz]
    iintro ⟨⟨HS, Hg⟩, Ho, ⟨%d0, H0⟩, ⟨%d1, H1⟩, ⟨%d2, H2⟩, ⟨%d3, H3⟩, ⟨%d4, H4⟩, ⟨%d5, H5⟩⟩
    iapply (body0B c (grid0.coords t) _ _ _ _ _ _ _ _ _ _ _ _ _ _ (fun h => hz ((first0_iff t).mp h)) (iblk0 V c 0 t) (iblk0 V c 1 t) (iblk0 V c 2 t) (entry0 V c t.val) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 V c) (defs₀ (F := F)) Variants.none () Set.univ := fun t => by
  rw [bigSep_W0, bigSep_W0, row0]
  exact triple_restated (sound0 V c t) rfl .rfl fun _ => .rfl

end Cert.Proof.Scan

end
-- ==== Proof.Bwd.lean ====
/-
  The backward region of the recurrence: what one trip of its loop over groups of eight rows, taken from the last group to the
  first, yields and writes, the state before each trip in closed form, and the body's run at a first and at a later tile.
-/
module

public import proofs.«01_k».proof.Proof.Tiles
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Pipeline.Value

@[expose] public section

set_option maxRecDepth 16384

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of group `k` of a tile in the backward order. -/
abbrev rect1 (k : Fin k1_t1_loop.trips) : Rect S256x1024 := Rect.unit (s := S256x1024) (k1_off1 k) S8x1024.size (k1_off1_inb k)

/-- The number of trips, and the group each trip handles. -/
theorem trips1 : k1_t1_loop.trips = 32 := by decide
def num1 (k : Fin k1_t1_loop.trips) : Fin 32 := ⟨31 - k.val, Nat.lt_of_le_of_lt (Nat.sub_le _ _) (by decide)⟩
def at1 (g : Fin 32) : Fin k1_t1_loop.trips := ⟨31 - g.val, Nat.lt_of_lt_of_eq (Nat.lt_of_le_of_lt (Nat.sub_le _ _) (by decide)) trips1.symm⟩
theorem num1_at1 (g : Fin 32) : num1 (at1 g) = g := Fin.ext (by have := g.isLt; show 31 - (31 - g.val) = g.val; omega)
theorem at1_num1 (k : Fin k1_t1_loop.trips) : at1 (num1 k) = k := Fin.ext (by have := Nat.lt_of_lt_of_eq k.isLt trips1; show 31 - (31 - k.val) = k.val; omega)
theorem off1 (k : Fin k1_t1_loop.trips) : k1_off1 k = ![8 * (num1 k).val, 0] := (k1_off1_eq k).trans (by
  have := Nat.lt_of_lt_of_eq k.isLt trips1
  rw [show 248 - 8 * k.val = 8 * (num1 k).val from by show _ = 8 * (31 - k.val); omega])

section trip
variable (𝒱 : Variants) (c : Dev nD) (bd : Option 𝒱.V) (i : grid1.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S8x1024 .f32) (harg8 : arg8.IsWhole) (v3 : IVec S8x1024 32) (X_arg1 : BufTy.Contents (Elt F) arg1.view.ty) (X_arg2 : BufTy.Contents (Elt F) arg2.view.ty) (X_arg3 : BufTy.Contents (Elt F) arg3.view.ty)

theorem trip1_R (k : Fin k1_t1_loop.trips) (acc : Oct F) :
    tripR_k1_t1 (F := F) 𝒱 c bd i arg1 harg1 arg2 harg2 arg3 harg3 arg4 harg4 arg5 harg5 arg6 harg6 arg7 harg7 arg8 harg8 v3 X_arg1 X_arg2 X_arg3 k acc
      = k1_pay3 (k1_pay6 v3 acc (arg1.view.readAt (Elt F) (rect1 k).toLoadRect X_arg1) (arg3.view.readAt (Elt F) (rect1 k).toLoadRect X_arg3)) := by
  unfold tripR_k1_t1 trip_k1_t1
  rfl

theorem trip1_L (k : Fin k1_t1_loop.trips) (acc : Oct F) :
    tripL_k1_t1 (F := F) 𝒱 c bd i arg1 harg1 arg2 harg2 arg3 harg3 arg4 harg4 arg5 harg5 arg6 harg6 arg7 harg7 arg8 harg8 v3 X_arg1 X_arg2 X_arg3 k acc
      = ([⟨rect1 k, k1_pay2 (k1_pay7 v3 acc (arg1.view.readAt (Elt F) (rect1 k).toLoadRect X_arg1) (arg3.view.readAt (Elt F) (rect1 k).toLoadRect X_arg3)) (arg2.view.readAt (Elt F) (rect1 k).toLoadRect X_arg2)⟩], [⟨rect1 k, k1_pay7 v3 acc (arg1.view.readAt (Elt F) (rect1 k).toLoadRect X_arg1) (arg3.view.readAt (Elt F) (rect1 k).toLoadRect X_arg3)⟩]) := by
  unfold tripL_k1_t1 trip_k1_t1
  rfl
end trip

/-! ## The state before each trip -/

/-- The carried rows before trip `k`, which handles group `31 - k`, from the carry `C` at the tile's entry: each group passes
    on its first adjoint. -/
def chain1 (A D : Tile F) (C : Oct F) : ℕ → Oct F
  | 0 => C
  | k + 1 => if h : k < 32 then k1_pay3 (k1_pay6 rowNo (chain1 A D C k) (group A ⟨31 - k, Nat.lt_of_le_of_lt (Nat.sub_le _ _) (by decide)⟩) (group D ⟨31 - k, Nat.lt_of_le_of_lt (Nat.sub_le _ _) (by decide)⟩)) else chain1 A D C k

/-- The gradient of the second factor (the adjoints) and of the first (the adjoints by the states before) of group `g`. -/
abbrev bOct1 (A D : Tile F) (C : Oct F) (g : Fin 32) : Oct F := k1_pay7 rowNo (chain1 A D C (31 - g.val)) (group A g) (group D g)
abbrev aOct1 (A P D : Tile F) (C : Oct F) (g : Fin 32) : Oct F := k1_pay2 (bOct1 A D C g) (group P g)

/-- The pieces stored before trip `k` of a tile whose groups are `f`. -/
abbrev pieces1 (f : Fin 32 → Oct F) : ℕ → List (View.Piece (Elt F) S256x1024 .f32) := pieces k1_off1 k1_off1_inb (fun k => f (num1 k))

/-- What the stores of all trips leave: the tile of the groups `f`. -/
theorem read_pieces1 {κ : Kind} {sp : Space} (v : View sig κ sp S256x1024 .f32) (g : v.ty.Contents (Elt F)) (f : Fin 32 → Oct F) :
    v.read (Elt F) (v.writes (Elt F) g (pieces1 f k1_t1_loop.trips)) = tileOf f :=
  (read_pieces k1_off1 k1_off1_inb (fun k => f (num1 k)) num1 at1 num1_at1 at1_num1 off1 v g).trans
    (congrArg tileOf (funext fun g => congrArg f (num1_at1 g)))

theorem st1_eq (𝒱 : Variants) (c : Dev nD) (bd : Option 𝒱.V) (i : grid1.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S8x1024 .f32) (harg8 : arg8.IsWhole)
    (A P D : Tile F) (C : Oct F) : ∀ k, k ≤ k1_t1_loop.trips →
    st_k1_t1 (F := F) 𝒱 c bd i arg1 harg1 arg2 harg2 arg3 harg3 arg4 harg4 arg5 harg5 arg6 harg6 arg7 harg7 arg8 harg8 rowNo (harg1.unread A) (harg2.unread P) (harg3.unread D) C k
      = (chain1 A D C k, pieces1 (aOct1 A P D C) k, pieces1 (bOct1 A D C) k)
  | 0, _ => rfl
  | k + 1, hk => by
    have ih := st1_eq 𝒱 c bd i arg1 harg1 arg2 harg2 arg3 harg3 arg4 harg4 arg5 harg5 arg6 harg6 arg7 harg7 arg8 harg8 A P D C k (Nat.le_of_succ_le hk)
    have h := st_k1_t1_succ (F := F) 𝒱 c bd i arg1 harg1 arg2 harg2 arg3 harg3 arg4 harg4 arg5 harg5 arg6 harg6 arg7 harg7 arg8 harg8 rowNo (harg1.unread A) (harg2.unread P) (harg3.unread D) C ⟨k, hk⟩
    have hk' : k < 32 := Nat.lt_of_lt_of_eq hk trips1
    have e1 : ∀ X : Tile F, View.ld X (rect1 ⟨k, hk⟩) = group X (num1 ⟨k, hk⟩) := fun X => ld_group X _ _ _ (off1 ⟨k, hk⟩)
    rw [trip1_R, trip1_L, View.readAt_eq_ld, View.readAt_eq_ld, View.readAt_eq_ld, harg1.read_unread, harg2.read_unread, harg3.read_unread, e1, e1, e1] at h
    rw [ih] at h
    rw [h]
    have e4 : ∀ f : ℕ → Oct F, f (31 - (num1 ⟨k, hk⟩).val) = f k := fun f => congrArg f (by show 31 - (31 - k) = k; omega)
    rw [chain1, pieces1, pieces1, pieces, pieces, dif_pos (show k < k1_t1_loop.trips from hk), dif_pos (show k < k1_t1_loop.trips from hk), dif_pos hk', aOct1, bOct1, e4 (chain1 A D C)]
    rfl

/-! ## The body's run -/

/-- The first tile's condition, from the grid coordinates. -/
abbrev first1 (i : grid1.Coords) : Prop := (Scalar.cmpi .ne (Scalar.extui (Scalar.cmpi .eq (BitVec.ofNat 32 (i 0).val) 0#32)) 0#32) = 1#1

set_option maxHeartbeats 1000000 in
def run1A (c : Dev nD) (i : grid1.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S8x1024 .f32) (harg8 : arg8.IsWhole) (hc0 : first1 i)
    (x0 : Tile F) (x1 : Tile F) (x2 : Tile F) (x3 : Row F) :
    Σ' (L5 : List (View.Piece (Elt F) S256x1024 .f32)) (L6 : List (View.Piece (Elt F) S256x1024 .f32)) (L7 : List (View.Piece (Elt F) S1x1024 .f32)),
    { LS : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS)) -∗ K ⟨⟩))
          ⊢ wp frame (wpE (defs₀ (F := F)) Variants.none c none) E (cc1_lruscanf_bwd i arg1 harg1 arg2 harg2 arg3 harg3 arg4 harg4 arg5 harg5 arg6 harg6 arg7 harg7 arg8 harg8) K } := by
  refine ⟨?_, ?_, ?_, ?_, fun E K => ?run⟩
  case run =>
    simp only [cc1_lruscanf_bwd_eq_skeleton]; unfold cc1_lruscanf_bwd_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact HS0

set_option maxHeartbeats 1000000 in
def run1B (c : Dev nD) (i : grid1.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S8x1024 .f32) (harg8 : arg8.IsWhole) (hc0 : ¬first1 i)
    (x0 : Tile F) (x1 : Tile F) (x2 : Tile F) (x3 : Row F) (xs : Oct F) :
    Σ' (L5 : List (View.Piece (Elt F) S256x1024 .f32)) (L6 : List (View.Piece (Elt F) S256x1024 .f32)) (L7 : List (View.Piece (Elt F) S1x1024 .f32)),
    { LS : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (owns (c : Thread nD τ) arg8 fullShare xs)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS)) -∗ K ⟨⟩))
          ⊢ wp frame (wpE (defs₀ (F := F)) Variants.none c none) E (cc1_lruscanf_bwd i arg1 harg1 arg2 harg2 arg3 harg3 arg4 harg4 arg5 harg5 arg6 harg6 arg7 harg7 arg8 harg8) K } := by
  refine ⟨?_, ?_, ?_, ?_, fun E K => ?run⟩
  case run =>
    simp only [cc1_lruscanf_bwd_eq_skeleton]; unfold cc1_lruscanf_bwd_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    iexists _; iexact HS0

/-! ## What the runs write, in closed form -/

section closed
variable (c : Dev nD) (i : grid1.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S8x1024 .f32) (harg8 : arg8.IsWhole)

/-- The whole loop's state: its carried rows, and the two tiles' pieces. -/
theorem loop1 (x0 x1 x2 : Tile F) (C : Oct F) :
    st_k1_t1 (F := F) Variants.none c none i arg1 harg1 arg2 harg2 arg3 harg3 arg4 harg4 arg5 harg5 arg6 harg6 arg7 harg7 arg8 harg8 rowNo (harg1.unread x0) (harg2.unread x1) (harg3.unread x2) C k1_t1_loop.trips
      = (chain1 x0 x2 C 32, pieces1 (aOct1 x0 x1 x2 C) k1_t1_loop.trips, pieces1 (bOct1 x0 x2 C) k1_t1_loop.trips) := by
  rw [st1_eq _ _ _ _ _ _ _ _ _ _ _ _ _ _ _ _ _ _ _ _ _ _ _ _ _ (Nat.le_refl _)]
  rw [show chain1 x0 x2 C k1_t1_loop.trips = chain1 x0 x2 C 32 from congrArg _ trips1]

theorem run1B_L (hc0 : ¬first1 i) (x0 : Tile F) (x1 : Tile F) (x2 : Tile F) (x3 : Row F) (xs : Oct F) :
    (run1B c i arg1 harg1 arg2 harg2 arg3 harg3 arg4 harg4 arg5 harg5 arg6 harg6 arg7 harg7 arg8 harg8 hc0 x0 x1 x2 x3 xs).1 = pieces1 (aOct1 x0 x1 x2 xs) k1_t1_loop.trips
    ∧ (run1B c i arg1 harg1 arg2 harg2 arg3 harg3 arg4 harg4 arg5 harg5 arg6 harg6 arg7 harg7 arg8 harg8 hc0 x0 x1 x2 x3 xs).2.1 = pieces1 (bOct1 x0 x2 xs) k1_t1_loop.trips
    ∧ (run1B c i arg1 harg1 arg2 harg2 arg3 harg3 arg4 harg4 arg5 harg5 arg6 harg6 arg7 harg7 arg8 harg8 hc0 x0 x1 x2 x3 xs).2.2.1 = [⟨Rect.unit (s := S1x1024) ![0, 0] S1x1024.size inb_S1x1024_S1x1024_0_0, topRow (chain1 x0 x2 xs 32)⟩]
    ∧ ∃ L, (run1B c i arg1 harg1 arg2 harg2 arg3 harg3 arg4 harg4 arg5 harg5 arg6 harg6 arg7 harg7 arg8 harg8 hc0 x0 x1 x2 x3 xs).2.2.2.1 = ⟨Rect.unit (s := S8x1024) ![0, 0] S8x1024.size inb_S8x1024_S8x1024_0_0, chain1 x0 x2 xs 32⟩ :: L := by
  have e := loop1 c i arg1 harg1 arg2 harg2 arg3 harg3 arg4 harg4 arg5 harg5 arg6 harg6 arg7 harg7 arg8 harg8 x0 x1 x2 xs
  have e2 : View.readAt (Elt F) arg8.view (Rect.unit (s := S8x1024) ![0, 0] S8x1024.size inb_S8x1024_S8x1024_0_0).toLoadRect (harg8.unread xs) = xs := by
    rw [View.readAt_eq_ld, harg8.read_unread, View.ld_unit_zero (S := S8x1024) zeros]
  have e3 : ∀ C' : Oct F, k1_pay4 C' = C' := fun C' => by unfold k1_pay4; exact shapeCast_self ..
  unfold run1B
  dsimp only
  sl_unfold_run_names
  refine ⟨?_, ?_, ?_, ?_⟩
  · refine Eq.trans ?_ (congrArg (fun t => t.2.1) e)
    erw [e2]
  · refine Eq.trans ?_ (congrArg (fun t => t.2.2) e)
    erw [e2]
  · rw [readCov_topRow, e3]
    refine congrArg (fun w => [(⟨Rect.unit (s := S1x1024) ![0, 0] S1x1024.size inb_S1x1024_S1x1024_0_0, topRow w⟩ : View.Piece (Elt F) S1x1024 .f32)]) (Eq.trans ?_ (congrArg (fun t => t.1) e))
    erw [e2]
  · rw [e3]
    refine ⟨_, congrArg (fun w => (⟨Rect.unit (s := S8x1024) ![0, 0] S8x1024.size inb_S8x1024_S8x1024_0_0, w⟩ : View.Piece (Elt F) S8x1024 .f32) :: _) ?_⟩
    refine (Eq.trans ?_ (congrArg (fun t => t.1) e))
    erw [e2]

theorem run1A_L (hc0 : first1 i) (x0 : Tile F) (x1 : Tile F) (x2 : Tile F) (x3 : Row F) :
    (run1A c i arg1 harg1 arg2 harg2 arg3 harg3 arg4 harg4 arg5 harg5 arg6 harg6 arg7 harg7 arg8 harg8 hc0 x0 x1 x2 x3).1 = pieces1 (aOct1 x0 x1 x2 (k1_pay1 x3)) k1_t1_loop.trips
    ∧ (run1A c i arg1 harg1 arg2 harg2 arg3 harg3 arg4 harg4 arg5 harg5 arg6 harg6 arg7 harg7 arg8 harg8 hc0 x0 x1 x2 x3).2.1 = pieces1 (bOct1 x0 x2 (k1_pay1 x3)) k1_t1_loop.trips
    ∧ (run1A c i arg1 harg1 arg2 harg2 arg3 harg3 arg4 harg4 arg5 harg5 arg6 harg6 arg7 harg7 arg8 harg8 hc0 x0 x1 x2 x3).2.2.1 = [⟨Rect.unit (s := S1x1024) ![0, 0] S1x1024.size inb_S1x1024_S1x1024_0_0, topRow (chain1 x0 x2 (k1_pay1 x3) 32)⟩]
    ∧ ∃ L, (run1A c i arg1 harg1 arg2 harg2 arg3 harg3 arg4 harg4 arg5 harg5 arg6 harg6 arg7 harg7 arg8 harg8 hc0 x0 x1 x2 x3).2.2.2.1 = ⟨Rect.unit (s := S8x1024) ![0, 0] S8x1024.size inb_S8x1024_S8x1024_0_0, chain1 x0 x2 (k1_pay1 x3) 32⟩ :: L := by
  have e := loop1 c i arg1 harg1 arg2 harg2 arg3 harg3 arg4 harg4 arg5 harg5 arg6 harg6 arg7 harg7 arg8 harg8 x0 x1 x2 (k1_pay1 x3)
  have e1 : View.readAt (Elt F) arg4.view (Rect.unit (s := S1x1024) ![0, 0] S1x1024.size inb_S1x1024_S1x1024_0_0).toLoadRect (harg4.unread x3) = x3 := by
    rw [View.readAt_eq_ld, harg4.read_unread, View.ld_unit_zero (S := S1x1024) zeros]
  have e2 : arg8.view.readCov (Val := Elt F) [⟨Rect.unit (s := S8x1024) ![0, 0] S8x1024.size inb_S8x1024_S8x1024_0_0, k1_pay1 x3⟩] (Rect.unit (s := S8x1024) ![0, 0] S8x1024.size inb_S8x1024_S8x1024_0_0).toLoadRect = k1_pay1 x3 :=
    View.readCov_unit_zero (S := S8x1024) _ zeros _ _
  have e3 : ∀ C' : Oct F, k1_pay4 C' = C' := fun C' => by unfold k1_pay4; exact shapeCast_self ..
  unfold run1A
  dsimp only
  sl_unfold_run_names
  refine ⟨?_, ?_, ?_, ?_⟩
  · refine Eq.trans ?_ (congrArg (fun t => t.2.1) e)
    erw [e1, e2]
  · refine Eq.trans ?_ (congrArg (fun t => t.2.2) e)
    erw [e1, e2]
  · rw [readCov_topRow, e3]
    refine congrArg (fun w => [(⟨Rect.unit (s := S1x1024) ![0, 0] S1x1024.size inb_S1x1024_S1x1024_0_0, topRow w⟩ : View.Piece (Elt F) S1x1024 .f32)]) (Eq.trans ?_ (congrArg (fun t => t.1) e))
    erw [e1, e2]
  · rw [e3]
    refine ⟨_, congrArg (fun w => (⟨Rect.unit (s := S8x1024) ![0, 0] S8x1024.size inb_S8x1024_S8x1024_0_0, w⟩ : View.Piece (Elt F) S8x1024 .f32) :: _) ?_⟩
    refine (Eq.trans ?_ (congrArg (fun t => t.1) e))
    erw [e1, e2]
end closed

attribute [irreducible] run1A run1B chain1

end Cert.Proof.Scan

end
-- ==== Proof.RegBwd.lean ====
/-
  The backward region over any contents of the buffers: its body's results, its proof data, the body obligation at every tile, and
  the region as a segment of the whole program.
-/
module

public import proofs.«01_k».proof.Proof.Bwd
public import proofs.«01_k».proof.Proof.Gen.KernelIdeal.Regions
public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.Frame
public import Idealize.ShloMosaic.Lib.Pipeline.FrameBody
public import Idealize.ShloMosaic.Lib.Tactic
public import Idealize.ShloMosaic.Lib.Pipeline.Value

@[expose] public section

set_option maxRecDepth 16384

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 400000 in
/-- The body at a first tile, its results in closed form. -/
theorem body1A (c : Dev nD) (i : grid1.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S8x1024 .f32) (harg8 : arg8.IsWhole) (hc0 : first1 i)
    (x0 : Tile F) (x1 : Tile F) (x2 : Tile F) (x3 : Row F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (tileOf (aOct1 x0 x1 x2 (k1_pay1 x3))) ∗ owns (c : Thread nD τ) arg6 fullShare (tileOf (bOct1 x0 x2 (k1_pay1 x3))) ∗ owns (c : Thread nD τ) arg7 fullShare (topRow (chain1 x0 x2 (k1_pay1 x3) 32)) ∗ owns (c : Thread nD τ) arg8 fullShare (chain1 x0 x2 (k1_pay1 x3) 32)) -∗ K ⟨⟩))
      ⊢ wp frame (wpE (defs₀ (F := F)) Variants.none c none) E (cc1_lruscanf_bwd i arg1 harg1 arg2 harg2 arg3 harg3 arg4 harg4 arg5 harg5 arg6 harg6 arg7 harg7 arg8 harg8) K := by
  obtain ⟨e1, e2, e3, L, e4⟩ := run1A_L c i arg1 harg1 arg2 harg2 arg3 harg3 arg4 harg4 arg5 harg5 arg6 harg6 arg7 harg7 arg8 harg8 hc0 x0 x1 x2 x3
  generalize run1A c i arg1 harg1 arg2 harg2 arg3 harg3 arg4 harg4 arg5 harg5 arg6 harg6 arg7 harg7 arg8 harg8 hc0 x0 x1 x2 x3 = R at e1 e2 e3 e4
  obtain ⟨L4, L5, L6, LS, hr⟩ := R
  dsimp only at e1 e2 e3 e4
  subst e1 e2 e3 e4
  have hr := hr E K
  iintro ⟨H0, H1, H2, H3, H4, H5, H6, HS, Hk⟩
  iapply hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, ⟨%g4, H4⟩, ⟨%g5, H5⟩, ⟨%g6, H6⟩, ⟨%gs, HS⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro
    exact read_pieces1 _ _ _
  isplitl [H5]
  · unfold owns; iexists _; isplitr
    swap; · iexact H5
    ipureintro
    exact read_pieces1 _ _ _
  isplitl [H6]
  · unfold owns; iexists _; isplitr
    swap; · iexact H6
    ipureintro
    exact read_whole_store _ zeros _ _ _ _
  · unfold owns; iexists _; isplitr
    swap; · iexact HS
    ipureintro
    exact read_whole_store _ zeros _ _ _ _

set_option maxHeartbeats 400000 in
/-- The body at a later tile, its results in closed form. -/
theorem body1B (c : Dev nD) (i : grid1.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole) (arg8 : Memref sig .tc .vmem S8x1024 .f32) (harg8 : arg8.IsWhole) (hc0 : ¬first1 i)
    (x0 : Tile F) (x1 : Tile F) (x2 : Tile F) (x3 : Row F) (xs : Oct F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (tileOf (aOct1 x0 x1 x2 xs)) ∗ owns (c : Thread nD τ) arg6 fullShare (tileOf (bOct1 x0 x2 xs)) ∗ owns (c : Thread nD τ) arg7 fullShare (topRow (chain1 x0 x2 xs 32)) ∗ owns (c : Thread nD τ) arg8 fullShare (chain1 x0 x2 xs 32)) -∗ K ⟨⟩))
      ⊢ wp frame (wpE (defs₀ (F := F)) Variants.none c none) E (cc1_lruscanf_bwd i arg1 harg1 arg2 harg2 arg3 harg3 arg4 harg4 arg5 harg5 arg6 harg6 arg7 harg7 arg8 harg8) K := by
  obtain ⟨e1, e2, e3, L, e4⟩ := run1B_L c i arg1 harg1 arg2 harg2 arg3 harg3 arg4 harg4 arg5 harg5 arg6 harg6 arg7 harg7 arg8 harg8 hc0 x0 x1 x2 x3 xs
  generalize run1B c i arg1 harg1 arg2 harg2 arg3 harg3 arg4 harg4 arg5 harg5 arg6 harg6 arg7 harg7 arg8 harg8 hc0 x0 x1 x2 x3 xs = R at e1 e2 e3 e4
  obtain ⟨L4, L5, L6, LS, hr⟩ := R
  dsimp only at e1 e2 e3 e4
  subst e1 e2 e3 e4
  have hr := hr E K
  iintro ⟨H0, H1, H2, H3, H4, H5, H6, HS, Hk⟩
  iapply hr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, ⟨%g4, H4⟩, ⟨%g5, H5⟩, ⟨%g6, H6⟩, ⟨%gs, HS⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro
    exact read_pieces1 _ _ _
  isplitl [H5]
  · unfold owns; iexists _; isplitr
    swap; · iexact H5
    ipureintro
    exact read_pieces1 _ _ _
  isplitl [H6]
  · unfold owns; iexists _; isplitr
    swap; · iexact H6
    ipureintro
    exact read_whole_store _ zeros _ _ _ _
  · unfold owns; iexists _; isplitr
    swap; · iexact HS
    ipureintro
    exact read_whole_store _ zeros _ _ _ _

/-! ## The first tile -/

theorem first1_iff : ∀ t : Fin cfg1.N, first1 (grid1.coords t) ↔ t.val = 0 := by decide +kernel

/-! ## The proof data -/

variable (V : (c : Dev nD) → (b : Ref sig .tc) → Buf (Elt F) ((c : Thread nD τ).loc b))

/-- Window `w`'s block at tile `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried rows on entry to tile `n`. -/
def entry1 (c : Dev nD) : ℕ → Oct F
  | 0 => k1_pay1 (iblk1 V c 3 ⟨0, by decide⟩)
  | n + 1 => if h : n < cfg1.N then chain1 (iblk1 V c 0 ⟨n, h⟩) (iblk1 V c 2 ⟨n, h⟩) (entry1 c n) 32 else entry1 c n

theorem entry1_succ (c : Dev nD) (t : Fin cfg1.N) : entry1 V c (t.val + 1) = chain1 (iblk1 V c 0 t) (iblk1 V c 2 t) (entry1 V c t.val) 32 := by
  rw [entry1, dif_pos t.isLt]

/-- The scratch that carries the rows from tile to tile. -/
abbrev scM1 : Memref sig .tc .vmem S8x1024 .f32 := Memref.whole cc1_scratch0

/-- The other scoped buffers no window of this region stages, each at some contents. -/
def others1 (c : Dev nD) : sProp 𝕄 :=
  bigSepL [cc0_stg0_0, cc0_stg0_1, cc0_stg1_0, cc0_stg1_1, cc0_stg2_0, cc0_stg3_0, cc0_stg3_1, cc0_stg4_0, cc0_stg4_1, cc0_stg5_0, cc0_scratch0] fun b => iprop(∃ f : Buf (Elt F) ((c : Thread nD τ).loc b), ((c : Thread nD τ).loc b) ↦{fullShare} f)

theorem scoped1_eq (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ others1 (F := F) c) := by
  rw [Pipeline.scopedRest_eq_of_list spec1 c [cc1_scratch0, cc0_stg0_0, cc0_stg0_1, cc0_stg1_0, cc0_stg1_1, cc0_stg2_0, cc0_stg3_0, cc0_stg3_1, cc0_stg4_0, cc0_stg4_1, cc0_stg5_0, cc0_scratch0] (by decide) (by decide)]
  simp only [scM1, owns_whole]
  rfl

/-- The invariant before tile `n`: the carried rows named from the second tile on. -/
def Phi1 (c : Dev nD) : ℕ → sProp 𝕄
  | 0 => iprop((∃ d, owns (c : Thread nD τ) scM1 fullShare d) ∗ others1 (F := F) c)
  | n + 1 => iprop(owns (c : Thread nD τ) scM1 fullShare (entry1 V c (n + 1)) ∗ others1 (F := F) c)

theorem Phi1_pos (c : Dev nD) (n : ℕ) (h : n ≠ 0) : Phi1 V c n = iprop(owns (c : Thread nD τ) scM1 fullShare (entry1 V c n) ∗ others1 (F := F) c) := by
  cases n with
  | zero => exact absurd rfl h
  | succ n => rfl

/-- The region's proof data: the arrays as the region finds them, each input's buffer at its block, the results in closed form. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => tileOf (aOct1 (iblk1 V c 0 t) (iblk1 V c 1 t) (iblk1 V c 2 t) (entry1 V c t.val))
    | ⟨5, _⟩ => tileOf (bOct1 (iblk1 V c 0 t) (iblk1 V c 2 t) (entry1 V c t.val))
    | ⟨6, _⟩ => topRow (entry1 V c (t.val + 1))
  Φ t := Phi1 V c t.val
  q _ := fullShare
  owed _ := 0

theorem after1_0 (c : Dev nD) (t : Fin cfg1.N) : (dat1 V c).after 0 t = iblk1 V c 0 t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1 dat1; rfl) t d).trans
    (by unfold Dat.fetched Dat.blockOf iblk1 dat1; rfl)
theorem after1_1 (c : Dev nD) (t : Fin cfg1.N) : (dat1 V c).after 1 t = iblk1 V c 1 t := by dsimp only [dat1]
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1 dat1; rfl) t d).trans
    (by unfold Dat.fetched Dat.blockOf iblk1 dat1; rfl)
theorem after1_2 (c : Dev nD) (t : Fin cfg1.N) : (dat1 V c).after 2 t = iblk1 V c 2 t := by dsimp only [dat1]
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1 dat1; rfl) t d).trans
    (by unfold Dat.fetched Dat.blockOf iblk1 dat1; rfl)
theorem after1_3 (c : Dev nD) (t : Fin cfg1.N) : (dat1 V c).after 3 t = iblk1 V c 3 t := by dsimp only [dat1]
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1 dat1; rfl) t d).trans
    (by unfold Dat.fetched Dat.blockOf iblk1 dat1; rfl)
theorem after1_4 (c : Dev nD) (t : Fin cfg1.N) : (dat1 V c).after 4 t = tileOf (aOct1 (iblk1 V c 0 t) (iblk1 V c 1 t) (iblk1 V c 2 t) (entry1 V c t.val)) := by dsimp only [dat1]
theorem after1_5 (c : Dev nD) (t : Fin cfg1.N) : (dat1 V c).after 5 t = tileOf (bOct1 (iblk1 V c 0 t) (iblk1 V c 2 t) (entry1 V c t.val)) := by dsimp only [dat1]
theorem after1_6 (c : Dev nD) (t : Fin cfg1.N) : (dat1 V c).after 6 t = topRow (entry1 V c (t.val + 1)) := by dsimp only [dat1]

/-! ## The body obligation -/

/-- What the body is called with at tile `t`, and what it returns. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1600000 in
/-- The body at any tile. -/
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4, after1_5, after1_6]
  rw [show (dat1 V c).Φ t.succ = Phi1 V c (t.val + 1) from rfl, show (dat1 V c).Φ t.castSucc = Phi1 V c t.val from rfl, Phi1_pos V c _ (Nat.succ_ne_zero _), entry1_succ]
  by_cases hz : t.val = 0
  · have he : entry1 V c t.val = k1_pay1 (iblk1 V c 3 t) := by
      have ht : t = ⟨0, by decide⟩ := Fin.ext hz
      subst ht; rfl
    rw [he]
    rw [hz]; rw [show Phi1 V c 0 = iprop((∃ d, owns (c : Thread nD τ) scM1 fullShare d) ∗ others1 (F := F) c) from rfl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body1A c (grid1.coords t) _ _ _ _ _ _ _ _ _ _ _ _ _ _ _ _ ((first1_iff t).mpr hz) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi1_pos V c _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (body1B c (grid1.coords t) _ _ _ _ _ _ _ _ _ _ _ _ _ _ _ _ (fun h => hz ((first1_iff t).mp h)) (iblk1 V c 0 t) (iblk1 V c 1 t) (iblk1 V c 2 t) (iblk1 V c 3 t) (entry1 V c t.val) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 V c) (defs₀ (F := F)) Variants.none () Set.univ := fun t => by
  rw [bigSep_W1, bigSep_W1, row1]
  exact triple_restated (sound1 V c t) rfl .rfl fun _ => .rfl

end Cert.Proof.Scan

end
-- ==== Proof.Run.lean ====
/-
  The whole program's run: the two regions chained, each result at what the regions compute, the arguments as launched and every
  semaphore at zero.
-/
module

public import proofs.«01_k».proof.Proof.RegFwd
public import proofs.«01_k».proof.Proof.RegBwd
public import Idealize.ShloMosaic.Lib.Pipeline.Regions
public import Idealize.ShloMosaic.Lib.Pipeline.RegionsLoop

@[expose] public section

set_option maxRecDepth 16384

noncomputable section

namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the regions -/

/-- The buffers at launch. -/
def U0 (c : Dev nD) : Valuation τ sig (Elt F) := fun b => m (c, b)
abbrev X0 (c : Dev nD) (b : Ref sig .tc) : Buf (Elt F) ((c : Thread nD τ).loc b) := U0 m c b

/-- The buffers after region 0: its results' arrays at what its proof data computes. -/
def U1 (c : Dev nD) : Valuation τ sig (Elt F) :=
  Function.update (Function.update (Function.update (U0 m c) main_v0_0 ((dat0 (X0 m) c).arrAt 3 cfg0.N)) main_v0_1 ((dat0 (X0 m) c).arrAt 4 cfg0.N)) main_v0_2 ((dat0 (X0 m) c).arrAt 5 cfg0.N)
abbrev X1 (c : Dev nD) (b : Ref sig .tc) : Buf (Elt F) ((c : Thread nD τ).loc b) := U1 m c b

theorem X1_of (c : Dev nD) (b : Ref sig .tc) (h : b ∉ ([main_v0_0, main_v0_1, main_v0_2] : List (Ref sig .tc))) : X1 m c b = X0 m c b := by
  unfold X1 U1
  rw [Function.update_of_ne (StableHlo.devRef_ne_of_ne fun e => h (by subst e; decide)), Function.update_of_ne (StableHlo.devRef_ne_of_ne fun e => h (by subst e; decide)),
    Function.update_of_ne (StableHlo.devRef_ne_of_ne fun e => h (by subst e; decide))]
theorem X1_main_v0_2 (c : Dev nD) : X1 m c main_v0_2 = (dat0 (X0 m) c).arrAt 5 cfg0.N := by
  unfold X1 U1; rw [Function.update_self]
theorem X1_main_v0_1 (c : Dev nD) : X1 m c main_v0_1 = (dat0 (X0 m) c).arrAt 4 cfg0.N := by
  unfold X1 U1; rw [Function.update_of_ne (StableHlo.devRef_ne_of_ne (by decide)), Function.update_self]
theorem X1_main_v0_0 (c : Dev nD) : X1 m c main_v0_0 = (dat0 (X0 m) c).arrAt 3 cfg0.N := by
  unfold X1 U1; rw [Function.update_of_ne (StableHlo.devRef_ne_of_ne (by decide)), Function.update_of_ne (StableHlo.devRef_ne_of_ne (by decide)), Function.update_self]

/-- The buffers after region 1: its results' arrays at what its proof data computes. -/
def U2 (c : Dev nD) : Valuation τ sig (Elt F) :=
  Function.update (Function.update (Function.update (U1 m c) main_v1_0 ((dat1 (X1 m) c).arrAt 4 cfg1.N)) main_v1_1 ((dat1 (X1 m) c).arrAt 5 cfg1.N)) main_v1_2 ((dat1 (X1 m) c).arrAt 6 cfg1.N)
abbrev X2 (c : Dev nD) (b : Ref sig .tc) : Buf (Elt F) ((c : Thread nD τ).loc b) := U2 m c b

theorem X2_of (c : Dev nD) (b : Ref sig .tc) (h : b ∉ ([main_v1_0, main_v1_1, main_v1_2] : List (Ref sig .tc))) : X2 m c b = X1 m c b := by
  unfold X2 U2
  rw [Function.update_of_ne (StableHlo.devRef_ne_of_ne fun e => h (by subst e; decide)), Function.update_of_ne (StableHlo.devRef_ne_of_ne fun e => h (by subst e; decide)),
    Function.update_of_ne (StableHlo.devRef_ne_of_ne fun e => h (by subst e; decide))]
theorem X2_main_v1_2 (c : Dev nD) : X2 m c main_v1_2 = (dat1 (X1 m) c).arrAt 6 cfg1.N := by
  unfold X2 U2; rw [Function.update_self]
theorem X2_main_v1_1 (c : Dev nD) : X2 m c main_v1_1 = (dat1 (X1 m) c).arrAt 5 cfg1.N := by
  unfold X2 U2; rw [Function.update_of_ne (StableHlo.devRef_ne_of_ne (by decide)), Function.update_self]
theorem X2_main_v1_0 (c : Dev nD) : X2 m c main_v1_0 = (dat1 (X1 m) c).arrAt 4 cfg1.N := by
  unfold X2 U2; rw [Function.update_of_ne (StableHlo.devRef_ne_of_ne (by decide)), Function.update_of_ne (StableHlo.devRef_ne_of_ne (by decide)), Function.update_self]

theorem X2_arg (c : Dev nD) (b : Ref sig .tc) (h2 : b ∉ ([main_v1_0, main_v1_1, main_v1_2] : List (Ref sig .tc)))
    (h1 : b ∉ ([main_v0_0, main_v0_1, main_v0_2] : List (Ref sig .tc))) : X2 m c b = m ((c.tc : Thread nD τ).loc b) :=
  (X2_of m c b h2).trans ((X1_of m c b h1).trans rfl)

/-- The two regions' proof data. -/
def pdats : (p : Fin 2) → (c : Dev nD) → Dat τ (Elt F) Unit ℕ (UR sig nD τ) ℕ (cfgs p) c
  | ⟨0, _⟩ => fun c => dat0 (X0 m) c
  | ⟨1, _⟩ => fun c => dat1 (X1 m) c

/-- No core owes another anything: no level is assigned. -/
abbrev L : GSem nD τ sig → Finset Unit := fun _ => ∅
abbrev lv : GSem nD τ sig → Unit → ℕ := fun _ _ => 0

/-! ## The regions -/

set_option backward.isDefEq.respectTransparency.types false in
/-- Region 0 over "every unscoped buffer at `X0`": its arrays are taken out of the buffers and put back at `X1`. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (obligation0 (X0 m) c).loose
  hwaits := Pipeline.hwaits_of_owed_zero _ _ _ _ L lv 0 fun _ _ => rfl
  pre c := iprop(unscopedBufs c (X0 m c) ∗ ∃ W, owes (c : Thread nD τ) (0 : CellTallies nD τ sig Unit) W)
  post c := iprop(unscopedBufs c (X1 m c) ∗ ∃ W, owes (c : Thread nD τ) (0 : CellTallies nD τ sig Unit) W)
  X _ := BI.emp
  Y _ := BI.emp
  Z c := iprop(Pipeline.unscopedRest (Ix := Unit) (Name := ℕ) (U := UR sig nD τ) (Lvl := ℕ) spec0 c (X0 m c))
  hentry c := by
    rw [Pipeline.ownSems0_none]
    have hsplit := Pipeline.arrays_of_unscopedBufs (p := 0) (pcfgs (F := F)) adm (pdats m) launch0.win launch0.arr_whole c
      ((pdats m 0 c).share_full fun _ => rfl) (X0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = iprop((∃ d, owns (c : Thread nD τ) scM0 fullShare d) ∗ others0 (F := F) c) from rfl, ← scoped0_eq]
    iintro ⟨-, -, Hr⟩; iexact Hr
  hout c := by
    rw [Pipeline.ownSems0_none, show (pdats m 0 c).Φ (Fin.last _) = Phi0 (X0 m) c cfg0.N from rfl, Phi0_pos _ _ _ (by decide)]
    rw [show (Pipeline.scopedRest (Pipeline.pin (pcfgs (F := F)) adm 0).spec c : sProp 𝕄) = _ from scoped0_eq c]
    iintro ⟨HS, Hr⟩
    isplitr; · iempintro
    isplitr; · iempintro
    isplitl [HS]; · iexists _; iexact HS
    iexact Hr
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (X0 m c) (X1 m c) ((pdats m 0 c).arrAt · cfg0.N)
      (fun w => by
        fin_cases w
        · exact ((pdats m 0 c).arrAt_in 0 rfl _).trans (X1_of m c main_arg0 (by decide)).symm
        · exact ((pdats m 0 c).arrAt_in 1 rfl _).trans (X1_of m c main_arg1 (by decide)).symm
        · exact ((pdats m 0 c).arrAt_in 2 rfl _).trans (X1_of m c main_arg2 (by decide)).symm
        · exact (X1_main_v0_0 m c).symm
        · exact (X1_main_v0_1 m c).symm
        · exact (X1_main_v0_2 m c).symm)
      (fun b hb => X1_of m c b (fun h => by
        simp only [List.mem_cons, List.not_mem_nil, or_false] at h
        rcases h with rfl | rfl | rfl
        · exact hb (Finset.mem_image.mpr ⟨3, Finset.mem_univ _, rfl⟩)
        · exact hb (Finset.mem_image.mpr ⟨4, Finset.mem_univ _, rfl⟩)
        · exact hb (Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Region 1 over "every unscoped buffer at `X1`": its arrays are taken out of the buffers and put back at `X2`. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (obligation1 (X1 m) c).loose
  hwaits := Pipeline.hwaits_of_owed_zero _ _ _ _ L lv 1 fun _ _ => rfl
  pre c := iprop(unscopedBufs c (X1 m c) ∗ ∃ W, owes (c : Thread nD τ) (0 : CellTallies nD τ sig Unit) W)
  post c := iprop(unscopedBufs c (X2 m c) ∗ ∃ W, owes (c : Thread nD τ) (0 : CellTallies nD τ sig Unit) W)
  X _ := BI.emp
  Y _ := BI.emp
  Z c := iprop(Pipeline.unscopedRest (Ix := Unit) (Name := ℕ) (U := UR sig nD τ) (Lvl := ℕ) spec1 c (X1 m c))
  hentry c := by
    rw [Pipeline.ownSems0_none]
    have hsplit := Pipeline.arrays_of_unscopedBufs (p := 1) (pcfgs (F := F)) adm (pdats m) launch1.win launch1.arr_whole c
      ((pdats m 1 c).share_full fun _ => rfl) (X1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = iprop((∃ d, owns (c : Thread nD τ) scM1 fullShare d) ∗ others1 (F := F) c) from rfl, ← scoped1_eq]
    iintro ⟨-, -, Hr⟩; iexact Hr
  hout c := by
    rw [Pipeline.ownSems0_none, show (pdats m 1 c).Φ (Fin.last _) = Phi1 (X1 m) c cfg1.N from rfl, Phi1_pos _ _ _ (by decide)]
    rw [show (Pipeline.scopedRest (Pipeline.pin (pcfgs (F := F)) adm 1).spec c : sProp 𝕄) = _ from scoped1_eq c]
    iintro ⟨HS, Hr⟩
    isplitr; · iempintro
    isplitr; · iempintro
    isplitl [HS]; · iexists _; iexact HS
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (X1 m c) (X2 m c) ((pdats m 1 c).arrAt · cfg1.N)
      (fun w => by
        fin_cases w
        · exact ((pdats m 1 c).arrAt_in 0 rfl _).trans (X2_of m c main_arg0 (by decide)).symm
        · exact ((pdats m 1 c).arrAt_in 1 rfl _).trans (X2_of m c main_v0_1 (by decide)).symm
        · exact ((pdats m 1 c).arrAt_in 2 rfl _).trans (X2_of m c main_arg3 (by decide)).symm
        · exact ((pdats m 1 c).arrAt_in 3 rfl _).trans (X2_of m c main_arg4 (by decide)).symm
        · exact (X2_main_v1_0 m c).symm
        · exact (X2_main_v1_1 m c).symm
        · exact (X2_main_v1_2 m c).symm)
      (fun b hb => X2_of m c b (fun h => by
        simp only [List.mem_cons, List.not_mem_nil, or_false] at h
        rcases h with rfl | rfl | rfl
        · exact hb (Finset.mem_image.mpr ⟨4, Finset.mem_univ _, rfl⟩)
        · exact hb (Finset.mem_image.mpr ⟨5, Finset.mem_univ _, rfl⟩)
        · exact hb (Finset.mem_image.mpr ⟨6, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The program as the list of its two regions. -/
abbrev segs (_ : Dev nD) : List (Pipeline.Seg (pcfgs (F := F)) adm (pdats m) () defs₀ Variants.none L lv) := [.region (reg0 m), .region (reg1 m)]

/-- The launch element. -/
def u₀ : UR sig nD τ := initOf (Pipeline.cells cfgs cellOf_inj) (Pipeline.launchToks cfgs cellOf_inj)

set_option backward.isDefEq.respectTransparency.types false in
/-- From any memory with zero counters every weakly fair execution of the program terminates, with the arguments as launched, the
    three results at what the backward region's proof data computes, and every semaphore at zero. -/
theorem run_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_v1_0) = (dat1 (X1 m) c).arrAt 4 cfg1.N ∧ r.2.mem ((c.tc : Thread nD τ).loc main_v1_1) = (dat1 (X1 m) c).arrAt 5 cfg1.N ∧ r.2.mem ((c.tc : Thread nD τ).loc main_v1_2) = (dat1 (X1 m) c).arrAt 6 cfg1.N) ∧ r.2.sem = fun _ => 0) := by
  refine Pipeline.θ_run_regions_kit_dev_sems (pcfgs (F := F)) adm (pdats m) () cellOf_inj emb₁ defs₀ Variants.none L lv m ρ main
    (segs m)
    (fun c Q => by
      rewrite [main_chain c, Pipeline.Seg.run_eq_chain,
        show (segs m c).map Pipeline.Seg.prog = [
          Prog.lift (.customCall (Pipeline.entry 0) ()),
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl) (G := fun _ => iprop(emp)) (u₀ := u₀)
    (hu₀ := ?hu)
    (T₀ := fun c => iprop(unscopedBufs c (X0 m c) ∗ ∃ W, owes (c : Thread nD τ) (0 : CellTallies nD τ sig Unit) W))
    (Tₙ := fun c => unscopedBufs c (X2 m c))
    (hch := fun c => ⟨.rfl, .rfl, .rfl⟩)
    (hinit := ?hi)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_v1_0) = (dat1 (X1 m) c).arrAt 4 cfg1.N ∧ s.mem ((c.tc : Thread nD τ).loc main_v1_1) = (dat1 (X1 m) c).arrAt 5 cfg1.N ∧ s.mem ((c.tc : Thread nD τ).loc main_v1_2) = (dat1 (X1 m) c).arrAt 6 cfg1.N)
    (hfin := fun c s' => ?hf) (hQ := fun _ h hz => ⟨h, funext fun g => hz g (.inr (regions_no_unscoped g.2))⟩)
  case hu =>
    have he : (ownU u₀ : sProp 𝕄) ⊢ BI.own ((emb₁ : Emb (UR sig nD τ) 𝕄) (initOf (Pipeline.cells cfgs cellOf_inj) (Pipeline.launchToks cfgs cellOf_inj))) := BI.Entails.refl _
    iintro Hu
    ihave Hu := he $$ Hu
    imodintro
    isplitl [Hu]; · iexact Hu
    iapply (show (BI.emp : sProp 𝕄) ⊢ bigSep Finset.univ (fun _ : Dev nD => (BI.emp : sProp 𝕄)) from by rw [BI.bigSep_emp_const])
    iempintro
  case hi =>
    refine Pipeline.initEach L lv fun c => ?_
    iintro ⟨⟨Hh, -, HO, -, -, -⟩, -⟩
    imodintro
    isplitl [Hh]; · iexact Hh
    iexists ∅; iexact HO
  case hf =>
    rw [show (unscopedBufs c (X2 m c) : sProp 𝕄) = StableHlo.held (c : Thread nD τ) (Pipeline.ucRefs τ sig) (U2 m c) from Pipeline.unscopedBufs_held c (U2 m c)]
    unfold StableHlo.held
    iintro ⟨Hh, HSI⟩
    ihave Hr := (pointsTo_read_all (Pipeline.ucRefs τ sig) (fun b => ((c : Thread nD τ).1, b)) (U2 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (X2_arg m c main_arg0 (by decide) (by decide)),
        (h (Proc.devRef .tc main_arg1) (Finset.mem_filter.mpr ⟨StableHlo.devRef_mem_tcRefs main_arg1, by decide⟩)).trans (X2_arg m c main_arg1 (by decide) (by decide)),
        (h (Proc.devRef .tc main_arg2) (Finset.mem_filter.mpr ⟨StableHlo.devRef_mem_tcRefs main_arg2, by decide⟩)).trans (X2_arg m c main_arg2 (by decide) (by decide)),
        (h (Proc.devRef .tc main_arg3) (Finset.mem_filter.mpr ⟨StableHlo.devRef_mem_tcRefs main_arg3, by decide⟩)).trans (X2_arg m c main_arg3 (by decide) (by decide)),
        (h (Proc.devRef .tc main_arg4) (Finset.mem_filter.mpr ⟨StableHlo.devRef_mem_tcRefs main_arg4, by decide⟩)).trans (X2_arg m c main_arg4 (by decide) (by decide)),
        (h (Proc.devRef .tc main_v1_0) (Finset.mem_filter.mpr ⟨StableHlo.devRef_mem_tcRefs main_v1_0, by decide⟩)).trans (X2_main_v1_0 m c),
        (h (Proc.devRef .tc main_v1_1) (Finset.mem_filter.mpr ⟨StableHlo.devRef_mem_tcRefs main_v1_1, by decide⟩)).trans (X2_main_v1_1 m c),
        (h (Proc.devRef .tc main_v1_2) (Finset.mem_filter.mpr ⟨StableHlo.devRef_mem_tcRefs main_v1_2, by decide⟩)).trans (X2_main_v1_2 m c)⟩
    · iexact HSI

end Cert.Proof.Scan

end
-- ==== Proof.RefRun.lean ====
/-
  The reference's run: its two counted loops as segments over the buffers, every buffer's contents at the end as a fold of the
  operations.
-/
module

public import proofs.«01_k».proof.Proof.Gen.ReferenceIdeal
public import proofs.«01_k».proof.ReferenceIdeal
public import Idealize.ShloMosaic.Lib.StableHlo.RunLoop
public import Idealize.ShloMosaic.Lib.Scf.Counter
public import Idealize.ShloMosaic.Lib.Scf.ExitTest

@[expose] public section

noncomputable section

namespace Cert.Proof.ScanRef

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg ucRefs sub_ucRefs)

variable {F : FTy → Type} [FloatOps F]

local notation "𝕄" => MT nD τ sig Unit (Elt F) ℕ (Option PUnit) ℕ

/-! ## The operations, stretch by stretch -/

abbrev cond0Ops : List (HloOp τ sig (Elt F)) :=
  [ StableHlo.nullary main_while0c_c_10 (constantI S_ 32 8192#32),
    StableHlo.binary main_v3_2 main_while0c_c_10 main_while0c_v10 (cmpi .slt : (⟨S_, .i32⟩ : BufTy).Contents (Elt F) → (⟨S_, .i32⟩ : BufTy).Contents (Elt F) → (⟨S_, .i1⟩ : BufTy).Contents (Elt F)) ]
theorem cond0Ops_sub : (cond0Ops : List (HloOp τ sig (Elt F))).Forall fun op => op.bufs ⊆ tcRefs τ sig :=
  ⟨nullary_bufs_sub .., binary_bufs_sub ..⟩
abbrev cond0Ops_W : List (Ref sig .tc) := [main_while0c_c_10, main_while0c_v10]
theorem cond0Ops_writes : (cond0Ops : List (HloOp τ sig (Elt F))).Forall fun op => op.writes ⊆ (cond0Ops_W.map (Proc.devRef (τ := τ) .tc)).toFinset :=
  forall_writes_sub_of_map rfl
/-- The list writes only the buffers named. -/
theorem cond0_of (V : Valuation τ sig (Elt F)) (r : Ref sig .tc) (h : r ∉ cond0Ops_W) : after cond0Ops V (Proc.devRef .tc r) = V (Proc.devRef .tc r) :=
  after_of_writes_sub cond0Ops V cond0Ops_writes h

abbrev body0Ops : List (HloOp τ sig (Elt F)) :=
  [ StableHlo.nullary main_while0b_call0_c (constantI S_ 32 0#32),
    StableHlo.TRef.unaryIndexed (.of main_v3_0 : StableHlo.TRef sig ⟨S8192x1024, .f32⟩) ![(.of main_v3_2 : StableHlo.TRef sig ⟨S_, .i32⟩), .of main_while0b_call0_c] (.of main_while0b_call0_v0 : StableHlo.TRef sig ⟨S1x1024, .f32⟩) ((fun x i => Host.dynamicSlice S1x1024 x (fun k => (i k (Shape.Idx.first h_S_)).toInt) sliceFits_S8192x1024_S1x1024) : (⟨S8192x1024, .f32⟩ : BufTy).Contents (Elt F) → (Fin 2 → (⟨S_, .i32⟩ : BufTy).Contents (Elt F)) → (⟨S1x1024, .f32⟩ : BufTy).Contents (Elt F)),
    StableHlo.reshape main_while0b_call0_v0 main_while0b_v10 (rfl : (.f32 : EltTy) = .f32) shapeCasts_S1x1024_S1024,
    StableHlo.nullary main_while0b_call1_c (constantI S_ 32 0#32),
    StableHlo.TRef.unaryIndexed (.of main_v3_1 : StableHlo.TRef sig ⟨S8192x1024, .f32⟩) ![(.of main_v3_2 : StableHlo.TRef sig ⟨S_, .i32⟩), .of main_while0b_call1_c] (.of main_while0b_call1_v0 : StableHlo.TRef sig ⟨S1x1024, .f32⟩) ((fun x i => Host.dynamicSlice S1x1024 x (fun k => (i k (Shape.Idx.first h_S_)).toInt) sliceFits_S8192x1024_S1x1024) : (⟨S8192x1024, .f32⟩ : BufTy).Contents (Elt F) → (Fin 2 → (⟨S_, .i32⟩ : BufTy).Contents (Elt F)) → (⟨S1x1024, .f32⟩ : BufTy).Contents (Elt F)),
    StableHlo.reshape main_while0b_call1_v0 main_while0b_v11 (rfl : (.f32 : EltTy) = .f32) shapeCasts_S1x1024_S1024,
    StableHlo.binary main_while0b_v10 main_v3_3 main_while0b_v12 (mulf : (⟨S1024, .f32⟩ : BufTy).Contents (Elt F) → (⟨S1024, .f32⟩ : BufTy).Contents (Elt F) → (⟨S1024, .f32⟩ : BufTy).Contents (Elt F)),
    StableHlo.binary main_while0b_v12 main_while0b_v11 main_while0b_v13 (addf : (⟨S1024, .f32⟩ : BufTy).Contents (Elt F) → (⟨S1024, .f32⟩ : BufTy).Contents (Elt F) → (⟨S1024, .f32⟩ : BufTy).Contents (Elt F)),
    StableHlo.unary main_while0b_v13 main_while0b_call2_v0 (broadcastInDim S1x1024 ![1] bcast_S1024_S1x1024_1 : (⟨S1024, .f32⟩ : BufTy).Contents (Elt F) → (⟨S1x1024, .f32⟩ : BufTy).Contents (Elt F)),
    StableHlo.nullary main_while0b_call2_c (constantI S_ 32 0#32),
    StableHlo.TRef.binaryIndexed (.of main_v3_4 : StableHlo.TRef sig ⟨S8192x1024, .f32⟩) (.of main_while0b_call2_v0 : StableHlo.TRef sig ⟨S1x1024, .f32⟩) ![(.of main_v3_2 : StableHlo.TRef sig ⟨S_, .i32⟩), .of main_while0b_call2_c] (.of main_while0b_v14 : StableHlo.TRef sig ⟨S8192x1024, .f32⟩) ((fun x u i => Host.dynamicUpdateSlice x u (fun k => (i k (Shape.Idx.first h_S_)).toInt) updateFits_S8192x1024_S1x1024) : (⟨S8192x1024, .f32⟩ : BufTy).Contents (Elt F) → (⟨S1x1024, .f32⟩ : BufTy).Contents (Elt F) → (Fin 2 → (⟨S_, .i32⟩ : BufTy).Contents (Elt F)) → (⟨S8192x1024, .f32⟩ : BufTy).Contents (Elt F)),
    StableHlo.unary main_v3_3 main_while0b_call3_v0 (broadcastInDim S1x1024 ![1] bcast_S1024_S1x1024_1 : (⟨S1024, .f32⟩ : BufTy).Contents (Elt F) → (⟨S1x1024, .f32⟩ : BufTy).Contents (Elt F)),
    StableHlo.nullary main_while0b_call3_c (constantI S_ 32 0#32),
    StableHlo.TRef.binaryIndexed (.of main_v3_5 : StableHlo.TRef sig ⟨S8192x1024, .f32⟩) (.of main_while0b_call3_v0 : StableHlo.TRef sig ⟨S1x1024, .f32⟩) ![(.of main_v3_2 : StableHlo.TRef sig ⟨S_, .i32⟩), .of main_while0b_call3_c] (.of main_while0b_v15 : StableHlo.TRef sig ⟨S8192x1024, .f32⟩) ((fun x u i => Host.dynamicUpdateSlice x u (fun k => (i k (Shape.Idx.first h_S_)).toInt) updateFits_S8192x1024_S1x1024) : (⟨S8192x1024, .f32⟩ : BufTy).Contents (Elt F) → (⟨S1x1024, .f32⟩ : BufTy).Contents (Elt F) → (Fin 2 → (⟨S_, .i32⟩ : BufTy).Contents (Elt F)) → (⟨S8192x1024, .f32⟩ : BufTy).Contents (Elt F)),
    StableHlo.nullary main_while0b_c_10 (constantI S_ 32 1#32),
    StableHlo.binary main_v3_2 main_while0b_c_10 main_while0b_v16 (addi : (⟨S_, .i32⟩ : BufTy).Contents (Elt F) → (⟨S_, .i32⟩ : BufTy).Contents (Elt F) → (⟨S_, .i32⟩ : BufTy).Contents (Elt F)),
    StableHlo.unary main_while0b_v16 main_v3_2 id,
    StableHlo.unary main_while0b_v13 main_v3_3 id,
    StableHlo.unary main_while0b_v14 main_v3_4 id,
    StableHlo.unary main_while0b_v15 main_v3_5 id ]
theorem body0Ops_sub : (body0Ops : List (HloOp τ sig (Elt F))).Forall fun op => op.bufs ⊆ tcRefs τ sig :=
  ⟨nullary_bufs_sub .., unaryIndexed_bufs_sub .., reshape_bufs_sub .., nullary_bufs_sub .., unaryIndexed_bufs_sub .., reshape_bufs_sub .., binary_bufs_sub .., binary_bufs_sub .., unary_bufs_sub .., nullary_bufs_sub .., binaryIndexed_bufs_sub .., unary_bufs_sub .., nullary_bufs_sub .., binaryIndexed_bufs_sub .., nullary_bufs_sub .., binary_bufs_sub .., unary_bufs_sub .., unary_bufs_sub .., unary_bufs_sub .., unary_bufs_sub ..⟩
abbrev body0Ops_W : List (Ref sig .tc) := [main_while0b_call0_c, main_while0b_call0_v0, main_while0b_v10, main_while0b_call1_c, main_while0b_call1_v0, main_while0b_v11, main_while0b_v12, main_while0b_v13, main_while0b_call2_v0, main_while0b_call2_c, main_while0b_v14, main_while0b_call3_v0, main_while0b_call3_c, main_while0b_v15, main_while0b_c_10, main_while0b_v16, main_v3_2, main_v3_3, main_v3_4, main_v3_5]
theorem body0Ops_writes : (body0Ops : List (HloOp τ sig (Elt F))).Forall fun op => op.writes ⊆ (body0Ops_W.map (Proc.devRef (τ := τ) .tc)).toFinset :=
  forall_writes_sub_of_map rfl
/-- The list writes only the buffers named. -/
theorem body0_of (V : Valuation τ sig (Elt F)) (r : Ref sig .tc) (h : r ∉ body0Ops_W) : after body0Ops V (Proc.devRef .tc r) = V (Proc.devRef .tc r) :=
  after_of_writes_sub body0Ops V body0Ops_writes h

abbrev cond1Ops : List (HloOp τ sig (Elt F)) :=
  [ StableHlo.nullary main_while1c_c_11 (constantI S_ 32 8192#32),
    StableHlo.binary main_v8_3 main_while1c_c_11 main_while1c_v10 (cmpi .slt : (⟨S_, .i32⟩ : BufTy).Contents (Elt F) → (⟨S_, .i32⟩ : BufTy).Contents (Elt F) → (⟨S_, .i1⟩ : BufTy).Contents (Elt F)) ]
theorem cond1Ops_sub : (cond1Ops : List (HloOp τ sig (Elt F))).Forall fun op => op.bufs ⊆ tcRefs τ sig :=
  ⟨nullary_bufs_sub .., binary_bufs_sub ..⟩
abbrev cond1Ops_W : List (Ref sig .tc) := [main_while1c_c_11, main_while1c_v10]
theorem cond1Ops_writes : (cond1Ops : List (HloOp τ sig (Elt F))).Forall fun op => op.writes ⊆ (cond1Ops_W.map (Proc.devRef (τ := τ) .tc)).toFinset :=
  forall_writes_sub_of_map rfl
/-- The list writes only the buffers named. -/
theorem cond1_of (V : Valuation τ sig (Elt F)) (r : Ref sig .tc) (h : r ∉ cond1Ops_W) : after cond1Ops V (Proc.devRef .tc r) = V (Proc.devRef .tc r) :=
  after_of_writes_sub cond1Ops V cond1Ops_writes h

abbrev body1Ops : List (HloOp τ sig (Elt F)) :=
  [ StableHlo.nullary main_while1b_c_11 (constantI S_ 32 8192#32),
    StableHlo.binary main_while1b_c_11 main_v8_3 main_while1b_v10 (subi : (⟨S_, .i32⟩ : BufTy).Contents (Elt F) → (⟨S_, .i32⟩ : BufTy).Contents (Elt F) → (⟨S_, .i32⟩ : BufTy).Contents (Elt F)),
    StableHlo.nullary main_while1b_c_12 (constantI S_ 32 1#32),
    StableHlo.binary main_while1b_v10 main_while1b_c_12 main_while1b_v11 (subi : (⟨S_, .i32⟩ : BufTy).Contents (Elt F) → (⟨S_, .i32⟩ : BufTy).Contents (Elt F) → (⟨S_, .i32⟩ : BufTy).Contents (Elt F)),
    StableHlo.nullary main_while1b_call4_c (constantI S_ 32 0#32),
    StableHlo.TRef.unaryIndexed (.of main_v8_0 : StableHlo.TRef sig ⟨S8192x1024, .f32⟩) ![(.of main_while1b_v11 : StableHlo.TRef sig ⟨S_, .i32⟩), .of main_while1b_call4_c] (.of main_while1b_call4_v0 : StableHlo.TRef sig ⟨S1x1024, .f32⟩) ((fun x i => Host.dynamicSlice S1x1024 x (fun k => (i k (Shape.Idx.first h_S_)).toInt) sliceFits_S8192x1024_S1x1024) : (⟨S8192x1024, .f32⟩ : BufTy).Contents (Elt F) → (Fin 2 → (⟨S_, .i32⟩ : BufTy).Contents (Elt F)) → (⟨S1x1024, .f32⟩ : BufTy).Contents (Elt F)),
    StableHlo.reshape main_while1b_call4_v0 main_while1b_v12 (rfl : (.f32 : EltTy) = .f32) shapeCasts_S1x1024_S1024,
    StableHlo.nullary main_while1b_call5_c (constantI S_ 32 0#32),
    StableHlo.TRef.unaryIndexed (.of main_v8_1 : StableHlo.TRef sig ⟨S8192x1024, .f32⟩) ![(.of main_while1b_v11 : StableHlo.TRef sig ⟨S_, .i32⟩), .of main_while1b_call5_c] (.of main_while1b_call5_v0 : StableHlo.TRef sig ⟨S1x1024, .f32⟩) ((fun x i => Host.dynamicSlice S1x1024 x (fun k => (i k (Shape.Idx.first h_S_)).toInt) sliceFits_S8192x1024_S1x1024) : (⟨S8192x1024, .f32⟩ : BufTy).Contents (Elt F) → (Fin 2 → (⟨S_, .i32⟩ : BufTy).Contents (Elt F)) → (⟨S1x1024, .f32⟩ : BufTy).Contents (Elt F)),
    StableHlo.reshape main_while1b_call5_v0 main_while1b_v13 (rfl : (.f32 : EltTy) = .f32) shapeCasts_S1x1024_S1024,
    StableHlo.nullary main_while1b_call6_c (constantI S_ 32 0#32),
    StableHlo.TRef.unaryIndexed (.of main_v8_2 : StableHlo.TRef sig ⟨S8192x1024, .f32⟩) ![(.of main_while1b_v11 : StableHlo.TRef sig ⟨S_, .i32⟩), .of main_while1b_call6_c] (.of main_while1b_call6_v0 : StableHlo.TRef sig ⟨S1x1024, .f32⟩) ((fun x i => Host.dynamicSlice S1x1024 x (fun k => (i k (Shape.Idx.first h_S_)).toInt) sliceFits_S8192x1024_S1x1024) : (⟨S8192x1024, .f32⟩ : BufTy).Contents (Elt F) → (Fin 2 → (⟨S_, .i32⟩ : BufTy).Contents (Elt F)) → (⟨S1x1024, .f32⟩ : BufTy).Contents (Elt F)),
    StableHlo.reshape main_while1b_call6_v0 main_while1b_v14 (rfl : (.f32 : EltTy) = .f32) shapeCasts_S1x1024_S1024,
    StableHlo.binary main_v8_4 main_while1b_v12 main_while1b_v15 (addf : (⟨S1024, .f32⟩ : BufTy).Contents (Elt F) → (⟨S1024, .f32⟩ : BufTy).Contents (Elt F) → (⟨S1024, .f32⟩ : BufTy).Contents (Elt F)),
    StableHlo.binary main_while1b_v14 main_while1b_v15 main_while1b_v16 (mulf : (⟨S1024, .f32⟩ : BufTy).Contents (Elt F) → (⟨S1024, .f32⟩ : BufTy).Contents (Elt F) → (⟨S1024, .f32⟩ : BufTy).Contents (Elt F)),
    StableHlo.binary main_while1b_v15 main_while1b_v13 main_while1b_v17 (mulf : (⟨S1024, .f32⟩ : BufTy).Contents (Elt F) → (⟨S1024, .f32⟩ : BufTy).Contents (Elt F) → (⟨S1024, .f32⟩ : BufTy).Contents (Elt F)),
    StableHlo.unary main_while1b_v17 main_while1b_call7_v0 (broadcastInDim S1x1024 ![1] bcast_S1024_S1x1024_1 : (⟨S1024, .f32⟩ : BufTy).Contents (Elt F) → (⟨S1x1024, .f32⟩ : BufTy).Contents (Elt F)),
    StableHlo.nullary main_while1b_call7_c (constantI S_ 32 0#32),
    StableHlo.TRef.binaryIndexed (.of main_v8_5 : StableHlo.TRef sig ⟨S8192x1024, .f32⟩) (.of main_while1b_call7_v0 : StableHlo.TRef sig ⟨S1x1024, .f32⟩) ![(.of main_while1b_v11 : StableHlo.TRef sig ⟨S_, .i32⟩), .of main_while1b_call7_c] (.of main_while1b_v18 : StableHlo.TRef sig ⟨S8192x1024, .f32⟩) ((fun x u i => Host.dynamicUpdateSlice x u (fun k => (i k (Shape.Idx.first h_S_)).toInt) updateFits_S8192x1024_S1x1024) : (⟨S8192x1024, .f32⟩ : BufTy).Contents (Elt F) → (⟨S1x1024, .f32⟩ : BufTy).Contents (Elt F) → (Fin 2 → (⟨S_, .i32⟩ : BufTy).Contents (Elt F)) → (⟨S8192x1024, .f32⟩ : BufTy).Contents (Elt F)),
    StableHlo.unary main_while1b_v15 main_while1b_call8_v0 (broadcastInDim S1x1024 ![1] bcast_S1024_S1x1024_1 : (⟨S1024, .f32⟩ : BufTy).Contents (Elt F) → (⟨S1x1024, .f32⟩ : BufTy).Contents (Elt F)),
    StableHlo.nullary main_while1b_call8_c (constantI S_ 32 0#32),
    StableHlo.TRef.binaryIndexed (.of main_v8_6 : StableHlo.TRef sig ⟨S8192x1024, .f32⟩) (.of main_while1b_call8_v0 : StableHlo.TRef sig ⟨S1x1024, .f32⟩) ![(.of main_while1b_v11 : StableHlo.TRef sig ⟨S_, .i32⟩), .of main_while1b_call8_c] (.of main_while1b_v19 : StableHlo.TRef sig ⟨S8192x1024, .f32⟩) ((fun x u i => Host.dynamicUpdateSlice x u (fun k => (i k (Shape.Idx.first h_S_)).toInt) updateFits_S8192x1024_S1x1024) : (⟨S8192x1024, .f32⟩ : BufTy).Contents (Elt F) → (⟨S1x1024, .f32⟩ : BufTy).Contents (Elt F) → (Fin 2 → (⟨S_, .i32⟩ : BufTy).Contents (Elt F)) → (⟨S8192x1024, .f32⟩ : BufTy).Contents (Elt F)),
    StableHlo.nullary main_while1b_c_13 (constantI S_ 32 1#32),
    StableHlo.binary main_v8_3 main_while1b_c_13 main_while1b_v20 (addi : (⟨S_, .i32⟩ : BufTy).Contents (Elt F) → (⟨S_, .i32⟩ : BufTy).Contents (Elt F) → (⟨S_, .i32⟩ : BufTy).Contents (Elt F)),
    StableHlo.unary main_while1b_v20 main_v8_3 id,
    StableHlo.unary main_while1b_v16 main_v8_4 id,
    StableHlo.unary main_while1b_v18 main_v8_5 id,
    StableHlo.unary main_while1b_v19 main_v8_6 id ]
theorem body1Ops_sub : (body1Ops : List (HloOp τ sig (Elt F))).Forall fun op => op.bufs ⊆ tcRefs τ sig :=
  ⟨nullary_bufs_sub .., binary_bufs_sub .., nullary_bufs_sub .., binary_bufs_sub .., nullary_bufs_sub .., unaryIndexed_bufs_sub .., reshape_bufs_sub .., nullary_bufs_sub .., unaryIndexed_bufs_sub .., reshape_bufs_sub .., nullary_bufs_sub .., unaryIndexed_bufs_sub .., reshape_bufs_sub .., binary_bufs_sub .., binary_bufs_sub .., binary_bufs_sub .., unary_bufs_sub .., nullary_bufs_sub .., binaryIndexed_bufs_sub .., unary_bufs_sub .., nullary_bufs_sub .., binaryIndexed_bufs_sub .., nullary_bufs_sub .., binary_bufs_sub .., unary_bufs_sub .., unary_bufs_sub .., unary_bufs_sub .., unary_bufs_sub ..⟩
abbrev body1Ops_W : List (Ref sig .tc) := [main_while1b_c_11, main_while1b_v10, main_while1b_c_12, main_while1b_v11, main_while1b_call4_c, main_while1b_call4_v0, main_while1b_v12, main_while1b_call5_c, main_while1b_call5_v0, main_while1b_v13, main_while1b_call6_c, main_while1b_call6_v0, main_while1b_v14, main_while1b_v15, main_while1b_v16, main_while1b_v17, main_while1b_call7_v0, main_while1b_call7_c, main_while1b_v18, main_while1b_call8_v0, main_while1b_call8_c, main_while1b_v19, main_while1b_c_13, main_while1b_v20, main_v8_3, main_v8_4, main_v8_5, main_v8_6]
theorem body1Ops_writes : (body1Ops : List (HloOp τ sig (Elt F))).Forall fun op => op.writes ⊆ (body1Ops_W.map (Proc.devRef (τ := τ) .tc)).toFinset :=
  forall_writes_sub_of_map rfl
/-- The list writes only the buffers named. -/
theorem body1_of (V : Valuation τ sig (Elt F)) (r : Ref sig .tc) (h : r ∉ body1Ops_W) : after body1Ops V (Proc.devRef .tc r) = V (Proc.devRef .tc r) :=
  after_of_writes_sub body1Ops V body1Ops_writes h

abbrev preOps : List (HloOp τ sig (Elt F)) :=
  [ StableHlo.reshape main_arg2 main_v0 (rfl : (.f32 : EltTy) = .f32) shapeCasts_S1x1024_S1024,
    StableHlo.nullary main_cst (constant S_ .f32 0x00000000#32),
    StableHlo.unary main_cst main_v1 (broadcastInDim S8192x1024 ![] bcast_S_S8192x1024 : (⟨S_, .f32⟩ : BufTy).Contents (Elt F) → (⟨S8192x1024, .f32⟩ : BufTy).Contents (Elt F)),
    StableHlo.nullary main_cst_0 (constant S_ .f32 0x00000000#32),
    StableHlo.unary main_cst_0 main_v2 (broadcastInDim S8192x1024 ![] bcast_S_S8192x1024 : (⟨S_, .f32⟩ : BufTy).Contents (Elt F) → (⟨S8192x1024, .f32⟩ : BufTy).Contents (Elt F)),
    StableHlo.nullary main_c (constantI S_ 32 0#32),
    StableHlo.unary main_arg0 main_v3_0 id,
    StableHlo.unary main_arg1 main_v3_1 id,
    StableHlo.unary main_c main_v3_2 id,
    StableHlo.unary main_v0 main_v3_3 id,
    StableHlo.unary main_v1 main_v3_4 id,
    StableHlo.unary main_v2 main_v3_5 id ]
theorem preOps_sub : (preOps : List (HloOp τ sig (Elt F))).Forall fun op => op.bufs ⊆ tcRefs τ sig :=
  ⟨reshape_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub ..⟩
abbrev preOps_W : List (Ref sig .tc) := [main_v0, main_cst, main_v1, main_cst_0, main_v2, main_c, main_v3_0, main_v3_1, main_v3_2, main_v3_3, main_v3_4, main_v3_5]
theorem preOps_writes : (preOps : List (HloOp τ sig (Elt F))).Forall fun op => op.writes ⊆ (preOps_W.map (Proc.devRef (τ := τ) .tc)).toFinset :=
  forall_writes_sub_of_map rfl
/-- The list writes only the buffers named. -/
theorem pre_of (V : Valuation τ sig (Elt F)) (r : Ref sig .tc) (h : r ∉ preOps_W) : after preOps V (Proc.devRef .tc r) = V (Proc.devRef .tc r) :=
  after_of_writes_sub preOps V preOps_writes h

abbrev midOps : List (HloOp τ sig (Elt F)) :=
  [ StableHlo.unary main_v3_3 main_v4 (broadcastInDim S1x1024 ![1] bcast_S1024_S1x1024_1 : (⟨S1024, .f32⟩ : BufTy).Contents (Elt F) → (⟨S1x1024, .f32⟩ : BufTy).Contents (Elt F)),
    StableHlo.nullary main_cst_1 (constant S_ .f32 0x00000000#32),
    StableHlo.binary main_arg4 main_cst_1 main_v5 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F)),
    StableHlo.nullary main_cst_2 (constant S_ .f32 0x00000000#32),
    StableHlo.unary main_cst_2 main_v6 (broadcastInDim S8192x1024 ![] bcast_S_S8192x1024 : (⟨S_, .f32⟩ : BufTy).Contents (Elt F) → (⟨S8192x1024, .f32⟩ : BufTy).Contents (Elt F)),
    StableHlo.nullary main_cst_3 (constant S_ .f32 0x00000000#32),
    StableHlo.unary main_cst_3 main_v7 (broadcastInDim S8192x1024 ![] bcast_S_S8192x1024 : (⟨S_, .f32⟩ : BufTy).Contents (Elt F) → (⟨S8192x1024, .f32⟩ : BufTy).Contents (Elt F)),
    StableHlo.nullary main_c_4 (constantI S_ 32 0#32),
    StableHlo.unary main_arg3 main_v8_0 id,
    StableHlo.unary main_v3_5 main_v8_1 id,
    StableHlo.unary main_arg0 main_v8_2 id,
    StableHlo.unary main_c_4 main_v8_3 id,
    StableHlo.unary main_v5 main_v8_4 id,
    StableHlo.unary main_v6 main_v8_5 id,
    StableHlo.unary main_v7 main_v8_6 id ]
theorem midOps_sub : (midOps : List (HloOp τ sig (Elt F))).Forall fun op => op.bufs ⊆ tcRefs τ sig :=
  ⟨unary_bufs_sub .., nullary_bufs_sub .., binary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub ..⟩
abbrev midOps_W : List (Ref sig .tc) := [main_v4, main_cst_1, main_v5, main_cst_2, main_v6, main_cst_3, main_v7, main_c_4, main_v8_0, main_v8_1, main_v8_2, main_v8_3, main_v8_4, main_v8_5, main_v8_6]
theorem midOps_writes : (midOps : List (HloOp τ sig (Elt F))).Forall fun op => op.writes ⊆ (midOps_W.map (Proc.devRef (τ := τ) .tc)).toFinset :=
  forall_writes_sub_of_map rfl
/-- The list writes only the buffers named. -/
theorem mid_of (V : Valuation τ sig (Elt F)) (r : Ref sig .tc) (h : r ∉ midOps_W) : after midOps V (Proc.devRef .tc r) = V (Proc.devRef .tc r) :=
  after_of_writes_sub midOps V midOps_writes h

abbrev postOps : List (HloOp τ sig (Elt F)) :=
  [ StableHlo.unary main_v8_4 main_v9 (broadcastInDim S1x1024 ![1] bcast_S1024_S1x1024_1 : (⟨S1024, .f32⟩ : BufTy).Contents (Elt F) → (⟨S1x1024, .f32⟩ : BufTy).Contents (Elt F)) ]
theorem postOps_sub : (postOps : List (HloOp τ sig (Elt F))).Forall fun op => op.bufs ⊆ tcRefs τ sig :=
  unary_bufs_sub ..
abbrev postOps_W : List (Ref sig .tc) := [main_v9]
theorem postOps_writes : (postOps : List (HloOp τ sig (Elt F))).Forall fun op => op.writes ⊆ (postOps_W.map (Proc.devRef (τ := τ) .tc)).toFinset :=
  forall_writes_sub_of_map rfl
/-- The list writes only the buffers named. -/
theorem post_of (V : Valuation τ sig (Elt F)) (r : Ref sig .tc) (h : r ∉ postOps_W) : after postOps V (Proc.devRef .tc r) = V (Proc.devRef .tc r) :=
  after_of_writes_sub postOps V postOps_writes h

/-! ## @main and the bodies are their stretches -/

theorem body0_chain : main_while0_body (F := F) = Pipeline.chain [seq body0Ops] := by
  rewrite [chain_seq_cons, Pipeline.chain_nil]
  chain_rfl
theorem body1_chain : main_while1_body (F := F) = Pipeline.chain [seq body1Ops] := by
  rewrite [chain_seq_cons, Pipeline.chain_nil]
  chain_rfl
theorem main_chain (c : Dev nD) : main (F := F) c = Pipeline.chain [seq preOps, HostLoop.enter 0, seq midOps, HostLoop.enter 1, seq postOps] := by
  rewrite [chain_seq_cons, Pipeline.chain_cons, chain_seq_cons, Pipeline.chain_cons, chain_seq_cons, Pipeline.chain_nil]
  chain_rfl

theorem body0_fresh : (body0Ops : List (HloOp τ sig (Elt F))).Forall fun op => op.fresh = ∅ := by
  simp only [List.Forall]; repeat' constructor
theorem body0_plain : Plain [(body0Ops : List (HloOp τ sig (Elt F)))] := .cons body0Ops_sub .nil (List.forall_iff_forall_mem.mp body0_fresh)
theorem body1_fresh : (body1Ops : List (HloOp τ sig (Elt F))).Forall fun op => op.fresh = ∅ := by
  simp only [List.Forall]; repeat' constructor
theorem body1_plain : Plain [(body1Ops : List (HloOp τ sig (Elt F)))] := .cons body1Ops_sub .nil (List.forall_iff_forall_mem.mp body1_fresh)
theorem pre_fresh : (preOps : List (HloOp τ sig (Elt F))).Forall fun op => op.fresh = ∅ := by
  simp only [List.Forall]; repeat' constructor
theorem pre_plain : Plain [(preOps : List (HloOp τ sig (Elt F)))] := .cons preOps_sub .nil (List.forall_iff_forall_mem.mp pre_fresh)
theorem mid_fresh : (midOps : List (HloOp τ sig (Elt F))).Forall fun op => op.fresh = ∅ := by
  simp only [List.Forall]; repeat' constructor
theorem mid_plain : Plain [(midOps : List (HloOp τ sig (Elt F)))] := .cons midOps_sub .nil (List.forall_iff_forall_mem.mp mid_fresh)
theorem post_fresh : (postOps : List (HloOp τ sig (Elt F))).Forall fun op => op.fresh = ∅ := by
  simp only [List.Forall]; repeat' constructor
theorem post_plain : Plain [(postOps : List (HloOp τ sig (Elt F)))] := .cons postOps_sub .nil (List.forall_iff_forall_mem.mp post_fresh)

/-! ## The contents at each boundary -/

variable (m : (ℓ : Loc nD τ sig) → Buf (Elt F) ℓ)

/-- The trips of either loop: one per row. -/
abbrev nT : ℕ := 8192
/-- The buffers when the first loop is entered; before the `k`-th run of its condition; the same of the second loop; at the end. -/
abbrev Went0 : Dev nD → Valuation τ sig (Elt F) := fun c => after preOps (launchContents m c)
abbrev Wk0 (k : ℕ) (c : Dev nD) : Valuation τ sig (Elt F) := atTrip cond0Ops [body0Ops] (Went0 m) k c
abbrev Went1 : Dev nD → Valuation τ sig (Elt F) := fun c => after midOps (after cond0Ops (Wk0 m nT c))
abbrev Wk1 (k : ℕ) (c : Dev nD) : Valuation τ sig (Elt F) := atTrip cond1Ops [body1Ops] (Went1 m) k c
abbrev Wend : Dev nD → Valuation τ sig (Elt F) := fun c => after postOps (after cond1Ops (Wk1 m nT c))

theorem Wk0_succ (k : ℕ) (c : Dev nD) : Wk0 m (k + 1) c = after body0Ops (after cond0Ops (Wk0 m k c)) := rfl
theorem Wk1_succ (k : ℕ) (c : Dev nD) : Wk1 m (k + 1) c = after body1Ops (after cond1Ops (Wk1 m k c)) := rfl

/-! ## The trip counters and the conditions -/

theorem ctr0_step (X : Valuation τ sig (Elt F)) :
    after body0Ops X (Proc.devRef .tc main_v3_2) = addi (X (Proc.devRef .tc main_v3_2)) (constantI S_ 32 1#32) := by
  after_results
  rfl
theorem ctr0_entry (X : Valuation τ sig (Elt F)) : after preOps X (Proc.devRef .tc main_v3_2) = fun _ => (0#32 : BitVec 32) := by
  after_results
  rfl
theorem ctr1_step (X : Valuation τ sig (Elt F)) :
    after body1Ops X (Proc.devRef .tc main_v8_3) = addi (X (Proc.devRef .tc main_v8_3)) (constantI S_ 32 1#32) := by
  after_results
  rfl
theorem ctr1_entry (X : Valuation τ sig (Elt F)) : after midOps X (Proc.devRef .tc main_v8_3) = fun _ => (0#32 : BitVec 32) := by
  after_results
  rfl

theorem atK_ctr0 (c : Dev nD) : ∀ k, Wk0 m k c (Proc.devRef .tc main_v3_2) = fun _ => Scf.iv 0#32 1#32 k
  | 0 => by exact (ctr0_entry _).trans (by rw [Scf.iv_zero])
  | k + 1 => by
    rw [Wk0_succ, ctr0_step, cond0_of _ _ (by decide), atK_ctr0 c k, Scf.iv_succ]
    rfl
theorem atK_ctr1 (c : Dev nD) : ∀ k, Wk1 m k c (Proc.devRef .tc main_v8_3) = fun _ => Scf.iv 0#32 1#32 k
  | 0 => by exact (ctr1_entry _).trans (by rw [Scf.iv_zero])
  | k + 1 => by
    rw [Wk1_succ, ctr1_step, cond1_of _ _ (by decide), atK_ctr1 c k, Scf.iv_succ]
    rfl

set_option backward.isDefEq.respectTransparency.types false in
/-- The first loop's condition holds exactly before its first `nT` trips. -/
theorem cond0_spec (Rc : Dev nD → sProp 𝕄) : LoopCond (pcfgs (F := F)) defs₀ Variants.none loops Rc (main_while0_cond (F := F)) cond0Ops [body0Ops] (Went0 m) nT := by
  intro k hk c bd
  have hctr := atK_ctr0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk0 m k c) main_v3_2 HostLoop.idx0)
        (HloOp.result _ (Wk0 m k c) main_while0c_c_10 HostLoop.idx0) = 1#1) (k < nT)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitl [Hh]; · rw [after_cons, after_cons, after_nil]; iexact Hh
  iexact HR

set_option backward.isDefEq.respectTransparency.types false in
/-- The second loop's condition holds exactly before its first `nT` trips. -/
theorem cond1_spec (Rc : Dev nD → sProp 𝕄) : LoopCond (pcfgs (F := F)) defs₀ Variants.none loops Rc (main_while1_cond (F := F)) cond1Ops [body1Ops] (Went1 m) nT := by
  intro k hk c bd
  have hctr := atK_ctr1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk1 m k c) main_v8_3 HostLoop.idx0)
        (HloOp.result _ (Wk1 m k c) main_while1c_c_11 HostLoop.idx0) = 1#1) (k < nT)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitl [Hh]; · rw [after_cons, after_cons, after_nil]; iexact Hh
  iexact HR

/-! ## The run -/

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

/-- What is carried unchanged beside the buffers. -/
abbrev Rw (c : Dev nD) : sProp 𝕄 := iprop(∃ W, owes (c : Thread nD τ) (0 : CellTallies nD τ sig Unit) W)

abbrev KitSeg : Type 1 := CSeg (pcfgs (F := F)) adm defs₀ Variants.none L lv loops tk

/-- The five segments: the stretch before the loops, the first loop, the stretch between them, the second loop, the stretch after them. -/
abbrev seg0 : List (KitSeg (F := F)) := segsOf _ _ _ _ _ _ _ _ Rw [preOps] pre_plain (launchContents m)
abbrev loop0 : KitSeg (F := F) := loopSeg _ _ _ _ _ _ _ _ 0 (main_while0_cond (F := F)) main_while0_body rfl cond0Ops [body0Ops] body0_plain body0_chain nT (Went0 m) Rw (cond0_spec m Rw)
abbrev seg1 : List (KitSeg (F := F)) := segsOf _ _ _ _ _ _ _ _ Rw [midOps] mid_plain (fun c => after cond0Ops (Wk0 m nT c))
abbrev loop1 : KitSeg (F := F) := loopSeg _ _ _ _ _ _ _ _ 1 (main_while1_cond (F := F)) main_while1_body rfl cond1Ops [body1Ops] body1_plain body1_chain nT (Went1 m) Rw (cond1_spec m Rw)
abbrev seg2 : List (KitSeg (F := F)) := segsOf _ _ _ _ _ _ _ _ Rw [postOps] post_plain (fun c => after cond1Ops (Wk1 m nT c))
def segs : List (KitSeg (F := F)) := seg0 m ++ loop0 m :: (seg1 m ++ loop1 m :: seg2 m)

theorem segs_prog : (segs m).map CSeg.prog = [seq preOps, HostLoop.enter 0, seq midOps, HostLoop.enter 1, seq postOps] := rfl

theorem segs_chains : CSeg.Chains (fun c => iprop(held (c : Thread nD τ) (ucRefs τ sig) (launchContents m c) ∗ Rw c)) (segs m)
    (fun c => iprop(iprop(held (c : Thread nD τ) (ucRefs τ sig) (Wend m c)) ∗ ∃ W, owes (c : Thread nD τ) (0 : CellTallies nD τ sig Unit) W)) := by
  unfold segs
  exact CSeg.Chains.append (segsOf_chains _ _ _ _ _ _ _ _ Rw [preOps] pre_plain _)
    ⟨fun _ => .rfl, CSeg.Chains.append (segsOf_chains _ _ _ _ _ _ _ _ Rw [midOps] mid_plain _)
      ⟨fun _ => .rfl, segsOf_chains _ _ _ _ _ _ _ _ Rw [postOps] post_plain _⟩⟩

/-- Every run ends; every buffer that holds a value of the program ends at its fold, and the counters at zero. -/
theorem run_main (ρ : Dev nD → PrngReg) :
    θ_run (defs (F := F)) (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = Wend m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs adm (fun k => k.1.elim0) defs₀ Variants.none L lv loops tk m ρ main (segs m)
    (fun c Q => by
      rw [main_chain c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ BI.bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (Wend m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Wend m c b)
    (hfin := fun c s' => by
      unfold held
      iintro ⟨Hh, HSI⟩
      ihave Hr := (pointsTo_read_all (ucRefs τ sig) (fun b => ((c : Dev nD), b)) (fun b => Wend m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), funext fun g => by
      rcases g with ⟨⟨c, p⟩, x⟩
      cases p with
      | tc => cases x with
        | reg i => exact i.elim0
        | dma i => exact i.elim0
      | scScalar => exact hs _ (.inl (by simp))
      | scVector => exact hs _ (.inl (by simp))⟩)

/-! ## The arguments -/

abbrev argRefs : List (Ref sig .tc) := [main_arg0, main_arg1, main_arg2, main_arg3, main_arg4]

theorem Wk0_arg (c : Dev nD) : ∀ k, ∀ a ∈ argRefs, Wk0 m k c (Proc.devRef .tc a) = m ((c : Thread nD τ).loc a)
  | 0 => fun a ha => (pre_of (launchContents m c) a (by revert a; decide)).trans rfl
  | k + 1 => fun a ha => by
    rw [Wk0_succ, body0_of _ _ (by revert a; decide), cond0_of _ _ (by revert a; decide)]
    exact Wk0_arg c k a ha
theorem Wk1_arg (c : Dev nD) : ∀ k, ∀ a ∈ argRefs, Wk1 m k c (Proc.devRef .tc a) = m ((c : Thread nD τ).loc a)
  | 0 => fun a ha => ((mid_of _ a (by revert a; decide)).trans (cond0_of _ a (by revert a; decide))).trans (Wk0_arg m c nT a ha)
  | k + 1 => fun a ha => by
    rw [Wk1_succ, body1_of _ _ (by revert a; decide), cond1_of _ _ (by revert a; decide)]
    exact Wk1_arg c k a ha
theorem Wend_arg (c : Dev nD) : ∀ a ∈ argRefs, Wend m c (Proc.devRef .tc a) = m ((c : Thread nD τ).loc a) := fun a ha =>
  ((post_of _ a (by revert a; decide)).trans (cond1_of _ a (by revert a; decide))).trans (Wk1_arg m c nT a ha)

end Cert.Proof.ScanRef

end
-- ==== Proof.GroupVal.lean ====
/-
  A group of eight rows over the reals: the three doubling steps with the carry are the recurrence row by row, forwards and
  backwards. The multipliers and the terms are real; the carry may be infinite.
-/
module

public import proofs.«01_k».proof.Proof.Tiles
public import proofs.«01_k».proof.Proof.Gen.KernelIdeal.Skeleton
public import Idealize.ShloMosaic.Lib.ValueIdx
public import Mathlib.Data.EReal.Operations

@[expose] public section

noncomputable section

namespace Cert.Proof.Scan

open Cert.KernelIdeal Cert.KernelIdeal.Gen
open Idealize.ShloMosaic Idealize.ShloMosaic.ValueIdx

/-! ## Extended reals: a real multiplier distributes over a sum with a real term -/

theorem coe_mul_coe_add (a q : ℝ) (y : EReal) : (a : EReal) * ((q : EReal) + y) = ((a * q : ℝ) : EReal) + (a : EReal) * y := by
  induction y with
  | coe y => rw [← EReal.coe_add, ← EReal.coe_mul, ← EReal.coe_mul, ← EReal.coe_add]; congr 1; ring
  | top =>
    rw [EReal.coe_add_top]
    rcases lt_trichotomy a 0 with h | h | h
    · rw [EReal.coe_mul_top_of_neg h, EReal.add_bot]
    · subst h; simp
    · rw [EReal.coe_mul_top_of_pos h, EReal.coe_add_top]
  | bot =>
    rw [EReal.add_bot]
    rcases lt_trichotomy a 0 with h | h | h
    · rw [EReal.coe_mul_bot_of_neg h, EReal.coe_add_top]
    · subst h; simp
    · rw [EReal.coe_mul_bot_of_pos h, EReal.add_bot]

/-- One forward step on a value affine in the carry. -/
theorem aff_step (a b q p : ℝ) (c : EReal) : (a : EReal) * (((q : ℝ) : EReal) + ((p : ℝ) : EReal) * c) + (b : EReal) = ((b + a * q : ℝ) : EReal) + ((a * p : ℝ) : EReal) * c := by
  rw [coe_mul_coe_add, ← mul_assoc, ← EReal.coe_mul, add_right_comm, ← EReal.coe_add, add_comm b]

/-- One backward step on a value affine in the carry. -/
theorem aff_back (a d q p : ℝ) (c : EReal) : (a : EReal) * ((((q : ℝ) : EReal) + ((p : ℝ) : EReal) * c) + (d : EReal)) = ((a * d + a * q : ℝ) : EReal) + ((a * p : ℝ) : EReal) * c := by
  rw [add_right_comm, ← EReal.coe_add, coe_mul_coe_add, ← mul_assoc, ← EReal.coe_mul]
  congr 2; ring

theorem aff_congr {q q' p p' : ℝ} {c : EReal} (hq : q = q') (hp : p = p') : (q : EReal) + (p : EReal) * c = (q' : EReal) + (p' : EReal) * c := by rw [hq, hp]

/-! ## The doubling steps at one column -/

def upB (s : ℕ) (d : Fin 8) (A B : Fin 8 → EReal) (p : Fin 8) : EReal := if s ≤ p.val then B p + A p * B (p - d) else B p
def upA (s : ℕ) (d : Fin 8) (A : Fin 8 → EReal) (p : Fin 8) : EReal := if s ≤ p.val then A p * A (p - d) else A p
def dnB (s : ℕ) (d : Fin 8) (A B : Fin 8 → EReal) (p : Fin 8) : EReal := if p.val < s then B p + A p * B (p + d) else B p
def dnA (s : ℕ) (d : Fin 8) (A : Fin 8 → EReal) (p : Fin 8) : EReal := if p.val < s then A p * A (p + d) else A p

def fwdB (A B : Fin 8 → EReal) : Fin 8 → EReal := upB 4 4 (upA 2 2 (upA 1 1 A)) (upB 2 2 (upA 1 1 A) (upB 1 1 A B))
def fwdA (A : Fin 8 → EReal) : Fin 8 → EReal := upA 4 4 (upA 2 2 (upA 1 1 A))
def bwdB (A B : Fin 8 → EReal) : Fin 8 → EReal := dnB 4 4 (dnA 6 2 (dnA 7 1 A)) (dnB 6 2 (dnA 7 1 A) (dnB 7 1 A B))
def bwdA (A : Fin 8 → EReal) : Fin 8 → EReal := dnA 4 4 (dnA 6 2 (dnA 7 1 A))

/-- Forwards: the doubling steps and the carry give the recurrence's values. -/
theorem fwd_seq (α β : Fin 8 → ℝ) (c : EReal) (s : ℕ → EReal) (h0 : s 0 = c) (hs : ∀ p : Fin 8, s (p.val + 1) = (α p : EReal) * s p.val + (β p : EReal)) (p : Fin 8) :
    fwdB (fun q => (α q : EReal)) (fun q => (β q : EReal)) p + fwdA (fun q => (α q : EReal)) p * c = s (p.val + 1) := by
  have e1 : s 1 = ((β 0 : ℝ) : EReal) + ((α 0 : ℝ) : EReal) * c := by
    refine (hs 0).trans ?_; show (α 0 : EReal) * s 0 + _ = _; rw [h0, add_comm]
  have e2 := hs 1; change s 2 = _ * s 1 + _ at e2; rw [e1, aff_step] at e2
  have e3 := hs 2; change s 3 = _ * s 2 + _ at e3; rw [e2, aff_step] at e3
  have e4 := hs 3; change s 4 = _ * s 3 + _ at e4; rw [e3, aff_step] at e4
  have e5 := hs 4; change s 5 = _ * s 4 + _ at e5; rw [e4, aff_step] at e5
  have e6 := hs 5; change s 6 = _ * s 5 + _ at e6; rw [e5, aff_step] at e6
  have e7 := hs 6; change s 7 = _ * s 6 + _ at e7; rw [e6, aff_step] at e7
  have e8 := hs 7; change s 8 = _ * s 7 + _ at e8; rw [e7, aff_step] at e8
  match p with
  | 0 => show _ = s 1; rw [e1]; simp [fwdB, fwdA, upB, upA, ← EReal.coe_mul, ← EReal.coe_add]
  | 1 => show _ = s 2; rw [e2]; simp [fwdB, fwdA, upB, upA, ← EReal.coe_mul, ← EReal.coe_add]
  | 2 => show _ = s 3; rw [e3]; simp [fwdB, fwdA, upB, upA, ← EReal.coe_mul, ← EReal.coe_add]; exact aff_congr (by ring) (by ring)
  | 3 => show _ = s 4; rw [e4]; simp [fwdB, fwdA, upB, upA, ← EReal.coe_mul, ← EReal.coe_add]; exact aff_congr (by ring) (by ring)
  | 4 => show _ = s 5; rw [e5]; simp [fwdB, fwdA, upB, upA, ← EReal.coe_mul, ← EReal.coe_add]; exact aff_congr (by ring) (by ring)
  | 5 => show _ = s 6; rw [e6]; simp [fwdB, fwdA, upB, upA, ← EReal.coe_mul, ← EReal.coe_add]; exact aff_congr (by ring) (by ring)
  | 6 => show _ = s 7; rw [e7]; simp [fwdB, fwdA, upB, upA, ← EReal.coe_mul, ← EReal.coe_add]; exact aff_congr (by ring) (by ring)
  | 7 => show _ = s 8; rw [e8]; simp [fwdB, fwdA, upB, upA, ← EReal.coe_mul, ← EReal.coe_add]; exact aff_congr (by ring) (by ring)

/-- Backwards: the same, the rows taken last to first and the terms multiplied as they enter. -/
theorem bwd_seq (α δ : Fin 8 → ℝ) (c : EReal) (s : ℕ → EReal) (h0 : s 0 = c) (hs : ∀ p : Fin 8, s (p.val + 1) = (α (7 - p) : EReal) * (s p.val + (δ (7 - p) : EReal))) (p : Fin 8) :
    bwdB (fun q => (α q : EReal)) (fun q => (α q : EReal) * (δ q : EReal)) p + bwdA (fun q => (α q : EReal)) p * c = s (8 - p.val) := by
  have e1 : s 1 = ((α 7 * δ 7 : ℝ) : EReal) + ((α 7 : ℝ) : EReal) * c := by
    refine (hs 0).trans ?_; show (α 7 : EReal) * (s 0 + (δ 7 : EReal)) = _; rw [h0, add_comm, coe_mul_coe_add]
  have e2 := hs 1; change s 2 = (α 6 : EReal) * (s 1 + (δ 6 : EReal)) at e2; rw [e1, aff_back] at e2
  have e3 := hs 2; change s 3 = (α 5 : EReal) * (s 2 + (δ 5 : EReal)) at e3; rw [e2, aff_back] at e3
  have e4 := hs 3; change s 4 = (α 4 : EReal) * (s 3 + (δ 4 : EReal)) at e4; rw [e3, aff_back] at e4
  have e5 := hs 4; change s 5 = (α 3 : EReal) * (s 4 + (δ 3 : EReal)) at e5; rw [e4, aff_back] at e5
  have e6 := hs 5; change s 6 = (α 2 : EReal) * (s 5 + (δ 2 : EReal)) at e6; rw [e5, aff_back] at e6
  have e7 := hs 6; change s 7 = (α 1 : EReal) * (s 6 + (δ 1 : EReal)) at e7; rw [e6, aff_back] at e7
  have e8 := hs 7; change s 8 = (α 0 : EReal) * (s 7 + (δ 0 : EReal)) at e8; rw [e7, aff_back] at e8
  match p with
  | 7 => show _ = s 1; rw [e1]; simp [bwdB, bwdA, dnB, dnA, ← EReal.coe_mul, ← EReal.coe_add]
  | 6 => show _ = s 2; rw [e2]; simp [bwdB, bwdA, dnB, dnA, ← EReal.coe_mul, ← EReal.coe_add]
  | 5 => show _ = s 3; rw [e3]; simp [bwdB, bwdA, dnB, dnA, ← EReal.coe_mul, ← EReal.coe_add]; exact aff_congr (by ring) (by ring)
  | 4 => show _ = s 4; rw [e4]; simp [bwdB, bwdA, dnB, dnA, ← EReal.coe_mul, ← EReal.coe_add]; exact aff_congr (by ring) (by ring)
  | 3 => show _ = s 5; rw [e5]; simp [bwdB, bwdA, dnB, dnA, ← EReal.coe_mul, ← EReal.coe_add]; exact aff_congr (by ring) (by ring)
  | 2 => show _ = s 6; rw [e6]; simp [bwdB, bwdA, dnB, dnA, ← EReal.coe_mul, ← EReal.coe_add]; exact aff_congr (by ring) (by ring)
  | 1 => show _ = s 7; rw [e7]; simp [bwdB, bwdA, dnB, dnA, ← EReal.coe_mul, ← EReal.coe_add]; exact aff_congr (by ring) (by ring)
  | 0 => show _ = s 8; rw [e8]; simp [bwdB, bwdA, dnB, dnA, ← EReal.coe_mul, ← EReal.coe_add]; exact aff_congr (by ring) (by ring)

/-! ## The operations at an element -/

/-- Column `j` of a group. -/
abbrev colO (X : Oct Ideal) (j : Fin 1024) : Fin 8 → EReal := fun q => X (ix2 q j)

theorem rot_apply (n : BitVec 32) (d : Fin 8) (hd : n.toNat = d.val) (x : Oct Ideal) (p : Fin 8) (j : Fin 1024) :
    dynamicRotate 0 n none x rotates_S8x1024_d0 (ix2 p j) = x (ix2 (p - d) j) := by
  apply congrArg x
  funext b
  match b with
  | ⟨0, _⟩ =>
    apply Fin.ext
    show (p.val + 8 - (n.toNat + 0) % 8) % 8 = (p - d).val
    rw [hd, Fin.sub_def]
    show (p.val + 8 - (d.val + 0) % 8) % 8 = ((8 - d.val) + p.val) % 8
    have := d.isLt
    omega
  | ⟨1, _⟩ => rfl

theorem rowNo_apply (p : Fin 8) (j : Fin 1024) : rowNo (ix2 p j) = BitVec.ofNat 32 p.val := by
  match p with
  | 0 => rfl
  | 1 => rfl
  | 2 => rfl
  | 3 => rfl
  | 4 => rfl
  | 5 => rfl
  | 6 => rfl
  | 7 => rfl

theorem sel_ge (k : BitVec 32) (s : ℕ) (hk : ∀ p : Fin 8, (IntOp.cmpi .sge (BitVec.ofNat 32 p.val) k = 1#1) ↔ s ≤ p.val) (u v : Oct Ideal) (p : Fin 8) (j : Fin 1024) :
    select (cmpi .sge rowNo (broadcast S8x1024 k)) u v (ix2 p j) = if s ≤ p.val then u (ix2 p j) else v (ix2 p j) := by
  show (if IntOp.cmpi .sge (rowNo (ix2 p j)) k = 1#1 then _ else _) = _
  rw [rowNo_apply]
  exact if_congr (hk p) rfl rfl
theorem sel_lt (k : BitVec 32) (s : ℕ) (hk : ∀ p : Fin 8, (IntOp.cmpi .slt (BitVec.ofNat 32 p.val) k = 1#1) ↔ p.val < s) (u v : Oct Ideal) (p : Fin 8) (j : Fin 1024) :
    select (cmpi .slt rowNo (broadcast S8x1024 k)) u v (ix2 p j) = if p.val < s then u (ix2 p j) else v (ix2 p j) := by
  show (if IntOp.cmpi .slt (rowNo (ix2 p j)) k = 1#1 then _ else _) = _
  rw [rowNo_apply]
  exact if_congr (hk p) rfl rfl
theorem sel_eq (k : BitVec 32) (s : ℕ) (hk : ∀ p : Fin 8, (IntOp.cmpi .eq (BitVec.ofNat 32 p.val) k = 1#1) ↔ p.val = s) (u v : Oct Ideal) (p : Fin 8) (j : Fin 1024) :
    select (cmpi .eq rowNo (broadcast S8x1024 k)) u v (ix2 p j) = if p.val = s then u (ix2 p j) else v (ix2 p j) := by
  show (if IntOp.cmpi .eq (rowNo (ix2 p j)) k = 1#1 then _ else _) = _
  rw [rowNo_apply]
  exact if_congr (hk p) rfl rfl

/-! ## The group values -/

theorem k0_pay4_apply (C A B : Oct Ideal) (p : Fin 8) (j : Fin 1024) :
    k0_pay4 rowNo C A B (ix2 p j) = fwdB (colO A j) (colO B j) p + fwdA (colO A j) p * C (ix2 p j) := by
  unfold k0_pay4 fwdB fwdA upB upA
  simp only [addf_apply, mulf_apply, rot_apply 1#32 1 rfl, rot_apply 2#32 2 rfl, rot_apply 4#32 4 rfl,
    sel_ge 1#32 1 (by decide), sel_ge 2#32 2 (by decide), sel_ge 4#32 4 (by decide)]

theorem k0_pay5_apply (C A B : Oct Ideal) (p : Fin 8) (j : Fin 1024) :
    k0_pay5 rowNo C A B (ix2 p j) = if p.val = 0 then C (ix2 p j) else k0_pay4 rowNo C A B (ix2 (p - 1) j) := by
  unfold k0_pay5
  simp only [rot_apply 1#32 1 rfl, sel_eq 0#32 0 (by decide)]

theorem k1_pay5_apply (C A D : Oct Ideal) (p : Fin 8) (j : Fin 1024) :
    k1_pay5 rowNo C A D (ix2 p j) = bwdB (colO A j) (fun q => A (ix2 q j) * D (ix2 q j)) p + bwdA (colO A j) p * C (ix2 p j) := by
  have hs : ∀ p : Fin 8, p - 7 = p + 1 ∧ p - 6 = p + 2 ∧ p - 4 = p + 4 := by decide
  unfold k1_pay5 bwdB bwdA dnB dnA
  simp only [addf_apply, mulf_apply, rot_apply 7#32 7 rfl, rot_apply 6#32 6 rfl, rot_apply 4#32 4 rfl,
    sel_lt 7#32 7 (by decide), sel_lt 6#32 6 (by decide), sel_lt 4#32 4 (by decide), (hs _).1, (hs _).2.1, (hs _).2.2]

theorem k1_pay7_apply (C A D : Oct Ideal) (p : Fin 8) (j : Fin 1024) :
    k1_pay7 rowNo C A D (ix2 p j) = D (ix2 p j) + if p.val = 7 then C (ix2 p j) else k1_pay5 rowNo C A D (ix2 (p + 1) j) := by
  have hs : ∀ p : Fin 8, p - 7 = p + 1 := by decide
  unfold k1_pay7
  simp only [addf_apply, rot_apply 7#32 7 rfl, sel_eq 7#32 7 (by decide), hs]

/-- A row spread over a group. -/
theorem bcast_row (R : Row Ideal) (p : Fin 8) (j : Fin 1024) : broadcastTo S8x1024 R broadcasts_S1x1024_S8x1024 (ix2 p j) = R (ix2 0 j) := by
  apply congrArg R
  funext b
  match b with
  | ⟨0, _⟩ => rfl
  | ⟨1, _⟩ => rfl
theorem k0_pay1_apply (R : Row Ideal) (p : Fin 8) (j : Fin 1024) : k0_pay1 R (ix2 p j) = R (ix2 0 j) := by
  unfold k0_pay1
  simp only [shapeCast_self]
  exact bcast_row R p j
theorem k1_pay1_apply (R : Row Ideal) (p : Fin 8) (j : Fin 1024) : k1_pay1 R (ix2 p j) = R (ix2 0 j) := by
  unfold k1_pay1
  simp only [shapeCast_self]
  exact bcast_row R p j
theorem k0_pay26_apply (C A B : Oct Ideal) (p : Fin 8) (j : Fin 1024) : k0_pay2 (k0_pay6 rowNo C A B) (ix2 p j) = k0_pay4 rowNo C A B (ix2 7 j) := by
  unfold k0_pay2 k0_pay6
  simp only [shapeCast_self]
  rw [bcast_row]
  apply congrArg (k0_pay4 rowNo C A B)
  funext b
  match b with
  | ⟨0, _⟩ => rfl
  | ⟨1, _⟩ => apply Fin.ext; show 0 + j.val = j.val; omega
theorem k1_pay36_apply (C A D : Oct Ideal) (p : Fin 8) (j : Fin 1024) : k1_pay3 (k1_pay6 rowNo C A D) (ix2 p j) = k1_pay5 rowNo C A D (ix2 0 j) := by
  unfold k1_pay3 k1_pay6
  simp only [shapeCast_self]
  rw [bcast_row]
  apply congrArg (k1_pay5 rowNo C A D)
  funext b
  match b with
  | ⟨0, _⟩ => rfl
  | ⟨1, _⟩ => apply Fin.ext; show 0 + j.val = j.val; omega
theorem k1_pay2_apply (G P : Oct Ideal) (p : Fin 8) (j : Fin 1024) : k1_pay2 G P (ix2 p j) = G (ix2 p j) * P (ix2 p j) := by
  unfold k1_pay2
  simp only [shapeCast_self, mulf_apply]

end Cert.Proof.Scan

end
-- ==== Proof.ValTile.lean ====
/-
  A tile of 256 rows over the reals: the carried rows and the results of every group in terms of the recurrence's values,
  column by column.
-/
module

public import proofs.«01_k».proof.Proof.GroupVal
public import proofs.«01_k».proof.Proof.Fwd
public import proofs.«01_k».proof.Proof.Bwd

@[expose] public section

noncomputable section

namespace Cert.Proof.Scan

open Cert.KernelIdeal Cert.KernelIdeal.Gen
open Idealize.ShloMosaic Idealize.ShloMosaic.ValueIdx

/-- Every element is a real number. -/
def Real {S : Shape} (X : S.Idx → EReal) : Prop := ∀ i, ∃ r : ℝ, X i = (r : EReal)

theorem group_apply (X : Tile Ideal) (g : Fin 32) (p : Fin 8) (j : Fin 1024) :
    group X g (ix2 p j) = X (ix2 ⟨8 * g.val + p.val, by omega⟩ j) := rfl

theorem group_row (X : Tile Ideal) (y : S256x1024.Idx) :
    group X ⟨(y 0).val / 8, by have := (y 0).isLt; have h : S256x1024.size 0 = 256 := rfl; omega⟩ (ix2 ⟨(y 0).val % 8, Nat.mod_lt _ (by decide)⟩ (y 1)) = X y := by
  apply congrArg X
  funext a
  match a with
  | ⟨0, _⟩ => apply Fin.ext; show 8 * ((y 0).val / 8) + (y 0).val % 8 = (y 0).val; omega
  | ⟨1, _⟩ => rfl

theorem Real.group {X : Tile Ideal} (h : Real X) (g : Fin 32) : Real (group X g) := fun i => h _

/-- The rows of a tile counted from its end, and the groups likewise. -/
def back (r : Fin 256) : Fin 256 := ⟨255 - r.val, Nat.lt_of_le_of_lt (Nat.sub_le _ _) (by decide)⟩

/-! ## One group -/

theorem fwd_group {A B C : Oct Ideal} (hA : Real A) (hB : Real B) (j : Fin 1024) (s : ℕ → EReal) (hC : ∀ p : Fin 8, C (ix2 p j) = s 0)
    (hs : ∀ p : Fin 8, s (p.val + 1) = A (ix2 p j) * s p.val + B (ix2 p j)) (p : Fin 8) :
    k0_pay4 rowNo C A B (ix2 p j) = s (p.val + 1) := by
  choose α hα using fun q : Fin 8 => hA (ix2 q j)
  choose β hβ using fun q : Fin 8 => hB (ix2 q j)
  rw [k0_pay4_apply, show colO A j = fun q => (α q : EReal) from funext hα, show colO B j = fun q => (β q : EReal) from funext hβ, hC]
  exact fwd_seq α β (s 0) s rfl (fun q => by rw [← hα q, ← hβ q]; exact hs q) p

theorem bwd_group {A D C : Oct Ideal} (hA : Real A) (hD : Real D) (j : Fin 1024) (s : ℕ → EReal) (hC : ∀ p : Fin 8, C (ix2 p j) = s 0)
    (hs : ∀ p : Fin 8, s (p.val + 1) = A (ix2 (7 - p) j) * (s p.val + D (ix2 (7 - p) j))) (p : Fin 8) :
    k1_pay5 rowNo C A D (ix2 p j) = s (8 - p.val) := by
  choose α hα using fun q : Fin 8 => hA (ix2 q j)
  choose δ hδ using fun q : Fin 8 => hD (ix2 q j)
  rw [k1_pay5_apply, show colO A j = fun q => (α q : EReal) from funext hα,
    show (fun q => A (ix2 q j) * D (ix2 q j)) = fun q => (α q : EReal) * (δ q : EReal) from funext fun q => by rw [hα q, hδ q], hC]
  exact bwd_seq α δ (s 0) s rfl (fun q => by rw [← hα (7 - q), ← hδ (7 - q)]; exact hs q) p

/-! ## The groups of a tile, forwards -/

section Fwd

variable {A B : Tile Ideal} {C : Oct Ideal} (hA : Real A) (hB : Real B) (j : Fin 1024) (s : ℕ → EReal) (hC : ∀ p : Fin 8, C (ix2 p j) = s 0)
    (hs : ∀ r : Fin 256, s (r.val + 1) = A (ix2 r j) * s r.val + B (ix2 r j))

include hs in
theorem fwd_rows (g : Fin 32) (p : Fin 8) : s (8 * g.val + (p.val + 1)) = group A g (ix2 p j) * s (8 * g.val + p.val) + group B g (ix2 p j) :=
  hs ⟨8 * g.val + p.val, by omega⟩

include hA hB hC hs

theorem chain0_val (k : ℕ) (hk : k ≤ 32) (p : Fin 8) : chain0 A B C k (ix2 p j) = s (8 * k) := by
  induction k generalizing p with
  | zero => rw [chain0]; exact hC p
  | succ k ih =>
    rw [chain0, dif_pos (show k < 32 by omega), k0_pay26_apply]
    exact fwd_group (hA.group ⟨k, by omega⟩) (hB.group ⟨k, by omega⟩) j (fun q => s (8 * k + q)) (ih (by omega)) (fwd_rows j s hs ⟨k, by omega⟩) 7

theorem hOct0_val (g : Fin 32) (p : Fin 8) : hOct0 A B C g (ix2 p j) = s (8 * g.val + (p.val + 1)) :=
  fwd_group (hA.group g) (hB.group g) j (fun q => s (8 * g.val + q)) (chain0_val hA hB j s hC hs g.val (by omega)) (fwd_rows j s hs g) p

theorem pOct0_val (g : Fin 32) (p : Fin 8) : pOct0 A B C g (ix2 p j) = s (8 * g.val + p.val) := by
  unfold pOct0
  rw [k0_pay5_apply]
  split
  · next h => rw [h]; exact chain0_val hA hB j s hC hs g.val (by omega) p
  · next h =>
    refine (hOct0_val hA hB j s hC hs g (p - 1)).trans (congrArg s ?_)
    have : (p - 1).val = p.val - 1 := by revert p; decide
    omega

theorem pTile_val (y : S256x1024.Idx) (hy : y 1 = j) : tileOf (pOct0 A B C) y = s (y 0).val := by
  subst hy
  refine (pOct0_val hA hB (y 1) s hC hs _ _).trans (congrArg s ?_)
  show 8 * ((y 0).val / 8) + (y 0).val % 8 = (y 0).val
  omega

end Fwd

/-! ## The groups of a tile, backwards -/

section Bwd

variable {A D : Tile Ideal} (P : Tile Ideal) {C : Oct Ideal} (hA : Real A) (hD : Real D) (j : Fin 1024) (s : ℕ → EReal) (hC : ∀ p : Fin 8, C (ix2 p j) = s 0)
    (hs : ∀ r : Fin 256, s (r.val + 1) = A (ix2 (back r) j) * (s r.val + D (ix2 (back r) j)))

include hs in
theorem bwd_rows (k : ℕ) (hk : k < 32) (p : Fin 8) : s (8 * k + (p.val + 1)) = group A ⟨31 - k, by omega⟩ (ix2 (7 - p) j) * (s (8 * k + p.val) + group D ⟨31 - k, by omega⟩ (ix2 (7 - p) j)) := by
  have h7 : (7 - p).val = 7 - p.val := by revert p; decide
  have e : (⟨255 - (8 * k + p.val), by omega⟩ : Fin 256) = ⟨8 * (31 - k) + (7 - p).val, by omega⟩ := Fin.ext (by dsimp only; omega)
  have := hs ⟨8 * k + p.val, by omega⟩
  rw [show back ⟨8 * k + p.val, by omega⟩ = _ from e] at this
  exact this

include hA hD hC hs

theorem chain1_val (k : ℕ) (hk : k ≤ 32) (p : Fin 8) : chain1 A D C k (ix2 p j) = s (8 * k) := by
  induction k generalizing p with
  | zero => rw [chain1]; exact hC p
  | succ k ih =>
    rw [chain1, dif_pos (show k < 32 by omega), k1_pay36_apply]
    exact bwd_group (hA.group ⟨31 - k, by omega⟩) (hD.group ⟨31 - k, by omega⟩) j (fun q => s (8 * k + q)) (ih (by omega)) (bwd_rows j s hs k (by omega)) 0

theorem bOct1_val (g : Fin 32) (p : Fin 8) : bOct1 A D C g (ix2 p j) = group D g (ix2 p j) + s (255 - (8 * g.val + p.val)) := by
  unfold bOct1
  rw [k1_pay7_apply]
  congr 1
  have hc := chain1_val hA hD j s hC hs (31 - g.val) (by omega)
  split
  · next h => rw [hc]; congr 1; omega
  · next h =>
    have hg : (⟨31 - (31 - g.val), by omega⟩ : Fin 32) = g := Fin.ext (by dsimp only; omega)
    have hr := bwd_rows (A := A) (D := D) j s hs (31 - g.val) (by omega)
    rw [hg] at hr
    refine (bwd_group (hA.group g) (hD.group g) j (fun q => s (8 * (31 - g.val) + q)) hc hr (p + 1)).trans (congrArg s ?_)
    have : p.val ≠ 7 → (p + 1).val = p.val + 1 := by revert p; decide
    have := this h
    omega

theorem bTile_val (y : S256x1024.Idx) (hy : y 1 = j) : tileOf (bOct1 A D C) y = D y + s (255 - (y 0).val) := by
  subst hy
  have e : 8 * ((y 0).val / 8) + (y 0).val % 8 = (y 0).val := by omega
  refine (bOct1_val hA hD (y 1) s hC hs _ _).trans ?_
  congr 1
  · exact group_row D y
  · exact congrArg (fun r => s (255 - r)) e

theorem aTile_val (y : S256x1024.Idx) (hy : y 1 = j) : tileOf (aOct1 A P D C) y = (D y + s (255 - (y 0).val)) * P y := by
  subst hy
  have e : 8 * ((y 0).val / 8) + (y 0).val % 8 = (y 0).val := by omega
  refine (k1_pay2_apply _ _ _ _).trans ?_
  congr 1
  · exact bTile_val hA hD (y 1) s hC hs y rfl
  · exact group_row P y

end Bwd

end Cert.Proof.Scan

end
-- ==== Proof.Spec.lean ====
/-
  The gated linear recurrence and its gradient over the reals, in closed form, column by column.
-/
module

public import Idealize.ShloMosaic.Lib.ValueIdx

@[expose] public section

noncomputable section

namespace Cert.Proof.Scan

open Idealize.ShloMosaic Idealize.ShloMosaic.ValueIdx

/-- A whole array. -/
abbrev Big : Type := (⟨2, ![8192, 1024]⟩ : Shape).Idx → EReal

/-- One row. -/
abbrev RowR : Type := (⟨2, ![1, 1024]⟩ : Shape).Idx → EReal

/-- Row `n` of column `j`; zero past the end. -/
def rowAt (X : Big) (j : Fin 1024) (n : ℕ) : EReal := if h : n < 8192 then X (ix2 ⟨n, h⟩ j) else 0

theorem rowAt_of (X : Big) (j : Fin 1024) (n : ℕ) (h : n < 8192) : rowAt X j n = X (ix2 ⟨n, h⟩ j) := dif_pos h

/-- The recurrence: its value before step `n`. -/
def Hs (A B : Big) (r : RowR) (j : Fin 1024) : ℕ → EReal
  | 0 => r (ix2 0 j)
  | n + 1 => rowAt A j n * Hs A B r j n + rowAt B j n

/-- The carry of the backward recurrence after the last `n` steps were taken. -/
def Cs (A D : Big) (r : RowR) (j : Fin 1024) : ℕ → EReal
  | 0 => r (ix2 0 j)
  | n + 1 => rowAt A j (8191 - n) * (Cs A D r j n + rowAt D j (8191 - n))

/-- The value before each step. -/
def hPrev (A B : Big) (r : RowR) : Big := fun i => Hs A B r (i 1) (i 0).val
/-- The gradient of the added term: what comes in at the step and what comes back from the later ones. -/
def gradB (A D : Big) (r : RowR) : Big := fun i => D i + Cs A D r (i 1) (8191 - (i 0).val)
/-- The gradient of the multiplier. -/
def gradA (A P D : Big) (r : RowR) : Big := fun i => gradB A D r i * P i
/-- The gradient of the initial value. -/
def grad0 (A D : Big) (r : RowR) : RowR := fun i => Cs A D r (i 1) 8192

end Cert.Proof.Scan

end
-- ==== Proof.ValRegion.lean ====
/-
  What the two regions leave in their result arrays over the reals, in closed form: the values before each step of the
  recurrence, and the two gradients with the carry that comes back from the later steps.
-/
module

public import proofs.«01_k».proof.Proof.ValTile
public import proofs.«01_k».proof.Proof.Spec
public import proofs.«01_k».proof.Proof.RegFwd
public import proofs.«01_k».proof.Proof.RegBwd
public import Idealize.ShloMosaic.Lib.Pipeline.ValueKit.Geometry

@[expose] public section

noncomputable section

namespace Cert.Proof.Scan

open Cert.KernelIdeal Cert.KernelIdeal.Gen
open Idealize.ShloMosaic Idealize.ShloMosaic.TcCoe Idealize.ShloMosaic.ValueIdx
open Idealize.ShloMosaic.Pipeline (Dat Cfg Window)

/-! ## Where a block's element sits -/

theorem idx0 : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_4.index t 0 = t.val ∧ win0_4.index t 1 = 0) := by decide +kernel
theorem idx1 : ∀ t : Fin grid1.N, (win1_0.index t 0 = 31 - t.val ∧ win1_0.index t 1 = 0) ∧ (win1_1.index t 0 = 31 - t.val ∧ win1_1.index t 1 = 0)
    ∧ (win1_2.index t 0 = 31 - t.val ∧ win1_2.index t 1 = 0) ∧ (win1_3.index t 0 = 0 ∧ win1_3.index t 1 = 0)
    ∧ (win1_4.index t 0 = 31 - t.val ∧ win1_4.index t 1 = 0) ∧ (win1_5.index t 0 = 31 - t.val ∧ win1_5.index t 1 = 0) := by decide +kernel

theorem lt32_0 (t : Fin cfg0.N) : t.val < 32 := Nat.lt_of_lt_of_eq t.isLt N_0
theorem lt32_1 (t : Fin cfg1.N) : t.val < 32 := Nat.lt_of_lt_of_eq t.isLt N_1

/-- Array row of row `r` of tile `n`. -/
abbrev rowOf (n : ℕ) (hn : n < 32) (r : Fin 256) : Fin 8192 := ⟨n * 256 + r.val, by omega⟩

variable (V : (c : Dev nD) → (b : Ref sig .tc) → Buf (Elt Ideal) ((c : Thread nD τ).loc b)) (c : Dev nD)

section Fwd

/-- The region's input arrays. -/
abbrev vA0 : Big := V c main_arg0
abbrev vB0 : Big := V c main_arg1
abbrev vR0 : RowR := V c main_arg2

abbrev tile0_0 (t : Fin cfg0.N) : Tile Ideal := iblk0 V c 0 t
theorem iblk0_0 (t : Fin cfg0.N) (r : Fin 256) (j : Fin 1024) : tile0_0 V c t (ix2 r j) = vA0 V c (ix2 (rowOf t.val (lt32_0 t) r) j) := by
  apply congrArg (vA0 V c)
  funext a
  match a with
  | ⟨0, _⟩ => apply Fin.ext; refine (win0_0.rect_emb_val t (ix2 r j) 0).trans ?_; rw [(idx0 t).1.1]; rfl
  | ⟨1, _⟩ => apply Fin.ext; refine (win0_0.rect_emb_val t (ix2 r j) 1).trans ?_; rw [(idx0 t).1.2]; show 0 * 1024 + j.val = j.val; omega

abbrev tile0_1 (t : Fin cfg0.N) : Tile Ideal := iblk0 V c 1 t
theorem iblk0_1 (t : Fin cfg0.N) (r : Fin 256) (j : Fin 1024) : tile0_1 V c t (ix2 r j) = vB0 V c (ix2 (rowOf t.val (lt32_0 t) r) j) := by
  apply congrArg (vB0 V c)
  funext a
  match a with
  | ⟨0, _⟩ => apply Fin.ext; refine (win0_1.rect_emb_val t (ix2 r j) 0).trans ?_; rw [(idx0 t).2.1.1]; rfl
  | ⟨1, _⟩ => apply Fin.ext; refine (win0_1.rect_emb_val t (ix2 r j) 1).trans ?_; rw [(idx0 t).2.1.2]; show 0 * 1024 + j.val = j.val; omega

theorem iblk0_2 (t : Fin cfg0.N) (j : Fin 1024) : iblk0 V c 2 t (ix2 0 j) = vR0 V c (ix2 0 j) := by
  apply congrArg (vR0 V c)
  funext a
  match a with
  | ⟨0, _⟩ => apply Fin.ext; refine (win0_2.rect_emb_val t (ix2 0 j) 0).trans ?_; rw [(idx0 t).2.2.1.1]; rfl
  | ⟨1, _⟩ => apply Fin.ext; refine (win0_2.rect_emb_val t (ix2 0 j) 1).trans ?_; rw [(idx0 t).2.2.1.2]; show 0 * 1024 + j.val = j.val; omega

variable (hA : Real (vA0 V c)) (hB : Real (vB0 V c))

include hA in
theorem real0_0 (t : Fin cfg0.N) : Real (S := S256x1024) (iblk0 V c 0 t) := fun i => hA _
include hB in
theorem real0_1 (t : Fin cfg0.N) : Real (S := S256x1024) (iblk0 V c 1 t) := fun i => hB _

theorem step0 (t : Fin cfg0.N) (j : Fin 1024) (r : Fin 256) : Hs (vA0 V c) (vB0 V c) (vR0 V c) j (t.val * 256 + (r.val + 1))
    = tile0_0 V c t (ix2 r j) * Hs (vA0 V c) (vB0 V c) (vR0 V c) j (t.val * 256 + r.val) + tile0_1 V c t (ix2 r j) := by
  have := lt32_0 t
  rw [iblk0_0, iblk0_1, ← Nat.add_assoc, Hs, rowAt_of _ _ _ (by omega), rowAt_of _ _ _ (by omega)]

include hA hB in
theorem entry0_val (n : ℕ) (hn : n ≤ 32) (p : Fin 8) (j : Fin 1024) : entry0 V c n (ix2 p j) = Hs (vA0 V c) (vB0 V c) (vR0 V c) j (n * 256) := by
  induction n generalizing p with
  | zero => rw [entry0, k0_pay1_apply, iblk0_2, Nat.zero_mul, Hs]
  | succ n ih =>
    have ht : n < cfg0.N := Nat.lt_of_lt_of_eq (by omega) N_0.symm
    rw [show entry0 V c (n + 1) = _ from entry0_succ V c ⟨n, ht⟩,
      chain0_val (real0_0 V c hA ⟨n, ht⟩) (real0_1 V c hB ⟨n, ht⟩) j (fun r => Hs (vA0 V c) (vB0 V c) (vR0 V c) j (n * 256 + r)) (ih (by omega)) (step0 V c ⟨n, ht⟩ j) 32 le_rfl p]
    congr 1
    omega

include hA hB in
/-- The saved values: at each row the recurrence's value before it. -/
theorem arr0_4 : (dat0 V c).arrAt 4 cfg0.N = (hPrev (vA0 V c) (vB0 V c) (vR0 V c) : Big) := by
  refine (dat0 V c).arrAt_eq_of_covers 4 (hPrev (vA0 V c) (vB0 V c) (vR0 V c)) (by decide +kernel) fun t hf y => ?_
  show (dat0 V c).after 4 t y = _
  rw [after0_4]
  have h0 : ((((cfg0.win 4).blk t).view.emb y) 0).val = t.val * 256 + (y 0).val := by
    refine (win0_4.rect_emb_val t y 0).trans ?_; rw [(idx0 t).2.2.2.1]; rfl
  have h1 : (((cfg0.win 4).blk t).view.emb y) 1 = y 1 := by
    apply Fin.ext; refine (win0_4.rect_emb_val t y 1).trans ?_; rw [(idx0 t).2.2.2.2]; show 0 * 1024 + (y 1).val = (y 1).val; omega
  refine (pTile_val (real0_0 V c hA t) (real0_1 V c hB t) (y 1) (fun r => Hs (vA0 V c) (vB0 V c) (vR0 V c) (y 1) (t.val * 256 + r))
    (fun p => entry0_val V c hA hB t.val (lt32_0 t).le p (y 1)) (step0 V c t (y 1)) y rfl).trans ?_
  unfold hPrev
  rw [h0, h1]

end Fwd

section Bwd

abbrev vA1 : Big := V c main_arg0
abbrev vP1 : Big := V c main_v0_1
abbrev vD1 : Big := V c main_arg3
abbrev vR1 : RowR := V c main_arg4

abbrev tile1_0 (t : Fin cfg1.N) : Tile Ideal := iblk1 V c 0 t
theorem iblk1_0 (t : Fin cfg1.N) (r : Fin 256) (j : Fin 1024) : tile1_0 V c t (ix2 r j) = vA1 V c (ix2 (rowOf (31 - t.val) (by omega) r) j) := by
  apply congrArg (vA1 V c)
  funext a
  match a with
  | ⟨0, _⟩ => apply Fin.ext; refine (win1_0.rect_emb_val t (ix2 r j) 0).trans ?_; rw [(idx1 t).1.1]; rfl
  | ⟨1, _⟩ => apply Fin.ext; refine (win1_0.rect_emb_val t (ix2 r j) 1).trans ?_; rw [(idx1 t).1.2]; show 0 * 1024 + j.val = j.val; omega

theorem iblk1_1 (t : Fin cfg1.N) (r : Fin 256) (j : Fin 1024) : iblk1 V c 1 t (ix2 r j) = vP1 V c (ix2 (rowOf (31 - t.val) (by omega) r) j) := by
  apply congrArg (vP1 V c)
  funext a
  match a with
  | ⟨0, _⟩ => apply Fin.ext; refine (win1_1.rect_emb_val t (ix2 r j) 0).trans ?_; rw [(idx1 t).2.1.1]; rfl
  | ⟨1, _⟩ => apply Fin.ext; refine (win1_1.rect_emb_val t (ix2 r j) 1).trans ?_; rw [(idx1 t).2.1.2]; show 0 * 1024 + j.val = j.val; omega

abbrev tile1_2 (t : Fin cfg1.N) : Tile Ideal := iblk1 V c 2 t
theorem iblk1_2 (t : Fin cfg1.N) (r : Fin 256) (j : Fin 1024) : tile1_2 V c t (ix2 r j) = vD1 V c (ix2 (rowOf (31 - t.val) (by omega) r) j) := by
  apply congrArg (vD1 V c)
  funext a
  match a with
  | ⟨0, _⟩ => apply Fin.ext; refine (win1_2.rect_emb_val t (ix2 r j) 0).trans ?_; rw [(idx1 t).2.2.1.1]; rfl
  | ⟨1, _⟩ => apply Fin.ext; refine (win1_2.rect_emb_val t (ix2 r j) 1).trans ?_; rw [(idx1 t).2.2.1.2]; show 0 * 1024 + j.val = j.val; omega

theorem iblk1_3 (t : Fin cfg1.N) (j : Fin 1024) : iblk1 V c 3 t (ix2 0 j) = vR1 V c (ix2 0 j) := by
  apply congrArg (vR1 V c)
  funext a
  match a with
  | ⟨0, _⟩ => apply Fin.ext; refine (win1_3.rect_emb_val t (ix2 0 j) 0).trans ?_; rw [(idx1 t).2.2.2.1.1]; rfl
  | ⟨1, _⟩ => apply Fin.ext; refine (win1_3.rect_emb_val t (ix2 0 j) 1).trans ?_; rw [(idx1 t).2.2.2.1.2]; show 0 * 1024 + j.val = j.val; omega

variable (hA : Real (vA1 V c)) (hD : Real (vD1 V c))

include hA in
theorem real1_0 (t : Fin cfg1.N) : Real (S := S256x1024) (iblk1 V c 0 t) := fun i => hA _
include hD in
theorem real1_2 (t : Fin cfg1.N) : Real (S := S256x1024) (iblk1 V c 2 t) := fun i => hD _

theorem step1 (t : Fin cfg1.N) (j : Fin 1024) (r : Fin 256) : Cs (vA1 V c) (vD1 V c) (vR1 V c) j (t.val * 256 + (r.val + 1))
    = tile1_0 V c t (ix2 (back r) j) * (Cs (vA1 V c) (vD1 V c) (vR1 V c) j (t.val * 256 + r.val) + tile1_2 V c t (ix2 (back r) j)) := by
  have := lt32_1 t
  rw [iblk1_0, iblk1_2, ← Nat.add_assoc, Cs, rowAt_of _ _ _ (by omega), rowAt_of _ _ _ (by omega)]
  have e : (⟨8191 - (t.val * 256 + r.val), by omega⟩ : Fin 8192) = rowOf (31 - t.val) (by omega) (back r) := Fin.ext (by show 8191 - (t.val * 256 + r.val) = (31 - t.val) * 256 + (255 - r.val); omega)
  rw [e]

include hA hD in
theorem entry1_val (n : ℕ) (hn : n ≤ 32) (p : Fin 8) (j : Fin 1024) : entry1 V c n (ix2 p j) = Cs (vA1 V c) (vD1 V c) (vR1 V c) j (n * 256) := by
  induction n generalizing p with
  | zero => rw [entry1, k1_pay1_apply, iblk1_3, Nat.zero_mul, Cs]
  | succ n ih =>
    have ht : n < cfg1.N := Nat.lt_of_lt_of_eq (by omega) N_1.symm
    rw [show entry1 V c (n + 1) = _ from entry1_succ V c ⟨n, ht⟩,
      chain1_val (real1_0 V c hA ⟨n, ht⟩) (real1_2 V c hD ⟨n, ht⟩) j (fun r => Cs (vA1 V c) (vD1 V c) (vR1 V c) j (n * 256 + r)) (ih (by omega)) (step1 V c ⟨n, ht⟩ j) 32 le_rfl p]
    congr 1
    omega

include hA hD in
theorem arr1_5 : (dat1 V c).arrAt 5 cfg1.N = (gradB (vA1 V c) (vD1 V c) (vR1 V c) : Big) := by
  refine (dat1 V c).arrAt_eq_of_covers 5 (gradB (vA1 V c) (vD1 V c) (vR1 V c)) (by decide +kernel) fun t hf y => ?_
  show (dat1 V c).after 5 t y = _
  rw [after1_5]
  have ht := lt32_1 t
  have hy : (y 0).val < 256 := (y 0).isLt
  have h0 : ((((cfg1.win 5).blk t).view.emb y) 0).val = (31 - t.val) * 256 + (y 0).val := by
    refine (win1_5.rect_emb_val t y 0).trans ?_; rw [(idx1 t).2.2.2.2.2.1]; rfl
  have h1 : (((cfg1.win 5).blk t).view.emb y) 1 = y 1 := by
    apply Fin.ext; refine (win1_5.rect_emb_val t y 1).trans ?_; rw [(idx1 t).2.2.2.2.2.2]; show 0 * 1024 + (y 1).val = (y 1).val; omega
  refine (bTile_val (real1_0 V c hA t) (real1_2 V c hD t) (y 1) (fun r => Cs (vA1 V c) (vD1 V c) (vR1 V c) (y 1) (t.val * 256 + r))
    (fun p => entry1_val V c hA hD t.val ht.le p (y 1)) (step1 V c t (y 1)) y rfl).trans ?_
  unfold gradB
  rw [h0, h1, show 8191 - ((31 - t.val) * 256 + (y 0).val) = t.val * 256 + (255 - (y 0).val) by omega]
  congr 1

include hA hD in
theorem arr1_4 : (dat1 V c).arrAt 4 cfg1.N = (gradA (vA1 V c) (vP1 V c) (vD1 V c) (vR1 V c) : Big) := by
  refine (dat1 V c).arrAt_eq_of_covers 4 (gradA (vA1 V c) (vP1 V c) (vD1 V c) (vR1 V c)) (by decide +kernel) fun t hf y => ?_
  show (dat1 V c).after 4 t y = _
  rw [after1_4]
  have ht := lt32_1 t
  have hy : (y 0).val < 256 := (y 0).isLt
  have h0 : ((((cfg1.win 4).blk t).view.emb y) 0).val = (31 - t.val) * 256 + (y 0).val := by
    refine (win1_4.rect_emb_val t y 0).trans ?_; rw [(idx1 t).2.2.2.2.1.1]; rfl
  have h1 : (((cfg1.win 4).blk t).view.emb y) 1 = y 1 := by
    apply Fin.ext; refine (win1_4.rect_emb_val t y 1).trans ?_; rw [(idx1 t).2.2.2.2.1.2]; show 0 * 1024 + (y 1).val = (y 1).val; omega
  refine (aTile_val (iblk1 V c 1 t) (real1_0 V c hA t) (real1_2 V c hD t) (y 1) (fun r => Cs (vA1 V c) (vD1 V c) (vR1 V c) (y 1) (t.val * 256 + r))
    (fun p => entry1_val V c hA hD t.val ht.le p (y 1)) (step1 V c t (y 1)) y rfl).trans ?_
  unfold gradA gradB
  rw [h0, h1, show 8191 - ((31 - t.val) * 256 + (y 0).val) = t.val * 256 + (255 - (y 0).val) by omega]
  congr 1

include hA hD in
theorem arr1_6 : (dat1 V c).arrAt 6 cfg1.N = (grad0 (vA1 V c) (vD1 V c) (vR1 V c) : RowR) := by
  refine (dat1 V c).arrAt_eq_of_after_last 6 ⟨31, by decide⟩ (by decide +kernel) (grad0 (vA1 V c) (vD1 V c) (vR1 V c)) fun i => ?_
  show (dat1 V c).after 6 ⟨31, by decide⟩ i = grad0 (vA1 V c) (vD1 V c) (vR1 V c) i
  rw [after1_6]
  exact entry1_val V c hA hD 32 le_rfl ⟨0, by decide⟩ (i 1)

end Bwd

end Cert.Proof.Scan

end
-- ==== Proof.RefVal.lean ====
/-
  What the reference's two loops compute, in closed form: after each trip the carry is the recurrence's value, and the rows the
  loop has passed hold their results.
-/
module

public import proofs.«01_k».proof.Proof.RefRun
public import proofs.«01_k».proof.Proof.Spec
public import Idealize.ShloMosaic.Lib.Pointwise.Reduce
public import Idealize.ShloMosaic.Lib.IdealHost
public import Idealize.ShloMosaic.Lib.StableHlo.RunClose
public import Idealize.ShloMosaic.Lib.ValueIdx
public import Idealize.ShloMosaic.Lib.WordCmp
public import Idealize.ShloMosaic.Lib.ValueLayout
public import Idealize.ShloMosaic.Lib.Pipeline.Value

@[expose] public section

set_option maxRecDepth 16384

noncomputable section

namespace Cert.Proof.ScanRef

open Cert.ReferenceIdeal Cert.ReferenceIdeal.Gen
open Idealize.ShloMosaic hiding ix1 ix2
open Idealize.ShloMosaic.TcCoe Idealize.ShloMosaic.ValueIdx
open Idealize.ShloMosaic.StableHlo Idealize.ShloMosaic.WordCmp
open Cert.Proof.Scan (Big RowR rowAt rowAt_of Hs Cs hPrev gradB gradA grad0)

abbrev Line : Type := FVec Ideal S1024 .f32
abbrev Word : Type := IVec S_ 32

/-- Row `n` of an array, and an array with one row replaced, as the loops spell them. -/
def rd (X : Big) (n : Word) : Line :=
  shapeCast S1024 (Host.dynamicSlice S1x1024 X (fun k => ((![n, constantI S_ 32 0#32] : Fin 2 → Word) k (Shape.Idx.first h_S_)).toInt) sliceFits_S8192x1024_S1x1024) shapeCasts_S1x1024_S1024
def wr (X : Big) (l : Line) (n : Word) : Big :=
  Host.dynamicUpdateSlice X (broadcastInDim S1x1024 ![1] bcast_S1024_S1x1024_1 l) (fun k => ((![n, constantI S_ 32 0#32] : Fin 2 → Word) k (Shape.Idx.first h_S_)).toInt) updateFits_S8192x1024_S1x1024

/-- A number as the loops' index word. -/
def wordOf (n : ℕ) : Word := fun _ => BitVec.ofNat 32 n

theorem starts (n : ℕ) (hn : n < 8192) (a : Fin S8192x1024.rank) :
    ((![wordOf n, constantI S_ 32 0#32] : Fin 2 → Word) a (Shape.Idx.first h_S_)).toInt = ((![n, 0] : Fin 2 → ℕ) a : ℤ) := by
  match a with
  | ⟨0, _⟩ => exact toInt_ofNat_of_lt (w := 32) (by omega)
  | ⟨1, _⟩ => rfl

theorem fits (n : ℕ) (hn : n < 8192) : S8192x1024.Slices (![n, 0] : Fin 2 → ℕ) S1x1024 :=
  ⟨rfl, fun a => match a with
    | ⟨0, _⟩ => show n + 1 ≤ 8192 from hn
    | ⟨1, _⟩ => show 0 + 1024 ≤ 1024 from Nat.le_of_eq (Nat.zero_add _)⟩

theorem rd_apply (X : Big) (n : ℕ) (hn : n < 8192) (j : Fin 1024) : rd X (wordOf n) (ix1 j) = X (ix2 ⟨n, hn⟩ j) := by
  unfold rd
  rw [dynamicSlice_eq_extract S1x1024 X _ _ ![n, 0] (fits n hn) (starts n hn)]
  rw [shapeCast_1a_a_apply]
  apply congrArg X
  funext a
  match a with
  | ⟨0, _⟩ => rfl
  | ⟨1, _⟩ => apply Fin.ext; show 0 + j.val = j.val; omega

theorem wr_apply (X : Big) (l : Line) (n : ℕ) (hn : n < 8192) (p : Fin 8192) (j : Fin 1024) :
    wr X l (wordOf n) (ix2 p j) = if p.val = n then l (ix1 j) else X (ix2 p j) := by
  unfold wr
  refine (congrFun (dynamicUpdateSlice_eq_update X _ _ _ ![n, 0] (fits n hn) (starts n hn)) (ix2 p j)).trans ?_
  unfold updateSlice
  split
  · next h =>
    have h0 : n ≤ p.val ∧ p.val < n + 1 := h 0
    rw [if_pos (by omega)]
    apply congrArg l
    funext a
    match a with
    | ⟨0, _⟩ => apply Fin.ext; show j.val - 0 = j.val; omega
  · next h =>
    rw [if_neg]
    intro e
    apply h
    intro a
    match a with
    | ⟨0, _⟩ => show n ≤ p.val ∧ p.val < n + 1; omega
    | ⟨1, _⟩ => show 0 ≤ j.val ∧ j.val < 0 + 1024; omega

variable (X : Valuation τ sig (Elt Ideal))

theorem body0_carry : after body0Ops X (Proc.devRef .tc main_v3_3)
    = (addf (mulf (rd (X (Proc.devRef .tc main_v3_0)) (X (Proc.devRef .tc main_v3_2))) (X (Proc.devRef .tc main_v3_3) : Line)) (rd (X (Proc.devRef .tc main_v3_1)) (X (Proc.devRef .tc main_v3_2))) : Line) := by
  after_results_simp_entrywise
  rfl

theorem body0_prev : after body0Ops X (Proc.devRef .tc main_v3_5)
    = wr (X (Proc.devRef .tc main_v3_5)) (X (Proc.devRef .tc main_v3_3)) (X (Proc.devRef .tc main_v3_2)) := by
  after_results_simp_entrywise
  rfl

/-- The row the second loop is at. -/
def rowWord (n : Word) : Word := subi (subi (constantI S_ 32 8192#32) n) (constantI S_ 32 1#32)

/-- What comes in at the row, with what comes back. -/
def inc1 : Line := addf (X (Proc.devRef .tc main_v8_4) : Line) (rd (X (Proc.devRef .tc main_v8_0)) (rowWord (X (Proc.devRef .tc main_v8_3))))

theorem body1_carry : after body1Ops X (Proc.devRef .tc main_v8_4) = (mulf (rd (X (Proc.devRef .tc main_v8_2)) (rowWord (X (Proc.devRef .tc main_v8_3)))) (inc1 X) : Line) := by
  after_results_simp_entrywise
  rfl
/-- The second loop's trip in two stretches: the row's values, and the stores. -/
abbrev body1Head {F : FTy → Type} [FloatOps F] : List (HloOp τ sig (Elt F)) :=
  [ StableHlo.nullary main_while1b_c_11 (constantI S_ 32 8192#32),
    StableHlo.binary main_while1b_c_11 main_v8_3 main_while1b_v10 (subi : (⟨S_, .i32⟩ : BufTy).Contents (Elt F) → (⟨S_, .i32⟩ : BufTy).Contents (Elt F) → (⟨S_, .i32⟩ : BufTy).Contents (Elt F)),
    StableHlo.nullary main_while1b_c_12 (constantI S_ 32 1#32),
    StableHlo.binary main_while1b_v10 main_while1b_c_12 main_while1b_v11 (subi : (⟨S_, .i32⟩ : BufTy).Contents (Elt F) → (⟨S_, .i32⟩ : BufTy).Contents (Elt F) → (⟨S_, .i32⟩ : BufTy).Contents (Elt F)),
    StableHlo.nullary main_while1b_call4_c (constantI S_ 32 0#32),
    StableHlo.TRef.unaryIndexed (.of main_v8_0 : StableHlo.TRef sig ⟨S8192x1024, .f32⟩) ![(.of main_while1b_v11 : StableHlo.TRef sig ⟨S_, .i32⟩), .of main_while1b_call4_c] (.of main_while1b_call4_v0 : StableHlo.TRef sig ⟨S1x1024, .f32⟩) ((fun x i => Host.dynamicSlice S1x1024 x (fun k => (i k (Shape.Idx.first h_S_)).toInt) sliceFits_S8192x1024_S1x1024) : (⟨S8192x1024, .f32⟩ : BufTy).Contents (Elt F) → (Fin 2 → (⟨S_, .i32⟩ : BufTy).Contents (Elt F)) → (⟨S1x1024, .f32⟩ : BufTy).Contents (Elt F)),
    StableHlo.reshape main_while1b_call4_v0 main_while1b_v12 (rfl : (.f32 : EltTy) = .f32) shapeCasts_S1x1024_S1024,
    StableHlo.nullary main_while1b_call5_c (constantI S_ 32 0#32),
    StableHlo.TRef.unaryIndexed (.of main_v8_1 : StableHlo.TRef sig ⟨S8192x1024, .f32⟩) ![(.of main_while1b_v11 : StableHlo.TRef sig ⟨S_, .i32⟩), .of main_while1b_call5_c] (.of main_while1b_call5_v0 : StableHlo.TRef sig ⟨S1x1024, .f32⟩) ((fun x i => Host.dynamicSlice S1x1024 x (fun k => (i k (Shape.Idx.first h_S_)).toInt) sliceFits_S8192x1024_S1x1024) : (⟨S8192x1024, .f32⟩ : BufTy).Contents (Elt F) → (Fin 2 → (⟨S_, .i32⟩ : BufTy).Contents (Elt F)) → (⟨S1x1024, .f32⟩ : BufTy).Contents (Elt F)),
    StableHlo.reshape main_while1b_call5_v0 main_while1b_v13 (rfl : (.f32 : EltTy) = .f32) shapeCasts_S1x1024_S1024,
    StableHlo.nullary main_while1b_call6_c (constantI S_ 32 0#32),
    StableHlo.TRef.unaryIndexed (.of main_v8_2 : StableHlo.TRef sig ⟨S8192x1024, .f32⟩) ![(.of main_while1b_v11 : StableHlo.TRef sig ⟨S_, .i32⟩), .of main_while1b_call6_c] (.of main_while1b_call6_v0 : StableHlo.TRef sig ⟨S1x1024, .f32⟩) ((fun x i => Host.dynamicSlice S1x1024 x (fun k => (i k (Shape.Idx.first h_S_)).toInt) sliceFits_S8192x1024_S1x1024) : (⟨S8192x1024, .f32⟩ : BufTy).Contents (Elt F) → (Fin 2 → (⟨S_, .i32⟩ : BufTy).Contents (Elt F)) → (⟨S1x1024, .f32⟩ : BufTy).Contents (Elt F)),
    StableHlo.reshape main_while1b_call6_v0 main_while1b_v14 (rfl : (.f32 : EltTy) = .f32) shapeCasts_S1x1024_S1024,
    StableHlo.binary main_v8_4 main_while1b_v12 main_while1b_v15 (addf : (⟨S1024, .f32⟩ : BufTy).Contents (Elt F) → (⟨S1024, .f32⟩ : BufTy).Contents (Elt F) → (⟨S1024, .f32⟩ : BufTy).Contents (Elt F)),
    StableHlo.binary main_while1b_v14 main_while1b_v15 main_while1b_v16 (mulf : (⟨S1024, .f32⟩ : BufTy).Contents (Elt F) → (⟨S1024, .f32⟩ : BufTy).Contents (Elt F) → (⟨S1024, .f32⟩ : BufTy).Contents (Elt F)),
    StableHlo.binary main_while1b_v15 main_while1b_v13 main_while1b_v17 (mulf : (⟨S1024, .f32⟩ : BufTy).Contents (Elt F) → (⟨S1024, .f32⟩ : BufTy).Contents (Elt F) → (⟨S1024, .f32⟩ : BufTy).Contents (Elt F)) ]
abbrev body1Tail {F : FTy → Type} [FloatOps F] : List (HloOp τ sig (Elt F)) :=
  [ StableHlo.unary main_while1b_v17 main_while1b_call7_v0 (broadcastInDim S1x1024 ![1] bcast_S1024_S1x1024_1 : (⟨S1024, .f32⟩ : BufTy).Contents (Elt F) → (⟨S1x1024, .f32⟩ : BufTy).Contents (Elt F)),
    StableHlo.nullary main_while1b_call7_c (constantI S_ 32 0#32),
    StableHlo.TRef.binaryIndexed (.of main_v8_5 : StableHlo.TRef sig ⟨S8192x1024, .f32⟩) (.of main_while1b_call7_v0 : StableHlo.TRef sig ⟨S1x1024, .f32⟩) ![(.of main_while1b_v11 : StableHlo.TRef sig ⟨S_, .i32⟩), .of main_while1b_call7_c] (.of main_while1b_v18 : StableHlo.TRef sig ⟨S8192x1024, .f32⟩) ((fun x u i => Host.dynamicUpdateSlice x u (fun k => (i k (Shape.Idx.first h_S_)).toInt) updateFits_S8192x1024_S1x1024) : (⟨S8192x1024, .f32⟩ : BufTy).Contents (Elt F) → (⟨S1x1024, .f32⟩ : BufTy).Contents (Elt F) → (Fin 2 → (⟨S_, .i32⟩ : BufTy).Contents (Elt F)) → (⟨S8192x1024, .f32⟩ : BufTy).Contents (Elt F)),
    StableHlo.unary main_while1b_v15 main_while1b_call8_v0 (broadcastInDim S1x1024 ![1] bcast_S1024_S1x1024_1 : (⟨S1024, .f32⟩ : BufTy).Contents (Elt F) → (⟨S1x1024, .f32⟩ : BufTy).Contents (Elt F)),
    StableHlo.nullary main_while1b_call8_c (constantI S_ 32 0#32),
    StableHlo.TRef.binaryIndexed (.of main_v8_6 : StableHlo.TRef sig ⟨S8192x1024, .f32⟩) (.of main_while1b_call8_v0 : StableHlo.TRef sig ⟨S1x1024, .f32⟩) ![(.of main_while1b_v11 : StableHlo.TRef sig ⟨S_, .i32⟩), .of main_while1b_call8_c] (.of main_while1b_v19 : StableHlo.TRef sig ⟨S8192x1024, .f32⟩) ((fun x u i => Host.dynamicUpdateSlice x u (fun k => (i k (Shape.Idx.first h_S_)).toInt) updateFits_S8192x1024_S1x1024) : (⟨S8192x1024, .f32⟩ : BufTy).Contents (Elt F) → (⟨S1x1024, .f32⟩ : BufTy).Contents (Elt F) → (Fin 2 → (⟨S_, .i32⟩ : BufTy).Contents (Elt F)) → (⟨S8192x1024, .f32⟩ : BufTy).Contents (Elt F)),
    StableHlo.nullary main_while1b_c_13 (constantI S_ 32 1#32),
    StableHlo.binary main_v8_3 main_while1b_c_13 main_while1b_v20 (addi : (⟨S_, .i32⟩ : BufTy).Contents (Elt F) → (⟨S_, .i32⟩ : BufTy).Contents (Elt F) → (⟨S_, .i32⟩ : BufTy).Contents (Elt F)),
    StableHlo.unary main_while1b_v20 main_v8_3 id,
    StableHlo.unary main_while1b_v16 main_v8_4 id,
    StableHlo.unary main_while1b_v18 main_v8_5 id,
    StableHlo.unary main_while1b_v19 main_v8_6 id ]
theorem body1_list : (body1Ops : List (HloOp τ sig (Elt Ideal))) = body1Head ++ body1Tail := rfl
theorem body1_split : after body1Ops X = after body1Tail (after body1Head X) := by
  rw [body1_list, after_append]

theorem head_v11 : after body1Head X (Proc.devRef .tc main_while1b_v11) = rowWord (X (Proc.devRef .tc main_v8_3)) := by
  after_results_simp_entrywise
  rfl
theorem head_v15 : after body1Head X (Proc.devRef .tc main_while1b_v15) = inc1 X := by
  after_results_simp_entrywise
  rfl
theorem head_v17 : after body1Head X (Proc.devRef .tc main_while1b_v17) = (mulf (inc1 X) (rd (X (Proc.devRef .tc main_v8_1)) (rowWord (X (Proc.devRef .tc main_v8_3)))) : Line) := by
  after_results_simp_entrywise
  rfl
theorem head_v8_5 : after body1Head X (Proc.devRef .tc main_v8_5) = X (Proc.devRef .tc main_v8_5) := by
  after_results_simp_entrywise
theorem head_v8_6 : after body1Head X (Proc.devRef .tc main_v8_6) = X (Proc.devRef .tc main_v8_6) := by
  after_results_simp_entrywise
theorem tail_v8_5 : after body1Tail X (Proc.devRef .tc main_v8_5) = wr (X (Proc.devRef .tc main_v8_5)) (X (Proc.devRef .tc main_while1b_v17)) (X (Proc.devRef .tc main_while1b_v11)) := by
  after_results_simp_entrywise
  rfl
theorem tail_v8_6 : after body1Tail X (Proc.devRef .tc main_v8_6) = wr (X (Proc.devRef .tc main_v8_6)) (X (Proc.devRef .tc main_while1b_v15)) (X (Proc.devRef .tc main_while1b_v11)) := by
  after_results_simp_entrywise
  rfl

theorem body1_a : after body1Ops X (Proc.devRef .tc main_v8_5)
    = wr (X (Proc.devRef .tc main_v8_5)) (mulf (inc1 X) (rd (X (Proc.devRef .tc main_v8_1)) (rowWord (X (Proc.devRef .tc main_v8_3)))) : Line) (rowWord (X (Proc.devRef .tc main_v8_3))) := by
  rw [body1_split, tail_v8_5, head_v8_5, head_v17, head_v11]
theorem body1_b : after body1Ops X (Proc.devRef .tc main_v8_6)
    = wr (X (Proc.devRef .tc main_v8_6)) (inc1 X) (rowWord (X (Proc.devRef .tc main_v8_3))) := by
  rw [body1_split, tail_v8_6, head_v8_6, head_v15, head_v11]

/-! ## The entries of the loops -/

theorem pre_v3_0 : after preOps X (Proc.devRef .tc main_v3_0) = X (Proc.devRef .tc main_arg0) := by
  after_results_simp_entrywise
  rfl
theorem pre_v3_1 : after preOps X (Proc.devRef .tc main_v3_1) = X (Proc.devRef .tc main_arg1) := by
  after_results_simp_entrywise
  rfl
theorem pre_v3_3 : after preOps X (Proc.devRef .tc main_v3_3) = (shapeCast S1024 (X (Proc.devRef .tc main_arg2)) shapeCasts_S1x1024_S1024 : Line) := by
  after_results_simp_entrywise
  rfl
theorem mid_v8_0 : after midOps X (Proc.devRef .tc main_v8_0) = X (Proc.devRef .tc main_arg3) := by
  after_results_simp_entrywise
  rfl
theorem mid_v8_1 : after midOps X (Proc.devRef .tc main_v8_1) = X (Proc.devRef .tc main_v3_5) := by
  after_results_simp_entrywise
  rfl
theorem mid_v8_2 : after midOps X (Proc.devRef .tc main_v8_2) = X (Proc.devRef .tc main_arg0) := by
  after_results_simp_entrywise
  rfl
theorem mid_v8_4 : after midOps X (Proc.devRef .tc main_v8_4)
    = (Host.reduceAdd (X (Proc.devRef .tc main_arg4)) (constant S_ .f32 0x00000000#32) reducesTo_S1x1024_S1024_d0 h_S_ : Line) := by
  after_results_simp_entrywise
  rfl
theorem post_v9 : after postOps X (Proc.devRef .tc main_v9) = (broadcastInDim S1x1024 ![1] bcast_S1024_S1x1024_1 (X (Proc.devRef .tc main_v8_4) : Line)) := by
  after_results_simp_entrywise

theorem row_sum (R : FVec Ideal S1x1024 .f32) (j : Fin 1024) :
    (Host.reduceAdd R (constant S_ .f32 0x00000000#32) reducesTo_S1x1024_S1024_d0 h_S_ : Line) (ix1 j) = R (ix2 0 j) := by
  refine (Ideal.hostReduceAdd_r2_a0 (n0 := 1) (n1 := 1024) reducesTo_S1x1024_S1024_d0 R _ (ix1 j)).trans ?_
  rw [Fin.sum_univ_one]
  have hz : (constant S_ .f32 0x00000000#32 : FVec Ideal S_ .f32) (Shape.Idx.first h_S_) = 0 := by
    exact IdealRules.sign_bit.ideal_zero .f32
  rw [hz, zero_add]
  rfl

theorem word_iv (k : ℕ) : Scf.iv 0#32 1#32 k = BitVec.ofNat 32 k := by
  simp [Scf.iv]

theorem rowWord_ofNat (k : ℕ) (hk : k < 8192) : rowWord (wordOf k) = wordOf (8191 - k) := by
  funext _
  show (8192#32 - BitVec.ofNat 32 k) - 1#32 = _
  apply BitVec.eq_of_toNat_eq
  show _ = (BitVec.ofNat 32 (8191 - k)).toNat
  simp only [BitVec.toNat_sub, BitVec.toNat_ofNat]
  omega

/-! ## The first loop -/

variable (m : (ℓ : Loc nD τ sig) → Buf (Elt Ideal) ℓ) (c : Dev nD)

abbrev aA : Big := m ((c : Thread nD τ).loc main_arg0)
abbrev aB : Big := m ((c : Thread nD τ).loc main_arg1)
abbrev aR : RowR := m ((c : Thread nD τ).loc main_arg2)
abbrev aD : Big := m ((c : Thread nD τ).loc main_arg3)
abbrev aL : RowR := m ((c : Thread nD τ).loc main_arg4)

theorem ctr0_at (k : ℕ) : Wk0 m k c (Proc.devRef .tc main_v3_2) = wordOf k := (atK_ctr0 m c k).trans (funext fun _ => word_iv k)
theorem ctr1_at (k : ℕ) : Wk1 m k c (Proc.devRef .tc main_v8_3) = wordOf k := (atK_ctr1 m c k).trans (funext fun _ => word_iv k)

theorem v3_0_at (k : ℕ) : Wk0 m k c (Proc.devRef .tc main_v3_0) = aA m c := by
  induction k with
  | zero => exact pre_v3_0 _
  | succ k ih => rw [Wk0_succ, body0_of _ _ (by decide), cond0_of _ _ (by decide), ih]
theorem v3_1_at (k : ℕ) : Wk0 m k c (Proc.devRef .tc main_v3_1) = aB m c := by
  induction k with
  | zero => exact pre_v3_1 _
  | succ k ih => rw [Wk0_succ, body0_of _ _ (by decide), cond0_of _ _ (by decide), ih]

theorem v3_3_at (k : ℕ) (hk : k ≤ 8192) (j : Fin 1024) : (Wk0 m k c (Proc.devRef .tc main_v3_3) : Line) (ix1 j) = Hs (aA m c) (aB m c) (aR m c) j k := by
  induction k with
  | zero =>
    rw [show Wk0 m 0 c (Proc.devRef .tc main_v3_3) = _ from pre_v3_3 _, shapeCast_1a_a_apply, Hs]
  | succ k ih =>
    rw [Wk0_succ, body0_carry, cond0_of _ _ (by decide), cond0_of _ _ (by decide), cond0_of _ _ (by decide), cond0_of _ _ (by decide),
      v3_0_at, v3_1_at, ctr0_at, addf_apply, mulf_apply, rd_apply _ _ (by omega), rd_apply _ _ (by omega), ih (by omega), Hs,
      rowAt_of _ _ _ (by omega), rowAt_of _ _ _ (by omega)]

theorem v3_5_at (k : ℕ) (hk : k ≤ 8192) (p : Fin 8192) (j : Fin 1024) (hi : p.val < k) :
    (Wk0 m k c (Proc.devRef .tc main_v3_5) : Big) (ix2 p j) = hPrev (aA m c) (aB m c) (aR m c) (ix2 p j) := by
  induction k with
  | zero => omega
  | succ k ih =>
    rw [Wk0_succ, body0_prev, cond0_of _ _ (by decide), cond0_of _ _ (by decide), cond0_of _ _ (by decide), ctr0_at, wr_apply _ _ _ (by omega)]
    split
    · next h => rw [v3_3_at m c k (by omega), ← h]; rfl
    · next h => exact ih (by omega) (by omega)

/-- An array known at every row and column. -/
theorem big_ext (X Y : Big) (h : ∀ p j, X (ix2 p j) = Y (ix2 p j)) : X = Y := funext fun i => by rw [ValueIdx.eq_ix2 i]; exact h _ _

theorem v3_5_end : Wk0 m nT c (Proc.devRef .tc main_v3_5) = hPrev (aA m c) (aB m c) (aR m c) :=
  big_ext _ _ fun p j => v3_5_at m c nT le_rfl p j p.isLt

/-! ## The second loop -/

theorem v8_0_at (k : ℕ) : Wk1 m k c (Proc.devRef .tc main_v8_0) = aD m c := by
  induction k with
  | zero => exact (mid_v8_0 _).trans ((cond0_of _ _ (by decide)).trans (Wk0_arg m c nT main_arg3 (by decide)))
  | succ k ih => rw [Wk1_succ, body1_of _ _ (by decide), cond1_of _ _ (by decide), ih]
theorem v8_1_at (k : ℕ) : Wk1 m k c (Proc.devRef .tc main_v8_1) = hPrev (aA m c) (aB m c) (aR m c) := by
  induction k with
  | zero => exact (mid_v8_1 _).trans ((cond0_of _ _ (by decide)).trans (v3_5_end m c))
  | succ k ih => rw [Wk1_succ, body1_of _ _ (by decide), cond1_of _ _ (by decide), ih]
theorem v8_2_at (k : ℕ) : Wk1 m k c (Proc.devRef .tc main_v8_2) = aA m c := by
  induction k with
  | zero => exact (mid_v8_2 _).trans ((cond0_of _ _ (by decide)).trans (Wk0_arg m c nT main_arg0 (by decide)))
  | succ k ih => rw [Wk1_succ, body1_of _ _ (by decide), cond1_of _ _ (by decide), ih]

/-- What comes in at a trip of the second loop. -/
theorem inc1_at (k : ℕ) (hk : k < 8192) (j : Fin 1024) (h4 : (Wk1 m k c (Proc.devRef .tc main_v8_4) : Line) (ix1 j) = Cs (aA m c) (aD m c) (aL m c) j k) :
    inc1 (after cond1Ops (Wk1 m k c)) (ix1 j) = Cs (aA m c) (aD m c) (aL m c) j k + aD m c (ix2 ⟨8191 - k, by omega⟩ j) := by
  unfold inc1
  rw [cond1_of _ _ (by decide), cond1_of _ _ (by decide), cond1_of _ _ (by decide), v8_0_at, ctr1_at, rowWord_ofNat k hk, addf_apply, rd_apply _ _ (by omega), h4]

theorem v8_4_at (k : ℕ) (hk : k ≤ 8192) (j : Fin 1024) : (Wk1 m k c (Proc.devRef .tc main_v8_4) : Line) (ix1 j) = Cs (aA m c) (aD m c) (aL m c) j k := by
  induction k with
  | zero =>
    rw [show Wk1 m 0 c (Proc.devRef .tc main_v8_4) = _ from mid_v8_4 _, row_sum, cond0_of _ _ (by decide), Wk0_arg m c nT main_arg4 (by decide), Cs]
  | succ k ih =>
    rw [Wk1_succ, body1_carry, cond1_of _ _ (by decide), cond1_of _ _ (by decide), v8_2_at, ctr1_at, rowWord_ofNat k (by omega), mulf_apply,
      rd_apply _ _ (by omega), inc1_at m c k (by omega) j (ih (by omega)), Cs, rowAt_of _ _ _ (by omega), rowAt_of _ _ _ (by omega)]

theorem inc1_row (k : ℕ) (hk : k < 8192) (p : Fin 8192) (j : Fin 1024) (h : p.val = 8191 - k) :
    inc1 (after cond1Ops (Wk1 m k c)) (ix1 j) = gradB (aA m c) (aD m c) (aL m c) (ix2 p j) := by
  have e : (⟨8191 - k, by omega⟩ : Fin 8192) = p := Fin.ext h.symm
  rw [inc1_at m c k hk j (v8_4_at m c k hk.le j), e, add_comm]
  show _ = aD m c (ix2 p j) + Cs (aA m c) (aD m c) (aL m c) j (8191 - p.val)
  rw [h, show 8191 - (8191 - k) = k by omega]

theorem v8_6_at (k : ℕ) (hk : k ≤ 8192) (p : Fin 8192) (j : Fin 1024) (hi : 8192 - k ≤ p.val) :
    (Wk1 m k c (Proc.devRef .tc main_v8_6) : Big) (ix2 p j) = gradB (aA m c) (aD m c) (aL m c) (ix2 p j) := by
  induction k with
  | zero => omega
  | succ k ih =>
    rw [Wk1_succ, body1_b, cond1_of _ _ (by decide), cond1_of _ _ (by decide), ctr1_at, rowWord_ofNat k (by omega), wr_apply _ _ _ (by omega)]
    split
    · next h => exact inc1_row m c k (by omega) p j h
    · next h => exact ih (by omega) (by omega)

theorem v8_5_at (k : ℕ) (hk : k ≤ 8192) (p : Fin 8192) (j : Fin 1024) (hi : 8192 - k ≤ p.val) :
    (Wk1 m k c (Proc.devRef .tc main_v8_5) : Big) (ix2 p j) = gradA (aA m c) (hPrev (aA m c) (aB m c) (aR m c)) (aD m c) (aL m c) (ix2 p j) := by
  induction k with
  | zero => omega
  | succ k ih =>
    rw [Wk1_succ, body1_a, cond1_of _ _ (by decide), cond1_of _ _ (by decide), cond1_of _ _ (by decide), v8_1_at, ctr1_at, rowWord_ofNat k (by omega), wr_apply _ _ _ (by omega)]
    split
    · next h =>
      have e : (⟨8191 - k, by omega⟩ : Fin 8192) = p := Fin.ext h.symm
      rw [mulf_apply, inc1_row m c k (by omega) p j h, rd_apply _ _ (by omega), e]
      rfl
    · next h => exact ih (by omega) (by omega)

/-! ## The results -/

theorem end_a : Wend m c (Proc.devRef .tc main_v8_5) = gradA (aA m c) (hPrev (aA m c) (aB m c) (aR m c)) (aD m c) (aL m c) := by
  refine (post_of _ _ (by decide)).trans ((cond1_of _ _ (by decide)).trans (big_ext _ _ fun p j => v8_5_at m c nT le_rfl p j ?_))
  exact Nat.zero_le _
theorem end_b : Wend m c (Proc.devRef .tc main_v8_6) = gradB (aA m c) (aD m c) (aL m c) := by
  refine (post_of _ _ (by decide)).trans ((cond1_of _ _ (by decide)).trans (big_ext _ _ fun p j => v8_6_at m c nT le_rfl p j ?_))
  exact Nat.zero_le _
theorem end_0 : Wend m c (Proc.devRef .tc main_v9) = grad0 (aA m c) (aD m c) (aL m c) := by
  refine (post_v9 _).trans ?_
  rw [cond1_of _ _ (by decide)]
  funext i
  refine (show _ = (Wk1 m nT c (Proc.devRef .tc main_v8_4) : Line) (ix1 (i 1)) from ?_).trans (v8_4_at m c nT le_rfl (i 1))
  refine congrArg (Wk1 m nT c (Proc.devRef .tc main_v8_4) : Line) ?_
  funext a
  match a with
  | ⟨0, _⟩ => rfl

end Cert.Proof.ScanRef

end
-- ==== Proof.ScanClaim.lean ====
/-
  The scan's gradient, kernel against reference: both runs end with the closed forms of the specification, given that a, b and dh
  are finite.
-/
module

public import proofs.«01_k».proof.Defs
public import proofs.«01_k».proof.Proof.Gen.KernelIdeal
public import proofs.«01_k».proof.Proof.Gen.ReferenceIdeal
public import proofs.«01_k».proof.Proof.Run
public import proofs.«01_k».proof.Proof.ValRegion
public import proofs.«01_k».proof.Proof.RefVal

@[expose] public section

noncomputable section

namespace Cert.Proof

open Idealize.ShloMosaic Idealize.SL.Sem

/-- The precondition's one shape relation. -/
theorem finite_facts : Cert.Pre_finite.Facts := ⟨⟨fun a => a.elim0, fun a => a.elim0⟩⟩

/-- A value whose absolute value lies below the infinite pattern is a real number. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    unfold Ideal.cmp at h
    simp only [hn] at h
    exact absurd h (by decide)
  have h1 : x ≠ ⊤ := fun e => by simp [e] at hlt
  have h2 : x ≠ ⊥ := fun e => by simp [e] at hlt
  exact ⟨x.toReal, (EReal.coe_toReal h1 h2).symm⟩

/-- Read off one of the precondition's masks: the array it is of holds real numbers. -/
theorem real_of_mask (h : Cert.Pre_finite.S_.BroadcastsInDim Cert.Pre_finite.S8192x1024 ![]) (X : FVec Ideal Cert.Pre_finite.S8192x1024 .f32)
    (hX : cmpf .olt (Host.absf X) (broadcastInDim Cert.Pre_finite.S8192x1024 ![] h (constant Cert.Pre_finite.S_ .f32 0x7F800000#32)) = fun _ => 1#1) : Scan.Real X :=
  fun i => real_of_abs_lt (X i) (congrFun hX i)

section
open Cert.KernelIdeal Cert.KernelIdeal.Gen

variable (m : (ℓ : Loc nD τ sig) → Buf (Elt Ideal) ℓ)

abbrev kA (c : Dev nD) : Scan.Big := m ((c.tc : Thread nD τ).loc main_arg0)
abbrev kB (c : Dev nD) : Scan.Big := m ((c.tc : Thread nD τ).loc main_arg1)
abbrev kR (c : Dev nD) : Scan.RowR := m ((c.tc : Thread nD τ).loc main_arg2)
abbrev kD (c : Dev nD) : Scan.Big := m ((c.tc : Thread nD τ).loc main_arg3)
abbrev kL (c : Dev nD) : Scan.RowR := m ((c.tc : Thread nD τ).loc main_arg4)

theorem pre_real (hm : Cert.Pre_KernelIdeal_finite (hPre_finite := finite_facts) m) (c : Dev nD) : Scan.Real (kA m c) ∧ Scan.Real (kB m c) ∧ Scan.Real (kD m c) :=
  ⟨real_of_mask _ _ (hm c).1, real_of_mask _ _ (hm c).2.1, real_of_mask _ _ (hm c).2.2⟩

theorem vA1_eq (c : Dev nD) : Scan.vA1 (Scan.X1 m) c = kA m c := Scan.X1_of m c main_arg0 (by decide)
theorem vD1_eq (c : Dev nD) : Scan.vD1 (Scan.X1 m) c = kD m c := Scan.X1_of m c main_arg3 (by decide)
theorem vR1_eq (c : Dev nD) : Scan.vR1 (Scan.X1 m) c = kL m c := Scan.X1_of m c main_arg4 (by decide)
theorem vP1_eq (c : Dev nD) (hA : Scan.Real (kA m c)) (hB : Scan.Real (kB m c)) : Scan.vP1 (Scan.X1 m) c = Scan.hPrev (kA m c) (kB m c) (kR m c) :=
  (Scan.X1_main_v0_1 m c).trans (Scan.arr0_4 (Scan.X0 m) c hA hB)

theorem kernel_a (c : Dev nD) (hA : Scan.Real (kA m c)) (hB : Scan.Real (kB m c)) (hD : Scan.Real (kD m c)) :
    (Scan.dat1 (Scan.X1 m) c).arrAt 4 cfg1.N = (Scan.gradA (kA m c) (Scan.hPrev (kA m c) (kB m c) (kR m c)) (kD m c) (kL m c) : Scan.Big) := by
  refine (Scan.arr1_4 (Scan.X1 m) c ?_ ?_).trans ?_
  · rw [vA1_eq]; exact hA
  · rw [vD1_eq]; exact hD
  · rw [vA1_eq, vD1_eq, vR1_eq, vP1_eq m c hA hB]
theorem kernel_b (c : Dev nD) (hA : Scan.Real (kA m c)) (hD : Scan.Real (kD m c)) :
    (Scan.dat1 (Scan.X1 m) c).arrAt 5 cfg1.N = (Scan.gradB (kA m c) (kD m c) (kL m c) : Scan.Big) := by
  refine (Scan.arr1_5 (Scan.X1 m) c ?_ ?_).trans ?_
  · rw [vA1_eq]; exact hA
  · rw [vD1_eq]; exact hD
  · rw [vA1_eq, vD1_eq, vR1_eq]
theorem kernel_0 (c : Dev nD) (hA : Scan.Real (kA m c)) (hD : Scan.Real (kD m c)) :
    (Scan.dat1 (Scan.X1 m) c).arrAt 6 cfg1.N = (Scan.grad0 (kA m c) (kD m c) (kL m c) : Scan.RowR) := by
  refine (Scan.arr1_6 (Scan.X1 m) c ?_ ?_).trans ?_
  · rw [vA1_eq]; exact hA
  · rw [vD1_eq]; exact hD
  · rw [vA1_eq, vD1_eq, vR1_eq]
end

theorem scan_algebraic : Cert.algebraic_KernelIdeal_ReferenceIdeal_pre_finite (hKernelIdeal := Cert.KernelIdeal.Gen.facts) (hReferenceIdeal := Cert.ReferenceIdeal.Gen.facts)
    (hPre_finite := finite_facts) := by
  intro m g m' g' hm hargs
  refine ⟨fun c => Scan.gradA (kA m c) (Scan.hPrev (kA m c) (kB m c) (kR m c)) (kD m c) (kL m c), fun c => Scan.gradB (kA m c) (kD m c) (kL m c),
    fun c => Scan.grad0 (kA m c) (kD m c) (kL m c), ?_, ?_⟩
  · refine (θ_run Cert.KernelIdeal.defs _ _).mono (fun r h c => ?_) (Scan.run_main m g)
    obtain ⟨h0, h1, h2, h3, h4, ra, rb, r0⟩ := h.1 c
    obtain ⟨hA, hB, hD⟩ := pre_real m hm c
    exact ⟨ra.trans (kernel_a m c hA hB hD), rb.trans (kernel_b m c hA hD), r0.trans (kernel_0 m c hA hD), h0, h1, h2, h3, h4⟩
  · refine (θ_run Cert.ReferenceIdeal.defs _ _).mono (fun r h c => ?_) (ScanRef.run_main m' g')
    obtain ⟨e0, e1, e2, e3, e4⟩ := hargs c
    have e : ∀ a ∈ ScanRef.argRefs, r.2.mem ((c.tc : Thread Cert.ReferenceIdeal.nD Cert.ReferenceIdeal.τ).loc a) = m' ((c.tc : Thread Cert.ReferenceIdeal.nD Cert.ReferenceIdeal.τ).loc a) :=
      fun a ha => (h.1 c a (by revert a; decide)).trans (ScanRef.Wend_arg m' c a ha)
    have qA : ScanRef.aA m' c = kA m c := e0
    have qB : ScanRef.aB m' c = kB m c := e1
    have qR : ScanRef.aR m' c = kR m c := e2
    have qD : ScanRef.aD m' c = kD m c := e3
    have qL : ScanRef.aL m' c = kL m c := e4
    refine ⟨(h.1 c _ rfl).trans ((ScanRef.end_a m' c).trans ?_), (h.1 c _ rfl).trans ((ScanRef.end_b m' c).trans ?_),
      (h.1 c _ rfl).trans ((ScanRef.end_0 m' c).trans ?_), e _ (by decide), e _ (by decide), e _ (by decide), e _ (by decide), e _ (by decide)⟩
    · rw [qA, qB, qR, qD, qL]
    · rw [qA, qD, qL]
    · rw [qA, qD, qL]

end Cert.Proof

end
-- ==== Proof.Slots.lean ====
/-
  A ring of two slots: the slots make it up, and a slot filled through the ring reads back as one block.
-/
module

public import Idealize.ShloMosaic.Lib.Pipeline.Value
public import Idealize.ShloMosaic.Lib.Pipeline.FrameBody
public import Idealize.ShloMosaic.Lib.Ring

@[expose] public section

noncomputable section

namespace Cert.Proof.Slots

open Idealize.ShloMosaic

/-- A slot stored to whole through its ring reads as what was stored. -/
theorem slot_write {sig : RefSig} {κ : Kind} {cs : Space} {s s' : Shape} {e : EltTy} {Val : EltTy → Type}
    (M : Memref sig κ cs s e) {off size : Fin s.rank → ℕ} (inb : ∀ a, off a + size a ≤ s.size a)
    (hq : (Rect.unit off size inb).shape.Squeezes s') (hc : (Rect.unit off size inb).shape.ShapeCasts s')
    (f : M.view.ty.Contents Val) (x : (Rect.unit off size inb).shape.Idx → Val e) :
    ((M.slice (Rect.unit off size inb) (fun _ => rfl)).squeeze s' hq).view.read Val (View.write Val (M.access (Rect.unit off size inb)) f x Finset.univ)
      = shapeCast s' x hc := by
  have key : (M.access (Rect.unit off size inb)).read Val (View.write Val (M.access (Rect.unit off size inb)) f x Finset.univ) = x :=
    View.read_write_univ (v := M.access (Rect.unit off size inb)) f x
  exact congrArg (fun y => shapeCast s' y hc) key

theorem inb_slot {H K : ℕ} (s : Fin 2) : ∀ a, (![s.val, 0, 0] : Fin 3 → ℕ) a + (![1, H, K] : Fin 3 → ℕ) a ≤ (![2, H, K] : Fin 3 → ℕ) a := by
  have := s.isLt; intro a; fin_cases a <;> simp <;> omega

theorem inb_cell (s : Fin 2) : ∀ a, (![s.val] : Fin 1 → ℕ) a + (![1] : Fin 1 → ℕ) a ≤ (![2] : Fin 1 → ℕ) a := by
  have := s.isLt; intro a; fin_cases a <;> simp <;> omega

/-- Slot `s`'s elements of the ring. -/
abbrev slotSet {H K : ℕ} (s : Fin 2) : Finset (⟨3, ![2, H, K]⟩ : Shape).Idx := (Rect.unit (s := ⟨3, ![2, H, K]⟩) ![s.val, 0, 0] ![1, H, K] (inb_slot s)).set

theorem slots_disjoint {H K : ℕ} (s s' : Fin 2) (h : s ≠ s') : Disjoint (slotSet (H := H) (K := K) s) (slotSet s') :=
  Ring.lead_disjoint (s := ⟨3, ![2, H, K]⟩) (0 : Fin 3) 1 (fun s : Fin 2 => (![s.val, 0, 0] : Fin 3 → ℕ)) ![1, H, K] inb_slot (fun s => by simp) rfl s s' h

theorem slots_cover {H K : ℕ} : Finset.univ.biUnion (slotSet (H := H) (K := K)) = Finset.univ :=
  Ring.lead_cover (s := ⟨3, ![2, H, K]⟩) (0 : Fin 3) 1 (fun s : Fin 2 => (![s.val, 0, 0] : Fin 3 → ℕ)) ![1, H, K] inb_slot (fun s => by simp)
    (fun s a ha => by fin_cases a <;> first | exact absurd rfl ha | rfl) rfl (fun a ha => by fin_cases a <;> first | exact absurd rfl ha | rfl) rfl

theorem zero_offset : (![0, 0] : Fin 2 → ℕ) = fun _ => 0 := funext fun a => by fin_cases a <;> rfl

end Cert.Proof.Slots

end
-- ==== Proof.Products.lean ====
/-
  What the matrix products of the step share: a block brought through a two-slot ring and read back, and a sum over rows
  taken block by block.
-/
module

public import Idealize.ShloMosaic.Lib.Pipeline.Value
public import Idealize.ShloMosaic.Lib.Pipeline.FrameBody
public import Idealize.ShloMosaic.Lib.VecWindow
public import Idealize.ShloMosaic.PureOps.Ideal.Laws

@[expose] public section

noncomputable section

namespace Cert.Proof.Products

open Idealize.ShloMosaic

/-- A slot of a ring into which a block was written whole reads, through the ring, as the block. -/
theorem slot_read {sig : RefSig} {κ : Kind} {cs : Space} {s s' : Shape} {e : EltTy} {Val : EltTy → Type}
    (M : Memref sig κ cs s e) {off off' size : Fin s.rank → ℕ} (inb : ∀ a, off a + size a ≤ s.size a)
    (inb' : ∀ a, off' a + size a ≤ s.size a) (h : off = off') (hq : (Rect.unit off' size inb').shape.Squeezes s')
    (hc : (Rect.unit off size inb).shape.ShapeCasts s')
    (f : ((M.slice (Rect.unit off' size inb') (fun _ => rfl)).squeeze s' hq).view.ty.Contents Val) (x : s'.Idx → Val e) :
    shapeCast s' (M.view.readAt Val (Rect.unit off size inb).toLoadRect
      (((M.slice (Rect.unit off' size inb') (fun _ => rfl)).squeeze s' hq).view.writes Val f [⟨Rect.whole s', x⟩])) hc = x := by
  subst h
  have key : ∀ (v : View sig κ cs s' e) (f : v.ty.Contents Val), v.read Val (v.writes Val f [⟨Rect.whole s', x⟩]) = x := by
    intro v f
    funext y
    have hy : v.read Val (v.writes Val f [⟨Rect.whole s', x⟩]) ((Rect.whole s').emb y) = x y :=
      congrFun (View.read_write_univ (v := v.slice (Rect.whole s')) (Val := Val) f x) y
    rwa [Rect.emb_whole_apply] at hy
  exact key _ _

/-- A sum over the rows of one more block. -/
theorem sum_block {n b r : ℕ} (h : n = b * r) (f : ℕ → EReal) :
    ∑ q ∈ Finset.range (n + b), f q = (∑ q ∈ Finset.range n, f q) + ∑ k : Fin b, f (b * r + k.val) := by
  rw [Finset.sum_range_add, h, Finset.sum_range (fun k => f (b * r + k))]

end Cert.Proof.Products
-- ==== Proof.Ff2D.lean ====
/-
  The input gradient of the second feed-forward product: each grid point takes one row block of the output's gradient
  through the whole weight.
-/
module

public import proofs.«01_k».proof.Proof.Slots
public import proofs.«01_k».proof.Proof.Gen.Kernel2Ideal.Value
public import proofs.«01_k».proof.Proof.Products
public import proofs.«01_k».proof.Defs
public import Idealize.ShloMosaic.Lib.Claim
public import proofs.«01_k».proof.Proof.Gen.Reference2Ideal.Run
public import Idealize.ShloMosaic.Lib.Pipeline.ValueKit
public import Idealize.ShloMosaic.Lib.Pointwise
public import Idealize.ShloMosaic.Lib.ValueIdx
public import Idealize.ShloMosaic.Lib.KernelVsHost

@[expose] public section

noncomputable section

open Idealize.ShloMosaic Idealize.ShloMosaic.TcCoe Idealize.SL.Sem
open Idealize.ShloMosaic.Pipeline (Dat)

namespace Cert.Kernel2Ideal.Sum

open Cert.Kernel2Ideal Cert.Kernel2Ideal.Gen Cert.Proof.Products

variable {F : FTy → Type} [FloatOps F]
variable (m : (ℓ : Loc nD τ sig) → Buf (Elt F) ℓ)

theorem off9 : ∀ t : Fin grid0.N, k0_off9 (grid0.coords t) = ![(Ring.sl 2 t.val).val, 0, 0] := by decide +kernel

/-- One row block of the gradient through the weight, from zero. -/
def blockOut (g : FVec F S512x1024 .bf16) (w : FVec F S4096x1024 .bf16) : FVec F S512x4096 .f32 :=
  addf (k0_pay1 (F := F)) (matmul dot_S512x1024_S4096x1024_S512x4096_1_1_0_0_n_n none g w (constant S512x4096 .f32 0x00000000#32))

theorem pay2_block (v : Vec F S1x512x1024 .bf16) (w : Vec F S4096x1024 .bf16) :
    k0_pay2 (k0_pay1 (F := F)) v w = blockOut (shapeCast S512x1024 v shapeCasts_S1x512x1024_S512x1024) w := by
  unfold k0_pay2 blockOut
  simp only [shapeCast_self]

/-- The block of the gradient that grid point `t` waits for. -/
abbrev gBlk (c : Dev nD) (t : Fin cfg0.N) (fh : HbBuf0 (F := F) c hbM0_0) : FVec F S512x1024 .bf16 :=
  (srcB0_0 (Ring.bk 16 t.val)).view.read (Elt F) fh

theorem slot_gBlk (c : Dev nD) (t : Fin cfg0.N) (fh : HbBuf0 (F := F) c hbM0_0) (inb) (f) :
    shapeCast S512x1024 (View.readAt (Elt F) scM0_0.view (Rect.unit (s := S2x512x1024) (k0_off9 (grid0.coords t)) S1x512x1024.size inb).toLoadRect
      ((rslot0_0 (Ring.sl 2 t.val)).view.writes (Elt F) f
        [⟨Rect.whole S512x1024, ReadAs.same.apply (View.read (Elt F) (srcB0_0 (Ring.bk 16 t.val)).view fh)⟩])) shapeCasts_S1x512x1024_S512x1024
      = gBlk c t fh :=
  slot_read scM0_0 inb (inb_slot0_0 (Ring.sl 2 t.val)) (off9 t) squeezes_S1x512x1024_S512x1024 shapeCasts_S1x512x1024_S512x1024 f _

theorem out_A (c : Dev nD) (t : Fin cfg0.N) (a2 : Memref sig .tc .vmem S4096x1024 .bf16) (h2 : a2.IsWhole)
    (a4 : Memref sig .tc .vmem S512x4096 .f32) (h4 : a4.IsWhole) (c0 : cond0_0 (grid0.coords t)) (c1 : cond0_1 (grid0.coords t)) (c2 : cond0_2 (grid0.coords t)) (c3 : cond0_3 (grid0.coords t)) (c4 : cond0_4 (grid0.coords t))
    (w : Vec F S4096x1024 .bf16) (fh : HbBuf0 (F := F) c hbM0_0) :
    out0_A_1 c t a2 h2 a4 h4 c0 c1 c2 c3 c4 w fh = blockOut (gBlk c t fh) w := by
  unfold out0_A_1
  rw [View.read_writes_eq_canon _ _ _ (cover0_A_1 c t a2 h2 a4 h4 c0 c1 c2 c3 c4 w fh)]
  unfold kernelRun0_A
  dsimp only
  sl_unfold_words
  rw [View.canon_cons_unit_zero (S := S512x4096) Cert.Proof.Slots.zero_offset, View.readCov_unit_zero (S := S512x4096) _ Cert.Proof.Slots.zero_offset, pay2_block]
  refine congr (congrArg blockOut ?_) ?_
  · exact slot_gBlk c t fh _ _
  · simp only [View.readAt_eq_ld, h2.read_unread, View.ld_unit_zero (S := S4096x1024) Cert.Proof.Slots.zero_offset]

theorem out_B (c : Dev nD) (t : Fin cfg0.N) (a2 : Memref sig .tc .vmem S4096x1024 .bf16) (h2 : a2.IsWhole)
    (a4 : Memref sig .tc .vmem S512x4096 .f32) (h4 : a4.IsWhole) (c0 : ¬cond0_0 (grid0.coords t)) (c2 : cond0_2 (grid0.coords t)) (c3 : cond0_3 (grid0.coords t)) (c4 : cond0_4 (grid0.coords t))
    (w : Vec F S4096x1024 .bf16) (fh : HbBuf0 (F := F) c hbM0_0) :
    out0_B_1 c t a2 h2 a4 h4 c0 c2 c3 c4 w fh = blockOut (gBlk c t fh) w := by
  unfold out0_B_1
  rw [View.read_writes_eq_canon _ _ _ (cover0_B_1 c t a2 h2 a4 h4 c0 c2 c3 c4 w fh)]
  unfold kernelRun0_B
  dsimp only
  sl_unfold_words
  rw [View.canon_cons_unit_zero (S := S512x4096) Cert.Proof.Slots.zero_offset, View.readCov_unit_zero (S := S512x4096) _ Cert.Proof.Slots.zero_offset, pay2_block]
  refine congr (congrArg blockOut ?_) ?_
  · exact slot_gBlk c t fh _ _
  · simp only [View.readAt_eq_ld, h2.read_unread, View.ld_unit_zero (S := S4096x1024) Cert.Proof.Slots.zero_offset]

theorem out_C (c : Dev nD) (t : Fin cfg0.N) (a2 : Memref sig .tc .vmem S4096x1024 .bf16) (h2 : a2.IsWhole)
    (a4 : Memref sig .tc .vmem S512x4096 .f32) (h4 : a4.IsWhole) (c0 : ¬cond0_0 (grid0.coords t)) (c2 : ¬cond0_2 (grid0.coords t)) (c4 : cond0_4 (grid0.coords t))
    (w : Vec F S4096x1024 .bf16) (fh : HbBuf0 (F := F) c hbM0_0) :
    out0_C_1 c t a2 h2 a4 h4 c0 c2 c4 w fh = blockOut (gBlk c t fh) w := by
  unfold out0_C_1
  rw [View.read_writes_eq_canon _ _ _ (cover0_C_1 c t a2 h2 a4 h4 c0 c2 c4 w fh)]
  unfold kernelRun0_C
  dsimp only
  sl_unfold_words
  rw [View.canon_cons_unit_zero (S := S512x4096) Cert.Proof.Slots.zero_offset, View.readCov_unit_zero (S := S512x4096) _ Cert.Proof.Slots.zero_offset, pay2_block]
  refine congr (congrArg blockOut ?_) ?_
  · exact slot_gBlk c t fh _ _
  · simp only [View.readAt_eq_ld, h2.read_unread, View.ld_unit_zero (S := S4096x1024) Cert.Proof.Slots.zero_offset]

/-- Every point leaves its row block's product. -/
theorem outs_eq (c : Dev nD) (t : Fin cfg0.N) :
    outsAt0 m c t.val t.isLt = blockOut (gBlk c t (V m c main_v1)) (iblk m c 0 t) := by
  have hN : t.val < 16 := Nat.lt_of_lt_of_eq t.isLt N_0
  by_cases h0 : t.val % 16 = 0
  · rw [outsAt0_A m c t h0 (by omega), out_A]
  · by_cases h2 : t.val < 15
    · rw [outsAt0_B m c t h0 h2, out_B]
    · rw [outsAt0_C m c t h0 h2, out_C]

section Values

variable (m : (ℓ : Loc nD τ sig) → Buf (Elt Ideal) ℓ)

theorem blockOut_apply (g : FVec Ideal S512x1024 .bf16) (w : FVec Ideal S4096x1024 .bf16) (r : Fin 512) (s : Fin 4096) :
    blockOut g w (ix2 r s) = ∑ k : Fin 1024, g (ix2 r k) * w (ix2 s k) := by
  unfold blockOut
  rw [matmul_zero_eq_dotGeneral]
  pointwise
  rw [show k0_pay1 (F := Ideal) (ix2 r s) = 0 from Ideal.ofBits_zero_f32]
  exact zero_add _

/-- The two arguments, as matrices of extended reals. -/
abbrev vW (c : Dev nD) : S4096x1024.Idx → EReal := m ((c : Thread nD τ).loc main_arg0)
abbrev vG (c : Dev nD) : S8192x1024.Idx → EReal := m ((c : Thread nD τ).loc main_arg1)

theorem entry_v0 (c : Dev nD) : V m c main_v0 = (vW m c : S4096x1024.Idx → EReal) := by
  unfold V hostOps0
  after_results
  rfl
theorem entry_v1 (c : Dev nD) : V m c main_v1 = (vG m c : S8192x1024.Idx → EReal) := by
  unfold V hostOps0
  after_results
  rfl

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)

theorem lt16 (t : Fin cfg0.N) : t.val < 16 := Nat.lt_of_lt_of_eq t.isLt N_0

/-- A row of the arrays by its row block and its place there. -/
def row (t : Fin cfg0.N) (r : Fin 512) : Fin 8192 := ⟨512 * t.val + r.val, by have := lt16 t; omega⟩

/-- The two blocks of a grid point. -/
abbrev wB (c : Dev nD) (t : Fin cfg0.N) : S4096x1024.Idx → EReal := iblk m c 0 t
abbrev gB (c : Dev nD) (t : Fin cfg0.N) : S512x1024.Idx → EReal := gBlk c t (V m c main_v1)

theorem iblk_apply (c : Dev nD) (t : Fin cfg0.N) (s : Fin 4096) (k : Fin 1024) :
    wB m c t (ix2 s k) = vW m c (ix2 s k) := by
  show V m c main_v0 (((cfg0.win 0).blk t).view.emb (ix2 s k)) = _
  rw [entry_v0]
  refine congrArg (vW m c) (funext fun a => Fin.ext ?_)
  refine (win0_0.rect_emb_val t (ix2 s k) a).trans ?_
  match a with
  | ⟨0, _⟩ => show win0_0.index t 0 * 4096 + s.val = s.val; rw [(idx0 t).1]; omega
  | ⟨1, _⟩ => show win0_0.index t 1 * 1024 + k.val = k.val; rw [(idx0 t).2]; omega

theorem gBlk_apply (c : Dev nD) (t : Fin cfg0.N) (r : Fin 512) (k : Fin 1024) :
    gB m c t (ix2 r k) = vG m c (ix2 (row t r) k) := by
  have ht := lt16 t
  show V m c main_v1 ((srcB0_0 (Ring.bk 16 t.val)).view.emb (ix2 r k)) = _
  rw [entry_v1]
  refine congrArg (vG m c) (funext fun a => Fin.ext ?_)
  match a with
  | ⟨0, _⟩ => show 512 * (Ring.bk 16 t.val).val + 1 * r.val = 512 * t.val + r.val
              rw [show (Ring.bk 16 t.val).val = t.val from Nat.mod_eq_of_lt ht]; omega
  | ⟨1, _⟩ => show 0 + 1 * k.val = k.val; omega

/-- The result: the gradient's row against the weight's row. -/
def total (W : S4096x1024.Idx → EReal) (G : S8192x1024.Idx → EReal) : S8192x4096.Idx → EReal :=
  fun i => ∑ k : Fin 1024, G (ix2 (i 0) k) * W (ix2 (i 1) k)

theorem outs_apply (c : Dev nD) (t : Fin cfg0.N) (r : Fin 512) (s : Fin 4096) :
    (outsAt0 m c t.val t.isLt : S512x4096.Idx → EReal) (ix2 r s) = ∑ k : Fin 1024, vG m c (ix2 (row t r) k) * vW m c (ix2 s k) := by
  rw [outs_eq, blockOut_apply]
  refine Finset.sum_congr rfl fun k _ => ?_
  exact congr (congrArg _ (gBlk_apply m c t r k)) (iblk_apply m c t s k)

theorem arr (c : Dev nD) : (dats m 0 c).arrAt 1 cfg0.N = total (vW m c) (vG m c) := by
  refine (dats m 0 c).arrAt_eq_of_covers 1 (total (vW m c) (vG m c)) (by decide +kernel) fun t hf y => ?_
  show (dats m 0 c).after 1 t y = _
  rw [after0_1]
  refine ((congrArg (outsAt0 m c t.val t.isLt) (eq_ix2 y)).trans (outs_apply m c t (y 0) (y 1))).trans ?_
  have e0 : (((cfg0.win 1).blk t).view.emb y) 0 = row t (y 0) := by
    apply Fin.ext; refine (win0_1.rect_emb_val t y 0).trans ?_; rw [(idx1 t).1]; show t.val * 512 + (y 0).val = 512 * t.val + (y 0).val; omega
  have e1 : (((cfg0.win 1).blk t).view.emb y) 1 = y 1 := by
    apply Fin.ext; refine (win0_1.rect_emb_val t y 1).trans ?_; rw [(idx1 t).2]; show 0 * 4096 + (y 1).val = (y 1).val; omega
  unfold total
  rw [e0, e1]

/-- The reference's product, entry by entry. -/
theorem reference_total (W : S4096x1024.Idx → EReal) (G : S8192x1024.Idx → EReal) :
    Host.dotGeneral (F := Ideal) (φ₁ := .f32) (φ₂ := .f32) Cert.Reference2Ideal.dot_S8192x1024_S4096x1024_S8192x4096_1_1_0_0_n_n none G W
      = total W G := by
  funext i
  rw [eq_ix2 i]
  pointwise
  rfl

end Values

end Cert.Kernel2Ideal.Sum

namespace Cert.Proof.Products

open Cert.Kernel2Ideal.Sum

theorem ff2_inputs : Cert.algebraic_Kernel2Ideal_Reference2Ideal := by
  intro m g m' g' _ hm
  refine ⟨fun c => total (vW m c) (vG m c),
    (θ_run Cert.Kernel2Ideal.defs _ _).mono (fun r h c => ⟨(h c).1.trans (arr m c), (h c).2⟩) (Cert.Kernel2Ideal.Value.run_blocks m g),
    (θ_run Cert.Reference2Ideal.defs _ _).mono (fun r h c => ⟨(h c).1.trans ?_, (h c).2⟩) (Cert.Reference2Ideal.Value.run m' g')⟩
  rw [(hm c).1, (hm c).2]
  exact reference_total (vW m c) (vG m c)

end Cert.Proof.Products
-- ==== Proof.Ff2W.lean ====
/-
  The weight gradient of the second feed-forward product: what the accumulator holds after each row block.
-/
module

public import proofs.«01_k».proof.Proof.Slots
public import proofs.«01_k».proof.Proof.Gen.Kernel3Ideal.Value
public import proofs.«01_k».proof.Proof.Products
public import proofs.«01_k».proof.Defs
public import Idealize.ShloMosaic.Lib.Claim
public import proofs.«01_k».proof.Proof.Gen.Reference3Ideal.Run
public import Idealize.ShloMosaic.Lib.Pipeline.ValueKit
public import Idealize.ShloMosaic.Lib.Pointwise
public import Idealize.ShloMosaic.Lib.ValueIdx
public import Idealize.ShloMosaic.Lib.KernelVsHost

@[expose] public section

noncomputable section

open Idealize.ShloMosaic Idealize.ShloMosaic.TcCoe Idealize.SL.Sem
open Idealize.ShloMosaic.Pipeline (Dat)

namespace Cert.Kernel3Ideal.Sum

open Cert.Kernel3Ideal Cert.Kernel3Ideal.Gen Cert.Proof.Products

variable {F : FTy → Type} [FloatOps F]
variable (m : (ℓ : Loc nD τ sig) → Buf (Elt F) ℓ)

theorem off9 : ∀ t : Fin grid0.N, k0_off9 (grid0.coords t) = ![(Ring.sl 2 t.val).val, 0, 0] := by decide +kernel

/-- The accumulator after one more row block. -/
def upd (acc : FVec F S4096x512 .f32) (x : FVec F S512x4096 .bf16) (g : FVec F S512x512 .bf16) : FVec F S4096x512 .f32 :=
  addf acc (matmul dot_S512x4096_S512x512_S4096x512_0_0_1_1_n_n none x g (constant S4096x512 .f32 0x00000000#32))

theorem pay2_upd (acc : Vec F S4096x512 .f32) (x : Vec F S512x4096 .bf16) (v : Vec F S1x512x512 .bf16) :
    k0_pay2 acc x v = upd acc x (shapeCast S512x512 v shapeCasts_S1x512x512_S512x512) := by
  unfold k0_pay2 upd
  simp only [shapeCast_self]

/-- The block of the gradient that grid point `t` waits for. -/
abbrev gBlk (c : Dev nD) (t : Fin cfg0.N) (fh : HbBuf0 (F := F) c hbM0_0) : FVec F S512x512 .bf16 :=
  (srcB0_0 (Ring.bk 32 t.val)).view.read (Elt F) fh

theorem slot_gBlk (c : Dev nD) (t : Fin cfg0.N) (fh : HbBuf0 (F := F) c hbM0_0) (inb) (f) :
    shapeCast S512x512 (View.readAt (Elt F) scM0_0.view (Rect.unit (s := S2x512x512) (k0_off9 (grid0.coords t)) S1x512x512.size inb).toLoadRect
      ((rslot0_0 (Ring.sl 2 t.val)).view.writes (Elt F) f
        [⟨Rect.whole S512x512, ReadAs.same.apply (View.read (Elt F) (srcB0_0 (Ring.bk 32 t.val)).view fh)⟩])) shapeCasts_S1x512x512_S512x512
      = gBlk c t fh :=
  slot_read scM0_0 inb (inb_slot0_0 (Ring.sl 2 t.val)) (off9 t) squeezes_S1x512x512_S512x512 shapeCasts_S1x512x512_S512x512 f _

theorem out_B (c : Dev nD) (t : Fin cfg0.N) (a2 : Memref sig .tc .vmem S512x4096 .bf16) (h2 : a2.IsWhole)
    (a4 : Memref sig .tc .vmem S4096x512 .f32) (h4 : a4.IsWhole) (c0 : ¬cond0_0 (grid0.coords t)) (c2 : cond0_2 (grid0.coords t)) (c3 : cond0_3 (grid0.coords t)) (c4 : ¬cond0_4 (grid0.coords t))
    (x : Vec F S512x4096 .bf16) (xo : Vec F S4096x512 .f32) (fh : HbBuf0 (F := F) c hbM0_0) :
    out0_B_1 c t a2 h2 a4 h4 c0 c2 c3 c4 x xo fh = upd xo x (gBlk c t fh) := by
  unfold out0_B_1
  rw [View.read_writes_eq_canon _ _ _ (cover0_B_1 c t a2 h2 a4 h4 c0 c2 c3 c4 x xo fh)]
  unfold kernelRun0_B
  dsimp only
  rw [View.canon_unit_zero Cert.Proof.Slots.zero_offset]
  sl_unfold_words
  rw [pay2_upd]
  refine congr (congr (congrArg upd ?_) ?_) ?_
  · simp only [View.readAt_eq_ld, h4.read_unread, View.ld_unit_zero (S := S4096x512) Cert.Proof.Slots.zero_offset]
  · simp only [View.readAt_eq_ld, h2.read_unread, View.ld_unit_zero (S := S512x4096) Cert.Proof.Slots.zero_offset]
  · exact slot_gBlk c t fh _ _

theorem out_C (c : Dev nD) (t : Fin cfg0.N) (a2 : Memref sig .tc .vmem S512x4096 .bf16) (h2 : a2.IsWhole)
    (a4 : Memref sig .tc .vmem S4096x512 .f32) (h4 : a4.IsWhole) (c0 : ¬cond0_0 (grid0.coords t)) (c2 : cond0_2 (grid0.coords t)) (c3 : cond0_3 (grid0.coords t)) (c4 : cond0_4 (grid0.coords t))
    (x : Vec F S512x4096 .bf16) (fh : HbBuf0 (F := F) c hbM0_0) :
    out0_C_1 c t a2 h2 a4 h4 c0 c2 c3 c4 x fh = upd (k0_pay1 (F := F)) x (gBlk c t fh) := by
  unfold out0_C_1
  rw [View.read_writes_eq_canon _ _ _ (cover0_C_1 c t a2 h2 a4 h4 c0 c2 c3 c4 x fh)]
  unfold kernelRun0_C
  dsimp only
  sl_unfold_words
  rw [View.canon_cons_unit_zero (S := S4096x512) Cert.Proof.Slots.zero_offset, View.readCov_unit_zero (S := S4096x512) _ Cert.Proof.Slots.zero_offset]
  rw [pay2_upd]
  refine congr (congr (congrArg upd ?_) ?_) ?_
  · rfl
  · simp only [View.readAt_eq_ld, h2.read_unread, View.ld_unit_zero (S := S512x4096) Cert.Proof.Slots.zero_offset]
  · exact slot_gBlk c t fh _ _

theorem out_D (c : Dev nD) (t : Fin cfg0.N) (a2 : Memref sig .tc .vmem S512x4096 .bf16) (h2 : a2.IsWhole)
    (a4 : Memref sig .tc .vmem S4096x512 .f32) (h4 : a4.IsWhole) (c0 : ¬cond0_0 (grid0.coords t)) (c2 : ¬cond0_2 (grid0.coords t)) (c4 : ¬cond0_4 (grid0.coords t))
    (x : Vec F S512x4096 .bf16) (xo : Vec F S4096x512 .f32) (fh : HbBuf0 (F := F) c hbM0_0) :
    out0_D_1 c t a2 h2 a4 h4 c0 c2 c4 x xo fh = upd xo x (gBlk c t fh) := by
  unfold out0_D_1
  rw [View.read_writes_eq_canon _ _ _ (cover0_D_1 c t a2 h2 a4 h4 c0 c2 c4 x xo fh)]
  unfold kernelRun0_D
  dsimp only
  rw [View.canon_unit_zero Cert.Proof.Slots.zero_offset]
  sl_unfold_words
  rw [pay2_upd]
  refine congr (congr (congrArg upd ?_) ?_) ?_
  · simp only [View.readAt_eq_ld, h4.read_unread, View.ld_unit_zero (S := S4096x512) Cert.Proof.Slots.zero_offset]
  · simp only [View.readAt_eq_ld, h2.read_unread, View.ld_unit_zero (S := S512x4096) Cert.Proof.Slots.zero_offset]
  · exact slot_gBlk c t fh _ _

theorem out_A (c : Dev nD) (t : Fin cfg0.N) (a2 : Memref sig .tc .vmem S512x4096 .bf16) (h2 : a2.IsWhole)
    (a4 : Memref sig .tc .vmem S4096x512 .f32) (h4 : a4.IsWhole) (c0 : cond0_0 (grid0.coords t)) (c1 : cond0_1 (grid0.coords t)) (c2 : cond0_2 (grid0.coords t)) (c3 : cond0_3 (grid0.coords t)) (c4 : cond0_4 (grid0.coords t))
    (x : Vec F S512x4096 .bf16) (fh : HbBuf0 (F := F) c hbM0_0) :
    out0_A_1 c t a2 h2 a4 h4 c0 c1 c2 c3 c4 x fh = upd (k0_pay1 (F := F)) x (gBlk c t fh) := by
  unfold out0_A_1
  rw [View.read_writes_eq_canon _ _ _ (cover0_A_1 c t a2 h2 a4 h4 c0 c1 c2 c3 c4 x fh)]
  unfold kernelRun0_A
  dsimp only
  sl_unfold_words
  rw [View.canon_cons_unit_zero (S := S4096x512) Cert.Proof.Slots.zero_offset, View.readCov_unit_zero (S := S4096x512) _ Cert.Proof.Slots.zero_offset]
  rw [pay2_upd]
  refine congr (congr (congrArg upd ?_) ?_) ?_
  · rfl
  · simp only [View.readAt_eq_ld, h2.read_unread, View.ld_unit_zero (S := S512x4096) Cert.Proof.Slots.zero_offset]
  · exact slot_gBlk c t fh _ _

/-- After each point: the accumulator of the point before, or zero at the first row block, and one row block more. -/
theorem outs_step (c : Dev nD) (t : Fin cfg0.N) :
    outsAt0 m c t.val t.isLt = upd (if t.val % 16 = 0 then k0_pay1 (F := F) else outsAt0 m c (t.val - 1) (Nat.lt_of_le_of_lt (Nat.sub_le _ _) t.isLt))
      (iblk m c 0 t) (gBlk c t (V m c main_v1)) := by
  have hN : t.val < 32 := Nat.lt_of_lt_of_eq t.isLt N_0
  by_cases h4 : t.val % 16 = 0
  · rw [if_pos h4]
    by_cases h0 : t.val % 32 = 0
    · rw [outsAt0_A m c t h0 (by omega) (by omega) h4, out_A]
    · rw [outsAt0_C m c t h0 (by omega) (by omega) h4, out_C]
  · rw [if_neg h4]
    by_cases h2 : t.val < 31
    · rw [outsAt0_B m c t (by omega) h2 h2 h4, out_B]
    · rw [outsAt0_D m c t (by omega) h2 h4, out_D]

section Values

variable (m : (ℓ : Loc nD τ sig) → Buf (Elt Ideal) ℓ)

theorem upd_apply (acc : FVec Ideal S4096x512 .f32) (x : FVec Ideal S512x4096 .bf16) (g : FVec Ideal S512x512 .bf16) (r : Fin 4096) (s : Fin 512) :
    upd acc x g (ix2 r s) = acc (ix2 r s) + ∑ k : Fin 512, x (ix2 k r) * g (ix2 k s) := by
  unfold upd
  rw [matmul_zero_eq_dotGeneral]
  pointwise

/-- The two arguments, as matrices of extended reals. -/
abbrev vA (c : Dev nD) : S8192x4096.Idx → EReal := m ((c : Thread nD τ).loc main_arg0)
abbrev vG (c : Dev nD) : S8192x1024.Idx → EReal := m ((c : Thread nD τ).loc main_arg1)

theorem entry_v0 (c : Dev nD) : V m c main_v0 = (vA m c : S8192x4096.Idx → EReal) := by
  unfold V hostOps0
  after_results
  rfl
theorem entry_v1 (c : Dev nD) : V m c main_v1 = (vG m c : S8192x1024.Idx → EReal) := by
  unfold V hostOps0
  after_results
  rfl

theorem idx0 : ∀ t : Fin cfg0.N, win0_0.index t 0 = t.val % 16 ∧ win0_0.index t 1 = 0 :=
  (by decide +kernel : ∀ t : Fin grid0.N, win0_0.index t 0 = t.val % 16 ∧ win0_0.index t 1 = 0)
theorem idx1 : ∀ t : Fin cfg0.N, win0_1.index t 0 = 0 ∧ win0_1.index t 1 = t.val / 16 :=
  (by decide +kernel : ∀ t : Fin grid0.N, win0_1.index t 0 = 0 ∧ win0_1.index t 1 = t.val / 16)

theorem lt32 (t : Fin cfg0.N) : t.val < 32 := Nat.lt_of_lt_of_eq t.isLt N_0

/-- A row of the arrays by its row block and its place there. -/
def row (i : ℕ) (k : Fin 512) : Fin 8192 := ⟨512 * (i % 16) + k.val, by omega⟩
def col (j : Fin 2) (s : Fin 512) : Fin 1024 := ⟨512 * j.val + s.val, by omega⟩

/-- The two blocks of a grid point. -/
abbrev xB (c : Dev nD) (t : Fin cfg0.N) : S512x4096.Idx → EReal := iblk m c 0 t
abbrev gB (c : Dev nD) (t : Fin cfg0.N) : S512x512.Idx → EReal := gBlk c t (V m c main_v1)

theorem iblk_apply (c : Dev nD) (t : Fin cfg0.N) (k : Fin 512) (r : Fin 4096) :
    xB m c t (ix2 k r) = vA m c (ix2 (row t.val k) r) := by
  show V m c main_v0 (((cfg0.win 0).blk t).view.emb (ix2 k r)) = _
  rw [entry_v0]
  refine congrArg (vA m c) (funext fun a => Fin.ext ?_)
  refine (win0_0.rect_emb_val t (ix2 k r) a).trans ?_
  match a with
  | ⟨0, _⟩ => show win0_0.index t 0 * 512 + k.val = 512 * (t.val % 16) + k.val; rw [(idx0 t).1]; omega
  | ⟨1, _⟩ => show win0_0.index t 1 * 4096 + r.val = r.val; rw [(idx0 t).2]; omega

theorem gBlk_apply (c : Dev nD) (t : Fin cfg0.N) (k : Fin 512) (s : Fin 512) :
    gB m c t (ix2 k s) = vG m c (ix2 (row t.val k) (col ⟨t.val / 16, by have := lt32 t; omega⟩ s)) := by
  have ht := lt32 t
  show V m c main_v1 ((srcB0_0 (Ring.bk 32 t.val)).view.emb (ix2 k s)) = _
  rw [entry_v1]
  refine congrArg (vG m c) (funext fun a => Fin.ext ?_)
  match a with
  | ⟨0, _⟩ => show 512 * ((Ring.bk 32 t.val).val % 16) + 1 * k.val = 512 * (t.val % 16) + k.val
              rw [show (Ring.bk 32 t.val).val = t.val from Nat.mod_eq_of_lt ht]; omega
  | ⟨1, _⟩ => show 512 * ((Ring.bk 32 t.val).val / 16) + 1 * s.val = 512 * (t.val / 16) + s.val
              rw [show (Ring.bk 32 t.val).val = t.val from Nat.mod_eq_of_lt ht]; omega

/-- One row's term of an entry of the result. -/
def term (A : S8192x4096.Idx → EReal) (G : S8192x1024.Idx → EReal) (r : Fin 4096) (s : Fin 1024) (q : ℕ) : EReal :=
  if h : q < 8192 then A (ix2 ⟨q, h⟩ r) * G (ix2 ⟨q, h⟩ s) else 0

theorem term_fin (A : S8192x4096.Idx → EReal) (G : S8192x1024.Idx → EReal) (r : Fin 4096) (s : Fin 1024) (q : Fin 8192) :
    term A G r s q.val = A (ix2 q r) * G (ix2 q s) := dif_pos q.isLt

/-- The result: every row's term summed. -/
def total (A : S8192x4096.Idx → EReal) (G : S8192x1024.Idx → EReal) : S4096x1024.Idx → EReal :=
  fun i => ∑ q ∈ Finset.range 8192, term A G (i 0) (i 1) q

theorem block_term (c : Dev nD) (t : Fin cfg0.N) (j : Fin 2) (hj : t.val / 16 = j.val) (r : Fin 4096) (s : Fin 512) :
    ∑ k : Fin 512, xB m c t (ix2 k r) * gB m c t (ix2 k s)
      = ∑ k : Fin 512, term (vA m c) (vG m c) r (col j s) (512 * (t.val % 16) + k.val) := by
  have hj' : (⟨t.val / 16, by have := lt32 t; omega⟩ : Fin 2) = j := Fin.ext hj
  refine Finset.sum_congr rfl fun k _ => ?_
  rw [iblk_apply, gBlk_apply, hj', term, dif_pos (by omega)]
  rfl

/-- After each point: the sum over the rows so far. -/
theorem outs_sum (c : Dev nD) : ∀ (n : ℕ) (h : n < cfg0.N) (j : Fin 2), n / 16 = j.val → ∀ (r : Fin 4096) (s : Fin 512),
    (outsAt0 m c n h : S4096x512.Idx → EReal) (ix2 r s) = ∑ q ∈ Finset.range (512 * (n % 16) + 512), term (vA m c) (vG m c) r (col j s) q
  | n, h, j, hj, r, s => by
    rw [show outsAt0 m c n h = _ from outs_step m c ⟨n, h⟩, upd_apply, block_term m c ⟨n, h⟩ j hj, sum_block rfl]
    congr 1
    by_cases h4 : n % 16 = 0
    · rw [if_pos h4, h4]
      show k0_pay1 (F := Ideal) (ix2 r s) = 0
      exact Ideal.ofBits_zero_f32
    · rw [if_neg h4]
      have h1 : 1 ≤ n := by omega
      rw [show outsAt0 m c ((⟨n, h⟩ : Fin cfg0.N).val - 1) _ (ix2 r s) = _ from outs_sum c (n - 1) (by omega) j (by omega) r s]
      congr 2
      omega

theorem arr (c : Dev nD) : (dats m 0 c).arrAt 1 cfg0.N = total (vA m c) (vG m c) := by
  refine (dats m 0 c).arrAt_eq_of_covers 1 (total (vA m c) (vG m c)) (by decide +kernel) fun t hf y => ?_
  have ht := lt32 t
  have h15 := (flush0_1 t).mp hf
  show (dats m 0 c).after 1 t y = _
  rw [after0_1]
  refine ((congrArg (outsAt0 m c t.val t.isLt) (eq_ix2 y)).trans (outs_sum m c t.val t.isLt ⟨t.val / 16, by omega⟩ rfl (y 0) (y 1))).trans ?_
  rw [h15]
  have e0 : (((cfg0.win 1).blk t).view.emb y) 0 = y 0 := by
    apply Fin.ext; refine (win0_1.rect_emb_val t y 0).trans ?_; rw [(idx1 t).1]; show 0 * 4096 + (y 0).val = (y 0).val; omega
  have e1 : (((cfg0.win 1).blk t).view.emb y) 1 = col ⟨t.val / 16, by omega⟩ (y 1) := by
    apply Fin.ext; refine (win0_1.rect_emb_val t y 1).trans ?_; rw [(idx1 t).2]; show t.val / 16 * 512 + (y 1).val = 512 * (t.val / 16) + (y 1).val; omega
  unfold total
  rw [e0, e1]

/-- The reference's product, entry by entry. -/
theorem reference_total (A : S8192x4096.Idx → EReal) (G : S8192x1024.Idx → EReal) (h) :
    transpose S4096x1024 [1, 0] (Host.dotGeneral (F := Ideal) (φ₁ := .f32) (φ₂ := .f32) Cert.Reference3Ideal.dot_S8192x1024_S8192x4096_S1024x4096_0_0_1_1_n_n none G A)
      h = total A G := by
  funext i
  pointwise
  unfold total
  rw [Finset.sum_range]
  refine Finset.sum_congr rfl fun q _ => ?_
  exact (mul_comm _ _).trans (term_fin A G (i 0) (i 1) q).symm

end Values

end Cert.Kernel3Ideal.Sum

namespace Cert.Proof.Products

open Cert.Kernel3Ideal.Sum

theorem ff2_weights : Cert.algebraic_Kernel3Ideal_Reference3Ideal := by
  intro m g m' g' _ hm
  refine ⟨fun c => total (vA m c) (vG m c),
    (θ_run Cert.Kernel3Ideal.defs _ _).mono (fun r h c => ⟨(h c).1.trans (arr m c), (h c).2⟩) (Cert.Kernel3Ideal.Value.run_blocks m g),
    (θ_run Cert.Reference3Ideal.defs _ _).mono (fun r h c => ⟨(h c).1.trans ?_, (h c).2⟩) (Cert.Reference3Ideal.Value.run m' g')⟩
  rw [(hm c).1, (hm c).2]
  exact reference_total (vA m c) (vG m c) _

end Cert.Proof.Products
-- ==== Proof.Shares.lean ====
/-
  Several arrays held in part: a slot of a ring borrows a tile of one of them and leaves the rest.
-/
module

public import Idealize.ShloMosaic.Lib.Ring
public import Idealize.ShloMosaic.Lib.Pipeline.FrameBody

@[expose] public section

noncomputable section

namespace Cert.Proof.Shares

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} {nD : Nat} {τ : Topo} {sig : RefSig}

local notation "𝕄" => MT nD τ sig Unit (Elt F) ℕ (Pipeline.UD sig nD τ) ℕ

variable (c : Dev nD) (W : (b : Ref sig .tc) → Buf (Elt F) ((c : Thread nD τ).loc b)) (arrays : Finset (Ref sig .tc))

/-- The arrays, held to the share `q`. -/
abbrev held (q : PosShare TreeShare) : sProp 𝕄 := bigSep arrays (fun r => ((c : Thread nD τ).loc r) ↦{q} W r)

/-- A tile of one of them, -/
abbrev lent (q : PosShare TreeShare) {sp : Space} {S : Shape} {e : EltTy} (M : Memref sig .tc sp S e) : sProp 𝕄 :=
  M.view.loc (c : Thread nD τ) ↦[M.view.set]{q} W M.view.ref

/-- and what stays: the rest of that array, and the others. -/
def unlent (q : PosShare TreeShare) {sp : Space} {S : Shape} {e : EltTy} (M : Memref sig .tc sp S e) : sProp 𝕄 :=
  iprop((((c : Thread nD τ).loc M.view.ref) ↦[Finset.univ \ M.view.set]{q} W M.view.ref)
    ∗ bigSep (arrays.erase M.view.ref) (fun r => ((c : Thread nD τ).loc r) ↦{q} W r))

theorem lend (q : PosShare TreeShare) {sp : Space} {S : Shape} {e : EltTy} (M : Memref sig .tc sp S e) (hM : M.view.ref ∈ arrays) :
    held (F := F) c W arrays q ⊣⊢ iprop(lent c W q M ∗ unlent c W arrays q M) := by
  have hs : (((c : Thread nD τ).loc M.view.ref) ↦{q} W M.view.ref : sProp 𝕄)
      ⊣⊢ iprop(lent c W q M ∗ (((c : Thread nD τ).loc M.view.ref) ↦[Finset.univ \ M.view.set]{q} W M.view.ref)) :=
    pointsTo_split_subset (Finset.subset_univ _)
  have he : (bigSep arrays (fun r => ((c : Thread nD τ).loc r) ↦{q} W r) : sProp 𝕄)
      = iprop((((c : Thread nD τ).loc M.view.ref) ↦{q} W M.view.ref) ∗ bigSep (arrays.erase M.view.ref) (fun r => ((c : Thread nD τ).loc r) ↦{q} W r)) :=
    bigSep_erase hM
  unfold held unlent
  rw [he]
  constructor
  · iintro ⟨H, Hr⟩
    ihave H' := hs.1 $$ H
    icases H' with ⟨Hl, Hs⟩
    isplitl [Hl]; · iexact Hl
    isplitl [Hs]; · iexact Hs
    iexact Hr
  · iintro ⟨Hl, Hs, Hr⟩
    isplitl [Hl Hs]
    · iapply hs.2; isplitl [Hl]; · iexact Hl
      iexact Hs
    iexact Hr

/-- The arrays whole are two halves. -/
theorem halve : (held c W arrays fullShare : sProp 𝕄) ⊣⊢ iprop(held c W arrays fullShare.left ∗ held c W arrays fullShare.right) := by
  have hs : ∀ b, (((c : Thread nD τ).loc b) ↦{fullShare} W b : sProp 𝕄)
      ⊣⊢ iprop((((c : Thread nD τ).loc b) ↦{fullShare.left} W b) ∗ (((c : Thread nD τ).loc b) ↦{fullShare.right} W b)) :=
    fun b => pointsTo_share (PosShare.mem_left_op_right fullShare)
  unfold held
  rw [← bigSep_sep']
  exact ⟨bigSep_mono fun b _ => (hs b).1, bigSep_mono fun b _ => (hs b).2⟩

end Cert.Proof.Shares

end
-- ==== Proof.WinProg.lean ====
module

public import proofs.«01_k».proof.Proof.Slots
public import proofs.«01_k».proof.Proof.Gen.Kernel4Ideal.Points
public import proofs.«01_k».proof.Proof.Gen.Kernel4Ideal.Skeleton
public import proofs.«01_k».proof.Proof.Gen.Kernel4Ideal.Launch
public import Idealize.ShloMosaic.Lib.Ring

/-! # The input product's row gradients: which array a step reads

The thirteen cotangents are thirteen arrays of one, one, two, two, one, … column tiles of 1024.  A step of the kernel
starts the copy of the next step's tile, which lies in one of the thirteen: the body asks thirteen questions, and
exactly one of them is answered by yes.  Here the body at a point is shown to be that one copy followed by the wait, the
product and the store. -/

@[expose] public section

set_option maxRecDepth 65536

noncomputable section

namespace Cert.Kernel4Ideal.Win

open Idealize.ShloMosaic Idealize.ShloMosaic.TcCoe Idealize.SL Idealize.SL.Sem
open Cert.Kernel4Ideal.Gen

variable {F : FTy → Type} [FloatOps F]

/-- The array that column tile `j` of the fifteen lies in. -/
def arrayOf (j : Fin 15) : Fin 13 := ![0, 1, 2, 2, 3, 3, 4, 5, 6, 7, 8, 9, 10, 11, 12] j

/-- The array of step `b`. -/
def arrayAt (b : Fin 120) : Fin 13 := arrayOf ⟨b.val % 15, Nat.mod_lt _ (by decide)⟩

theorem inb_narrow (b : Fin 120) : ∀ a, (![1024 * (b.val / 15), 0] : Fin 2 → Nat) a + S1024x1024.size a ≤ S8192x1024.size a := by
  have := b.isLt; intro a; fin_cases a <;> simp <;> omega

theorem inb_wide (b : Fin 120) : ∀ a, (![1024 * (b.val / 15), 1024 * (b.val % 15 % 2)] : Fin 2 → Nat) a + S1024x1024.size a ≤ S8192x2048.size a := by
  have := b.isLt; intro a; fin_cases a <;> simp <;> omega

/-- Step `b`'s tile of an array one tile wide. -/
def narrow (M : Memref sig .tc .hbm S8192x1024 .bf16) (b : Fin 120) : Memref sig .tc .hbm S1024x1024 .bf16 :=
  M.slice (Rect.unit (s := S8192x1024) ![1024 * (b.val / 15), 0] S1024x1024.size (inb_narrow b)) (fun _ => rfl)

/-- Step `b`'s tile of an array two tiles wide: both begin at an even column tile. -/
def wide (M : Memref sig .tc .hbm S8192x2048 .bf16) (b : Fin 120) : Memref sig .tc .hbm S1024x1024 .bf16 :=
  M.slice (Rect.unit (s := S8192x2048) ![1024 * (b.val / 15), 1024 * (b.val % 15 % 2)] S1024x1024.size (inb_wide b)) (fun _ => rfl)

/-- Step `b`'s tile in array `g`. -/
def tileIn : Fin 13 → Fin 120 → Memref sig .tc .hbm S1024x1024 .bf16
  | 0, b => narrow (Memref.whole main_v1) b
  | 1, b => narrow (Memref.whole main_v2) b
  | 2, b => wide (Memref.whole main_v3) b
  | 3, b => wide (Memref.whole main_v4) b
  | 4, b => narrow (Memref.whole main_v5) b
  | 5, b => narrow (Memref.whole main_v6) b
  | 6, b => narrow (Memref.whole main_v7) b
  | 7, b => narrow (Memref.whole main_v8) b
  | 8, b => narrow (Memref.whole main_v9) b
  | 9, b => narrow (Memref.whole main_v10) b
  | 10, b => narrow (Memref.whole main_v11) b
  | 11, b => narrow (Memref.whole main_v12) b
  | 12, b => narrow (Memref.whole main_v13) b

/-- The tile step `b` reads. -/
def tile (b : Fin 120) : Memref sig .tc .hbm S1024x1024 .bf16 := tileIn (arrayAt b) b

/-- The two tiles in fast memory, and the counters their copies complete on. -/
abbrev scratch : Memref sig .tc .vmem S2x1024x1024 .bf16 := Memref.whole cc0_scratch0

def slot (s : Fin 2) : Memref sig .tc .vmem S1024x1024 .bf16 :=
  (scratch.slice (Rect.unit (s := S2x1024x1024) ![s.val, 0, 0] S1x1024x1024.size (Cert.Proof.Slots.inb_slot s)) (fun _ => rfl)).squeeze S1024x1024 squeezes_S1x1024x1024_S1024x1024

def cell (s : Fin 2) : DmaSems sig S_ := (cc0_scratch1.slice (Rect.unit (s := S2) ![s.val] S1.size (Cert.Proof.Slots.inb_cell s))).squeeze S_ squeezes_S1_S_

/-- The copy of step `b`'s tile into slot `s`. -/
def fetch (b : Fin 120) (s : Fin 2) (h₁ : (tile b).view.WordExact) (h₂ : (slot s).view.WordExact) : Prog (TpuEff nD τ sig (Elt F) Λ₀ .tc) PUnit :=
  Prog.lift (.enqueueDma (tile b) (.here (slot s)) (.dma (cell s).sem) h₁ h₂ ⟨Or.inl rfl, trivial⟩)

/-- A copy between equal places on an equal counter is the same copy. -/
theorem fetch_then {b : Fin 120} {s : Fin 2} {src : Memref sig .tc .hbm S1024x1024 .bf16} {dst : Memref sig .tc .vmem S1024x1024 .bf16} {q : DmaSems sig S_}
    (hs : src = tile b) (hd : dst = slot s) (hq : q = cell s) (h₁ : src.view.WordExact) (h₂ : dst.view.WordExact)
    (k : PUnit → Prog (TpuEff nD τ sig (Elt F) Λ₀ .tc) PUnit) :
    ∃ g₁ g₂, (Prog.lift (.enqueueDma src (.here dst) (.dma q.sem) h₁ h₂ ⟨Or.inl rfl, trivial⟩) >>= k) = (fetch b s g₁ g₂ >>= k) := by
  subst hs hd hq; exact ⟨h₁, h₂, rfl⟩

/-- What the body does after starting copies: wait for its own, clear the block at a row tile's first point, and add the product. -/
def finish (i : grid0.Coords) (a : Memref sig .tc .vmem S1024x1024 .bf16) (o : Memref sig .tc .vmem S1024x1024 .f32) : Prog (TpuEff nD τ sig (Elt F) Λ₀ .tc) PUnit := do
  Prog.lift (.waitDma2 ((cc0_scratch1.slice (Rect.unit (s := S2) (k0_off79 i) S1.size (k0_off79_inb i))).squeeze S_ squeezes_S1_S_).sem
    ((Memref.whole main_v1 : Memref sig .tc .hbm S8192x1024 .bf16).slice (Rect.unit (s := S8192x1024) ![0, 0] S1024x1024.size inb_S8192x1024_S1024x1024_0_0) (fun _ => rfl))
    ((scratch.slice (Rect.unit (s := S2x1024x1024) (k0_off80 i) S1x1024x1024.size (k0_off80_inb i)) (fun _ => rfl)).squeeze S1024x1024 squeezes_S1x1024x1024_S1024x1024)
    ((Memref.isWhole_whole _).wordExact_slice rfl _ wordsbf16_S8192x1024_S1024x1024_0_0) (((Memref.isWhole_whole _).wordExact_slice rfl _ (k0_off80_wordsbf16 i)).reshape _ _))
  if h : (Scalar.cmpi .ne (Scalar.extui (Scalar.cmpi .eq (BitVec.ofNat 32 (i 1).val) 0#32)) 0#32 : BitVec 1) = 1#1 then do
    let _v : Vec F S1024x1024 .f32 ← Prog.lift (.load o (Rect.unit (s := S1024x1024) ![0, 0] S1024x1024.size inb_S1024x1024_S1024x1024_0_0).toLoadRect (View.loadsAt_vmem h_S1024x1024))
    Prog.lift (.store o (Rect.unit (s := S1024x1024) ![0, 0] S1024x1024.size inb_S1024x1024_S1024x1024_0_0) (k0_pay1 (F := F)) Finset.univ (View.stores_vmem_bits_univ h_S1024x1024 rfl) (.inl rfl))
    pure ⟨⟩
  else do
    pure ⟨⟩
  let x : Vec F S1024x1024 .f32 ← Prog.lift (.load o (Rect.unit (s := S1024x1024) ![0, 0] S1024x1024.size inb_S1024x1024_S1024x1024_0_0).toLoadRect (View.loadsAt_vmem h_S1024x1024))
  let y : Vec F S1x1024x1024 .bf16 ← Prog.lift (.load scratch (Rect.unit (s := S2x1024x1024) (k0_off81 i) S1x1024x1024.size (k0_off81_inb i)).toLoadRect (View.loadsAt_vmem h_S1x1024x1024))
  let z : Vec F S1024x1024 .bf16 ← Prog.lift (.load a (Rect.unit (s := S1024x1024) ![0, 0] S1024x1024.size inb_S1024x1024_S1024x1024_0_0).toLoadRect (View.loadsAt_vmem h_S1024x1024))
  let _v : Vec F S1024x1024 .f32 ← Prog.lift (.load o (Rect.unit (s := S1024x1024) ![0, 0] S1024x1024.size inb_S1024x1024_S1024x1024_0_0).toLoadRect (View.loadsAt_vmem h_S1024x1024))
  Prog.lift (.store o (Rect.unit (s := S1024x1024) ![0, 0] S1024x1024.size inb_S1024x1024_S1024x1024_0_0) (k0_pay2 x y z) Finset.univ (View.stores_vmem_bits_univ h_S1024x1024 rfl) (.inl rfl))
  pure ⟨⟩

/-- The body at point `t` on the given staging buffers. -/
def body (t : Fin grid0.N) (a : Memref sig .tc .vmem S1024x1024 .bf16) (ha : a.IsWhole) (o : Memref sig .tc .vmem S1024x1024 .f32) (ho : o.IsWhole) : Prog (TpuEff nD τ sig (Elt F) Λ₀ .tc) PUnit :=
  cc0_inlin0_dgrad (grid0.coords t) a ha (Memref.whole main_v1) (Memref.isWhole_whole _) (Memref.whole main_v2) (Memref.isWhole_whole _) (Memref.whole main_v3) (Memref.isWhole_whole _) (Memref.whole main_v4) (Memref.isWhole_whole _) (Memref.whole main_v5) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v11) (Memref.isWhole_whole _) (Memref.whole main_v12) (Memref.isWhole_whole _) (Memref.whole main_v13) (Memref.isWhole_whole _) o ho scratch (Memref.isWhole_whole _) cc0_scratch1

set_option synthInstance.maxSize 4096 in
/-- The first copy is asked for at the first point alone. -/
theorem first_iff : ∀ t : Fin grid0.N, k0_cond1 (grid0.coords t) = 1#1 ↔ t.val = 0 := by decide +kernel

/-- A next copy is asked for at every point but the last. -/
theorem next_iff : ∀ t : Fin grid0.N, k0_cond15 (grid0.coords t) = 1#1 ↔ t.val + 1 < 120 := by decide +kernel

/-- The step after point `t`. -/
abbrev next (t : Fin grid0.N) : Fin 120 := Ring.bk 120 (t.val + 1)

/-- Which of the thirteen questions about the next tile is answered by yes. -/
theorem next_array : ∀ t : Fin grid0.N, t.val + 1 < 120 →
    (k0_cond16 (grid0.coords t) = 1#1 ↔ arrayAt (next t) = 0) ∧ (k0_cond17 (grid0.coords t) = 1#1 ↔ arrayAt (next t) = 1)
    ∧ (k0_cond18 (grid0.coords t) = 1#1 ↔ arrayAt (next t) = 2) ∧ (k0_cond19 (grid0.coords t) = 1#1 ↔ arrayAt (next t) = 3)
    ∧ (k0_cond20 (grid0.coords t) = 1#1 ↔ arrayAt (next t) = 4) ∧ (k0_cond21 (grid0.coords t) = 1#1 ↔ arrayAt (next t) = 5)
    ∧ (k0_cond22 (grid0.coords t) = 1#1 ↔ arrayAt (next t) = 6) ∧ (k0_cond23 (grid0.coords t) = 1#1 ↔ arrayAt (next t) = 7)
    ∧ (k0_cond24 (grid0.coords t) = 1#1 ↔ arrayAt (next t) = 8) ∧ (k0_cond25 (grid0.coords t) = 1#1 ↔ arrayAt (next t) = 9)
    ∧ (k0_cond26 (grid0.coords t) = 1#1 ↔ arrayAt (next t) = 10) ∧ (k0_cond27 (grid0.coords t) = 1#1 ↔ arrayAt (next t) = 11)
    ∧ (k0_cond28 (grid0.coords t) = 1#1 ↔ arrayAt (next t) = 12) := by decide +kernel

/-- Where the thirteen copies of a next tile read their counter, write their slot and read their tile. -/
def nextOffsets (i : grid0.Coords) : Fin 13 → (Fin 1 → Nat) × (Fin 3 → Nat) × (Fin 2 → Nat)
  | 0 => (k0_off40 i, k0_off41 i, k0_off42 i)
  | 1 => (k0_off43 i, k0_off44 i, k0_off45 i)
  | 2 => (k0_off46 i, k0_off47 i, k0_off48 i)
  | 3 => (k0_off49 i, k0_off50 i, k0_off51 i)
  | 4 => (k0_off52 i, k0_off53 i, k0_off54 i)
  | 5 => (k0_off55 i, k0_off56 i, k0_off57 i)
  | 6 => (k0_off58 i, k0_off59 i, k0_off60 i)
  | 7 => (k0_off61 i, k0_off62 i, k0_off63 i)
  | 8 => (k0_off64 i, k0_off65 i, k0_off66 i)
  | 9 => (k0_off67 i, k0_off68 i, k0_off69 i)
  | 10 => (k0_off70 i, k0_off71 i, k0_off72 i)
  | 11 => (k0_off73 i, k0_off74 i, k0_off75 i)
  | 12 => (k0_off76 i, k0_off77 i, k0_off78 i)

/-- An array two tiles wide. -/
def isWide (g : Fin 13) : Bool := g == 2 || g == 3

/-- They are the next step's counter, slot and tile. -/
theorem next_offsets : ∀ t : Fin grid0.N, t.val + 1 < 120 →
    (nextOffsets (grid0.coords t) (arrayAt (next t))).1 = ![(Ring.sl 2 (t.val + 1)).val]
    ∧ (nextOffsets (grid0.coords t) (arrayAt (next t))).2.1 = ![(Ring.sl 2 (t.val + 1)).val, 0, 0]
    ∧ (nextOffsets (grid0.coords t) (arrayAt (next t))).2.2
      = ![1024 * ((next t).val / 15), if isWide (arrayAt (next t)) then 1024 * ((next t).val % 15 % 2) else 0] := by decide +kernel

theorem cases13 (g : Fin 13) : g = 0 ∨ g = 1 ∨ g = 2 ∨ g = 3 ∨ g = 4 ∨ g = 5 ∨ g = 6 ∨ g = 7 ∨ g = 8 ∨ g = 9 ∨ g = 10 ∨ g = 11 ∨ g = 12 := by
  revert g; decide

theorem slot_of {off : Fin 3 → Nat} {s : Fin 2} (h : off = ![s.val, 0, 0]) (hb : ∀ a, off a + S1x1024x1024.size a ≤ S2x1024x1024.size a) :
    (scratch.slice (Rect.unit (s := S2x1024x1024) off S1x1024x1024.size hb) (fun _ => rfl)).squeeze S1024x1024 squeezes_S1x1024x1024_S1024x1024 = slot s := by
  subst h; rfl

theorem cell_of {off : Fin 1 → Nat} {s : Fin 2} (h : off = ![s.val]) (hb : ∀ a, off a + S1.size a ≤ S2.size a) :
    (cc0_scratch1.slice (Rect.unit (s := S2) off S1.size hb)).squeeze S_ squeezes_S1_S_ = cell s := by
  subst h; rfl

theorem narrow_of {M : Memref sig .tc .hbm S8192x1024 .bf16} {off : Fin 2 → Nat} {b : Fin 120} (ht : tile b = narrow M b) (h : off = ![1024 * (b.val / 15), 0])
    (hb : ∀ a, off a + S1024x1024.size a ≤ S8192x1024.size a) :
    M.slice (Rect.unit (s := S8192x1024) off S1024x1024.size hb) (fun _ => rfl) = tile b := by
  subst h; exact ht.symm

theorem wide_of {M : Memref sig .tc .hbm S8192x2048 .bf16} {off : Fin 2 → Nat} {b : Fin 120} (ht : tile b = wide M b) (h : off = ![1024 * (b.val / 15), 1024 * (b.val % 15 % 2)])
    (hb : ∀ a, off a + S1024x1024.size a ≤ S8192x2048.size a) :
    M.slice (Rect.unit (s := S8192x2048) off S1024x1024.size hb) (fun _ => rfl) = tile b := by
  subst h; exact ht.symm

set_option maxHeartbeats 1000000 in
/-- At a point that is neither the first nor the last the body starts the next step's copy and finishes its own. -/
theorem body_next (t : Fin grid0.N) (h0 : t.val ≠ 0) (hn : t.val + 1 < 120) (a : Memref sig .tc .vmem S1024x1024 .bf16) (ha : a.IsWhole)
    (o : Memref sig .tc .vmem S1024x1024 .f32) (ho : o.IsWhole) :
    ∃ h₁ h₂, (body t a ha o ho : Prog (TpuEff nD τ sig (Elt F) Λ₀ .tc) PUnit)
      = (fetch (next t) (Ring.sl 2 (t.val + 1)) h₁ h₂ >>= fun _ => finish (grid0.coords t) a o) := by
  have c1 : ¬k0_cond1 (grid0.coords t) = 1#1 := fun h => h0 ((first_iff t).mp h)
  have c15 := (next_iff t).mpr hn
  have cs := next_array t hn
  have os := next_offsets t hn
  have ht : tile (next t) = tileIn (arrayAt (next t)) (next t) := rfl
  unfold body
  rw [cc0_inlin0_dgrad_eq_skeleton]
  unfold cc0_inlin0_dgrad_skel
  rw [k0_part4_eq_skeleton, k0_part5_eq_skeleton, k0_part6_eq_skeleton]
  rcases cases13 (arrayAt (next t)) with h | h | h | h | h | h | h | h | h | h | h | h | h
  all_goals
    rw [h] at os ht
    simp only [h] at cs
    simp at cs
    simp only [nextOffsets, isWide] at os
    simp only [tileIn] at ht
    simp only [c1, c15, cs, ↓reduceDIte, k0_part4_skel, k0_part5_skel, k0_part6_skel]
    first
    | exact fetch_then (b := next t) (s := Ring.sl 2 (t.val + 1)) (narrow_of ht os.2.2 _) (slot_of os.2.1 _) (cell_of os.1 _) _ _ (fun _ => finish (grid0.coords t) a o)
    | exact fetch_then (b := next t) (s := Ring.sl 2 (t.val + 1)) (wide_of ht os.2.2 _) (slot_of os.2.1 _) (cell_of os.1 _) _ _ (fun _ => finish (grid0.coords t) a o)

/-- At the last point it finishes its own copy. -/
theorem body_last (t : Fin grid0.N) (h0 : t.val ≠ 0) (hn : ¬t.val + 1 < 120) (a : Memref sig .tc .vmem S1024x1024 .bf16) (ha : a.IsWhole)
    (o : Memref sig .tc .vmem S1024x1024 .f32) (ho : o.IsWhole) :
    (body t a ha o ho : Prog (TpuEff nD τ sig (Elt F) Λ₀ .tc) PUnit) = finish (grid0.coords t) a o := by
  have c1 : ¬k0_cond1 (grid0.coords t) = 1#1 := fun h => h0 ((first_iff t).mp h)
  have c15 : ¬k0_cond15 (grid0.coords t) = 1#1 := fun h => hn ((next_iff t).mp h)
  unfold body
  rw [cc0_inlin0_dgrad_eq_skeleton]
  unfold cc0_inlin0_dgrad_skel
  simp only [c1, c15, ↓reduceDIte]
  rfl

/-- At the first point the first tile, too, is copied: it is the first array's. -/
theorem first_array : ∀ t : Fin grid0.N, t.val = 0 → k0_cond2 (grid0.coords t) = 1#1
    ∧ ¬k0_cond3 (grid0.coords t) = 1#1 ∧ ¬k0_cond4 (grid0.coords t) = 1#1 ∧ ¬k0_cond5 (grid0.coords t) = 1#1 ∧ ¬k0_cond6 (grid0.coords t) = 1#1
    ∧ ¬k0_cond7 (grid0.coords t) = 1#1 ∧ ¬k0_cond8 (grid0.coords t) = 1#1 ∧ ¬k0_cond9 (grid0.coords t) = 1#1 ∧ ¬k0_cond10 (grid0.coords t) = 1#1
    ∧ ¬k0_cond11 (grid0.coords t) = 1#1 ∧ ¬k0_cond12 (grid0.coords t) = 1#1 ∧ ¬k0_cond13 (grid0.coords t) = 1#1 ∧ ¬k0_cond14 (grid0.coords t) = 1#1
    ∧ arrayAt (Ring.bk 120 t.val) = 0 ∧ arrayAt (next t) = 1 := by decide +kernel

theorem first_offsets : ∀ t : Fin grid0.N, t.val = 0 → k0_off1 (grid0.coords t) = ![(Ring.sl 2 t.val).val]
    ∧ k0_off2 (grid0.coords t) = ![(Ring.sl 2 t.val).val, 0, 0] ∧ k0_off3 (grid0.coords t) = ![1024 * ((Ring.bk 120 t.val).val / 15), 0] := by decide +kernel

set_option maxHeartbeats 1000000 in
/-- At the first point the body starts two copies and finishes the first. -/
theorem body_first (t : Fin grid0.N) (h0 : t.val = 0) (a : Memref sig .tc .vmem S1024x1024 .bf16) (ha : a.IsWhole)
    (o : Memref sig .tc .vmem S1024x1024 .f32) (ho : o.IsWhole) :
    ∃ h₁ h₂ h₃ h₄, (body t a ha o ho : Prog (TpuEff nD τ sig (Elt F) Λ₀ .tc) PUnit)
      = (fetch (Ring.bk 120 t.val) (Ring.sl 2 t.val) h₁ h₂ >>= fun _ => fetch (next t) (Ring.sl 2 (t.val + 1)) h₃ h₄ >>= fun _ => finish (grid0.coords t) a o) := by
  have hn : t.val + 1 < 120 := by omega
  have c1 := (first_iff t).mpr h0
  have c15 := (next_iff t).mpr hn
  have fs := first_array t h0
  have fo := first_offsets t h0
  have cs := next_array t hn
  have os := next_offsets t hn
  have ht : tile (next t) = tileIn (arrayAt (next t)) (next t) := rfl
  have hf : tile (Ring.bk 120 t.val) = tileIn (arrayAt (Ring.bk 120 t.val)) (Ring.bk 120 t.val) := rfl
  have h := fs.2.2.2.2.2.2.2.2.2.2.2.2.2.2
  rw [h] at os ht
  rw [fs.2.2.2.2.2.2.2.2.2.2.2.2.2.1] at hf
  simp only [h] at cs
  simp at cs
  simp only [nextOffsets, isWide] at os
  simp only [tileIn] at ht hf
  obtain ⟨g₃, g₄, e⟩ := fetch_then (F := F) (b := next t) (s := Ring.sl 2 (t.val + 1)) (narrow_of ht os.2.2 (k0_off45_inb _ c15 cs.2.1)) (slot_of os.2.1 (k0_off44_inb _ c15 cs.2.1))
    (cell_of os.1 (k0_off43_inb _ c15 cs.2.1)) ((Memref.isWhole_whole _).wordExact_slice rfl _ (k0_off45_wordsbf16 _ c15 cs.2.1))
    (((Memref.isWhole_whole _).wordExact_slice rfl _ (k0_off44_wordsbf16 _ c15 cs.2.1)).reshape _ _) (fun _ => finish (grid0.coords t) a o)
  obtain ⟨g₁, g₂, e'⟩ := fetch_then (F := F) (b := Ring.bk 120 t.val) (s := Ring.sl 2 t.val) (narrow_of hf fo.2.2 (k0_off3_inb _ c1 fs.1)) (slot_of fo.2.1 (k0_off2_inb _ c1 fs.1))
    (cell_of fo.1 (k0_off1_inb _ c1 fs.1)) ((Memref.isWhole_whole _).wordExact_slice rfl _ (k0_off3_wordsbf16 _ c1 fs.1))
    (((Memref.isWhole_whole _).wordExact_slice rfl _ (k0_off2_wordsbf16 _ c1 fs.1)).reshape _ _)
    (fun _ => fetch (next t) (Ring.sl 2 (t.val + 1)) g₃ g₄ >>= fun _ => finish (grid0.coords t) a o)
  refine ⟨g₁, g₂, g₃, g₄, e' ▸ e ▸ ?_⟩
  unfold body
  rw [cc0_inlin0_dgrad_eq_skeleton]
  unfold cc0_inlin0_dgrad_skel
  rw [k0_part1_eq_skeleton, k0_part2_eq_skeleton, k0_part3_eq_skeleton, k0_part4_eq_skeleton, k0_part5_eq_skeleton, k0_part6_eq_skeleton]
  simp only [c1, c15, cs, fs, ↓reduceDIte, k0_part1_skel, k0_part2_skel, k0_part3_skel, k0_part4_skel, k0_part5_skel, k0_part6_skel]
  rfl

end Cert.Kernel4Ideal.Win

end
-- ==== Proof.WinRun.lean ====
module

public import proofs.«01_k».proof.Proof.WinRing
public import proofs.«01_k».proof.Proof.Products

/-! # The input product's row gradients: the body at each kind of point -/

@[expose] public section

set_option maxRecDepth 16384

noncomputable section

namespace Cert.Kernel4Ideal.Win

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel4Ideal.Gen

variable {F : FTy → Type} [FloatOps F]

local notation "𝕄" => MT nD τ sig Unit (Elt F) ℕ (Pipeline.UD sig nD τ) ℕ

/-- The condition under which a point clears its block. -/
abbrev clears (t : Fin grid0.N) : Prop :=
  (Scalar.cmpi .ne (Scalar.extui (Scalar.cmpi .eq (BitVec.ofNat 32 (grid0.coords t 1).val) 0#32)) 0#32 : BitVec 1) = 1#1

variable (c : Dev nD) (t : Fin grid0.N) (a : Memref sig .tc .vmem S1024x1024 .bf16) (ha : a.IsWhole)
  (o : Memref sig .tc .vmem S1024x1024 .f32) (ho : o.IsWhole) (x : Vec F S1024x1024 .bf16) (W : (b : Ref sig .tc) → Buf (Elt F) ((c : Thread nD τ).loc b))

/-- The wait and the product at a point that adds to what its block holds. -/
def finish_add (hc : ¬clears t) (y : Vec F S1024x1024 .f32) :
    { L : List (View.Piece (Elt F) S1024x1024 .f32) //
      ∀ (Q : Waits sig Unit) (K : PUnit → sProp 𝕄),
        iprop(owns (c : Thread nD τ) a fullShare x ∗ owns (c : Thread nD τ) o fullShare y
            ∗ Ring.inflight (underWay c W) (Ring.sl 2 t.val) (Ring.bk 120 t.val) ∗ owes (c : Thread nD τ) 0 Q
            ∗ (iprop(owns (c : Thread nD τ) a fullShare x ∗ (∃ f, o.view.loc (c : Thread nD τ) ↦[o.view.set]{fullShare} o.view.writes (Elt F) f L)
                ∗ Ring.kept (cellZero c) (atRest c W) (landed c W) (Ring.sl 2 t.val) (Ring.bk 120 t.val) ∗ (∃ Q', owes (c : Thread nD τ) 0 Q')) -∗ K ⟨⟩))
          ⊢ wp frame (wpE (defs₀ (F := F)) Variants.none c none) Set.univ (finish (grid0.coords t) a o) K } := by
  refine ⟨?_, fun Q K => ?run⟩
  case run =>
    haveI : Fact (¬clears t) := ⟨hc⟩
    unfold finish
    unfold owns Ring.inflight Ring.kept
    iintro ⟨⟨%f, %hf, Ha⟩, ⟨%g, %hg, Ho⟩, ⟨%h, Hf, Hr⟩, HW, Hk⟩
    obtain rfl := ha.eq_unread hf; obtain rfl := ho.eq_unread hg
    sl_exec (disch := sl_exact hc)
    sl_step
    iapply Hk
    isplitl [Ha]
    · iexists _; isplitr; · ipureintro; exact ha.read_unread _
      iexact Ha
    isplitl [Ho]; · iexists _; iexact Ho
    isplitl [Hf Hf_dst Hf_src Hr]
    · isplitl [Hf]; · iexact Hf
      iexists _; isplitl [Hf_dst]; · iexact Hf_dst
      iapply (halves_split c W (Ring.sl 2 t.val) (Ring.bk 120 t.val)).2; isplitl [Hf_src]; · iexact Hf_src
      iexact Hr
    iexists _; iexact HW

/-- And at a point that clears its block first. -/
def finish_clear (hc : clears t) :
    { L : List (View.Piece (Elt F) S1024x1024 .f32) //
      ∀ (Q : Waits sig Unit) (K : PUnit → sProp 𝕄),
        iprop(owns (c : Thread nD τ) a fullShare x ∗ (∃ y, owns (c : Thread nD τ) o fullShare y)
            ∗ Ring.inflight (underWay c W) (Ring.sl 2 t.val) (Ring.bk 120 t.val) ∗ owes (c : Thread nD τ) 0 Q
            ∗ (iprop(owns (c : Thread nD τ) a fullShare x ∗ (∃ f, o.view.loc (c : Thread nD τ) ↦[o.view.set]{fullShare} o.view.writes (Elt F) f L)
                ∗ Ring.kept (cellZero c) (atRest c W) (landed c W) (Ring.sl 2 t.val) (Ring.bk 120 t.val) ∗ (∃ Q', owes (c : Thread nD τ) 0 Q')) -∗ K ⟨⟩))
          ⊢ wp frame (wpE (defs₀ (F := F)) Variants.none c none) Set.univ (finish (grid0.coords t) a o) K } := by
  refine ⟨?_, fun Q K => ?run⟩
  case run =>
    haveI : Fact (clears t) := ⟨hc⟩
    unfold finish
    unfold owns Ring.inflight Ring.kept
    iintro ⟨⟨%f, %hf, Ha⟩, ⟨%y, %g, %hg, Ho⟩, ⟨%h, Hf, Hr⟩, HW, Hk⟩
    obtain rfl := ha.eq_unread hf; obtain rfl := ho.eq_unread hg
    sl_exec (disch := sl_exact hc)
    sl_step
    iapply Hk
    isplitl [Ha]
    · iexists _; isplitr; · ipureintro; exact ha.read_unread _
      iexact Ha
    isplitl [Ho]; · iexists _; iexact Ho
    isplitl [Hf Hf_dst Hf_src Hr]
    · isplitl [Hf]; · iexact Hf
      iexists _; isplitl [Hf_dst]; · iexact Hf_dst
      iapply (halves_split c W (Ring.sl 2 t.val) (Ring.bk 120 t.val)).2; isplitl [Hf_src]; · iexact Hf_src
      iexact Hr
    iexists _; iexact HW

/-- Starting a copy into a slot at rest puts it under way. -/
theorem start (b : Fin 120) (s : Fin 2) (h₁ : (tile b).view.WordExact) (h₂ : (slot s).view.WordExact) (K : PUnit → sProp 𝕄) :
    iprop(Ring.free (cellZero c) (atRest c W) s ∗ (Ring.inflight (underWay c W) s b -∗ K ⟨⟩))
      ⊢ wp frame (wpE (defs₀ (F := F)) Variants.none c none) Set.univ (fetch b s h₁ h₂) K := by
  unfold fetch Ring.free Ring.inflight
  iintro ⟨⟨Hc, ⟨%f, Hs, Hw⟩⟩, Hk⟩
  ihave Hw' := (halves_split c W s b).1 $$ Hw
  icases Hw' with ⟨Hl, Hu⟩
  sl_exec
  sl_step
  iapply Hk
  iexists _; isplitl [Hc]; · iexact Hc
  iexact Hu

/-! ## What a point leaves in its block -/

/-- The block after one more column tile. -/
def upd (acc : FVec F S1024x1024 .f32) (g : FVec F S1024x1024 .bf16) (x : FVec F S1024x1024 .bf16) : FVec F S1024x1024 .f32 :=
  addf acc (matmul dot_S1024x1024_S1024x1024_S1024x1024_1_1_0_0_n_n none g x (constant S1024x1024 .f32 0x00000000#32))

theorem pay2_upd (acc : Vec F S1024x1024 .f32) (g : Vec F S1x1024x1024 .bf16) (x : Vec F S1024x1024 .bf16) :
    k0_pay2 acc g x = upd acc (shapeCast S1024x1024 g shapeCasts_S1x1024x1024_S1024x1024) x := by
  unfold k0_pay2 upd
  simp only [shapeCast_self]

/-- Step `b`'s tile. -/
abbrev tileOf (b : Fin 120) : FVec F S1024x1024 .bf16 := (tile b).view.read (Elt F) (W (tile b).view.ref)

theorem slot_tile (b : Fin 120) (inb) (f) :
    shapeCast S1024x1024 (View.readAt (Elt F) scratch.view (Rect.unit (s := S2x1024x1024) (k0_off81 (grid0.coords t)) S1x1024x1024.size inb).toLoadRect
      (landed c W (Ring.sl 2 t.val) b f)) shapeCasts_S1x1024x1024_S1024x1024
      = tileOf c W b :=
  Cert.Proof.Products.slot_read scratch inb (Cert.Proof.Slots.inb_slot (Ring.sl 2 t.val)) (own_offsets t).2.2 squeezes_S1x1024x1024_S1024x1024 shapeCasts_S1x1024x1024_S1024x1024 f _

theorem add_leaves (hc : ¬clears t) (y : Vec F S1024x1024 .f32) (f) :
    o.view.read (Elt F) (o.view.writes (Elt F) f (finish_add c t a ha o ho x W hc y).1) = upd y (tileOf c W (Ring.bk 120 t.val)) x := by
  rw [View.read_writes_eq_canon _ _ _ (fun z => View.cover_of_tiledL (finish_add c t a ha o ho x W hc y).1 S1024x1024.size (by sl_kernel_rfl) z)]
  unfold finish_add
  dsimp only
  rw [View.canon_unit_zero Cert.Proof.Slots.zero_offset]
  sl_unfold_words
  rw [pay2_upd]
  refine congr (congr (congrArg upd ?_) ?_) ?_
  · simp only [View.readAt_eq_ld, ho.read_unread, View.ld_unit_zero (S := S1024x1024) Cert.Proof.Slots.zero_offset]
  · exact slot_tile c t W _ _ _
  · simp only [View.readAt_eq_ld, ha.read_unread, View.ld_unit_zero (S := S1024x1024) Cert.Proof.Slots.zero_offset]

theorem clear_leaves (hc : clears t) (f) :
    o.view.read (Elt F) (o.view.writes (Elt F) f (finish_clear c t a ha o ho x W hc).1) = upd (k0_pay1 (F := F)) (tileOf c W (Ring.bk 120 t.val)) x := by
  rw [View.read_writes_eq_canon _ _ _ (fun z => View.cover_of_tiledL (finish_clear c t a ha o ho x W hc).1 S1024x1024.size (by sl_kernel_rfl) z)]
  unfold finish_clear
  dsimp only
  sl_unfold_words
  rw [View.canon_cons_unit_zero (S := S1024x1024) Cert.Proof.Slots.zero_offset, View.readCov_unit_zero (S := S1024x1024) _ Cert.Proof.Slots.zero_offset]
  rw [pay2_upd]
  refine congr (congr (congrArg upd ?_) ?_) ?_
  · rfl
  · exact slot_tile c t W _ _ _
  · simp only [View.readAt_eq_ld, ha.read_unread, View.ld_unit_zero (S := S1024x1024) Cert.Proof.Slots.zero_offset]

end Cert.Kernel4Ideal.Win

end
-- ==== Proof.WinFrame.lean ====
module

public import proofs.«01_k».proof.Proof.WinRun
public import Idealize.ShloMosaic.Lib.Claim

/-! # The input product's row gradients: the whole run -/

@[expose] public section

set_option maxRecDepth 16384

noncomputable section

namespace Cert.Kernel4Ideal.Win

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel4Ideal.Gen

variable {F : FTy → Type} [FloatOps F]

local notation "𝕄" => MT nD τ sig Unit (Elt F) ℕ (Pipeline.UD sig nD τ) ℕ

section Step

variable (c : Dev nD) (t : Fin grid0.N) (a : Memref sig .tc .vmem S1024x1024 .bf16) (ha : a.IsWhole)
  (o : Memref sig .tc .vmem S1024x1024 .f32) (ho : o.IsWhole) (x : Vec F S1024x1024 .bf16) (W : (b : Ref sig .tc) → Buf (Elt F) ((c : Thread nD τ).loc b))

include ha ho

omit ha ho in
/-- What a point makes of the block it finds. -/
abbrev made (y : Vec F S1024x1024 .f32) : Vec F S1024x1024 .f32 :=
  upd (if t.val % 15 = 0 then k0_pay1 (F := F) else y) (tileOf c W (Ring.bk 120 t.val)) x

/-- The wait and the product, at every point. -/
theorem finish_run {D : Type} (z : D → Vec F S1024x1024 .f32) (y : Vec F S1024x1024 .f32) (hz : ¬t.val % 15 = 0 → ∀ d, z d = y)
    (Q : Waits sig Unit) (K : PUnit → sProp 𝕄) :
    iprop(owns (c : Thread nD τ) a fullShare x ∗ (∃ d, owns (c : Thread nD τ) o fullShare (z d))
        ∗ Ring.inflight (underWay c W) (Ring.sl 2 t.val) (Ring.bk 120 t.val) ∗ owes (c : Thread nD τ) 0 Q
        ∗ (iprop(owns (c : Thread nD τ) a fullShare x ∗ owns (c : Thread nD τ) o fullShare (made c t x W y)
            ∗ Ring.kept (cellZero c) (atRest c W) (landed c W) (Ring.sl 2 t.val) (Ring.bk 120 t.val) ∗ (∃ Q', owes (c : Thread nD τ) 0 Q')) -∗ K ⟨⟩))
      ⊢ wp frame (wpE (defs₀ (F := F)) Variants.none c none) Set.univ (finish (grid0.coords t) a o) K := by
  unfold made
  by_cases h : t.val % 15 = 0
  · rw [if_pos h]
    iintro ⟨Ha, ⟨%d, Ho⟩, Hf, HW, Hk⟩
    iapply ((finish_clear c t a ha o ho x W ((clear_iff t).mpr h)).2 Q K)
    isplitl [Ha]; · iexact Ha
    isplitl [Ho]; · iexists _; iexact Ho
    isplitl [Hf]; · iexact Hf
    isplitl [HW]; · iexact HW
    iintro ⟨Ha, ⟨%f, Ho⟩, Hr, HW⟩
    iapply Hk
    isplitl [Ha]; · iexact Ha
    isplitl [Ho]
    · unfold owns; iexists _; isplitr
      swap; · iexact Ho
      ipureintro; exact clear_leaves c t a ha o ho x W _ f
    isplitl [Hr]; · iexact Hr
    iexact HW
  · rw [if_neg h]
    iintro ⟨Ha, ⟨%d, Ho⟩, Hf, HW, Hk⟩
    rw [hz h d]
    iapply ((finish_add c t a ha o ho x W (fun hc => h ((clear_iff t).mp hc)) y).2 Q K)
    isplitl [Ha]; · iexact Ha
    isplitl [Ho]; · iexact Ho
    isplitl [Hf]; · iexact Hf
    isplitl [HW]; · iexact HW
    iintro ⟨Ha, ⟨%f, Ho⟩, Hr, HW⟩
    iapply Hk
    isplitl [Ha]; · iexact Ha
    isplitl [Ho]
    · unfold owns; iexists _; isplitr
      swap; · iexact Ho
      ipureintro; exact add_leaves c t a ha o ho x W _ y f
    isplitl [Hr]; · iexact Hr
    iexact HW

/-- The body, at every point: it takes the ring one step on and the block one tile on. -/
theorem body_run {D : Type} (z : D → Vec F S1024x1024 .f32) (y : Vec F S1024x1024 .f32) (hz : ¬t.val % 15 = 0 → ∀ d, z d = y)
    (Q : Waits sig Unit) (K : PUnit → sProp 𝕄) :
    iprop(ringAt c W t.val ∗ owns (c : Thread nD τ) a fullShare x ∗ (∃ d, owns (c : Thread nD τ) o fullShare (z d)) ∗ owes (c : Thread nD τ) 0 Q
        ∗ (iprop(ringAt c W (t.val + 1) ∗ owns (c : Thread nD τ) a fullShare x ∗ owns (c : Thread nD τ) o fullShare (made c t x W y)
            ∗ (∃ Q', owes (c : Thread nD τ) 0 Q')) -∗ K ⟨⟩))
      ⊢ wp frame (wpE (defs₀ (F := F)) Variants.none c none) Set.univ (body t a ha o ho) K := by
  have hN : t.val < 120 := lt_of_lt_of_eq t.isLt (show grid0.N = 120 from N_0)
  unfold ringAt
  rw [if_neg (show ¬t.val + 1 = 0 by omega)]
  by_cases h0 : t.val = 0
  · obtain ⟨h₁, h₂, h₃, h₄, e⟩ := body_first (F := F) t h0 a ha o ho
    rw [e, wp_bind, if_pos h0, Ring.At₀_eq2' _ _ _ t.val h0 (by decide : 2 ≤ 120), Ring.AtK2_one' _ _ _ _ _ t.val h0 (by decide : 1 < 120)]
    iintro ⟨⟨-, Hs, Hn⟩, Ha, Ho, HW, Hk⟩
    iapply (start c W (Ring.bk 120 t.val) (Ring.sl 2 t.val) h₁ h₂ _)
    isplitl [Hs]; · iexact Hs
    iintro Hs
    rw [wp_bind]
    iapply (start c W (next t) (Ring.sl 2 (t.val + 1)) h₃ h₄ _)
    isplitl [Hn]; · iexact Hn
    iintro Hn
    iapply (finish_run c t a ha o ho x W z y hz Q K)
    isplitl [Ha]; · iexact Ha
    isplitl [Ho]; · iexact Ho
    isplitl [Hs]; · iexact Hs
    isplitl [HW]; · iexact HW
    iintro ⟨Ha, Ho, Hr, HW⟩
    iapply Hk
    isplitl [Hn Hr]
    · iapply Ring.with_homes₀
      isplitl [Hn]; · iexact Hn
      iexact Hr
    isplitl [Ha]; · iexact Ha
    isplitl [Ho]; · iexact Ho
    iexact HW
  · rw [if_neg h0]
    by_cases hn : t.val + 1 < 120
    · obtain ⟨h₁, h₂, e⟩ := body_next (F := F) t h0 hn a ha o ho
      rw [e, wp_bind, Ring.AtK2_here _ _ _ _ _ t.val (by omega) hn, Ring.AtK2_next _ _ _ _ _ t.val (by omega) hn]
      iintro ⟨⟨-, Hs, Hn⟩, Ha, Ho, HW, Hk⟩
      iapply (start c W (next t) (Ring.sl 2 (t.val + 1)) h₁ h₂ _)
      isplitl [Hn]; · iapply (Ring.free_of_kept _ _ _ _ _); iexact Hn
      iintro Hn
      iapply (finish_run c t a ha o ho x W z y hz Q K)
      isplitl [Ha]; · iexact Ha
      isplitl [Ho]; · iexact Ho
      isplitl [Hs]; · iexact Hs
      isplitl [HW]; · iexact HW
      iintro ⟨Ha, Ho, Hr, HW⟩
      iapply Hk
      isplitl [Hn Hr]
      · iapply (Ring.with_homes (Idealize.SL.BI.Entails.refl _))
        isplitl [Hn]; · iexact Hn
        iexact Hr
      isplitl [Ha]; · iexact Ha
      isplitl [Ho]; · iexact Ho
      iexact HW
    · rw [body_last (F := F) t h0 hn a ha o ho, Ring.AtK2_here_last _ _ _ _ _ t.val (by omega) (by omega),
        Ring.AtK2_next_last _ _ _ _ _ t.val (by omega) (by omega)]
      iintro ⟨⟨-, Hs, Hn⟩, Ha, Ho, HW, Hk⟩
      iapply (finish_run c t a ha o ho x W z y hz Q K)
      isplitl [Ha]; · iexact Ha
      isplitl [Ho]; · iexact Ho
      isplitl [Hs]; · iexact Hs
      isplitl [HW]; · iexact HW
      iintro ⟨Ha, Ho, Hr, HW⟩
      iapply Hk
      isplitl [Hn Hr]
      · iapply (Ring.with_homes (Idealize.SL.BI.Entails.refl _))
        isplitl [Hn]; · iexact Hn
        iexact Hr
      isplitl [Ha]; · iexact Ha
      isplitl [Ho]; · iexact Ho
      iexact HW

end Step

variable (m : (ℓ : Loc nD τ sig) → Buf (Elt F) ℓ) (ρ : Dev nD → PrngReg)

/-- The output block after point `n`. -/
def outs (c : Dev nD) : (n : ℕ) → n < cfg0.N → Vec F S1024x1024 .f32
  | 0, h => made c ⟨0, h⟩ (iblk m c 0 ⟨0, h⟩) (V m c) (k0_pay1 (F := F))
  | n + 1, h => made c ⟨n + 1, h⟩ (iblk m c 0 ⟨n + 1, h⟩) (V m c) (outs c n (Nat.lt_of_succ_lt h))

theorem outs_eq (c : Dev nD) (t : Fin cfg0.N) :
    outs m c t.val t.isLt = made c t (iblk m c 0 t) (V m c) (outs m c (t.val - 1) (Nat.lt_of_le_of_lt (Nat.sub_le _ _) t.isLt)) := by
  obtain ⟨n, hn⟩ := t
  cases n with
  | zero => unfold outs made; simp only [Nat.zero_mod, if_true]
  | succ n => rfl

/-- What the region keeps before point `k`: the generator's register and the ring. -/
def kept (c : Dev nD) (k : ℕ) : sProp 𝕄 := iprop((∃ r, prngReg c r) ∗ ringAt c (V m c) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outs m c t.val t.isLt
  Φ t := kept m c t.val
  q _ := fullShare
  owed _ := 0

theorem A_eq (c : Dev nD) (w : Fin cfg0.W) : (dats m 0 c).A w = V m c (Pipeline.arrRef spec0 w) := by
  dsimp only [dats]

theorem kept_before (c : Dev nD) (t : Fin cfg0.N) : (dats m 0 c).Φ t.castSucc = kept m c t.val := by
  dsimp only [dats]; simp only [Fin.coe_castSucc]
theorem kept_after (c : Dev nD) (t : Fin cfg0.N) : (dats m 0 c).Φ t.succ = kept m c (t.val + 1) := by
  dsimp only [dats]; simp only [Fin.val_succ]
theorem after_in (c : Dev nD) (t : Fin cfg0.N) : (dats m 0 c).after 0 t = iblk m c 0 t := by dsimp only [dats]
theorem after_out (c : Dev nD) (t : Fin cfg0.N) : (dats m 0 c).after 1 t = outs m c t.val t.isLt := by dsimp only [dats]
theorem before_in (c : Dev nD) (t : Fin cfg0.N) (d) : (dats m 0 c).before 0 t d = iblk m c 0 t :=
  before_weights m (dats m 0 c) (A_eq m c 0) (after_in m c) t d

/-- Within a row tile the block is the one the point before left. -/
theorem before_out (c : Dev nD) (t : Fin cfg0.N) (h : ¬t.val % 15 = 0) (d) :
    (dats m 0 c).before 1 t d = outs m c (t.val - 1) (Nat.lt_of_le_of_lt (Nat.sub_le _ _) t.isLt) := by
  have hN : t.val < 120 := lt_of_lt_of_eq t.isLt (show cfg0.N = 120 from N_0)
  rw [Dat.before_out_kept _ 1 rfl t (by omega) (Bool.eq_false_iff.mpr fun h => by have := (flush0_1 _).mp h; dsimp only at this; omega)
    (fun _ => rfl) (fun _ _ => rfl)]
  dsimp only [dats]

/-- The staging buffers at point `t`. -/
abbrev inAt (t : Fin cfg0.N) : Memref sig .tc .vmem S1024x1024 .bf16 := win0_0.stage (cfg0.slots t 0)
abbrev outAt (t : Fin cfg0.N) : Memref sig .tc .vmem S1024x1024 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (inAt t) fullShare ((dats m 0 c).before 0 t d))
    ∗ (∃ d, owns (c : Thread nD τ) (outAt t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (inAt t) fullShare ((dats m 0 c).after 0 t)
    ∗ owns (c : Thread nD τ) (outAt t) fullShare ((dats m 0 c).after 1 t))

theorem body_text (t : Fin cfg0.N) : (bodyAt0 t : Prog (TpuEff nD τ sig (Elt F) Λ₀ .tc) PUnit)
    = body t (inAt t) (hstage0_0 ((cfg0.slots t 0).cast nbuf0_0)) (outAt t) (hstage0_1 ((cfg0.slots t 1).cast nbuf0_1)) := rfl

theorem sound_body (c : Dev nD) (t : Fin cfg0.N) :
    bodyPre m c t ⊢ wp frame (wpE (defs₀ (F := F)) Variants.none c none) Set.univ (bodyAt0 t) (fun _ => bodyPost m c t) := by
  rw [body_text]
  unfold bodyPre bodyPost
  simp only [before_in]
  rw [after_in, after_out, kept_before, kept_after, outs_eq]
  unfold Dat.owesAt Pipeline.owesWithin
  rw [show (dats m 0 c).owed t.castSucc = 0 from rfl, show (dats m 0 c).owed t.succ = 0 from rfl]
  unfold kept
  iintro ⟨⟨Hg, Hr⟩, ⟨%Q, -, HW⟩, ⟨%d, Ha⟩, Ho⟩
  iapply (body_run c t _ _ _ _ (iblk m c 0 t) (V m c) _ _ (before_out m c t) Q _)
  isplitl [Hr]; · iexact Hr
  isplitl [Ha]; · iexact Ha
  isplitl [Ho]; · iexact Ho
  isplitl [HW]; · iexact HW
  iintro ⟨Hr, Ha, Ho, ⟨%Q', HW⟩⟩
  isplitl [Hg Hr]
  · isplitl [Hg]; · iexact Hg
    iexact Hr
  isplitl [HW]
  · iexists Q'; isplitr; · ipureintro; exact fun _ _ => Or.inl trivial
    iexact HW
  isplitl [Ha]; · iexact Ha
  iexact Ho

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : Pipeline.ΦD counters spec0 arrays (V m) c ⊢ (dats m 0 c).Φ 0 := by
  rw [owned_eq, show (dats m 0 c).Φ 0 = kept m c 0 from rfl]
  unfold kept
  iintro ⟨Hs, Hg, Hc, Hw⟩
  isplitl [Hg]; · iexact Hg
  iapply (ring_in (F := F) m c)
  isplitl [Hs]; · iexact Hs
  isplitl [Hc]; · iexact Hc
  iexact Hw

theorem leave (c : Dev nD) : (dats m 0 c).Φ (Fin.last cfg0.N) ⊢ Pipeline.ΦD counters spec0 arrays (V m) c := by
  rw [owned_eq, show (dats m 0 c).Φ (Fin.last cfg0.N) = kept m c grid0.N from rfl]
  unfold kept
  rw [show grid0.N = 120 by rw [N_0]]
  iintro ⟨Hg, Hr⟩
  ihave H := (ring_out (F := F) m c) $$ Hr
  icases H with ⟨Hs, Hc, Hw⟩
  isplitl [Hs]; · iexact Hs
  isplitl [Hg]; · iexact Hg
  isplitl [Hc]; · iexact Hc
  iexact Hw

set_option backward.isDefEq.respectTransparency.types false in
/-- Every run ends with the output as the blocks say, every other array as the kernel found it, and all counters at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 counters defs₀ Variants.none counterFacts arrays arrays_sub m ρ main
    (hbody := fun c => (body_obligation m c).loose) (hshare := fun c => (dats m 0 c).share_full fun _ => rfl)
    (howed := fun _ _ => rfl) (V := V m) (hmain := hmain m Variants.none) (hA := A_eq m)
    (hin := enter m) (hout := leave m)

/-- The arguments of core `c` are in `s` as they were given. -/
abbrev Kept (s : MemSt nD τ sig (Elt F)) (c : Dev nD) : Prop :=
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)

/-- An argument is left as it was given. -/
theorem arg_kept {r : PUnit × MemSt nD τ sig (Elt F)} (h : Pipeline.FramePost cfgs (dats m) 0 (V m) r) (c : Dev nD) (a : Ref sig .tc)
    (ha : a ∈ Pipeline.restRefs sig spec0) (hw : ∀ x ∈ written, a ≠ x) : r.2.mem ((c.tc : Thread nD τ).loc a) = m ((c.tc : Thread nD τ).loc a) :=
  ((h c).2 a ha).trans (V_unwritten m c a hw)

/-- Every run leaves the arguments as they were. -/
theorem arguments : θ_run defs (onTc (τ := τ) (main (F := F))) ⟨m, fun _ => 0, ρ⟩ (fun r => ∀ c : Dev nD, Kept m r.2 c) :=
  (θ_run defs _ _).mono (fun _ h c => by
    refine ⟨?_, ?_, ?_, ?_, ?_, ?_, ?_, ?_, ?_, ?_, ?_, ?_, ?_, ?_⟩
    all_goals exact arg_kept m h.1 c _ (Pipeline.mem_restRefs_of _ (by decide) (by decide)) (by decide)) (run m ρ)

/-- Every run ends, the arguments as they were and all counters at zero. -/
theorem frame : θ_run defs (onTc (τ := τ) (main (F := F))) ⟨m, fun _ => 0, ρ⟩ (fun r => (∀ c : Dev nD, Kept m r.2 c)
      ∧ r.2.sem = fun _ => 0) :=
  θ_run_and (arguments m ρ) ((θ_run defs _ _).mono (fun _ h => h.2) (run m ρ))

end Cert.Kernel4Ideal.Win

end
-- ==== Proof.Concat.lean ====
/-
  Arrays laid side by side: an entry of the whole is an entry of the array it lies in.
-/
module

public import Idealize.ShloMosaic.Lib.Pipeline.Value
public import Idealize.ShloMosaic.Lib.Pointwise
public import Idealize.ShloMosaic.PureOps.Ideal.Laws

@[expose] public section

noncomputable section

namespace Cert.Proof.Products

open Idealize.ShloMosaic

/-- A matrix's shape. -/
abbrev Mat (n k : ℕ) : Shape := ⟨2, ![n, k]⟩

/-- The columns that the first `g` arrays of a list take. -/
abbrev before (xs : List ((s : Shape) × (s.Idx → EReal))) (g N K : ℕ) : ℕ :=
  (((xs.take g).map (·.1)).map fun s => if h : s.rank = (Mat N K).rank then s.size ((1 : Fin 2).cast h.symm) else 0).sum

/-- An entry of arrays laid side by side. -/
theorem beside_apply {N K K₁ : ℕ} (xs : List ((s : Shape) × (s.Idx → EReal))) (h : Shape.Concatenates (xs.map (·.1)) (Mat N K) 1)
    (g : ℕ) (hg : g < xs.length) (x : (Mat N K₁).Idx → EReal) (hx : xs[g] = ⟨Mat N K₁, x⟩) (p : ℕ) (hp : before xs g N K = p)
    (q : Fin N) (n : Fin K₁) (k : Fin K) (hk : p + n.val = k.val) :
    concatenate (Mat N K) 1 xs h (ix2 q k) = x (ix2 q n) :=
  concatenate_apply_piece 1 xs h (ix2 q k) g hg (Mat N K₁) x hx rfl p hp (ix2 q n)
    (fun b hb => by match b with | ⟨0, _⟩ => rfl | ⟨1, _⟩ => exact absurd rfl hb) hk

end Cert.Proof.Products

end
-- ==== Proof.WinVal.lean ====
module

public import proofs.«01_k».proof.Proof.WinFrame
public import proofs.«01_k».proof.Proof.Concat
public import proofs.«01_k».proof.Defs
public import Idealize.ShloMosaic.Lib.Claim
public import proofs.«01_k».proof.Proof.Gen.Reference4Ideal.Run
public import Idealize.ShloMosaic.Lib.Pipeline.ValueKit
public import Idealize.ShloMosaic.Lib.Pointwise
public import Idealize.ShloMosaic.Lib.ValueIdx
public import Idealize.ShloMosaic.Lib.KernelVsHost

/-! # The input product's row gradients: what the run computes

A row tile of the result is the sum, over the fifteen column tiles of the thirteen cotangents laid side by side, of the
tile's product with the weight's tile: the whole product's sum, taken 1024 terms at a time. -/

@[expose] public section

set_option maxRecDepth 16384

noncomputable section

open Idealize.ShloMosaic Idealize.ShloMosaic.TcCoe Idealize.SL.Sem
open Idealize.ShloMosaic.Pipeline (Dat)

namespace Cert.Kernel4Ideal.Win

open Cert.Kernel4Ideal Cert.Kernel4Ideal.Gen Cert.Proof.Products

variable (m : (ℓ : Loc nD τ sig) → Buf (Elt Ideal) ℓ)

theorem upd_apply (acc : FVec Ideal S1024x1024 .f32) (g x : FVec Ideal S1024x1024 .bf16) (r s : Fin 1024) :
    upd acc g x (ix2 r s) = acc (ix2 r s) + ∑ k : Fin 1024, g (ix2 r k) * x (ix2 s k) := by
  unfold upd
  rw [matmul_zero_eq_dotGeneral]
  pointwise

/-- The weight. -/
abbrev vW (c : Dev nD) : S1024x15360.Idx → EReal := m ((c : Thread nD τ).loc main_arg0)

/-- The thirteen cotangents. -/
abbrev cots (c : Dev nD) : List ((s : Shape) × (s.Idx → EReal)) :=
  [⟨S8192x1024, (m ((c : Thread nD τ).loc main_arg1) : S8192x1024.Idx → EReal)⟩, ⟨S8192x1024, (m ((c : Thread nD τ).loc main_arg2) : S8192x1024.Idx → EReal)⟩, ⟨S8192x2048, (m ((c : Thread nD τ).loc main_arg3) : S8192x2048.Idx → EReal)⟩, ⟨S8192x2048, (m ((c : Thread nD τ).loc main_arg4) : S8192x2048.Idx → EReal)⟩, ⟨S8192x1024, (m ((c : Thread nD τ).loc main_arg5) : S8192x1024.Idx → EReal)⟩, ⟨S8192x1024, (m ((c : Thread nD τ).loc main_arg6) : S8192x1024.Idx → EReal)⟩, ⟨S8192x1024, (m ((c : Thread nD τ).loc main_arg7) : S8192x1024.Idx → EReal)⟩, ⟨S8192x1024, (m ((c : Thread nD τ).loc main_arg8) : S8192x1024.Idx → EReal)⟩, ⟨S8192x1024, (m ((c : Thread nD τ).loc main_arg9) : S8192x1024.Idx → EReal)⟩, ⟨S8192x1024, (m ((c : Thread nD τ).loc main_arg10) : S8192x1024.Idx → EReal)⟩, ⟨S8192x1024, (m ((c : Thread nD τ).loc main_arg11) : S8192x1024.Idx → EReal)⟩, ⟨S8192x1024, (m ((c : Thread nD τ).loc main_arg12) : S8192x1024.Idx → EReal)⟩, ⟨S8192x1024, (m ((c : Thread nD τ).loc main_arg13) : S8192x1024.Idx → EReal)⟩]

abbrev shapes : List Shape :=
  [S8192x1024, S8192x1024, S8192x2048, S8192x2048, S8192x1024, S8192x1024, S8192x1024, S8192x1024, S8192x1024, S8192x1024, S8192x1024, S8192x1024, S8192x1024]

theorem beside : Shape.Concatenates shapes (Mat 8192 15360) 1 := by decide

/-- The cotangents side by side. -/
def vG (c : Dev nD) : (Mat 8192 15360).Idx → EReal := concatenate (Mat 8192 15360) 1 (cots m c) beside

/-- The column tile at which array `g` begins. -/
def opens (g : Fin 13) : ℕ := (![0, 1, 2, 4, 6, 7, 8, 9, 10, 11, 12, 13, 14] : Fin 13 → ℕ) g

theorem widths : ∀ g : Fin 13, ((shapes.take g.val).map fun s => if h : s.rank = (Mat 8192 15360).rank then s.size ((1 : Fin 2).cast h.symm) else 0).sum = 1024 * opens g := by
  decide

theorem before_cots (c : Dev nD) (g : Fin 13) : before (cots m c) g.val 8192 15360 = 1024 * opens g := by
  unfold before
  rw [List.map_take]
  exact widths g

theorem place_narrow : ∀ b : Fin 120, arrayAt b ≠ 2 ∧ arrayAt b ≠ 3 → b.val % 15 = opens (arrayAt b) := by decide
theorem place_wide : ∀ b : Fin 120, arrayAt b = 2 ∨ arrayAt b = 3 → b.val % 15 = opens (arrayAt b) + b.val % 15 % 2 := by decide

/-- A row and a column of the whole by their tile and their place there. -/
def row (i : ℕ) (r : Fin 1024) : Fin 8192 := ⟨1024 * (i % 8) + r.val, by omega⟩
def col (j : ℕ) (k : Fin 1024) : Fin 15360 := ⟨1024 * (j % 15) + k.val, by omega⟩

theorem narrow_entry (c : Dev nD) (b : Fin 120) (r k : Fin 1024) (g : Fin 13) (h : arrayAt b = g) (hn : g ≠ 2 ∧ g ≠ 3) (x : (Mat 8192 1024).Idx → EReal)
    (hx : (cots m c)[g.val]'(g.isLt) = ⟨Mat 8192 1024, x⟩) (y : (Mat 8192 1024).Idx)
    (h0 : (y 0).val = 1024 * (b.val / 15) + 1 * r.val) (h1 : (y 1).val = 0 + 1 * k.val) :
    x y = vG m c (ix2 (row (b.val / 15) r) (col b.val k)) := by
  have hb := b.isLt
  have hs := place_narrow b (h ▸ hn)
  rw [h] at hs
  refine Eq.trans (congrArg x ?_) (beside_apply (cots m c) beside g.val g.isLt x hx _ (before_cots m c g) (row (b.val / 15) r) k (col b.val k)
    (by show _ = 1024 * (b.val % 15) + k.val; rw [hs])).symm
  funext a
  apply Fin.ext
  match a with
  | ⟨0, _⟩ => exact h0.trans (show _ = 1024 * (b.val / 15 % 8) + r.val by omega)
  | ⟨1, _⟩ => exact h1.trans (show _ = k.val by omega)

theorem wide_entry (c : Dev nD) (b : Fin 120) (r k : Fin 1024) (g : Fin 13) (h : arrayAt b = g) (hn : g = 2 ∨ g = 3) (x : (Mat 8192 2048).Idx → EReal)
    (hx : (cots m c)[g.val]'(g.isLt) = ⟨Mat 8192 2048, x⟩) (y : (Mat 8192 2048).Idx)
    (h0 : (y 0).val = 1024 * (b.val / 15) + 1 * r.val) (h1 : (y 1).val = 1024 * (b.val % 15 % 2) + 1 * k.val) :
    x y = vG m c (ix2 (row (b.val / 15) r) (col b.val k)) := by
  have hb := b.isLt
  have hs := place_wide b (h ▸ hn)
  rw [h] at hs
  refine Eq.trans (congrArg x ?_) (beside_apply (cots m c) beside g.val g.isLt x hx _ (before_cots m c g) (row (b.val / 15) r) (⟨1024 * (b.val % 15 % 2) + k.val, by omega⟩ : Fin 2048) (col b.val k)
    (by show _ + (1024 * (b.val % 15 % 2) + k.val) = 1024 * (b.val % 15) + k.val; omega)).symm
  funext a
  apply Fin.ext
  match a with
  | ⟨0, _⟩ => exact h0.trans (show _ = 1024 * (b.val / 15 % 8) + r.val by omega)
  | ⟨1, _⟩ => exact h1.trans (show _ = 1024 * (b.val % 15 % 2) + k.val by omega)

theorem entry_w (c : Dev nD) : V m c main_v0 = (vW m c : S1024x15360.Idx → EReal) := by
  unfold V hostOps0
  after_results
  rfl

/-- The two tiles of a point. -/
abbrev gB (c : Dev nD) (b : Fin 120) : S1024x1024.Idx → EReal := tileOf c (V m c) b
abbrev wB (c : Dev nD) (t : Fin cfg0.N) : S1024x1024.Idx → EReal := iblk m c 0 t

set_option maxHeartbeats 1000000 in
/-- A step's tile is a tile of the whole. -/
theorem tile_apply (c : Dev nD) (b : Fin 120) (r k : Fin 1024) : gB m c b (ix2 r k) = vG m c (ix2 (row (b.val / 15) r) (col b.val k)) := by
  suffices H : ∀ g, arrayAt b = g → ((tileIn g b).view.read (Elt Ideal) (V m c (tileIn g b).view.ref) : S1024x1024.Idx → EReal) (ix2 r k) = vG m c (ix2 (row (b.val / 15) r) (col b.val k)) from H _ rfl
  intro g h
  rcases cases13 g with e | e | e | e | e | e | e | e | e | e | e | e | e
  all_goals subst e
  all_goals
    unfold tileIn narrow V hostOps0
    after_results
    first
    | exact narrow_entry m c b r k _ h (by decide) _ rfl _ rfl rfl
    | exact wide_entry m c b r k _ h (by decide) _ rfl _ rfl rfl

theorem idx0 : ∀ t : Fin cfg0.N, win0_0.index t 0 = 0 ∧ win0_0.index t 1 = t.val % 15 :=
  (by decide +kernel : ∀ t : Fin grid0.N, win0_0.index t 0 = 0 ∧ win0_0.index t 1 = t.val % 15)
theorem idx1 : ∀ t : Fin cfg0.N, win0_1.index t 0 = t.val / 15 ∧ win0_1.index t 1 = 0 :=
  (by decide +kernel : ∀ t : Fin grid0.N, win0_1.index t 0 = t.val / 15 ∧ win0_1.index t 1 = 0)

theorem lt120 (t : Fin cfg0.N) : t.val < 120 := Nat.lt_of_lt_of_eq t.isLt N_0

theorem iblk_apply (c : Dev nD) (t : Fin cfg0.N) (s k : Fin 1024) : wB m c t (ix2 s k) = vW m c (ix2 s (col t.val k)) := by
  show V m c main_v0 (((cfg0.win 0).blk t).view.emb (ix2 s k)) = _
  rw [entry_w]
  refine congrArg (vW m c) (funext fun a => Fin.ext ?_)
  refine (win0_0.rect_emb_val t (ix2 s k) a).trans ?_
  match a with
  | ⟨0, _⟩ => show win0_0.index t 0 * 1024 + s.val = s.val; rw [(idx0 t).1]; omega
  | ⟨1, _⟩ => show win0_0.index t 1 * 1024 + k.val = 1024 * (t.val % 15) + k.val; rw [(idx0 t).2]; omega

/-- One column's term of an entry of the result. -/
def term (G : (Mat 8192 15360).Idx → EReal) (W : S1024x15360.Idx → EReal) (q : Fin 8192) (s : Fin 1024) (n : ℕ) : EReal :=
  if h : n < 15360 then G (ix2 q ⟨n, h⟩) * W (ix2 s ⟨n, h⟩) else 0

theorem term_fin (G : (Mat 8192 15360).Idx → EReal) (W : S1024x15360.Idx → EReal) (q : Fin 8192) (s : Fin 1024) (n : Fin 15360) :
    term G W q s n.val = G (ix2 q n) * W (ix2 s n) := dif_pos n.isLt

/-- The result: every column's term summed. -/
def total (G : (Mat 8192 15360).Idx → EReal) (W : S1024x15360.Idx → EReal) : S8192x1024.Idx → EReal :=
  fun i => ∑ n ∈ Finset.range 15360, term G W (i 0) (i 1) n

theorem tile_term (c : Dev nD) (t : Fin cfg0.N) (r s : Fin 1024) :
    ∑ k : Fin 1024, gB m c (Ring.bk 120 t.val) (ix2 r k) * wB m c t (ix2 s k)
      = ∑ k : Fin 1024, term (vG m c) (vW m c) (row (t.val / 15) r) s (1024 * (t.val % 15) + k.val) := by
  refine Finset.sum_congr rfl fun k _ => ?_
  rw [iblk_apply, tile_apply, show (Ring.bk 120 t.val).val = t.val from Nat.mod_eq_of_lt (lt120 t)]
  exact (term_fin (vG m c) (vW m c) (row (t.val / 15) r) s (col t.val k)).symm

/-- After each point: the sum over the columns so far. -/
theorem outs_sum (c : Dev nD) : ∀ (n : ℕ) (h : n < cfg0.N) (r s : Fin 1024),
    (outs m c n h : S1024x1024.Idx → EReal) (ix2 r s)
      = ∑ q ∈ Finset.range (1024 * (n % 15) + 1024), term (vG m c) (vW m c) (row (n / 15) r) s q
  | n, h, r, s => by
    rw [show outs m c n h = _ from outs_eq m c ⟨n, h⟩]
    unfold made
    rw [upd_apply, tile_term m c ⟨n, h⟩, sum_block rfl]
    congr 1
    by_cases h4 : n % 15 = 0
    · rw [if_pos h4, h4]
      show k0_pay1 (F := Ideal) (ix2 r s) = 0
      exact Ideal.ofBits_zero_f32
    · rw [if_neg h4]
      have h1 : 1 ≤ n := by omega
      rw [show outs m c ((⟨n, h⟩ : Fin cfg0.N).val - 1) _ (ix2 r s) = _ from outs_sum c (n - 1) (by omega) r s]
      rw [show (n - 1) / 15 = n / 15 by omega]
      congr 2
      omega

theorem arr (c : Dev nD) : (dats m 0 c).arrAt 1 cfg0.N = total (vG m c) (vW m c) := by
  refine (dats m 0 c).arrAt_eq_of_covers 1 (total (vG m c) (vW m c)) (by decide +kernel) fun t hf y => ?_
  have ht := lt120 t
  have h14 := (flush0_1 t).mp hf
  show (dats m 0 c).after 1 t y = _
  rw [after_out]
  refine ((congrArg (outs m c t.val t.isLt) (eq_ix2 y)).trans (outs_sum m c t.val t.isLt (y 0) (y 1))).trans ?_
  rw [h14]
  have e0 : (((cfg0.win 1).blk t).view.emb y) 0 = row (t.val / 15) (y 0) := by
    apply Fin.ext; refine (win0_1.rect_emb_val t y 0).trans ?_; rw [(idx1 t).1]
    show t.val / 15 * 1024 + (y 0).val = 1024 * (t.val / 15 % 8) + (y 0).val; omega
  have e1 : (((cfg0.win 1).blk t).view.emb y) 1 = y 1 := by
    apply Fin.ext; refine (win0_1.rect_emb_val t y 1).trans ?_; rw [(idx1 t).2]; show 0 * 1024 + (y 1).val = (y 1).val; omega
  unfold total
  rw [e0, e1]

/-- The reference's product, entry by entry. -/
theorem reference_total (G : (Mat 8192 15360).Idx → EReal) (W : S1024x15360.Idx → EReal) :
    Host.dotGeneral (F := Ideal) (φ₁ := .f32) (φ₂ := .f32) Cert.Reference4Ideal.dot_S8192x15360_S1024x15360_S8192x1024_1_1_0_0_n_n none G W
      = total G W := by
  funext i
  rw [eq_ix2 i]
  pointwise
  unfold total
  rw [Finset.sum_range]
  refine Finset.sum_congr rfl fun n _ => ?_
  exact (term_fin G W (i 0) (i 1) n).symm

end Cert.Kernel4Ideal.Win

namespace Cert.Proof.Products

open Cert.Kernel4Ideal.Win

theorem win_inputs : Cert.algebraic_Kernel4Ideal_Reference4Ideal := by
  intro m g m' g' _ hm
  refine ⟨fun c => total (vG m c) (vW m c),
    (θ_run Cert.Kernel4Ideal.defs _ _).mono (fun r h c => ⟨((h.1.1 c).1 1).trans (arr m c), h.2 c⟩)
      (θ_run_and (Cert.Kernel4Ideal.Win.run m g) (arguments m g)),
    (θ_run Cert.Reference4Ideal.defs _ _).mono (fun r h c => ⟨(h c).1.trans ?_, (h c).2⟩) (Cert.Reference4Ideal.Value.run m' g')⟩
  obtain ⟨e0, e1, e2, e3, e4, e5, e6, e7, e8, e9, e10, e11, e12, e13⟩ := hm c
  rw [e0, e1, e2, e3, e4, e5, e6, e7, e8, e9, e10, e11, e12, e13]
  exact reference_total (vG m c) (vW m c)

end Cert.Proof.Products

end
-- ==== Proof.WinWProg.lean ====
module

public import proofs.«01_k».proof.Proof.WinProg
public import proofs.«01_k».proof.Proof.Slots
public import proofs.«01_k».proof.Proof.Gen.Kernel5Ideal.Points
public import proofs.«01_k».proof.Proof.Gen.Kernel5Ideal.Skeleton
public import proofs.«01_k».proof.Proof.Gen.Kernel5Ideal.Launch
public import Idealize.ShloMosaic.Lib.Ring

/-! # The input product's weight gradient: which array a step reads

The thirteen cotangents are thirteen arrays of one, one, two, two, one, … column tiles of 1024.  A step of the kernel
starts the copy of the next step's tile, which lies in one of the thirteen: the body asks thirteen questions, and
exactly one of them is answered by yes.  Here the body at a point is shown to be that one copy followed by the wait, the
product and the store. -/

@[expose] public section

set_option maxRecDepth 65536

noncomputable section

namespace Cert.Kernel5Ideal.Win

open Idealize.ShloMosaic Idealize.ShloMosaic.TcCoe Idealize.SL Idealize.SL.Sem
open Cert.Kernel5Ideal.Gen
open Cert.Kernel4Ideal.Win (arrayOf isWide cases13)

variable {F : FTy → Type} [FloatOps F]

/-- The array of step `b`. -/
def arrayAt (b : Fin 120) : Fin 13 := arrayOf ⟨b.val / 8, Nat.div_lt_of_lt_mul b.isLt⟩

theorem inb_narrow (b : Fin 120) : ∀ a, (![1024 * (b.val % 8), 0] : Fin 2 → Nat) a + S1024x1024.size a ≤ S8192x1024.size a := by
  have := b.isLt; intro a; fin_cases a <;> simp <;> omega

theorem inb_wide (b : Fin 120) : ∀ a, (![1024 * (b.val % 8), 1024 * (b.val / 8 % 2)] : Fin 2 → Nat) a + S1024x1024.size a ≤ S8192x2048.size a := by
  have := b.isLt; intro a; fin_cases a <;> simp <;> omega

/-- Step `b`'s tile of an array one tile wide. -/
def narrow (M : Memref sig .tc .hbm S8192x1024 .bf16) (b : Fin 120) : Memref sig .tc .hbm S1024x1024 .bf16 :=
  M.slice (Rect.unit (s := S8192x1024) ![1024 * (b.val % 8), 0] S1024x1024.size (inb_narrow b)) (fun _ => rfl)

/-- Step `b`'s tile of an array two tiles wide: both begin at an even column tile. -/
def wide (M : Memref sig .tc .hbm S8192x2048 .bf16) (b : Fin 120) : Memref sig .tc .hbm S1024x1024 .bf16 :=
  M.slice (Rect.unit (s := S8192x2048) ![1024 * (b.val % 8), 1024 * (b.val / 8 % 2)] S1024x1024.size (inb_wide b)) (fun _ => rfl)

/-- Step `b`'s tile in array `g`. -/
def tileIn : Fin 13 → Fin 120 → Memref sig .tc .hbm S1024x1024 .bf16
  | 0, b => narrow (Memref.whole main_v1) b
  | 1, b => narrow (Memref.whole main_v2) b
  | 2, b => wide (Memref.whole main_v3) b
  | 3, b => wide (Memref.whole main_v4) b
  | 4, b => narrow (Memref.whole main_v5) b
  | 5, b => narrow (Memref.whole main_v6) b
  | 6, b => narrow (Memref.whole main_v7) b
  | 7, b => narrow (Memref.whole main_v8) b
  | 8, b => narrow (Memref.whole main_v9) b
  | 9, b => narrow (Memref.whole main_v10) b
  | 10, b => narrow (Memref.whole main_v11) b
  | 11, b => narrow (Memref.whole main_v12) b
  | 12, b => narrow (Memref.whole main_v13) b

/-- The tile step `b` reads. -/
def tile (b : Fin 120) : Memref sig .tc .hbm S1024x1024 .bf16 := tileIn (arrayAt b) b

/-- The two tiles in fast memory, and the counters their copies complete on. -/
abbrev scratch : Memref sig .tc .vmem S2x1024x1024 .bf16 := Memref.whole cc0_scratch0

def slot (s : Fin 2) : Memref sig .tc .vmem S1024x1024 .bf16 :=
  (scratch.slice (Rect.unit (s := S2x1024x1024) ![s.val, 0, 0] S1x1024x1024.size (Cert.Proof.Slots.inb_slot s)) (fun _ => rfl)).squeeze S1024x1024 squeezes_S1x1024x1024_S1024x1024

def cell (s : Fin 2) : DmaSems sig S_ := (cc0_scratch1.slice (Rect.unit (s := S2) ![s.val] S1.size (Cert.Proof.Slots.inb_cell s))).squeeze S_ squeezes_S1_S_

/-- The copy of step `b`'s tile into slot `s`. -/
def fetch (b : Fin 120) (s : Fin 2) (h₁ : (tile b).view.WordExact) (h₂ : (slot s).view.WordExact) : Prog (TpuEff nD τ sig (Elt F) Λ₀ .tc) PUnit :=
  Prog.lift (.enqueueDma (tile b) (.here (slot s)) (.dma (cell s).sem) h₁ h₂ ⟨Or.inl rfl, trivial⟩)

/-- A copy between equal places on an equal counter is the same copy. -/
theorem fetch_then {b : Fin 120} {s : Fin 2} {src : Memref sig .tc .hbm S1024x1024 .bf16} {dst : Memref sig .tc .vmem S1024x1024 .bf16} {q : DmaSems sig S_}
    (hs : src = tile b) (hd : dst = slot s) (hq : q = cell s) (h₁ : src.view.WordExact) (h₂ : dst.view.WordExact)
    (k : PUnit → Prog (TpuEff nD τ sig (Elt F) Λ₀ .tc) PUnit) :
    ∃ g₁ g₂, (Prog.lift (.enqueueDma src (.here dst) (.dma q.sem) h₁ h₂ ⟨Or.inl rfl, trivial⟩) >>= k) = (fetch b s g₁ g₂ >>= k) := by
  subst hs hd hq; exact ⟨h₁, h₂, rfl⟩

/-- What the body does after starting copies: wait for its own, clear the block at a column tile's first point, and add the product. -/
def finish (i : grid0.Coords) (a : Memref sig .tc .vmem S1024x1024 .bf16) (o : Memref sig .tc .vmem S1024x1024 .f32) : Prog (TpuEff nD τ sig (Elt F) Λ₀ .tc) PUnit := do
  Prog.lift (.waitDma2 ((cc0_scratch1.slice (Rect.unit (s := S2) (k0_off79 i) S1.size (k0_off79_inb i))).squeeze S_ squeezes_S1_S_).sem
    ((Memref.whole main_v1 : Memref sig .tc .hbm S8192x1024 .bf16).slice (Rect.unit (s := S8192x1024) ![0, 0] S1024x1024.size inb_S8192x1024_S1024x1024_0_0) (fun _ => rfl))
    ((scratch.slice (Rect.unit (s := S2x1024x1024) (k0_off80 i) S1x1024x1024.size (k0_off80_inb i)) (fun _ => rfl)).squeeze S1024x1024 squeezes_S1x1024x1024_S1024x1024)
    ((Memref.isWhole_whole _).wordExact_slice rfl _ wordsbf16_S8192x1024_S1024x1024_0_0) (((Memref.isWhole_whole _).wordExact_slice rfl _ (k0_off80_wordsbf16 i)).reshape _ _))
  if h : (Scalar.cmpi .ne (Scalar.extui (Scalar.cmpi .eq (BitVec.ofNat 32 (i 1).val) 0#32)) 0#32 : BitVec 1) = 1#1 then do
    let _v : Vec F S1024x1024 .f32 ← Prog.lift (.load o (Rect.unit (s := S1024x1024) ![0, 0] S1024x1024.size inb_S1024x1024_S1024x1024_0_0).toLoadRect (View.loadsAt_vmem h_S1024x1024))
    Prog.lift (.store o (Rect.unit (s := S1024x1024) ![0, 0] S1024x1024.size inb_S1024x1024_S1024x1024_0_0) (k0_pay1 (F := F)) Finset.univ (View.stores_vmem_bits_univ h_S1024x1024 rfl) (.inl rfl))
    pure ⟨⟩
  else do
    pure ⟨⟩
  let x : Vec F S1024x1024 .f32 ← Prog.lift (.load o (Rect.unit (s := S1024x1024) ![0, 0] S1024x1024.size inb_S1024x1024_S1024x1024_0_0).toLoadRect (View.loadsAt_vmem h_S1024x1024))
  let y : Vec F S1024x1024 .bf16 ← Prog.lift (.load a (Rect.unit (s := S1024x1024) ![0, 0] S1024x1024.size inb_S1024x1024_S1024x1024_0_0).toLoadRect (View.loadsAt_vmem h_S1024x1024))
  let z : Vec F S1x1024x1024 .bf16 ← Prog.lift (.load scratch (Rect.unit (s := S2x1024x1024) (k0_off81 i) S1x1024x1024.size (k0_off81_inb i)).toLoadRect (View.loadsAt_vmem h_S1x1024x1024))
  let _v : Vec F S1024x1024 .f32 ← Prog.lift (.load o (Rect.unit (s := S1024x1024) ![0, 0] S1024x1024.size inb_S1024x1024_S1024x1024_0_0).toLoadRect (View.loadsAt_vmem h_S1024x1024))
  Prog.lift (.store o (Rect.unit (s := S1024x1024) ![0, 0] S1024x1024.size inb_S1024x1024_S1024x1024_0_0) (k0_pay2 x y z) Finset.univ (View.stores_vmem_bits_univ h_S1024x1024 rfl) (.inl rfl))
  pure ⟨⟩

/-- The body at point `t` on the given staging buffers. -/
def body (t : Fin grid0.N) (a : Memref sig .tc .vmem S1024x1024 .bf16) (ha : a.IsWhole) (o : Memref sig .tc .vmem S1024x1024 .f32) (ho : o.IsWhole) : Prog (TpuEff nD τ sig (Elt F) Λ₀ .tc) PUnit :=
  cc0_inlin0_wgrad (grid0.coords t) a ha (Memref.whole main_v1) (Memref.isWhole_whole _) (Memref.whole main_v2) (Memref.isWhole_whole _) (Memref.whole main_v3) (Memref.isWhole_whole _) (Memref.whole main_v4) (Memref.isWhole_whole _) (Memref.whole main_v5) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v11) (Memref.isWhole_whole _) (Memref.whole main_v12) (Memref.isWhole_whole _) (Memref.whole main_v13) (Memref.isWhole_whole _) o ho scratch (Memref.isWhole_whole _) cc0_scratch1

set_option synthInstance.maxSize 4096 in
/-- The first copy is asked for at the first point alone. -/
theorem first_iff : ∀ t : Fin grid0.N, k0_cond1 (grid0.coords t) = 1#1 ↔ t.val = 0 := by decide +kernel

/-- A next copy is asked for at every point but the last. -/
theorem next_iff : ∀ t : Fin grid0.N, k0_cond15 (grid0.coords t) = 1#1 ↔ t.val + 1 < 120 := by decide +kernel

/-- The step after point `t`. -/
abbrev next (t : Fin grid0.N) : Fin 120 := Ring.bk 120 (t.val + 1)

/-- Which of the thirteen questions about the next tile is answered by yes. -/
theorem next_array : ∀ t : Fin grid0.N, t.val + 1 < 120 →
    (k0_cond16 (grid0.coords t) = 1#1 ↔ arrayAt (next t) = 0) ∧ (k0_cond17 (grid0.coords t) = 1#1 ↔ arrayAt (next t) = 1)
    ∧ (k0_cond18 (grid0.coords t) = 1#1 ↔ arrayAt (next t) = 2) ∧ (k0_cond19 (grid0.coords t) = 1#1 ↔ arrayAt (next t) = 3)
    ∧ (k0_cond20 (grid0.coords t) = 1#1 ↔ arrayAt (next t) = 4) ∧ (k0_cond21 (grid0.coords t) = 1#1 ↔ arrayAt (next t) = 5)
    ∧ (k0_cond22 (grid0.coords t) = 1#1 ↔ arrayAt (next t) = 6) ∧ (k0_cond23 (grid0.coords t) = 1#1 ↔ arrayAt (next t) = 7)
    ∧ (k0_cond24 (grid0.coords t) = 1#1 ↔ arrayAt (next t) = 8) ∧ (k0_cond25 (grid0.coords t) = 1#1 ↔ arrayAt (next t) = 9)
    ∧ (k0_cond26 (grid0.coords t) = 1#1 ↔ arrayAt (next t) = 10) ∧ (k0_cond27 (grid0.coords t) = 1#1 ↔ arrayAt (next t) = 11)
    ∧ (k0_cond28 (grid0.coords t) = 1#1 ↔ arrayAt (next t) = 12) := by decide +kernel

/-- Where the thirteen copies of a next tile read their counter, write their slot and read their tile. -/
def nextOffsets (i : grid0.Coords) : Fin 13 → (Fin 1 → Nat) × (Fin 3 → Nat) × (Fin 2 → Nat)
  | 0 => (k0_off40 i, k0_off41 i, k0_off42 i)
  | 1 => (k0_off43 i, k0_off44 i, k0_off45 i)
  | 2 => (k0_off46 i, k0_off47 i, k0_off48 i)
  | 3 => (k0_off49 i, k0_off50 i, k0_off51 i)
  | 4 => (k0_off52 i, k0_off53 i, k0_off54 i)
  | 5 => (k0_off55 i, k0_off56 i, k0_off57 i)
  | 6 => (k0_off58 i, k0_off59 i, k0_off60 i)
  | 7 => (k0_off61 i, k0_off62 i, k0_off63 i)
  | 8 => (k0_off64 i, k0_off65 i, k0_off66 i)
  | 9 => (k0_off67 i, k0_off68 i, k0_off69 i)
  | 10 => (k0_off70 i, k0_off71 i, k0_off72 i)
  | 11 => (k0_off73 i, k0_off74 i, k0_off75 i)
  | 12 => (k0_off76 i, k0_off77 i, k0_off78 i)

/-- They are the next step's counter, slot and tile. -/
theorem next_offsets : ∀ t : Fin grid0.N, t.val + 1 < 120 →
    (nextOffsets (grid0.coords t) (arrayAt (next t))).1 = ![(Ring.sl 2 (t.val + 1)).val]
    ∧ (nextOffsets (grid0.coords t) (arrayAt (next t))).2.1 = ![(Ring.sl 2 (t.val + 1)).val, 0, 0]
    ∧ (nextOffsets (grid0.coords t) (arrayAt (next t))).2.2
      = ![1024 * ((next t).val % 8), if isWide (arrayAt (next t)) then 1024 * ((next t).val / 8 % 2) else 0] := by decide +kernel

theorem slot_of {off : Fin 3 → Nat} {s : Fin 2} (h : off = ![s.val, 0, 0]) (hb : ∀ a, off a + S1x1024x1024.size a ≤ S2x1024x1024.size a) :
    (scratch.slice (Rect.unit (s := S2x1024x1024) off S1x1024x1024.size hb) (fun _ => rfl)).squeeze S1024x1024 squeezes_S1x1024x1024_S1024x1024 = slot s := by
  subst h; rfl

theorem cell_of {off : Fin 1 → Nat} {s : Fin 2} (h : off = ![s.val]) (hb : ∀ a, off a + S1.size a ≤ S2.size a) :
    (cc0_scratch1.slice (Rect.unit (s := S2) off S1.size hb)).squeeze S_ squeezes_S1_S_ = cell s := by
  subst h; rfl

theorem narrow_of {M : Memref sig .tc .hbm S8192x1024 .bf16} {off : Fin 2 → Nat} {b : Fin 120} (ht : tile b = narrow M b) (h : off = ![1024 * (b.val % 8), 0])
    (hb : ∀ a, off a + S1024x1024.size a ≤ S8192x1024.size a) :
    M.slice (Rect.unit (s := S8192x1024) off S1024x1024.size hb) (fun _ => rfl) = tile b := by
  subst h; exact ht.symm

theorem wide_of {M : Memref sig .tc .hbm S8192x2048 .bf16} {off : Fin 2 → Nat} {b : Fin 120} (ht : tile b = wide M b) (h : off = ![1024 * (b.val % 8), 1024 * (b.val / 8 % 2)])
    (hb : ∀ a, off a + S1024x1024.size a ≤ S8192x2048.size a) :
    M.slice (Rect.unit (s := S8192x2048) off S1024x1024.size hb) (fun _ => rfl) = tile b := by
  subst h; exact ht.symm

set_option maxHeartbeats 1000000 in
/-- At a point that is neither the first nor the last the body starts the next step's copy and finishes its own. -/
theorem body_next (t : Fin grid0.N) (h0 : t.val ≠ 0) (hn : t.val + 1 < 120) (a : Memref sig .tc .vmem S1024x1024 .bf16) (ha : a.IsWhole)
    (o : Memref sig .tc .vmem S1024x1024 .f32) (ho : o.IsWhole) :
    ∃ h₁ h₂, (body t a ha o ho : Prog (TpuEff nD τ sig (Elt F) Λ₀ .tc) PUnit)
      = (fetch (next t) (Ring.sl 2 (t.val + 1)) h₁ h₂ >>= fun _ => finish (grid0.coords t) a o) := by
  have c1 : ¬k0_cond1 (grid0.coords t) = 1#1 := fun h => h0 ((first_iff t).mp h)
  have c15 := (next_iff t).mpr hn
  have cs := next_array t hn
  have os := next_offsets t hn
  have ht : tile (next t) = tileIn (arrayAt (next t)) (next t) := rfl
  unfold body
  rw [cc0_inlin0_wgrad_eq_skeleton]
  unfold cc0_inlin0_wgrad_skel
  rw [k0_part4_eq_skeleton, k0_part5_eq_skeleton, k0_part6_eq_skeleton]
  rcases cases13 (arrayAt (next t)) with h | h | h | h | h | h | h | h | h | h | h | h | h
  all_goals
    rw [h] at os ht
    simp only [h] at cs
    simp at cs
    simp only [nextOffsets, isWide] at os
    simp only [tileIn] at ht
    simp only [c1, c15, cs, ↓reduceDIte, k0_part4_skel, k0_part5_skel, k0_part6_skel]
    first
    | exact fetch_then (b := next t) (s := Ring.sl 2 (t.val + 1)) (narrow_of ht os.2.2 _) (slot_of os.2.1 _) (cell_of os.1 _) _ _ (fun _ => finish (grid0.coords t) a o)
    | exact fetch_then (b := next t) (s := Ring.sl 2 (t.val + 1)) (wide_of ht os.2.2 _) (slot_of os.2.1 _) (cell_of os.1 _) _ _ (fun _ => finish (grid0.coords t) a o)

/-- At the last point it finishes its own copy. -/
theorem body_last (t : Fin grid0.N) (h0 : t.val ≠ 0) (hn : ¬t.val + 1 < 120) (a : Memref sig .tc .vmem S1024x1024 .bf16) (ha : a.IsWhole)
    (o : Memref sig .tc .vmem S1024x1024 .f32) (ho : o.IsWhole) :
    (body t a ha o ho : Prog (TpuEff nD τ sig (Elt F) Λ₀ .tc) PUnit) = finish (grid0.coords t) a o := by
  have c1 : ¬k0_cond1 (grid0.coords t) = 1#1 := fun h => h0 ((first_iff t).mp h)
  have c15 : ¬k0_cond15 (grid0.coords t) = 1#1 := fun h => hn ((next_iff t).mp h)
  unfold body
  rw [cc0_inlin0_wgrad_eq_skeleton]
  unfold cc0_inlin0_wgrad_skel
  simp only [c1, c15, ↓reduceDIte]
  rfl

/-- At the first point the first tile, too, is copied: it is the first array's. -/
theorem first_array : ∀ t : Fin grid0.N, t.val = 0 → k0_cond2 (grid0.coords t) = 1#1
    ∧ ¬k0_cond3 (grid0.coords t) = 1#1 ∧ ¬k0_cond4 (grid0.coords t) = 1#1 ∧ ¬k0_cond5 (grid0.coords t) = 1#1 ∧ ¬k0_cond6 (grid0.coords t) = 1#1
    ∧ ¬k0_cond7 (grid0.coords t) = 1#1 ∧ ¬k0_cond8 (grid0.coords t) = 1#1 ∧ ¬k0_cond9 (grid0.coords t) = 1#1 ∧ ¬k0_cond10 (grid0.coords t) = 1#1
    ∧ ¬k0_cond11 (grid0.coords t) = 1#1 ∧ ¬k0_cond12 (grid0.coords t) = 1#1 ∧ ¬k0_cond13 (grid0.coords t) = 1#1 ∧ ¬k0_cond14 (grid0.coords t) = 1#1
    ∧ arrayAt (Ring.bk 120 t.val) = 0 ∧ arrayAt (next t) = 0 := by decide +kernel

theorem first_offsets : ∀ t : Fin grid0.N, t.val = 0 → k0_off1 (grid0.coords t) = ![(Ring.sl 2 t.val).val]
    ∧ k0_off2 (grid0.coords t) = ![(Ring.sl 2 t.val).val, 0, 0] ∧ k0_off3 (grid0.coords t) = ![1024 * ((Ring.bk 120 t.val).val % 8), 0] := by decide +kernel

set_option maxHeartbeats 1000000 in
/-- At the first point the body starts two copies and finishes the first. -/
theorem body_first (t : Fin grid0.N) (h0 : t.val = 0) (a : Memref sig .tc .vmem S1024x1024 .bf16) (ha : a.IsWhole)
    (o : Memref sig .tc .vmem S1024x1024 .f32) (ho : o.IsWhole) :
    ∃ h₁ h₂ h₃ h₄, (body t a ha o ho : Prog (TpuEff nD τ sig (Elt F) Λ₀ .tc) PUnit)
      = (fetch (Ring.bk 120 t.val) (Ring.sl 2 t.val) h₁ h₂ >>= fun _ => fetch (next t) (Ring.sl 2 (t.val + 1)) h₃ h₄ >>= fun _ => finish (grid0.coords t) a o) := by
  have hn : t.val + 1 < 120 := by omega
  have c1 := (first_iff t).mpr h0
  have c15 := (next_iff t).mpr hn
  have fs := first_array t h0
  have fo := first_offsets t h0
  have cs := next_array t hn
  have os := next_offsets t hn
  have ht : tile (next t) = tileIn (arrayAt (next t)) (next t) := rfl
  have hf : tile (Ring.bk 120 t.val) = tileIn (arrayAt (Ring.bk 120 t.val)) (Ring.bk 120 t.val) := rfl
  have h := fs.2.2.2.2.2.2.2.2.2.2.2.2.2.2
  rw [h] at os ht
  rw [fs.2.2.2.2.2.2.2.2.2.2.2.2.2.1] at hf
  simp only [h] at cs
  simp at cs
  simp only [nextOffsets, isWide] at os
  simp only [tileIn] at ht hf
  obtain ⟨g₃, g₄, e⟩ := fetch_then (F := F) (b := next t) (s := Ring.sl 2 (t.val + 1)) (narrow_of ht os.2.2 (k0_off42_inb _ c15 cs.1)) (slot_of os.2.1 (k0_off41_inb _ c15 cs.1))
    (cell_of os.1 (k0_off40_inb _ c15 cs.1)) ((Memref.isWhole_whole _).wordExact_slice rfl _ (k0_off42_wordsbf16 _ c15 cs.1))
    (((Memref.isWhole_whole _).wordExact_slice rfl _ (k0_off41_wordsbf16 _ c15 cs.1)).reshape _ _) (fun _ => finish (grid0.coords t) a o)
  obtain ⟨g₁, g₂, e'⟩ := fetch_then (F := F) (b := Ring.bk 120 t.val) (s := Ring.sl 2 t.val) (narrow_of hf fo.2.2 (k0_off3_inb _ c1 fs.1)) (slot_of fo.2.1 (k0_off2_inb _ c1 fs.1))
    (cell_of fo.1 (k0_off1_inb _ c1 fs.1)) ((Memref.isWhole_whole _).wordExact_slice rfl _ (k0_off3_wordsbf16 _ c1 fs.1))
    (((Memref.isWhole_whole _).wordExact_slice rfl _ (k0_off2_wordsbf16 _ c1 fs.1)).reshape _ _)
    (fun _ => fetch (next t) (Ring.sl 2 (t.val + 1)) g₃ g₄ >>= fun _ => finish (grid0.coords t) a o)
  refine ⟨g₁, g₂, g₃, g₄, e' ▸ e ▸ ?_⟩
  unfold body
  rw [cc0_inlin0_wgrad_eq_skeleton]
  unfold cc0_inlin0_wgrad_skel
  rw [k0_part1_eq_skeleton, k0_part2_eq_skeleton, k0_part3_eq_skeleton, k0_part4_eq_skeleton, k0_part5_eq_skeleton, k0_part6_eq_skeleton]
  simp only [c1, c15, cs, fs, ↓reduceDIte, k0_part1_skel, k0_part2_skel, k0_part3_skel, k0_part4_skel, k0_part5_skel, k0_part6_skel]
  rfl

end Cert.Kernel5Ideal.Win

end
-- ==== Proof.WinWRing.lean ====
module

public import proofs.«01_k».proof.Proof.Shares
public import proofs.«01_k».proof.Proof.WinWProg
public import Idealize.ShloMosaic.Lib.Pipeline.FrameBody
public import Idealize.ShloMosaic.Lib.Tactic
public import Idealize.ShloMosaic.Lib.WordCmp

/-! # The input product's weight gradient: the two slots and the thirteen arrays

Two copies are under way at once, so each of the thirteen cotangents is held in two halves, one per slot: a copy borrows
its tile from its slot's half of the array the tile lies in, and the other twelve stay with the slot. -/

@[expose] public section

set_option maxRecDepth 16384

noncomputable section

namespace Cert.Kernel5Ideal.Win

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel5Ideal.Gen
open Cert.Kernel4Ideal.Win (cases13)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host's casts -/

/-- Core `c`'s arrays when the kernel starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The arrays the host writes. -/
def written : List (Ref sig .tc) :=
  [main_v0, main_v1, main_v2, main_v3, main_v4, main_v5, main_v6, main_v7, main_v8, main_v9, main_v10, main_v11, main_v12, main_v13]

/-- An array the host does not write is found as launched. -/
theorem V_unwritten (c : Dev nD) (r : Ref sig .tc) (h : ∀ x ∈ written, r ≠ x) : V m c r = m ((c : Thread nD τ).loc r) :=
  StableHlo.after_of_forall_not_mem (b := Proc.devRef .tc r) _ _ (List.forall_iff_forall_mem.mp (by
    simp only [written, List.mem_cons, List.not_mem_nil, or_false, forall_eq_or_imp, forall_eq] at h
    simp only [hostOps0, List.Forall, StableHlo.unary_writes, Finset.mem_singleton]
    refine ⟨?_, ?_, ?_, ?_, ?_, ?_, ?_, ?_, ?_, ?_, ?_, ?_, ?_, ?_⟩
    all_goals (apply StableHlo.devRef_ne_of_ne; simp only [h, ne_eq, not_false_eq_true])))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_rows {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the kernel holds of its own -/

/-- The two counters' numbers. -/
abbrev counters : Fin 2 → SemLoc sig := fun j => (![SemLoc.dma 4, SemLoc.dma 5] : Fin 2 → SemLoc sig) j

theorem counterFacts : Pipeline.OwnSemFacts spec0 counters := by decide

theorem counters_eq (c : Dev nD) :
    (Pipeline.ownSems0 (Ix := Unit) (Name := ℕ) (U := Pipeline.UD sig nD τ) (Lvl := ℕ) (Val := Elt F) (τ := τ) counters c : sProp 𝕄)
      = iprop(semVal ((c : Thread nD τ), SemLoc.dma 4) 0 ∗ semVal ((c : Thread nD τ), SemLoc.dma 5) 0) := by
  rw [Pipeline.ownSems0_eq_of_list c counters [0, 1] (by decide) (by decide)]; rfl

/-- The thirteen cotangents. -/
def arrays : Finset (Ref sig .tc) :=
  {main_v1, main_v2, main_v3, main_v4, main_v5, main_v6, main_v7, main_v8, main_v9, main_v10, main_v11, main_v12, main_v13}

theorem arrays_sub : arrays ⊆ Pipeline.restRefs sig spec0 := by decide

/-- The array of a tile of array `g`. -/
def arrayRef (g : Fin 13) : Ref sig .tc :=
  (![main_v1, main_v2, main_v3, main_v4, main_v5, main_v6, main_v7, main_v8, main_v9, main_v10, main_v11, main_v12, main_v13] : Fin 13 → Ref sig .tc) g

theorem tileIn_ref (g : Fin 13) (b : Fin 120) : (tileIn g b).view.ref = arrayRef g := by
  rcases cases13 g with h | h | h | h | h | h | h | h | h | h | h | h | h <;> subst h <;> rfl

/-- A step's tile lies in one of them. -/
theorem tile_mem (b : Fin 120) : (tile b).view.ref ∈ arrays := by
  have h : ∀ g, arrayRef g ∈ arrays := by decide
  unfold tile; rw [tileIn_ref]; exact h _

theorem owned_eq (c : Dev nD) :
    (Pipeline.ΦD counters spec0 arrays (V m) c : sProp 𝕄)
      = iprop(iprop((∃ d, owns (c : Thread nD τ) scratch fullShare d)) ∗ (∃ r, prngReg c r)
          ∗ iprop(semVal ((c : Thread nD τ), SemLoc.dma 4) 0 ∗ semVal ((c : Thread nD τ), SemLoc.dma 5) 0)
          ∗ bigSep arrays (fun b => ((c : Thread nD τ).loc b) ↦{fullShare} V m c b)) := by
  rw [Pipeline.ΦD_eq, scopedRest0_eq, counters_eq]; simp only [scratch, owns_whole]; try rfl

instance : NeZero grid0.N := ⟨by rw [N_0]; decide⟩

abbrev cellNo (s : Fin 2) : SemLoc sig := SemLoc.dma (cell s).sem
theorem cellNo_zero : cellNo 0 = SemLoc.dma 4 := by decide
theorem cellNo_one : cellNo 1 = SemLoc.dma 5 := by decide

/-- Contents of memref `M`'s buffer on core `c`. -/
abbrev Held (c : Dev nD) {sp : Space} {S : Shape} {e : EltTy} (M : Memref sig .tc sp S e) : Type := Buf (Elt F) (M.view.loc (c : Thread nD τ))

section Ring

variable (c : Dev nD) (W : (b : Ref sig .tc) → Buf (Elt F) ((c : Thread nD τ).loc b))

/-- Slot `s`'s half of the arrays. -/
abbrev half (s : Fin 2) : PosShare TreeShare := if s.val = 0 then fullShare.left else fullShare.right

abbrev slotHeld (s : Fin 2) (f : Held (F := F) c (slot s)) : sProp 𝕄 := (slot s).view.loc (c : Thread nD τ) ↦[(slot s).view.set]{fullShare} f
abbrev cellZero (s : Fin 2) : sProp 𝕄 := semVal ((c : Thread nD τ), cellNo s) 0
/-- What a copy of step `b`'s tile into slot `s` borrows. -/
abbrev lent (s : Fin 2) (b : Fin 120) : sProp 𝕄 := (tile b).view.loc (c : Thread nD τ) ↦[(tile b).view.set]{half s} W (tile b).view.ref
/-- What stays of the slot's half of the arrays: the rest of that array, and the other twelve. -/
def unlent (s : Fin 2) (b : Fin 120) : sProp 𝕄 := Cert.Proof.Shares.unlent c W arrays (half s) (tile b)
def halves (s : Fin 2) : sProp 𝕄 := Cert.Proof.Shares.held c W arrays (half s)
/-- A slot once step `b`'s tile has landed in it. -/
abbrev landed (s : Fin 2) (b : Fin 120) (f : Held (F := F) c (slot s)) : Held (F := F) c (slot s) :=
  (slot s).view.writes (Elt F) f [⟨Rect.whole S1024x1024, ReadAs.same.apply ((tile b).view.read (Elt F) (W (tile b).view.ref))⟩]
abbrev copying (s : Fin 2) (b : Fin 120) (f : Held (F := F) c (slot s)) : sProp 𝕄 :=
  Transfers.Flight countersEmb (c : Thread nD τ) (cellNo s) default ((slot s).view.amount (cellNo s))
    iprop(slotHeld c s (landed c W s b f) ∗ lent c W s b)
abbrev atRest (s : Fin 2) (f : Held (F := F) c (slot s)) : sProp 𝕄 := iprop(slotHeld c s f ∗ halves c W s)
abbrev underWay (s : Fin 2) (b : Fin 120) (f : Held (F := F) c (slot s)) : sProp 𝕄 := iprop(copying c W s b f ∗ unlent c W s b)
abbrev nothing (b : Fin 120) : sProp 𝕄 := iprop(emp)

/-- The ring before its step `k`. -/
def ringAt (k : ℕ) : sProp 𝕄 :=
  if k = 0 then Ring.At₀ (cellZero c) (atRest c W) nothing
  else Ring.AtK 1 (cellZero c) (atRest c W) nothing (underWay c W) (landed c W) k

omit [FloatOps F] in
theorem cellZero_zero : cellZero (F := F) c 0 = semVal ((c : Thread nD τ), SemLoc.dma 4) 0 := congrArg (fun x => (semVal ((c : Thread nD τ), x) 0 : sProp 𝕄)) cellNo_zero
omit [FloatOps F] in
theorem cellZero_one : cellZero (F := F) c 1 = semVal ((c : Thread nD τ), SemLoc.dma 5) 0 := congrArg (fun x => (semVal ((c : Thread nD τ), x) 0 : sProp 𝕄)) cellNo_one

/-- A slot's half of the arrays is a tile and what stays. -/
theorem halves_split (s : Fin 2) (b : Fin 120) : halves (F := F) c W s ⊣⊢ iprop(lent c W s b ∗ unlent c W s b) :=
  Cert.Proof.Shares.lend c W arrays (half s) (tile b) (tile_mem b)

/-- The arrays whole are the two slots' halves. -/
theorem arrays_split : (bigSep arrays (fun b => ((c : Thread nD τ).loc b) ↦{fullShare} W b) : sProp 𝕄) ⊣⊢ iprop(halves c W 0 ∗ halves c W 1) :=
  Cert.Proof.Shares.halve c W arrays

end Ring

/-! ## The slots make up the scratch -/

theorem slotSet_eq (s : Fin 2) : (slot s).view.set = Cert.Proof.Slots.slotSet s := by
  simp only [slot, Memref.view_squeeze, View.set_reshape]; exact View.set_slice_whole _ _

theorem slotHeld_eq (c : Dev nD) (s : Fin 2) (f) : slotHeld (F := F) c s f = (((c : Thread nD τ).loc cc0_scratch0) ↦[Cert.Proof.Slots.slotSet s]{fullShare} f : sProp 𝕄) := by
  unfold slotHeld; rw [slotSet_eq]; rfl

set_option maxHeartbeats 1000000 in
theorem slots_in (c : Dev nD) : iprop(∃ d, owns (c : Thread nD τ) scratch fullShare d) ⊢ (iprop((∃ f, slotHeld (F := F) c 0 f) ∗ ∃ f, slotHeld (F := F) c 1 f) : sProp 𝕄) := by
  simp only [scratch, owns_whole]
  exact Ring.slots2_split (U := Pipeline.UD sig nD τ) (ℓ := (c : Thread nD τ).loc cc0_scratch0) (q := fullShare) Cert.Proof.Slots.slotSet Cert.Proof.Slots.slots_disjoint Cert.Proof.Slots.slots_cover
    (slotHeld c 0) (slotHeld c 1) (slotHeld_eq c 0) (slotHeld_eq c 1)

set_option maxHeartbeats 1000000 in
theorem slots_out (c : Dev nD) : (iprop((∃ f, slotHeld (F := F) c 0 f) ∗ ∃ f, slotHeld (F := F) c 1 f) : sProp 𝕄) ⊢ iprop(∃ d, owns (c : Thread nD τ) scratch fullShare d) := by
  simp only [scratch, owns_whole]
  exact Ring.slots2_join (U := Pipeline.UD sig nD τ) (ℓ := (c : Thread nD τ).loc cc0_scratch0) (q := fullShare) Cert.Proof.Slots.slotSet Cert.Proof.Slots.slots_disjoint Cert.Proof.Slots.slots_cover
    (slotHeld c 0) (slotHeld c 1) (slotHeld_eq c 0) (slotHeld_eq c 1)

/-- What the launch hands over is the ring before its first step; -/
theorem ring_in (c : Dev nD) :
    iprop((∃ d, owns (c : Thread nD τ) scratch fullShare d) ∗ (semVal ((c : Thread nD τ), SemLoc.dma 4) 0 ∗ semVal ((c : Thread nD τ), SemLoc.dma 5) 0)
        ∗ bigSep arrays (fun b => ((c : Thread nD τ).loc b) ↦{fullShare} V m c b))
      ⊢ ringAt c (V m c) 0 := by
  unfold ringAt; rw [if_pos rfl]; unfold Ring.At₀
  rw [Ring.bigSep_fin2]
  simp only [Ring.free, cellZero_zero, cellZero_one]
  iintro ⟨HS, ⟨Hc, Hd⟩, HW⟩
  iapply Ring.with_homes₀
  ihave HS' := (slots_in (F := F) c) $$ HS
  icases HS' with ⟨⟨%f, HS⟩, ⟨%g, HT⟩⟩
  ihave HW' := (arrays_split (F := F) c (V m c)).1 $$ HW
  icases HW' with ⟨HV, HW⟩
  isplitl [Hc HS HV]
  · isplitl [Hc]; · iexact Hc
    iexists f; isplitl [HS]; · iexact HS
    iexact HV
  · isplitl [Hd]; · iexact Hd
    iexists g; isplitl [HT]; · iexact HT
    iexact HW

/-- and after the last step the ring gives it back. -/
theorem ring_out (c : Dev nD) :
    ringAt c (V m c) 120
      ⊢ iprop((∃ d, owns (c : Thread nD τ) scratch fullShare d) ∗ (semVal ((c : Thread nD τ), SemLoc.dma 4) 0 ∗ semVal ((c : Thread nD τ), SemLoc.dma 5) 0)
        ∗ bigSep arrays (fun b => ((c : Thread nD τ).loc b) ↦{fullShare} V m c b)) := by
  unfold ringAt; rw [if_neg (by decide)]
  iintro H
  ihave H' := (Ring.free2_of_AtK_last _ _ _ _ _) $$ H
  simp only [Ring.free, cellZero_zero, cellZero_one]
  icases H' with ⟨-, ⟨Hc, ⟨%f, HS, HV⟩⟩, ⟨Hd, ⟨%g, HT, HW⟩⟩⟩
  isplitl [HS HT]
  · iapply (slots_out (F := F) c); isplitl [HS]; · iexists f; iexact HS
    iexists g; iexact HT
  isplitl [Hc Hd]
  · isplitl [Hc]; · iexact Hc
    iexact Hd
  · iapply (arrays_split (F := F) c (V m c)).2; isplitl [HV]; · iexact HV
    iexact HW

/-! ## The waited copy is the step's own -/

section Own
omit [FloatOps F]

theorem own_offsets : ∀ t : Fin grid0.N, k0_off79 (grid0.coords t) = ![(Ring.sl 2 t.val).val]
    ∧ k0_off80 (grid0.coords t) = ![(Ring.sl 2 t.val).val, 0, 0] ∧ k0_off81 (grid0.coords t) = ![(Ring.sl 2 t.val).val, 0, 0] := by decide +kernel

@[sl_canon] theorem own_slot (t : Fin grid0.N) :
    (scratch.slice (Rect.unit (s := S2x1024x1024) (k0_off80 (grid0.coords t)) S1x1024x1024.size (k0_off80_inb (grid0.coords t))) (fun _ => rfl)).squeeze S1024x1024 squeezes_S1x1024x1024_S1024x1024
      = slot (Ring.sl 2 t.val) := slot_of (own_offsets t).2.1 _

@[sl_canon] theorem own_cell (t : Fin grid0.N) :
    (cc0_scratch1.slice (Rect.unit (s := S2) (k0_off79 (grid0.coords t)) S1.size (k0_off79_inb (grid0.coords t)))).squeeze S_ squeezes_S1_S_ = cell (Ring.sl 2 t.val) :=
  cell_of (own_offsets t).1 _

instance (priority := high) own_load (t : Fin grid0.N) : ClosedOff (k0_off81 (grid0.coords t)) := ⟨![(Ring.sl 2 t.val).val, 0, 0], (own_offsets t).2.2⟩

end Own

/-- The block is cleared at a column tile's first row tile. -/
theorem clear_iff : ∀ t : Fin grid0.N, (Scalar.cmpi .ne (Scalar.extui (Scalar.cmpi .eq (BitVec.ofNat 32 (grid0.coords t 1).val) 0#32)) 0#32 : BitVec 1) = 1#1 ↔ t.val % 8 = 0 := by
  decide +kernel

end Cert.Kernel5Ideal.Win

end
-- ==== Proof.WinWRun.lean ====
module

public import proofs.«01_k».proof.Proof.WinWRing
public import proofs.«01_k».proof.Proof.Products

/-! # The input product's weight gradient: the body at each kind of point -/

@[expose] public section

set_option maxRecDepth 16384

noncomputable section

namespace Cert.Kernel5Ideal.Win

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel5Ideal.Gen

variable {F : FTy → Type} [FloatOps F]

local notation "𝕄" => MT nD τ sig Unit (Elt F) ℕ (Pipeline.UD sig nD τ) ℕ

/-- The condition under which a point clears its block. -/
abbrev clears (t : Fin grid0.N) : Prop :=
  (Scalar.cmpi .ne (Scalar.extui (Scalar.cmpi .eq (BitVec.ofNat 32 (grid0.coords t 1).val) 0#32)) 0#32 : BitVec 1) = 1#1

variable (c : Dev nD) (t : Fin grid0.N) (a : Memref sig .tc .vmem S1024x1024 .bf16) (ha : a.IsWhole)
  (o : Memref sig .tc .vmem S1024x1024 .f32) (ho : o.IsWhole) (x : Vec F S1024x1024 .bf16) (W : (b : Ref sig .tc) → Buf (Elt F) ((c : Thread nD τ).loc b))

/-- The wait and the product at a point that adds to what its block holds. -/
def finish_add (hc : ¬clears t) (y : Vec F S1024x1024 .f32) :
    { L : List (View.Piece (Elt F) S1024x1024 .f32) //
      ∀ (Q : Waits sig Unit) (K : PUnit → sProp 𝕄),
        iprop(owns (c : Thread nD τ) a fullShare x ∗ owns (c : Thread nD τ) o fullShare y
            ∗ Ring.inflight (underWay c W) (Ring.sl 2 t.val) (Ring.bk 120 t.val) ∗ owes (c : Thread nD τ) 0 Q
            ∗ (iprop(owns (c : Thread nD τ) a fullShare x ∗ (∃ f, o.view.loc (c : Thread nD τ) ↦[o.view.set]{fullShare} o.view.writes (Elt F) f L)
                ∗ Ring.kept (cellZero c) (atRest c W) (landed c W) (Ring.sl 2 t.val) (Ring.bk 120 t.val) ∗ (∃ Q', owes (c : Thread nD τ) 0 Q')) -∗ K ⟨⟩))
          ⊢ wp frame (wpE (defs₀ (F := F)) Variants.none c none) Set.univ (finish (grid0.coords t) a o) K } := by
  refine ⟨?_, fun Q K => ?run⟩
  case run =>
    haveI : Fact (¬clears t) := ⟨hc⟩
    unfold finish
    unfold owns Ring.inflight Ring.kept
    iintro ⟨⟨%f, %hf, Ha⟩, ⟨%g, %hg, Ho⟩, ⟨%h, Hf, Hr⟩, HW, Hk⟩
    obtain rfl := ha.eq_unread hf; obtain rfl := ho.eq_unread hg
    sl_exec (disch := sl_exact hc)
    sl_step
    iapply Hk
    isplitl [Ha]
    · iexists _; isplitr; · ipureintro; exact ha.read_unread _
      iexact Ha
    isplitl [Ho]; · iexists _; iexact Ho
    isplitl [Hf Hf_dst Hf_src Hr]
    · isplitl [Hf]; · iexact Hf
      iexists _; isplitl [Hf_dst]; · iexact Hf_dst
      iapply (halves_split c W (Ring.sl 2 t.val) (Ring.bk 120 t.val)).2; isplitl [Hf_src]; · iexact Hf_src
      iexact Hr
    iexists _; iexact HW

/-- And at a point that clears its block first. -/
def finish_clear (hc : clears t) :
    { L : List (View.Piece (Elt F) S1024x1024 .f32) //
      ∀ (Q : Waits sig Unit) (K : PUnit → sProp 𝕄),
        iprop(owns (c : Thread nD τ) a fullShare x ∗ (∃ y, owns (c : Thread nD τ) o fullShare y)
            ∗ Ring.inflight (underWay c W) (Ring.sl 2 t.val) (Ring.bk 120 t.val) ∗ owes (c : Thread nD τ) 0 Q
            ∗ (iprop(owns (c : Thread nD τ) a fullShare x ∗ (∃ f, o.view.loc (c : Thread nD τ) ↦[o.view.set]{fullShare} o.view.writes (Elt F) f L)
                ∗ Ring.kept (cellZero c) (atRest c W) (landed c W) (Ring.sl 2 t.val) (Ring.bk 120 t.val) ∗ (∃ Q', owes (c : Thread nD τ) 0 Q')) -∗ K ⟨⟩))
          ⊢ wp frame (wpE (defs₀ (F := F)) Variants.none c none) Set.univ (finish (grid0.coords t) a o) K } := by
  refine ⟨?_, fun Q K => ?run⟩
  case run =>
    haveI : Fact (clears t) := ⟨hc⟩
    unfold finish
    unfold owns Ring.inflight Ring.kept
    iintro ⟨⟨%f, %hf, Ha⟩, ⟨%y, %g, %hg, Ho⟩, ⟨%h, Hf, Hr⟩, HW, Hk⟩
    obtain rfl := ha.eq_unread hf; obtain rfl := ho.eq_unread hg
    sl_exec (disch := sl_exact hc)
    sl_step
    iapply Hk
    isplitl [Ha]
    · iexists _; isplitr; · ipureintro; exact ha.read_unread _
      iexact Ha
    isplitl [Ho]; · iexists _; iexact Ho
    isplitl [Hf Hf_dst Hf_src Hr]
    · isplitl [Hf]; · iexact Hf
      iexists _; isplitl [Hf_dst]; · iexact Hf_dst
      iapply (halves_split c W (Ring.sl 2 t.val) (Ring.bk 120 t.val)).2; isplitl [Hf_src]; · iexact Hf_src
      iexact Hr
    iexists _; iexact HW

/-- Starting a copy into a slot at rest puts it under way. -/
theorem start (b : Fin 120) (s : Fin 2) (h₁ : (tile b).view.WordExact) (h₂ : (slot s).view.WordExact) (K : PUnit → sProp 𝕄) :
    iprop(Ring.free (cellZero c) (atRest c W) s ∗ (Ring.inflight (underWay c W) s b -∗ K ⟨⟩))
      ⊢ wp frame (wpE (defs₀ (F := F)) Variants.none c none) Set.univ (fetch b s h₁ h₂) K := by
  unfold fetch Ring.free Ring.inflight
  iintro ⟨⟨Hc, ⟨%f, Hs, Hw⟩⟩, Hk⟩
  ihave Hw' := (halves_split c W s b).1 $$ Hw
  icases Hw' with ⟨Hl, Hu⟩
  sl_exec
  sl_step
  iapply Hk
  iexists _; isplitl [Hc]; · iexact Hc
  iexact Hu

/-! ## What a point leaves in its block -/

/-- The block after one more row tile. -/
def upd (acc : FVec F S1024x1024 .f32) (x : FVec F S1024x1024 .bf16) (g : FVec F S1024x1024 .bf16) : FVec F S1024x1024 .f32 :=
  addf acc (matmul dot_S1024x1024_S1024x1024_S1024x1024_0_0_1_1_n_n none x g (constant S1024x1024 .f32 0x00000000#32))

theorem pay2_upd (acc : Vec F S1024x1024 .f32) (x : Vec F S1024x1024 .bf16) (g : Vec F S1x1024x1024 .bf16) :
    k0_pay2 acc x g = upd acc x (shapeCast S1024x1024 g shapeCasts_S1x1024x1024_S1024x1024) := by
  unfold k0_pay2 upd
  simp only [shapeCast_self]

/-- Step `b`'s tile. -/
abbrev tileOf (b : Fin 120) : FVec F S1024x1024 .bf16 := (tile b).view.read (Elt F) (W (tile b).view.ref)

theorem slot_tile (b : Fin 120) (inb) (f) :
    shapeCast S1024x1024 (View.readAt (Elt F) scratch.view (Rect.unit (s := S2x1024x1024) (k0_off81 (grid0.coords t)) S1x1024x1024.size inb).toLoadRect
      (landed c W (Ring.sl 2 t.val) b f)) shapeCasts_S1x1024x1024_S1024x1024
      = tileOf c W b :=
  Cert.Proof.Products.slot_read scratch inb (Cert.Proof.Slots.inb_slot (Ring.sl 2 t.val)) (own_offsets t).2.2 squeezes_S1x1024x1024_S1024x1024 shapeCasts_S1x1024x1024_S1024x1024 f _

theorem add_leaves (hc : ¬clears t) (y : Vec F S1024x1024 .f32) (f) :
    o.view.read (Elt F) (o.view.writes (Elt F) f (finish_add c t a ha o ho x W hc y).1) = upd y x (tileOf c W (Ring.bk 120 t.val)) := by
  rw [View.read_writes_eq_canon _ _ _ (fun z => View.cover_of_tiledL (finish_add c t a ha o ho x W hc y).1 S1024x1024.size (by sl_kernel_rfl) z)]
  unfold finish_add
  dsimp only
  rw [View.canon_unit_zero Cert.Proof.Slots.zero_offset]
  sl_unfold_words
  rw [pay2_upd]
  refine congr (congr (congrArg upd ?_) ?_) ?_
  · simp only [View.readAt_eq_ld, ho.read_unread, View.ld_unit_zero (S := S1024x1024) Cert.Proof.Slots.zero_offset]
  · simp only [View.readAt_eq_ld, ha.read_unread, View.ld_unit_zero (S := S1024x1024) Cert.Proof.Slots.zero_offset]
  · exact slot_tile c t W _ _ _

theorem clear_leaves (hc : clears t) (f) :
    o.view.read (Elt F) (o.view.writes (Elt F) f (finish_clear c t a ha o ho x W hc).1) = upd (k0_pay1 (F := F)) x (tileOf c W (Ring.bk 120 t.val)) := by
  rw [View.read_writes_eq_canon _ _ _ (fun z => View.cover_of_tiledL (finish_clear c t a ha o ho x W hc).1 S1024x1024.size (by sl_kernel_rfl) z)]
  unfold finish_clear
  dsimp only
  sl_unfold_words
  rw [View.canon_cons_unit_zero (S := S1024x1024) Cert.Proof.Slots.zero_offset, View.readCov_unit_zero (S := S1024x1024) _ Cert.Proof.Slots.zero_offset]
  rw [pay2_upd]
  refine congr (congr (congrArg upd ?_) ?_) ?_
  · rfl
  · simp only [View.readAt_eq_ld, ha.read_unread, View.ld_unit_zero (S := S1024x1024) Cert.Proof.Slots.zero_offset]
  · exact slot_tile c t W _ _ _

end Cert.Kernel5Ideal.Win

end
-- ==== Proof.WinWFrame.lean ====
module

public import proofs.«01_k».proof.Proof.WinWRun
public import Idealize.ShloMosaic.Lib.Claim

/-! # The input product's weight gradient: the whole run -/

@[expose] public section

set_option maxRecDepth 16384

noncomputable section

namespace Cert.Kernel5Ideal.Win

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel5Ideal.Gen

variable {F : FTy → Type} [FloatOps F]

local notation "𝕄" => MT nD τ sig Unit (Elt F) ℕ (Pipeline.UD sig nD τ) ℕ

section Step

variable (c : Dev nD) (t : Fin grid0.N) (a : Memref sig .tc .vmem S1024x1024 .bf16) (ha : a.IsWhole)
  (o : Memref sig .tc .vmem S1024x1024 .f32) (ho : o.IsWhole) (x : Vec F S1024x1024 .bf16) (W : (b : Ref sig .tc) → Buf (Elt F) ((c : Thread nD τ).loc b))

include ha ho

omit ha ho in
/-- What a point makes of the block it finds. -/
abbrev made (y : Vec F S1024x1024 .f32) : Vec F S1024x1024 .f32 :=
  upd (if t.val % 8 = 0 then k0_pay1 (F := F) else y) x (tileOf c W (Ring.bk 120 t.val))

/-- The wait and the product, at every point. -/
theorem finish_run {D : Type} (z : D → Vec F S1024x1024 .f32) (y : Vec F S1024x1024 .f32) (hz : ¬t.val % 8 = 0 → ∀ d, z d = y)
    (Q : Waits sig Unit) (K : PUnit → sProp 𝕄) :
    iprop(owns (c : Thread nD τ) a fullShare x ∗ (∃ d, owns (c : Thread nD τ) o fullShare (z d))
        ∗ Ring.inflight (underWay c W) (Ring.sl 2 t.val) (Ring.bk 120 t.val) ∗ owes (c : Thread nD τ) 0 Q
        ∗ (iprop(owns (c : Thread nD τ) a fullShare x ∗ owns (c : Thread nD τ) o fullShare (made c t x W y)
            ∗ Ring.kept (cellZero c) (atRest c W) (landed c W) (Ring.sl 2 t.val) (Ring.bk 120 t.val) ∗ (∃ Q', owes (c : Thread nD τ) 0 Q')) -∗ K ⟨⟩))
      ⊢ wp frame (wpE (defs₀ (F := F)) Variants.none c none) Set.univ (finish (grid0.coords t) a o) K := by
  unfold made
  by_cases h : t.val % 8 = 0
  · rw [if_pos h]
    iintro ⟨Ha, ⟨%d, Ho⟩, Hf, HW, Hk⟩
    iapply ((finish_clear c t a ha o ho x W ((clear_iff t).mpr h)).2 Q K)
    isplitl [Ha]; · iexact Ha
    isplitl [Ho]; · iexists _; iexact Ho
    isplitl [Hf]; · iexact Hf
    isplitl [HW]; · iexact HW
    iintro ⟨Ha, ⟨%f, Ho⟩, Hr, HW⟩
    iapply Hk
    isplitl [Ha]; · iexact Ha
    isplitl [Ho]
    · unfold owns; iexists _; isplitr
      swap; · iexact Ho
      ipureintro; exact clear_leaves c t a ha o ho x W _ f
    isplitl [Hr]; · iexact Hr
    iexact HW
  · rw [if_neg h]
    iintro ⟨Ha, ⟨%d, Ho⟩, Hf, HW, Hk⟩
    rw [hz h d]
    iapply ((finish_add c t a ha o ho x W (fun hc => h ((clear_iff t).mp hc)) y).2 Q K)
    isplitl [Ha]; · iexact Ha
    isplitl [Ho]; · iexact Ho
    isplitl [Hf]; · iexact Hf
    isplitl [HW]; · iexact HW
    iintro ⟨Ha, ⟨%f, Ho⟩, Hr, HW⟩
    iapply Hk
    isplitl [Ha]; · iexact Ha
    isplitl [Ho]
    · unfold owns; iexists _; isplitr
      swap; · iexact Ho
      ipureintro; exact add_leaves c t a ha o ho x W _ y f
    isplitl [Hr]; · iexact Hr
    iexact HW

/-- The body, at every point: it takes the ring one step on and the block one tile on. -/
theorem body_run {D : Type} (z : D → Vec F S1024x1024 .f32) (y : Vec F S1024x1024 .f32) (hz : ¬t.val % 8 = 0 → ∀ d, z d = y)
    (Q : Waits sig Unit) (K : PUnit → sProp 𝕄) :
    iprop(ringAt c W t.val ∗ owns (c : Thread nD τ) a fullShare x ∗ (∃ d, owns (c : Thread nD τ) o fullShare (z d)) ∗ owes (c : Thread nD τ) 0 Q
        ∗ (iprop(ringAt c W (t.val + 1) ∗ owns (c : Thread nD τ) a fullShare x ∗ owns (c : Thread nD τ) o fullShare (made c t x W y)
            ∗ (∃ Q', owes (c : Thread nD τ) 0 Q')) -∗ K ⟨⟩))
      ⊢ wp frame (wpE (defs₀ (F := F)) Variants.none c none) Set.univ (body t a ha o ho) K := by
  have hN : t.val < 120 := lt_of_lt_of_eq t.isLt (show grid0.N = 120 from N_0)
  unfold ringAt
  rw [if_neg (show ¬t.val + 1 = 0 by omega)]
  by_cases h0 : t.val = 0
  · obtain ⟨h₁, h₂, h₃, h₄, e⟩ := body_first (F := F) t h0 a ha o ho
    rw [e, wp_bind, if_pos h0, Ring.At₀_eq2' _ _ _ t.val h0 (by decide : 2 ≤ 120), Ring.AtK2_one' _ _ _ _ _ t.val h0 (by decide : 1 < 120)]
    iintro ⟨⟨-, Hs, Hn⟩, Ha, Ho, HW, Hk⟩
    iapply (start c W (Ring.bk 120 t.val) (Ring.sl 2 t.val) h₁ h₂ _)
    isplitl [Hs]; · iexact Hs
    iintro Hs
    rw [wp_bind]
    iapply (start c W (next t) (Ring.sl 2 (t.val + 1)) h₃ h₄ _)
    isplitl [Hn]; · iexact Hn
    iintro Hn
    iapply (finish_run c t a ha o ho x W z y hz Q K)
    isplitl [Ha]; · iexact Ha
    isplitl [Ho]; · iexact Ho
    isplitl [Hs]; · iexact Hs
    isplitl [HW]; · iexact HW
    iintro ⟨Ha, Ho, Hr, HW⟩
    iapply Hk
    isplitl [Hn Hr]
    · iapply Ring.with_homes₀
      isplitl [Hn]; · iexact Hn
      iexact Hr
    isplitl [Ha]; · iexact Ha
    isplitl [Ho]; · iexact Ho
    iexact HW
  · rw [if_neg h0]
    by_cases hn : t.val + 1 < 120
    · obtain ⟨h₁, h₂, e⟩ := body_next (F := F) t h0 hn a ha o ho
      rw [e, wp_bind, Ring.AtK2_here _ _ _ _ _ t.val (by omega) hn, Ring.AtK2_next _ _ _ _ _ t.val (by omega) hn]
      iintro ⟨⟨-, Hs, Hn⟩, Ha, Ho, HW, Hk⟩
      iapply (start c W (next t) (Ring.sl 2 (t.val + 1)) h₁ h₂ _)
      isplitl [Hn]; · iapply (Ring.free_of_kept _ _ _ _ _); iexact Hn
      iintro Hn
      iapply (finish_run c t a ha o ho x W z y hz Q K)
      isplitl [Ha]; · iexact Ha
      isplitl [Ho]; · iexact Ho
      isplitl [Hs]; · iexact Hs
      isplitl [HW]; · iexact HW
      iintro ⟨Ha, Ho, Hr, HW⟩
      iapply Hk
      isplitl [Hn Hr]
      · iapply (Ring.with_homes (Idealize.SL.BI.Entails.refl _))
        isplitl [Hn]; · iexact Hn
        iexact Hr
      isplitl [Ha]; · iexact Ha
      isplitl [Ho]; · iexact Ho
      iexact HW
    · rw [body_last (F := F) t h0 hn a ha o ho, Ring.AtK2_here_last _ _ _ _ _ t.val (by omega) (by omega),
        Ring.AtK2_next_last _ _ _ _ _ t.val (by omega) (by omega)]
      iintro ⟨⟨-, Hs, Hn⟩, Ha, Ho, HW, Hk⟩
      iapply (finish_run c t a ha o ho x W z y hz Q K)
      isplitl [Ha]; · iexact Ha
      isplitl [Ho]; · iexact Ho
      isplitl [Hs]; · iexact Hs
      isplitl [HW]; · iexact HW
      iintro ⟨Ha, Ho, Hr, HW⟩
      iapply Hk
      isplitl [Hn Hr]
      · iapply (Ring.with_homes (Idealize.SL.BI.Entails.refl _))
        isplitl [Hn]; · iexact Hn
        iexact Hr
      isplitl [Ha]; · iexact Ha
      isplitl [Ho]; · iexact Ho
      iexact HW

end Step

variable (m : (ℓ : Loc nD τ sig) → Buf (Elt F) ℓ) (ρ : Dev nD → PrngReg)

/-- The output block after point `n`. -/
def outs (c : Dev nD) : (n : ℕ) → n < cfg0.N → Vec F S1024x1024 .f32
  | 0, h => made c ⟨0, h⟩ (iblk m c 0 ⟨0, h⟩) (V m c) (k0_pay1 (F := F))
  | n + 1, h => made c ⟨n + 1, h⟩ (iblk m c 0 ⟨n + 1, h⟩) (V m c) (outs c n (Nat.lt_of_succ_lt h))

theorem outs_eq (c : Dev nD) (t : Fin cfg0.N) :
    outs m c t.val t.isLt = made c t (iblk m c 0 t) (V m c) (outs m c (t.val - 1) (Nat.lt_of_le_of_lt (Nat.sub_le _ _) t.isLt)) := by
  obtain ⟨n, hn⟩ := t
  cases n with
  | zero => unfold outs made; simp only [Nat.zero_mod, if_true]
  | succ n => rfl

/-- What the region keeps before point `k`: the generator's register and the ring. -/
def kept (c : Dev nD) (k : ℕ) : sProp 𝕄 := iprop((∃ r, prngReg c r) ∗ ringAt c (V m c) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outs m c t.val t.isLt
  Φ t := kept m c t.val
  q _ := fullShare
  owed _ := 0

theorem A_eq (c : Dev nD) (w : Fin cfg0.W) : (dats m 0 c).A w = V m c (Pipeline.arrRef spec0 w) := by
  dsimp only [dats]

theorem kept_before (c : Dev nD) (t : Fin cfg0.N) : (dats m 0 c).Φ t.castSucc = kept m c t.val := by
  dsimp only [dats]; simp only [Fin.coe_castSucc]
theorem kept_after (c : Dev nD) (t : Fin cfg0.N) : (dats m 0 c).Φ t.succ = kept m c (t.val + 1) := by
  dsimp only [dats]; simp only [Fin.val_succ]
theorem after_in (c : Dev nD) (t : Fin cfg0.N) : (dats m 0 c).after 0 t = iblk m c 0 t := by dsimp only [dats]
theorem after_out (c : Dev nD) (t : Fin cfg0.N) : (dats m 0 c).after 1 t = outs m c t.val t.isLt := by dsimp only [dats]
theorem before_in (c : Dev nD) (t : Fin cfg0.N) (d) : (dats m 0 c).before 0 t d = iblk m c 0 t :=
  before_rows m (dats m 0 c) (A_eq m c 0) (after_in m c) t d

/-- Within a column tile the block is the one the point before left. -/
theorem before_out (c : Dev nD) (t : Fin cfg0.N) (h : ¬t.val % 8 = 0) (d) :
    (dats m 0 c).before 1 t d = outs m c (t.val - 1) (Nat.lt_of_le_of_lt (Nat.sub_le _ _) t.isLt) := by
  have hN : t.val < 120 := lt_of_lt_of_eq t.isLt (show cfg0.N = 120 from N_0)
  rw [Dat.before_out_kept _ 1 rfl t (by omega) (Bool.eq_false_iff.mpr fun h => by have := (flush0_1 _).mp h; dsimp only at this; omega)
    (fun _ => rfl) (fun _ _ => rfl)]
  dsimp only [dats]

/-- The staging buffers at point `t`. -/
abbrev inAt (t : Fin cfg0.N) : Memref sig .tc .vmem S1024x1024 .bf16 := win0_0.stage (cfg0.slots t 0)
abbrev outAt (t : Fin cfg0.N) : Memref sig .tc .vmem S1024x1024 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (inAt t) fullShare ((dats m 0 c).before 0 t d))
    ∗ (∃ d, owns (c : Thread nD τ) (outAt t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (inAt t) fullShare ((dats m 0 c).after 0 t)
    ∗ owns (c : Thread nD τ) (outAt t) fullShare ((dats m 0 c).after 1 t))

theorem body_text (t : Fin cfg0.N) : (bodyAt0 t : Prog (TpuEff nD τ sig (Elt F) Λ₀ .tc) PUnit)
    = body t (inAt t) (hstage0_0 ((cfg0.slots t 0).cast nbuf0_0)) (outAt t) (hstage0_1 ((cfg0.slots t 1).cast nbuf0_1)) := rfl

theorem sound_body (c : Dev nD) (t : Fin cfg0.N) :
    bodyPre m c t ⊢ wp frame (wpE (defs₀ (F := F)) Variants.none c none) Set.univ (bodyAt0 t) (fun _ => bodyPost m c t) := by
  rw [body_text]
  unfold bodyPre bodyPost
  simp only [before_in]
  rw [after_in, after_out, kept_before, kept_after, outs_eq]
  unfold Dat.owesAt Pipeline.owesWithin
  rw [show (dats m 0 c).owed t.castSucc = 0 from rfl, show (dats m 0 c).owed t.succ = 0 from rfl]
  unfold kept
  iintro ⟨⟨Hg, Hr⟩, ⟨%Q, -, HW⟩, ⟨%d, Ha⟩, Ho⟩
  iapply (body_run c t _ _ _ _ (iblk m c 0 t) (V m c) _ _ (before_out m c t) Q _)
  isplitl [Hr]; · iexact Hr
  isplitl [Ha]; · iexact Ha
  isplitl [Ho]; · iexact Ho
  isplitl [HW]; · iexact HW
  iintro ⟨Hr, Ha, Ho, ⟨%Q', HW⟩⟩
  isplitl [Hg Hr]
  · isplitl [Hg]; · iexact Hg
    iexact Hr
  isplitl [HW]
  · iexists Q'; isplitr; · ipureintro; exact fun _ _ => Or.inl trivial
    iexact HW
  isplitl [Ha]; · iexact Ha
  iexact Ho

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : Pipeline.ΦD counters spec0 arrays (V m) c ⊢ (dats m 0 c).Φ 0 := by
  rw [owned_eq, show (dats m 0 c).Φ 0 = kept m c 0 from rfl]
  unfold kept
  iintro ⟨Hs, Hg, Hc, Hw⟩
  isplitl [Hg]; · iexact Hg
  iapply (ring_in (F := F) m c)
  isplitl [Hs]; · iexact Hs
  isplitl [Hc]; · iexact Hc
  iexact Hw

theorem leave (c : Dev nD) : (dats m 0 c).Φ (Fin.last cfg0.N) ⊢ Pipeline.ΦD counters spec0 arrays (V m) c := by
  rw [owned_eq, show (dats m 0 c).Φ (Fin.last cfg0.N) = kept m c grid0.N from rfl]
  unfold kept
  rw [show grid0.N = 120 by rw [N_0]]
  iintro ⟨Hg, Hr⟩
  ihave H := (ring_out (F := F) m c) $$ Hr
  icases H with ⟨Hs, Hc, Hw⟩
  isplitl [Hs]; · iexact Hs
  isplitl [Hg]; · iexact Hg
  isplitl [Hc]; · iexact Hc
  iexact Hw

set_option backward.isDefEq.respectTransparency.types false in
/-- Every run ends with the output as the blocks say, every other array as the kernel found it, and all counters at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 counters defs₀ Variants.none counterFacts arrays arrays_sub m ρ main
    (hbody := fun c => (body_obligation m c).loose) (hshare := fun c => (dats m 0 c).share_full fun _ => rfl)
    (howed := fun _ _ => rfl) (V := V m) (hmain := hmain m Variants.none) (hA := A_eq m)
    (hin := enter m) (hout := leave m)

/-- The arguments of core `c` are in `s` as they were given. -/
abbrev Kept (s : MemSt nD τ sig (Elt F)) (c : Dev nD) : Prop :=
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)

/-- An argument is left as it was given. -/
theorem arg_kept {r : PUnit × MemSt nD τ sig (Elt F)} (h : Pipeline.FramePost cfgs (dats m) 0 (V m) r) (c : Dev nD) (a : Ref sig .tc)
    (ha : a ∈ Pipeline.restRefs sig spec0) (hw : ∀ x ∈ written, a ≠ x) : r.2.mem ((c.tc : Thread nD τ).loc a) = m ((c.tc : Thread nD τ).loc a) :=
  ((h c).2 a ha).trans (V_unwritten m c a hw)

/-- Every run leaves the arguments as they were. -/
theorem arguments : θ_run defs (onTc (τ := τ) (main (F := F))) ⟨m, fun _ => 0, ρ⟩ (fun r => ∀ c : Dev nD, Kept m r.2 c) :=
  (θ_run defs _ _).mono (fun _ h c => by
    refine ⟨?_, ?_, ?_, ?_, ?_, ?_, ?_, ?_, ?_, ?_, ?_, ?_, ?_, ?_⟩
    all_goals exact arg_kept m h.1 c _ (Pipeline.mem_restRefs_of _ (by decide) (by decide)) (by decide)) (run m ρ)

/-- Every run ends, the arguments as they were and all counters at zero. -/
theorem frame : θ_run defs (onTc (τ := τ) (main (F := F))) ⟨m, fun _ => 0, ρ⟩ (fun r => (∀ c : Dev nD, Kept m r.2 c)
      ∧ r.2.sem = fun _ => 0) :=
  θ_run_and (arguments m ρ) ((θ_run defs _ _).mono (fun _ h => h.2) (run m ρ))

end Cert.Kernel5Ideal.Win

end
-- ==== Proof.WinWVal.lean ====
module

public import proofs.«01_k».proof.Proof.WinWFrame
public import proofs.«01_k».proof.Proof.WinVal
public import proofs.«01_k».proof.Defs
public import Idealize.ShloMosaic.Lib.Claim
public import proofs.«01_k».proof.Proof.Gen.Reference5Ideal.Run
public import Idealize.ShloMosaic.Lib.Pipeline.ValueKit
public import Idealize.ShloMosaic.Lib.Pointwise
public import Idealize.ShloMosaic.Lib.ValueIdx
public import Idealize.ShloMosaic.Lib.KernelVsHost

/-! # The input product's weight gradient: what the run computes

A column tile of the result is the sum, over the eight row tiles, of the activations' tile with that of the thirteen
cotangents laid side by side: the whole product's sum, taken 1024 terms at a time. -/

@[expose] public section

set_option maxRecDepth 16384

noncomputable section

open Idealize.ShloMosaic Idealize.ShloMosaic.TcCoe Idealize.SL.Sem
open Idealize.ShloMosaic.Pipeline (Dat)

namespace Cert.Kernel5Ideal.Win

open Cert.Kernel5Ideal Cert.Kernel5Ideal.Gen Cert.Proof.Products
open Cert.Kernel4Ideal.Win (cases13)
open Cert.Kernel4Ideal.Win (shapes beside opens widths)

variable (m : (ℓ : Loc nD τ sig) → Buf (Elt Ideal) ℓ)

theorem upd_apply (acc : FVec Ideal S1024x1024 .f32) (x g : FVec Ideal S1024x1024 .bf16) (r s : Fin 1024) :
    upd acc x g (ix2 r s) = acc (ix2 r s) + ∑ k : Fin 1024, x (ix2 k r) * g (ix2 k s) := by
  unfold upd
  rw [matmul_zero_eq_dotGeneral]
  pointwise

/-- The activations. -/
abbrev vA (c : Dev nD) : S8192x1024.Idx → EReal := m ((c : Thread nD τ).loc main_arg0)

/-- The thirteen cotangents. -/
abbrev cots (c : Dev nD) : List ((s : Shape) × (s.Idx → EReal)) :=
  [⟨S8192x1024, (m ((c : Thread nD τ).loc main_arg1) : S8192x1024.Idx → EReal)⟩, ⟨S8192x1024, (m ((c : Thread nD τ).loc main_arg2) : S8192x1024.Idx → EReal)⟩, ⟨S8192x2048, (m ((c : Thread nD τ).loc main_arg3) : S8192x2048.Idx → EReal)⟩, ⟨S8192x2048, (m ((c : Thread nD τ).loc main_arg4) : S8192x2048.Idx → EReal)⟩, ⟨S8192x1024, (m ((c : Thread nD τ).loc main_arg5) : S8192x1024.Idx → EReal)⟩, ⟨S8192x1024, (m ((c : Thread nD τ).loc main_arg6) : S8192x1024.Idx → EReal)⟩, ⟨S8192x1024, (m ((c : Thread nD τ).loc main_arg7) : S8192x1024.Idx → EReal)⟩, ⟨S8192x1024, (m ((c : Thread nD τ).loc main_arg8) : S8192x1024.Idx → EReal)⟩, ⟨S8192x1024, (m ((c : Thread nD τ).loc main_arg9) : S8192x1024.Idx → EReal)⟩, ⟨S8192x1024, (m ((c : Thread nD τ).loc main_arg10) : S8192x1024.Idx → EReal)⟩, ⟨S8192x1024, (m ((c : Thread nD τ).loc main_arg11) : S8192x1024.Idx → EReal)⟩, ⟨S8192x1024, (m ((c : Thread nD τ).loc main_arg12) : S8192x1024.Idx → EReal)⟩, ⟨S8192x1024, (m ((c : Thread nD τ).loc main_arg13) : S8192x1024.Idx → EReal)⟩]

/-- The cotangents side by side. -/
def vG (c : Dev nD) : (Mat 8192 15360).Idx → EReal := concatenate (Mat 8192 15360) 1 (cots m c) beside

theorem before_cots (c : Dev nD) (g : Fin 13) : before (cots m c) g.val 8192 15360 = 1024 * opens g := by
  unfold before
  rw [List.map_take]
  exact widths g

theorem place_narrow : ∀ b : Fin 120, arrayAt b ≠ 2 ∧ arrayAt b ≠ 3 → b.val / 8 = opens (arrayAt b) := by decide
theorem place_wide : ∀ b : Fin 120, arrayAt b = 2 ∨ arrayAt b = 3 → b.val / 8 = opens (arrayAt b) + b.val / 8 % 2 := by decide

/-- A row and a column of the whole by their tile and their place there. -/
def row (i : ℕ) (r : Fin 1024) : Fin 8192 := ⟨1024 * (i % 8) + r.val, by omega⟩
def col (j : ℕ) (k : Fin 1024) : Fin 15360 := ⟨1024 * (j % 15) + k.val, by omega⟩

theorem narrow_entry (c : Dev nD) (b : Fin 120) (r k : Fin 1024) (g : Fin 13) (h : arrayAt b = g) (hn : g ≠ 2 ∧ g ≠ 3) (x : (Mat 8192 1024).Idx → EReal)
    (hx : (cots m c)[g.val]'(g.isLt) = ⟨Mat 8192 1024, x⟩) (y : (Mat 8192 1024).Idx)
    (h0 : (y 0).val = 1024 * (b.val % 8) + 1 * r.val) (h1 : (y 1).val = 0 + 1 * k.val) :
    x y = vG m c (ix2 (row b.val r) (col (b.val / 8) k)) := by
  have hb := b.isLt
  have hs := place_narrow b (h ▸ hn)
  rw [h] at hs
  refine Eq.trans (congrArg x ?_) (beside_apply (cots m c) beside g.val g.isLt x hx _ (before_cots m c g) (row b.val r) k (col (b.val / 8) k)
    (by show _ = 1024 * (b.val / 8 % 15) + k.val; rw [hs, Nat.mod_eq_of_lt (show opens g < 15 by rw [← hs]; omega)])).symm
  funext a
  apply Fin.ext
  match a with
  | ⟨0, _⟩ => exact h0.trans (show _ = 1024 * (b.val % 8) + r.val by omega)
  | ⟨1, _⟩ => exact h1.trans (show _ = k.val by omega)

theorem wide_entry (c : Dev nD) (b : Fin 120) (r k : Fin 1024) (g : Fin 13) (h : arrayAt b = g) (hn : g = 2 ∨ g = 3) (x : (Mat 8192 2048).Idx → EReal)
    (hx : (cots m c)[g.val]'(g.isLt) = ⟨Mat 8192 2048, x⟩) (y : (Mat 8192 2048).Idx)
    (h0 : (y 0).val = 1024 * (b.val % 8) + 1 * r.val) (h1 : (y 1).val = 1024 * (b.val / 8 % 2) + 1 * k.val) :
    x y = vG m c (ix2 (row b.val r) (col (b.val / 8) k)) := by
  have hb := b.isLt
  have hs := place_wide b (h ▸ hn)
  rw [h] at hs
  refine Eq.trans (congrArg x ?_) (beside_apply (cots m c) beside g.val g.isLt x hx _ (before_cots m c g) (row b.val r) (⟨1024 * (b.val / 8 % 2) + k.val, by omega⟩ : Fin 2048) (col (b.val / 8) k)
    (by show _ + (1024 * (b.val / 8 % 2) + k.val) = 1024 * (b.val / 8 % 15) + k.val; omega)).symm
  funext a
  apply Fin.ext
  match a with
  | ⟨0, _⟩ => exact h0.trans (show _ = 1024 * (b.val % 8) + r.val by omega)
  | ⟨1, _⟩ => exact h1.trans (show _ = 1024 * (b.val / 8 % 2) + k.val by omega)

theorem entry_a (c : Dev nD) : V m c main_v0 = (vA m c : S8192x1024.Idx → EReal) := by
  unfold V hostOps0
  after_results
  rfl

/-- The two tiles of a point. -/
abbrev gB (c : Dev nD) (b : Fin 120) : S1024x1024.Idx → EReal := tileOf c (V m c) b
abbrev aB (c : Dev nD) (t : Fin cfg0.N) : S1024x1024.Idx → EReal := iblk m c 0 t

set_option maxHeartbeats 1000000 in
/-- A step's tile is a tile of the whole. -/
theorem tile_apply (c : Dev nD) (b : Fin 120) (r k : Fin 1024) : gB m c b (ix2 r k) = vG m c (ix2 (row b.val r) (col (b.val / 8) k)) := by
  suffices H : ∀ g, arrayAt b = g → ((tileIn g b).view.read (Elt Ideal) (V m c (tileIn g b).view.ref) : S1024x1024.Idx → EReal) (ix2 r k) = vG m c (ix2 (row b.val r) (col (b.val / 8) k)) from H _ rfl
  intro g h
  rcases cases13 g with e | e | e | e | e | e | e | e | e | e | e | e | e
  all_goals subst e
  all_goals
    unfold tileIn narrow V hostOps0
    after_results
    first
    | exact narrow_entry m c b r k _ h (by decide) _ rfl _ rfl rfl
    | exact wide_entry m c b r k _ h (by decide) _ rfl _ rfl rfl

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = t.val / 8 :=
  (by decide +kernel : ∀ t : Fin grid0.N, win0_1.index t 0 = 0 ∧ win0_1.index t 1 = t.val / 8)

theorem lt120 (t : Fin cfg0.N) : t.val < 120 := Nat.lt_of_lt_of_eq t.isLt N_0

theorem iblk_apply (c : Dev nD) (t : Fin cfg0.N) (k r : Fin 1024) : aB m c t (ix2 k r) = vA m c (ix2 (row t.val k) r) := by
  show V m c main_v0 (((cfg0.win 0).blk t).view.emb (ix2 k r)) = _
  rw [entry_a]
  refine congrArg (vA m c) (funext fun a => Fin.ext ?_)
  refine (win0_0.rect_emb_val t (ix2 k r) a).trans ?_
  match a with
  | ⟨0, _⟩ => show win0_0.index t 0 * 1024 + k.val = 1024 * (t.val % 8) + k.val; rw [(idx0 t).1]; omega
  | ⟨1, _⟩ => show win0_0.index t 1 * 1024 + r.val = r.val; rw [(idx0 t).2]; omega

/-- One row's term of an entry of the result. -/
def term (A : S8192x1024.Idx → EReal) (G : (Mat 8192 15360).Idx → EReal) (r : Fin 1024) (s : Fin 15360) (q : ℕ) : EReal :=
  if h : q < 8192 then A (ix2 ⟨q, h⟩ r) * G (ix2 ⟨q, h⟩ s) else 0

theorem term_fin (A : S8192x1024.Idx → EReal) (G : (Mat 8192 15360).Idx → EReal) (r : Fin 1024) (s : Fin 15360) (q : Fin 8192) :
    term A G r s q.val = A (ix2 q r) * G (ix2 q s) := dif_pos q.isLt

/-- The result: every row's term summed. -/
def total (A : S8192x1024.Idx → EReal) (G : (Mat 8192 15360).Idx → EReal) : S1024x15360.Idx → EReal :=
  fun i => ∑ q ∈ Finset.range 8192, term A G (i 0) (i 1) q

theorem tile_term (c : Dev nD) (t : Fin cfg0.N) (r s : Fin 1024) :
    ∑ k : Fin 1024, aB m c t (ix2 k r) * gB m c (Ring.bk 120 t.val) (ix2 k s)
      = ∑ k : Fin 1024, term (vA m c) (vG m c) r (col (t.val / 8) s) (1024 * (t.val % 8) + k.val) := by
  refine Finset.sum_congr rfl fun k _ => ?_
  rw [iblk_apply, tile_apply, show (Ring.bk 120 t.val).val = t.val from Nat.mod_eq_of_lt (lt120 t)]
  exact (term_fin (vA m c) (vG m c) r (col (t.val / 8) s) (row t.val k)).symm

/-- After each point: the sum over the rows so far. -/
theorem outs_sum (c : Dev nD) : ∀ (n : ℕ) (h : n < cfg0.N) (r s : Fin 1024),
    (outs m c n h : S1024x1024.Idx → EReal) (ix2 r s)
      = ∑ q ∈ Finset.range (1024 * (n % 8) + 1024), term (vA m c) (vG m c) r (col (n / 8) s) q
  | n, h, r, s => by
    rw [show outs m c n h = _ from outs_eq m c ⟨n, h⟩]
    unfold made
    rw [upd_apply, tile_term m c ⟨n, h⟩, sum_block rfl]
    congr 1
    by_cases h4 : n % 8 = 0
    · rw [if_pos h4, h4]
      show k0_pay1 (F := Ideal) (ix2 r s) = 0
      exact Ideal.ofBits_zero_f32
    · rw [if_neg h4]
      have h1 : 1 ≤ n := by omega
      rw [show outs m c ((⟨n, h⟩ : Fin cfg0.N).val - 1) _ (ix2 r s) = _ from outs_sum c (n - 1) (by omega) r s]
      rw [show (n - 1) / 8 = n / 8 by omega]
      congr 2
      omega

theorem arr (c : Dev nD) : (dats m 0 c).arrAt 1 cfg0.N = total (vA m c) (vG m c) := by
  refine (dats m 0 c).arrAt_eq_of_covers 1 (total (vA m c) (vG m c)) (by decide +kernel) fun t hf y => ?_
  have ht := lt120 t
  have h7 := (flush0_1 t).mp hf
  show (dats m 0 c).after 1 t y = _
  rw [after_out]
  refine ((congrArg (outs m c t.val t.isLt) (eq_ix2 y)).trans (outs_sum m c t.val t.isLt (y 0) (y 1))).trans ?_
  rw [h7]
  have e0 : (((cfg0.win 1).blk t).view.emb y) 0 = y 0 := by
    apply Fin.ext; refine (win0_1.rect_emb_val t y 0).trans ?_; rw [(idx1 t).1]; show 0 * 1024 + (y 0).val = (y 0).val; omega
  have e1 : (((cfg0.win 1).blk t).view.emb y) 1 = col (t.val / 8) (y 1) := by
    apply Fin.ext; refine (win0_1.rect_emb_val t y 1).trans ?_; rw [(idx1 t).2]
    show t.val / 8 * 1024 + (y 1).val = 1024 * (t.val / 8 % 15) + (y 1).val; omega
  unfold total
  rw [e0, e1]

/-- The reference's product, entry by entry. -/
theorem reference_total (A : S8192x1024.Idx → EReal) (G : (Mat 8192 15360).Idx → EReal) (h) :
    transpose S1024x15360 [1, 0] (Host.dotGeneral (F := Ideal) (φ₁ := .f32) (φ₂ := .f32) Cert.Reference5Ideal.dot_S8192x15360_S8192x1024_S15360x1024_0_0_1_1_n_n none G A)
      h = total A G := by
  funext i
  pointwise
  unfold total
  rw [Finset.sum_range]
  refine Finset.sum_congr rfl fun q _ => ?_
  exact (mul_comm _ _).trans (term_fin A G (i 0) (i 1) q).symm

end Cert.Kernel5Ideal.Win

namespace Cert.Proof.Products

open Cert.Kernel5Ideal.Win

theorem win_weights : Cert.algebraic_Kernel5Ideal_Reference5Ideal := by
  intro m g m' g' _ hm
  refine ⟨fun c => total (vA m c) (vG m c),
    (θ_run Cert.Kernel5Ideal.defs _ _).mono (fun r h c => ⟨((h.1.1 c).1 1).trans (arr m c), h.2 c⟩)
      (θ_run_and (Cert.Kernel5Ideal.Win.run m g) (arguments m g)),
    (θ_run Cert.Reference5Ideal.defs _ _).mono (fun r h c => ⟨(h c).1.trans ?_, (h c).2⟩) (Cert.Reference5Ideal.Value.run m' g')⟩
  obtain ⟨e0, e1, e2, e3, e4, e5, e6, e7, e8, e9, e10, e11, e12, e13⟩ := hm c
  rw [e0, e1, e2, e3, e4, e5, e6, e7, e8, e9, e10, e11, e12, e13]
  exact reference_total (vA m c) (vG m c) _

end Cert.Proof.Products

end
-- ==== Proof.Sums.lean ====
/-
  What the products with one output gradient share: the two gradients as plain sums, and a sum gathered block by block over
  the points of a grid.
-/
module

public import proofs.«01_k».proof.Proof.Products
public import proofs.«01_k».proof.Proof.Concat
public import Idealize.ShloMosaic.Lib.Pointwise
public import Idealize.ShloMosaic.Lib.ValueIdx

@[expose] public section

noncomputable section

namespace Cert.Proof.Products

open Idealize.ShloMosaic

/-- A product's input gradient: row against row. -/
def inputs {n k l : ℕ} (W : (Mat k l).Idx → EReal) (G : (Mat n l).Idx → EReal) : (Mat n k).Idx → EReal :=
  fun i => ∑ q : Fin l, G (ix2 (i 0) q) * W (ix2 (i 1) q)

/-- A product's weight gradient: column against column. -/
def weights {n k l : ℕ} (A : (Mat n k).Idx → EReal) (G : (Mat n l).Idx → EReal) : (Mat k l).Idx → EReal :=
  fun i => ∑ q : Fin n, A (ix2 q (i 0)) * G (ix2 q (i 1))

/-- A family of terms, continued by zero. -/
def part {n : ℕ} (f : Fin n → EReal) (q : ℕ) : EReal := if h : q < n then f ⟨q, h⟩ else 0

theorem part_fin {n : ℕ} (f : Fin n → EReal) (q : Fin n) : part f q.val = f q := dif_pos q.isLt

theorem part_sum {n : ℕ} (f : Fin n → EReal) : ∑ q ∈ Finset.range n, part f q = ∑ q : Fin n, f q := by
  rw [Finset.sum_range]
  exact Finset.sum_congr rfl fun q _ => part_fin f q

/-- A value cleared every `p` points, to which each point adds a block of `b` terms, is the sum of the terms so far. -/
theorem accumulate {N p b : ℕ} (o : (n : ℕ) → n < N → EReal) (f : ℕ → ℕ → EReal)
    (step : ∀ n (h : n < N), o n h = (if n % p = 0 then 0 else o (n - 1) (Nat.lt_of_le_of_lt (Nat.sub_le _ _) h)) + ∑ k : Fin b, f (n / p) (b * (n % p) + k.val)) :
    ∀ n (h : n < N), o n h = ∑ q ∈ Finset.range (b * (n % p) + b), f (n / p) q := by
  intro n
  induction n with
  | zero =>
    intro h
    rw [step 0 h, sum_block rfl, if_pos (Nat.zero_mod p), Nat.zero_mod]
    rfl
  | succ n ih =>
    intro h
    rw [step (n + 1) h, sum_block rfl]
    congr 1
    by_cases hp : (n + 1) % p = 0
    · rw [if_pos hp, hp]
      rfl
    · have h1 : (n + 1) / p = n / p := Nat.succ_div_of_not_dvd fun d => hp (Nat.mod_eq_zero_of_dvd d)
      have h2 : (n + 1) % p = n % p + 1 := by
        have a := Nat.div_add_mod n p
        have c := Nat.div_add_mod (n + 1) p
        rw [h1] at c
        omega
      rw [if_neg hp, show o (n + 1 - 1) _ = _ from ih _, h1, h2, Nat.mul_succ]

end Cert.Proof.Products
-- ==== Proof.Ff1D.lean ====
/-
  The input gradient of the first feed-forward product: each row tile is gathered over four column tiles.
-/
module

public import proofs.«01_k».proof.Proof.Slots
public import proofs.«01_k».proof.Proof.Gen.Kernel6Ideal.Value
public import proofs.«01_k».proof.Proof.Sums
public import proofs.«01_k».proof.Defs
public import Idealize.ShloMosaic.Lib.Claim
public import proofs.«01_k».proof.Proof.Gen.Reference6Ideal.Run
public import Idealize.ShloMosaic.Lib.Pipeline.ValueKit
public import Idealize.ShloMosaic.Lib.KernelVsHost

@[expose] public section

noncomputable section

open Idealize.ShloMosaic Idealize.ShloMosaic.TcCoe Idealize.SL.Sem
open Idealize.ShloMosaic.Pipeline (Dat)

namespace Cert.Kernel6Ideal.Sum

open Cert.Kernel6Ideal Cert.Kernel6Ideal.Gen Cert.Proof.Products

theorem slot : ∀ t : Fin grid0.N, k0_off9 (grid0.coords t) = ![(Ring.sl 2 t.val).val, 0, 0] := by decide +kernel

section Body

variable {F : FTy → Type} [FloatOps F] (c : Dev nD) (t : Fin cfg0.N) (fh : HbBuf0 (F := F) c hbM0_0)

/-- The tile of the output gradient that grid point `t` waits for. -/
abbrev gTile : FVec F S1024x1024 .bf16 := (srcB0_0 (Ring.bk 32 t.val)).view.read (Elt F) fh

/-- The accumulator after one more column tile. -/
def more (acc : FVec F S1024x1024 .f32) (g : FVec F S1024x1024 .bf16) (w : FVec F S1024x1024 .bf16) : FVec F S1024x1024 .f32 :=
  addf acc (matmul dot_S1024x1024_S1024x1024_S1024x1024_1_1_0_0_n_n none g w (constant S1024x1024 .f32 0x00000000#32))

theorem pay2_more (acc : Vec F S1024x1024 .f32) (v : Vec F S1x1024x1024 .bf16) (w : Vec F S1024x1024 .bf16) :
    k0_pay2 acc v w = more acc (shapeCast S1024x1024 v shapeCasts_S1x1024x1024_S1024x1024) w := by
  unfold k0_pay2 more
  simp only [shapeCast_self]

variable (a2 : Memref sig .tc .vmem S1024x1024 .bf16) (h2 : a2.IsWhole) (a4 : Memref sig .tc .vmem S1024x1024 .f32) (h4 : a4.IsWhole)
  (w : Vec F S1024x1024 .bf16)

include h2 in
/-- What one more column tile makes, from what the body reads. -/
theorem more_reads (acc acc' : FVec F S1024x1024 .f32) (h : acc = acc') (inb inb' f) :
    k0_pay2 acc (View.readAt (Elt F) scM0_0.view (Rect.unit (s := S2x1024x1024) (k0_off9 (grid0.coords t)) S1x1024x1024.size inb).toLoadRect
        ((rslot0_0 (Ring.sl 2 t.val)).view.writes (Elt F) f [⟨Rect.whole S1024x1024, ReadAs.same.apply (gTile c t fh)⟩]))
      (View.readAt (Elt F) a2.view (Rect.unit (s := S1024x1024) ![0, 0] S1024x1024.size inb').toLoadRect (h2.unread w)) = more acc' (gTile c t fh) w := by
  rw [pay2_more, h]
  refine congr (congrArg (more acc') ?_) ?_
  · exact slot_read scM0_0 inb (inb_slot0_0 (Ring.sl 2 t.val)) (slot t) squeezes_S1x1024x1024_S1024x1024 shapeCasts_S1x1024x1024_S1024x1024 f _
  · simp only [View.readAt_eq_ld, h2.read_unread, View.ld_unit_zero (S := S1024x1024) Cert.Proof.Slots.zero_offset]

theorem out_A (c0 : cond0_0 (grid0.coords t)) (c1 : cond0_1 (grid0.coords t)) (c2 : cond0_2 (grid0.coords t)) (c3 : cond0_3 (grid0.coords t)) (c4 : cond0_4 (grid0.coords t)) :
    out0_A_1 c t a2 h2 a4 h4 c0 c1 c2 c3 c4 w fh = more (k0_pay1 (F := F)) (gTile c t fh) w := by
  unfold out0_A_1
  rw [View.read_writes_eq_canon _ _ _ (cover0_A_1 c t a2 h2 a4 h4 c0 c1 c2 c3 c4 w fh)]
  unfold kernelRun0_A
  dsimp only
  sl_unfold_words
  rw [View.canon_cons_unit_zero (S := S1024x1024) Cert.Proof.Slots.zero_offset, View.readCov_unit_zero (S := S1024x1024) _ Cert.Proof.Slots.zero_offset]
  exact more_reads c t fh a2 h2 w _ _ rfl _ _ _

theorem out_C (c0 : ¬cond0_0 (grid0.coords t)) (c2 : cond0_2 (grid0.coords t)) (c3 : cond0_3 (grid0.coords t)) (c4 : cond0_4 (grid0.coords t)) :
    out0_C_1 c t a2 h2 a4 h4 c0 c2 c3 c4 w fh = more (k0_pay1 (F := F)) (gTile c t fh) w := by
  unfold out0_C_1
  rw [View.read_writes_eq_canon _ _ _ (cover0_C_1 c t a2 h2 a4 h4 c0 c2 c3 c4 w fh)]
  unfold kernelRun0_C
  dsimp only
  sl_unfold_words
  rw [View.canon_cons_unit_zero (S := S1024x1024) Cert.Proof.Slots.zero_offset, View.readCov_unit_zero (S := S1024x1024) _ Cert.Proof.Slots.zero_offset]
  exact more_reads c t fh a2 h2 w _ _ rfl _ _ _

variable (xo : Vec F S1024x1024 .f32)

theorem out_B (c0 : ¬cond0_0 (grid0.coords t)) (c2 : cond0_2 (grid0.coords t)) (c3 : cond0_3 (grid0.coords t)) (c4 : ¬cond0_4 (grid0.coords t)) :
    out0_B_1 c t a2 h2 a4 h4 c0 c2 c3 c4 w xo fh = more xo (gTile c t fh) w := by
  unfold out0_B_1
  rw [View.read_writes_eq_canon _ _ _ (cover0_B_1 c t a2 h2 a4 h4 c0 c2 c3 c4 w xo fh)]
  unfold kernelRun0_B
  dsimp only
  rw [View.canon_unit_zero Cert.Proof.Slots.zero_offset]
  sl_unfold_words
  refine more_reads c t fh a2 h2 w _ _ ?_ _ _ _
  simp only [View.readAt_eq_ld, h4.read_unread, View.ld_unit_zero (S := S1024x1024) Cert.Proof.Slots.zero_offset]

theorem out_D (c0 : ¬cond0_0 (grid0.coords t)) (c2 : ¬cond0_2 (grid0.coords t)) (c4 : ¬cond0_4 (grid0.coords t)) :
    out0_D_1 c t a2 h2 a4 h4 c0 c2 c4 w xo fh = more xo (gTile c t fh) w := by
  unfold out0_D_1
  rw [View.read_writes_eq_canon _ _ _ (cover0_D_1 c t a2 h2 a4 h4 c0 c2 c4 w xo fh)]
  unfold kernelRun0_D
  dsimp only
  rw [View.canon_unit_zero Cert.Proof.Slots.zero_offset]
  sl_unfold_words
  refine more_reads c t fh a2 h2 w _ _ ?_ _ _ _
  simp only [View.readAt_eq_ld, h4.read_unread, View.ld_unit_zero (S := S1024x1024) Cert.Proof.Slots.zero_offset]

/-- After each point: the accumulator of the point before, or zero at the first column tile, and one column tile more. -/
theorem outs_step (m : (ℓ : Loc nD τ sig) → Buf (Elt F) ℓ) (c : Dev nD) (t : Fin cfg0.N) :
    outsAt0 m c t.val t.isLt = more (if t.val % 4 = 0 then k0_pay1 (F := F) else outsAt0 m c (t.val - 1) (Nat.lt_of_le_of_lt (Nat.sub_le _ _) t.isLt))
      (gTile c t (V m c main_v1)) (iblk m c 0 t) := by
  have hN : t.val < 32 := Nat.lt_of_lt_of_eq t.isLt N_0
  by_cases h4 : t.val % 4 = 0
  · rw [if_pos h4]
    by_cases h0 : t.val % 32 = 0
    · rw [outsAt0_A m c t h0 (by omega) h4, out_A]
    · rw [outsAt0_C m c t h0 (by omega) h4, out_C]
  · rw [if_neg h4]
    by_cases h2 : t.val < 31
    · rw [outsAt0_B m c t (by omega) h2 h4, out_B]
    · rw [outsAt0_D m c t (by omega) h2 h4, out_D]

end Body

variable (m : (ℓ : Loc nD τ sig) → Buf (Elt Ideal) ℓ) (c : Dev nD)

theorem more_apply (acc : FVec Ideal S1024x1024 .f32) (g : FVec Ideal S1024x1024 .bf16) (w : FVec Ideal S1024x1024 .bf16) (r : Fin 1024) (s : Fin 1024) :
    more acc g w (ix2 r s) = acc (ix2 r s) + ∑ k : Fin 1024, g (ix2 r k) * w (ix2 s k) := by
  unfold more
  rw [matmul_zero_eq_dotGeneral]
  pointwise

/-- The two arguments, as matrices of extended reals. -/
abbrev vW : S1024x4096.Idx → EReal := m ((c : Thread nD τ).loc main_arg0)
abbrev vG : S8192x4096.Idx → EReal := m ((c : Thread nD τ).loc main_arg1)

theorem entry_w : V m c main_v0 = (vW m c : S1024x4096.Idx → EReal) := by
  unfold V hostOps0
  after_results
  rfl
theorem entry_g : V m c main_v1 = (vG m c : S8192x4096.Idx → EReal) := by
  unfold V hostOps0
  after_results
  rfl

theorem idx0 : ∀ t : Fin cfg0.N, win0_0.index t 0 = 0 ∧ win0_0.index t 1 = t.val % 4 :=
  (by decide +kernel : ∀ t : Fin grid0.N, win0_0.index t 0 = 0 ∧ win0_0.index t 1 = t.val % 4)
theorem idx1 : ∀ t : Fin cfg0.N, win0_1.index t 0 = t.val / 4 ∧ win0_1.index t 1 = 0 :=
  (by decide +kernel : ∀ t : Fin grid0.N, win0_1.index t 0 = t.val / 4 ∧ win0_1.index t 1 = 0)

theorem lt32 (t : Fin cfg0.N) : t.val < 32 := Nat.lt_of_lt_of_eq t.isLt N_0

/-- A row and a column of the arrays by their tile and their place there. -/
def row (i : ℕ) (k : Fin 1024) : Fin 8192 := ⟨1024 * (i % 8) + k.val, by omega⟩
def col (j : ℕ) (s : Fin 1024) : Fin 4096 := ⟨1024 * (j % 4) + s.val, by omega⟩

/-- The two blocks of a grid point. -/
abbrev wB (t : Fin cfg0.N) : S1024x1024.Idx → EReal := iblk m c 0 t
abbrev gB (t : Fin cfg0.N) : S1024x1024.Idx → EReal := gTile c t (V m c main_v1)

theorem wB_apply (t : Fin cfg0.N) (s : Fin 1024) (k : Fin 1024) : wB m c t (ix2 s k) = vW m c (ix2 s (col t.val k)) := by
  show V m c main_v0 (((cfg0.win 0).blk t).view.emb (ix2 s k)) = _
  rw [entry_w]
  refine congrArg (vW m c) (funext fun a => Fin.ext ?_)
  refine (win0_0.rect_emb_val t (ix2 s k) a).trans ?_
  match a with
  | ⟨0, _⟩ => show win0_0.index t 0 * 1024 + s.val = s.val; rw [(idx0 t).1]; omega
  | ⟨1, _⟩ => show win0_0.index t 1 * 1024 + k.val = 1024 * (t.val % 4) + k.val; rw [(idx0 t).2]; omega

theorem gB_apply (t : Fin cfg0.N) (r : Fin 1024) (k : Fin 1024) : gB m c t (ix2 r k) = vG m c (ix2 (row (t.val / 4) r) (col t.val k)) := by
  have ht := lt32 t
  have hb : (Ring.bk 32 t.val).val = t.val := Nat.mod_eq_of_lt ht
  show V m c main_v1 ((srcB0_0 (Ring.bk 32 t.val)).view.emb (ix2 r k)) = _
  rw [entry_g]
  refine congrArg (vG m c) (funext fun a => Fin.ext ?_)
  match a with
  | ⟨0, _⟩ => show 1024 * ((Ring.bk 32 t.val).val / 4) + 1 * r.val = 1024 * (t.val / 4 % 8) + r.val; rw [hb]; omega
  | ⟨1, _⟩ => show 1024 * ((Ring.bk 32 t.val).val % 4) + 1 * k.val = 1024 * (t.val % 4) + k.val; rw [hb]; omega

/-- After each point: the sum over the columns so far. -/
theorem outs_sum (r : Fin 1024) (s : Fin 1024) : ∀ (n : ℕ) (h : n < cfg0.N), (outsAt0 m c n h : S1024x1024.Idx → EReal) (ix2 r s)
    = ∑ q ∈ Finset.range (1024 * (n % 4) + 1024), part (fun q => vG m c (ix2 (row (n / 4) r) q) * vW m c (ix2 s q)) q := by
  refine accumulate (p := 4) (b := 1024) (fun n h => (outsAt0 m c n h : S1024x1024.Idx → EReal) (ix2 r s))
    (fun i => part fun q => vG m c (ix2 (row i r) q) * vW m c (ix2 s q)) fun n h => ?_
  have e := congrFun (outs_step m c ⟨n, h⟩) (ix2 r s)
  rw [more_apply] at e
  refine e.trans (congr (congrArg HAdd.hAdd ?_) (Finset.sum_congr rfl fun k _ => ?_))
  · by_cases h0 : n % 4 = 0
    · rw [if_pos h0, if_pos h0]
      exact Ideal.ofBits_zero_f32
    · rw [if_neg h0, if_neg h0]
  · exact (congr (congrArg HMul.hMul (gB_apply m c ⟨n, h⟩ r k)) (wB_apply m c ⟨n, h⟩ s k)).trans
      (part_fin (fun q => vG m c (ix2 (row (n / 4) r) q) * vW m c (ix2 s q)) (col n k)).symm

theorem arr : (dats m 0 c).arrAt 1 cfg0.N = inputs (vW m c) (vG m c) := by
  refine (dats m 0 c).arrAt_eq_of_covers 1 (inputs (vW m c) (vG m c)) (by decide +kernel) fun t hf y => ?_
  have ht := lt32 t
  show (dats m 0 c).after 1 t y = _
  rw [after0_1]
  refine ((congrArg (outsAt0 m c t.val t.isLt) (eq_ix2 y)).trans (outs_sum m c (y 0) (y 1) t.val t.isLt)).trans ?_
  rw [(flush0_1 t).mp hf]
  refine (part_sum _).trans ?_
  have e0 : (((cfg0.win 1).blk t).view.emb y) 0 = row (t.val / 4) (y 0) := by
    apply Fin.ext; refine (win0_1.rect_emb_val t y 0).trans ?_; rw [(idx1 t).1]; show t.val / 4 * 1024 + (y 0).val = 1024 * (t.val / 4 % 8) + (y 0).val; omega
  have e1 : (((cfg0.win 1).blk t).view.emb y) 1 = y 1 := by
    apply Fin.ext; refine (win0_1.rect_emb_val t y 1).trans ?_; rw [(idx1 t).2]; show 0 * 1024 + (y 1).val = (y 1).val; omega
  unfold inputs
  rw [e0, e1]

/-- The reference's product, entry by entry. -/
theorem reference_inputs (W : S1024x4096.Idx → EReal) (G : S8192x4096.Idx → EReal) :
    Host.dotGeneral (F := Ideal) (φ₁ := .f32) (φ₂ := .f32) Cert.Reference6Ideal.dot_S8192x4096_S1024x4096_S8192x1024_1_1_0_0_n_n none G W = inputs W G := by
  funext i
  rw [eq_ix2 i]
  pointwise
  rfl

end Cert.Kernel6Ideal.Sum

namespace Cert.Proof.Products

open Cert.Kernel6Ideal.Sum

theorem ff1_inputs : Cert.algebraic_Kernel6Ideal_Reference6Ideal := by
  intro m g m' g' _ hm
  refine ⟨fun c => inputs (vW m c) (vG m c),
    (θ_run Cert.Kernel6Ideal.defs _ _).mono (fun r h c => ⟨(h c).1.trans (arr m c), (h c).2⟩) (Cert.Kernel6Ideal.Value.run_blocks m g),
    (θ_run Cert.Reference6Ideal.defs _ _).mono (fun r h c => ⟨(h c).1.trans ?_, (h c).2⟩) (Cert.Reference6Ideal.Value.run m' g')⟩
  rw [(hm c).1, (hm c).2]
  exact reference_inputs (vW m c) (vG m c)

end Cert.Proof.Products

end
-- ==== Proof.Ff1W.lean ====
/-
  The weight gradient of the first feed-forward product: each column tile is gathered over eight row tiles.
-/
module

public import proofs.«01_k».proof.Proof.Slots
public import proofs.«01_k».proof.Proof.Gen.Kernel7Ideal.Value
public import proofs.«01_k».proof.Proof.Sums
public import proofs.«01_k».proof.Defs
public import Idealize.ShloMosaic.Lib.Claim
public import proofs.«01_k».proof.Proof.Gen.Reference7Ideal.Run
public import Idealize.ShloMosaic.Lib.Pipeline.ValueKit
public import Idealize.ShloMosaic.Lib.KernelVsHost

@[expose] public section

noncomputable section

open Idealize.ShloMosaic Idealize.ShloMosaic.TcCoe Idealize.SL.Sem
open Idealize.ShloMosaic.Pipeline (Dat)

namespace Cert.Kernel7Ideal.Sum

open Cert.Kernel7Ideal Cert.Kernel7Ideal.Gen Cert.Proof.Products

theorem slot : ∀ t : Fin grid0.N, k0_off9 (grid0.coords t) = ![(Ring.sl 2 t.val).val, 0, 0] := by decide +kernel

section Body

variable {F : FTy → Type} [FloatOps F] (c : Dev nD) (t : Fin cfg0.N) (fh : HbBuf0 (F := F) c hbM0_0)

/-- The tile of the output gradient that grid point `t` waits for. -/
abbrev gTile : FVec F S1024x1024 .bf16 := (srcB0_0 (Ring.bk 32 t.val)).view.read (Elt F) fh

/-- The accumulator after one more row tile. -/
def more (acc : FVec F S1024x1024 .f32) (x : FVec F S1024x1024 .bf16) (g : FVec F S1024x1024 .bf16) : FVec F S1024x1024 .f32 :=
  addf acc (matmul dot_S1024x1024_S1024x1024_S1024x1024_0_0_1_1_n_n none x g (constant S1024x1024 .f32 0x00000000#32))

theorem pay2_more (acc : Vec F S1024x1024 .f32) (x : Vec F S1024x1024 .bf16) (v : Vec F S1x1024x1024 .bf16) :
    k0_pay2 acc x v = more acc x (shapeCast S1024x1024 v shapeCasts_S1x1024x1024_S1024x1024) := by
  unfold k0_pay2 more
  simp only [shapeCast_self]

variable (a2 : Memref sig .tc .vmem S1024x1024 .bf16) (h2 : a2.IsWhole) (a4 : Memref sig .tc .vmem S1024x1024 .f32) (h4 : a4.IsWhole)
  (x : Vec F S1024x1024 .bf16)

include h2 in
/-- What one more row tile makes, from what the body reads. -/
theorem more_reads (acc acc' : FVec F S1024x1024 .f32) (h : acc = acc') (inb inb' f) :
    k0_pay2 acc (View.readAt (Elt F) a2.view (Rect.unit (s := S1024x1024) ![0, 0] S1024x1024.size inb').toLoadRect (h2.unread x))
      (View.readAt (Elt F) scM0_0.view (Rect.unit (s := S2x1024x1024) (k0_off9 (grid0.coords t)) S1x1024x1024.size inb).toLoadRect
        ((rslot0_0 (Ring.sl 2 t.val)).view.writes (Elt F) f [⟨Rect.whole S1024x1024, ReadAs.same.apply (gTile c t fh)⟩])) = more acc' x (gTile c t fh) := by
  rw [pay2_more, h]
  refine congr (congrArg (more acc') ?_) ?_
  · simp only [View.readAt_eq_ld, h2.read_unread, View.ld_unit_zero (S := S1024x1024) Cert.Proof.Slots.zero_offset]
  · exact slot_read scM0_0 inb (inb_slot0_0 (Ring.sl 2 t.val)) (slot t) squeezes_S1x1024x1024_S1024x1024 shapeCasts_S1x1024x1024_S1024x1024 f _

theorem out_A (c0 : cond0_0 (grid0.coords t)) (c1 : cond0_1 (grid0.coords t)) (c2 : cond0_2 (grid0.coords t)) (c3 : cond0_3 (grid0.coords t)) (c4 : cond0_4 (grid0.coords t)) :
    out0_A_1 c t a2 h2 a4 h4 c0 c1 c2 c3 c4 x fh = more (k0_pay1 (F := F)) x (gTile c t fh) := by
  unfold out0_A_1
  rw [View.read_writes_eq_canon _ _ _ (cover0_A_1 c t a2 h2 a4 h4 c0 c1 c2 c3 c4 x fh)]
  unfold kernelRun0_A
  dsimp only
  sl_unfold_words
  rw [View.canon_cons_unit_zero (S := S1024x1024) Cert.Proof.Slots.zero_offset, View.readCov_unit_zero (S := S1024x1024) _ Cert.Proof.Slots.zero_offset]
  exact more_reads c t fh a2 h2 x _ _ rfl _ _ _

theorem out_C (c0 : ¬cond0_0 (grid0.coords t)) (c2 : cond0_2 (grid0.coords t)) (c3 : cond0_3 (grid0.coords t)) (c4 : cond0_4 (grid0.coords t)) :
    out0_C_1 c t a2 h2 a4 h4 c0 c2 c3 c4 x fh = more (k0_pay1 (F := F)) x (gTile c t fh) := by
  unfold out0_C_1
  rw [View.read_writes_eq_canon _ _ _ (cover0_C_1 c t a2 h2 a4 h4 c0 c2 c3 c4 x fh)]
  unfold kernelRun0_C
  dsimp only
  sl_unfold_words
  rw [View.canon_cons_unit_zero (S := S1024x1024) Cert.Proof.Slots.zero_offset, View.readCov_unit_zero (S := S1024x1024) _ Cert.Proof.Slots.zero_offset]
  exact more_reads c t fh a2 h2 x _ _ rfl _ _ _

variable (xo : Vec F S1024x1024 .f32)

theorem out_B (c0 : ¬cond0_0 (grid0.coords t)) (c2 : cond0_2 (grid0.coords t)) (c3 : cond0_3 (grid0.coords t)) (c4 : ¬cond0_4 (grid0.coords t)) :
    out0_B_1 c t a2 h2 a4 h4 c0 c2 c3 c4 x xo fh = more xo x (gTile c t fh) := by
  unfold out0_B_1
  rw [View.read_writes_eq_canon _ _ _ (cover0_B_1 c t a2 h2 a4 h4 c0 c2 c3 c4 x xo fh)]
  unfold kernelRun0_B
  dsimp only
  rw [View.canon_unit_zero Cert.Proof.Slots.zero_offset]
  sl_unfold_words
  refine more_reads c t fh a2 h2 x _ _ ?_ _ _ _
  simp only [View.readAt_eq_ld, h4.read_unread, View.ld_unit_zero (S := S1024x1024) Cert.Proof.Slots.zero_offset]

theorem out_D (c0 : ¬cond0_0 (grid0.coords t)) (c2 : ¬cond0_2 (grid0.coords t)) (c4 : ¬cond0_4 (grid0.coords t)) :
    out0_D_1 c t a2 h2 a4 h4 c0 c2 c4 x xo fh = more xo x (gTile c t fh) := by
  unfold out0_D_1
  rw [View.read_writes_eq_canon _ _ _ (cover0_D_1 c t a2 h2 a4 h4 c0 c2 c4 x xo fh)]
  unfold kernelRun0_D
  dsimp only
  rw [View.canon_unit_zero Cert.Proof.Slots.zero_offset]
  sl_unfold_words
  refine more_reads c t fh a2 h2 x _ _ ?_ _ _ _
  simp only [View.readAt_eq_ld, h4.read_unread, View.ld_unit_zero (S := S1024x1024) Cert.Proof.Slots.zero_offset]

/-- After each point: the accumulator of the point before, or zero at the first row tile, and one row tile more. -/
theorem outs_step (m : (ℓ : Loc nD τ sig) → Buf (Elt F) ℓ) (c : Dev nD) (t : Fin cfg0.N) :
    outsAt0 m c t.val t.isLt = more (if t.val % 8 = 0 then k0_pay1 (F := F) else outsAt0 m c (t.val - 1) (Nat.lt_of_le_of_lt (Nat.sub_le _ _) t.isLt))
      (iblk m c 0 t) (gTile c t (V m c main_v1)) := by
  have hN : t.val < 32 := Nat.lt_of_lt_of_eq t.isLt N_0
  by_cases h4 : t.val % 8 = 0
  · rw [if_pos h4]
    by_cases h0 : t.val % 32 = 0
    · rw [outsAt0_A m c t h0 (by omega) (by omega) h4, out_A]
    · rw [outsAt0_C m c t h0 (by omega) (by omega) h4, out_C]
  · rw [if_neg h4]
    by_cases h2 : t.val < 31
    · rw [outsAt0_B m c t (by omega) h2 h2 h4, out_B]
    · rw [outsAt0_D m c t (by omega) h2 h4, out_D]

end Body

variable (m : (ℓ : Loc nD τ sig) → Buf (Elt Ideal) ℓ) (c : Dev nD)

theorem more_apply (acc : FVec Ideal S1024x1024 .f32) (x : FVec Ideal S1024x1024 .bf16) (g : FVec Ideal S1024x1024 .bf16) (r : Fin 1024) (s : Fin 1024) :
    more acc x g (ix2 r s) = acc (ix2 r s) + ∑ k : Fin 1024, x (ix2 k r) * g (ix2 k s) := by
  unfold more
  rw [matmul_zero_eq_dotGeneral]
  pointwise

/-- The two arguments, as matrices of extended reals. -/
abbrev vA : S8192x1024.Idx → EReal := m ((c : Thread nD τ).loc main_arg0)
abbrev vG : S8192x4096.Idx → EReal := m ((c : Thread nD τ).loc main_arg1)

theorem entry_a : V m c main_v0 = (vA m c : S8192x1024.Idx → EReal) := by
  unfold V hostOps0
  after_results
  rfl
theorem entry_g : V m c main_v1 = (vG m c : S8192x4096.Idx → EReal) := by
  unfold V hostOps0
  after_results
  rfl

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = t.val / 8 :=
  (by decide +kernel : ∀ t : Fin grid0.N, win0_1.index t 0 = 0 ∧ win0_1.index t 1 = t.val / 8)

theorem lt32 (t : Fin cfg0.N) : t.val < 32 := Nat.lt_of_lt_of_eq t.isLt N_0

/-- A row and a column of the arrays by their tile and their place there. -/
def row (i : ℕ) (k : Fin 1024) : Fin 8192 := ⟨1024 * (i % 8) + k.val, by omega⟩
def col (j : ℕ) (s : Fin 1024) : Fin 4096 := ⟨1024 * (j % 4) + s.val, by omega⟩

/-- The two blocks of a grid point. -/
abbrev xB (t : Fin cfg0.N) : S1024x1024.Idx → EReal := iblk m c 0 t
abbrev gB (t : Fin cfg0.N) : S1024x1024.Idx → EReal := gTile c t (V m c main_v1)

theorem xB_apply (t : Fin cfg0.N) (k : Fin 1024) (r : Fin 1024) : xB m c t (ix2 k r) = vA m c (ix2 (row t.val k) r) := by
  show V m c main_v0 (((cfg0.win 0).blk t).view.emb (ix2 k r)) = _
  rw [entry_a]
  refine congrArg (vA m c) (funext fun a => Fin.ext ?_)
  refine (win0_0.rect_emb_val t (ix2 k r) a).trans ?_
  match a with
  | ⟨0, _⟩ => show win0_0.index t 0 * 1024 + k.val = 1024 * (t.val % 8) + k.val; rw [(idx0 t).1]; omega
  | ⟨1, _⟩ => show win0_0.index t 1 * 1024 + r.val = r.val; rw [(idx0 t).2]; omega

theorem gB_apply (t : Fin cfg0.N) (k : Fin 1024) (s : Fin 1024) : gB m c t (ix2 k s) = vG m c (ix2 (row t.val k) (col (t.val / 8) s)) := by
  have ht := lt32 t
  have hb : (Ring.bk 32 t.val).val = t.val := Nat.mod_eq_of_lt ht
  show V m c main_v1 ((srcB0_0 (Ring.bk 32 t.val)).view.emb (ix2 k s)) = _
  rw [entry_g]
  refine congrArg (vG m c) (funext fun a => Fin.ext ?_)
  match a with
  | ⟨0, _⟩ => show 1024 * ((Ring.bk 32 t.val).val % 8) + 1 * k.val = 1024 * (t.val % 8) + k.val; rw [hb]; omega
  | ⟨1, _⟩ => show 1024 * ((Ring.bk 32 t.val).val / 8) + 1 * s.val = 1024 * (t.val / 8 % 4) + s.val; rw [hb]; omega

/-- After each point: the sum over the rows so far. -/
theorem outs_sum (r : Fin 1024) (s : Fin 1024) : ∀ (n : ℕ) (h : n < cfg0.N), (outsAt0 m c n h : S1024x1024.Idx → EReal) (ix2 r s)
    = ∑ q ∈ Finset.range (1024 * (n % 8) + 1024), part (fun q => vA m c (ix2 q r) * vG m c (ix2 q (col (n / 8) s))) q := by
  refine accumulate (p := 8) (b := 1024) (fun n h => (outsAt0 m c n h : S1024x1024.Idx → EReal) (ix2 r s))
    (fun j => part fun q => vA m c (ix2 q r) * vG m c (ix2 q (col j s))) fun n h => ?_
  have e := congrFun (outs_step m c ⟨n, h⟩) (ix2 r s)
  rw [more_apply] at e
  refine e.trans (congr (congrArg HAdd.hAdd ?_) (Finset.sum_congr rfl fun k _ => ?_))
  · by_cases h0 : n % 8 = 0
    · rw [if_pos h0, if_pos h0]
      exact Ideal.ofBits_zero_f32
    · rw [if_neg h0, if_neg h0]
  · exact (congr (congrArg HMul.hMul (xB_apply m c ⟨n, h⟩ k r)) (gB_apply m c ⟨n, h⟩ k s)).trans
      (part_fin (fun q => vA m c (ix2 q r) * vG m c (ix2 q (col (n / 8) s))) (row n k)).symm

theorem arr : (dats m 0 c).arrAt 1 cfg0.N = weights (vA m c) (vG m c) := by
  refine (dats m 0 c).arrAt_eq_of_covers 1 (weights (vA m c) (vG m c)) (by decide +kernel) fun t hf y => ?_
  have ht := lt32 t
  show (dats m 0 c).after 1 t y = _
  rw [after0_1]
  refine ((congrArg (outsAt0 m c t.val t.isLt) (eq_ix2 y)).trans (outs_sum m c (y 0) (y 1) t.val t.isLt)).trans ?_
  rw [(flush0_1 t).mp hf]
  refine (part_sum _).trans ?_
  have e0 : (((cfg0.win 1).blk t).view.emb y) 0 = y 0 := by
    apply Fin.ext; refine (win0_1.rect_emb_val t y 0).trans ?_; rw [(idx1 t).1]; show 0 * 1024 + (y 0).val = (y 0).val; omega
  have e1 : (((cfg0.win 1).blk t).view.emb y) 1 = col (t.val / 8) (y 1) := by
    apply Fin.ext; refine (win0_1.rect_emb_val t y 1).trans ?_; rw [(idx1 t).2]; show t.val / 8 * 1024 + (y 1).val = 1024 * (t.val / 8 % 4) + (y 1).val; omega
  unfold weights
  rw [e0, e1]

/-- The reference's product, entry by entry. -/
theorem reference_weights (A : S8192x1024.Idx → EReal) (G : S8192x4096.Idx → EReal) (h) :
    transpose S1024x4096 [1, 0] (Host.dotGeneral (F := Ideal) (φ₁ := .f32) (φ₂ := .f32) Cert.Reference7Ideal.dot_S8192x4096_S8192x1024_S4096x1024_0_0_1_1_n_n none G A) h
      = weights A G := by
  funext i
  pointwise
  exact Finset.sum_congr rfl fun q _ => mul_comm _ _

end Cert.Kernel7Ideal.Sum

namespace Cert.Proof.Products

open Cert.Kernel7Ideal.Sum

theorem ff1_weights : Cert.algebraic_Kernel7Ideal_Reference7Ideal := by
  intro m g m' g' _ hm
  refine ⟨fun c => weights (vA m c) (vG m c),
    (θ_run Cert.Kernel7Ideal.defs _ _).mono (fun r h c => ⟨(h c).1.trans (arr m c), (h c).2⟩) (Cert.Kernel7Ideal.Value.run_blocks m g),
    (θ_run Cert.Reference7Ideal.defs _ _).mono (fun r h c => ⟨(h c).1.trans ?_, (h c).2⟩) (Cert.Reference7Ideal.Value.run m' g')⟩
  rw [(hm c).1, (hm c).2]
  exact reference_weights (vA m c) (vG m c) _

end Cert.Proof.Products

end
-- ==== Proof.SqD.lean ====
/-
  The input gradient of a product by a square weight: each grid point takes one row block of the output's gradient
  through the whole weight.
-/
module

public import proofs.«01_k».proof.Proof.Slots
public import proofs.«01_k».proof.Proof.Gen.Kernel8Ideal.Value
public import proofs.«01_k».proof.Proof.Sums
public import proofs.«01_k».proof.Defs
public import Idealize.ShloMosaic.Lib.Claim
public import proofs.«01_k».proof.Proof.Gen.Reference8Ideal.Run
public import Idealize.ShloMosaic.Lib.Pipeline.ValueKit
public import Idealize.ShloMosaic.Lib.Pointwise
public import Idealize.ShloMosaic.Lib.ValueIdx
public import Idealize.ShloMosaic.Lib.KernelVsHost

@[expose] public section

noncomputable section

open Idealize.ShloMosaic Idealize.ShloMosaic.TcCoe Idealize.SL.Sem
open Idealize.ShloMosaic.Pipeline (Dat)

namespace Cert.Kernel8Ideal.Sum

open Cert.Kernel8Ideal Cert.Kernel8Ideal.Gen Cert.Proof.Products

variable {F : FTy → Type} [FloatOps F]
variable (m : (ℓ : Loc nD τ sig) → Buf (Elt F) ℓ)

theorem off9 : ∀ t : Fin grid0.N, k0_off9 (grid0.coords t) = ![(Ring.sl 2 t.val).val, 0, 0] := by decide +kernel

/-- One row block of the gradient through the weight, from zero. -/
def blockOut (g : FVec F S1024x1024 .bf16) (w : FVec F S1024x1024 .bf16) : FVec F S1024x1024 .f32 :=
  addf (k0_pay1 (F := F)) (matmul dot_S1024x1024_S1024x1024_S1024x1024_1_1_0_0_n_n none g w (constant S1024x1024 .f32 0x00000000#32))

theorem pay2_block (v : Vec F S1x1024x1024 .bf16) (w : Vec F S1024x1024 .bf16) :
    k0_pay2 (k0_pay1 (F := F)) v w = blockOut (shapeCast S1024x1024 v shapeCasts_S1x1024x1024_S1024x1024) w := by
  unfold k0_pay2 blockOut
  simp only [shapeCast_self]

/-- The block of the gradient that grid point `t` waits for. -/
abbrev gBlk (c : Dev nD) (t : Fin cfg0.N) (fh : HbBuf0 (F := F) c hbM0_0) : FVec F S1024x1024 .bf16 :=
  (srcB0_0 (Ring.bk 8 t.val)).view.read (Elt F) fh

theorem slot_gBlk (c : Dev nD) (t : Fin cfg0.N) (fh : HbBuf0 (F := F) c hbM0_0) (inb) (f) :
    shapeCast S1024x1024 (View.readAt (Elt F) scM0_0.view (Rect.unit (s := S2x1024x1024) (k0_off9 (grid0.coords t)) S1x1024x1024.size inb).toLoadRect
      ((rslot0_0 (Ring.sl 2 t.val)).view.writes (Elt F) f
        [⟨Rect.whole S1024x1024, ReadAs.same.apply (View.read (Elt F) (srcB0_0 (Ring.bk 8 t.val)).view fh)⟩])) shapeCasts_S1x1024x1024_S1024x1024
      = gBlk c t fh :=
  slot_read scM0_0 inb (inb_slot0_0 (Ring.sl 2 t.val)) (off9 t) squeezes_S1x1024x1024_S1024x1024 shapeCasts_S1x1024x1024_S1024x1024 f _

theorem out_A (c : Dev nD) (t : Fin cfg0.N) (a2 : Memref sig .tc .vmem S1024x1024 .bf16) (h2 : a2.IsWhole)
    (a4 : Memref sig .tc .vmem S1024x1024 .f32) (h4 : a4.IsWhole) (c0 : cond0_0 (grid0.coords t)) (c1 : cond0_1 (grid0.coords t)) (c2 : cond0_2 (grid0.coords t)) (c3 : cond0_3 (grid0.coords t)) (c4 : cond0_4 (grid0.coords t))
    (w : Vec F S1024x1024 .bf16) (fh : HbBuf0 (F := F) c hbM0_0) :
    out0_A_1 c t a2 h2 a4 h4 c0 c1 c2 c3 c4 w fh = blockOut (gBlk c t fh) w := by
  unfold out0_A_1
  rw [View.read_writes_eq_canon _ _ _ (cover0_A_1 c t a2 h2 a4 h4 c0 c1 c2 c3 c4 w fh)]
  unfold kernelRun0_A
  dsimp only
  sl_unfold_words
  rw [View.canon_cons_unit_zero (S := S1024x1024) Cert.Proof.Slots.zero_offset, View.readCov_unit_zero (S := S1024x1024) _ Cert.Proof.Slots.zero_offset, pay2_block]
  refine congr (congrArg blockOut ?_) ?_
  · exact slot_gBlk c t fh _ _
  · simp only [View.readAt_eq_ld, h2.read_unread, View.ld_unit_zero (S := S1024x1024) Cert.Proof.Slots.zero_offset]

theorem out_B (c : Dev nD) (t : Fin cfg0.N) (a2 : Memref sig .tc .vmem S1024x1024 .bf16) (h2 : a2.IsWhole)
    (a4 : Memref sig .tc .vmem S1024x1024 .f32) (h4 : a4.IsWhole) (c0 : ¬cond0_0 (grid0.coords t)) (c2 : cond0_2 (grid0.coords t)) (c3 : cond0_3 (grid0.coords t)) (c4 : cond0_4 (grid0.coords t))
    (w : Vec F S1024x1024 .bf16) (fh : HbBuf0 (F := F) c hbM0_0) :
    out0_B_1 c t a2 h2 a4 h4 c0 c2 c3 c4 w fh = blockOut (gBlk c t fh) w := by
  unfold out0_B_1
  rw [View.read_writes_eq_canon _ _ _ (cover0_B_1 c t a2 h2 a4 h4 c0 c2 c3 c4 w fh)]
  unfold kernelRun0_B
  dsimp only
  sl_unfold_words
  rw [View.canon_cons_unit_zero (S := S1024x1024) Cert.Proof.Slots.zero_offset, View.readCov_unit_zero (S := S1024x1024) _ Cert.Proof.Slots.zero_offset, pay2_block]
  refine congr (congrArg blockOut ?_) ?_
  · exact slot_gBlk c t fh _ _
  · simp only [View.readAt_eq_ld, h2.read_unread, View.ld_unit_zero (S := S1024x1024) Cert.Proof.Slots.zero_offset]

theorem out_C (c : Dev nD) (t : Fin cfg0.N) (a2 : Memref sig .tc .vmem S1024x1024 .bf16) (h2 : a2.IsWhole)
    (a4 : Memref sig .tc .vmem S1024x1024 .f32) (h4 : a4.IsWhole) (c0 : ¬cond0_0 (grid0.coords t)) (c2 : ¬cond0_2 (grid0.coords t)) (c4 : cond0_4 (grid0.coords t))
    (w : Vec F S1024x1024 .bf16) (fh : HbBuf0 (F := F) c hbM0_0) :
    out0_C_1 c t a2 h2 a4 h4 c0 c2 c4 w fh = blockOut (gBlk c t fh) w := by
  unfold out0_C_1
  rw [View.read_writes_eq_canon _ _ _ (cover0_C_1 c t a2 h2 a4 h4 c0 c2 c4 w fh)]
  unfold kernelRun0_C
  dsimp only
  sl_unfold_words
  rw [View.canon_cons_unit_zero (S := S1024x1024) Cert.Proof.Slots.zero_offset, View.readCov_unit_zero (S := S1024x1024) _ Cert.Proof.Slots.zero_offset, pay2_block]
  refine congr (congrArg blockOut ?_) ?_
  · exact slot_gBlk c t fh _ _
  · simp only [View.readAt_eq_ld, h2.read_unread, View.ld_unit_zero (S := S1024x1024) Cert.Proof.Slots.zero_offset]

/-- Every point leaves its row block's product. -/
theorem outs_eq (c : Dev nD) (t : Fin cfg0.N) :
    outsAt0 m c t.val t.isLt = blockOut (gBlk c t (V m c main_v1)) (iblk m c 0 t) := by
  have hN : t.val < 8 := Nat.lt_of_lt_of_eq t.isLt N_0
  by_cases h0 : t.val % 8 = 0
  · rw [outsAt0_A m c t h0 (by omega), out_A]
  · by_cases h2 : t.val < 7
    · rw [outsAt0_B m c t h0 h2, out_B]
    · rw [outsAt0_C m c t h0 h2, out_C]

section Values

variable (m : (ℓ : Loc nD τ sig) → Buf (Elt Ideal) ℓ)

theorem blockOut_apply (g : FVec Ideal S1024x1024 .bf16) (w : FVec Ideal S1024x1024 .bf16) (r : Fin 1024) (s : Fin 1024) :
    blockOut g w (ix2 r s) = ∑ k : Fin 1024, g (ix2 r k) * w (ix2 s k) := by
  unfold blockOut
  rw [matmul_zero_eq_dotGeneral]
  pointwise
  rw [show k0_pay1 (F := Ideal) (ix2 r s) = 0 from Ideal.ofBits_zero_f32]
  exact zero_add _

/-- The two arguments, as matrices of extended reals. -/
abbrev vW (c : Dev nD) : S1024x1024.Idx → EReal := m ((c : Thread nD τ).loc main_arg0)
abbrev vG (c : Dev nD) : S8192x1024.Idx → EReal := m ((c : Thread nD τ).loc main_arg1)

theorem entry_v0 (c : Dev nD) : V m c main_v0 = (vW m c : S1024x1024.Idx → EReal) := by
  unfold V hostOps0
  after_results
  rfl
theorem entry_v1 (c : Dev nD) : V m c main_v1 = (vG m c : S8192x1024.Idx → EReal) := by
  unfold V hostOps0
  after_results
  rfl

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)

theorem lt8 (t : Fin cfg0.N) : t.val < 8 := Nat.lt_of_lt_of_eq t.isLt N_0

/-- A row of the arrays by its row block and its place there. -/
def row (t : Fin cfg0.N) (r : Fin 1024) : Fin 8192 := ⟨1024 * t.val + r.val, by have := lt8 t; omega⟩

/-- The two blocks of a grid point. -/
abbrev wB (c : Dev nD) (t : Fin cfg0.N) : S1024x1024.Idx → EReal := iblk m c 0 t
abbrev gB (c : Dev nD) (t : Fin cfg0.N) : S1024x1024.Idx → EReal := gBlk c t (V m c main_v1)

theorem iblk_apply (c : Dev nD) (t : Fin cfg0.N) (s : Fin 1024) (k : Fin 1024) :
    wB m c t (ix2 s k) = vW m c (ix2 s k) := by
  show V m c main_v0 (((cfg0.win 0).blk t).view.emb (ix2 s k)) = _
  rw [entry_v0]
  refine congrArg (vW m c) (funext fun a => Fin.ext ?_)
  refine (win0_0.rect_emb_val t (ix2 s k) a).trans ?_
  match a with
  | ⟨0, _⟩ => show win0_0.index t 0 * 1024 + s.val = s.val; rw [(idx0 t).1]; omega
  | ⟨1, _⟩ => show win0_0.index t 1 * 1024 + k.val = k.val; rw [(idx0 t).2]; omega

theorem gBlk_apply (c : Dev nD) (t : Fin cfg0.N) (r : Fin 1024) (k : Fin 1024) :
    gB m c t (ix2 r k) = vG m c (ix2 (row t r) k) := by
  have ht := lt8 t
  show V m c main_v1 ((srcB0_0 (Ring.bk 8 t.val)).view.emb (ix2 r k)) = _
  rw [entry_v1]
  refine congrArg (vG m c) (funext fun a => Fin.ext ?_)
  match a with
  | ⟨0, _⟩ => show 1024 * (Ring.bk 8 t.val).val + 1 * r.val = 1024 * t.val + r.val
              rw [show (Ring.bk 8 t.val).val = t.val from Nat.mod_eq_of_lt ht]; omega
  | ⟨1, _⟩ => show 0 + 1 * k.val = k.val; omega

theorem outs_apply (c : Dev nD) (t : Fin cfg0.N) (r : Fin 1024) (s : Fin 1024) :
    (outsAt0 m c t.val t.isLt : S1024x1024.Idx → EReal) (ix2 r s) = ∑ k : Fin 1024, vG m c (ix2 (row t r) k) * vW m c (ix2 s k) := by
  rw [outs_eq, blockOut_apply]
  refine Finset.sum_congr rfl fun k _ => ?_
  exact congr (congrArg _ (gBlk_apply m c t r k)) (iblk_apply m c t s k)

theorem arr (c : Dev nD) : (dats m 0 c).arrAt 1 cfg0.N = inputs (vW m c) (vG m c) := by
  refine (dats m 0 c).arrAt_eq_of_covers 1 (inputs (vW m c) (vG m c)) (by decide +kernel) fun t hf y => ?_
  show (dats m 0 c).after 1 t y = _
  rw [after0_1]
  refine ((congrArg (outsAt0 m c t.val t.isLt) (eq_ix2 y)).trans (outs_apply m c t (y 0) (y 1))).trans ?_
  have e0 : (((cfg0.win 1).blk t).view.emb y) 0 = row t (y 0) := by
    apply Fin.ext; refine (win0_1.rect_emb_val t y 0).trans ?_; rw [(idx1 t).1]; show t.val * 1024 + (y 0).val = 1024 * t.val + (y 0).val; omega
  have e1 : (((cfg0.win 1).blk t).view.emb y) 1 = y 1 := by
    apply Fin.ext; refine (win0_1.rect_emb_val t y 1).trans ?_; rw [(idx1 t).2]; show 0 * 1024 + (y 1).val = (y 1).val; omega
  unfold inputs
  rw [e0, e1]

/-- The reference's product, entry by entry. -/
theorem reference_inputs (W : S1024x1024.Idx → EReal) (G : S8192x1024.Idx → EReal) :
    Host.dotGeneral (F := Ideal) (φ₁ := .f32) (φ₂ := .f32) Cert.Reference8Ideal.dot_S8192x1024_S1024x1024_S8192x1024_1_1_0_0_n_n none G W
      = inputs W G := by
  funext i
  rw [eq_ix2 i]
  pointwise
  rfl

end Values

end Cert.Kernel8Ideal.Sum

namespace Cert.Proof.Products

open Cert.Kernel8Ideal.Sum

theorem square_inputs : Cert.algebraic_Kernel8Ideal_Reference8Ideal := by
  intro m g m' g' _ hm
  refine ⟨fun c => inputs (vW m c) (vG m c),
    (θ_run Cert.Kernel8Ideal.defs _ _).mono (fun r h c => ⟨(h c).1.trans (arr m c), (h c).2⟩) (Cert.Kernel8Ideal.Value.run_blocks m g),
    (θ_run Cert.Reference8Ideal.defs _ _).mono (fun r h c => ⟨(h c).1.trans ?_, (h c).2⟩) (Cert.Reference8Ideal.Value.run m' g')⟩
  rw [(hm c).1, (hm c).2]
  exact reference_inputs (vW m c) (vG m c)

end Cert.Proof.Products
-- ==== Proof.SqW.lean ====
/-
  The weight gradient of a product by a square weight: gathered over eight row tiles.
-/
module

public import proofs.«01_k».proof.Proof.Slots
public import proofs.«01_k».proof.Proof.Gen.Kernel9Ideal.Value
public import proofs.«01_k».proof.Proof.Sums
public import proofs.«01_k».proof.Defs
public import Idealize.ShloMosaic.Lib.Claim
public import proofs.«01_k».proof.Proof.Gen.Reference9Ideal.Run
public import Idealize.ShloMosaic.Lib.Pipeline.ValueKit
public import Idealize.ShloMosaic.Lib.KernelVsHost

@[expose] public section

noncomputable section

open Idealize.ShloMosaic Idealize.ShloMosaic.TcCoe Idealize.SL.Sem
open Idealize.ShloMosaic.Pipeline (Dat)

namespace Cert.Kernel9Ideal.Sum

open Cert.Kernel9Ideal Cert.Kernel9Ideal.Gen Cert.Proof.Products

theorem slot : ∀ t : Fin grid0.N, k0_off9 (grid0.coords t) = ![(Ring.sl 2 t.val).val, 0, 0] := by decide +kernel

section Body

variable {F : FTy → Type} [FloatOps F] (c : Dev nD) (t : Fin cfg0.N) (fh : HbBuf0 (F := F) c hbM0_0)

/-- The tile of the output gradient that grid point `t` waits for. -/
abbrev gTile : FVec F S1024x1024 .bf16 := (srcB0_0 (Ring.bk 8 t.val)).view.read (Elt F) fh

/-- The accumulator after one more row tile. -/
def more (acc : FVec F S1024x1024 .f32) (x : FVec F S1024x1024 .bf16) (g : FVec F S1024x1024 .bf16) : FVec F S1024x1024 .f32 :=
  addf acc (matmul dot_S1024x1024_S1024x1024_S1024x1024_0_0_1_1_n_n none x g (constant S1024x1024 .f32 0x00000000#32))

theorem pay2_more (acc : Vec F S1024x1024 .f32) (x : Vec F S1024x1024 .bf16) (v : Vec F S1x1024x1024 .bf16) :
    k0_pay2 acc x v = more acc x (shapeCast S1024x1024 v shapeCasts_S1x1024x1024_S1024x1024) := by
  unfold k0_pay2 more
  simp only [shapeCast_self]

variable (a2 : Memref sig .tc .vmem S1024x1024 .bf16) (h2 : a2.IsWhole) (a4 : Memref sig .tc .vmem S1024x1024 .f32) (h4 : a4.IsWhole)
  (x : Vec F S1024x1024 .bf16)

include h2 in
/-- What one more row tile makes, from what the body reads. -/
theorem more_reads (acc acc' : FVec F S1024x1024 .f32) (h : acc = acc') (inb inb' f) :
    k0_pay2 acc (View.readAt (Elt F) a2.view (Rect.unit (s := S1024x1024) ![0, 0] S1024x1024.size inb').toLoadRect (h2.unread x))
      (View.readAt (Elt F) scM0_0.view (Rect.unit (s := S2x1024x1024) (k0_off9 (grid0.coords t)) S1x1024x1024.size inb).toLoadRect
        ((rslot0_0 (Ring.sl 2 t.val)).view.writes (Elt F) f [⟨Rect.whole S1024x1024, ReadAs.same.apply (gTile c t fh)⟩])) = more acc' x (gTile c t fh) := by
  rw [pay2_more, h]
  refine congr (congrArg (more acc') ?_) ?_
  · simp only [View.readAt_eq_ld, h2.read_unread, View.ld_unit_zero (S := S1024x1024) Cert.Proof.Slots.zero_offset]
  · exact slot_read scM0_0 inb (inb_slot0_0 (Ring.sl 2 t.val)) (slot t) squeezes_S1x1024x1024_S1024x1024 shapeCasts_S1x1024x1024_S1024x1024 f _

theorem out_A (c0 : cond0_0 (grid0.coords t)) (c1 : cond0_1 (grid0.coords t)) (c2 : cond0_2 (grid0.coords t)) (c3 : cond0_3 (grid0.coords t)) (c4 : cond0_4 (grid0.coords t)) :
    out0_A_1 c t a2 h2 a4 h4 c0 c1 c2 c3 c4 x fh = more (k0_pay1 (F := F)) x (gTile c t fh) := by
  unfold out0_A_1
  rw [View.read_writes_eq_canon _ _ _ (cover0_A_1 c t a2 h2 a4 h4 c0 c1 c2 c3 c4 x fh)]
  unfold kernelRun0_A
  dsimp only
  sl_unfold_words
  rw [View.canon_cons_unit_zero (S := S1024x1024) Cert.Proof.Slots.zero_offset, View.readCov_unit_zero (S := S1024x1024) _ Cert.Proof.Slots.zero_offset]
  exact more_reads c t fh a2 h2 x _ _ rfl _ _ _

variable (xo : Vec F S1024x1024 .f32)

theorem out_B (c0 : ¬cond0_0 (grid0.coords t)) (c2 : cond0_2 (grid0.coords t)) (c3 : cond0_3 (grid0.coords t)) (c4 : ¬cond0_4 (grid0.coords t)) :
    out0_B_1 c t a2 h2 a4 h4 c0 c2 c3 c4 x xo fh = more xo x (gTile c t fh) := by
  unfold out0_B_1
  rw [View.read_writes_eq_canon _ _ _ (cover0_B_1 c t a2 h2 a4 h4 c0 c2 c3 c4 x xo fh)]
  unfold kernelRun0_B
  dsimp only
  rw [View.canon_unit_zero Cert.Proof.Slots.zero_offset]
  sl_unfold_words
  refine more_reads c t fh a2 h2 x _ _ ?_ _ _ _
  simp only [View.readAt_eq_ld, h4.read_unread, View.ld_unit_zero (S := S1024x1024) Cert.Proof.Slots.zero_offset]

theorem out_C (c0 : ¬cond0_0 (grid0.coords t)) (c2 : ¬cond0_2 (grid0.coords t)) (c4 : ¬cond0_4 (grid0.coords t)) :
    out0_C_1 c t a2 h2 a4 h4 c0 c2 c4 x xo fh = more xo x (gTile c t fh) := by
  unfold out0_C_1
  rw [View.read_writes_eq_canon _ _ _ (cover0_C_1 c t a2 h2 a4 h4 c0 c2 c4 x xo fh)]
  unfold kernelRun0_C
  dsimp only
  rw [View.canon_unit_zero Cert.Proof.Slots.zero_offset]
  sl_unfold_words
  refine more_reads c t fh a2 h2 x _ _ ?_ _ _ _
  simp only [View.readAt_eq_ld, h4.read_unread, View.ld_unit_zero (S := S1024x1024) Cert.Proof.Slots.zero_offset]

/-- After each point: the accumulator of the point before, or zero at the first row tile, and one row tile more. -/
theorem outs_step (m : (ℓ : Loc nD τ sig) → Buf (Elt F) ℓ) (c : Dev nD) (t : Fin cfg0.N) :
    outsAt0 m c t.val t.isLt = more (if t.val % 8 = 0 then k0_pay1 (F := F) else outsAt0 m c (t.val - 1) (Nat.lt_of_le_of_lt (Nat.sub_le _ _) t.isLt))
      (iblk m c 0 t) (gTile c t (V m c main_v1)) := by
  have hN : t.val < 8 := Nat.lt_of_lt_of_eq t.isLt N_0
  by_cases h4 : t.val % 8 = 0
  · rw [if_pos h4]
    rw [outsAt0_A m c t h4 (by omega) (by omega) h4, out_A]
  · rw [if_neg h4]
    by_cases h2 : t.val < 7
    · rw [outsAt0_B m c t (by omega) h2 h2 h4, out_B]
    · rw [outsAt0_C m c t (by omega) h2 h4, out_C]

end Body

variable (m : (ℓ : Loc nD τ sig) → Buf (Elt Ideal) ℓ) (c : Dev nD)

theorem more_apply (acc : FVec Ideal S1024x1024 .f32) (x : FVec Ideal S1024x1024 .bf16) (g : FVec Ideal S1024x1024 .bf16) (r : Fin 1024) (s : Fin 1024) :
    more acc x g (ix2 r s) = acc (ix2 r s) + ∑ k : Fin 1024, x (ix2 k r) * g (ix2 k s) := by
  unfold more
  rw [matmul_zero_eq_dotGeneral]
  pointwise

/-- The two arguments, as matrices of extended reals. -/
abbrev vA : S8192x1024.Idx → EReal := m ((c : Thread nD τ).loc main_arg0)
abbrev vG : S8192x1024.Idx → EReal := m ((c : Thread nD τ).loc main_arg1)

theorem entry_a : V m c main_v0 = (vA m c : S8192x1024.Idx → EReal) := by
  unfold V hostOps0
  after_results
  rfl
theorem entry_g : V m c main_v1 = (vG m c : S8192x1024.Idx → EReal) := by
  unfold V hostOps0
  after_results
  rfl

theorem idx0 : ∀ t : Fin cfg0.N, win0_0.index t 0 = t.val % 8 ∧ win0_0.index t 1 = 0 :=
  (by decide +kernel : ∀ t : Fin grid0.N, win0_0.index t 0 = t.val % 8 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)

theorem lt8 (t : Fin cfg0.N) : t.val < 8 := Nat.lt_of_lt_of_eq t.isLt N_0

/-- A row and a column of the arrays by their tile and their place there. -/
def row (i : ℕ) (k : Fin 1024) : Fin 8192 := ⟨1024 * (i % 8) + k.val, by omega⟩
def col (j : ℕ) (s : Fin 1024) : Fin 1024 := ⟨1024 * (j % 1) + s.val, by omega⟩

/-- The two blocks of a grid point. -/
abbrev xB (t : Fin cfg0.N) : S1024x1024.Idx → EReal := iblk m c 0 t
abbrev gB (t : Fin cfg0.N) : S1024x1024.Idx → EReal := gTile c t (V m c main_v1)

theorem xB_apply (t : Fin cfg0.N) (k : Fin 1024) (r : Fin 1024) : xB m c t (ix2 k r) = vA m c (ix2 (row t.val k) r) := by
  show V m c main_v0 (((cfg0.win 0).blk t).view.emb (ix2 k r)) = _
  rw [entry_a]
  refine congrArg (vA m c) (funext fun a => Fin.ext ?_)
  refine (win0_0.rect_emb_val t (ix2 k r) a).trans ?_
  match a with
  | ⟨0, _⟩ => show win0_0.index t 0 * 1024 + k.val = 1024 * (t.val % 8) + k.val; rw [(idx0 t).1]; omega
  | ⟨1, _⟩ => show win0_0.index t 1 * 1024 + r.val = r.val; rw [(idx0 t).2]; omega

theorem gB_apply (t : Fin cfg0.N) (k : Fin 1024) (s : Fin 1024) : gB m c t (ix2 k s) = vG m c (ix2 (row t.val k) (col (t.val / 8) s)) := by
  have ht := lt8 t
  have hb : (Ring.bk 8 t.val).val = t.val := Nat.mod_eq_of_lt ht
  show V m c main_v1 ((srcB0_0 (Ring.bk 8 t.val)).view.emb (ix2 k s)) = _
  rw [entry_g]
  refine congrArg (vG m c) (funext fun a => Fin.ext ?_)
  match a with
  | ⟨0, _⟩ => show 1024 * (Ring.bk 8 t.val).val + 1 * k.val = 1024 * (t.val % 8) + k.val; rw [hb]; omega
  | ⟨1, _⟩ => show 0 + 1 * s.val = 1024 * (t.val / 8 % 1) + s.val; omega

/-- After each point: the sum over the rows so far. -/
theorem outs_sum (r : Fin 1024) (s : Fin 1024) : ∀ (n : ℕ) (h : n < cfg0.N), (outsAt0 m c n h : S1024x1024.Idx → EReal) (ix2 r s)
    = ∑ q ∈ Finset.range (1024 * (n % 8) + 1024), part (fun q => vA m c (ix2 q r) * vG m c (ix2 q (col (n / 8) s))) q := by
  refine accumulate (p := 8) (b := 1024) (fun n h => (outsAt0 m c n h : S1024x1024.Idx → EReal) (ix2 r s))
    (fun j => part fun q => vA m c (ix2 q r) * vG m c (ix2 q (col j s))) fun n h => ?_
  have e := congrFun (outs_step m c ⟨n, h⟩) (ix2 r s)
  rw [more_apply] at e
  refine e.trans (congr (congrArg HAdd.hAdd ?_) (Finset.sum_congr rfl fun k _ => ?_))
  · by_cases h0 : n % 8 = 0
    · rw [if_pos h0, if_pos h0]
      exact Ideal.ofBits_zero_f32
    · rw [if_neg h0, if_neg h0]
  · exact (congr (congrArg HMul.hMul (xB_apply m c ⟨n, h⟩ k r)) (gB_apply m c ⟨n, h⟩ k s)).trans
      (part_fin (fun q => vA m c (ix2 q r) * vG m c (ix2 q (col (n / 8) s))) (row n k)).symm

theorem arr : (dats m 0 c).arrAt 1 cfg0.N = weights (vA m c) (vG m c) := by
  refine (dats m 0 c).arrAt_eq_of_covers 1 (weights (vA m c) (vG m c)) (by decide +kernel) fun t hf y => ?_
  have ht := lt8 t
  show (dats m 0 c).after 1 t y = _
  rw [after0_1]
  refine ((congrArg (outsAt0 m c t.val t.isLt) (eq_ix2 y)).trans (outs_sum m c (y 0) (y 1) t.val t.isLt)).trans ?_
  rw [(flush0_1 t).mp hf]
  refine (part_sum _).trans ?_
  have e0 : (((cfg0.win 1).blk t).view.emb y) 0 = y 0 := by
    apply Fin.ext; refine (win0_1.rect_emb_val t y 0).trans ?_; rw [(idx1 t).1]; show 0 * 1024 + (y 0).val = (y 0).val; omega
  have e1 : (((cfg0.win 1).blk t).view.emb y) 1 = col (t.val / 8) (y 1) := by
    apply Fin.ext; refine (win0_1.rect_emb_val t y 1).trans ?_; rw [(idx1 t).2]; show 0 * 1024 + (y 1).val = 1024 * (t.val / 8 % 1) + (y 1).val; omega
  unfold weights
  rw [e0, e1]

/-- The reference's product, entry by entry. -/
theorem reference_weights (A : S8192x1024.Idx → EReal) (G : S8192x1024.Idx → EReal) (h) :
    transpose S1024x1024 [1, 0] (Host.dotGeneral (F := Ideal) (φ₁ := .f32) (φ₂ := .f32) Cert.Reference9Ideal.dot_S8192x1024_S8192x1024_S1024x1024_0_0_1_1_n_n none G A) h
      = weights A G := by
  funext i
  pointwise
  exact Finset.sum_congr rfl fun q _ => mul_comm _ _

end Cert.Kernel9Ideal.Sum

namespace Cert.Proof.Products

open Cert.Kernel9Ideal.Sum

theorem square_weights : Cert.algebraic_Kernel9Ideal_Reference9Ideal := by
  intro m g m' g' _ hm
  refine ⟨fun c => weights (vA m c) (vG m c),
    (θ_run Cert.Kernel9Ideal.defs _ _).mono (fun r h c => ⟨(h c).1.trans (arr m c), (h c).2⟩) (Cert.Kernel9Ideal.Value.run_blocks m g),
    (θ_run Cert.Reference9Ideal.defs _ _).mono (fun r h c => ⟨(h c).1.trans ?_, (h c).2⟩) (Cert.Reference9Ideal.Value.run m' g')⟩
  rw [(hm c).1, (hm c).2]
  exact reference_weights (vA m c) (vG m c) _

end Cert.Proof.Products

end
-- ==== Proof.BrbD.lean ====
/-
  The input gradient of the second branch's product: each grid point takes one row block of the output's gradient
  through the whole weight.
-/
module

public import proofs.«01_k».proof.Proof.Slots
public import proofs.«01_k».proof.Proof.Gen.Kernel10Ideal.Value
public import proofs.«01_k».proof.Proof.Sums
public import proofs.«01_k».proof.Defs
public import Idealize.ShloMosaic.Lib.Claim
public import proofs.«01_k».proof.Proof.Gen.Reference10Ideal.Run
public import Idealize.ShloMosaic.Lib.Pipeline.ValueKit
public import Idealize.ShloMosaic.Lib.Pointwise
public import Idealize.ShloMosaic.Lib.ValueIdx
public import Idealize.ShloMosaic.Lib.KernelVsHost

@[expose] public section

noncomputable section

open Idealize.ShloMosaic Idealize.ShloMosaic.TcCoe Idealize.SL.Sem
open Idealize.ShloMosaic.Pipeline (Dat)

namespace Cert.Kernel10Ideal.Sum

open Cert.Kernel10Ideal Cert.Kernel10Ideal.Gen Cert.Proof.Products

variable {F : FTy → Type} [FloatOps F]
variable (m : (ℓ : Loc nD τ sig) → Buf (Elt F) ℓ)

theorem off9 : ∀ t : Fin grid0.N, k0_off9 (grid0.coords t) = ![(Ring.sl 2 t.val).val, 0, 0] := by decide +kernel

/-- One row block of the gradient through the weight, from zero. -/
def blockOut (g : FVec F S1024x1024 .bf16) (w : FVec F S2048x1024 .bf16) : FVec F S1024x2048 .f32 :=
  addf (k0_pay1 (F := F)) (matmul dot_S1024x1024_S2048x1024_S1024x2048_1_1_0_0_n_n none g w (constant S1024x2048 .f32 0x00000000#32))

theorem pay2_block (v : Vec F S1x1024x1024 .bf16) (w : Vec F S2048x1024 .bf16) :
    k0_pay2 (k0_pay1 (F := F)) v w = blockOut (shapeCast S1024x1024 v shapeCasts_S1x1024x1024_S1024x1024) w := by
  unfold k0_pay2 blockOut
  simp only [shapeCast_self]

/-- The block of the gradient that grid point `t` waits for. -/
abbrev gBlk (c : Dev nD) (t : Fin cfg0.N) (fh : HbBuf0 (F := F) c hbM0_0) : FVec F S1024x1024 .bf16 :=
  (srcB0_0 (Ring.bk 8 t.val)).view.read (Elt F) fh

theorem slot_gBlk (c : Dev nD) (t : Fin cfg0.N) (fh : HbBuf0 (F := F) c hbM0_0) (inb) (f) :
    shapeCast S1024x1024 (View.readAt (Elt F) scM0_0.view (Rect.unit (s := S2x1024x1024) (k0_off9 (grid0.coords t)) S1x1024x1024.size inb).toLoadRect
      ((rslot0_0 (Ring.sl 2 t.val)).view.writes (Elt F) f
        [⟨Rect.whole S1024x1024, ReadAs.same.apply (View.read (Elt F) (srcB0_0 (Ring.bk 8 t.val)).view fh)⟩])) shapeCasts_S1x1024x1024_S1024x1024
      = gBlk c t fh :=
  slot_read scM0_0 inb (inb_slot0_0 (Ring.sl 2 t.val)) (off9 t) squeezes_S1x1024x1024_S1024x1024 shapeCasts_S1x1024x1024_S1024x1024 f _

theorem out_A (c : Dev nD) (t : Fin cfg0.N) (a2 : Memref sig .tc .vmem S2048x1024 .bf16) (h2 : a2.IsWhole)
    (a4 : Memref sig .tc .vmem S1024x2048 .f32) (h4 : a4.IsWhole) (c0 : cond0_0 (grid0.coords t)) (c1 : cond0_1 (grid0.coords t)) (c2 : cond0_2 (grid0.coords t)) (c3 : cond0_3 (grid0.coords t)) (c4 : cond0_4 (grid0.coords t))
    (w : Vec F S2048x1024 .bf16) (fh : HbBuf0 (F := F) c hbM0_0) :
    out0_A_1 c t a2 h2 a4 h4 c0 c1 c2 c3 c4 w fh = blockOut (gBlk c t fh) w := by
  unfold out0_A_1
  rw [View.read_writes_eq_canon _ _ _ (cover0_A_1 c t a2 h2 a4 h4 c0 c1 c2 c3 c4 w fh)]
  unfold kernelRun0_A
  dsimp only
  sl_unfold_words
  rw [View.canon_cons_unit_zero (S := S1024x2048) Cert.Proof.Slots.zero_offset, View.readCov_unit_zero (S := S1024x2048) _ Cert.Proof.Slots.zero_offset, pay2_block]
  refine congr (congrArg blockOut ?_) ?_
  · exact slot_gBlk c t fh _ _
  · simp only [View.readAt_eq_ld, h2.read_unread, View.ld_unit_zero (S := S2048x1024) Cert.Proof.Slots.zero_offset]

theorem out_B (c : Dev nD) (t : Fin cfg0.N) (a2 : Memref sig .tc .vmem S2048x1024 .bf16) (h2 : a2.IsWhole)
    (a4 : Memref sig .tc .vmem S1024x2048 .f32) (h4 : a4.IsWhole) (c0 : ¬cond0_0 (grid0.coords t)) (c2 : cond0_2 (grid0.coords t)) (c3 : cond0_3 (grid0.coords t)) (c4 : cond0_4 (grid0.coords t))
    (w : Vec F S2048x1024 .bf16) (fh : HbBuf0 (F := F) c hbM0_0) :
    out0_B_1 c t a2 h2 a4 h4 c0 c2 c3 c4 w fh = blockOut (gBlk c t fh) w := by
  unfold out0_B_1
  rw [View.read_writes_eq_canon _ _ _ (cover0_B_1 c t a2 h2 a4 h4 c0 c2 c3 c4 w fh)]
  unfold kernelRun0_B
  dsimp only
  sl_unfold_words
  rw [View.canon_cons_unit_zero (S := S1024x2048) Cert.Proof.Slots.zero_offset, View.readCov_unit_zero (S := S1024x2048) _ Cert.Proof.Slots.zero_offset, pay2_block]
  refine congr (congrArg blockOut ?_) ?_
  · exact slot_gBlk c t fh _ _
  · simp only [View.readAt_eq_ld, h2.read_unread, View.ld_unit_zero (S := S2048x1024) Cert.Proof.Slots.zero_offset]

theorem out_C (c : Dev nD) (t : Fin cfg0.N) (a2 : Memref sig .tc .vmem S2048x1024 .bf16) (h2 : a2.IsWhole)
    (a4 : Memref sig .tc .vmem S1024x2048 .f32) (h4 : a4.IsWhole) (c0 : ¬cond0_0 (grid0.coords t)) (c2 : ¬cond0_2 (grid0.coords t)) (c4 : cond0_4 (grid0.coords t))
    (w : Vec F S2048x1024 .bf16) (fh : HbBuf0 (F := F) c hbM0_0) :
    out0_C_1 c t a2 h2 a4 h4 c0 c2 c4 w fh = blockOut (gBlk c t fh) w := by
  unfold out0_C_1
  rw [View.read_writes_eq_canon _ _ _ (cover0_C_1 c t a2 h2 a4 h4 c0 c2 c4 w fh)]
  unfold kernelRun0_C
  dsimp only
  sl_unfold_words
  rw [View.canon_cons_unit_zero (S := S1024x2048) Cert.Proof.Slots.zero_offset, View.readCov_unit_zero (S := S1024x2048) _ Cert.Proof.Slots.zero_offset, pay2_block]
  refine congr (congrArg blockOut ?_) ?_
  · exact slot_gBlk c t fh _ _
  · simp only [View.readAt_eq_ld, h2.read_unread, View.ld_unit_zero (S := S2048x1024) Cert.Proof.Slots.zero_offset]

/-- Every point leaves its row block's product. -/
theorem outs_eq (c : Dev nD) (t : Fin cfg0.N) :
    outsAt0 m c t.val t.isLt = blockOut (gBlk c t (V m c main_v1)) (iblk m c 0 t) := by
  have hN : t.val < 8 := Nat.lt_of_lt_of_eq t.isLt N_0
  by_cases h0 : t.val % 8 = 0
  · rw [outsAt0_A m c t h0 (by omega), out_A]
  · by_cases h2 : t.val < 7
    · rw [outsAt0_B m c t h0 h2, out_B]
    · rw [outsAt0_C m c t h0 h2, out_C]

section Values

variable (m : (ℓ : Loc nD τ sig) → Buf (Elt Ideal) ℓ)

theorem blockOut_apply (g : FVec Ideal S1024x1024 .bf16) (w : FVec Ideal S2048x1024 .bf16) (r : Fin 1024) (s : Fin 2048) :
    blockOut g w (ix2 r s) = ∑ k : Fin 1024, g (ix2 r k) * w (ix2 s k) := by
  unfold blockOut
  rw [matmul_zero_eq_dotGeneral]
  pointwise
  rw [show k0_pay1 (F := Ideal) (ix2 r s) = 0 from Ideal.ofBits_zero_f32]
  exact zero_add _

/-- The two arguments, as matrices of extended reals. -/
abbrev vW (c : Dev nD) : S2048x1024.Idx → EReal := m ((c : Thread nD τ).loc main_arg0)
abbrev vG (c : Dev nD) : S8192x1024.Idx → EReal := m ((c : Thread nD τ).loc main_arg1)

theorem entry_v0 (c : Dev nD) : V m c main_v0 = (vW m c : S2048x1024.Idx → EReal) := by
  unfold V hostOps0
  after_results
  rfl
theorem entry_v1 (c : Dev nD) : V m c main_v1 = (vG m c : S8192x1024.Idx → EReal) := by
  unfold V hostOps0
  after_results
  rfl

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)

theorem lt8 (t : Fin cfg0.N) : t.val < 8 := Nat.lt_of_lt_of_eq t.isLt N_0

/-- A row of the arrays by its row block and its place there. -/
def row (t : Fin cfg0.N) (r : Fin 1024) : Fin 8192 := ⟨1024 * t.val + r.val, by have := lt8 t; omega⟩

/-- The two blocks of a grid point. -/
abbrev wB (c : Dev nD) (t : Fin cfg0.N) : S2048x1024.Idx → EReal := iblk m c 0 t
abbrev gB (c : Dev nD) (t : Fin cfg0.N) : S1024x1024.Idx → EReal := gBlk c t (V m c main_v1)

theorem iblk_apply (c : Dev nD) (t : Fin cfg0.N) (s : Fin 2048) (k : Fin 1024) :
    wB m c t (ix2 s k) = vW m c (ix2 s k) := by
  show V m c main_v0 (((cfg0.win 0).blk t).view.emb (ix2 s k)) = _
  rw [entry_v0]
  refine congrArg (vW m c) (funext fun a => Fin.ext ?_)
  refine (win0_0.rect_emb_val t (ix2 s k) a).trans ?_
  match a with
  | ⟨0, _⟩ => show win0_0.index t 0 * 2048 + s.val = s.val; rw [(idx0 t).1]; omega
  | ⟨1, _⟩ => show win0_0.index t 1 * 1024 + k.val = k.val; rw [(idx0 t).2]; omega

theorem gBlk_apply (c : Dev nD) (t : Fin cfg0.N) (r : Fin 1024) (k : Fin 1024) :
    gB m c t (ix2 r k) = vG m c (ix2 (row t r) k) := by
  have ht := lt8 t
  show V m c main_v1 ((srcB0_0 (Ring.bk 8 t.val)).view.emb (ix2 r k)) = _
  rw [entry_v1]
  refine congrArg (vG m c) (funext fun a => Fin.ext ?_)
  match a with
  | ⟨0, _⟩ => show 1024 * (Ring.bk 8 t.val).val + 1 * r.val = 1024 * t.val + r.val
              rw [show (Ring.bk 8 t.val).val = t.val from Nat.mod_eq_of_lt ht]; omega
  | ⟨1, _⟩ => show 0 + 1 * k.val = k.val; omega

theorem outs_apply (c : Dev nD) (t : Fin cfg0.N) (r : Fin 1024) (s : Fin 2048) :
    (outsAt0 m c t.val t.isLt : S1024x2048.Idx → EReal) (ix2 r s) = ∑ k : Fin 1024, vG m c (ix2 (row t r) k) * vW m c (ix2 s k) := by
  rw [outs_eq, blockOut_apply]
  refine Finset.sum_congr rfl fun k _ => ?_
  exact congr (congrArg _ (gBlk_apply m c t r k)) (iblk_apply m c t s k)

theorem arr (c : Dev nD) : (dats m 0 c).arrAt 1 cfg0.N = inputs (vW m c) (vG m c) := by
  refine (dats m 0 c).arrAt_eq_of_covers 1 (inputs (vW m c) (vG m c)) (by decide +kernel) fun t hf y => ?_
  show (dats m 0 c).after 1 t y = _
  rw [after0_1]
  refine ((congrArg (outsAt0 m c t.val t.isLt) (eq_ix2 y)).trans (outs_apply m c t (y 0) (y 1))).trans ?_
  have e0 : (((cfg0.win 1).blk t).view.emb y) 0 = row t (y 0) := by
    apply Fin.ext; refine (win0_1.rect_emb_val t y 0).trans ?_; rw [(idx1 t).1]; show t.val * 1024 + (y 0).val = 1024 * t.val + (y 0).val; omega
  have e1 : (((cfg0.win 1).blk t).view.emb y) 1 = y 1 := by
    apply Fin.ext; refine (win0_1.rect_emb_val t y 1).trans ?_; rw [(idx1 t).2]; show 0 * 2048 + (y 1).val = (y 1).val; omega
  unfold inputs
  rw [e0, e1]

/-- The reference's product, entry by entry. -/
theorem reference_inputs (W : S2048x1024.Idx → EReal) (G : S8192x1024.Idx → EReal) :
    Host.dotGeneral (F := Ideal) (φ₁ := .f32) (φ₂ := .f32) Cert.Reference10Ideal.dot_S8192x1024_S2048x1024_S8192x2048_1_1_0_0_n_n none G W
      = inputs W G := by
  funext i
  rw [eq_ix2 i]
  pointwise
  rfl

end Values

end Cert.Kernel10Ideal.Sum

namespace Cert.Proof.Products

open Cert.Kernel10Ideal.Sum

theorem brb_inputs : Cert.algebraic_Kernel10Ideal_Reference10Ideal := by
  intro m g m' g' _ hm
  refine ⟨fun c => inputs (vW m c) (vG m c),
    (θ_run Cert.Kernel10Ideal.defs _ _).mono (fun r h c => ⟨(h c).1.trans (arr m c), (h c).2⟩) (Cert.Kernel10Ideal.Value.run_blocks m g),
    (θ_run Cert.Reference10Ideal.defs _ _).mono (fun r h c => ⟨(h c).1.trans ?_, (h c).2⟩) (Cert.Reference10Ideal.Value.run m' g')⟩
  rw [(hm c).1, (hm c).2]
  exact reference_inputs (vW m c) (vG m c)

end Cert.Proof.Products
-- ==== Proof.BrbW.lean ====
/-
  The weight gradient of the second branch's product: each column tile is gathered over sixteen row tiles.
-/
module

public import proofs.«01_k».proof.Proof.Slots
public import proofs.«01_k».proof.Proof.Gen.Kernel11Ideal.Value
public import proofs.«01_k».proof.Proof.Sums
public import proofs.«01_k».proof.Defs
public import Idealize.ShloMosaic.Lib.Claim
public import proofs.«01_k».proof.Proof.Gen.Reference11Ideal.Run
public import Idealize.ShloMosaic.Lib.Pipeline.ValueKit
public import Idealize.ShloMosaic.Lib.KernelVsHost

@[expose] public section

noncomputable section

open Idealize.ShloMosaic Idealize.ShloMosaic.TcCoe Idealize.SL.Sem
open Idealize.ShloMosaic.Pipeline (Dat)

namespace Cert.Kernel11Ideal.Sum

open Cert.Kernel11Ideal Cert.Kernel11Ideal.Gen Cert.Proof.Products

theorem slot : ∀ t : Fin grid0.N, k0_off9 (grid0.coords t) = ![(Ring.sl 2 t.val).val, 0, 0] := by decide +kernel

section Body

variable {F : FTy → Type} [FloatOps F] (c : Dev nD) (t : Fin cfg0.N) (fh : HbBuf0 (F := F) c hbM0_0)

/-- The tile of the output gradient that grid point `t` waits for. -/
abbrev gTile : FVec F S512x512 .bf16 := (srcB0_0 (Ring.bk 32 t.val)).view.read (Elt F) fh

/-- The accumulator after one more row tile. -/
def more (acc : FVec F S2048x512 .f32) (x : FVec F S512x2048 .bf16) (g : FVec F S512x512 .bf16) : FVec F S2048x512 .f32 :=
  addf acc (matmul dot_S512x2048_S512x512_S2048x512_0_0_1_1_n_n none x g (constant S2048x512 .f32 0x00000000#32))

theorem pay2_more (acc : Vec F S2048x512 .f32) (x : Vec F S512x2048 .bf16) (v : Vec F S1x512x512 .bf16) :
    k0_pay2 acc x v = more acc x (shapeCast S512x512 v shapeCasts_S1x512x512_S512x512) := by
  unfold k0_pay2 more
  simp only [shapeCast_self]

variable (a2 : Memref sig .tc .vmem S512x2048 .bf16) (h2 : a2.IsWhole) (a4 : Memref sig .tc .vmem S2048x512 .f32) (h4 : a4.IsWhole)
  (x : Vec F S512x2048 .bf16)

include h2 in
/-- What one more row tile makes, from what the body reads. -/
theorem more_reads (acc acc' : FVec F S2048x512 .f32) (h : acc = acc') (inb inb' f) :
    k0_pay2 acc (View.readAt (Elt F) a2.view (Rect.unit (s := S512x2048) ![0, 0] S512x2048.size inb').toLoadRect (h2.unread x))
      (View.readAt (Elt F) scM0_0.view (Rect.unit (s := S2x512x512) (k0_off9 (grid0.coords t)) S1x512x512.size inb).toLoadRect
        ((rslot0_0 (Ring.sl 2 t.val)).view.writes (Elt F) f [⟨Rect.whole S512x512, ReadAs.same.apply (gTile c t fh)⟩])) = more acc' x (gTile c t fh) := by
  rw [pay2_more, h]
  refine congr (congrArg (more acc') ?_) ?_
  · simp only [View.readAt_eq_ld, h2.read_unread, View.ld_unit_zero (S := S512x2048) Cert.Proof.Slots.zero_offset]
  · exact slot_read scM0_0 inb (inb_slot0_0 (Ring.sl 2 t.val)) (slot t) squeezes_S1x512x512_S512x512 shapeCasts_S1x512x512_S512x512 f _

theorem out_A (c0 : cond0_0 (grid0.coords t)) (c1 : cond0_1 (grid0.coords t)) (c2 : cond0_2 (grid0.coords t)) (c3 : cond0_3 (grid0.coords t)) (c4 : cond0_4 (grid0.coords t)) :
    out0_A_1 c t a2 h2 a4 h4 c0 c1 c2 c3 c4 x fh = more (k0_pay1 (F := F)) x (gTile c t fh) := by
  unfold out0_A_1
  rw [View.read_writes_eq_canon _ _ _ (cover0_A_1 c t a2 h2 a4 h4 c0 c1 c2 c3 c4 x fh)]
  unfold kernelRun0_A
  dsimp only
  sl_unfold_words
  rw [View.canon_cons_unit_zero (S := S2048x512) Cert.Proof.Slots.zero_offset, View.readCov_unit_zero (S := S2048x512) _ Cert.Proof.Slots.zero_offset]
  exact more_reads c t fh a2 h2 x _ _ rfl _ _ _

theorem out_C (c0 : ¬cond0_0 (grid0.coords t)) (c2 : cond0_2 (grid0.coords t)) (c3 : cond0_3 (grid0.coords t)) (c4 : cond0_4 (grid0.coords t)) :
    out0_C_1 c t a2 h2 a4 h4 c0 c2 c3 c4 x fh = more (k0_pay1 (F := F)) x (gTile c t fh) := by
  unfold out0_C_1
  rw [View.read_writes_eq_canon _ _ _ (cover0_C_1 c t a2 h2 a4 h4 c0 c2 c3 c4 x fh)]
  unfold kernelRun0_C
  dsimp only
  sl_unfold_words
  rw [View.canon_cons_unit_zero (S := S2048x512) Cert.Proof.Slots.zero_offset, View.readCov_unit_zero (S := S2048x512) _ Cert.Proof.Slots.zero_offset]
  exact more_reads c t fh a2 h2 x _ _ rfl _ _ _

variable (xo : Vec F S2048x512 .f32)

theorem out_B (c0 : ¬cond0_0 (grid0.coords t)) (c2 : cond0_2 (grid0.coords t)) (c3 : cond0_3 (grid0.coords t)) (c4 : ¬cond0_4 (grid0.coords t)) :
    out0_B_1 c t a2 h2 a4 h4 c0 c2 c3 c4 x xo fh = more xo x (gTile c t fh) := by
  unfold out0_B_1
  rw [View.read_writes_eq_canon _ _ _ (cover0_B_1 c t a2 h2 a4 h4 c0 c2 c3 c4 x xo fh)]
  unfold kernelRun0_B
  dsimp only
  rw [View.canon_unit_zero Cert.Proof.Slots.zero_offset]
  sl_unfold_words
  refine more_reads c t fh a2 h2 x _ _ ?_ _ _ _
  simp only [View.readAt_eq_ld, h4.read_unread, View.ld_unit_zero (S := S2048x512) Cert.Proof.Slots.zero_offset]

theorem out_D (c0 : ¬cond0_0 (grid0.coords t)) (c2 : ¬cond0_2 (grid0.coords t)) (c4 : ¬cond0_4 (grid0.coords t)) :
    out0_D_1 c t a2 h2 a4 h4 c0 c2 c4 x xo fh = more xo x (gTile c t fh) := by
  unfold out0_D_1
  rw [View.read_writes_eq_canon _ _ _ (cover0_D_1 c t a2 h2 a4 h4 c0 c2 c4 x xo fh)]
  unfold kernelRun0_D
  dsimp only
  rw [View.canon_unit_zero Cert.Proof.Slots.zero_offset]
  sl_unfold_words
  refine more_reads c t fh a2 h2 x _ _ ?_ _ _ _
  simp only [View.readAt_eq_ld, h4.read_unread, View.ld_unit_zero (S := S2048x512) Cert.Proof.Slots.zero_offset]

/-- After each point: the accumulator of the point before, or zero at the first row tile, and one row tile more. -/
theorem outs_step (m : (ℓ : Loc nD τ sig) → Buf (Elt F) ℓ) (c : Dev nD) (t : Fin cfg0.N) :
    outsAt0 m c t.val t.isLt = more (if t.val % 16 = 0 then k0_pay1 (F := F) else outsAt0 m c (t.val - 1) (Nat.lt_of_le_of_lt (Nat.sub_le _ _) t.isLt))
      (iblk m c 0 t) (gTile c t (V m c main_v1)) := by
  have hN : t.val < 32 := Nat.lt_of_lt_of_eq t.isLt N_0
  by_cases h4 : t.val % 16 = 0
  · rw [if_pos h4]
    by_cases h0 : t.val % 32 = 0
    · rw [outsAt0_A m c t h0 (by omega) (by omega) h4, out_A]
    · rw [outsAt0_C m c t h0 (by omega) (by omega) h4, out_C]
  · rw [if_neg h4]
    by_cases h2 : t.val < 31
    · rw [outsAt0_B m c t (by omega) h2 h2 h4, out_B]
    · rw [outsAt0_D m c t (by omega) h2 h4, out_D]

end Body

variable (m : (ℓ : Loc nD τ sig) → Buf (Elt Ideal) ℓ) (c : Dev nD)

theorem more_apply (acc : FVec Ideal S2048x512 .f32) (x : FVec Ideal S512x2048 .bf16) (g : FVec Ideal S512x512 .bf16) (r : Fin 2048) (s : Fin 512) :
    more acc x g (ix2 r s) = acc (ix2 r s) + ∑ k : Fin 512, x (ix2 k r) * g (ix2 k s) := by
  unfold more
  rw [matmul_zero_eq_dotGeneral]
  pointwise

/-- The two arguments, as matrices of extended reals. -/
abbrev vA : S8192x2048.Idx → EReal := m ((c : Thread nD τ).loc main_arg0)
abbrev vG : S8192x1024.Idx → EReal := m ((c : Thread nD τ).loc main_arg1)

theorem entry_a : V m c main_v0 = (vA m c : S8192x2048.Idx → EReal) := by
  unfold V hostOps0
  after_results
  rfl
theorem entry_g : V m c main_v1 = (vG m c : S8192x1024.Idx → EReal) := by
  unfold V hostOps0
  after_results
  rfl

theorem idx0 : ∀ t : Fin cfg0.N, win0_0.index t 0 = t.val % 16 ∧ win0_0.index t 1 = 0 :=
  (by decide +kernel : ∀ t : Fin grid0.N, win0_0.index t 0 = t.val % 16 ∧ win0_0.index t 1 = 0)
theorem idx1 : ∀ t : Fin cfg0.N, win0_1.index t 0 = 0 ∧ win0_1.index t 1 = t.val / 16 :=
  (by decide +kernel : ∀ t : Fin grid0.N, win0_1.index t 0 = 0 ∧ win0_1.index t 1 = t.val / 16)

theorem lt32 (t : Fin cfg0.N) : t.val < 32 := Nat.lt_of_lt_of_eq t.isLt N_0

/-- A row and a column of the arrays by their tile and their place there. -/
def row (i : ℕ) (k : Fin 512) : Fin 8192 := ⟨512 * (i % 16) + k.val, by omega⟩
def col (j : ℕ) (s : Fin 512) : Fin 1024 := ⟨512 * (j % 2) + s.val, by omega⟩

/-- The two blocks of a grid point. -/
abbrev xB (t : Fin cfg0.N) : S512x2048.Idx → EReal := iblk m c 0 t
abbrev gB (t : Fin cfg0.N) : S512x512.Idx → EReal := gTile c t (V m c main_v1)

theorem xB_apply (t : Fin cfg0.N) (k : Fin 512) (r : Fin 2048) : xB m c t (ix2 k r) = vA m c (ix2 (row t.val k) r) := by
  show V m c main_v0 (((cfg0.win 0).blk t).view.emb (ix2 k r)) = _
  rw [entry_a]
  refine congrArg (vA m c) (funext fun a => Fin.ext ?_)
  refine (win0_0.rect_emb_val t (ix2 k r) a).trans ?_
  match a with
  | ⟨0, _⟩ => show win0_0.index t 0 * 512 + k.val = 512 * (t.val % 16) + k.val; rw [(idx0 t).1]; omega
  | ⟨1, _⟩ => show win0_0.index t 1 * 2048 + r.val = r.val; rw [(idx0 t).2]; omega

theorem gB_apply (t : Fin cfg0.N) (k : Fin 512) (s : Fin 512) : gB m c t (ix2 k s) = vG m c (ix2 (row t.val k) (col (t.val / 16) s)) := by
  have ht := lt32 t
  have hb : (Ring.bk 32 t.val).val = t.val := Nat.mod_eq_of_lt ht
  show V m c main_v1 ((srcB0_0 (Ring.bk 32 t.val)).view.emb (ix2 k s)) = _
  rw [entry_g]
  refine congrArg (vG m c) (funext fun a => Fin.ext ?_)
  match a with
  | ⟨0, _⟩ => show 512 * ((Ring.bk 32 t.val).val % 16) + 1 * k.val = 512 * (t.val % 16) + k.val; rw [hb]; omega
  | ⟨1, _⟩ => show 512 * ((Ring.bk 32 t.val).val / 16) + 1 * s.val = 512 * (t.val / 16 % 2) + s.val; rw [hb]; omega

/-- After each point: the sum over the rows so far. -/
theorem outs_sum (r : Fin 2048) (s : Fin 512) : ∀ (n : ℕ) (h : n < cfg0.N), (outsAt0 m c n h : S2048x512.Idx → EReal) (ix2 r s)
    = ∑ q ∈ Finset.range (512 * (n % 16) + 512), part (fun q => vA m c (ix2 q r) * vG m c (ix2 q (col (n / 16) s))) q := by
  refine accumulate (p := 16) (b := 512) (fun n h => (outsAt0 m c n h : S2048x512.Idx → EReal) (ix2 r s))
    (fun j => part fun q => vA m c (ix2 q r) * vG m c (ix2 q (col j s))) fun n h => ?_
  have e := congrFun (outs_step m c ⟨n, h⟩) (ix2 r s)
  rw [more_apply] at e
  refine e.trans (congr (congrArg HAdd.hAdd ?_) (Finset.sum_congr rfl fun k _ => ?_))
  · by_cases h0 : n % 16 = 0
    · rw [if_pos h0, if_pos h0]
      exact Ideal.ofBits_zero_f32
    · rw [if_neg h0, if_neg h0]
  · exact (congr (congrArg HMul.hMul (xB_apply m c ⟨n, h⟩ k r)) (gB_apply m c ⟨n, h⟩ k s)).trans
      (part_fin (fun q => vA m c (ix2 q r) * vG m c (ix2 q (col (n / 16) s))) (row n k)).symm

theorem arr : (dats m 0 c).arrAt 1 cfg0.N = weights (vA m c) (vG m c) := by
  refine (dats m 0 c).arrAt_eq_of_covers 1 (weights (vA m c) (vG m c)) (by decide +kernel) fun t hf y => ?_
  have ht := lt32 t
  show (dats m 0 c).after 1 t y = _
  rw [after0_1]
  refine ((congrArg (outsAt0 m c t.val t.isLt) (eq_ix2 y)).trans (outs_sum m c (y 0) (y 1) t.val t.isLt)).trans ?_
  rw [(flush0_1 t).mp hf]
  refine (part_sum _).trans ?_
  have e0 : (((cfg0.win 1).blk t).view.emb y) 0 = y 0 := by
    apply Fin.ext; refine (win0_1.rect_emb_val t y 0).trans ?_; rw [(idx1 t).1]; show 0 * 2048 + (y 0).val = (y 0).val; omega
  have e1 : (((cfg0.win 1).blk t).view.emb y) 1 = col (t.val / 16) (y 1) := by
    apply Fin.ext; refine (win0_1.rect_emb_val t y 1).trans ?_; rw [(idx1 t).2]; show t.val / 16 * 512 + (y 1).val = 512 * (t.val / 16 % 2) + (y 1).val; omega
  unfold weights
  rw [e0, e1]

/-- The reference's product, entry by entry. -/
theorem reference_weights (A : S8192x2048.Idx → EReal) (G : S8192x1024.Idx → EReal) (h) :
    transpose S2048x1024 [1, 0] (Host.dotGeneral (F := Ideal) (φ₁ := .f32) (φ₂ := .f32) Cert.Reference11Ideal.dot_S8192x1024_S8192x2048_S1024x2048_0_0_1_1_n_n none G A) h
      = weights A G := by
  funext i
  pointwise
  exact Finset.sum_congr rfl fun q _ => mul_comm _ _

end Cert.Kernel11Ideal.Sum

namespace Cert.Proof.Products

open Cert.Kernel11Ideal.Sum

theorem brb_weights : Cert.algebraic_Kernel11Ideal_Reference11Ideal := by
  intro m g m' g' _ hm
  refine ⟨fun c => weights (vA m c) (vG m c),
    (θ_run Cert.Kernel11Ideal.defs _ _).mono (fun r h c => ⟨(h c).1.trans (arr m c), (h c).2⟩) (Cert.Kernel11Ideal.Value.run_blocks m g),
    (θ_run Cert.Reference11Ideal.defs _ _).mono (fun r h c => ⟨(h c).1.trans ?_, (h c).2⟩) (Cert.Reference11Ideal.Value.run m' g')⟩
  rw [(hm c).1, (hm c).2]
  exact reference_weights (vA m c) (vG m c) _

end Cert.Proof.Products

end
-- ==== Proof.Behind.lean ====
module

public import Idealize.ShloMosaic.Lib.Ring.WriteBehind
public import Idealize.ShloMosaic.Lib.Pipeline.FrameBody
public import Idealize.ShloMosaic.Lib.Pipeline.FrameValue
public import Idealize.ShloMosaic.Lib.Tactic
public import Idealize.ShloMosaic.Lib.ViewIndex
public import Idealize.ShloMosaic.Lib.Pipeline.ValueKit

/-! # Tiles written behind

A step makes one tile in one of two slots and starts its copy out; the copy is waited two steps later, before the slot is
filled again, and the last step waits for the last two. Here for any number of steps, any tile, and whatever fills a slot. -/

@[expose] public section

set_option maxRecDepth 16384

noncomputable section

namespace Cert.Proof.Behind

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Two slots with their counters, the tiles of `N` steps, and the tile a wait names. -/
structure Places (sig : RefSig) (N : ℕ) (T : Shape) where
  slot : Fin 2 → Memref sig .tc .vmem T .f32
  cell : Fin 2 → DmaSem sig
  tile : Fin N → Memref sig .tc .hbm T .f32
  origin : Memref sig .tc .hbm T .f32
  slot_exact : ∀ s, (slot s).view.WordExact
  tile_exact : ∀ b, (tile b).view.WordExact
  origin_exact : origin.view.WordExact
  same : ∀ b s, (tile b).view.amount (.dma (cell s)) = origin.view.dmaCredit
  positive : 0 < origin.view.dmaCredit

variable {F : FTy → Type} [FloatOps F] {nD : Nat} {τ : Topo} {sig : RefSig} {Λ₀ : Labels} {N : ℕ} [NeZero N] {T : Shape}

local notation "𝕄" => MT nD τ sig Unit (Elt F) ℕ (Pipeline.UD sig nD τ) ℕ

variable (P : Places sig N T)

/-- Waiting for slot `s`'s copy, -/
def drain (s : Fin 2) : Prog (TpuEff nD τ sig (Elt F) Λ₀ .tc) PUnit :=
  Prog.lift (.waitDma2 (P.cell s) (P.slot s) P.origin (P.slot_exact s) P.origin_exact)

/-- and starting its copy to step `b`'s tile. -/
def send (b : Fin N) (s : Fin 2) : Prog (TpuEff nD τ sig (Elt F) Λ₀ .tc) PUnit :=
  Prog.lift (.enqueueDma (P.slot s) (.here (P.tile b)) (.dma (P.cell s)) (P.slot_exact s) (P.tile_exact b) ⟨Or.inl rfl, trivial⟩)

/-- A step `t` of `N` that fills by `fill`. -/
def step (fill : Fin 2 → Prog (TpuEff nD τ sig (Elt F) Λ₀ .tc) PUnit) (t : ℕ) : Prog (TpuEff nD τ sig (Elt F) Λ₀ .tc) PUnit :=
  if 2 ≤ t then
    if t + 1 = N then
      drain P (Ring.sl 2 t) >>= fun _ => fill (Ring.sl 2 t) >>= fun _ => send P (Ring.bk N t) (Ring.sl 2 t)
        >>= fun _ => drain P (Ring.sl 2 t) >>= fun _ => drain P (Ring.sl 2 (t + 1))
    else drain P (Ring.sl 2 t) >>= fun _ => fill (Ring.sl 2 t) >>= fun _ => send P (Ring.bk N t) (Ring.sl 2 t)
  else fill (Ring.sl 2 t) >>= fun _ => send P (Ring.bk N t) (Ring.sl 2 t)

abbrev cellNo (s : Fin 2) : SemLoc sig := SemLoc.dma (P.cell s)

/-- Contents of memref `M`'s buffer on core `c`. -/
abbrev Held (c : Dev nD) {sp : Space} {S : Shape} {e : EltTy} (M : Memref sig .tc sp S e) : Type := Buf (Elt F) (M.view.loc (c : Thread nD τ))

section Ring

variable (defs₀ : Defs nD τ sig (Elt F) Λ₀) (c : Dev nD) (G : (b : Ref sig .tc) → Buf (Elt F) ((c : Thread nD τ).loc b))

abbrev slotHeld (s : Fin 2) (f : Held (F := F) (τ := τ) c (P.slot s)) : sProp 𝕄 := (P.slot s).view.loc (c : Thread nD τ) ↦[(P.slot s).view.set]{fullShare} f
abbrev tileHeld (b : Fin N) (f : Held (F := F) (τ := τ) c (P.tile b)) : sProp 𝕄 := (P.tile b).view.loc (c : Thread nD τ) ↦[(P.tile b).view.set]{fullShare} f
abbrev cellZero (s : Fin 2) : sProp 𝕄 := semVal ((c : Thread nD τ), cellNo P s) 0

/-- A slot at rest, a step's tile not yet written and written, a slot whose copy is under way. -/
abbrev free (s : Fin 2) : sProp 𝕄 := iprop(cellZero P c s ∗ ∃ f, slotHeld P c s f)
abbrev ahead (b : Fin N) : sProp 𝕄 := iprop(∃ f, tileHeld P c b f)
abbrev behind (b : Fin N) : sProp 𝕄 := tileHeld P c b (G (P.tile b).view.ref)
abbrev underWay (s : Fin 2) (b : Fin N) : sProp 𝕄 :=
  iprop(∃ f, Transfers.Flight countersEmb (c : Thread nD τ) (cellNo P s) default P.origin.view.dmaCredit iprop(behind P c G b ∗ slotHeld P c s f))

/-- The ring before step `k`. -/
def ringAt (k : ℕ) : sProp 𝕄 := Ring.AtBΦ 2 (free P c) (underWay P c G) (ahead P c) (behind P c G) k

/-- A slot that holds the tile `v`. -/
abbrev filled (s : Fin 2) (v : Vec F T .f32) : sProp 𝕄 := iprop(∃ f, ⌜(P.slot s).view.read (Elt F) f = v⌝ ∗ slotHeld P c s f)

/-- Waiting for a copy gives back the slot and the tile it wrote. -/
theorem drain_run (s : Fin 2) (b : Fin N) (Q : Waits sig Unit) (K : PUnit → sProp 𝕄) :
    iprop(underWay P c G s b ∗ owes (c : Thread nD τ) 0 Q ∗ (iprop(free P c s ∗ behind P c G b ∗ ∃ Q', owes (c : Thread nD τ) 0 Q') -∗ K ⟨⟩))
      ⊢ wp frame (wpE defs₀ Variants.none c none) Set.univ (drain P s) K := by
  unfold drain
  iintro ⟨⟨%f, Hf⟩, HW, Hk⟩
  sl_exec
  sl_step
  iapply Hk
  isplitl [Hf Hf_src]
  · isplitl [Hf]; · iexact Hf
    iexists f; iexact Hf_src
  isplitl [Hf_dst]; · iexact Hf_dst
  iexists _; iexact HW

/-- A tile whose buffer holds what was written to it holds `G`. -/
theorem written {b : Fin N} {v : Vec F T .f32} (g : Held (F := F) (τ := τ) c (P.tile b)) (hG : (P.tile b).view.read (Elt F) (G (P.tile b).view.ref) = v) :
    tileHeld P c b ((P.tile b).view.writes (Elt F) g [⟨Rect.whole T, v⟩]) = behind P c G b := by
  refine pointsTo_congr fun i hi => ?_
  obtain ⟨x, rfl⟩ := View.exists_emb_of_mem_set (P.tile b).view hi
  refine View.eq_of_read_eq ?_
  rw [View.read_writes_whole, hG]

/-- Starting the copy of a filled slot. -/
theorem send_run (s : Fin 2) (b : Fin N) (v : Vec F T .f32) (hG : (P.tile b).view.read (Elt F) (G (P.tile b).view.ref) = v) (K : PUnit → sProp 𝕄) :
    iprop(cellZero P c s ∗ filled P c s v ∗ ahead P c b ∗ (underWay P c G s b -∗ K ⟨⟩))
      ⊢ wp frame (wpE defs₀ Variants.none c none) Set.univ (send P b s) K := by
  have hp : 0 < (P.tile b).view.amount (cellNo P s) := by rw [P.same]; exact P.positive
  unfold send
  iintro ⟨Hc, ⟨%f, %hf, Hs⟩, ⟨%g, Ht⟩, Hk⟩
  sl_exec
  sl_step
  iapply Hk
  unfold send_run.sl.dma0
  rw [hf, P.same]
  iexists f
  iapply Transfers.Flight_mono countersEmb (c : Thread nD τ) (sep_mono_left (.of_eq (written P c G g hG))) $$ Hc

section Step

variable (t : ℕ) (fill : Fin 2 → Prog (TpuEff nD τ sig (Elt F) Λ₀ .tc) PUnit) (R : sProp (MT nD τ sig Unit (Elt F) ℕ (Pipeline.UD sig nD τ) ℕ)) (v : Vec F T .f32)
  (hfill : ∀ (s : Fin 2) (K : PUnit → sProp (MT nD τ sig Unit (Elt F) ℕ (Pipeline.UD sig nD τ) ℕ)), iprop(R ∗ (∃ f, slotHeld P c s f) ∗ (iprop(R ∗ filled P c s v) -∗ K ⟨⟩))
    ⊢ wp frame (wpE defs₀ Variants.none c none) Set.univ (fill s) K)
  (hG : (P.tile (Ring.bk N t)).view.read (Elt F) (G (P.tile (Ring.bk N t)).view.ref) = v)

include hfill hG

/-- Filling a slot at rest and sending it. -/
theorem make_run (s : Fin 2) (K : PUnit → sProp 𝕄) :
    iprop(R ∗ free P c s ∗ ahead P c (Ring.bk N t)
        ∗ (iprop(R ∗ underWay P c G s (Ring.bk N t)) -∗ K ⟨⟩))
      ⊢ wp frame (wpE defs₀ Variants.none c none) Set.univ (fill s >>= fun _ => send P (Ring.bk N t) s) K := by
  rw [wp_bind]
  iintro ⟨Ha, ⟨Hc, Hs⟩, Ht, Hk⟩
  iapply (hfill s _)
  isplitl [Ha]; · iexact Ha
  isplitl [Hs]; · iexact Hs
  iintro ⟨Ha, Hs⟩
  iapply (send_run P defs₀ c G s (Ring.bk N t) v hG K)
  isplitl [Hc]; · iexact Hc
  isplitl [Hs]; · iexact Hs
  isplitl [Ht]; · iexact Ht
  iintro Hf
  iapply Hk
  isplitl [Ha]; · iexact Ha
  iexact Hf

/-- The body takes the ring one step on. -/
theorem step_run (h : t < N) (hN : 2 < N) (Q : Waits sig Unit) (K : PUnit → sProp 𝕄) :
    iprop(ringAt P c G t ∗ R ∗ owes (c : Thread nD τ) 0 Q
        ∗ (iprop(ringAt P c G (t + 1) ∗ R
            ∗ (∃ Q', owes (c : Thread nD τ) 0 Q')) -∗ K ⟨⟩))
      ⊢ wp frame (wpE defs₀ Variants.none c none) Set.univ (step P fill t) K := by
  unfold ringAt step
  by_cases h2 : 2 ≤ t
  · by_cases hl : t + 1 = N
    · rw [if_pos h2, if_pos hl, Ring.AtBΦ_lt _ _ _ _ _ t (by omega), Ring.AtB22_here_last _ _ _ _ t h2 hl,
        Ring.AtBΦ_end _ _ _ _ _ (t + 1) hl, Ring.AtB22_drained _ _ t h2 hl, wp_bind]
      iintro ⟨⟨Hh, HB, Hw2, Hw1⟩, Ha, HW, Hk⟩
      iapply (drain_run P defs₀ c G _ _ Q _)
      isplitl [Hw2]; · iexact Hw2
      isplitl [HW]; · iexact HW
      iintro ⟨Hf, Hb2, ⟨%Q₁, HW⟩⟩
      rw [← bind_assoc, wp_bind]
      iapply (make_run P defs₀ c G t fill R v hfill hG _ _)
      isplitl [Ha]; · iexact Ha
      isplitl [Hf]; · iexact Hf
      isplitl [Hh]; · iexact Hh
      iintro ⟨Ha, Hf⟩
      rw [wp_bind]
      iapply (drain_run P defs₀ c G _ _ Q₁ _)
      isplitl [Hf]; · iexact Hf
      isplitl [HW]; · iexact HW
      iintro ⟨Hf, Hb, ⟨%Q₂, HW⟩⟩
      iapply (drain_run P defs₀ c G _ _ Q₂ _)
      isplitl [Hw1]; · iexact Hw1
      isplitl [HW]; · iexact HW
      iintro ⟨Hf1, Hb1, HW⟩
      iapply Hk
      isplitl [Hf Hf1 Hb Hb1 Hb2 HB]
      · isplitl [Hb Hb1 Hb2 HB]
        · isplitl [Hb]; · iexact Hb
          isplitl [Hb2]; · iexact Hb2
          isplitl [Hb1]; · iexact Hb1
          iexact HB
        isplitl [Hf]; · iexact Hf
        iexact Hf1
      isplitl [Ha]; · iexact Ha
      iexact HW
    · rw [if_pos h2, if_neg hl, Ring.AtBΦ_lt _ _ _ _ _ t (by omega), Ring.AtB22_here _ _ _ _ t h2 (by omega),
        Ring.AtBΦ_lt _ _ _ _ _ (t + 1) (by omega), Ring.AtB22_next _ _ _ _ t h2 (by omega), wp_bind]
      iintro ⟨⟨⟨Hh, HA⟩, HB, Hw2, Hw1⟩, Ha, HW, Hk⟩
      iapply (drain_run P defs₀ c G _ _ Q _)
      isplitl [Hw2]; · iexact Hw2
      isplitl [HW]; · iexact HW
      iintro ⟨Hf, Hb2, HW⟩
      iapply (make_run P defs₀ c G t fill R v hfill hG _ _)
      isplitl [Ha]; · iexact Ha
      isplitl [Hf]; · iexact Hf
      isplitl [Hh]; · iexact Hh
      iintro ⟨Ha, Hf⟩
      iapply Hk
      isplitl [HA HB Hb2 Hw1 Hf]
      · isplitl [HA]; · iexact HA
        isplitl [HB Hb2]
        · isplitl [Hb2]; · iexact Hb2
          iexact HB
        isplitl [Hw1]; · iexact Hw1
        iexact Hf
      isplitl [Ha]; · iexact Ha
      iexact HW
  · rw [if_neg h2]
    by_cases h0 : t = 0
    · rw [Ring.AtBΦ_lt _ _ _ _ _ t (by omega), Ring.AtB2_zero' 2 _ _ _ _ t h0,
        Ring.AtBΦ_lt _ _ _ _ _ (t + 1) (by omega), Ring.AtB22_next_zero' _ _ _ _ t h0]
      iintro ⟨⟨⟨Hh, HA⟩, Hf, Hf1⟩, Ha, HW, Hk⟩
      iapply (make_run P defs₀ c G t fill R v hfill hG _ _)
      isplitl [Ha]; · iexact Ha
      isplitl [Hf]; · iexact Hf
      isplitl [Hh]; · iexact Hh
      iintro ⟨Ha, Hf⟩
      iapply Hk
      isplitl [HA Hf1 Hf]
      · isplitl [HA]; · iexact HA
        isplitl [Hf1]; · iexact Hf1
        iexact Hf
      isplitl [Ha]; · iexact Ha
      iexists Q; iexact HW
    · rw [Ring.AtBΦ_lt _ _ _ _ _ t (by omega), Ring.AtB22_one' _ _ _ _ t (by omega) (by omega),
        Ring.AtBΦ_lt _ _ _ _ _ (t + 1) (by omega), Ring.AtB22_next_one' _ _ _ _ t (by omega)]
      iintro ⟨⟨⟨Hh, HA⟩, Hf, Hw1⟩, Ha, HW, Hk⟩
      iapply (make_run P defs₀ c G t fill R v hfill hG _ _)
      isplitl [Ha]; · iexact Ha
      isplitl [Hf]; · iexact Hf
      isplitl [Hh]; · iexact Hh
      iintro ⟨Ha, Hf⟩
      iapply Hk
      isplitl [HA Hw1 Hf]
      · isplitl [HA]; · iexact HA
        isplitl [Hw1]; · iexact Hw1
        iexact Hf
      isplitl [Ha]; · iexact Ha
      iexists Q; iexact HW

end Step

/-! ## The two ends of the ring -/

/-- What the launch hands over is the ring before its first step; -/
theorem ring_in (h : 0 < N) (S W : sProp 𝕄) (hS : S ⊢ iprop((∃ f, slotHeld P c 0 f) ∗ ∃ f, slotHeld P c 1 f)) (hW : W ⊢ bigSep Finset.univ (ahead P c)) :
    iprop(S ∗ (cellZero P c 0 ∗ cellZero P c 1) ∗ W) ⊢ ringAt P c G 0 := by
  unfold ringAt
  rw [Ring.AtBΦ_lt _ _ _ _ _ 0 h, Ring.AtB_zero]
  unfold Ring.AtB₀
  rw [Ring.bigSep_fin2]
  iintro ⟨HS, ⟨Hc, Hd⟩, HW⟩
  ihave HS' := hS $$ HS
  icases HS' with ⟨HS, HT⟩
  isplitl [HW]; · iapply hW; iexact HW
  isplitl [Hc HS]
  · isplitl [Hc]; · iexact Hc
    iexact HS
  · isplitl [Hd]; · iexact Hd
    iexact HT

/-- and after the last step the ring gives it back, the tiles written. -/
theorem ring_out (S W : sProp 𝕄) (hS : iprop((∃ f, slotHeld P c 0 f) ∗ ∃ f, slotHeld P c 1 f) ⊢ S) (hW : bigSep Finset.univ (behind P c G) ⊢ W) :
    ringAt P c G N ⊢ iprop(S ∗ (cellZero P c 0 ∗ cellZero P c 1) ∗ W) := by
  unfold ringAt
  rw [Ring.AtBΦ_end _ _ _ _ _ N rfl]
  unfold Ring.AtBEnd
  rw [Ring.bigSep_fin2]
  iintro ⟨HW, ⟨Hc, HS⟩, ⟨Hd, HT⟩⟩
  isplitl [HS HT]
  · iapply hS; isplitl [HS]; · iexact HS
    iexact HT
  isplitl [Hc Hd]
  · isplitl [Hc]; · iexact Hc
    iexact Hd
  iapply hW; iexact HW

end Ring

/-! ## An array as strips of `H` rows -/

abbrev Sheet (n k : ℕ) : Shape := ⟨2, ![n, k]⟩

theorem inb_strip {M K H : ℕ} {b : ℕ} (h : H * b + H ≤ M) : ∀ a, (![H * b, 0] : Fin 2 → Nat) a + (![H, K] : Fin 2 → Nat) a ≤ (Sheet M K).size a := by
  intro a
  match a with
  | ⟨0, _⟩ => exact h
  | ⟨1, _⟩ => exact (Nat.zero_add K).le

abbrev strip {M K H : ℕ} (b : ℕ) (h : ∀ a, (![H * b, 0] : Fin 2 → Nat) a + (![H, K] : Fin 2 → Nat) a ≤ (Sheet M K).size a) : Finset (Sheet M K).Idx :=
  (Rect.unit (s := Sheet M K) ![H * b, 0] ![H, K] h).set

theorem mem_strip {M K H : ℕ} (hH : 0 < H) (b : ℕ) (h) (i : (Sheet M K).Idx) : i ∈ strip (H := H) b h ↔ (i 0).val / H = b := by
  have h1 : (i 1).val < K := (i 1).isLt
  rw [Rect.mem_set_unit, Nat.div_eq_iff hH]
  constructor
  · intro g
    have e0 : H * b ≤ (i 0).val ∧ (i 0).val < H * b + H := g 0
    rw [Nat.mul_comm b H]; omega
  · intro g a
    rw [Nat.mul_comm b H] at g
    match a with
    | ⟨0, _⟩ => exact (show H * b ≤ (i 0).val ∧ (i 0).val < H * b + H by omega)
    | ⟨1, _⟩ => exact (show 0 ≤ (i 1).val ∧ (i 1).val < 0 + K by omega)

end Cert.Proof.Behind

end
-- ==== Proof.Ff2FProg.lean ====
module

public import proofs.«01_k».proof.Proof.Gen.Kernel14Ideal.Points
public import proofs.«01_k».proof.Proof.Gen.Kernel14Ideal.Skeleton
public import proofs.«01_k».proof.Proof.Gen.Kernel14Ideal.Launch
public import proofs.«01_k».proof.Proof.Slots
public import proofs.«01_k».proof.Proof.Behind

/-! # The second feed-forward product: a step, its tile written behind -/

@[expose] public section

set_option maxRecDepth 16384

noncomputable section

namespace Cert.Kernel14Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel14Ideal.Gen Cert.Proof

variable {F : FTy → Type} [FloatOps F]

local notation "𝕄" => MT nD τ sig Unit (Elt F) ℕ (Pipeline.UD sig nD τ) ℕ

/-! ## The program -/

theorem inb_tile (b : Fin 16) : ∀ a, (![512 * b.val, 0] : Fin 2 → Nat) a + S512x1024.size a ≤ S8192x1024.size a := by
  have := b.isLt; intro a; fin_cases a <;> simp <;> omega

/-- The result, its tile of step `b`, and the tile at its origin. -/
abbrev result : Memref sig .tc .hbm S8192x1024 .f32 := Memref.whole main_v2

def tile (b : Fin 16) : Memref sig .tc .hbm S512x1024 .f32 :=
  result.slice (Rect.unit (s := S8192x1024) ![512 * b.val, 0] S512x1024.size (inb_tile b)) (fun _ => rfl)

def origin : Memref sig .tc .hbm S512x1024 .f32 :=
  result.slice (Rect.unit (s := S8192x1024) ![0, 0] S512x1024.size inb_S8192x1024_S512x1024_0_0) (fun _ => rfl)

/-- The two tiles in fast memory, and the counters their copies complete on. -/
abbrev scratch : Memref sig .tc .vmem S2x512x1024 .f32 := Memref.whole cc0_scratch0

def slot (s : Fin 2) : Memref sig .tc .vmem S512x1024 .f32 :=
  (scratch.slice (Rect.unit (s := S2x512x1024) ![s.val, 0, 0] S1x512x1024.size (Cert.Proof.Slots.inb_slot s)) (fun _ => rfl)).squeeze S512x1024 squeezes_S1x512x1024_S512x1024

def cell (s : Fin 2) : DmaSems sig S_ := (cc0_scratch1.slice (Rect.unit (s := S2) ![s.val] S1.size (Cert.Proof.Slots.inb_cell s))).squeeze S_ squeezes_S1_S_

theorem slot_exact (s : Fin 2) : (slot s).view.WordExact := (View.wordExact_bits rfl).reshape _ _
theorem tile_exact (b : Fin 16) : (tile b).view.WordExact := View.wordExact_bits rfl
theorem origin_exact : origin.view.WordExact := View.wordExact_bits rfl

/-- The ring's places. -/
def places : Behind.Places sig 16 S512x1024 where
  slot := slot
  cell s := (cell s).sem
  tile := tile
  origin := origin
  slot_exact := slot_exact
  tile_exact := tile_exact
  origin_exact := origin_exact
  same _ _ := rfl
  positive := by decide

/-- Filling a slot with the product of the two blocks. -/
def fill (s : Fin 2) (a : Memref sig .tc .vmem S512x4096 .bf16) (w : Memref sig .tc .vmem S4096x1024 .bf16) : Prog (TpuEff nD τ sig (Elt F) Λ₀ .tc) PUnit := do
  let x : Vec F S512x4096 .bf16 ← Prog.lift (.load a (Rect.unit (s := S512x4096) ![0, 0] S512x4096.size inb_S512x4096_S512x4096_0_0).toLoadRect (View.loadsAt_vmem h_S512x4096))
  let y : Vec F S4096x1024 .bf16 ← Prog.lift (.load w (Rect.unit (s := S4096x1024) ![0, 0] S4096x1024.size inb_S4096x1024_S4096x1024_0_0).toLoadRect (View.loadsAt_vmem h_S4096x1024))
  let _v : Vec F S1x512x1024 .f32 ← Prog.lift (.load scratch (Rect.unit (s := S2x512x1024) ![s.val, 0, 0] S1x512x1024.size (Cert.Proof.Slots.inb_slot s)).toLoadRect (View.loadsAt_vmem h_S1x512x1024))
  Prog.lift (.store scratch (Rect.unit (s := S2x512x1024) ![s.val, 0, 0] S1x512x1024.size (Cert.Proof.Slots.inb_slot s)) (k0_pay1 x y) Finset.univ (View.stores_vmem_bits_univ h_S1x512x1024 rfl) (.inl rfl))

/-- The body at point `t` on the given staging buffers. -/
def body (t : Fin grid0.N) (a : Memref sig .tc .vmem S512x4096 .bf16) (ha : a.IsWhole) (w : Memref sig .tc .vmem S4096x1024 .bf16) (hw : w.IsWhole) : Prog (TpuEff nD τ sig (Elt F) Λ₀ .tc) PUnit :=
  cc0_ff2lin0_fwd (grid0.coords t) a ha w hw (Memref.whole main_v2) (Memref.isWhole_whole _) (Memref.whole cc0_scratch0) (Memref.isWhole_whole _) cc0_scratch1

theorem wait_iff : ∀ t : Fin grid0.N, k0_cond1 (grid0.coords t) = 1#1 ↔ 2 ≤ t.val := by decide +kernel
theorem send_always : ∀ t : Fin grid0.N, k0_cond2 (grid0.coords t) = 1#1 := by decide +kernel
theorem last_iff : ∀ t : Fin grid0.N, k0_cond3 (grid0.coords t) = 1#1 ↔ t.val + 1 = 16 := by decide +kernel

/-- The places a step names. -/
theorem offsets : ∀ t : Fin grid0.N, k0_off1 (grid0.coords t) = ![(Ring.sl 2 t.val).val]
    ∧ k0_off2 (grid0.coords t) = ![(Ring.sl 2 t.val).val, 0, 0] ∧ k0_off3 (grid0.coords t) = ![(Ring.sl 2 t.val).val, 0, 0]
    ∧ k0_off4 (grid0.coords t) = ![(Ring.sl 2 t.val).val]
    ∧ k0_off5 (grid0.coords t) = ![512 * (Ring.bk 16 t.val).val, 0]
    ∧ k0_off6 (grid0.coords t) = ![(Ring.sl 2 t.val).val, 0, 0]
    ∧ k0_off7 (grid0.coords t) = ![(Ring.sl 2 t.val).val] ∧ k0_off8 (grid0.coords t) = ![(Ring.sl 2 t.val).val, 0, 0]
    ∧ k0_off9 (grid0.coords t) = ![(Ring.sl 2 (t.val + 1)).val] ∧ k0_off10 (grid0.coords t) = ![(Ring.sl 2 (t.val + 1)).val, 0, 0] := by decide +kernel

theorem drain_of {o : Fin 1 → Nat} {p : Fin 3 → Nat} {s : Fin 2} (ho : o = ![s.val]) (hp : p = ![s.val, 0, 0])
    (i : ∀ a, o a + S1.size a ≤ S2.size a) (j : ∀ a, p a + S1x512x1024.size a ≤ S2x512x1024.size a) (h₁ h₂) :
    (Prog.lift (.waitDma2 ((cc0_scratch1.slice (Rect.unit (s := S2) o S1.size i)).squeeze S_ squeezes_S1_S_).sem
      ((scratch.slice (Rect.unit (s := S2x512x1024) p S1x512x1024.size j) (fun _ => rfl)).squeeze S512x1024 squeezes_S1x512x1024_S512x1024) origin h₁ h₂)
      : Prog (TpuEff nD τ sig (Elt F) Λ₀ .tc) PUnit) = Behind.drain places s := by
  subst ho hp; rfl

theorem send_of {o : Fin 1 → Nat} {p : Fin 3 → Nat} {q : Fin 2 → Nat} {s : Fin 2} {b : Fin 16} (ho : o = ![s.val]) (hp : p = ![s.val, 0, 0])
    (hq : q = ![512 * b.val, 0])
    (i : ∀ a, o a + S1.size a ≤ S2.size a) (j : ∀ a, p a + S1x512x1024.size a ≤ S2x512x1024.size a) (k : ∀ a, q a + S512x1024.size a ≤ S8192x1024.size a) (h₁ h₂) :
    (Prog.lift (.enqueueDma ((scratch.slice (Rect.unit (s := S2x512x1024) p S1x512x1024.size j) (fun _ => rfl)).squeeze S512x1024 squeezes_S1x512x1024_S512x1024)
      (.here (result.slice (Rect.unit (s := S8192x1024) q S512x1024.size k) (fun _ => rfl)))
      (.dma ((cc0_scratch1.slice (Rect.unit (s := S2) o S1.size i)).squeeze S_ squeezes_S1_S_).sem) h₁ h₂ ⟨Or.inl rfl, trivial⟩)
      : Prog (TpuEff nD τ sig (Elt F) Λ₀ .tc) PUnit) = Behind.send places b s := by
  subst ho hp hq; rfl

theorem fill_of {p : Fin 3 → Nat} {s : Fin 2} (hp : p = ![s.val, 0, 0]) (j : ∀ a, p a + S1x512x1024.size a ≤ S2x512x1024.size a)
    (a : Memref sig .tc .vmem S512x4096 .bf16) (w : Memref sig .tc .vmem S4096x1024 .bf16) (k : PUnit → Prog (TpuEff nD τ sig (Elt F) Λ₀ .tc) PUnit) :
    (do
      let x : Vec F S512x4096 .bf16 ← Prog.lift (.load a (Rect.unit (s := S512x4096) ![0, 0] S512x4096.size inb_S512x4096_S512x4096_0_0).toLoadRect (View.loadsAt_vmem h_S512x4096))
      let y : Vec F S4096x1024 .bf16 ← Prog.lift (.load w (Rect.unit (s := S4096x1024) ![0, 0] S4096x1024.size inb_S4096x1024_S4096x1024_0_0).toLoadRect (View.loadsAt_vmem h_S4096x1024))
      let _v : Vec F S1x512x1024 .f32 ← Prog.lift (.load scratch (Rect.unit (s := S2x512x1024) p S1x512x1024.size j).toLoadRect (View.loadsAt_vmem h_S1x512x1024))
      Prog.lift (.store scratch (Rect.unit (s := S2x512x1024) p S1x512x1024.size j) (k0_pay1 x y) Finset.univ (View.stores_vmem_bits_univ h_S1x512x1024 rfl) (.inl rfl))
      k ⟨⟩) = (fill s a w >>= k : Prog (TpuEff nD τ sig (Elt F) Λ₀ .tc) PUnit) := by
  subst hp; rfl

section Text

variable (t : Fin grid0.N) (a : Memref sig .tc .vmem S512x4096 .bf16) (ha : a.IsWhole) (w : Memref sig .tc .vmem S4096x1024 .bf16) (hw : w.IsWhole)

/-- The first two points fill and send; -/
theorem body_first (h : ¬2 ≤ t.val) :
    (body t a ha w hw : Prog (TpuEff nD τ sig (Elt F) Λ₀ .tc) PUnit)
      = (fill (Ring.sl 2 t.val) a w >>= fun _ => Behind.send places (Ring.bk 16 t.val) (Ring.sl 2 t.val)) := by
  have c1 : ¬k0_cond1 (grid0.coords t) = 1#1 := fun c => h ((wait_iff t).mp c)
  have c2 := send_always t
  have c3 : ¬k0_cond3 (grid0.coords t) = 1#1 := fun c => h (by have := (last_iff t).mp c; omega)
  obtain ⟨-, -, o3, o4, o5, o6, -⟩ := offsets t
  rw [← send_of o4 o6 o5 (k0_off4_inb _ c2) (k0_off6_inb _ c2) (k0_off5_inb _ c2) ((View.wordExact_bits rfl).reshape _ _) (View.wordExact_bits rfl), ← fill_of o3 (k0_off3_inb _)]
  unfold body
  rw [cc0_ff2lin0_fwd_eq_skeleton]
  unfold cc0_ff2lin0_fwd_skel
  simp only [c1, c2, c3, ↓reduceDIte]
  rfl

/-- those after wait first; -/
theorem body_next (h : 2 ≤ t.val) (hn : ¬t.val + 1 = 16) :
    (body t a ha w hw : Prog (TpuEff nD τ sig (Elt F) Λ₀ .tc) PUnit)
      = (Behind.drain places (Ring.sl 2 t.val) >>= fun _ => fill (Ring.sl 2 t.val) a w >>= fun _ => Behind.send places (Ring.bk 16 t.val) (Ring.sl 2 t.val)) := by
  have c1 := (wait_iff t).mpr h
  have c2 := send_always t
  have c3 : ¬k0_cond3 (grid0.coords t) = 1#1 := fun c => hn ((last_iff t).mp c)
  obtain ⟨o1, o2, o3, o4, o5, o6, -⟩ := offsets t
  rw [← send_of o4 o6 o5 (k0_off4_inb _ c2) (k0_off6_inb _ c2) (k0_off5_inb _ c2) ((View.wordExact_bits rfl).reshape _ _) (View.wordExact_bits rfl), ← fill_of o3 (k0_off3_inb _),
    ← drain_of o1 o2 (k0_off1_inb _ c1) (k0_off2_inb _ c1) ((View.wordExact_bits rfl).reshape _ _) (View.wordExact_bits rfl)]
  unfold body
  rw [cc0_ff2lin0_fwd_eq_skeleton]
  unfold cc0_ff2lin0_fwd_skel
  simp only [c1, c2, c3, ↓reduceDIte]
  rfl

/-- and the last waits for its own copy and the one before. -/
theorem body_last (h : 2 ≤ t.val) (hn : t.val + 1 = 16) :
    (body t a ha w hw : Prog (TpuEff nD τ sig (Elt F) Λ₀ .tc) PUnit)
      = (Behind.drain places (Ring.sl 2 t.val) >>= fun _ => fill (Ring.sl 2 t.val) a w >>= fun _ => Behind.send places (Ring.bk 16 t.val) (Ring.sl 2 t.val)
          >>= fun _ => Behind.drain places (Ring.sl 2 t.val) >>= fun _ => Behind.drain places (Ring.sl 2 (t.val + 1))) := by
  have c1 := (wait_iff t).mpr h
  have c2 := send_always t
  have c3 := (last_iff t).mpr hn
  obtain ⟨o1, o2, o3, o4, o5, o6, o7, o8, o9, o10⟩ := offsets t
  rw [← send_of o4 o6 o5 (k0_off4_inb _ c2) (k0_off6_inb _ c2) (k0_off5_inb _ c2) ((View.wordExact_bits rfl).reshape _ _) (View.wordExact_bits rfl), ← fill_of o3 (k0_off3_inb _),
    ← drain_of o9 o10 (k0_off9_inb _ c3) (k0_off10_inb _ c3) ((View.wordExact_bits rfl).reshape _ _) (View.wordExact_bits rfl)]
  conv_rhs => lhs; rw [← drain_of o1 o2 (k0_off1_inb _ c1) (k0_off2_inb _ c1) ((View.wordExact_bits rfl).reshape _ _) (View.wordExact_bits rfl)]
  rw [show (Behind.drain places (Ring.sl 2 t.val) : Prog (TpuEff nD τ sig (Elt F) Λ₀ .tc) PUnit) = _ from (drain_of o7 o8 (k0_off7_inb _ c3) (k0_off8_inb _ c3) ((View.wordExact_bits rfl).reshape _ _) (View.wordExact_bits rfl)).symm]
  unfold body
  rw [cc0_ff2lin0_fwd_eq_skeleton]
  unfold cc0_ff2lin0_fwd_skel
  simp only [c1, c2, c3, ↓reduceDIte]
  rfl

theorem body_step : (body t a ha w hw : Prog (TpuEff nD τ sig (Elt F) Λ₀ .tc) PUnit) = Behind.step places (fun s => fill s a w) t.val := by
  unfold Behind.step
  by_cases h2 : 2 ≤ t.val
  · by_cases hl : t.val + 1 = 16
    · rw [if_pos h2, if_pos hl]; exact body_last t a ha w hw h2 hl
    · rw [if_pos h2, if_neg hl]; exact body_next t a ha w hw h2 hl
  · rw [if_neg h2]; exact body_first t a ha w hw h2

end Text

variable (c : Dev nD)

/-- The tile a step makes of its two blocks. -/
abbrev made (x : Vec F S512x4096 .bf16) (y : Vec F S4096x1024 .bf16) : Vec F S512x1024 .f32 := shapeCast S512x1024 (k0_pay1 x y) shapeCasts_S1x512x1024_S512x1024

theorem slot_write (s : Fin 2) (f : Behind.Held (F := F) (τ := τ) c scratch) (x : Vec F S1x512x1024 .f32) :
    (slot s).view.read (Elt F) (View.write (Elt F) (scratch.access (Rect.unit (s := S2x512x1024) ![s.val, 0, 0] S1x512x1024.size (Cert.Proof.Slots.inb_slot s))) f x Finset.univ)
      = shapeCast S512x1024 x shapeCasts_S1x512x1024_S512x1024 :=
  Cert.Proof.Slots.slot_write scratch (Cert.Proof.Slots.inb_slot s) squeezes_S1x512x1024_S512x1024 shapeCasts_S1x512x1024_S512x1024 f x

/-- Filling a slot. -/
theorem fill_run (s : Fin 2) (a : Memref sig .tc .vmem S512x4096 .bf16) (ha : a.IsWhole) (w : Memref sig .tc .vmem S4096x1024 .bf16) (hw : w.IsWhole)
    (x : Vec F S512x4096 .bf16) (y : Vec F S4096x1024 .bf16) (K : PUnit → sProp 𝕄) :
    iprop(iprop(owns (c : Thread nD τ) a fullShare x ∗ owns (c : Thread nD τ) w fullShare y) ∗ (∃ f, Behind.slotHeld places c s f)
        ∗ (iprop(iprop(owns (c : Thread nD τ) a fullShare x ∗ owns (c : Thread nD τ) w fullShare y)
          ∗ Behind.filled places c s (made x y)) -∗ K ⟨⟩))
      ⊢ wp frame (wpE (defs₀ (F := F)) Variants.none c none) Set.univ (fill s a w) K := by
  unfold fill
  unfold owns
  iintro ⟨⟨⟨%f, %hf, Ha⟩, ⟨%g, %hg, Hw⟩⟩, ⟨%h, Hs⟩, Hk⟩
  obtain rfl := ha.eq_unread hf; obtain rfl := hw.eq_unread hg
  sl_exec
  sl_step
  iapply Hk
  unfold fill_run.sl.Hs_w1
  isplitl [Ha Hw]
  · isplitl [Ha]
    · iexists _; isplitr; · ipureintro; exact hf
      iexact Ha
    · iexists _; isplitr; · ipureintro; exact hg
      iexact Hw
  iexists _; isplitr
  swap; · iexact Hs
  ipureintro
  refine Eq.trans (slot_write c s h _) ?_
  simp only [View.readAt_eq_ld, ha.read_unread, hw.read_unread, View.ld_unit_zero (S := S512x4096) Cert.Proof.Slots.zero_offset, View.ld_unit_zero (S := S4096x1024) Cert.Proof.Slots.zero_offset]

end Cert.Kernel14Ideal.Fwd

end
-- ==== Proof.Ff2FRun.lean ====
module

public import proofs.«01_k».proof.Proof.Ff2FProg
public import Idealize.ShloMosaic.Lib.Claim
public import Idealize.ShloMosaic.Lib.Pipeline.ValueKit

/-! # The second feed-forward product: the whole run -/

@[expose] public section

set_option maxRecDepth 16384

noncomputable section

namespace Cert.Kernel14Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel14Ideal.Gen Cert.Proof

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host's casts -/

/-- Core `c`'s arrays when the kernel starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The arrays the host writes. -/
def hostWrites : List (Ref sig .tc) := [main_v0, main_v1]

/-- An array the host does not write is found as launched. -/
theorem V_unwritten (c : Dev nD) (r : Ref sig .tc) (h : ∀ x ∈ hostWrites, r ≠ x) : V m c r = m ((c : Thread nD τ).loc r) :=
  StableHlo.after_of_forall_not_mem (b := Proc.devRef .tc r) _ _ (List.forall_iff_forall_mem.mp (by
    simp only [hostWrites, List.mem_cons, List.not_mem_nil, or_false, forall_eq_or_imp, forall_eq] at h
    simp only [hostOps0, List.Forall, StableHlo.unary_writes, Finset.mem_singleton]
    refine ⟨?_, ?_⟩
    all_goals (apply StableHlo.devRef_ne_of_ne; simp only [h, ne_eq, not_false_eq_true])))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_rows {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_weights {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The result -/

/-- The tile of step `b`. -/
def outs (c : Dev nD) (b : Fin 16) : Vec F S512x1024 .f32 :=
  made (iblk m c 0 (b.cast N_0.symm)) (iblk m c 1 (b.cast N_0.symm))

/-- The step that makes an element of the result, and where in its tile the element lies. -/
def stepOf (i : S8192x1024.Idx) : Fin 16 := ⟨(i 0).val / 512, by have h0 : (i 0).val < 8192 := (i 0).isLt; omega⟩
def inTile (i : S8192x1024.Idx) : S512x1024.Idx := ix2 ⟨(i 0).val % 512, Nat.mod_lt _ (by decide)⟩ (i 1)

/-- The tiles laid out. -/
def laid (c : Dev nD) : S8192x1024.Idx → F .f32 := fun i => outs m c (stepOf i) (inTile i)

/-- Core `c`'s arrays when the kernel ends. -/
def G (c : Dev nD) : (b : Ref sig .tc) → Buf (Elt F) ((c : Thread nD τ).loc b) := Function.update (V m c) main_v2 (laid m c)

theorem G_result (c : Dev nD) : G m c main_v2 = laid m c := Function.update_self _ _ _

/-- Where a tile's element lies in the result. -/
def place (b : Fin 16) (y : S512x1024.Idx) : S8192x1024.Idx :=
  (Rect.unit (s := S8192x1024) ![512 * b.val, 0] S512x1024.size (inb_tile b)).emb y

theorem G_tile (c : Dev nD) (b : Fin 16) : (tile b).view.read (Elt F) (G m c (tile b).view.ref) = outs m c b := by
  rw [show G m c (tile b).view.ref = laid m c from G_result m c]
  funext y
  have h0 : (y 0).val < 512 := (y 0).isLt
  have e0 : (place b y 0).val = 512 * b.val + (y 0).val := by show 512 * b.val + 1 * (y 0).val = _; omega
  have e1 : (place b y 1).val = (y 1).val := by show 0 + 1 * (y 1).val = _; omega
  have hs : stepOf (place b y) = b := Fin.ext (show (place b y 0).val / 512 = b.val by omega)
  have hy : inTile (place b y) = y := by
    conv_rhs => rw [eq_ix2 y]
    exact congrArg₂ ix2 (Fin.ext (show (place b y 0).val % 512 = (y 0).val by omega)) (Fin.ext e1)
  show laid m c (place b y) = outs m c b y
  unfold laid
  rw [hs, hy]

/-! ## The two ends of the ring -/

abbrev counters : Fin 2 → SemLoc sig := fun j => Behind.cellNo places j

theorem counterFacts : Pipeline.OwnSemFacts spec0 counters := by decide

theorem counters_eq (c : Dev nD) :
    (Pipeline.ownSems0 (Ix := Unit) (Name := ℕ) (U := Pipeline.UD sig nD τ) (Lvl := ℕ) (Val := Elt F) (τ := τ) counters c : sProp 𝕄)
      = iprop(Behind.cellZero places c 0 ∗ Behind.cellZero places c 1) := by
  rw [Pipeline.ownSems0_eq_of_list c counters [0, 1] (by decide) (by decide)]; rfl

theorem owned_eq (W W' : (c : Dev nD) → (b : Ref sig .tc) → Buf (Elt F) ((c : Thread nD τ).loc b)) (c : Dev nD) :
    (Pipeline.ΦDRG counters spec0 ∅ {main_v2} W W' c : sProp 𝕄)
      = iprop(iprop((∃ d, owns (c : Thread nD τ) scratch fullShare d)) ∗ (∃ r, prngReg c r)
          ∗ iprop(Behind.cellZero places c 0 ∗ Behind.cellZero places c 1) ∗ (((c : Thread nD τ).loc main_v2) ↦{fullShare} W' c main_v2)) := by
  rw [Pipeline.ΦDRG_eq, scopedRest0_eq, counters_eq]
  unfold Pipeline.routed
  rw [bigSep_empty, bigSep_singleton]
  simp only [scratch, owns_whole]
  rw [show ∀ P : sProp 𝕄, iprop(BI.emp ∗ P) = P from fun P => equiv_iff.mp Idealize.SL.BI.emp_sep]
  try rfl

theorem slotSet_eq (s : Fin 2) : (slot s).view.set = Cert.Proof.Slots.slotSet s := by
  simp only [slot, Memref.view_squeeze, View.set_reshape]; exact View.set_slice_whole _ _

theorem slotHeld_eq (c : Dev nD) (s : Fin 2) (f) : Behind.slotHeld (F := F) places c s f = (((c : Thread nD τ).loc cc0_scratch0) ↦[Cert.Proof.Slots.slotSet s]{fullShare} f : sProp 𝕄) := by
  unfold Behind.slotHeld; rw [show (places.slot s).view.set = _ from slotSet_eq s]; rfl

set_option maxHeartbeats 1000000 in
theorem slots_in (c : Dev nD) : iprop(∃ d, owns (c : Thread nD τ) scratch fullShare d) ⊢ (iprop((∃ f, Behind.slotHeld (F := F) places c 0 f) ∗ ∃ f, Behind.slotHeld (F := F) places c 1 f) : sProp 𝕄) := by
  simp only [scratch, owns_whole]
  exact Ring.slots2_split (U := Pipeline.UD sig nD τ) (ℓ := (c : Thread nD τ).loc cc0_scratch0) (q := fullShare) Cert.Proof.Slots.slotSet Cert.Proof.Slots.slots_disjoint Cert.Proof.Slots.slots_cover
    (Behind.slotHeld places c 0) (Behind.slotHeld places c 1) (slotHeld_eq c 0) (slotHeld_eq c 1)

set_option maxHeartbeats 1000000 in
theorem slots_out (c : Dev nD) : (iprop((∃ f, Behind.slotHeld (F := F) places c 0 f) ∗ ∃ f, Behind.slotHeld (F := F) places c 1 f) : sProp 𝕄) ⊢ iprop(∃ d, owns (c : Thread nD τ) scratch fullShare d) := by
  simp only [scratch, owns_whole]
  exact Ring.slots2_join (U := Pipeline.UD sig nD τ) (ℓ := (c : Thread nD τ).loc cc0_scratch0) (q := fullShare) Cert.Proof.Slots.slotSet Cert.Proof.Slots.slots_disjoint Cert.Proof.Slots.slots_cover
    (Behind.slotHeld places c 0) (Behind.slotHeld places c 1) (slotHeld_eq c 0) (slotHeld_eq c 1)

abbrev tileSet (b : Fin 16) : Finset S8192x1024.Idx := Behind.strip (M := 8192) (K := 1024) (H := 512) b.val (inb_tile b)

theorem tileSet_eq (b : Fin 16) : (tile b).view.set = tileSet b := View.set_slice_whole _ _

theorem mem_tile (b : Fin 16) (i : S8192x1024.Idx) : i ∈ tileSet b ↔ stepOf i = b :=
  (Behind.mem_strip (by decide) b.val _ i).trans (Fin.ext_iff (a := stepOf i)).symm

theorem tiles_disjoint (b b' : Fin 16) (h : b ≠ b') : Disjoint (tileSet b) (tileSet b') :=
  Finset.disjoint_left.mpr fun i hi hi' => h (((mem_tile b i).mp hi).symm.trans ((mem_tile b' i).mp hi'))

theorem tiles_cover : Finset.univ.biUnion tileSet = Finset.univ :=
  Finset.eq_univ_iff_forall.mpr fun i => Finset.mem_biUnion.mpr ⟨stepOf i, Finset.mem_univ _, (mem_tile _ i).mpr rfl⟩

theorem tileHeld_eq (c : Dev nD) (b : Fin 16) (f) : Behind.tileHeld (F := F) places c b f = (((c : Thread nD τ).loc main_v2) ↦[tileSet b]{fullShare} f : sProp 𝕄) := by
  unfold Behind.tileHeld; rw [show (places.tile b).view.set = _ from tileSet_eq b]; rfl

/-- The result is its tiles. -/
theorem result_eq (c : Dev nD) (f : Buf (Elt F) ((c : Thread nD τ).loc main_v2)) :
    (((c : Thread nD τ).loc main_v2) ↦{fullShare} f : sProp 𝕄) = bigSep Finset.univ fun b => Behind.tileHeld (F := F) places c b f := by
  rw [Ring.pointsTo_blocks tileSet tiles_disjoint tiles_cover f]
  exact congrArg (bigSep Finset.univ) (funext fun b => (tileHeld_eq c b f).symm)

/-- What the launch hands over is the ring before its first step; -/
theorem ring_in (c : Dev nD) (f : Buf (Elt F) ((c : Thread nD τ).loc main_v2)) :
    iprop((∃ d, owns (c : Thread nD τ) scratch fullShare d) ∗ (Behind.cellZero places c 0 ∗ Behind.cellZero places c 1) ∗ (((c : Thread nD τ).loc main_v2) ↦{fullShare} f))
      ⊢ Behind.ringAt places c (G m c) 0 :=
  Behind.ring_in places c (G m c) (by decide) _ _ (slots_in c) (by
    rw [result_eq]
    exact bigSep_mono fun b _ => show (Behind.tileHeld places c b f : sProp 𝕄) ⊢ Behind.ahead places c b from by iintro H; iexists f; iexact H)

/-- and after the last step the ring gives it back, the result written. -/
theorem ring_out (c : Dev nD) :
    Behind.ringAt places c (G m c) 16
      ⊢ iprop((∃ d, owns (c : Thread nD τ) scratch fullShare d) ∗ (Behind.cellZero places c 0 ∗ Behind.cellZero places c 1) ∗ (((c : Thread nD τ).loc main_v2) ↦{fullShare} G m c main_v2)) :=
  Behind.ring_out places c (G m c) _ _ (slots_out c) (.of_eq (result_eq c (G m c main_v2)).symm)

/-! ## The run -/

/-- What the region keeps before point `k`: the generator's register and the ring. -/
def kept (c : Dev nD) (k : ℕ) : sProp 𝕄 := iprop((∃ r, prngReg c r) ∗ Behind.ringAt places c (G m c) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := kept m c t.val
  q _ := fullShare
  owed _ := 0

theorem A_eq (c : Dev nD) (w : Fin cfg0.W) : (dats m 0 c).A w = V m c (Pipeline.arrRef spec0 w) := by
  dsimp only [dats]

theorem kept_before (c : Dev nD) (t : Fin cfg0.N) : (dats m 0 c).Φ t.castSucc = kept m c t.val := by
  dsimp only [dats]; simp only [Fin.coe_castSucc]
theorem kept_after (c : Dev nD) (t : Fin cfg0.N) : (dats m 0 c).Φ t.succ = kept m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem before_0 (c : Dev nD) (t : Fin cfg0.N) (d) : (dats m 0 c).before 0 t d = iblk m c 0 t :=
  before_rows m (dats m 0 c) (A_eq m c 0) (after_0 m c) t d
theorem before_1 (c : Dev nD) (t : Fin cfg0.N) (d) : (dats m 0 c).before 1 t d = iblk m c 1 t :=
  before_weights m (dats m 0 c) (A_eq m c 1) (after_1 m c) t d

/-- The staging buffers at point `t`. -/
abbrev rowsAt (t : Fin cfg0.N) : Memref sig .tc .vmem S512x4096 .bf16 := win0_0.stage (cfg0.slots t 0)
abbrev weightsAt (t : Fin cfg0.N) : Memref sig .tc .vmem S4096x1024 .bf16 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (rowsAt t) fullShare ((dats m 0 c).before 0 t d))
    ∗ (∃ d, owns (c : Thread nD τ) (weightsAt t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (rowsAt t) fullShare ((dats m 0 c).after 0 t)
    ∗ owns (c : Thread nD τ) (weightsAt t) fullShare ((dats m 0 c).after 1 t))

theorem body_text (t : Fin cfg0.N) : (bodyAt0 t : Prog (TpuEff nD τ sig (Elt F) Λ₀ .tc) PUnit)
    = body t (rowsAt t) (hstage0_0 ((cfg0.slots t 0).cast nbuf0_0)) (weightsAt t) (hstage0_1 ((cfg0.slots t 1).cast nbuf0_1)) := rfl

theorem made_tile (c : Dev nD) (t : Fin cfg0.N) :
    (tile (Ring.bk 16 t.val)).view.read (Elt F) (G m c (tile (Ring.bk 16 t.val)).view.ref) = made (iblk m c 0 t) (iblk m c 1 t) := by
  rw [G_tile]
  unfold outs
  have h : (Ring.bk 16 t.val).cast N_0.symm = t := Fin.ext (Nat.mod_eq_of_lt (lt_of_lt_of_eq t.isLt N_0))
  rw [h]

theorem sound_body (c : Dev nD) (t : Fin cfg0.N) :
    bodyPre m c t ⊢ wp frame (wpE (defs₀ (F := F)) Variants.none c none) Set.univ (bodyAt0 t) (fun _ => bodyPost m c t) := by
  rw [body_text]
  unfold bodyPre bodyPost
  simp only [before_0, before_1]
  rw [after_0, after_1, kept_before, kept_after]
  unfold Dat.owesAt Pipeline.owesWithin
  rw [show (dats m 0 c).owed t.castSucc = 0 from rfl, show (dats m 0 c).owed t.succ = 0 from rfl]
  unfold kept
  rw [body_step]
  iintro ⟨⟨Hg, Hr⟩, ⟨%Q, -, HW⟩, ⟨%d, Ha⟩, ⟨%e, Hw⟩⟩
  iapply (Behind.step_run places defs₀ c (G m c) t.val _ _ (made (iblk m c 0 t) (iblk m c 1 t))
    (fun s K => fill_run c s _ (hstage0_0 ((cfg0.slots t 0).cast nbuf0_0)) _ (hstage0_1 ((cfg0.slots t 1).cast nbuf0_1)) (iblk m c 0 t) (iblk m c 1 t) K)
    (made_tile m c t) (lt_of_lt_of_eq t.isLt N_0) (by decide) Q _)
  isplitl [Hr]; · iexact Hr
  isplitl [Ha Hw]
  · isplitl [Ha]; · iexact Ha
    iexact Hw
  isplitl [HW]; · iexact HW
  iintro ⟨Hr, ⟨Ha, Hw⟩, ⟨%Q', HW⟩⟩
  isplitl [Hg Hr]
  · isplitl [Hg]; · iexact Hg
    iexact Hr
  isplitl [HW]
  · iexists Q'; isplitr; · ipureintro; exact fun _ _ => Or.inl trivial
    iexact HW
  isplitl [Ha]; · iexact Ha
  iexact Hw

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : Pipeline.ΦDRG counters spec0 ∅ {main_v2} (V m) (V m) c ⊢ (dats m 0 c).Φ 0 := by
  rw [owned_eq, show (dats m 0 c).Φ 0 = kept m c 0 from rfl]
  unfold kept
  iintro ⟨Hs, Hg, Hc, Hw⟩
  isplitl [Hg]; · iexact Hg
  iapply (ring_in (F := F) m c (V m c main_v2))
  isplitl [Hs]; · iexact Hs
  isplitl [Hc]; · iexact Hc
  iexact Hw

theorem leave (c : Dev nD) : (dats m 0 c).Φ (Fin.last cfg0.N) ⊢ Pipeline.ΦDRG counters spec0 ∅ {main_v2} (V m) (G m) c := by
  rw [owned_eq, show (dats m 0 c).Φ (Fin.last cfg0.N) = kept m c grid0.N from rfl]
  unfold kept
  rw [show grid0.N = 16 by rw [N_0]]
  iintro ⟨Hg, Hr⟩
  ihave H := (ring_out (F := F) m c) $$ Hr
  icases H with ⟨Hs, Hc, Hw⟩
  isplitl [Hs]; · iexact Hs
  isplitl [Hg]; · iexact Hg
  isplitl [Hc]; · iexact Hc
  iexact Hw

set_option backward.isDefEq.respectTransparency.types false in
/-- Every run ends with the result as the tiles say, every other array as the kernel found it, and all counters at zero. -/
theorem run : θ_run defs (onTc (τ := τ) (main (F := F))) (s₀ m ρ) (fun r => (Pipeline.FramePostRG cfgs (dats m) 0 {main_v2} (V m) (G m)) r ∧ r.2.sem = fun _ => 0) :=
  Pipeline.θ_run_frame_dmaRG (Q' := _) cfgs (dats m) (0 : Fin 1) launch0 counters defs₀ Variants.none counterFacts ∅ {main_v2} (by decide) (by decide) m ρ main
    (hbody := fun c => (body_obligation m c).loose) (hshare := fun c => (dats m 0 c).share_full fun _ => rfl)
    (howed := fun _ _ => rfl) (V := V m) (hmain := hmain m Variants.none) (hA := A_eq m) (G := G m)
    (hin := enter m) (hout := leave m)

/-- Every run leaves the arguments as they were. -/
theorem arguments : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    refine ⟨?_, ?_⟩
    all_goals exact ((h.1.1 c).2 _ (by decide)).trans (V_unwritten m c _ (by decide))) (run m ρ)

/-- Every run ends, the arguments as they were and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (arguments m ρ) ((θ_run defs _ _).mono (fun _ h => h.2) (run m ρ))

end Cert.Kernel14Ideal.Fwd

end
-- ==== Proof.Ff2F.lean ====
/-
  The second feed-forward product: `a @ w`, a strip of rows at a time.
-/
module

public import proofs.«01_k».proof.Proof.Ff2FRun
public import proofs.«01_k».proof.Proof.Products
public import proofs.«01_k».proof.Defs
public import Idealize.ShloMosaic.Lib.Claim
public import proofs.«01_k».proof.Proof.Gen.Reference14Ideal.Run
public import Idealize.ShloMosaic.Lib.Pipeline.ValueKit
public import Idealize.ShloMosaic.Lib.KernelVsHost

@[expose] public section

set_option maxRecDepth 16384

noncomputable section

namespace Cert.Kernel14Ideal.Fwd

open Idealize.ShloMosaic Idealize.ShloMosaic.TcCoe Idealize.SL.Sem
open Idealize.ShloMosaic.Pipeline (Dat)
open Cert.Kernel14Ideal Cert.Kernel14Ideal.Gen Cert.Proof.Products

variable (m : (ℓ : Loc nD τ sig) → Buf (Elt Ideal) ℓ) (c : Dev nD)

theorem made_apply (x : FVec Ideal S512x4096 .bf16) (y : FVec Ideal S4096x1024 .bf16) (r : Fin 512) (s : Fin 1024) :
    (made (F := Ideal) x y : S512x1024.Idx → EReal) (ix2 r s) = ∑ k : Fin 4096, x (ix2 r k) * y (ix2 k s) := by
  unfold made k0_pay1
  simp only [shapeCast_shapeCast, shapeCast_self]
  rw [matmul_zero_eq_dotGeneral]
  pointwise

/-- The two arguments, as matrices of extended reals. -/
abbrev vA : S8192x4096.Idx → EReal := m ((c : Thread nD τ).loc main_arg0)
abbrev vW : S4096x1024.Idx → EReal := m ((c : Thread nD τ).loc main_arg1)

theorem entry_a : V m c main_v0 = (vA m c : S8192x4096.Idx → EReal) := by
  unfold V hostOps0
  after_results
  rfl
theorem entry_w : V m c main_v1 = (vW m c : S4096x1024.Idx → EReal) := by
  unfold V hostOps0
  after_results
  rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)

/-- A row of the arrays by its strip and its place there. -/
def row (b : Fin 16) (k : Fin 512) : Fin 8192 := ⟨512 * b.val + k.val, by omega⟩

abbrev aB (b : Fin 16) : S512x4096.Idx → EReal := iblk m c 0 (b.cast N_0.symm)
abbrev wB (b : Fin 16) : S4096x1024.Idx → EReal := iblk m c 1 (b.cast N_0.symm)

theorem aB_apply (b : Fin 16) (r : Fin 512) (k : Fin 4096) : aB m c b (ix2 r k) = vA m c (ix2 (row b r) k) := by
  show V m c main_v0 (((cfg0.win 0).blk (b.cast N_0.symm)).view.emb (ix2 r k)) = _
  rw [entry_a]
  refine congrArg (vA m c) (funext fun a => Fin.ext ?_)
  refine (win0_0.rect_emb_val (b.cast N_0.symm) (ix2 r k) a).trans ?_
  match a with
  | ⟨0, _⟩ => show win0_0.index (b.cast N_0.symm) 0 * 512 + r.val = 512 * b.val + r.val; rw [(idx0 _).1]; exact congrArg (· + r.val) (Nat.mul_comm b.val 512)
  | ⟨1, _⟩ => show win0_0.index (b.cast N_0.symm) 1 * 4096 + k.val = k.val; rw [(idx0 _).2]; omega

theorem wB_apply (b : Fin 16) (k : Fin 4096) (s : Fin 1024) : wB m c b (ix2 k s) = vW m c (ix2 k s) := by
  show V m c main_v1 (((cfg0.win 1).blk (b.cast N_0.symm)).view.emb (ix2 k s)) = _
  rw [entry_w]
  refine congrArg (vW m c) (funext fun a => Fin.ext ?_)
  refine (win0_1.rect_emb_val (b.cast N_0.symm) (ix2 k s) a).trans ?_
  match a with
  | ⟨0, _⟩ => show win0_1.index (b.cast N_0.symm) 0 * 4096 + k.val = k.val; rw [(idx1 _).1]; omega
  | ⟨1, _⟩ => show win0_1.index (b.cast N_0.symm) 1 * 1024 + s.val = s.val; rw [(idx1 _).2]; omega

/-- The product, entry by entry. -/
def product (A : S8192x4096.Idx → EReal) (W : S4096x1024.Idx → EReal) : S8192x1024.Idx → EReal :=
  fun i => ∑ k : Fin 4096, A (ix2 (i 0) k) * W (ix2 k (i 1))

theorem outs_apply (b : Fin 16) (r : Fin 512) (s : Fin 1024) :
    (outs m c b : S512x1024.Idx → EReal) (ix2 r s) = ∑ k : Fin 4096, vA m c (ix2 (row b r) k) * vW m c (ix2 k s) :=
  (made_apply _ _ r s).trans (Finset.sum_congr rfl fun k _ => congr (congrArg HMul.hMul (aB_apply m c b r k)) (wB_apply m c b k s))

theorem laid_eq : (laid m c : S8192x1024.Idx → EReal) = product (vA m c) (vW m c) := by
  funext i
  have h0 : (i 0).val < 8192 := (i 0).isLt
  have er : row (stepOf i) ⟨(i 0).val % 512, Nat.mod_lt _ (by decide)⟩ = i 0 :=
    Fin.ext (show 512 * ((i 0).val / 512) + (i 0).val % 512 = (i 0).val by omega)
  refine (outs_apply m c (stepOf i) _ _).trans ?_
  unfold product
  rw [er]

/-- The reference's product, entry by entry. -/
theorem reference_product (A : S8192x4096.Idx → EReal) (W : S4096x1024.Idx → EReal) :
    Host.dotGeneral (F := Ideal) (φ₁ := .f32) (φ₂ := .f32) Cert.Reference14Ideal.dot_S8192x4096_S4096x1024_S8192x1024_1_0_0_1_n_n none A W = product A W := by
  funext i
  rw [eq_ix2 i]
  pointwise
  rfl

/-- What every run leaves in the result. -/
theorem run_result (g : Dev nD → PrngReg) :
    θ_run (defs (F := Ideal)) (onTc (τ := τ) (main (F := Ideal))) ⟨m, fun _ => 0, g⟩ (fun r => ∀ c : Dev nD,
      r.2.mem ((c.tc : Thread nD τ).loc main_v2) = product (vA m c) (vW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.2.2 c main_v2 (Finset.mem_singleton_self _)).trans ((G_result m c).trans (laid_eq m c)), h.1 c⟩)
    (Idealize.ShloMosaic.θ_run_and (arguments m g) ((θ_run defs _ _).mono (fun _ h => h.1) (run m g)))

end Cert.Kernel14Ideal.Fwd

namespace Cert.Proof.Products

open Cert.Kernel14Ideal.Fwd Idealize.ShloMosaic Idealize.SL.Sem

theorem ff2_product : Cert.algebraic_Kernel14Ideal_Reference14Ideal := by
  intro m g m' g' _ hm
  refine ⟨fun c => product (vA m c) (vW m c), run_result m g,
    (θ_run Cert.Reference14Ideal.defs _ _).mono (fun r h c => ⟨(h c).1.trans ?_, (h c).2⟩) (Cert.Reference14Ideal.Value.run m' g')⟩
  rw [(hm c).1, (hm c).2]
  exact reference_product (vA m c) (vW m c)

end Cert.Proof.Products

end
-- ==== Proof.WinFProg.lean ====
module

public import proofs.«01_k».proof.Proof.Gen.Kernel13Ideal.Points
public import proofs.«01_k».proof.Proof.Gen.Kernel13Ideal.Skeleton
public import proofs.«01_k».proof.Proof.Gen.Kernel13Ideal.Launch
public import proofs.«01_k».proof.Proof.WinProg
public import proofs.«01_k».proof.Proof.Behind

/-! # The input product: which array a step writes

The product's columns are thirteen arrays of one, one, two, two, one, … column tiles of 1024.  A step makes one tile in
one of two slots and starts its copy to whichever of the thirteen it belongs to: the body asks thirteen questions, and
exactly one of them is answered by yes.  Here the body at a point is shown to be the wait for the slot, its filling and
that one copy. -/

@[expose] public section

set_option maxRecDepth 65536

noncomputable section

namespace Cert.Kernel13Ideal.Fwd

open Idealize.ShloMosaic Idealize.ShloMosaic.TcCoe Idealize.SL Idealize.SL.Sem
open Cert.Kernel13Ideal.Gen Cert.Proof
open Cert.Kernel4Ideal.Win (arrayAt arrayOf isWide cases13)

variable {F : FTy → Type} [FloatOps F]

theorem inb_narrow (b : Fin 120) : ∀ a, (![1024 * (b.val / 15), 0] : Fin 2 → Nat) a + S1024x1024.size a ≤ S8192x1024.size a := by
  have := b.isLt; intro a; fin_cases a <;> simp <;> omega

theorem inb_wide (b : Fin 120) : ∀ a, (![1024 * (b.val / 15), 1024 * (b.val % 15 % 2)] : Fin 2 → Nat) a + S1024x1024.size a ≤ S8192x2048.size a := by
  have := b.isLt; intro a; fin_cases a <;> simp <;> omega

/-- Step `b`'s tile of an array one tile wide, -/
def narrow (M : Memref sig .tc .hbm S8192x1024 .f32) (b : Fin 120) : Memref sig .tc .hbm S1024x1024 .f32 :=
  M.slice (Rect.unit (s := S8192x1024) ![1024 * (b.val / 15), 0] S1024x1024.size (inb_narrow b)) (fun _ => rfl)

/-- and of one two tiles wide: both begin at an even column tile. -/
def wide (M : Memref sig .tc .hbm S8192x2048 .f32) (b : Fin 120) : Memref sig .tc .hbm S1024x1024 .f32 :=
  M.slice (Rect.unit (s := S8192x2048) ![1024 * (b.val / 15), 1024 * (b.val % 15 % 2)] S1024x1024.size (inb_wide b)) (fun _ => rfl)

/-- Step `b`'s tile in array `g`. -/
def tileIn : Fin 13 → Fin 120 → Memref sig .tc .hbm S1024x1024 .f32
  | 0, b => narrow (Memref.whole main_v2_0) b
  | 1, b => narrow (Memref.whole main_v2_1) b
  | 2, b => wide (Memref.whole main_v2_2) b
  | 3, b => wide (Memref.whole main_v2_3) b
  | 4, b => narrow (Memref.whole main_v2_4) b
  | 5, b => narrow (Memref.whole main_v2_5) b
  | 6, b => narrow (Memref.whole main_v2_6) b
  | 7, b => narrow (Memref.whole main_v2_7) b
  | 8, b => narrow (Memref.whole main_v2_8) b
  | 9, b => narrow (Memref.whole main_v2_9) b
  | 10, b => narrow (Memref.whole main_v2_10) b
  | 11, b => narrow (Memref.whole main_v2_11) b
  | 12, b => narrow (Memref.whole main_v2_12) b

/-- The tile step `b` writes, and the first array's first tile. -/
def tile (b : Fin 120) : Memref sig .tc .hbm S1024x1024 .f32 := tileIn (arrayAt b) b

def origin : Memref sig .tc .hbm S1024x1024 .f32 :=
  (Memref.whole main_v2_0 : Memref sig .tc .hbm S8192x1024 .f32).slice (Rect.unit (s := S8192x1024) ![0, 0] S1024x1024.size inb_S8192x1024_S1024x1024_0_0) (fun _ => rfl)

/-- The two tiles in fast memory, and the counters their copies complete on. -/
abbrev scratch : Memref sig .tc .vmem S2x1024x1024 .f32 := Memref.whole cc0_scratch0

def slot (s : Fin 2) : Memref sig .tc .vmem S1024x1024 .f32 :=
  (scratch.slice (Rect.unit (s := S2x1024x1024) ![s.val, 0, 0] S1x1024x1024.size (Cert.Proof.Slots.inb_slot s)) (fun _ => rfl)).squeeze S1024x1024 squeezes_S1x1024x1024_S1024x1024

def cell (s : Fin 2) : DmaSems sig S_ := (cc0_scratch1.slice (Rect.unit (s := S2) ![s.val] S1.size (Cert.Proof.Slots.inb_cell s))).squeeze S_ squeezes_S1_S_

theorem slot_exact (s : Fin 2) : (slot s).view.WordExact := (View.wordExact_bits rfl).reshape _ _
theorem tile_exact (b : Fin 120) : (tile b).view.WordExact := View.wordExact_bits rfl
theorem origin_exact : origin.view.WordExact := View.wordExact_bits rfl

/-- The ring's places. -/
def places : Behind.Places sig 120 S1024x1024 where
  slot := slot
  cell s := (cell s).sem
  tile := tile
  origin := origin
  slot_exact := slot_exact
  tile_exact := tile_exact
  origin_exact := origin_exact
  same _ _ := rfl
  positive := by decide

/-- Filling a slot with the product of the two blocks. -/
def fill (s : Fin 2) (a w : Memref sig .tc .vmem S1024x1024 .bf16) : Prog (TpuEff nD τ sig (Elt F) Λ₀ .tc) PUnit := do
  let x : Vec F S1024x1024 .bf16 ← Prog.lift (.load a (Rect.unit (s := S1024x1024) ![0, 0] S1024x1024.size inb_S1024x1024_S1024x1024_0_0).toLoadRect (View.loadsAt_vmem h_S1024x1024))
  let y : Vec F S1024x1024 .bf16 ← Prog.lift (.load w (Rect.unit (s := S1024x1024) ![0, 0] S1024x1024.size inb_S1024x1024_S1024x1024_0_0).toLoadRect (View.loadsAt_vmem h_S1024x1024))
  let _v : Vec F S1x1024x1024 .f32 ← Prog.lift (.load scratch (Rect.unit (s := S2x1024x1024) ![s.val, 0, 0] S1x1024x1024.size (Cert.Proof.Slots.inb_slot s)).toLoadRect (View.loadsAt_vmem h_S1x1024x1024))
  Prog.lift (.store scratch (Rect.unit (s := S2x1024x1024) ![s.val, 0, 0] S1x1024x1024.size (Cert.Proof.Slots.inb_slot s)) (k0_pay1 x y) Finset.univ (View.stores_vmem_bits_univ h_S1x1024x1024 rfl) (.inl rfl))

/-- The body at point `t` on the given staging buffers. -/
def body (t : Fin grid0.N) (a : Memref sig .tc .vmem S1024x1024 .bf16) (ha : a.IsWhole) (w : Memref sig .tc .vmem S1024x1024 .bf16) (hw : w.IsWhole) : Prog (TpuEff nD τ sig (Elt F) Λ₀ .tc) PUnit :=
  cc0_inlin0_fwd (grid0.coords t) a ha w hw (Memref.whole main_v2_0) (Memref.isWhole_whole _) (Memref.whole main_v2_1) (Memref.isWhole_whole _) (Memref.whole main_v2_2) (Memref.isWhole_whole _) (Memref.whole main_v2_3) (Memref.isWhole_whole _) (Memref.whole main_v2_4) (Memref.isWhole_whole _) (Memref.whole main_v2_5) (Memref.isWhole_whole _) (Memref.whole main_v2_6) (Memref.isWhole_whole _) (Memref.whole main_v2_7) (Memref.isWhole_whole _) (Memref.whole main_v2_8) (Memref.isWhole_whole _) (Memref.whole main_v2_9) (Memref.isWhole_whole _) (Memref.whole main_v2_10) (Memref.isWhole_whole _) (Memref.whole main_v2_11) (Memref.isWhole_whole _) (Memref.whole main_v2_12) (Memref.isWhole_whole _) scratch (Memref.isWhole_whole _) cc0_scratch1

theorem wait_iff : ∀ t : Fin grid0.N, k0_cond1 (grid0.coords t) = 1#1 ↔ 2 ≤ t.val := by decide +kernel
theorem last_iff : ∀ t : Fin grid0.N, k0_cond15 (grid0.coords t) = 1#1 ↔ t.val + 1 = 120 := by decide +kernel

/-- Which of the thirteen questions is answered by yes. -/
theorem array_iff : ∀ t : Fin grid0.N, (k0_cond2 (grid0.coords t) = 1#1 ↔ arrayAt (Ring.bk 120 t.val) = 0)
    ∧ (k0_cond3 (grid0.coords t) = 1#1 ↔ arrayAt (Ring.bk 120 t.val) = 1)
    ∧ (k0_cond4 (grid0.coords t) = 1#1 ↔ arrayAt (Ring.bk 120 t.val) = 2)
    ∧ (k0_cond5 (grid0.coords t) = 1#1 ↔ arrayAt (Ring.bk 120 t.val) = 3)
    ∧ (k0_cond6 (grid0.coords t) = 1#1 ↔ arrayAt (Ring.bk 120 t.val) = 4)
    ∧ (k0_cond7 (grid0.coords t) = 1#1 ↔ arrayAt (Ring.bk 120 t.val) = 5)
    ∧ (k0_cond8 (grid0.coords t) = 1#1 ↔ arrayAt (Ring.bk 120 t.val) = 6)
    ∧ (k0_cond9 (grid0.coords t) = 1#1 ↔ arrayAt (Ring.bk 120 t.val) = 7)
    ∧ (k0_cond10 (grid0.coords t) = 1#1 ↔ arrayAt (Ring.bk 120 t.val) = 8)
    ∧ (k0_cond11 (grid0.coords t) = 1#1 ↔ arrayAt (Ring.bk 120 t.val) = 9)
    ∧ (k0_cond12 (grid0.coords t) = 1#1 ↔ arrayAt (Ring.bk 120 t.val) = 10)
    ∧ (k0_cond13 (grid0.coords t) = 1#1 ↔ arrayAt (Ring.bk 120 t.val) = 11)
    ∧ (k0_cond14 (grid0.coords t) = 1#1 ↔ arrayAt (Ring.bk 120 t.val) = 12) := by decide +kernel

/-- Where the thirteen copies find their counter, their tile and their slot. -/
def sendOffsets (i : grid0.Coords) : Fin 13 → (Fin 1 → Nat) × (Fin 2 → Nat) × (Fin 3 → Nat)
  | 0 => (k0_off4 i, k0_off5 i, k0_off6 i)
  | 1 => (k0_off7 i, k0_off8 i, k0_off9 i)
  | 2 => (k0_off10 i, k0_off11 i, k0_off12 i)
  | 3 => (k0_off13 i, k0_off14 i, k0_off15 i)
  | 4 => (k0_off16 i, k0_off17 i, k0_off18 i)
  | 5 => (k0_off19 i, k0_off20 i, k0_off21 i)
  | 6 => (k0_off22 i, k0_off23 i, k0_off24 i)
  | 7 => (k0_off25 i, k0_off26 i, k0_off27 i)
  | 8 => (k0_off28 i, k0_off29 i, k0_off30 i)
  | 9 => (k0_off31 i, k0_off32 i, k0_off33 i)
  | 10 => (k0_off34 i, k0_off35 i, k0_off36 i)
  | 11 => (k0_off37 i, k0_off38 i, k0_off39 i)
  | 12 => (k0_off40 i, k0_off41 i, k0_off42 i)

theorem send_offsets : ∀ t : Fin grid0.N,
    (sendOffsets (grid0.coords t) (arrayAt (Ring.bk 120 t.val))).1 = ![(Ring.sl 2 t.val).val]
    ∧ (sendOffsets (grid0.coords t) (arrayAt (Ring.bk 120 t.val))).2.1
      = ![1024 * ((Ring.bk 120 t.val).val / 15), if isWide (arrayAt (Ring.bk 120 t.val)) then 1024 * ((Ring.bk 120 t.val).val % 15 % 2) else 0]
    ∧ (sendOffsets (grid0.coords t) (arrayAt (Ring.bk 120 t.val))).2.2 = ![(Ring.sl 2 t.val).val, 0, 0] := by decide +kernel

/-- The other places a step names. -/
theorem offsets : ∀ t : Fin grid0.N, k0_off1 (grid0.coords t) = ![(Ring.sl 2 t.val).val]
    ∧ k0_off2 (grid0.coords t) = ![(Ring.sl 2 t.val).val, 0, 0] ∧ k0_off3 (grid0.coords t) = ![(Ring.sl 2 t.val).val, 0, 0]
    ∧ k0_off43 (grid0.coords t) = ![(Ring.sl 2 t.val).val] ∧ k0_off44 (grid0.coords t) = ![(Ring.sl 2 t.val).val, 0, 0]
    ∧ k0_off45 (grid0.coords t) = ![(Ring.sl 2 (t.val + 1)).val] ∧ k0_off46 (grid0.coords t) = ![(Ring.sl 2 (t.val + 1)).val, 0, 0] := by decide +kernel

theorem slot_of {p : Fin 3 → Nat} {s : Fin 2} (h : p = ![s.val, 0, 0]) (hb : ∀ a, p a + S1x1024x1024.size a ≤ S2x1024x1024.size a) :
    (scratch.slice (Rect.unit (s := S2x1024x1024) p S1x1024x1024.size hb) (fun _ => rfl)).squeeze S1024x1024 squeezes_S1x1024x1024_S1024x1024 = slot s := by
  subst h; rfl

theorem cell_of {o : Fin 1 → Nat} {s : Fin 2} (h : o = ![s.val]) (hb : ∀ a, o a + S1.size a ≤ S2.size a) :
    (cc0_scratch1.slice (Rect.unit (s := S2) o S1.size hb)).squeeze S_ squeezes_S1_S_ = cell s := by
  subst h; rfl

theorem narrow_of {M : Memref sig .tc .hbm S8192x1024 .f32} {q : Fin 2 → Nat} {b : Fin 120} (ht : tile b = narrow M b) (h : q = ![1024 * (b.val / 15), 0])
    (hb : ∀ a, q a + S1024x1024.size a ≤ S8192x1024.size a) :
    M.slice (Rect.unit (s := S8192x1024) q S1024x1024.size hb) (fun _ => rfl) = tile b := by
  subst h; exact ht.symm

theorem wide_of {M : Memref sig .tc .hbm S8192x2048 .f32} {q : Fin 2 → Nat} {b : Fin 120} (ht : tile b = wide M b) (h : q = ![1024 * (b.val / 15), 1024 * (b.val % 15 % 2)])
    (hb : ∀ a, q a + S1024x1024.size a ≤ S8192x2048.size a) :
    M.slice (Rect.unit (s := S8192x2048) q S1024x1024.size hb) (fun _ => rfl) = tile b := by
  subst h; exact ht.symm

theorem drain_of {q : DmaSems sig S_} {src : Memref sig .tc .vmem S1024x1024 .f32} {s : Fin 2} (hq : q = cell s) (hs : src = slot s) (h₁ : src.view.WordExact) (h₂ : origin.view.WordExact) :
    (Prog.lift (.waitDma2 q.sem src origin h₁ h₂) : Prog (TpuEff nD τ sig (Elt F) Λ₀ .tc) PUnit) = Behind.drain places s := by
  subst hq hs; rfl

/-- A slot filled, and its copy started. -/
theorem make_of {p : Fin 3 → Nat} {s : Fin 2} {b : Fin 120} {src : Memref sig .tc .vmem S1024x1024 .f32} {dst : Memref sig .tc .hbm S1024x1024 .f32} {q : DmaSems sig S_}
    (hp : p = ![s.val, 0, 0]) (hd : dst = tile b) (hs : src = slot s) (hq : q = cell s) (j : ∀ a, p a + S1x1024x1024.size a ≤ S2x1024x1024.size a)
    (h₁ : src.view.WordExact) (h₂ : dst.view.WordExact) (a w : Memref sig .tc .vmem S1024x1024 .bf16) (k : PUnit → Prog (TpuEff nD τ sig (Elt F) Λ₀ .tc) PUnit) :
    (do
      let x : Vec F S1024x1024 .bf16 ← Prog.lift (.load a (Rect.unit (s := S1024x1024) ![0, 0] S1024x1024.size inb_S1024x1024_S1024x1024_0_0).toLoadRect (View.loadsAt_vmem h_S1024x1024))
      let y : Vec F S1024x1024 .bf16 ← Prog.lift (.load w (Rect.unit (s := S1024x1024) ![0, 0] S1024x1024.size inb_S1024x1024_S1024x1024_0_0).toLoadRect (View.loadsAt_vmem h_S1024x1024))
      let _v : Vec F S1x1024x1024 .f32 ← Prog.lift (.load scratch (Rect.unit (s := S2x1024x1024) p S1x1024x1024.size j).toLoadRect (View.loadsAt_vmem h_S1x1024x1024))
      Prog.lift (.store scratch (Rect.unit (s := S2x1024x1024) p S1x1024x1024.size j) (k0_pay1 x y) Finset.univ (View.stores_vmem_bits_univ h_S1x1024x1024 rfl) (.inl rfl))
      Prog.lift (.enqueueDma src (.here dst) (.dma q.sem) h₁ h₂ ⟨Or.inl rfl, trivial⟩)
      k ⟨⟩) = (fill s a w >>= fun _ => Behind.send places b s >>= k : Prog (TpuEff nD τ sig (Elt F) Λ₀ .tc) PUnit) := by
  subst hp hd hs hq; rfl

section Text

variable (t : Fin grid0.N) (a : Memref sig .tc .vmem S1024x1024 .bf16) (ha : a.IsWhole) (w : Memref sig .tc .vmem S1024x1024 .bf16) (hw : w.IsWhole)

set_option maxHeartbeats 2000000 in
/-- The first two points fill and send; -/
theorem body_first (h2 : ¬2 ≤ t.val) :
    (body t a ha w hw : Prog (TpuEff nD τ sig (Elt F) Λ₀ .tc) PUnit)
      = (fill (Ring.sl 2 t.val) a w >>= fun _ => Behind.send places (Ring.bk 120 t.val) (Ring.sl 2 t.val)) := by
  have c1 : ¬k0_cond1 (grid0.coords t) = 1#1 := fun c => h2 ((wait_iff t).mp c)
  have c15 : ¬k0_cond15 (grid0.coords t) = 1#1 := fun c => h2 (by have := (last_iff t).mp c; omega)
  have cs := array_iff t
  have os := send_offsets t
  have o3 := (offsets t).2.2.1
  have ht : tile (Ring.bk 120 t.val) = tileIn (arrayAt (Ring.bk 120 t.val)) (Ring.bk 120 t.val) := rfl
  have hA : ∀ t : Fin grid0.N, ¬2 ≤ t.val → arrayAt (Ring.bk 120 t.val) = 0 ∨ arrayAt (Ring.bk 120 t.val) = 1 := by decide +kernel
  unfold body
  rw [cc0_inlin0_fwd_eq_skeleton]
  unfold cc0_inlin0_fwd_skel
  rw [k0_part1_eq_skeleton, k0_part2_eq_skeleton, k0_part3_eq_skeleton]
  rcases hA t h2 with h | h
  all_goals
    rw [h] at os ht
    simp only [h] at cs
    simp at cs
    simp only [sendOffsets, isWide] at os
    simp only [tileIn] at ht
    simp only [c1, c15, cs, ↓reduceDIte, k0_part1_skel, k0_part2_skel, k0_part3_skel]
    exact make_of (b := Ring.bk 120 t.val) (s := Ring.sl 2 t.val) o3 (narrow_of ht os.2.1 _) (slot_of os.2.2 _) (cell_of os.1 _) _ _ _ a w pure

set_option maxHeartbeats 4000000 in
/-- those after wait first; -/
theorem body_next (h2 : 2 ≤ t.val) (hn : ¬t.val + 1 = 120) :
    (body t a ha w hw : Prog (TpuEff nD τ sig (Elt F) Λ₀ .tc) PUnit)
      = (Behind.drain places (Ring.sl 2 t.val) >>= fun _ => fill (Ring.sl 2 t.val) a w >>= fun _ => Behind.send places (Ring.bk 120 t.val) (Ring.sl 2 t.val)) := by
  have c1 := (wait_iff t).mpr h2
  have c15 : ¬k0_cond15 (grid0.coords t) = 1#1 := fun c => hn ((last_iff t).mp c)
  have cs := array_iff t
  have os := send_offsets t
  obtain ⟨o1, o2, o3, o4, o5, o6, o7⟩ := offsets t
  have ht : tile (Ring.bk 120 t.val) = tileIn (arrayAt (Ring.bk 120 t.val)) (Ring.bk 120 t.val) := rfl
  unfold body
  rw [cc0_inlin0_fwd_eq_skeleton]
  unfold cc0_inlin0_fwd_skel
  rw [k0_part1_eq_skeleton, k0_part2_eq_skeleton, k0_part3_eq_skeleton]
  rcases cases13 (arrayAt (Ring.bk 120 t.val)) with h | h | h | h | h | h | h | h | h | h | h | h | h
  all_goals
    rw [h] at os ht
    simp only [h] at cs
    simp at cs
    simp only [sendOffsets, isWide] at os
    simp only [tileIn] at ht
    simp only [c1, c15, cs, ↓reduceDIte, k0_part1_skel, k0_part2_skel, k0_part3_skel]
    first
    | exact congr (congrArg Bind.bind (drain_of (cell_of o1 _) (slot_of o2 _) _ _))
        (funext fun _ => make_of (b := Ring.bk 120 t.val) (s := Ring.sl 2 t.val) o3 (narrow_of ht os.2.1 _) (slot_of os.2.2 _) (cell_of os.1 _) _ _ _ a w pure)
    | exact congr (congrArg Bind.bind (drain_of (cell_of o1 _) (slot_of o2 _) _ _))
        (funext fun _ => make_of (b := Ring.bk 120 t.val) (s := Ring.sl 2 t.val) o3 (wide_of ht os.2.1 _) (slot_of os.2.2 _) (cell_of os.1 _) _ _ _ a w pure)

set_option maxHeartbeats 2000000 in
/-- and the last, which writes the last array, waits for its own copy and the one before. -/
theorem body_last (h2 : 2 ≤ t.val) (hn : t.val + 1 = 120) :
    (body t a ha w hw : Prog (TpuEff nD τ sig (Elt F) Λ₀ .tc) PUnit)
      = (Behind.drain places (Ring.sl 2 t.val) >>= fun _ => fill (Ring.sl 2 t.val) a w >>= fun _ => Behind.send places (Ring.bk 120 t.val) (Ring.sl 2 t.val)
          >>= fun _ => Behind.drain places (Ring.sl 2 t.val) >>= fun _ => Behind.drain places (Ring.sl 2 (t.val + 1))) := by
  have c1 := (wait_iff t).mpr h2
  have c15 := (last_iff t).mpr hn
  have cs := array_iff t
  have os := send_offsets t
  obtain ⟨o1, o2, o3, o4, o5, o6, o7⟩ := offsets t
  have ht : tile (Ring.bk 120 t.val) = tileIn (arrayAt (Ring.bk 120 t.val)) (Ring.bk 120 t.val) := rfl
  unfold body
  rw [cc0_inlin0_fwd_eq_skeleton]
  unfold cc0_inlin0_fwd_skel
  rw [k0_part1_eq_skeleton, k0_part2_eq_skeleton, k0_part3_eq_skeleton]
  have hA : ∀ t : Fin grid0.N, t.val + 1 = 120 → arrayAt (Ring.bk 120 t.val) = 12 := by decide +kernel
  have h := hA t hn
  rw [h] at os ht
  simp only [h] at cs
  simp at cs
  simp only [sendOffsets, isWide] at os
  simp only [tileIn] at ht
  have c14 : k0_cond14 (grid0.coords t) = 1#1 := cs.2.2.2.2.2.2.2.2.2.2.2.2
  simp only [c1, c15, cs, ↓reduceDIte, k0_part1_skel, k0_part2_skel, k0_part3_skel]
  refine congr (congrArg Bind.bind (drain_of (cell_of o1 _) (slot_of o2 _) _ _))
    (funext fun _ => Eq.trans ?_ (make_of (b := Ring.bk 120 t.val) (s := Ring.sl 2 t.val) o3 (narrow_of ht os.2.1 (k0_off41_inb _ c14)) (slot_of os.2.2 (k0_off42_inb _ c14)) (cell_of os.1 (k0_off40_inb _ c14))
      (k0_off3_inb _) ((View.wordExact_bits rfl).reshape _ _) (View.wordExact_bits rfl) a w (fun _ => Behind.drain places (Ring.sl 2 t.val) >>= fun _ => Behind.drain places (Ring.sl 2 (t.val + 1)))))
  rw [← drain_of (cell_of o6 (k0_off45_inb _ c15)) (slot_of o7 (k0_off46_inb _ c15)) ((View.wordExact_bits rfl).reshape _ _) (View.wordExact_bits rfl),
    ← drain_of (cell_of o4 (k0_off43_inb _ c15)) (slot_of o5 (k0_off44_inb _ c15)) ((View.wordExact_bits rfl).reshape _ _) (View.wordExact_bits rfl)]
  rfl

theorem body_step : (body t a ha w hw : Prog (TpuEff nD τ sig (Elt F) Λ₀ .tc) PUnit) = Behind.step places (fun s => fill s a w) t.val := by
  unfold Behind.step
  by_cases h2 : 2 ≤ t.val
  · by_cases hl : t.val + 1 = 120
    · rw [if_pos h2, if_pos hl]; exact body_last t a ha w hw h2 hl
    · rw [if_pos h2, if_neg hl]; exact body_next t a ha w hw h2 hl
  · rw [if_neg h2]; exact body_first t a ha w hw h2

end Text

end Cert.Kernel13Ideal.Fwd

end
-- ==== Proof.WinFRing.lean ====
module

public import proofs.«01_k».proof.Proof.WinFProg
public import proofs.«01_k».proof.Proof.Slots

/-! # The input product: the step

A step makes one tile of the product in one of two slots and starts its copy out to its array; the copy is waited two
steps later, before the slot is filled again, and the last step waits for the last two. -/

@[expose] public section

set_option maxRecDepth 16384

noncomputable section

namespace Cert.Kernel13Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel13Ideal.Gen Cert.Proof

variable {F : FTy → Type} [FloatOps F]

local notation "𝕄" => MT nD τ sig Unit (Elt F) ℕ (Pipeline.UD sig nD τ) ℕ

variable (c : Dev nD)

/-- The tile a step makes of its two blocks. -/
abbrev made (x y : Vec F S1024x1024 .bf16) : Vec F S1024x1024 .f32 := shapeCast S1024x1024 (k0_pay1 x y) shapeCasts_S1x1024x1024_S1024x1024

theorem slot_write (s : Fin 2) (f : Behind.Held (F := F) (τ := τ) c scratch) (x : Vec F S1x1024x1024 .f32) :
    (slot s).view.read (Elt F) (View.write (Elt F) (scratch.access (Rect.unit (s := S2x1024x1024) ![s.val, 0, 0] S1x1024x1024.size (Cert.Proof.Slots.inb_slot s))) f x Finset.univ)
      = shapeCast S1024x1024 x shapeCasts_S1x1024x1024_S1024x1024 :=
  Cert.Proof.Slots.slot_write scratch (Cert.Proof.Slots.inb_slot s) squeezes_S1x1024x1024_S1024x1024 shapeCasts_S1x1024x1024_S1024x1024 f x

/-- Filling a slot. -/
theorem fill_run (s : Fin 2) (a : Memref sig .tc .vmem S1024x1024 .bf16) (ha : a.IsWhole) (w : Memref sig .tc .vmem S1024x1024 .bf16) (hw : w.IsWhole)
    (x y : Vec F S1024x1024 .bf16) (K : PUnit → sProp 𝕄) :
    iprop(iprop(owns (c : Thread nD τ) a fullShare x ∗ owns (c : Thread nD τ) w fullShare y) ∗ (∃ f, Behind.slotHeld places c s f)
        ∗ (iprop(iprop(owns (c : Thread nD τ) a fullShare x ∗ owns (c : Thread nD τ) w fullShare y)
          ∗ Behind.filled places c s (made x y)) -∗ K ⟨⟩))
      ⊢ wp frame (wpE (defs₀ (F := F)) Variants.none c none) Set.univ (fill s a w) K := by
  unfold fill
  unfold owns
  iintro ⟨⟨⟨%f, %hf, Ha⟩, ⟨%g, %hg, Hw⟩⟩, ⟨%h, Hs⟩, Hk⟩
  obtain rfl := ha.eq_unread hf; obtain rfl := hw.eq_unread hg
  sl_exec
  sl_step
  iapply Hk
  unfold fill_run.sl.Hs_w1
  isplitl [Ha Hw]
  · isplitl [Ha]
    · iexists _; isplitr; · ipureintro; exact hf
      iexact Ha
    · iexists _; isplitr; · ipureintro; exact hg
      iexact Hw
  iexists _; isplitr
  swap; · iexact Hs
  ipureintro
  refine Eq.trans (slot_write c s h _) ?_
  simp only [View.readAt_eq_ld, ha.read_unread, hw.read_unread, View.ld_unit_zero (S := S1024x1024) Cert.Proof.Slots.zero_offset]

end Cert.Kernel13Ideal.Fwd

end
-- ==== Proof.WinFRun.lean ====
module

public import proofs.«01_k».proof.Proof.WinFRing
public import proofs.«01_k».proof.Proof.WinVal
public import Idealize.ShloMosaic.Lib.Claim
public import Idealize.ShloMosaic.Lib.Pipeline.ValueKit

/-! # The input product: the whole run -/

@[expose] public section

set_option maxRecDepth 16384

noncomputable section

namespace Cert.Kernel13Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel13Ideal.Gen Cert.Proof
open Cert.Kernel4Ideal.Win (arrayAt cases13 opens place_narrow place_wide)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host's casts -/

/-- Core `c`'s arrays when the kernel starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The arrays the host writes. -/
def hostWrites : List (Ref sig .tc) := [main_v0, main_v1]

/-- An array the host does not write is found as launched. -/
theorem V_unwritten (c : Dev nD) (r : Ref sig .tc) (h : ∀ x ∈ hostWrites, r ≠ x) : V m c r = m ((c : Thread nD τ).loc r) :=
  StableHlo.after_of_forall_not_mem (b := Proc.devRef .tc r) _ _ (List.forall_iff_forall_mem.mp (by
    simp only [hostWrites, List.mem_cons, List.not_mem_nil, or_false, forall_eq_or_imp, forall_eq] at h
    simp only [hostOps0, List.Forall, StableHlo.unary_writes, Finset.mem_singleton]
    refine ⟨?_, ?_⟩
    all_goals (apply StableHlo.devRef_ne_of_ne; simp only [h, ne_eq, not_false_eq_true])))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_rows {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_weights {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The result -/

/-- The tile of step `b`. -/
def outs (c : Dev nD) (b : Fin 120) : Vec F S1024x1024 .f32 :=
  made (iblk m c 0 (b.cast N_0.symm)) (iblk m c 1 (b.cast N_0.symm))

/-- The step that makes tile `j` of row tile `r`, and where in its tile an element lies. -/
def stepAt (r j : ℕ) : Fin 120 := ⟨(15 * r + j) % 120, Nat.mod_lt _ (by decide)⟩
def spot (r s : ℕ) : S1024x1024.Idx := ix2 ⟨r % 1024, Nat.mod_lt _ (by decide)⟩ ⟨s % 1024, Nat.mod_lt _ (by decide)⟩

/-- Tiles `j`, `j + 1`, … laid side by side: row `r`, column `s`. -/
def laid (c : Dev nD) (j r s : ℕ) : F .f32 := outs m c (stepAt (r / 1024) (j + s / 1024)) (spot r s)

/-- An array one tile wide, and one two tiles wide, from tile `j` on. -/
def single (c : Dev nD) (j : ℕ) : S8192x1024.Idx → F .f32 := fun i => laid m c j (i 0).val (i 1).val
def double (c : Dev nD) (j : ℕ) : S8192x2048.Idx → F .f32 := fun i => laid m c j (i 0).val (i 1).val

/-- Core `c`'s arrays when the kernel ends. -/
def G (c : Dev nD) : (b : Ref sig .tc) → Buf (Elt F) ((c : Thread nD τ).loc b) :=
  (Function.update (Function.update (Function.update (Function.update (Function.update (Function.update (Function.update (Function.update (Function.update (Function.update (Function.update (Function.update (Function.update (V m c) main_v2_0 (single m c (opens 0))) main_v2_1 (single m c (opens 1))) main_v2_2 (double m c (opens 2))) main_v2_3 (double m c (opens 3))) main_v2_4 (single m c (opens 4))) main_v2_5 (single m c (opens 5))) main_v2_6 (single m c (opens 6))) main_v2_7 (single m c (opens 7))) main_v2_8 (single m c (opens 8))) main_v2_9 (single m c (opens 9))) main_v2_10 (single m c (opens 10))) main_v2_11 (single m c (opens 11))) main_v2_12 (single m c (opens 12)))

theorem laid_at (c : Dev nD) (b : Fin 120) (y : S1024x1024.Idx) (j r s : ℕ) (hr : r = 1024 * (b.val / 15) + (y 0).val) (hs : 1024 * j + s = 1024 * (b.val % 15) + (y 1).val) :
    laid m c j r s = outs m c b y := by
  have h0 : (y 0).val < 1024 := (y 0).isLt
  have h1 : (y 1).val < 1024 := (y 1).isLt
  have hb := b.isLt
  have e : stepAt (r / 1024) (j + s / 1024) = b := Fin.ext (show (15 * (r / 1024) + (j + s / 1024)) % 120 = b.val by omega)
  have ey : spot r s = y := by
    conv_rhs => rw [eq_ix2 y]
    exact congrArg₂ ix2 (Fin.ext (show r % 1024 = (y 0).val by omega)) (Fin.ext (show s % 1024 = (y 1).val by omega))
  unfold laid
  rw [e, ey]

theorem single_at (c : Dev nD) (b : Fin 120) (g : Fin 13) (h : arrayAt b = g) (hg : g ≠ 2 ∧ g ≠ 3) (y : S1024x1024.Idx) (i : S8192x1024.Idx)
    (h0 : (i 0).val = 1024 * (b.val / 15) + 1 * (y 0).val) (h1 : (i 1).val = 0 + 1 * (y 1).val) : single m c (opens g) i = outs m c b y := by
  have hp := place_narrow b (h ▸ hg)
  rw [h] at hp
  exact laid_at m c b y _ _ _ (by omega) (by omega)

theorem double_at (c : Dev nD) (b : Fin 120) (g : Fin 13) (h : arrayAt b = g) (hg : g = 2 ∨ g = 3) (y : S1024x1024.Idx) (i : S8192x2048.Idx)
    (h0 : (i 0).val = 1024 * (b.val / 15) + 1 * (y 0).val) (h1 : (i 1).val = 1024 * (b.val % 15 % 2) + 1 * (y 1).val) : double m c (opens g) i = outs m c b y := by
  have hp := place_wide b (h ▸ hg)
  rw [h] at hp
  exact laid_at m c b y _ _ _ (by omega) (by omega)

theorem G_arrays (c : Dev nD) : G m c main_v2_0 = single m c (opens 0) ∧
    G m c main_v2_1 = single m c (opens 1) ∧
    G m c main_v2_2 = double m c (opens 2) ∧
    G m c main_v2_3 = double m c (opens 3) ∧
    G m c main_v2_4 = single m c (opens 4) ∧
    G m c main_v2_5 = single m c (opens 5) ∧
    G m c main_v2_6 = single m c (opens 6) ∧
    G m c main_v2_7 = single m c (opens 7) ∧
    G m c main_v2_8 = single m c (opens 8) ∧
    G m c main_v2_9 = single m c (opens 9) ∧
    G m c main_v2_10 = single m c (opens 10) ∧
    G m c main_v2_11 = single m c (opens 11) ∧
    G m c main_v2_12 = single m c (opens 12) := by
  refine ⟨?_, ?_, ?_, ?_, ?_, ?_, ?_, ?_, ?_, ?_, ?_, ?_, ?_⟩
  all_goals simp (decide := true) only [G, Function.update_self, Function.update_of_ne, ne_eq, not_false_eq_true]

theorem single_tile (c : Dev nD) (b : Fin 120) (g : Fin 13) (h : arrayAt b = g) (hg : g ≠ 2 ∧ g ≠ 3) (M : Memref sig .tc .hbm S8192x1024 .f32) (X : Buf (Elt F) (M.view.loc (c : Thread nD τ)))
    (hX : M.view.read (Elt F) X = single m c (opens g)) : (narrow M b).view.read (Elt F) X = outs m c b :=
  funext fun y => (congrFun hX ((Rect.unit (s := S8192x1024) ![1024 * (b.val / 15), 0] S1024x1024.size (inb_narrow b)).emb y)).trans (single_at m c b g h hg y _ rfl rfl)

theorem double_tile (c : Dev nD) (b : Fin 120) (g : Fin 13) (h : arrayAt b = g) (hg : g = 2 ∨ g = 3) (M : Memref sig .tc .hbm S8192x2048 .f32) (X : Buf (Elt F) (M.view.loc (c : Thread nD τ)))
    (hX : M.view.read (Elt F) X = double m c (opens g)) : (wide M b).view.read (Elt F) X = outs m c b :=
  funext fun y => (congrFun hX ((Rect.unit (s := S8192x2048) ![1024 * (b.val / 15), 1024 * (b.val % 15 % 2)] S1024x1024.size (inb_wide b)).emb y)).trans (double_at m c b g h hg y _ rfl rfl)

theorem G_tileIn (c : Dev nD) (b : Fin 120) (g : Fin 13) (h : arrayAt b = g) : (tileIn g b).view.read (Elt F) (G m c (tileIn g b).view.ref) = outs m c b := by
  obtain ⟨g0, g1, g2, g3, g4, g5, g6, g7, g8, g9, g10, g11, g12⟩ := G_arrays m c
  rcases cases13 g with e | e | e | e | e | e | e | e | e | e | e | e | e
  all_goals subst e
  · exact single_tile m c b 0 h (by decide) (Memref.whole main_v2_0) (G m c main_v2_0) g0
  · exact single_tile m c b 1 h (by decide) (Memref.whole main_v2_1) (G m c main_v2_1) g1
  · exact double_tile m c b 2 h (by decide) (Memref.whole main_v2_2) (G m c main_v2_2) g2
  · exact double_tile m c b 3 h (by decide) (Memref.whole main_v2_3) (G m c main_v2_3) g3
  · exact single_tile m c b 4 h (by decide) (Memref.whole main_v2_4) (G m c main_v2_4) g4
  · exact single_tile m c b 5 h (by decide) (Memref.whole main_v2_5) (G m c main_v2_5) g5
  · exact single_tile m c b 6 h (by decide) (Memref.whole main_v2_6) (G m c main_v2_6) g6
  · exact single_tile m c b 7 h (by decide) (Memref.whole main_v2_7) (G m c main_v2_7) g7
  · exact single_tile m c b 8 h (by decide) (Memref.whole main_v2_8) (G m c main_v2_8) g8
  · exact single_tile m c b 9 h (by decide) (Memref.whole main_v2_9) (G m c main_v2_9) g9
  · exact single_tile m c b 10 h (by decide) (Memref.whole main_v2_10) (G m c main_v2_10) g10
  · exact single_tile m c b 11 h (by decide) (Memref.whole main_v2_11) (G m c main_v2_11) g11
  · exact single_tile m c b 12 h (by decide) (Memref.whole main_v2_12) (G m c main_v2_12) g12

theorem G_tile (c : Dev nD) (b : Fin 120) : (tile b).view.read (Elt F) (G m c (tile b).view.ref) = outs m c b := by
  unfold tile; exact G_tileIn m c b _ rfl

/-! ## The two ends of the ring -/

/-- The arrays the kernel writes. -/
def arrays : Finset (Ref sig .tc) := {main_v2_0, main_v2_1, main_v2_2, main_v2_3, main_v2_4, main_v2_5, main_v2_6, main_v2_7, main_v2_8, main_v2_9, main_v2_10, main_v2_11, main_v2_12}

abbrev counters : Fin 2 → SemLoc sig := fun j => Behind.cellNo places j

theorem counterFacts : Pipeline.OwnSemFacts spec0 counters := by decide

theorem counters_eq (c : Dev nD) :
    (Pipeline.ownSems0 (Ix := Unit) (Name := ℕ) (U := Pipeline.UD sig nD τ) (Lvl := ℕ) (Val := Elt F) (τ := τ) counters c : sProp 𝕄)
      = iprop(Behind.cellZero places c 0 ∗ Behind.cellZero places c 1) := by
  rw [Pipeline.ownSems0_eq_of_list c counters [0, 1] (by decide) (by decide)]; rfl

theorem owned_eq (W W' : (c : Dev nD) → (b : Ref sig .tc) → Buf (Elt F) ((c : Thread nD τ).loc b)) (c : Dev nD) :
    (Pipeline.ΦDRG counters spec0 ∅ arrays W W' c : sProp 𝕄)
      = iprop(iprop((∃ d, owns (c : Thread nD τ) scratch fullShare d)) ∗ (∃ r, prngReg c r)
          ∗ iprop(Behind.cellZero places c 0 ∗ Behind.cellZero places c 1) ∗ (bigSep arrays fun r => ((c : Thread nD τ).loc r) ↦{fullShare} W' c r)) := by
  rw [Pipeline.ΦDRG_eq, scopedRest0_eq, counters_eq]
  unfold Pipeline.routed
  rw [bigSep_empty]
  simp only [scratch, owns_whole]
  rw [show ∀ P : sProp 𝕄, iprop(BI.emp ∗ P) = P from fun P => equiv_iff.mp Idealize.SL.BI.emp_sep]
  try rfl

theorem slotSet_eq (s : Fin 2) : (slot s).view.set = Cert.Proof.Slots.slotSet s := by
  simp only [slot, Memref.view_squeeze, View.set_reshape]; exact View.set_slice_whole _ _

theorem slotHeld_eq (c : Dev nD) (s : Fin 2) (f) : Behind.slotHeld (F := F) places c s f = (((c : Thread nD τ).loc cc0_scratch0) ↦[Cert.Proof.Slots.slotSet s]{fullShare} f : sProp 𝕄) := by
  unfold Behind.slotHeld; rw [show (places.slot s).view.set = _ from slotSet_eq s]; rfl

set_option maxHeartbeats 1000000 in
theorem slots_in (c : Dev nD) : iprop(∃ d, owns (c : Thread nD τ) scratch fullShare d) ⊢ (iprop((∃ f, Behind.slotHeld (F := F) places c 0 f) ∗ ∃ f, Behind.slotHeld (F := F) places c 1 f) : sProp 𝕄) := by
  simp only [scratch, owns_whole]
  exact Ring.slots2_split (U := Pipeline.UD sig nD τ) (ℓ := (c : Thread nD τ).loc cc0_scratch0) (q := fullShare) Cert.Proof.Slots.slotSet Cert.Proof.Slots.slots_disjoint Cert.Proof.Slots.slots_cover
    (Behind.slotHeld places c 0) (Behind.slotHeld places c 1) (slotHeld_eq c 0) (slotHeld_eq c 1)

set_option maxHeartbeats 1000000 in
theorem slots_out (c : Dev nD) : (iprop((∃ f, Behind.slotHeld (F := F) places c 0 f) ∗ ∃ f, Behind.slotHeld (F := F) places c 1 f) : sProp 𝕄) ⊢ iprop(∃ d, owns (c : Thread nD τ) scratch fullShare d) := by
  simp only [scratch, owns_whole]
  exact Ring.slots2_join (U := Pipeline.UD sig nD τ) (ℓ := (c : Thread nD τ).loc cc0_scratch0) (q := fullShare) Cert.Proof.Slots.slotSet Cert.Proof.Slots.slots_disjoint Cert.Proof.Slots.slots_cover
    (Behind.slotHeld places c 0) (Behind.slotHeld places c 1) (slotHeld_eq c 0) (slotHeld_eq c 1)

abbrev narrowSet (b : Fin 120) : Finset S8192x1024.Idx := (Rect.unit (s := S8192x1024) ![1024 * (b.val / 15), 0] S1024x1024.size (inb_narrow b)).set
abbrev wideSet (b : Fin 120) : Finset S8192x2048.Idx := (Rect.unit (s := S8192x2048) ![1024 * (b.val / 15), 1024 * (b.val % 15 % 2)] S1024x1024.size (inb_wide b)).set

theorem mem_narrow (b : Fin 120) (i : S8192x1024.Idx) : i ∈ narrowSet b ↔ (i 0).val / 1024 = b.val / 15 := by
  have h0 : (i 0).val < 8192 := (i 0).isLt
  have h1 : (i 1).val < 1024 := (i 1).isLt
  rw [Rect.mem_set_unit]
  constructor
  · intro h
    have e0 : 1024 * (b.val / 15) ≤ (i 0).val ∧ (i 0).val < 1024 * (b.val / 15) + 1024 := h 0
    omega
  · intro h a
    match a with
    | ⟨0, _⟩ => exact (show 1024 * (b.val / 15) ≤ (i 0).val ∧ (i 0).val < 1024 * (b.val / 15) + 1024 by omega)
    | ⟨1, _⟩ => exact (show 0 ≤ (i 1).val ∧ (i 1).val < 0 + 1024 by omega)

theorem mem_wide (b : Fin 120) (i : S8192x2048.Idx) : i ∈ wideSet b ↔ (i 0).val / 1024 = b.val / 15 ∧ (i 1).val / 1024 = b.val % 15 % 2 := by
  have h0 : (i 0).val < 8192 := (i 0).isLt
  have h1 : (i 1).val < 2048 := (i 1).isLt
  rw [Rect.mem_set_unit]
  constructor
  · intro h
    have e0 : 1024 * (b.val / 15) ≤ (i 0).val ∧ (i 0).val < 1024 * (b.val / 15) + 1024 := h 0
    have e1 : 1024 * (b.val % 15 % 2) ≤ (i 1).val ∧ (i 1).val < 1024 * (b.val % 15 % 2) + 1024 := h 1
    omega
  · intro h a
    match a with
    | ⟨0, _⟩ => exact (show 1024 * (b.val / 15) ≤ (i 0).val ∧ (i 0).val < 1024 * (b.val / 15) + 1024 by omega)
    | ⟨1, _⟩ => exact (show 1024 * (b.val % 15 % 2) ≤ (i 1).val ∧ (i 1).val < 1024 * (b.val % 15 % 2) + 1024 by omega)

/-- The steps that write array `g`. -/
def stepsOf (g : Fin 13) : Finset (Fin 120) := Finset.univ.filter fun b => arrayAt b = g

theorem mem_stepsOf {g : Fin 13} {b : Fin 120} : b ∈ stepsOf g ↔ arrayAt b = g := by simp [stepsOf]

theorem step_array : ∀ g : Fin 13, (g ≠ 2 ∧ g ≠ 3) → ∀ q : Fin 8, arrayAt (stepAt q.val (opens g)) = g := by decide
theorem step_array₂ : ∀ g : Fin 13, (g = 2 ∨ g = 3) → ∀ q : Fin 8, ∀ k : Fin 2, arrayAt (stepAt q.val (opens g + k.val)) = g ∧ (stepAt q.val (opens g + k.val)).val % 15 % 2 = k.val
    ∧ (stepAt q.val (opens g + k.val)).val / 15 = q.val := by decide
theorem step_row : ∀ g : Fin 13, ∀ q : Fin 8, (stepAt q.val (opens g)).val / 15 = q.val := by decide

theorem narrow_disjoint (g : Fin 13) (hg : g ≠ 2 ∧ g ≠ 3) : ∀ b ∈ stepsOf g, ∀ b' ∈ stepsOf g, b ≠ b' → Disjoint (narrowSet b) (narrowSet b') := by
  intro b hb b' hb' hne
  have h := place_narrow b (by rw [mem_stepsOf.mp hb]; exact hg)
  have h' := place_narrow b' (by rw [mem_stepsOf.mp hb']; exact hg)
  rw [mem_stepsOf.mp hb] at h
  rw [mem_stepsOf.mp hb'] at h'
  refine Finset.disjoint_left.mpr fun i hi hi' => hne (Fin.ext ?_)
  have e := (mem_narrow b i).mp hi
  have e' := (mem_narrow b' i).mp hi'
  omega

theorem wide_disjoint (g : Fin 13) (hg : g = 2 ∨ g = 3) : ∀ b ∈ stepsOf g, ∀ b' ∈ stepsOf g, b ≠ b' → Disjoint (wideSet b) (wideSet b') := by
  intro b hb b' hb' hne
  have h := place_wide b (by rw [mem_stepsOf.mp hb]; exact hg)
  have h' := place_wide b' (by rw [mem_stepsOf.mp hb']; exact hg)
  rw [mem_stepsOf.mp hb] at h
  rw [mem_stepsOf.mp hb'] at h'
  refine Finset.disjoint_left.mpr fun i hi hi' => hne (Fin.ext ?_)
  have e := (mem_wide b i).mp hi
  have e' := (mem_wide b' i).mp hi'
  omega

theorem narrow_cover (g : Fin 13) (hg : g ≠ 2 ∧ g ≠ 3) : (stepsOf g).biUnion narrowSet = Finset.univ := by
  refine Finset.eq_univ_iff_forall.mpr fun i => ?_
  have h0 : (i 0).val < 8192 := (i 0).isLt
  have hq : (i 0).val / 1024 < 8 := by omega
  exact Finset.mem_biUnion.mpr ⟨_, mem_stepsOf.mpr (step_array g hg ⟨_, hq⟩), (mem_narrow _ i).mpr (step_row g ⟨_, hq⟩).symm⟩

theorem wide_cover (g : Fin 13) (hg : g = 2 ∨ g = 3) : (stepsOf g).biUnion wideSet = Finset.univ := by
  refine Finset.eq_univ_iff_forall.mpr fun i => ?_
  have h0 : (i 0).val < 8192 := (i 0).isLt
  have h1 : (i 1).val < 2048 := (i 1).isLt
  have hq : (i 0).val / 1024 < 8 := by omega
  have hk : (i 1).val / 1024 < 2 := by omega
  obtain ⟨ha, hc, hr⟩ := step_array₂ g hg ⟨_, hq⟩ ⟨_, hk⟩
  exact Finset.mem_biUnion.mpr ⟨_, mem_stepsOf.mpr ha, (mem_wide _ i).mpr ⟨hr.symm, hc.symm⟩⟩

/-- The thirteen arrays. -/
def arrayRef (g : Fin 13) : Ref sig .tc := (![main_v2_0, main_v2_1, main_v2_2, main_v2_3, main_v2_4, main_v2_5, main_v2_6, main_v2_7, main_v2_8, main_v2_9, main_v2_10, main_v2_11, main_v2_12] : Fin 13 → Ref sig .tc) g

theorem arrays_image : (Finset.univ : Finset (Fin 13)).image arrayRef = arrays := by decide
theorem arrayRef_inj : Function.Injective arrayRef := by decide

section Arrays

variable (c : Dev nD) (W : (b : Ref sig .tc) → Buf (Elt F) ((c : Thread nD τ).loc b))

theorem blocks {ℓ : Loc nD τ sig} (J : Finset (Fin 120)) (K : Fin 120 → Finset (Idx ℓ)) (hd : ∀ b ∈ J, ∀ b' ∈ J, b ≠ b' → Disjoint (K b) (K b')) (hc : J.biUnion K = Finset.univ)
    (f : Buf (Elt F) ℓ) (P : Fin 120 → sProp 𝕄) (hP : ∀ b, P b = (ℓ ↦[K b]{fullShare} f)) : (ℓ ↦{fullShare} f : sProp 𝕄) = bigSep J P := by
  rw [← hc, pointsTo_biUnion J K hd]
  exact bigSep_congr fun b _ => (hP b).symm

/-- One array is its tiles, -/
theorem array_eq (g : Fin 13) : (((c : Thread nD τ).loc (arrayRef g)) ↦{fullShare} W (arrayRef g) : sProp 𝕄)
    = bigSep (stepsOf g) fun b => Behind.tileHeld (F := F) places c b (W (tile b).view.ref) := by
  have e : ∀ b ∈ stepsOf g, (Behind.tileHeld (F := F) places c b (W (tile b).view.ref) : sProp 𝕄)
      = (((tileIn g b).view.loc (c : Thread nD τ)) ↦[(tileIn g b).view.set]{fullShare} W (tileIn g b).view.ref) := by
    intro b hb; unfold Behind.tileHeld; show (((tile b).view.loc (c : Thread nD τ)) ↦[(tile b).view.set]{fullShare} W (tile b).view.ref : sProp 𝕄) = _; unfold tile; rw [mem_stepsOf.mp hb]
  rw [bigSep_congr e]
  clear e
  rcases cases13 g with h | h | h | h | h | h | h | h | h | h | h | h | h
  all_goals subst h
  · exact blocks (ℓ := (c : Thread nD τ).loc main_v2_0) (stepsOf 0) narrowSet (narrow_disjoint 0 (by decide)) (narrow_cover 0 (by decide)) (W main_v2_0) _ fun b => congrArg (fun S => (((c : Thread nD τ).loc main_v2_0) ↦[S]{fullShare} W main_v2_0 : sProp 𝕄)) (View.set_slice_whole main_v2_0 _)
  · exact blocks (ℓ := (c : Thread nD τ).loc main_v2_1) (stepsOf 1) narrowSet (narrow_disjoint 1 (by decide)) (narrow_cover 1 (by decide)) (W main_v2_1) _ fun b => congrArg (fun S => (((c : Thread nD τ).loc main_v2_1) ↦[S]{fullShare} W main_v2_1 : sProp 𝕄)) (View.set_slice_whole main_v2_1 _)
  · exact blocks (ℓ := (c : Thread nD τ).loc main_v2_2) (stepsOf 2) wideSet (wide_disjoint 2 (by decide)) (wide_cover 2 (by decide)) (W main_v2_2) _ fun b => congrArg (fun S => (((c : Thread nD τ).loc main_v2_2) ↦[S]{fullShare} W main_v2_2 : sProp 𝕄)) (View.set_slice_whole main_v2_2 _)
  · exact blocks (ℓ := (c : Thread nD τ).loc main_v2_3) (stepsOf 3) wideSet (wide_disjoint 3 (by decide)) (wide_cover 3 (by decide)) (W main_v2_3) _ fun b => congrArg (fun S => (((c : Thread nD τ).loc main_v2_3) ↦[S]{fullShare} W main_v2_3 : sProp 𝕄)) (View.set_slice_whole main_v2_3 _)
  · exact blocks (ℓ := (c : Thread nD τ).loc main_v2_4) (stepsOf 4) narrowSet (narrow_disjoint 4 (by decide)) (narrow_cover 4 (by decide)) (W main_v2_4) _ fun b => congrArg (fun S => (((c : Thread nD τ).loc main_v2_4) ↦[S]{fullShare} W main_v2_4 : sProp 𝕄)) (View.set_slice_whole main_v2_4 _)
  · exact blocks (ℓ := (c : Thread nD τ).loc main_v2_5) (stepsOf 5) narrowSet (narrow_disjoint 5 (by decide)) (narrow_cover 5 (by decide)) (W main_v2_5) _ fun b => congrArg (fun S => (((c : Thread nD τ).loc main_v2_5) ↦[S]{fullShare} W main_v2_5 : sProp 𝕄)) (View.set_slice_whole main_v2_5 _)
  · exact blocks (ℓ := (c : Thread nD τ).loc main_v2_6) (stepsOf 6) narrowSet (narrow_disjoint 6 (by decide)) (narrow_cover 6 (by decide)) (W main_v2_6) _ fun b => congrArg (fun S => (((c : Thread nD τ).loc main_v2_6) ↦[S]{fullShare} W main_v2_6 : sProp 𝕄)) (View.set_slice_whole main_v2_6 _)
  · exact blocks (ℓ := (c : Thread nD τ).loc main_v2_7) (stepsOf 7) narrowSet (narrow_disjoint 7 (by decide)) (narrow_cover 7 (by decide)) (W main_v2_7) _ fun b => congrArg (fun S => (((c : Thread nD τ).loc main_v2_7) ↦[S]{fullShare} W main_v2_7 : sProp 𝕄)) (View.set_slice_whole main_v2_7 _)
  · exact blocks (ℓ := (c : Thread nD τ).loc main_v2_8) (stepsOf 8) narrowSet (narrow_disjoint 8 (by decide)) (narrow_cover 8 (by decide)) (W main_v2_8) _ fun b => congrArg (fun S => (((c : Thread nD τ).loc main_v2_8) ↦[S]{fullShare} W main_v2_8 : sProp 𝕄)) (View.set_slice_whole main_v2_8 _)
  · exact blocks (ℓ := (c : Thread nD τ).loc main_v2_9) (stepsOf 9) narrowSet (narrow_disjoint 9 (by decide)) (narrow_cover 9 (by decide)) (W main_v2_9) _ fun b => congrArg (fun S => (((c : Thread nD τ).loc main_v2_9) ↦[S]{fullShare} W main_v2_9 : sProp 𝕄)) (View.set_slice_whole main_v2_9 _)
  · exact blocks (ℓ := (c : Thread nD τ).loc main_v2_10) (stepsOf 10) narrowSet (narrow_disjoint 10 (by decide)) (narrow_cover 10 (by decide)) (W main_v2_10) _ fun b => congrArg (fun S => (((c : Thread nD τ).loc main_v2_10) ↦[S]{fullShare} W main_v2_10 : sProp 𝕄)) (View.set_slice_whole main_v2_10 _)
  · exact blocks (ℓ := (c : Thread nD τ).loc main_v2_11) (stepsOf 11) narrowSet (narrow_disjoint 11 (by decide)) (narrow_cover 11 (by decide)) (W main_v2_11) _ fun b => congrArg (fun S => (((c : Thread nD τ).loc main_v2_11) ↦[S]{fullShare} W main_v2_11 : sProp 𝕄)) (View.set_slice_whole main_v2_11 _)
  · exact blocks (ℓ := (c : Thread nD τ).loc main_v2_12) (stepsOf 12) narrowSet (narrow_disjoint 12 (by decide)) (narrow_cover 12 (by decide)) (W main_v2_12) _ fun b => congrArg (fun S => (((c : Thread nD τ).loc main_v2_12) ↦[S]{fullShare} W main_v2_12 : sProp 𝕄)) (View.set_slice_whole main_v2_12 _)

/-- and all of them are all the tiles. -/
theorem results_eq : (bigSep arrays (fun r => ((c : Thread nD τ).loc r) ↦{fullShare} W r) : sProp 𝕄)
    = bigSep Finset.univ fun b => Behind.tileHeld (F := F) places c b (W (tile b).view.ref) := by
  rw [bigSep_fiberwise Finset.univ arrayAt, show (Finset.univ : Finset (Fin 120)).image arrayAt = Finset.univ by decide,
    ← arrays_image, bigSep_image_of_injOn (arrayRef_inj.injOn)]
  exact bigSep_congr fun g _ => array_eq c W g

end Arrays

/-- What the launch hands over is the ring before its first step; -/
theorem ring_in (c : Dev nD) (W : (b : Ref sig .tc) → Buf (Elt F) ((c : Thread nD τ).loc b)) :
    iprop((∃ d, owns (c : Thread nD τ) scratch fullShare d) ∗ (Behind.cellZero places c 0 ∗ Behind.cellZero places c 1) ∗ (bigSep arrays fun r => ((c : Thread nD τ).loc r) ↦{fullShare} W r))
      ⊢ Behind.ringAt places c (G m c) 0 :=
  Behind.ring_in places c (G m c) (by decide) _ _ (slots_in c) (by
    rw [results_eq]
    exact bigSep_mono fun b _ => show (Behind.tileHeld places c b (W (tile b).view.ref) : sProp 𝕄) ⊢ Behind.ahead places c b from by iintro H; iexists _; iexact H)

/-- and after the last step the ring gives it back, the result written. -/
theorem ring_out (c : Dev nD) :
    Behind.ringAt places c (G m c) 120
      ⊢ iprop((∃ d, owns (c : Thread nD τ) scratch fullShare d) ∗ (Behind.cellZero places c 0 ∗ Behind.cellZero places c 1) ∗ (bigSep arrays fun r => ((c : Thread nD τ).loc r) ↦{fullShare} G m c r)) :=
  Behind.ring_out places c (G m c) _ _ (slots_out c) (.of_eq (results_eq c (G m c)).symm)

/-! ## The run -/

/-- What the region keeps before point `k`: the generator's register and the ring. -/
def kept (c : Dev nD) (k : ℕ) : sProp 𝕄 := iprop((∃ r, prngReg c r) ∗ Behind.ringAt places c (G m c) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := kept m c t.val
  q _ := fullShare
  owed _ := 0

theorem A_eq (c : Dev nD) (w : Fin cfg0.W) : (dats m 0 c).A w = V m c (Pipeline.arrRef spec0 w) := by
  dsimp only [dats]

theorem kept_before (c : Dev nD) (t : Fin cfg0.N) : (dats m 0 c).Φ t.castSucc = kept m c t.val := by
  dsimp only [dats]; simp only [Fin.coe_castSucc]
theorem kept_after (c : Dev nD) (t : Fin cfg0.N) : (dats m 0 c).Φ t.succ = kept m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem before_0 (c : Dev nD) (t : Fin cfg0.N) (d) : (dats m 0 c).before 0 t d = iblk m c 0 t :=
  before_rows m (dats m 0 c) (A_eq m c 0) (after_0 m c) t d
theorem before_1 (c : Dev nD) (t : Fin cfg0.N) (d) : (dats m 0 c).before 1 t d = iblk m c 1 t :=
  before_weights m (dats m 0 c) (A_eq m c 1) (after_1 m c) t d

/-- The staging buffers at point `t`. -/
abbrev rowsAt (t : Fin cfg0.N) : Memref sig .tc .vmem S1024x1024 .bf16 := win0_0.stage (cfg0.slots t 0)
abbrev weightsAt (t : Fin cfg0.N) : Memref sig .tc .vmem S1024x1024 .bf16 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (rowsAt t) fullShare ((dats m 0 c).before 0 t d))
    ∗ (∃ d, owns (c : Thread nD τ) (weightsAt t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (rowsAt t) fullShare ((dats m 0 c).after 0 t)
    ∗ owns (c : Thread nD τ) (weightsAt t) fullShare ((dats m 0 c).after 1 t))

theorem body_text (t : Fin cfg0.N) : (bodyAt0 t : Prog (TpuEff nD τ sig (Elt F) Λ₀ .tc) PUnit)
    = body t (rowsAt t) (hstage0_0 ((cfg0.slots t 0).cast nbuf0_0)) (weightsAt t) (hstage0_1 ((cfg0.slots t 1).cast nbuf0_1)) := rfl

theorem made_tile (c : Dev nD) (t : Fin cfg0.N) :
    (tile (Ring.bk 120 t.val)).view.read (Elt F) (G m c (tile (Ring.bk 120 t.val)).view.ref) = made (iblk m c 0 t) (iblk m c 1 t) := by
  rw [G_tile]
  unfold outs
  have h : (Ring.bk 120 t.val).cast N_0.symm = t := Fin.ext (Nat.mod_eq_of_lt (lt_of_lt_of_eq t.isLt N_0))
  rw [h]

theorem sound_body (c : Dev nD) (t : Fin cfg0.N) :
    bodyPre m c t ⊢ wp frame (wpE (defs₀ (F := F)) Variants.none c none) Set.univ (bodyAt0 t) (fun _ => bodyPost m c t) := by
  rw [body_text]
  unfold bodyPre bodyPost
  simp only [before_0, before_1]
  rw [after_0, after_1, kept_before, kept_after]
  unfold Dat.owesAt Pipeline.owesWithin
  rw [show (dats m 0 c).owed t.castSucc = 0 from rfl, show (dats m 0 c).owed t.succ = 0 from rfl]
  unfold kept
  rw [body_step]
  iintro ⟨⟨Hg, Hr⟩, ⟨%Q, -, HW⟩, ⟨%d, Ha⟩, ⟨%e, Hw⟩⟩
  iapply (Behind.step_run places defs₀ c (G m c) t.val _ _ (made (iblk m c 0 t) (iblk m c 1 t))
    (fun s K => fill_run c s _ (hstage0_0 ((cfg0.slots t 0).cast nbuf0_0)) _ (hstage0_1 ((cfg0.slots t 1).cast nbuf0_1)) (iblk m c 0 t) (iblk m c 1 t) K)
    (made_tile m c t) (lt_of_lt_of_eq t.isLt N_0) (by decide) Q _)
  isplitl [Hr]; · iexact Hr
  isplitl [Ha Hw]
  · isplitl [Ha]; · iexact Ha
    iexact Hw
  isplitl [HW]; · iexact HW
  iintro ⟨Hr, ⟨Ha, Hw⟩, ⟨%Q', HW⟩⟩
  isplitl [Hg Hr]
  · isplitl [Hg]; · iexact Hg
    iexact Hr
  isplitl [HW]
  · iexists Q'; isplitr; · ipureintro; exact fun _ _ => Or.inl trivial
    iexact HW
  isplitl [Ha]; · iexact Ha
  iexact Hw

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : Pipeline.ΦDRG counters spec0 ∅ arrays (V m) (V m) c ⊢ (dats m 0 c).Φ 0 := by
  rw [owned_eq, show (dats m 0 c).Φ 0 = kept m c 0 from rfl]
  unfold kept
  iintro ⟨Hs, Hg, Hc, Hw⟩
  isplitl [Hg]; · iexact Hg
  iapply (ring_in (F := F) m c (V m c))
  isplitl [Hs]; · iexact Hs
  isplitl [Hc]; · iexact Hc
  iexact Hw

theorem leave (c : Dev nD) : (dats m 0 c).Φ (Fin.last cfg0.N) ⊢ Pipeline.ΦDRG counters spec0 ∅ arrays (V m) (G m) c := by
  rw [owned_eq, show (dats m 0 c).Φ (Fin.last cfg0.N) = kept m c grid0.N from rfl]
  unfold kept
  rw [show grid0.N = 120 by rw [N_0]]
  iintro ⟨Hg, Hr⟩
  ihave H := (ring_out (F := F) m c) $$ Hr
  icases H with ⟨Hs, Hc, Hw⟩
  isplitl [Hs]; · iexact Hs
  isplitl [Hg]; · iexact Hg
  isplitl [Hc]; · iexact Hc
  iexact Hw

set_option backward.isDefEq.respectTransparency.types false in
/-- Every run ends with the result as the tiles say, every other array as the kernel found it, and all counters at zero. -/
theorem run : θ_run defs (onTc (τ := τ) (main (F := F))) (s₀ m ρ) (fun r => (Pipeline.FramePostRG cfgs (dats m) 0 arrays (V m) (G m)) r ∧ r.2.sem = fun _ => 0) :=
  Pipeline.θ_run_frame_dmaRG (Q' := _) cfgs (dats m) (0 : Fin 1) launch0 counters defs₀ Variants.none counterFacts ∅ arrays (by decide) (by decide) m ρ main
    (hbody := fun c => (body_obligation m c).loose) (hshare := fun c => (dats m 0 c).share_full fun _ => rfl)
    (howed := fun _ _ => rfl) (V := V m) (hmain := hmain m Variants.none) (hA := A_eq m) (G := G m)
    (hin := enter m) (hout := leave m)

/-- Every run leaves the arguments as they were. -/
theorem arguments : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    refine ⟨?_, ?_⟩
    all_goals exact ((h.1.1 c).2 _ (by decide)).trans (V_unwritten m c _ (by decide))) (run m ρ)

/-- Every run ends, the arguments as they were and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (arguments m ρ) ((θ_run defs _ _).mono (fun _ h => h.2) (run m ρ))

end Cert.Kernel13Ideal.Fwd

end
-- ==== Proof.WinF.lean ====
/-
  The input product: `a @ w`, a tile at a time, in thirteen arrays.
-/
module

public import proofs.«01_k».proof.Proof.WinFRun
public import proofs.«01_k».proof.Proof.Products
public import proofs.«01_k».proof.Defs
public import Idealize.ShloMosaic.Lib.Claim
public import proofs.«01_k».proof.Proof.Gen.Reference13Ideal.Run
public import Idealize.ShloMosaic.Lib.Pipeline.ValueKit
public import Idealize.ShloMosaic.Lib.KernelVsHost

@[expose] public section

set_option maxRecDepth 16384

noncomputable section

namespace Cert.Kernel13Ideal.Fwd

open Idealize.ShloMosaic Idealize.ShloMosaic.TcCoe Idealize.SL.Sem
open Idealize.ShloMosaic.Pipeline (Dat)
open Cert.Kernel13Ideal Cert.Kernel13Ideal.Gen Cert.Proof.Products
open Cert.Kernel4Ideal.Win (opens)

variable (m : (ℓ : Loc nD τ sig) → Buf (Elt Ideal) ℓ) (c : Dev nD)

theorem made_apply (x y : FVec Ideal S1024x1024 .bf16) (r s : Fin 1024) :
    (made (F := Ideal) x y : S1024x1024.Idx → EReal) (ix2 r s) = ∑ k : Fin 1024, x (ix2 r k) * y (ix2 k s) := by
  unfold made k0_pay1
  simp only [shapeCast_shapeCast, shapeCast_self]
  rw [matmul_zero_eq_dotGeneral]
  pointwise

/-- The two arguments, as matrices of extended reals. -/
abbrev vA : S8192x1024.Idx → EReal := m ((c : Thread nD τ).loc main_arg0)
abbrev vW : S1024x15360.Idx → EReal := m ((c : Thread nD τ).loc main_arg1)

theorem entry_a : V m c main_v0 = (vA m c : S8192x1024.Idx → EReal) := by
  unfold V hostOps0
  after_results
  rfl
theorem entry_w : V m c main_v1 = (vW m c : S1024x15360.Idx → EReal) := by
  unfold V hostOps0
  after_results
  rfl

theorem idx0 : ∀ t : Fin cfg0.N, win0_0.index t 0 = t.val / 15 ∧ win0_0.index t 1 = 0 :=
  (by decide +kernel : ∀ t : Fin grid0.N, win0_0.index t 0 = t.val / 15 ∧ win0_0.index t 1 = 0)
theorem idx1 : ∀ t : Fin cfg0.N, win0_1.index t 0 = 0 ∧ win0_1.index t 1 = t.val % 15 :=
  (by decide +kernel : ∀ t : Fin grid0.N, win0_1.index t 0 = 0 ∧ win0_1.index t 1 = t.val % 15)

/-- A row and a column of the arrays by their tile and their place there. -/
def row (i : ℕ) (k : Fin 1024) : Fin 8192 := ⟨1024 * (i % 8) + k.val, by omega⟩
def col (j : ℕ) (s : Fin 1024) : Fin 15360 := ⟨1024 * (j % 15) + s.val, by omega⟩

abbrev aB (t : Fin cfg0.N) : S1024x1024.Idx → EReal := iblk m c 0 t
abbrev wB (t : Fin cfg0.N) : S1024x1024.Idx → EReal := iblk m c 1 t

theorem aB_apply (t : Fin cfg0.N) (r k : Fin 1024) : aB m c t (ix2 r k) = vA m c (ix2 (row (t.val / 15) r) k) := by
  have ht : t.val < 120 := Nat.lt_of_lt_of_eq t.isLt N_0
  show V m c main_v0 (((cfg0.win 0).blk t).view.emb (ix2 r k)) = _
  rw [entry_a]
  refine congrArg (vA m c) (funext fun a => Fin.ext ?_)
  refine (win0_0.rect_emb_val t (ix2 r k) a).trans ?_
  match a with
  | ⟨0, _⟩ => show win0_0.index t 0 * 1024 + r.val = 1024 * (t.val / 15 % 8) + r.val; rw [(idx0 t).1]; omega
  | ⟨1, _⟩ => show win0_0.index t 1 * 1024 + k.val = k.val; rw [(idx0 t).2]; omega

theorem wB_apply (t : Fin cfg0.N) (k s : Fin 1024) : wB m c t (ix2 k s) = vW m c (ix2 k (col t.val s)) := by
  show V m c main_v1 (((cfg0.win 1).blk t).view.emb (ix2 k s)) = _
  rw [entry_w]
  refine congrArg (vW m c) (funext fun a => Fin.ext ?_)
  refine (win0_1.rect_emb_val t (ix2 k s) a).trans ?_
  match a with
  | ⟨0, _⟩ => show win0_1.index t 0 * 1024 + k.val = k.val; rw [(idx1 t).1]; omega
  | ⟨1, _⟩ => show win0_1.index t 1 * 1024 + s.val = 1024 * (t.val % 15) + s.val; rw [(idx1 t).2]; omega

/-- A column of the product by its number. -/
def column (n : ℕ) : Fin 15360 := ⟨n % 15360, Nat.mod_lt _ (by decide)⟩

/-- An entry of the product, and the columns from tile `j` on: one tile's, and two tiles'. -/
def entry (A : S8192x1024.Idx → EReal) (W : S1024x15360.Idx → EReal) (r : Fin 8192) (n : ℕ) : EReal :=
  ∑ k : Fin 1024, A (ix2 r k) * W (ix2 k (column n))
def narrowPart (A : S8192x1024.Idx → EReal) (W : S1024x15360.Idx → EReal) (j : ℕ) : S8192x1024.Idx → EReal :=
  fun i => entry A W (i 0) (1024 * j + (i 1).val)
def widePart (A : S8192x1024.Idx → EReal) (W : S1024x15360.Idx → EReal) (j : ℕ) : S8192x2048.Idx → EReal :=
  fun i => entry A W (i 0) (1024 * j + (i 1).val)

theorem outs_apply (b : Fin 120) (r s : Fin 1024) :
    (outs m c b : S1024x1024.Idx → EReal) (ix2 r s) = ∑ k : Fin 1024, vA m c (ix2 (row (b.val / 15) r) k) * vW m c (ix2 k (col b.val s)) :=
  (made_apply _ _ r s).trans (Finset.sum_congr rfl fun k _ => congr (congrArg HMul.hMul (aB_apply m c _ r k)) (wB_apply m c _ k s))

theorem laid_apply (j s : ℕ) (r : Fin 8192) (h : 1024 * j + s < 15360) : laid m c j r.val s = entry (vA m c) (vW m c) r (1024 * j + s) := by
  have h0 : r.val < 8192 := r.isLt
  have er : row ((stepAt (r.val / 1024) (j + s / 1024)).val / 15) ⟨r.val % 1024, Nat.mod_lt _ (by decide)⟩ = r :=
    Fin.ext (show 1024 * ((15 * (r.val / 1024) + (j + s / 1024)) % 120 / 15 % 8) + r.val % 1024 = r.val by omega)
  have ec : col (stepAt (r.val / 1024) (j + s / 1024)).val ⟨s % 1024, Nat.mod_lt _ (by decide)⟩ = column (1024 * j + s) :=
    Fin.ext (show 1024 * ((15 * (r.val / 1024) + (j + s / 1024)) % 120 % 15) + s % 1024 = (1024 * j + s) % 15360 by omega)
  refine (outs_apply m c (stepAt (r.val / 1024) (j + s / 1024)) _ _).trans ?_
  unfold entry
  rw [er, ec]

theorem single_eq (j : ℕ) (h : j < 15) : (single m c j : S8192x1024.Idx → EReal) = narrowPart (vA m c) (vW m c) j := by
  funext i
  have h1 : (i 1).val < 1024 := (i 1).isLt
  exact laid_apply m c j (i 1).val (i 0) (by omega)

theorem double_eq (j : ℕ) (h : j < 14) : (double m c j : S8192x2048.Idx → EReal) = widePart (vA m c) (vW m c) j := by
  funext i
  have h1 : (i 1).val < 2048 := (i 1).isLt
  exact laid_apply m c j (i 1).val (i 0) (by omega)

/-- The reference's product, entry by entry, and its branches. -/
abbrev whole (A : S8192x1024.Idx → EReal) (W : S1024x15360.Idx → EReal) : (Mat 8192 15360).Idx → EReal :=
  Host.dotGeneral (F := Ideal) (φ₁ := .f32) (φ₂ := .f32) Cert.Reference13Ideal.dot_S8192x1024_S1024x15360_S8192x15360_1_0_0_1_n_n none A W

theorem whole_apply (A : S8192x1024.Idx → EReal) (W : S1024x15360.Idx → EReal) (r : Fin 8192) (n : Fin 15360) :
    whole A W (ix2 r n) = entry A W r n.val := by
  have e : column n.val = n := Fin.ext (Nat.mod_eq_of_lt n.isLt)
  unfold whole entry
  rw [e]
  pointwise

theorem narrow_branch (A : S8192x1024.Idx → EReal) (W : S1024x15360.Idx → EReal) (j n : ℕ) (hn : n = 1024 * j) (hj : j < 15) (h : (Mat 8192 15360).Slices ![0, n] S8192x1024) :
    extractStridedSlice S8192x1024 ![0, n] (whole A W) h = narrowPart A W j := by
  subst hn
  funext i
  have h1 : (i 1).val < 1024 := (i 1).isLt
  refine (extractStridedSlice_apply _ _ h i (ix2 (i 0) (⟨1024 * j + (i 1).val, by omega⟩ : Fin 15360)) fun a => ?_).trans (whole_apply A W _ _)
  match a with
  | ⟨0, _⟩ => exact (Nat.zero_add _).symm
  | ⟨1, _⟩ => rfl

theorem wide_branch (A : S8192x1024.Idx → EReal) (W : S1024x15360.Idx → EReal) (j n : ℕ) (hn : n = 1024 * j) (hj : j < 14) (h : (Mat 8192 15360).Slices ![0, n] S8192x2048) :
    extractStridedSlice S8192x2048 ![0, n] (whole A W) h = widePart A W j := by
  subst hn
  funext i
  have h1 : (i 1).val < 2048 := (i 1).isLt
  refine (extractStridedSlice_apply _ _ h i (ix2 (i 0) (⟨1024 * j + (i 1).val, by omega⟩ : Fin 15360)) fun a => ?_).trans (whole_apply A W _ _)
  match a with
  | ⟨0, _⟩ => exact (Nat.zero_add _).symm
  | ⟨1, _⟩ => rfl

/-- What every run leaves in the results. -/
theorem run_results (g : Dev nD → PrngReg) :
    θ_run (defs (F := Ideal)) (onTc (τ := τ) (main (F := Ideal))) ⟨m, fun _ => 0, g⟩ (fun r => ∀ c : Dev nD,
      r.2.mem ((c.tc : Thread nD τ).loc main_v2_0) = narrowPart (vA m c) (vW m c) (opens 0)
      ∧ r.2.mem ((c.tc : Thread nD τ).loc main_v2_1) = narrowPart (vA m c) (vW m c) (opens 1)
      ∧ r.2.mem ((c.tc : Thread nD τ).loc main_v2_2) = widePart (vA m c) (vW m c) (opens 2)
      ∧ r.2.mem ((c.tc : Thread nD τ).loc main_v2_3) = widePart (vA m c) (vW m c) (opens 3)
      ∧ r.2.mem ((c.tc : Thread nD τ).loc main_v2_4) = narrowPart (vA m c) (vW m c) (opens 4)
      ∧ r.2.mem ((c.tc : Thread nD τ).loc main_v2_5) = narrowPart (vA m c) (vW m c) (opens 5)
      ∧ r.2.mem ((c.tc : Thread nD τ).loc main_v2_6) = narrowPart (vA m c) (vW m c) (opens 6)
      ∧ r.2.mem ((c.tc : Thread nD τ).loc main_v2_7) = narrowPart (vA m c) (vW m c) (opens 7)
      ∧ r.2.mem ((c.tc : Thread nD τ).loc main_v2_8) = narrowPart (vA m c) (vW m c) (opens 8)
      ∧ r.2.mem ((c.tc : Thread nD τ).loc main_v2_9) = narrowPart (vA m c) (vW m c) (opens 9)
      ∧ r.2.mem ((c.tc : Thread nD τ).loc main_v2_10) = narrowPart (vA m c) (vW m c) (opens 10)
      ∧ r.2.mem ((c.tc : Thread nD τ).loc main_v2_11) = narrowPart (vA m c) (vW m c) (opens 11)
      ∧ r.2.mem ((c.tc : Thread nD τ).loc main_v2_12) = narrowPart (vA m c) (vW m c) (opens 12)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    obtain ⟨g0, g1, g2, g3, g4, g5, g6, g7, g8, g9, g10, g11, g12⟩ := G_arrays m c
    exact ⟨
      (h.2.2 c main_v2_0 (by decide)).trans (g0.trans (single_eq m c (opens 0) (by decide))),
      (h.2.2 c main_v2_1 (by decide)).trans (g1.trans (single_eq m c (opens 1) (by decide))),
      (h.2.2 c main_v2_2 (by decide)).trans (g2.trans (double_eq m c (opens 2) (by decide))),
      (h.2.2 c main_v2_3 (by decide)).trans (g3.trans (double_eq m c (opens 3) (by decide))),
      (h.2.2 c main_v2_4 (by decide)).trans (g4.trans (single_eq m c (opens 4) (by decide))),
      (h.2.2 c main_v2_5 (by decide)).trans (g5.trans (single_eq m c (opens 5) (by decide))),
      (h.2.2 c main_v2_6 (by decide)).trans (g6.trans (single_eq m c (opens 6) (by decide))),
      (h.2.2 c main_v2_7 (by decide)).trans (g7.trans (single_eq m c (opens 7) (by decide))),
      (h.2.2 c main_v2_8 (by decide)).trans (g8.trans (single_eq m c (opens 8) (by decide))),
      (h.2.2 c main_v2_9 (by decide)).trans (g9.trans (single_eq m c (opens 9) (by decide))),
      (h.2.2 c main_v2_10 (by decide)).trans (g10.trans (single_eq m c (opens 10) (by decide))),
      (h.2.2 c main_v2_11 (by decide)).trans (g11.trans (single_eq m c (opens 11) (by decide))),
      (h.2.2 c main_v2_12 (by decide)).trans (g12.trans (single_eq m c (opens 12) (by decide))),
      h.1 c⟩)
    (Idealize.ShloMosaic.θ_run_and (arguments m g) ((θ_run defs _ _).mono (fun _ h => h.1) (run m g)))

end Cert.Kernel13Ideal.Fwd

namespace Cert.Proof.Products

open Cert.Kernel13Ideal.Fwd Idealize.ShloMosaic Idealize.SL.Sem
open Cert.Kernel4Ideal.Win (opens)

theorem win_product : Cert.algebraic_Kernel13Ideal_Reference13Ideal := by
  intro m g m' g' _ hm
  refine ⟨
    fun c => narrowPart (vA m c) (vW m c) (opens 0),
    fun c => narrowPart (vA m c) (vW m c) (opens 1),
    fun c => widePart (vA m c) (vW m c) (opens 2),
    fun c => widePart (vA m c) (vW m c) (opens 3),
    fun c => narrowPart (vA m c) (vW m c) (opens 4),
    fun c => narrowPart (vA m c) (vW m c) (opens 5),
    fun c => narrowPart (vA m c) (vW m c) (opens 6),
    fun c => narrowPart (vA m c) (vW m c) (opens 7),
    fun c => narrowPart (vA m c) (vW m c) (opens 8),
    fun c => narrowPart (vA m c) (vW m c) (opens 9),
    fun c => narrowPart (vA m c) (vW m c) (opens 10),
    fun c => narrowPart (vA m c) (vW m c) (opens 11),
    fun c => narrowPart (vA m c) (vW m c) (opens 12), run_results m g,
    (θ_run Cert.Reference13Ideal.defs _ _).mono (fun r h c => ?_) (Cert.Reference13Ideal.Value.run m' g')⟩
  obtain ⟨h0, h1, h2, h3, h4, h5, h6, h7, h8, h9, h10, h11, h12, ha⟩ := h c
  rw [(hm c).1, (hm c).2] at h0 h1 h2 h3 h4 h5 h6 h7 h8 h9 h10 h11 h12
  exact ⟨
    h0.trans (narrow_branch (vA m c) (vW m c) (opens 0) 0 rfl (by decide) _),
    h1.trans (narrow_branch (vA m c) (vW m c) (opens 1) 1024 rfl (by decide) _),
    h2.trans (wide_branch (vA m c) (vW m c) (opens 2) 2048 rfl (by decide) _),
    h3.trans (wide_branch (vA m c) (vW m c) (opens 3) 4096 rfl (by decide) _),
    h4.trans (narrow_branch (vA m c) (vW m c) (opens 4) 6144 rfl (by decide) _),
    h5.trans (narrow_branch (vA m c) (vW m c) (opens 5) 7168 rfl (by decide) _),
    h6.trans (narrow_branch (vA m c) (vW m c) (opens 6) 8192 rfl (by decide) _),
    h7.trans (narrow_branch (vA m c) (vW m c) (opens 7) 9216 rfl (by decide) _),
    h8.trans (narrow_branch (vA m c) (vW m c) (opens 8) 10240 rfl (by decide) _),
    h9.trans (narrow_branch (vA m c) (vW m c) (opens 9) 11264 rfl (by decide) _),
    h10.trans (narrow_branch (vA m c) (vW m c) (opens 10) 12288 rfl (by decide) _),
    h11.trans (narrow_branch (vA m c) (vW m c) (opens 11) 13312 rfl (by decide) _),
    h12.trans (narrow_branch (vA m c) (vW m c) (opens 12) 14336 rfl (by decide) _), ha⟩

end Cert.Proof.Products

end
-- ==== Proof.Ff1FRing.lean ====
module

public import proofs.«01_k».proof.Proof.Gen.Kernel12Ideal.Points
public import proofs.«01_k».proof.Proof.Gen.Kernel12Ideal.Skeleton
public import proofs.«01_k».proof.Proof.Gen.Kernel12Ideal.Launch
public import proofs.«01_k».proof.Proof.Slots
public import proofs.«01_k».proof.Proof.Behind

/-! # The first feed-forward product: a step, its tile written behind -/

@[expose] public section

set_option maxRecDepth 16384

noncomputable section

namespace Cert.Kernel12Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel12Ideal.Gen Cert.Proof

variable {F : FTy → Type} [FloatOps F]

local notation "𝕄" => MT nD τ sig Unit (Elt F) ℕ (Pipeline.UD sig nD τ) ℕ

/-! ## The program -/

theorem inb_tile (b : Fin 32) : ∀ a, (![1024 * (b.val / 4), 1024 * (b.val % 4)] : Fin 2 → Nat) a + S1024x1024.size a ≤ S8192x4096.size a := by
  have := b.isLt; intro a; fin_cases a <;> simp <;> omega

/-- The result, its tile of step `b`, and the tile at its origin. -/
abbrev result : Memref sig .tc .hbm S8192x4096 .f32 := Memref.whole main_v2

def tile (b : Fin 32) : Memref sig .tc .hbm S1024x1024 .f32 :=
  result.slice (Rect.unit (s := S8192x4096) ![1024 * (b.val / 4), 1024 * (b.val % 4)] S1024x1024.size (inb_tile b)) (fun _ => rfl)

def origin : Memref sig .tc .hbm S1024x1024 .f32 :=
  result.slice (Rect.unit (s := S8192x4096) ![0, 0] S1024x1024.size inb_S8192x4096_S1024x1024_0_0) (fun _ => rfl)

/-- The two tiles in fast memory, and the counters their copies complete on. -/
abbrev scratch : Memref sig .tc .vmem S2x1024x1024 .f32 := Memref.whole cc0_scratch0

def slot (s : Fin 2) : Memref sig .tc .vmem S1024x1024 .f32 :=
  (scratch.slice (Rect.unit (s := S2x1024x1024) ![s.val, 0, 0] S1x1024x1024.size (Cert.Proof.Slots.inb_slot s)) (fun _ => rfl)).squeeze S1024x1024 squeezes_S1x1024x1024_S1024x1024

def cell (s : Fin 2) : DmaSems sig S_ := (cc0_scratch1.slice (Rect.unit (s := S2) ![s.val] S1.size (Cert.Proof.Slots.inb_cell s))).squeeze S_ squeezes_S1_S_

theorem slot_exact (s : Fin 2) : (slot s).view.WordExact := (View.wordExact_bits rfl).reshape _ _
theorem tile_exact (b : Fin 32) : (tile b).view.WordExact := View.wordExact_bits rfl
theorem origin_exact : origin.view.WordExact := View.wordExact_bits rfl

/-- The ring's places. -/
def places : Behind.Places sig 32 S1024x1024 where
  slot := slot
  cell s := (cell s).sem
  tile := tile
  origin := origin
  slot_exact := slot_exact
  tile_exact := tile_exact
  origin_exact := origin_exact
  same _ _ := rfl
  positive := by decide

/-- Filling a slot with the product of the two blocks. -/
def fill (s : Fin 2) (a w : Memref sig .tc .vmem S1024x1024 .bf16) : Prog (TpuEff nD τ sig (Elt F) Λ₀ .tc) PUnit := do
  let x : Vec F S1024x1024 .bf16 ← Prog.lift (.load a (Rect.unit (s := S1024x1024) ![0, 0] S1024x1024.size inb_S1024x1024_S1024x1024_0_0).toLoadRect (View.loadsAt_vmem h_S1024x1024))
  let y : Vec F S1024x1024 .bf16 ← Prog.lift (.load w (Rect.unit (s := S1024x1024) ![0, 0] S1024x1024.size inb_S1024x1024_S1024x1024_0_0).toLoadRect (View.loadsAt_vmem h_S1024x1024))
  let _v : Vec F S1x1024x1024 .f32 ← Prog.lift (.load scratch (Rect.unit (s := S2x1024x1024) ![s.val, 0, 0] S1x1024x1024.size (Cert.Proof.Slots.inb_slot s)).toLoadRect (View.loadsAt_vmem h_S1x1024x1024))
  Prog.lift (.store scratch (Rect.unit (s := S2x1024x1024) ![s.val, 0, 0] S1x1024x1024.size (Cert.Proof.Slots.inb_slot s)) (k0_pay1 x y) Finset.univ (View.stores_vmem_bits_univ h_S1x1024x1024 rfl) (.inl rfl))

/-- The body at point `t` on the given staging buffers. -/
def body (t : Fin grid0.N) (a : Memref sig .tc .vmem S1024x1024 .bf16) (ha : a.IsWhole) (w : Memref sig .tc .vmem S1024x1024 .bf16) (hw : w.IsWhole) : Prog (TpuEff nD τ sig (Elt F) Λ₀ .tc) PUnit :=
  cc0_ff1lin0_fwd (grid0.coords t) a ha w hw (Memref.whole main_v2) (Memref.isWhole_whole _) (Memref.whole cc0_scratch0) (Memref.isWhole_whole _) cc0_scratch1

theorem wait_iff : ∀ t : Fin grid0.N, k0_cond1 (grid0.coords t) = 1#1 ↔ 2 ≤ t.val := by decide +kernel
theorem send_always : ∀ t : Fin grid0.N, k0_cond2 (grid0.coords t) = 1#1 := by decide +kernel
theorem last_iff : ∀ t : Fin grid0.N, k0_cond3 (grid0.coords t) = 1#1 ↔ t.val + 1 = 32 := by decide +kernel

/-- The places a step names. -/
theorem offsets : ∀ t : Fin grid0.N, k0_off1 (grid0.coords t) = ![(Ring.sl 2 t.val).val]
    ∧ k0_off2 (grid0.coords t) = ![(Ring.sl 2 t.val).val, 0, 0] ∧ k0_off3 (grid0.coords t) = ![(Ring.sl 2 t.val).val, 0, 0]
    ∧ k0_off4 (grid0.coords t) = ![(Ring.sl 2 t.val).val]
    ∧ k0_off5 (grid0.coords t) = ![1024 * ((Ring.bk 32 t.val).val / 4), 1024 * ((Ring.bk 32 t.val).val % 4)]
    ∧ k0_off6 (grid0.coords t) = ![(Ring.sl 2 t.val).val, 0, 0]
    ∧ k0_off7 (grid0.coords t) = ![(Ring.sl 2 t.val).val] ∧ k0_off8 (grid0.coords t) = ![(Ring.sl 2 t.val).val, 0, 0]
    ∧ k0_off9 (grid0.coords t) = ![(Ring.sl 2 (t.val + 1)).val] ∧ k0_off10 (grid0.coords t) = ![(Ring.sl 2 (t.val + 1)).val, 0, 0] := by decide +kernel

theorem drain_of {o : Fin 1 → Nat} {p : Fin 3 → Nat} {s : Fin 2} (ho : o = ![s.val]) (hp : p = ![s.val, 0, 0])
    (i : ∀ a, o a + S1.size a ≤ S2.size a) (j : ∀ a, p a + S1x1024x1024.size a ≤ S2x1024x1024.size a) (h₁ h₂) :
    (Prog.lift (.waitDma2 ((cc0_scratch1.slice (Rect.unit (s := S2) o S1.size i)).squeeze S_ squeezes_S1_S_).sem
      ((scratch.slice (Rect.unit (s := S2x1024x1024) p S1x1024x1024.size j) (fun _ => rfl)).squeeze S1024x1024 squeezes_S1x1024x1024_S1024x1024) origin h₁ h₂)
      : Prog (TpuEff nD τ sig (Elt F) Λ₀ .tc) PUnit) = Behind.drain places s := by
  subst ho hp; rfl

theorem send_of {o : Fin 1 → Nat} {p : Fin 3 → Nat} {q : Fin 2 → Nat} {s : Fin 2} {b : Fin 32} (ho : o = ![s.val]) (hp : p = ![s.val, 0, 0])
    (hq : q = ![1024 * (b.val / 4), 1024 * (b.val % 4)])
    (i : ∀ a, o a + S1.size a ≤ S2.size a) (j : ∀ a, p a + S1x1024x1024.size a ≤ S2x1024x1024.size a) (k : ∀ a, q a + S1024x1024.size a ≤ S8192x4096.size a) (h₁ h₂) :
    (Prog.lift (.enqueueDma ((scratch.slice (Rect.unit (s := S2x1024x1024) p S1x1024x1024.size j) (fun _ => rfl)).squeeze S1024x1024 squeezes_S1x1024x1024_S1024x1024)
      (.here (result.slice (Rect.unit (s := S8192x4096) q S1024x1024.size k) (fun _ => rfl)))
      (.dma ((cc0_scratch1.slice (Rect.unit (s := S2) o S1.size i)).squeeze S_ squeezes_S1_S_).sem) h₁ h₂ ⟨Or.inl rfl, trivial⟩)
      : Prog (TpuEff nD τ sig (Elt F) Λ₀ .tc) PUnit) = Behind.send places b s := by
  subst ho hp hq; rfl

theorem fill_of {p : Fin 3 → Nat} {s : Fin 2} (hp : p = ![s.val, 0, 0]) (j : ∀ a, p a + S1x1024x1024.size a ≤ S2x1024x1024.size a)
    (a w : Memref sig .tc .vmem S1024x1024 .bf16) (k : PUnit → Prog (TpuEff nD τ sig (Elt F) Λ₀ .tc) PUnit) :
    (do
      let x : Vec F S1024x1024 .bf16 ← Prog.lift (.load a (Rect.unit (s := S1024x1024) ![0, 0] S1024x1024.size inb_S1024x1024_S1024x1024_0_0).toLoadRect (View.loadsAt_vmem h_S1024x1024))
      let y : Vec F S1024x1024 .bf16 ← Prog.lift (.load w (Rect.unit (s := S1024x1024) ![0, 0] S1024x1024.size inb_S1024x1024_S1024x1024_0_0).toLoadRect (View.loadsAt_vmem h_S1024x1024))
      let _v : Vec F S1x1024x1024 .f32 ← Prog.lift (.load scratch (Rect.unit (s := S2x1024x1024) p S1x1024x1024.size j).toLoadRect (View.loadsAt_vmem h_S1x1024x1024))
      Prog.lift (.store scratch (Rect.unit (s := S2x1024x1024) p S1x1024x1024.size j) (k0_pay1 x y) Finset.univ (View.stores_vmem_bits_univ h_S1x1024x1024 rfl) (.inl rfl))
      k ⟨⟩) = (fill s a w >>= k : Prog (TpuEff nD τ sig (Elt F) Λ₀ .tc) PUnit) := by
  subst hp; rfl

section Text

variable (t : Fin grid0.N) (a : Memref sig .tc .vmem S1024x1024 .bf16) (ha : a.IsWhole) (w : Memref sig .tc .vmem S1024x1024 .bf16) (hw : w.IsWhole)

/-- The first two points fill and send; -/
theorem body_first (h : ¬2 ≤ t.val) :
    (body t a ha w hw : Prog (TpuEff nD τ sig (Elt F) Λ₀ .tc) PUnit)
      = (fill (Ring.sl 2 t.val) a w >>= fun _ => Behind.send places (Ring.bk 32 t.val) (Ring.sl 2 t.val)) := by
  have c1 : ¬k0_cond1 (grid0.coords t) = 1#1 := fun c => h ((wait_iff t).mp c)
  have c2 := send_always t
  have c3 : ¬k0_cond3 (grid0.coords t) = 1#1 := fun c => h (by have := (last_iff t).mp c; omega)
  obtain ⟨-, -, o3, o4, o5, o6, -⟩ := offsets t
  rw [← send_of o4 o6 o5 (k0_off4_inb _ c2) (k0_off6_inb _ c2) (k0_off5_inb _ c2) ((View.wordExact_bits rfl).reshape _ _) (View.wordExact_bits rfl), ← fill_of o3 (k0_off3_inb _)]
  unfold body
  rw [cc0_ff1lin0_fwd_eq_skeleton]
  unfold cc0_ff1lin0_fwd_skel
  simp only [c1, c2, c3, ↓reduceDIte]
  rfl

/-- those after wait first; -/
theorem body_next (h : 2 ≤ t.val) (hn : ¬t.val + 1 = 32) :
    (body t a ha w hw : Prog (TpuEff nD τ sig (Elt F) Λ₀ .tc) PUnit)
      = (Behind.drain places (Ring.sl 2 t.val) >>= fun _ => fill (Ring.sl 2 t.val) a w >>= fun _ => Behind.send places (Ring.bk 32 t.val) (Ring.sl 2 t.val)) := by
  have c1 := (wait_iff t).mpr h
  have c2 := send_always t
  have c3 : ¬k0_cond3 (grid0.coords t) = 1#1 := fun c => hn ((last_iff t).mp c)
  obtain ⟨o1, o2, o3, o4, o5, o6, -⟩ := offsets t
  rw [← send_of o4 o6 o5 (k0_off4_inb _ c2) (k0_off6_inb _ c2) (k0_off5_inb _ c2) ((View.wordExact_bits rfl).reshape _ _) (View.wordExact_bits rfl), ← fill_of o3 (k0_off3_inb _),
    ← drain_of o1 o2 (k0_off1_inb _ c1) (k0_off2_inb _ c1) ((View.wordExact_bits rfl).reshape _ _) (View.wordExact_bits rfl)]
  unfold body
  rw [cc0_ff1lin0_fwd_eq_skeleton]
  unfold cc0_ff1lin0_fwd_skel
  simp only [c1, c2, c3, ↓reduceDIte]
  rfl

/-- and the last waits for its own copy and the one before. -/
theorem body_last (h : 2 ≤ t.val) (hn : t.val + 1 = 32) :
    (body t a ha w hw : Prog (TpuEff nD τ sig (Elt F) Λ₀ .tc) PUnit)
      = (Behind.drain places (Ring.sl 2 t.val) >>= fun _ => fill (Ring.sl 2 t.val) a w >>= fun _ => Behind.send places (Ring.bk 32 t.val) (Ring.sl 2 t.val)
          >>= fun _ => Behind.drain places (Ring.sl 2 t.val) >>= fun _ => Behind.drain places (Ring.sl 2 (t.val + 1))) := by
  have c1 := (wait_iff t).mpr h
  have c2 := send_always t
  have c3 := (last_iff t).mpr hn
  obtain ⟨o1, o2, o3, o4, o5, o6, o7, o8, o9, o10⟩ := offsets t
  rw [← send_of o4 o6 o5 (k0_off4_inb _ c2) (k0_off6_inb _ c2) (k0_off5_inb _ c2) ((View.wordExact_bits rfl).reshape _ _) (View.wordExact_bits rfl), ← fill_of o3 (k0_off3_inb _),
    ← drain_of o9 o10 (k0_off9_inb _ c3) (k0_off10_inb _ c3) ((View.wordExact_bits rfl).reshape _ _) (View.wordExact_bits rfl)]
  conv_rhs => lhs; rw [← drain_of o1 o2 (k0_off1_inb _ c1) (k0_off2_inb _ c1) ((View.wordExact_bits rfl).reshape _ _) (View.wordExact_bits rfl)]
  rw [show (Behind.drain places (Ring.sl 2 t.val) : Prog (TpuEff nD τ sig (Elt F) Λ₀ .tc) PUnit) = _ from (drain_of o7 o8 (k0_off7_inb _ c3) (k0_off8_inb _ c3) ((View.wordExact_bits rfl).reshape _ _) (View.wordExact_bits rfl)).symm]
  unfold body
  rw [cc0_ff1lin0_fwd_eq_skeleton]
  unfold cc0_ff1lin0_fwd_skel
  simp only [c1, c2, c3, ↓reduceDIte]
  rfl

theorem body_step : (body t a ha w hw : Prog (TpuEff nD τ sig (Elt F) Λ₀ .tc) PUnit) = Behind.step places (fun s => fill s a w) t.val := by
  unfold Behind.step
  by_cases h2 : 2 ≤ t.val
  · by_cases hl : t.val + 1 = 32
    · rw [if_pos h2, if_pos hl]; exact body_last t a ha w hw h2 hl
    · rw [if_pos h2, if_neg hl]; exact body_next t a ha w hw h2 hl
  · rw [if_neg h2]; exact body_first t a ha w hw h2

end Text

variable (c : Dev nD)

/-- The tile a step makes of its two blocks. -/
abbrev made (x y : Vec F S1024x1024 .bf16) : Vec F S1024x1024 .f32 := shapeCast S1024x1024 (k0_pay1 x y) shapeCasts_S1x1024x1024_S1024x1024

theorem slot_write (s : Fin 2) (f : Behind.Held (F := F) (τ := τ) c scratch) (x : Vec F S1x1024x1024 .f32) :
    (slot s).view.read (Elt F) (View.write (Elt F) (scratch.access (Rect.unit (s := S2x1024x1024) ![s.val, 0, 0] S1x1024x1024.size (Cert.Proof.Slots.inb_slot s))) f x Finset.univ)
      = shapeCast S1024x1024 x shapeCasts_S1x1024x1024_S1024x1024 :=
  Cert.Proof.Slots.slot_write scratch (Cert.Proof.Slots.inb_slot s) squeezes_S1x1024x1024_S1024x1024 shapeCasts_S1x1024x1024_S1024x1024 f x

/-- Filling a slot. -/
theorem fill_run (s : Fin 2) (a : Memref sig .tc .vmem S1024x1024 .bf16) (ha : a.IsWhole) (w : Memref sig .tc .vmem S1024x1024 .bf16) (hw : w.IsWhole)
    (x y : Vec F S1024x1024 .bf16) (K : PUnit → sProp 𝕄) :
    iprop(iprop(owns (c : Thread nD τ) a fullShare x ∗ owns (c : Thread nD τ) w fullShare y) ∗ (∃ f, Behind.slotHeld places c s f)
        ∗ (iprop(iprop(owns (c : Thread nD τ) a fullShare x ∗ owns (c : Thread nD τ) w fullShare y)
          ∗ Behind.filled places c s (made x y)) -∗ K ⟨⟩))
      ⊢ wp frame (wpE (defs₀ (F := F)) Variants.none c none) Set.univ (fill s a w) K := by
  unfold fill
  unfold owns
  iintro ⟨⟨⟨%f, %hf, Ha⟩, ⟨%g, %hg, Hw⟩⟩, ⟨%h, Hs⟩, Hk⟩
  obtain rfl := ha.eq_unread hf; obtain rfl := hw.eq_unread hg
  sl_exec
  sl_step
  iapply Hk
  unfold fill_run.sl.Hs_w1
  isplitl [Ha Hw]
  · isplitl [Ha]
    · iexists _; isplitr; · ipureintro; exact hf
      iexact Ha
    · iexists _; isplitr; · ipureintro; exact hg
      iexact Hw
  iexists _; isplitr
  swap; · iexact Hs
  ipureintro
  refine Eq.trans (slot_write c s h _) ?_
  simp only [View.readAt_eq_ld, ha.read_unread, hw.read_unread, View.ld_unit_zero (S := S1024x1024) Cert.Proof.Slots.zero_offset]

end Cert.Kernel12Ideal.Fwd

end
-- ==== Proof.Ff1FRun.lean ====
module

public import proofs.«01_k».proof.Proof.Ff1FRing
public import Idealize.ShloMosaic.Lib.Claim
public import Idealize.ShloMosaic.Lib.Pipeline.ValueKit

/-! # The first feed-forward product: the whole run -/

@[expose] public section

set_option maxRecDepth 16384

noncomputable section

namespace Cert.Kernel12Ideal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel12Ideal.Gen Cert.Proof

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host's casts -/

/-- Core `c`'s arrays when the kernel starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The arrays the host writes. -/
def hostWrites : List (Ref sig .tc) := [main_v0, main_v1]

/-- An array the host does not write is found as launched. -/
theorem V_unwritten (c : Dev nD) (r : Ref sig .tc) (h : ∀ x ∈ hostWrites, r ≠ x) : V m c r = m ((c : Thread nD τ).loc r) :=
  StableHlo.after_of_forall_not_mem (b := Proc.devRef .tc r) _ _ (List.forall_iff_forall_mem.mp (by
    simp only [hostWrites, List.mem_cons, List.not_mem_nil, or_false, forall_eq_or_imp, forall_eq] at h
    simp only [hostOps0, List.Forall, StableHlo.unary_writes, Finset.mem_singleton]
    refine ⟨?_, ?_⟩
    all_goals (apply StableHlo.devRef_ne_of_ne; simp only [h, ne_eq, not_false_eq_true])))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before_rows {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_weights {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The result -/

/-- The tile of step `b`. -/
def outs (c : Dev nD) (b : Fin 32) : Vec F S1024x1024 .f32 :=
  made (iblk m c 0 (b.cast N_0.symm)) (iblk m c 1 (b.cast N_0.symm))

/-- The step that makes an element of the result, and where in its tile the element lies. -/
def stepOf (i : S8192x4096.Idx) : Fin 32 := ⟨4 * ((i 0).val / 1024) + (i 1).val / 1024, by
  have h0 : (i 0).val < 8192 := (i 0).isLt; have h1 : (i 1).val < 4096 := (i 1).isLt; omega⟩
def inTile (i : S8192x4096.Idx) : S1024x1024.Idx := ix2 ⟨(i 0).val % 1024, Nat.mod_lt _ (by decide)⟩ ⟨(i 1).val % 1024, Nat.mod_lt _ (by decide)⟩

/-- The tiles laid out. -/
def laid (c : Dev nD) : S8192x4096.Idx → F .f32 := fun i => outs m c (stepOf i) (inTile i)

/-- Core `c`'s arrays when the kernel ends. -/
def G (c : Dev nD) : (b : Ref sig .tc) → Buf (Elt F) ((c : Thread nD τ).loc b) := Function.update (V m c) main_v2 (laid m c)

theorem G_result (c : Dev nD) : G m c main_v2 = laid m c := Function.update_self _ _ _

/-- Where a tile's element lies in the result. -/
def place (b : Fin 32) (y : S1024x1024.Idx) : S8192x4096.Idx :=
  (Rect.unit (s := S8192x4096) ![1024 * (b.val / 4), 1024 * (b.val % 4)] S1024x1024.size (inb_tile b)).emb y

theorem G_tile (c : Dev nD) (b : Fin 32) : (tile b).view.read (Elt F) (G m c (tile b).view.ref) = outs m c b := by
  rw [show G m c (tile b).view.ref = laid m c from G_result m c]
  funext y
  have h0 : (y 0).val < 1024 := (y 0).isLt
  have h1 : (y 1).val < 1024 := (y 1).isLt
  have hb := b.isLt
  have e0 : (place b y 0).val = 1024 * (b.val / 4) + (y 0).val := by
    show 1024 * (b.val / 4) + 1 * (y 0).val = _; omega
  have e1 : (place b y 1).val = 1024 * (b.val % 4) + (y 1).val := by
    show 1024 * (b.val % 4) + 1 * (y 1).val = _; omega
  have hs : stepOf (place b y) = b := Fin.ext (show 4 * ((place b y 0).val / 1024) + (place b y 1).val / 1024 = b.val by omega)
  have hy : inTile (place b y) = y := by
    conv_rhs => rw [eq_ix2 y]
    exact congrArg₂ ix2 (Fin.ext (show (place b y 0).val % 1024 = (y 0).val by omega)) (Fin.ext (show (place b y 1).val % 1024 = (y 1).val by omega))
  show laid m c (place b y) = outs m c b y
  unfold laid
  rw [hs, hy]

/-! ## The two ends of the ring -/

abbrev counters : Fin 2 → SemLoc sig := fun j => Behind.cellNo places j

theorem counterFacts : Pipeline.OwnSemFacts spec0 counters := by decide

theorem counters_eq (c : Dev nD) :
    (Pipeline.ownSems0 (Ix := Unit) (Name := ℕ) (U := Pipeline.UD sig nD τ) (Lvl := ℕ) (Val := Elt F) (τ := τ) counters c : sProp 𝕄)
      = iprop(Behind.cellZero places c 0 ∗ Behind.cellZero places c 1) := by
  rw [Pipeline.ownSems0_eq_of_list c counters [0, 1] (by decide) (by decide)]; rfl

theorem owned_eq (W W' : (c : Dev nD) → (b : Ref sig .tc) → Buf (Elt F) ((c : Thread nD τ).loc b)) (c : Dev nD) :
    (Pipeline.ΦDRG counters spec0 ∅ {main_v2} W W' c : sProp 𝕄)
      = iprop(iprop((∃ d, owns (c : Thread nD τ) scratch fullShare d)) ∗ (∃ r, prngReg c r)
          ∗ iprop(Behind.cellZero places c 0 ∗ Behind.cellZero places c 1) ∗ (((c : Thread nD τ).loc main_v2) ↦{fullShare} W' c main_v2)) := by
  rw [Pipeline.ΦDRG_eq, scopedRest0_eq, counters_eq]
  unfold Pipeline.routed
  rw [bigSep_empty, bigSep_singleton]
  simp only [scratch, owns_whole]
  rw [show ∀ P : sProp 𝕄, iprop(BI.emp ∗ P) = P from fun P => equiv_iff.mp Idealize.SL.BI.emp_sep]
  try rfl

theorem slotSet_eq (s : Fin 2) : (slot s).view.set = Cert.Proof.Slots.slotSet s := by
  simp only [slot, Memref.view_squeeze, View.set_reshape]; exact View.set_slice_whole _ _

theorem slotHeld_eq (c : Dev nD) (s : Fin 2) (f) : Behind.slotHeld (F := F) places c s f = (((c : Thread nD τ).loc cc0_scratch0) ↦[Cert.Proof.Slots.slotSet s]{fullShare} f : sProp 𝕄) := by
  unfold Behind.slotHeld; rw [show (places.slot s).view.set = _ from slotSet_eq s]; rfl

set_option maxHeartbeats 1000000 in
theorem slots_in (c : Dev nD) : iprop(∃ d, owns (c : Thread nD τ) scratch fullShare d) ⊢ (iprop((∃ f, Behind.slotHeld (F := F) places c 0 f) ∗ ∃ f, Behind.slotHeld (F := F) places c 1 f) : sProp 𝕄) := by
  simp only [scratch, owns_whole]
  exact Ring.slots2_split (U := Pipeline.UD sig nD τ) (ℓ := (c : Thread nD τ).loc cc0_scratch0) (q := fullShare) Cert.Proof.Slots.slotSet Cert.Proof.Slots.slots_disjoint Cert.Proof.Slots.slots_cover
    (Behind.slotHeld places c 0) (Behind.slotHeld places c 1) (slotHeld_eq c 0) (slotHeld_eq c 1)

set_option maxHeartbeats 1000000 in
theorem slots_out (c : Dev nD) : (iprop((∃ f, Behind.slotHeld (F := F) places c 0 f) ∗ ∃ f, Behind.slotHeld (F := F) places c 1 f) : sProp 𝕄) ⊢ iprop(∃ d, owns (c : Thread nD τ) scratch fullShare d) := by
  simp only [scratch, owns_whole]
  exact Ring.slots2_join (U := Pipeline.UD sig nD τ) (ℓ := (c : Thread nD τ).loc cc0_scratch0) (q := fullShare) Cert.Proof.Slots.slotSet Cert.Proof.Slots.slots_disjoint Cert.Proof.Slots.slots_cover
    (Behind.slotHeld places c 0) (Behind.slotHeld places c 1) (slotHeld_eq c 0) (slotHeld_eq c 1)

abbrev tileSet (b : Fin 32) : Finset S8192x4096.Idx := (Rect.unit (s := S8192x4096) ![1024 * (b.val / 4), 1024 * (b.val % 4)] S1024x1024.size (inb_tile b)).set

theorem tileSet_eq (b : Fin 32) : (tile b).view.set = tileSet b := View.set_slice_whole _ _

theorem mem_tile (b : Fin 32) (i : S8192x4096.Idx) : i ∈ tileSet b ↔ stepOf i = b := by
  have h0 : (i 0).val < 8192 := (i 0).isLt
  have h1 : (i 1).val < 4096 := (i 1).isLt
  have hb := b.isLt
  rw [Rect.mem_set_unit]
  constructor
  · intro h
    have e0 : 1024 * (b.val / 4) ≤ (i 0).val ∧ (i 0).val < 1024 * (b.val / 4) + 1024 := h 0
    have e1 : 1024 * (b.val % 4) ≤ (i 1).val ∧ (i 1).val < 1024 * (b.val % 4) + 1024 := h 1
    exact Fin.ext (show 4 * ((i 0).val / 1024) + (i 1).val / 1024 = b.val by omega)
  · intro h
    have e : 4 * ((i 0).val / 1024) + (i 1).val / 1024 = b.val := congrArg Fin.val h
    intro a
    match a with
    | ⟨0, _⟩ => exact (show 1024 * (b.val / 4) ≤ (i 0).val ∧ (i 0).val < 1024 * (b.val / 4) + 1024 by omega)
    | ⟨1, _⟩ => exact (show 1024 * (b.val % 4) ≤ (i 1).val ∧ (i 1).val < 1024 * (b.val % 4) + 1024 by omega)

theorem tiles_disjoint (b b' : Fin 32) (h : b ≠ b') : Disjoint (tileSet b) (tileSet b') :=
  Finset.disjoint_left.mpr fun i hi hi' => h (((mem_tile b i).mp hi).symm.trans ((mem_tile b' i).mp hi'))

theorem tiles_cover : Finset.univ.biUnion tileSet = Finset.univ :=
  Finset.eq_univ_iff_forall.mpr fun i => Finset.mem_biUnion.mpr ⟨stepOf i, Finset.mem_univ _, (mem_tile _ i).mpr rfl⟩

theorem tileHeld_eq (c : Dev nD) (b : Fin 32) (f) : Behind.tileHeld (F := F) places c b f = (((c : Thread nD τ).loc main_v2) ↦[tileSet b]{fullShare} f : sProp 𝕄) := by
  unfold Behind.tileHeld; rw [show (places.tile b).view.set = _ from tileSet_eq b]; rfl

/-- The result is its tiles. -/
theorem result_eq (c : Dev nD) (f : Buf (Elt F) ((c : Thread nD τ).loc main_v2)) :
    (((c : Thread nD τ).loc main_v2) ↦{fullShare} f : sProp 𝕄) = bigSep Finset.univ fun b => Behind.tileHeld (F := F) places c b f := by
  rw [Ring.pointsTo_blocks tileSet tiles_disjoint tiles_cover f]
  exact congrArg (bigSep Finset.univ) (funext fun b => (tileHeld_eq c b f).symm)

/-- What the launch hands over is the ring before its first step; -/
theorem ring_in (c : Dev nD) (f : Buf (Elt F) ((c : Thread nD τ).loc main_v2)) :
    iprop((∃ d, owns (c : Thread nD τ) scratch fullShare d) ∗ (Behind.cellZero places c 0 ∗ Behind.cellZero places c 1) ∗ (((c : Thread nD τ).loc main_v2) ↦{fullShare} f))
      ⊢ Behind.ringAt places c (G m c) 0 :=
  Behind.ring_in places c (G m c) (by decide) _ _ (slots_in c) (by
    rw [result_eq]
    exact bigSep_mono fun b _ => show (Behind.tileHeld places c b f : sProp 𝕄) ⊢ Behind.ahead places c b from by iintro H; iexists f; iexact H)

/-- and after the last step the ring gives it back, the result written. -/
theorem ring_out (c : Dev nD) :
    Behind.ringAt places c (G m c) 32
      ⊢ iprop((∃ d, owns (c : Thread nD τ) scratch fullShare d) ∗ (Behind.cellZero places c 0 ∗ Behind.cellZero places c 1) ∗ (((c : Thread nD τ).loc main_v2) ↦{fullShare} G m c main_v2)) :=
  Behind.ring_out places c (G m c) _ _ (slots_out c) (.of_eq (result_eq c (G m c main_v2)).symm)

/-! ## The run -/

/-- What the region keeps before point `k`: the generator's register and the ring. -/
def kept (c : Dev nD) (k : ℕ) : sProp 𝕄 := iprop((∃ r, prngReg c r) ∗ Behind.ringAt places c (G m c) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := kept m c t.val
  q _ := fullShare
  owed _ := 0

theorem A_eq (c : Dev nD) (w : Fin cfg0.W) : (dats m 0 c).A w = V m c (Pipeline.arrRef spec0 w) := by
  dsimp only [dats]

theorem kept_before (c : Dev nD) (t : Fin cfg0.N) : (dats m 0 c).Φ t.castSucc = kept m c t.val := by
  dsimp only [dats]; simp only [Fin.coe_castSucc]
theorem kept_after (c : Dev nD) (t : Fin cfg0.N) : (dats m 0 c).Φ t.succ = kept m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem before_0 (c : Dev nD) (t : Fin cfg0.N) (d) : (dats m 0 c).before 0 t d = iblk m c 0 t :=
  before_rows m (dats m 0 c) (A_eq m c 0) (after_0 m c) t d
theorem before_1 (c : Dev nD) (t : Fin cfg0.N) (d) : (dats m 0 c).before 1 t d = iblk m c 1 t :=
  before_weights m (dats m 0 c) (A_eq m c 1) (after_1 m c) t d

/-- The staging buffers at point `t`. -/
abbrev rowsAt (t : Fin cfg0.N) : Memref sig .tc .vmem S1024x1024 .bf16 := win0_0.stage (cfg0.slots t 0)
abbrev weightsAt (t : Fin cfg0.N) : Memref sig .tc .vmem S1024x1024 .bf16 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (rowsAt t) fullShare ((dats m 0 c).before 0 t d))
    ∗ (∃ d, owns (c : Thread nD τ) (weightsAt t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (rowsAt t) fullShare ((dats m 0 c).after 0 t)
    ∗ owns (c : Thread nD τ) (weightsAt t) fullShare ((dats m 0 c).after 1 t))

theorem body_text (t : Fin cfg0.N) : (bodyAt0 t : Prog (TpuEff nD τ sig (Elt F) Λ₀ .tc) PUnit)
    = body t (rowsAt t) (hstage0_0 ((cfg0.slots t 0).cast nbuf0_0)) (weightsAt t) (hstage0_1 ((cfg0.slots t 1).cast nbuf0_1)) := rfl

theorem made_tile (c : Dev nD) (t : Fin cfg0.N) :
    (tile (Ring.bk 32 t.val)).view.read (Elt F) (G m c (tile (Ring.bk 32 t.val)).view.ref) = made (iblk m c 0 t) (iblk m c 1 t) := by
  rw [G_tile]
  unfold outs
  have h : (Ring.bk 32 t.val).cast N_0.symm = t := Fin.ext (Nat.mod_eq_of_lt (lt_of_lt_of_eq t.isLt N_0))
  rw [h]

theorem sound_body (c : Dev nD) (t : Fin cfg0.N) :
    bodyPre m c t ⊢ wp frame (wpE (defs₀ (F := F)) Variants.none c none) Set.univ (bodyAt0 t) (fun _ => bodyPost m c t) := by
  rw [body_text]
  unfold bodyPre bodyPost
  simp only [before_0, before_1]
  rw [after_0, after_1, kept_before, kept_after]
  unfold Dat.owesAt Pipeline.owesWithin
  rw [show (dats m 0 c).owed t.castSucc = 0 from rfl, show (dats m 0 c).owed t.succ = 0 from rfl]
  unfold kept
  rw [body_step]
  iintro ⟨⟨Hg, Hr⟩, ⟨%Q, -, HW⟩, ⟨%d, Ha⟩, ⟨%e, Hw⟩⟩
  iapply (Behind.step_run places defs₀ c (G m c) t.val _ _ (made (iblk m c 0 t) (iblk m c 1 t))
    (fun s K => fill_run c s _ (hstage0_0 ((cfg0.slots t 0).cast nbuf0_0)) _ (hstage0_1 ((cfg0.slots t 1).cast nbuf0_1)) (iblk m c 0 t) (iblk m c 1 t) K)
    (made_tile m c t) (lt_of_lt_of_eq t.isLt N_0) (by decide) Q _)
  isplitl [Hr]; · iexact Hr
  isplitl [Ha Hw]
  · isplitl [Ha]; · iexact Ha
    iexact Hw
  isplitl [HW]; · iexact HW
  iintro ⟨Hr, ⟨Ha, Hw⟩, ⟨%Q', HW⟩⟩
  isplitl [Hg Hr]
  · isplitl [Hg]; · iexact Hg
    iexact Hr
  isplitl [HW]
  · iexists Q'; isplitr; · ipureintro; exact fun _ _ => Or.inl trivial
    iexact HW
  isplitl [Ha]; · iexact Ha
  iexact Hw

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem enter (c : Dev nD) : Pipeline.ΦDRG counters spec0 ∅ {main_v2} (V m) (V m) c ⊢ (dats m 0 c).Φ 0 := by
  rw [owned_eq, show (dats m 0 c).Φ 0 = kept m c 0 from rfl]
  unfold kept
  iintro ⟨Hs, Hg, Hc, Hw⟩
  isplitl [Hg]; · iexact Hg
  iapply (ring_in (F := F) m c (V m c main_v2))
  isplitl [Hs]; · iexact Hs
  isplitl [Hc]; · iexact Hc
  iexact Hw

theorem leave (c : Dev nD) : (dats m 0 c).Φ (Fin.last cfg0.N) ⊢ Pipeline.ΦDRG counters spec0 ∅ {main_v2} (V m) (G m) c := by
  rw [owned_eq, show (dats m 0 c).Φ (Fin.last cfg0.N) = kept m c grid0.N from rfl]
  unfold kept
  rw [show grid0.N = 32 by rw [N_0]]
  iintro ⟨Hg, Hr⟩
  ihave H := (ring_out (F := F) m c) $$ Hr
  icases H with ⟨Hs, Hc, Hw⟩
  isplitl [Hs]; · iexact Hs
  isplitl [Hg]; · iexact Hg
  isplitl [Hc]; · iexact Hc
  iexact Hw

set_option backward.isDefEq.respectTransparency.types false in
/-- Every run ends with the result as the tiles say, every other array as the kernel found it, and all counters at zero. -/
theorem run : θ_run defs (onTc (τ := τ) (main (F := F))) (s₀ m ρ) (fun r => (Pipeline.FramePostRG cfgs (dats m) 0 {main_v2} (V m) (G m)) r ∧ r.2.sem = fun _ => 0) :=
  Pipeline.θ_run_frame_dmaRG (Q' := _) cfgs (dats m) (0 : Fin 1) launch0 counters defs₀ Variants.none counterFacts ∅ {main_v2} (by decide) (by decide) m ρ main
    (hbody := fun c => (body_obligation m c).loose) (hshare := fun c => (dats m 0 c).share_full fun _ => rfl)
    (howed := fun _ _ => rfl) (V := V m) (hmain := hmain m Variants.none) (hA := A_eq m) (G := G m)
    (hin := enter m) (hout := leave m)

/-- Every run leaves the arguments as they were. -/
theorem arguments : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    refine ⟨?_, ?_⟩
    all_goals exact ((h.1.1 c).2 _ (by decide)).trans (V_unwritten m c _ (by decide))) (run m ρ)

/-- Every run ends, the arguments as they were and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (arguments m ρ) ((θ_run defs _ _).mono (fun _ h => h.2) (run m ρ))

end Cert.Kernel12Ideal.Fwd

end
-- ==== Proof.Ff1F.lean ====
/-
  The first feed-forward product: `a @ w`, a tile at a time.
-/
module

public import proofs.«01_k».proof.Proof.Ff1FRun
public import proofs.«01_k».proof.Proof.Products
public import proofs.«01_k».proof.Defs
public import Idealize.ShloMosaic.Lib.Claim
public import proofs.«01_k».proof.Proof.Gen.Reference12Ideal.Run
public import Idealize.ShloMosaic.Lib.Pipeline.ValueKit
public import Idealize.ShloMosaic.Lib.KernelVsHost

@[expose] public section

set_option maxRecDepth 16384

noncomputable section

namespace Cert.Kernel12Ideal.Fwd

open Idealize.ShloMosaic Idealize.ShloMosaic.TcCoe Idealize.SL.Sem
open Idealize.ShloMosaic.Pipeline (Dat)
open Cert.Kernel12Ideal Cert.Kernel12Ideal.Gen Cert.Proof.Products

variable (m : (ℓ : Loc nD τ sig) → Buf (Elt Ideal) ℓ) (c : Dev nD)

theorem made_apply (x y : FVec Ideal S1024x1024 .bf16) (r s : Fin 1024) :
    (made (F := Ideal) x y : S1024x1024.Idx → EReal) (ix2 r s) = ∑ k : Fin 1024, x (ix2 r k) * y (ix2 k s) := by
  unfold made k0_pay1
  simp only [shapeCast_shapeCast, shapeCast_self]
  rw [matmul_zero_eq_dotGeneral]
  pointwise

/-- The two arguments, as matrices of extended reals. -/
abbrev vA : S8192x1024.Idx → EReal := m ((c : Thread nD τ).loc main_arg0)
abbrev vW : S1024x4096.Idx → EReal := m ((c : Thread nD τ).loc main_arg1)

theorem entry_a : V m c main_v0 = (vA m c : S8192x1024.Idx → EReal) := by
  unfold V hostOps0
  after_results
  rfl
theorem entry_w : V m c main_v1 = (vW m c : S1024x4096.Idx → EReal) := by
  unfold V hostOps0
  after_results
  rfl

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)

/-- A row and a column of the arrays by their tile and their place there. -/
def row (i : ℕ) (k : Fin 1024) : Fin 8192 := ⟨1024 * (i % 8) + k.val, by omega⟩
def col (j : ℕ) (s : Fin 1024) : Fin 4096 := ⟨1024 * (j % 4) + s.val, by omega⟩

abbrev aB (t : Fin cfg0.N) : S1024x1024.Idx → EReal := iblk m c 0 t
abbrev wB (t : Fin cfg0.N) : S1024x1024.Idx → EReal := iblk m c 1 t

theorem aB_apply (t : Fin cfg0.N) (r k : Fin 1024) : aB m c t (ix2 r k) = vA m c (ix2 (row (t.val / 4) r) k) := by
  have ht : t.val < 32 := Nat.lt_of_lt_of_eq t.isLt N_0
  show V m c main_v0 (((cfg0.win 0).blk t).view.emb (ix2 r k)) = _
  rw [entry_a]
  refine congrArg (vA m c) (funext fun a => Fin.ext ?_)
  refine (win0_0.rect_emb_val t (ix2 r k) a).trans ?_
  match a with
  | ⟨0, _⟩ => show win0_0.index t 0 * 1024 + r.val = 1024 * (t.val / 4 % 8) + r.val; rw [(idx0 t).1]; omega
  | ⟨1, _⟩ => show win0_0.index t 1 * 1024 + k.val = k.val; rw [(idx0 t).2]; omega

theorem wB_apply (t : Fin cfg0.N) (k s : Fin 1024) : wB m c t (ix2 k s) = vW m c (ix2 k (col t.val s)) := by
  show V m c main_v1 (((cfg0.win 1).blk t).view.emb (ix2 k s)) = _
  rw [entry_w]
  refine congrArg (vW m c) (funext fun a => Fin.ext ?_)
  refine (win0_1.rect_emb_val t (ix2 k s) a).trans ?_
  match a with
  | ⟨0, _⟩ => show win0_1.index t 0 * 1024 + k.val = k.val; rw [(idx1 t).1]; omega
  | ⟨1, _⟩ => show win0_1.index t 1 * 1024 + s.val = 1024 * (t.val % 4) + s.val; rw [(idx1 t).2]; omega

/-- The product, entry by entry. -/
def product (A : S8192x1024.Idx → EReal) (W : S1024x4096.Idx → EReal) : S8192x4096.Idx → EReal :=
  fun i => ∑ k : Fin 1024, A (ix2 (i 0) k) * W (ix2 k (i 1))

theorem outs_apply (b : Fin 32) (r s : Fin 1024) :
    (outs m c b : S1024x1024.Idx → EReal) (ix2 r s) = ∑ k : Fin 1024, vA m c (ix2 (row (b.val / 4) r) k) * vW m c (ix2 k (col b.val s)) :=
  (made_apply _ _ r s).trans (Finset.sum_congr rfl fun k _ => congr (congrArg HMul.hMul (aB_apply m c _ r k)) (wB_apply m c _ k s))

theorem laid_eq : (laid m c : S8192x4096.Idx → EReal) = product (vA m c) (vW m c) := by
  funext i
  have h0 : (i 0).val < 8192 := (i 0).isLt
  have h1 : (i 1).val < 4096 := (i 1).isLt
  have er : row ((stepOf i).val / 4) ⟨(i 0).val % 1024, Nat.mod_lt _ (by decide)⟩ = i 0 :=
    Fin.ext (show 1024 * ((4 * ((i 0).val / 1024) + (i 1).val / 1024) / 4 % 8) + (i 0).val % 1024 = (i 0).val by omega)
  have ec : col (stepOf i).val ⟨(i 1).val % 1024, Nat.mod_lt _ (by decide)⟩ = i 1 :=
    Fin.ext (show 1024 * ((4 * ((i 0).val / 1024) + (i 1).val / 1024) % 4) + (i 1).val % 1024 = (i 1).val by omega)
  refine (outs_apply m c (stepOf i) _ _).trans ?_
  unfold product
  rw [er, ec]

/-- The reference's product, entry by entry. -/
theorem reference_product (A : S8192x1024.Idx → EReal) (W : S1024x4096.Idx → EReal) :
    Host.dotGeneral (F := Ideal) (φ₁ := .f32) (φ₂ := .f32) Cert.Reference12Ideal.dot_S8192x1024_S1024x4096_S8192x4096_1_0_0_1_n_n none A W = product A W := by
  funext i
  rw [eq_ix2 i]
  pointwise
  rfl

/-- What every run leaves in the result. -/
theorem run_result (g : Dev nD → PrngReg) :
    θ_run (defs (F := Ideal)) (onTc (τ := τ) (main (F := Ideal))) ⟨m, fun _ => 0, g⟩ (fun r => ∀ c : Dev nD,
      r.2.mem ((c.tc : Thread nD τ).loc main_v2) = product (vA m c) (vW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.2.2 c main_v2 (Finset.mem_singleton_self _)).trans ((G_result m c).trans (laid_eq m c)), h.1 c⟩)
    (Idealize.ShloMosaic.θ_run_and (arguments m g) ((θ_run defs _ _).mono (fun _ h => h.1) (run m g)))

end Cert.Kernel12Ideal.Fwd

namespace Cert.Proof.Products

open Cert.Kernel12Ideal.Fwd Idealize.ShloMosaic Idealize.SL.Sem

theorem ff1_product : Cert.algebraic_Kernel12Ideal_Reference12Ideal := by
  intro m g m' g' _ hm
  refine ⟨fun c => product (vA m c) (vW m c), run_result m g,
    (θ_run Cert.Reference12Ideal.defs _ _).mono (fun r h c => ⟨(h c).1.trans ?_, (h c).2⟩) (Cert.Reference12Ideal.Value.run m' g')⟩
  rw [(hm c).1, (hm c).2]
  exact reference_product (vA m c) (vW m c)

end Cert.Proof.Products

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal.Value
public import proofs.«01_k».proof.Proof.Gen.Kernel3
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Points
public import proofs.«01_k».proof.Proof.Gen.Kernel4Ideal.Launch
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Points
public import proofs.«01_k».proof.Proof.Gen.Kernel5Ideal.Launch
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Points
public import proofs.«01_k».proof.Proof.Gen.Kernel12Ideal.Launch
public import proofs.«01_k».proof.Proof.Gen.Kernel12Ideal.Skeleton
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Kernel13Ideal.Points
public import proofs.«01_k».proof.Proof.Gen.Kernel13Ideal.Launch
public import proofs.«01_k».proof.Proof.Gen.Kernel13Ideal.Skeleton
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Kernel14Ideal.Points
public import proofs.«01_k».proof.Proof.Gen.Kernel14Ideal.Launch
public import proofs.«01_k».proof.Proof.Gen.Kernel14Ideal.Skeleton
public import proofs.«01_k».proof.Proof.Gen.Reference14Ideal
public import proofs.«01_k».proof.Proof.Gen.Reference14Ideal.Run
public import proofs.«01_k».proof.Proof.Run
public import proofs.«01_k».proof.Proof.RefRun
public import proofs.«01_k».proof.Proof.ScanClaim
public import proofs.«01_k».proof.Proof.Ff2D
public import proofs.«01_k».proof.Proof.Ff2W
public import proofs.«01_k».proof.Proof.WinVal
public import proofs.«01_k».proof.Proof.WinWVal
public import proofs.«01_k».proof.Proof.Ff1D
public import proofs.«01_k».proof.Proof.Ff1W
public import proofs.«01_k».proof.Proof.SqD
public import proofs.«01_k».proof.Proof.SqW
public import proofs.«01_k».proof.Proof.BrbD
public import proofs.«01_k».proof.Proof.BrbW
public import proofs.«01_k».proof.Proof.Ff2F
public import proofs.«01_k».proof.Proof.WinF
public import proofs.«01_k».proof.Proof.Ff1F
public import Idealize.ShloMosaic.Adequacy
public import Idealize.ShloMosaic.Init

@[expose] public section

noncomputable section

namespace Cert.Proof

open Idealize.ShloMosaic Idealize.SL.Sem

section
open Cert.KernelIdeal Cert.KernelIdeal.Gen
/-- The kernel's run at any float values: its arguments end unchanged and every counter at zero. -/
theorem frame_run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1, (h.1 c).2.1, (h.1 c).2.2.1, (h.1 c).2.2.2.1, (h.1 c).2.2.2.2.1⟩, h.2⟩) (Scan.run_main m ρ)
end

theorem frame_kernelIdeal : Cert.quiescent_KernelIdeal (hKernelIdeal := Cert.KernelIdeal.Gen.facts) := fun m ρ _ => frame_run (F := Ideal) m ρ

/-- The two prints of the kernel have the same bodies. -/
theorem defs₀_eq : (Cert.Kernel.defs₀ (F := Bits)) = (Cert.KernelIdeal.defs₀ (F := Bits)) := by
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l x
  match l, x with
  | 0, (t, s) => rfl
  | 1, (t, s) => rfl

theorem defs_eq : (Cert.Kernel.defs (F := Bits)) = (Cert.KernelIdeal.defs (F := Bits)) := congrArg (Pipeline.defs (Cert.Kernel.pcfgs (F := Bits))) defs₀_eq

theorem frame_kernel : Cert.quiescent_Kernel (hKernel := Cert.Kernel.Gen.facts) := by
  intro m ρ _
  rw [defs_eq]
  exact frame_run (F := Bits) m ρ

theorem frame_reference : Cert.quiescent_ReferenceIdeal (hReferenceIdeal := Cert.ReferenceIdeal.Gen.facts) := fun m ρ _ =>
  (θ_run Cert.ReferenceIdeal.defs _ _).mono (fun r h => by
    have e : ∀ (c : Dev Cert.ReferenceIdeal.nD), ∀ a ∈ ScanRef.argRefs, r.2.mem ((c.tc : Thread Cert.ReferenceIdeal.nD Cert.ReferenceIdeal.τ).loc a) = m ((c.tc : Thread Cert.ReferenceIdeal.nD Cert.ReferenceIdeal.τ).loc a) :=
      fun c a ha => (h.1 c a (by revert a; decide)).trans (ScanRef.Wend_arg m c a ha)
    exact ⟨fun c => ⟨e c _ (by decide), e c _ (by decide), e c _ (by decide), e c _ (by decide), e c _ (by decide)⟩, h.2⟩) (ScanRef.run_main (F := Ideal) m ρ)

/-- The two prints of each product of the second feed-forward layer have the same bodies, so one run gives both frames. -/
theorem defs2_eq : (Cert.Kernel2.defs (F := Bits)) = (Cert.Kernel2Ideal.defs (F := Bits)) := by
  refine congrArg (Pipeline.defs (Cert.Kernel2.pcfgs (F := Bits))) (congrArg (Defs.onTc (nD := Cert.Kernel2.nD) (τ := Cert.Kernel2.τ) (sig := Cert.Kernel2.sig) (Λ := Cert.Kernel2.Λ₀)) ?_)
  funext l x
  match l, x with
  | 0, (t, s) => rfl

theorem frame_kernel2 : Cert.quiescent_Kernel2 (hKernel2 := Cert.Kernel2.Gen.facts) := by
  intro m ρ _
  rw [defs2_eq]
  exact Cert.Kernel2Ideal.Gen.frame (F := Bits) m ρ

theorem defs3_eq : (Cert.Kernel3.defs (F := Bits)) = (Cert.Kernel3Ideal.defs (F := Bits)) := by
  refine congrArg (Pipeline.defs (Cert.Kernel3.pcfgs (F := Bits))) (congrArg (Defs.onTc (nD := Cert.Kernel3.nD) (τ := Cert.Kernel3.τ) (sig := Cert.Kernel3.sig) (Λ := Cert.Kernel3.Λ₀)) ?_)
  funext l x
  match l, x with
  | 0, (t, s) => rfl

theorem frame_kernel3 : Cert.quiescent_Kernel3 (hKernel3 := Cert.Kernel3.Gen.facts) := by
  intro m ρ _
  rw [defs3_eq]
  exact Cert.Kernel3Ideal.Gen.frame (F := Bits) m ρ

/-- The references of the two products hold no counter: their values' runs give their frames. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The two prints of the input product's gradients have the same bodies too. -/
theorem defs4_eq : (Cert.Kernel4.defs (F := Bits)) = (Cert.Kernel4Ideal.defs (F := Bits)) := by
  refine congrArg (Pipeline.defs (Cert.Kernel4.pcfgs (F := Bits))) (congrArg (Defs.onTc (nD := Cert.Kernel4.nD) (τ := Cert.Kernel4.τ) (sig := Cert.Kernel4.sig) (Λ := Cert.Kernel4.Λ₀)) ?_)
  funext l x
  match l, x with
  | 0, (t, s) => rfl

theorem frame_kernel4 : Cert.quiescent_Kernel4 (hKernel4 := Cert.Kernel4.Gen.facts) := by
  intro m ρ _
  rw [defs4_eq]
  exact Cert.Kernel4Ideal.Win.frame (F := Bits) m ρ

theorem defs5_eq : (Cert.Kernel5.defs (F := Bits)) = (Cert.Kernel5Ideal.defs (F := Bits)) := by
  refine congrArg (Pipeline.defs (Cert.Kernel5.pcfgs (F := Bits))) (congrArg (Defs.onTc (nD := Cert.Kernel5.nD) (τ := Cert.Kernel5.τ) (sig := Cert.Kernel5.sig) (Λ := Cert.Kernel5.Λ₀)) ?_)
  funext l x
  match l, x with
  | 0, (t, s) => rfl

theorem frame_kernel5 : Cert.quiescent_Kernel5 (hKernel5 := Cert.Kernel5.Gen.facts) := by
  intro m ρ _
  rw [defs5_eq]
  exact Cert.Kernel5Ideal.Win.frame (F := Bits) m ρ

theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-! The other products: the same again. -/

theorem defs6_eq : (Cert.Kernel6.defs (F := Bits)) = (Cert.Kernel6Ideal.defs (F := Bits)) := by
  refine congrArg (Pipeline.defs (Cert.Kernel6.pcfgs (F := Bits))) (congrArg (Defs.onTc (nD := Cert.Kernel6.nD) (τ := Cert.Kernel6.τ) (sig := Cert.Kernel6.sig) (Λ := Cert.Kernel6.Λ₀)) ?_)
  funext l x
  match l, x with
  | 0, (t, s) => rfl

theorem frame_kernel6 : Cert.quiescent_Kernel6 (hKernel6 := Cert.Kernel6.Gen.facts) := by
  intro m ρ _
  rw [defs6_eq]
  exact Cert.Kernel6Ideal.Gen.frame (F := Bits) m ρ

theorem frame_reference6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

theorem defs7_eq : (Cert.Kernel7.defs (F := Bits)) = (Cert.Kernel7Ideal.defs (F := Bits)) := by
  refine congrArg (Pipeline.defs (Cert.Kernel7.pcfgs (F := Bits))) (congrArg (Defs.onTc (nD := Cert.Kernel7.nD) (τ := Cert.Kernel7.τ) (sig := Cert.Kernel7.sig) (Λ := Cert.Kernel7.Λ₀)) ?_)
  funext l x
  match l, x with
  | 0, (t, s) => rfl

theorem frame_kernel7 : Cert.quiescent_Kernel7 (hKernel7 := Cert.Kernel7.Gen.facts) := by
  intro m ρ _
  rw [defs7_eq]
  exact Cert.Kernel7Ideal.Gen.frame (F := Bits) m ρ

theorem frame_reference7 : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

theorem defs8_eq : (Cert.Kernel8.defs (F := Bits)) = (Cert.Kernel8Ideal.defs (F := Bits)) := by
  refine congrArg (Pipeline.defs (Cert.Kernel8.pcfgs (F := Bits))) (congrArg (Defs.onTc (nD := Cert.Kernel8.nD) (τ := Cert.Kernel8.τ) (sig := Cert.Kernel8.sig) (Λ := Cert.Kernel8.Λ₀)) ?_)
  funext l x
  match l, x with
  | 0, (t, s) => rfl

theorem frame_kernel8 : Cert.quiescent_Kernel8 (hKernel8 := Cert.Kernel8.Gen.facts) := by
  intro m ρ _
  rw [defs8_eq]
  exact Cert.Kernel8Ideal.Gen.frame (F := Bits) m ρ

theorem frame_reference8 : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

theorem defs9_eq : (Cert.Kernel9.defs (F := Bits)) = (Cert.Kernel9Ideal.defs (F := Bits)) := by
  refine congrArg (Pipeline.defs (Cert.Kernel9.pcfgs (F := Bits))) (congrArg (Defs.onTc (nD := Cert.Kernel9.nD) (τ := Cert.Kernel9.τ) (sig := Cert.Kernel9.sig) (Λ := Cert.Kernel9.Λ₀)) ?_)
  funext l x
  match l, x with
  | 0, (t, s) => rfl

theorem frame_kernel9 : Cert.quiescent_Kernel9 (hKernel9 := Cert.Kernel9.Gen.facts) := by
  intro m ρ _
  rw [defs9_eq]
  exact Cert.Kernel9Ideal.Gen.frame (F := Bits) m ρ

theorem frame_reference9 : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

theorem defs10_eq : (Cert.Kernel10.defs (F := Bits)) = (Cert.Kernel10Ideal.defs (F := Bits)) := by
  refine congrArg (Pipeline.defs (Cert.Kernel10.pcfgs (F := Bits))) (congrArg (Defs.onTc (nD := Cert.Kernel10.nD) (τ := Cert.Kernel10.τ) (sig := Cert.Kernel10.sig) (Λ := Cert.Kernel10.Λ₀)) ?_)
  funext l x
  match l, x with
  | 0, (t, s) => rfl

theorem frame_kernel10 : Cert.quiescent_Kernel10 (hKernel10 := Cert.Kernel10.Gen.facts) := by
  intro m ρ _
  rw [defs10_eq]
  exact Cert.Kernel10Ideal.Gen.frame (F := Bits) m ρ

theorem frame_reference10 : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

theorem defs11_eq : (Cert.Kernel11.defs (F := Bits)) = (Cert.Kernel11Ideal.defs (F := Bits)) := by
  refine congrArg (Pipeline.defs (Cert.Kernel11.pcfgs (F := Bits))) (congrArg (Defs.onTc (nD := Cert.Kernel11.nD) (τ := Cert.Kernel11.τ) (sig := Cert.Kernel11.sig) (Λ := Cert.Kernel11.Λ₀)) ?_)
  funext l x
  match l, x with
  | 0, (t, s) => rfl

theorem frame_kernel11 : Cert.quiescent_Kernel11 (hKernel11 := Cert.Kernel11.Gen.facts) := by
  intro m ρ _
  rw [defs11_eq]
  exact Cert.Kernel11Ideal.Gen.frame (F := Bits) m ρ

theorem frame_reference11 : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

theorem defs12_eq : (Cert.Kernel12.defs (F := Bits)) = (Cert.Kernel12Ideal.defs (F := Bits)) := by
  refine congrArg (Pipeline.defs (Cert.Kernel12.pcfgs (F := Bits))) (congrArg (Defs.onTc (nD := Cert.Kernel12.nD) (τ := Cert.Kernel12.τ) (sig := Cert.Kernel12.sig) (Λ := Cert.Kernel12.Λ₀)) ?_)
  funext l x
  match l, x with
  | 0, (t, s) => rfl

theorem frame_kernel12 : Cert.quiescent_Kernel12 (hKernel12 := Cert.Kernel12.Gen.facts) := by
  intro m ρ _
  rw [defs12_eq]
  exact Cert.Kernel12Ideal.Fwd.frame (F := Bits) m ρ

theorem frame_reference12 : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

theorem defs13_eq : (Cert.Kernel13.defs (F := Bits)) = (Cert.Kernel13Ideal.defs (F := Bits)) := by
  refine congrArg (Pipeline.defs (Cert.Kernel13.pcfgs (F := Bits))) (congrArg (Defs.onTc (nD := Cert.Kernel13.nD) (τ := Cert.Kernel13.τ) (sig := Cert.Kernel13.sig) (Λ := Cert.Kernel13.Λ₀)) ?_)
  funext l x
  match l, x with
  | 0, (t, s) => rfl

theorem frame_kernel13 : Cert.quiescent_Kernel13 (hKernel13 := Cert.Kernel13.Gen.facts) := by
  intro m ρ _
  rw [defs13_eq]
  exact Cert.Kernel13Ideal.Fwd.frame (F := Bits) m ρ

theorem frame_reference13 : Cert.quiescent_Reference13Ideal (hReference13Ideal := Cert.Reference13Ideal.Gen.facts) := fun m ρ _ =>
  (θ_run Cert.Reference13Ideal.defs _ _).mono (fun r h => ⟨fun c => (h c).2.2.2.2.2.2.2.2.2.2.2.2.2, sem_eq_zero_of_no_sems (by decide) r.2⟩)
    (Cert.Reference13Ideal.Value.run (F := Ideal) m ρ)

theorem defs14_eq : (Cert.Kernel14.defs (F := Bits)) = (Cert.Kernel14Ideal.defs (F := Bits)) := by
  refine congrArg (Pipeline.defs (Cert.Kernel14.pcfgs (F := Bits))) (congrArg (Defs.onTc (nD := Cert.Kernel14.nD) (τ := Cert.Kernel14.τ) (sig := Cert.Kernel14.sig) (Λ := Cert.Kernel14.Λ₀)) ?_)
  funext l x
  match l, x with
  | 0, (t, s) => rfl

theorem frame_kernel14 : Cert.quiescent_Kernel14 (hKernel14 := Cert.Kernel14.Gen.facts) := by
  intro m ρ _
  rw [defs14_eq]
  exact Cert.Kernel14Ideal.Fwd.frame (F := Bits) m ρ

theorem frame_reference14 : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts, finite_facts,
  frame_kernel, frame_kernelIdeal, fun m ρ _ => frame_kernelIdeal m ρ trivial, frame_reference, fun m ρ _ => frame_reference m ρ trivial,
  frame_kernel2, fun m ρ _ => Cert.Kernel2Ideal.Gen.frame m ρ, frame_reference2,
  frame_kernel3, fun m ρ _ => Cert.Kernel3Ideal.Gen.frame m ρ, frame_reference3,
  frame_kernel4, fun m ρ _ => Cert.Kernel4Ideal.Win.frame m ρ, frame_reference4,
  frame_kernel5, fun m ρ _ => Cert.Kernel5Ideal.Win.frame m ρ, frame_reference5,
  frame_kernel6, fun m ρ _ => Cert.Kernel6Ideal.Gen.frame m ρ, frame_reference6,
  frame_kernel7, fun m ρ _ => Cert.Kernel7Ideal.Gen.frame m ρ, frame_reference7,
  frame_kernel8, fun m ρ _ => Cert.Kernel8Ideal.Gen.frame m ρ, frame_reference8,
  frame_kernel9, fun m ρ _ => Cert.Kernel9Ideal.Gen.frame m ρ, frame_reference9,
  frame_kernel10, fun m ρ _ => Cert.Kernel10Ideal.Gen.frame m ρ, frame_reference10,
  frame_kernel11, fun m ρ _ => Cert.Kernel11Ideal.Gen.frame m ρ, frame_reference11,
  frame_kernel12, fun m ρ _ => Cert.Kernel12Ideal.Fwd.frame m ρ, frame_reference12,
  frame_kernel13, fun m ρ _ => Cert.Kernel13Ideal.Fwd.frame m ρ, frame_reference13,
  frame_kernel14, fun m ρ _ => Cert.Kernel14Ideal.Fwd.frame m ρ, frame_reference14,
  trivial, scan_algebraic, trivial, Cert.Proof.Products.ff2_inputs, trivial, Cert.Proof.Products.ff2_weights,
  trivial, Cert.Proof.Products.win_inputs, trivial, Cert.Proof.Products.win_weights,
  trivial, Cert.Proof.Products.ff1_inputs, trivial, Cert.Proof.Products.ff1_weights,
  trivial, Cert.Proof.Products.square_inputs, trivial, Cert.Proof.Products.square_weights,
  trivial, Cert.Proof.Products.brb_inputs, trivial, Cert.Proof.Products.brb_weights,
  trivial, Cert.Proof.Products.ff1_product,
  trivial, Cert.Proof.Products.win_product,
  trivial, Cert.Proof.Products.ff2_product⟩

end Cert.Proof

end
